-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9))
      ∧ r.2.sem = fun _ => 0)

def preserves_Kernel_KernelIdeal : Prop :=
  IdealRules.named_const.Statement Cert.KernelIdeal.κ "sm_scale" .f32 0x3DD105EC#32 (((Real.sqrt 96)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v9)) (v1 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_v14) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v9)) (v2 : (c : Dev Cert.Kernel4Ideal.nD) → Buf (Elt Ideal) ((c.tc : Thread Cert.Kernel4Ideal.nD Cert.Kernel4Ideal.τ).loc Cert.Kernel4Ideal.main_v10)) (v3 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v9) = v1 c
          ∧ r.2.mem ((c.tc : Thread Cert.Kernel4Ideal.nD Cert.Kernel4Ideal.τ).loc Cert.Kernel4Ideal.main_v10) = v2 c
          ∧ r.2.mem ((c.tc : Thread Cert.Kernel4Ideal.nD Cert.Kernel4Ideal.τ).loc Cert.Kernel4Ideal.main_v11) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_v23) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v7)) (v1 : (c : Dev Cert.Kernel11Ideal.nD) → Buf (Elt Ideal) ((c.tc : Thread Cert.Kernel11Ideal.nD Cert.Kernel11Ideal.τ).loc Cert.Kernel11Ideal.main_v10)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v7) = v0 c
          ∧ r.2.mem ((c.tc : Thread Cert.Kernel11Ideal.nD Cert.Kernel11Ideal.τ).loc Cert.Kernel11Ideal.main_v10) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_v11) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v7)) (v1 : (c : Dev Cert.Kernel12Ideal.nD) → Buf (Elt Ideal) ((c.tc : Thread Cert.Kernel12Ideal.nD Cert.Kernel12Ideal.τ).loc Cert.Kernel12Ideal.main_v10)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7) = v0 c
          ∧ r.2.mem ((c.tc : Thread Cert.Kernel12Ideal.nD Cert.Kernel12Ideal.τ).loc Cert.Kernel12Ideal.main_v10) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_v11) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v9)) (v1 : (c : Dev Cert.Kernel13Ideal.nD) → Buf (Elt Ideal) ((c.tc : Thread Cert.Kernel13Ideal.nD Cert.Kernel13Ideal.τ).loc Cert.Kernel13Ideal.main_v10)) (v2 : (c : Dev Cert.Kernel13Ideal.nD) → Buf (Elt Ideal) ((c.tc : Thread Cert.Kernel13Ideal.nD Cert.Kernel13Ideal.τ).loc Cert.Kernel13Ideal.main_v11)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v9) = v0 c
          ∧ r.2.mem ((c.tc : Thread Cert.Kernel13Ideal.nD Cert.Kernel13Ideal.τ).loc Cert.Kernel13Ideal.main_v10) = v1 c
          ∧ r.2.mem ((c.tc : Thread Cert.Kernel13Ideal.nD Cert.Kernel13Ideal.τ).loc Cert.Kernel13Ideal.main_v11) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v10) = v1 c
          ∧ r.2.mem ((c.tc : Thread Cert.Reference13Ideal.nD Cert.Reference13Ideal.τ).loc Cert.Reference13Ideal.main_arg0) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v10)) (v1 : (c : Dev Cert.Kernel14Ideal.nD) → Buf (Elt Ideal) ((c.tc : Thread Cert.Kernel14Ideal.nD Cert.Kernel14Ideal.τ).loc Cert.Kernel14Ideal.main_v9_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v10) = v0 c
          ∧ r.2.mem ((c.tc : Thread Cert.Kernel14Ideal.nD Cert.Kernel14Ideal.τ).loc Cert.Kernel14Ideal.main_v9_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v20) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  IdealRules.named_const.Statement Cert.Kernel15Ideal.κ "exp2_scale" .f32 0x3E16C740#32 ((((Real.sqrt 96) * (Real.log 2))⁻¹ : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)) →
    ∃ (v0 : (c : Dev Cert.Kernel15Ideal.nD) → Buf (Elt Ideal) ((c.tc : Thread Cert.Kernel15Ideal.nD Cert.Kernel15Ideal.τ).loc Cert.Kernel15Ideal.main_v17)) (v1 : (c : Dev Cert.Kernel15Ideal.nD) → Buf (Elt Ideal) ((c.tc : Thread Cert.Kernel15Ideal.nD Cert.Kernel15Ideal.τ).loc Cert.Kernel15Ideal.main_v16_1)) (v2 : (c : Dev Cert.Kernel15Ideal.nD) → Buf (Elt Ideal) ((c.tc : Thread Cert.Kernel15Ideal.nD Cert.Kernel15Ideal.τ).loc Cert.Kernel15Ideal.main_v18)) (v3 : (c : Dev Cert.Kernel15Ideal.nD) → Buf (Elt Ideal) ((c.tc : Thread Cert.Kernel15Ideal.nD Cert.Kernel15Ideal.τ).loc Cert.Kernel15Ideal.main_v19)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v17) = v0 c
          ∧ r.2.mem ((c.tc : Thread Cert.Kernel15Ideal.nD Cert.Kernel15Ideal.τ).loc Cert.Kernel15Ideal.main_v16_1) = v1 c
          ∧ r.2.mem ((c.tc : Thread Cert.Kernel15Ideal.nD Cert.Kernel15Ideal.τ).loc Cert.Kernel15Ideal.main_v18) = v2 c
          ∧ r.2.mem ((c.tc : Thread Cert.Kernel15Ideal.nD Cert.Kernel15Ideal.τ).loc Cert.Kernel15Ideal.main_v19) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v20) = v0 c
          ∧ r.2.mem ((c.tc : Thread Cert.Reference15Ideal.nD Cert.Reference15Ideal.τ).loc Cert.Reference15Ideal.main_v21) = v1 c
          ∧ r.2.mem ((c.tc : Thread Cert.Reference15Ideal.nD Cert.Reference15Ideal.τ).loc Cert.Reference15Ideal.main_v34) = v2 c
          ∧ r.2.mem ((c.tc : Thread Cert.Reference15Ideal.nD Cert.Reference15Ideal.τ).loc Cert.Reference15Ideal.main_v60) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)) →
    ∃ (v0 : (c : Dev Cert.Kernel16Ideal.nD) → Buf (Elt Ideal) ((c.tc : Thread Cert.Kernel16Ideal.nD Cert.Kernel16Ideal.τ).loc Cert.Kernel16Ideal.main_v10_0)) (v1 : (c : Dev Cert.Kernel16Ideal.nD) → Buf (Elt Ideal) ((c.tc : Thread Cert.Kernel16Ideal.nD Cert.Kernel16Ideal.τ).loc Cert.Kernel16Ideal.main_v11)) (v2 : (c : Dev Cert.Kernel16Ideal.nD) → Buf (Elt Ideal) ((c.tc : Thread Cert.Kernel16Ideal.nD Cert.Kernel16Ideal.τ).loc Cert.Kernel16Ideal.main_v12)) (v3 : (c : Dev Cert.Kernel16Ideal.nD) → Buf (Elt Ideal) ((c.tc : Thread Cert.Kernel16Ideal.nD Cert.Kernel16Ideal.τ).loc Cert.Kernel16Ideal.main_v13)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v10_0) = v0 c
          ∧ r.2.mem ((c.tc : Thread Cert.Kernel16Ideal.nD Cert.Kernel16Ideal.τ).loc Cert.Kernel16Ideal.main_v11) = v1 c
          ∧ r.2.mem ((c.tc : Thread Cert.Kernel16Ideal.nD Cert.Kernel16Ideal.τ).loc Cert.Kernel16Ideal.main_v12) = v2 c
          ∧ r.2.mem ((c.tc : Thread Cert.Kernel16Ideal.nD Cert.Kernel16Ideal.τ).loc Cert.Kernel16Ideal.main_v13) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v60) = v0 c
          ∧ r.2.mem ((c.tc : Thread Cert.Reference16Ideal.nD Cert.Reference16Ideal.τ).loc Cert.Reference16Ideal.main_v20) = v1 c
          ∧ r.2.mem ((c.tc : Thread Cert.Reference16Ideal.nD Cert.Reference16Ideal.τ).loc Cert.Reference16Ideal.main_v22) = v2 c
          ∧ r.2.mem ((c.tc : Thread Cert.Reference16Ideal.nD Cert.Reference16Ideal.τ).loc Cert.Reference16Ideal.main_v62) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite3 : Cert.Pre_finite3.Facts) (hPre_finite11 : Cert.Pre_finite11.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x2048 .f32) (main_arg1 : FVec F S8192x2048 .f32) (main_arg2 : FVec F S8192x2048 .f32) (main_arg3 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Pre_finite11.lean ====
abbrev S8192x2048 : Shape := ⟨2, ![8192, 2048]⟩
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x2048 .f32) (main_arg1 : FVec F S8192x1024 .f32) (main_arg2 : FVec F S2048x1024 .f32) (main_arg3 : FVec F S1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Pre_finite12.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S1024x1024 .f32) (main_arg3 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Pre_finite3.lean ====
abbrev S8192x2816 : Shape := ⟨2, ![8192, 2816]⟩
abbrev S8192x1024 : Shape := ⟨2, ![8192, 1024]⟩
abbrev S2816x1024 : Shape := ⟨2, ![2816, 1024]⟩
abbrev S1024 : Shape := ⟨1, ![1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x2816 .f32) (main_arg1 : FVec F S8192x1024 .f32) (main_arg2 : FVec F S2816x1024 .f32) (main_arg3 : FVec F S1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8192x2048 : Shape := ⟨2, ![8192, 2048]⟩
abbrev S8192x16x128 : Shape := ⟨3, ![8192, 16, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x8192x128 : Shape := ⟨3, ![16, 8192, 128]⟩
abbrev S8192x128 : Shape := ⟨2, ![8192, 128]⟩
abbrev S1x8192x1 : Shape := ⟨3, ![1, 8192, 1]⟩
abbrev S1024x128 : Shape := ⟨2, ![1024, 128]⟩
abbrev S256x128 : Shape := ⟨2, ![256, 128]⟩
abbrev S256x256 : Shape := ⟨2, ![256, 256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S256x1024 : Shape := ⟨2, ![256, 1024]⟩
abbrev S1x256x1 : Shape := ⟨3, ![1, 256, 1]⟩
abbrev S256x1 : Shape := ⟨2, ![256, 1]⟩
abbrev S512x1024 : Shape := ⟨2, ![512, 1024]⟩
abbrev S1x512x1 : Shape := ⟨3, ![1, 512, 1]⟩
abbrev S512x1 : Shape := ⟨2, ![512, 1]⟩

abbrev nBuf : Space → Nat
  | .hbm => 61
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x16x128, .f32⟩
  | .hbm, ⟨5, _⟩ => ⟨S8192x16x128, .f32⟩
  | .hbm, ⟨6, _⟩ => ⟨S8192x16x128, .f32⟩
  | .hbm, ⟨7, _⟩ => ⟨S8192x16x128, .f32⟩
  | .hbm, ⟨8, _⟩ => ⟨S16x8192x8192, .f32⟩
  | .hbm, ⟨9, _⟩ => ⟨S_, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S16x8192x8192, .i1⟩
  | .hbm, ⟨22, _⟩ => ⟨S16x8192x8192, .f32⟩
  | .hbm, ⟨23, _⟩ => ⟨S16x8192x8192, .f32⟩
  | .hbm, ⟨24, _⟩ => ⟨S_, .f32⟩
  | .hbm, ⟨25, _⟩ => ⟨S16x8192, .f32⟩
  | .hbm, ⟨26, _⟩ => ⟨S16x8192x1, .f32⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192, .f32⟩
  | .hbm, ⟨32, _⟩ => ⟨S16x8192x1, .f32⟩
  | .hbm, ⟨33, _⟩ => ⟨S16x8192x8192, .f32⟩
  | .hbm, ⟨34, _⟩ => ⟨S16x8192x8192, .f32⟩
  | .hbm, ⟨35, _⟩ => ⟨S16x8192x128, .f32⟩
  | .hbm, ⟨36, _⟩ => ⟨S_, .f32⟩
  | .hbm, ⟨37, _⟩ => ⟨S_, .f32⟩
  | .hbm, ⟨38, _⟩ => ⟨S16x8192x1, .f32⟩
  | .hbm, ⟨39, _⟩ => ⟨S16x8192x1, .f32⟩
  | .hbm, ⟨40, _⟩ => ⟨S16x8192x1, .f32⟩
  | .hbm, ⟨41, _⟩ => ⟨S16x8192x1, .f32⟩
  | .hbm, ⟨42, _⟩ => ⟨S16x8192x128, .f32⟩
  | .hbm, ⟨43, _⟩ => ⟨S16x8192x128, .f32⟩
  | .hbm, ⟨44, _⟩ => ⟨S_, .f32⟩
  | .hbm, ⟨45, _⟩ => ⟨S16x8192, .f32⟩
  | .hbm, ⟨46, _⟩ => ⟨S16x8192x1, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S8192x2048, .bf16⟩
  | .hbm, ⟨55, _⟩ => ⟨S8192x2048, .bf16⟩
  | .hbm, ⟨56, _⟩ => ⟨S8192x2048, .bf16⟩
  | .hbm, ⟨57, _⟩ => ⟨S8192x2048, .bf16⟩
  | .hbm, ⟨58, _⟩ => ⟨S8192x2048, .f32⟩
  | .hbm, ⟨59, _⟩ => ⟨S8192x2048, .f32⟩
  | .hbm, ⟨60, _⟩ => ⟨S8192x2048, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S1x8192x1, .f32⟩
  | .local _ .vmem, ⟨5, _⟩ => ⟨S1x8192x1, .f32⟩
  | .local _ .vmem, ⟨6, _⟩ => ⟨S1x8192x1, .f32⟩
  | .local _ .vmem, ⟨7, _⟩ => ⟨S1x8192x1, .f32⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S8192x128, .f32⟩
  | .local _ .vmem, ⟨13, _⟩ => ⟨S8192x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43_0 : Ref sig .tc := ⟨.hbm, 58, rfl⟩
abbrev main_v43_1 : Ref sig .tc := ⟨.hbm, 59, rfl⟩
abbrev main_v43_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c1024_i32 : BitVec 32 := 1024#32
  let v15 : BitVec 32 := Scalar.muli arg1 c1024_i32
  let c0_i32_9 : BitVec 32 := 0#32
  let v16 : BitVec 32 := Scalar.addi v15 c0_i32_9
  v16
def k0_mult2 (i : grid0.Coords) : BitVec 32 :=
  let arg1 : BitVec 32 := BitVec.ofNat 32 (i 1).val
  let c1024_i32_10 : BitVec 32 := 1024#32
  let v18 : BitVec 32 := Scalar.muli arg1 c1024_i32_10
  let c256_i32 : BitVec 32 := 256#32
  let v19 : BitVec 32 := Scalar.addi v18 c256_i32
  v19
def k0_mult3 (i : grid0.Coords) : BitVec 32 :=
  let arg1 : BitVec 32 := BitVec.ofNat 32 (i 1).val
  let c1024_i32_11 : BitVec 32 := 1024#32
  let v21 : BitVec 32 := Scalar.muli arg1 c1024_i32_11
  let c512_i32 : BitVec 32 := 512#32
  let v22 : BitVec 32 := Scalar.addi v21 c512_i32
  v22
def k0_mult4 (i : grid0.Coords) : BitVec 32 :=
  let arg1 : BitVec 32 := BitVec.ofNat 32 (i 1).val
  let c1024_i32_12 : BitVec 32 := 1024#32
  let v24 : BitVec 32 := Scalar.muli arg1 c1024_i32_12
  let c768_i32 : BitVec 32 := 768#32
  let v25 : BitVec 32 := Scalar.addi v24 c768_i32
  v25
def k0_off1 (i : grid0.Coords) (c0_i32_9 : BitVec 32) : Fin 2 → Nat :=
  let arg1 : BitVec 32 := BitVec.ofNat 32 (i 1).val
  let c1024_i32 : BitVec 32 := 1024#32
  let v15 : BitVec 32 := Scalar.muli arg1 c1024_i32
  let v16 : BitVec 32 := Scalar.addi v15 c0_i32_9
  let v17 : BitVec 32 := v16
  let v27 : Index := Scalar.indexCast v17
  let c0_13 : Index := 0#32
  ![v27.toNat, 0]
def k0_off2 (i : grid0.Coords) (c0_i32_9 : BitVec 32) : Fin 3 → Nat :=
  let c0_29 : Index := 0#32
  let arg1 : BitVec 32 := BitVec.ofNat 32 (i 1).val
  let c1024_i32 : BitVec 32 := 1024#32
  let v15 : BitVec 32 := Scalar.muli arg1 c1024_i32
  let v16 : BitVec 32 := Scalar.addi v15 c0_i32_9
  let v17 : BitVec 32 := v16
  let v65 : Index := Scalar.indexCast v17
  let c0_30 : Index := 0#32
  ![0, v65.toNat, 0]
@[reducible] def k0_t1_loop (i : grid0.Coords) : Scf.Loop 32 :=
  let arg1 : BitVec 32 := BitVec.ofNat 32 (i 1).val
  let c1_i32 : BitVec 32 := 1#32
  let v236 : BitVec 32 := Scalar.addi arg1 c1_i32
  let c8_i32 : BitVec 32 := 8#32
  let v237 : BitVec 32 := Scalar.subi c8_i32 v236
  let c1_i32_110 : BitVec 32 := 1#32
  let v239 : BitVec 32 := Scalar.divsi v237 c1_i32_110
  let v240 : BitVec 32 := Scalar.muli v239 c1_i32_110
  let v241 : BitVec 32 := Scalar.addi v236 v240
  let c1_i32_111 : BitVec 32 := 1#32
  ⟨v236, v241, c1_i32_111⟩
def k0_mult5 (i : grid0.Coords) (k0_t1 : Fin (k0_t1_loop i).trips) : BitVec 32 :=
  let arg1 : BitVec 32 := BitVec.ofNat 32 (i 1).val
  let c1_i32 : BitVec 32 := 1#32
  let v236 : BitVec 32 := Scalar.addi arg1 c1_i32
  let c1_i32_111 : BitVec 32 := 1#32
  let arg13 : BitVec 32 := Scf.iv v236 c1_i32_111 k0_t1
  let c1024_i32_122 : BitVec 32 := 1024#32
  let v248 : BitVec 32 := Scalar.muli arg13 c1024_i32_122
  let c0_i32_123 : BitVec 32 := 0#32
  let v249 : BitVec 32 := Scalar.addi v248 c0_i32_123
  v249
def k0_mult6 (i : grid0.Coords) (k0_t1 : Fin (k0_t1_loop i).trips) : BitVec 32 :=
  let arg1 : BitVec 32 := BitVec.ofNat 32 (i 1).val
  let c1_i32 : BitVec 32 := 1#32
  let v236 : BitVec 32 := Scalar.addi arg1 c1_i32
  let c1_i32_111 : BitVec 32 := 1#32
  let arg13 : BitVec 32 := Scf.iv v236 c1_i32_111 k0_t1
  let c1024_i32_124 : BitVec 32 := 1024#32
  let v251 : BitVec 32 := Scalar.muli arg13 c1024_i32_124
  let c512_i32_125 : BitVec 32 := 512#32
  let v252 : BitVec 32 := Scalar.addi v251 c512_i32_125
  v252
def k0_off3 (i : grid0.Coords) (k0_t1 : Fin (k0_t1_loop i).trips) (c0_i32_123 : BitVec 32) : Fin 2 → Nat :=
  let arg1 : BitVec 32 := BitVec.ofNat 32 (i 1).val
  let c1_i32 : BitVec 32 := 1#32
  let v236 : BitVec 32 := Scalar.addi arg1 c1_i32
  let c1_i32_111 : BitVec 32 := 1#32
  let arg13 : BitVec 32 := Scf.iv v236 c1_i32_111 k0_t1
  let c1024_i32_122 : BitVec 32 := 1024#32
  let v248 : BitVec 32 := Scalar.muli arg13 c1024_i32_122
  let v249 : BitVec 32 := Scalar.addi v248 c0_i32_123
  let v250 : BitVec 32 := v249
  let v254 : Index := Scalar.indexCast v250
  let c0_126 : Index := 0#32
  ![v254.toNat, 0]
def k0_off4 (i : grid0.Coords) (k0_t1 : Fin (k0_t1_loop i).trips) (c0_i32_123 : BitVec 32) : Fin 3 → Nat :=
  let c0_134 : Index := 0#32
  let arg1 : BitVec 32 := BitVec.ofNat 32 (i 1).val
  let c1_i32 : BitVec 32 := 1#32
  let v236 : BitVec 32 := Scalar.addi arg1 c1_i32
  let c1_i32_111 : BitVec 32 := 1#32
  let arg13 : BitVec 32 := Scf.iv v236 c1_i32_111 k0_t1
  let c1024_i32_122 : BitVec 32 := 1024#32
  let v248 : BitVec 32 := Scalar.muli arg13 c1024_i32_122
  let v249 : BitVec 32 := Scalar.addi v248 c0_i32_123
  let v250 : BitVec 32 := v249
  let v270 : Index := Scalar.indexCast v250
  let c0_135 : Index := 0#32
  ![0, v270.toNat, 0]
@[reducible] def k0_t2_loop (i : grid0.Coords) : Scf.Loop 32 :=
  let arg1 : BitVec 32 := BitVec.ofNat 32 (i 1).val
  let c1_i32 : BitVec 32 := 1#32
  let v236 : BitVec 32 := Scalar.addi arg1 c1_i32
  let c8_i32 : BitVec 32 := 8#32
  let v237 : BitVec 32 := Scalar.subi c8_i32 v236
  let c1_i32_110 : BitVec 32 := 1#32
  let v239 : BitVec 32 := Scalar.divsi v237 c1_i32_110
  let v240 : BitVec 32 := Scalar.muli v239 c1_i32_110
  let v241 : BitVec 32 := Scalar.addi v236 v240
  let v238 : BitVec 32 := Scalar.addi v236 v237
  let c1_i32_112 : BitVec 32 := 1#32
  ⟨v241, v238, c1_i32_112⟩
def k0_mult7 (i : grid0.Coords) (k0_t2 : Fin (k0_t2_loop i).trips) : BitVec 32 :=
  let arg1 : BitVec 32 := BitVec.ofNat 32 (i 1).val
  let c1_i32 : BitVec 32 := 1#32
  let v236 : BitVec 32 := Scalar.addi arg1 c1_i32
  let c8_i32 : BitVec 32 := 8#32
  let v237 : BitVec 32 := Scalar.subi c8_i32 v236
  let c1_i32_110 : BitVec 32 := 1#32
  let v239 : BitVec 32 := Scalar.divsi v237 c1_i32_110
  let v240 : BitVec 32 := Scalar.muli v239 c1_i32_110
  let v241 : BitVec 32 := Scalar.addi v236 v240
  let c1_i32_112 : BitVec 32 := 1#32
  let arg13 : BitVec 32 := Scf.iv v241 c1_i32_112 k0_t2
  let c1024_i32_122 : BitVec 32 := 1024#32
  let v248 : BitVec 32 := Scalar.muli arg13 c1024_i32_122
  let c0_i32_123 : BitVec 32 := 0#32
  let v249 : BitVec 32 := Scalar.addi v248 c0_i32_123
  v249
def k0_mult8 (i : grid0.Coords) (k0_t2 : Fin (k0_t2_loop i).trips) : BitVec 32 :=
  let arg1 : BitVec 32 := BitVec.ofNat 32 (i 1).val
  let c1_i32 : BitVec 32 := 1#32
  let v236 : BitVec 32 := Scalar.addi arg1 c1_i32
  let c8_i32 : BitVec 32 := 8#32
  let v237 : BitVec 32 := Scalar.subi c8_i32 v236
  let c1_i32_110 : BitVec 32 := 1#32
  let v239 : BitVec 32 := Scalar.divsi v237 c1_i32_110
  let v240 : BitVec 32 := Scalar.muli v239 c1_i32_110
  let v241 : BitVec 32 := Scalar.addi v236 v240
  let c1_i32_112 : BitVec 32 := 1#32
  let arg13 : BitVec 32 := Scf.iv v241 c1_i32_112 k0_t2
  let c1024_i32_124 : BitVec 32 := 1024#32
  let v251 : BitVec 32 := Scalar.muli arg13 c1024_i32_124
  let c512_i32_125 : BitVec 32 := 512#32
  let v252 : BitVec 32 := Scalar.addi v251 c512_i32_125
  v252
def k0_off5 (i : grid0.Coords) (k0_t2 : Fin (k0_t2_loop i).trips) (c0_i32_123 : BitVec 32) : Fin 2 → Nat :=
  let arg1 : BitVec 32 := BitVec.ofNat 32 (i 1).val
  let c1_i32 : BitVec 32 := 1#32
  let v236 : BitVec 32 := Scalar.addi arg1 c1_i32
  let c8_i32 : BitVec 32 := 8#32
  let v237 : BitVec 32 := Scalar.subi c8_i32 v236
  let c1_i32_110 : BitVec 32 := 1#32
  let v239 : BitVec 32 := Scalar.divsi v237 c1_i32_110
  let v240 : BitVec 32 := Scalar.muli v239 c1_i32_110
  let v241 : BitVec 32 := Scalar.addi v236 v240
  let c1_i32_112 : BitVec 32 := 1#32
  let arg13 : BitVec 32 := Scf.iv v241 c1_i32_112 k0_t2
  let c1024_i32_122 : BitVec 32 := 1024#32
  let v248 : BitVec 32 := Scalar.muli arg13 c1024_i32_122
  let v249 : BitVec 32 := Scalar.addi v248 c0_i32_123
  let v250 : BitVec 32 := v249
  let v254 : Index := Scalar.indexCast v250
  let c0_126 : Index := 0#32
  ![v254.toNat, 0]
def k0_off6 (i : grid0.Coords) (k0_t2 : Fin (k0_t2_loop i).trips) (c0_i32_123 : BitVec 32) : Fin 3 → Nat :=
  let c0_134 : Index := 0#32
  let arg1 : BitVec 32 := BitVec.ofNat 32 (i 1).val
  let c1_i32 : BitVec 32 := 1#32
  let v236 : BitVec 32 := Scalar.addi arg1 c1_i32
  let c8_i32 : BitVec 32 := 8#32
  let v237 : BitVec 32 := Scalar.subi c8_i32 v236
  let c1_i32_110 : BitVec 32 := 1#32
  let v239 : BitVec 32 := Scalar.divsi v237 c1_i32_110
  let v240 : BitVec 32 := Scalar.muli v239 c1_i32_110
  let v241 : BitVec 32 := Scalar.addi v236 v240
  let c1_i32_112 : BitVec 32 := 1#32
  let arg13 : BitVec 32 := Scf.iv v241 c1_i32_112 k0_t2
  let c1024_i32_122 : BitVec 32 := 1024#32
  let v248 : BitVec 32 := Scalar.muli arg13 c1024_i32_122
  let v249 : BitVec 32 := Scalar.addi v248 c0_i32_123
  let v250 : BitVec 32 := v249
  let v270 : Index := Scalar.indexCast v250
  let c0_135 : Index := 0#32
  ![0, v270.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | "sm_scale" => some (((Real.sqrt 96)⁻¹ : ℝ) : EReal)
  | _ => none
-- ==== ReferenceIdeal.lean ====
abbrev S8192x2048 : Shape := ⟨2, ![8192, 2048]⟩
abbrev S8192x16x128 : Shape := ⟨3, ![8192, 16, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S16x8192x128 : Shape := ⟨3, ![16, 8192, 128]⟩

abbrev nBuf : Space → Nat
  | .hbm => 97
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x16x128, .f32⟩
  | .hbm, ⟨5, _⟩ => ⟨S8192x16x128, .f32⟩
  | .hbm, ⟨6, _⟩ => ⟨S8192x16x128, .f32⟩
  | .hbm, ⟨7, _⟩ => ⟨S16x8192x8192, .f32⟩
  | .hbm, ⟨8, _⟩ => ⟨S_, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S16x8192x8192, .i1⟩
  | .hbm, ⟨21, _⟩ => ⟨S16x8192x8192, .f32⟩
  | .hbm, ⟨22, _⟩ => ⟨S16x8192x8192, .f32⟩
  | .hbm, ⟨23, _⟩ => ⟨S_, .f32⟩
  | .hbm, ⟨24, _⟩ => ⟨S16x8192x8192, .f32⟩
  | .hbm, ⟨25, _⟩ => ⟨S_, .f32⟩
  | .hbm, ⟨26, _⟩ => ⟨S16x8192, .f32⟩
  | .hbm, ⟨27, _⟩ => ⟨S16x8192x1, .f32⟩
  | .hbm, ⟨28, _⟩ => ⟨S16x8192x8192, .f32⟩
  | .hbm, ⟨29, _⟩ => ⟨S16x8192x8192, .i1⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S_, .f32⟩
  | .hbm, ⟨34, _⟩ => ⟨S16x8192, .f32⟩
  | .hbm, ⟨35, _⟩ => ⟨S16x8192, .f32⟩
  | .hbm, ⟨36, _⟩ => ⟨S_, .f32⟩
  | .hbm, ⟨37, _⟩ => ⟨S16x8192, .f32⟩
  | .hbm, ⟨38, _⟩ => ⟨S16x8192, .i1⟩
  | .hbm, ⟨39, _⟩ => ⟨S_, .f32⟩
  | .hbm, ⟨40, _⟩ => ⟨S16x8192, .f32⟩
  | .hbm, ⟨41, _⟩ => ⟨S16x8192, .i1⟩
  | .hbm, ⟨42, _⟩ => ⟨S_, .f32⟩
  | .hbm, ⟨43, _⟩ => ⟨S16x8192, .f32⟩
  | .hbm, ⟨44, _⟩ => ⟨S_, .f32⟩
  | .hbm, ⟨45, _⟩ => ⟨S16x8192, .f32⟩
  | .hbm, ⟨46, _⟩ => ⟨S_, .f32⟩
  | .hbm, ⟨47, _⟩ => ⟨S16x8192, .f32⟩
  | .hbm, ⟨48, _⟩ => ⟨S16x8192, .f32⟩
  | .hbm, ⟨49, _⟩ => ⟨S16x8192, .f32⟩
  | .hbm, ⟨50, _⟩ => ⟨S16x8192x1, .f32⟩
  | .hbm, ⟨51, _⟩ => ⟨S16x8192x8192, .f32⟩
  | .hbm, ⟨52, _⟩ => ⟨S16x8192x8192, .f32⟩
  | .hbm, ⟨53, _⟩ => ⟨S16x8192x8192, .f32⟩
  | .hbm, ⟨54, _⟩ => ⟨S_, .f32⟩
  | .hbm, ⟨55, _⟩ => ⟨S16x8192, .f32⟩
  | .hbm, ⟨56, _⟩ => ⟨S16x8192x1, .f32⟩
  | .hbm, ⟨57, _⟩ => ⟨S16x8192x8192, .f32⟩
  | .hbm, ⟨58, _⟩ => ⟨S16x8192x8192, .f32⟩
  | .hbm, ⟨59, _⟩ => ⟨S16x8192x1, .f32⟩
  | .hbm, ⟨60, _⟩ => ⟨S_, .f32⟩
  | .hbm, ⟨61, _⟩ => ⟨S16x8192x1, .f32⟩
  | .hbm, ⟨62, _⟩ => ⟨S16x8192x1, .f32⟩
  | .hbm, ⟨63, _⟩ => ⟨S16x128x8192, .f32⟩
  | .hbm, ⟨64, _⟩ => ⟨S8192x16x128, .f32⟩
  | .hbm, ⟨65, _⟩ => ⟨S8192x2048, .f32⟩
  | .hbm, ⟨66, _⟩ => ⟨S8192x16x128, .f32⟩
  | .hbm, ⟨67, _⟩ => ⟨S16x128x8192, .f32⟩
  | .hbm, ⟨68, _⟩ => ⟨S16x8192x8192, .f32⟩
  | .hbm, ⟨69, _⟩ => ⟨S16x128x8192, .f32⟩
  | .hbm, ⟨70, _⟩ => ⟨S8192x16x128, .f32⟩
  | .hbm, ⟨71, _⟩ => ⟨S16x8192x8192, .f32⟩
  | .hbm, ⟨72, _⟩ => ⟨S16x8192x8192, .f32⟩
  | .hbm, ⟨73, _⟩ => ⟨S16x8192x8192, .f32⟩
  | .hbm, ⟨74, _⟩ => ⟨S_, .f32⟩
  | .hbm, ⟨75, _⟩ => ⟨S16x8192, .f32⟩
  | .hbm, ⟨76, _⟩ => ⟨S16x8192x1, .f32⟩
  | .hbm, ⟨77, _⟩ => ⟨S16x8192x1, .f32⟩
  | .hbm, ⟨78, _⟩ => ⟨S16x8192x8192, .f32⟩
  | .hbm, ⟨79, _⟩ => ⟨S16x8192x8192, .f32⟩
  | .hbm, ⟨80, _⟩ => ⟨S_, .f32⟩
  | .hbm, ⟨81, _⟩ => ⟨S16x8192, .f32⟩
  | .hbm, ⟨82, _⟩ => ⟨S16x8192x8192, .f32⟩
  | .hbm, ⟨83, _⟩ => ⟨S16x8192x8192, .f32⟩
  | .hbm, ⟨84, _⟩ => ⟨S16x8192x8192, .f32⟩
  | .hbm, ⟨85, _⟩ => ⟨S_, .f32⟩
  | .hbm, ⟨86, _⟩ => ⟨S16x8192x8192, .f32⟩
  | .hbm, ⟨87, _⟩ => ⟨S16x8192x8192, .f32⟩
  | .hbm, ⟨88, _⟩ => ⟨S16x8192x8192, .f32⟩
  | .hbm, ⟨89, _⟩ => ⟨S16x8192x8192, .f32⟩
  | .hbm, ⟨90, _⟩ => ⟨S16x8192x128, .f32⟩
  | .hbm, ⟨91, _⟩ => ⟨S8192x16x128, .f32⟩
  | .hbm, ⟨92, _⟩ => ⟨S16x8192x128, .f32⟩
  | .hbm, ⟨93, _⟩ => ⟨S8192x16x128, .f32⟩
  | .hbm, ⟨94, _⟩ => ⟨S8192x2048, .f32⟩
  | .hbm, ⟨95, _⟩ => ⟨S8192x2048, .f32⟩
  | .hbm, ⟨96, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_v13_1 : Ref sig .tc := ⟨.hbm, 20, rfl⟩
abbrev main_call0_v2 : Ref sig .tc := ⟨.hbm, 21, rfl⟩
abbrev main_v13_0 : Ref sig .tc := ⟨.hbm, 22, rfl⟩
abbrev main_call0_cst : Ref sig .tc := ⟨.hbm, 23, rfl⟩
abbrev main_v13_2 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call1_cst : Ref sig .tc := ⟨.hbm, 85, rfl⟩
abbrev main_call1_v0 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== Kernel2.lean ====
abbrev S8192x1024 : Shape := ⟨2, ![8192, 1024]⟩
abbrev S8192x2816 : Shape := ⟨2, ![8192, 2816]⟩
abbrev S1024x2816 : Shape := ⟨2, ![1024, 2816]⟩
abbrev S2048x512 : Shape := ⟨2, ![2048, 512]⟩
abbrev S2048x2816 : Shape := ⟨2, ![2048, 2816]⟩
abbrev S512x2816 : Shape := ⟨2, ![512, 2816]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x2816, .bf16⟩
  | .hbm, ⟨4, _⟩ => ⟨S1024x2816, .bf16⟩
  | .hbm, ⟨5, _⟩ => ⟨S1024x2816, .f32⟩
  | .local _ .vmem, ⟨0, _⟩ => ⟨S2048x512, .bf16⟩
  | .local _ .vmem, ⟨1, _⟩ => ⟨S2048x512, .bf16⟩
  | .local _ .vmem, ⟨2, _⟩ => ⟨S2048x2816, .bf16⟩
  | .local _ .vmem, ⟨3, _⟩ => ⟨S2048x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S1024 : Shape := ⟨1, ![1024]⟩
abbrev S_ : Shape := ⟨0, ![]⟩
abbrev S1x1024 : Shape := ⟨2, ![1, 1024]⟩
abbrev S7x1024 : Shape := ⟨2, ![7, 1024]⟩
abbrev S8x1024 : Shape := ⟨2, ![8, 1024]⟩
abbrev S2x8x1024 : Shape := ⟨3, ![2, 8, 1024]⟩
abbrev S2048x1408 : Shape := ⟨2, ![2048, 1408]⟩
abbrev S2048x1024 : Shape := ⟨2, ![2048, 1024]⟩
abbrev S1408x1024 : Shape := ⟨2, ![1408, 1024]⟩
abbrev S1x8x1024 : Shape := ⟨3, ![1, 8, 1024]⟩
abbrev S2x1x1024 : Shape := ⟨3, ![2, 1, 1024]⟩
abbrev S2x1024 : Shape := ⟨2, ![2, 1024]⟩

abbrev nBuf : Space → Nat
  | .hbm => 24
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x1024, .f32⟩
  | .hbm, ⟨3, _⟩ => ⟨S1024, .f32⟩
  | .hbm, ⟨4, _⟩ => ⟨S8192x2816, .bf16⟩
  | .hbm, ⟨5, _⟩ => ⟨S8192x1024, .bf16⟩
  | .hbm, ⟨6, _⟩ => ⟨S2816x1024, .bf16⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S_, .f32⟩
  | .hbm, ⟨12, _⟩ => ⟨S7x1024, .f32⟩
  | .hbm, ⟨13, _⟩ => ⟨S8x1024, .f32⟩
  | .hbm, ⟨14, _⟩ => ⟨S2816x1024, .bf16⟩
  | .hbm, ⟨15, _⟩ => ⟨S2x8x1024, .f32⟩
  | .hbm, ⟨16, _⟩ => ⟨S2816x1024, .f32⟩
  | .hbm, ⟨17, _⟩ => ⟨S2x1x1024, .f32⟩
  | .hbm, ⟨18, _⟩ => ⟨S2x1024, .f32⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S8x1024, .f32⟩
  | .local _ .vmem, ⟨7, _⟩ => ⟨S1408x1024, .bf16⟩
  | .local _ .vmem, ⟨8, _⟩ => ⟨S1408x1024, .bf16⟩
  | .local _ .vmem, ⟨9, _⟩ => ⟨S1x8x1024, .f32⟩
  | .local _ .vmem, ⟨10, _⟩ => ⟨S1x8x1024, .f32⟩
  | .local _ .vmem, ⟨11, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference3Ideal.lean ====
abbrev S8192x2816 : Shape := ⟨2, ![8192, 2816]⟩
abbrev S8192x1024 : Shape := ⟨2, ![8192, 1024]⟩
abbrev S2816x1024 : Shape := ⟨2, ![2816, 1024]⟩
abbrev S1024 : Shape := ⟨1, ![1024]⟩
abbrev S1x1024 : Shape := ⟨2, ![1, 1024]⟩
abbrev S_ : Shape := ⟨0, ![]⟩
abbrev S1024x2816 : Shape := ⟨2, ![1024, 2816]⟩

abbrev nBuf : Space → Nat
  | .hbm => 24
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x1024, .f32⟩
  | .hbm, ⟨3, _⟩ => ⟨S1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S1024x2816, .f32⟩
  | .hbm, ⟨18, _⟩ => ⟨S2816x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 23
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S4x1024, .f32⟩
  | .hbm, ⟨13, _⟩ => ⟨S8x1024, .f32⟩
  | .hbm, ⟨14, _⟩ => ⟨S1024x5632, .bf16⟩
  | .hbm, ⟨15, _⟩ => ⟨S2816x1024, .bf16⟩
  | .hbm, ⟨16, _⟩ => ⟨S8192x1024, .f32⟩
  | .hbm, ⟨17, _⟩ => ⟨S8192x1024, .bf16⟩
  | .hbm, ⟨18, _⟩ => ⟨S8192x2816, .bf16⟩
  | .hbm, ⟨19, _⟩ => ⟨S8192x2816, .bf16⟩
  | .hbm, ⟨20, _⟩ => ⟨S8192x1024, .f32⟩
  | .hbm, ⟨21, _⟩ => ⟨S8192x2816, .f32⟩
  | .hbm, ⟨22, _⟩ => ⟨S8192x2816, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel5.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .bf16⟩
  | .hbm, ⟨5, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x512 : Shape := ⟨2, ![8192, 512]⟩
abbrev S8192x2048 : Shape := ⟨2, ![8192, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S8192x512, .bf16⟩
  | .hbm, ⟨3, _⟩ => ⟨S8192x2048, .bf16⟩
  | .hbm, ⟨4, _⟩ => ⟨S512x2048, .bf16⟩
  | .hbm, ⟨5, _⟩ => ⟨S512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S_, .f32⟩
  | .hbm, ⟨3, _⟩ => ⟨S512x2048, .f32⟩
  | .hbm, ⟨4, _⟩ => ⟨S8192x2048, .f32⟩
  | .hbm, ⟨5, _⟩ => ⟨S2048x512, .f32⟩
  | .hbm, ⟨6, _⟩ => ⟨S512x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .bf16⟩
  | .hbm, ⟨3, _⟩ => ⟨S8192x512, .bf16⟩
  | .hbm, ⟨4, _⟩ => ⟨S1024x512, .bf16⟩
  | .hbm, ⟨5, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x512, .f32⟩
  | .hbm, ⟨5, _⟩ => ⟨S512x1024, .f32⟩
  | .hbm, ⟨6, _⟩ => ⟨S1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x1024 : Shape := ⟨2, ![8192, 1024]⟩
abbrev S8192x384 : Shape := ⟨2, ![8192, 384]⟩
abbrev S1024x384 : Shape := ⟨2, ![1024, 384]⟩
abbrev S2048x1024 : Shape := ⟨2, ![2048, 1024]⟩
abbrev S2048x384 : Shape := ⟨2, ![2048, 384]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x1024, .bf16⟩
  | .hbm, ⟨3, _⟩ => ⟨S8192x384, .bf16⟩
  | .hbm, ⟨4, _⟩ => ⟨S1024x384, .bf16⟩
  | .hbm, ⟨5, _⟩ => ⟨S1024x384, .f32⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .bf16⟩
  | .local _ .vmem, ⟨5, _⟩ => ⟨S1024x384, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x384 : Shape := ⟨2, ![8192, 384]⟩
abbrev S_ : Shape := ⟨0, ![]⟩
abbrev S1024x384 : Shape := ⟨2, ![1024, 384]⟩
abbrev S384x1024 : Shape := ⟨2, ![384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S_, .f32⟩
  | .hbm, ⟨3, _⟩ => ⟨S1024x384, .f32⟩
  | .hbm, ⟨4, _⟩ => ⟨S8192x384, .f32⟩
  | .hbm, ⟨5, _⟩ => ⟨S384x1024, .f32⟩
  | .hbm, ⟨6, _⟩ => ⟨S1024x384, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x256 : Shape := ⟨2, ![8192, 256]⟩
abbrev S8192x2048 : Shape := ⟨2, ![8192, 2048]⟩
abbrev S256x2048 : Shape := ⟨2, ![256, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S8192x256, .bf16⟩
  | .hbm, ⟨3, _⟩ => ⟨S8192x2048, .bf16⟩
  | .hbm, ⟨4, _⟩ => ⟨S256x2048, .bf16⟩
  | .hbm, ⟨5, _⟩ => ⟨S256x2048, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S_, .f32⟩
  | .hbm, ⟨3, _⟩ => ⟨S256x2048, .f32⟩
  | .hbm, ⟨4, _⟩ => ⟨S8192x2048, .f32⟩
  | .hbm, ⟨5, _⟩ => ⟨S2048x256, .f32⟩
  | .hbm, ⟨6, _⟩ => ⟨S256x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x2048 : Shape := ⟨2, ![8192, 2048]⟩
abbrev S8192x1024 : Shape := ⟨2, ![8192, 1024]⟩
abbrev S2048x1024 : Shape := ⟨2, ![2048, 1024]⟩
abbrev S1024 : Shape := ⟨1, ![1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S512x2048 : Shape := ⟨2, ![512, 2048]⟩
abbrev S512x1024 : Shape := ⟨2, ![512, 1024]⟩

abbrev nBuf : Space → Nat
  | .hbm => 14
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S2048x1024, .f32⟩
  | .hbm, ⟨3, _⟩ => ⟨S1024, .f32⟩
  | .hbm, ⟨4, _⟩ => ⟨S8192x2048, .bf16⟩
  | .hbm, ⟨5, _⟩ => ⟨S2048x1024, .bf16⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S4x1024, .f32⟩
  | .hbm, ⟨12, _⟩ => ⟨S8x1024, .f32⟩
  | .hbm, ⟨13, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8192x2048 : Shape := ⟨2, ![8192, 2048]⟩
abbrev S8192x1024 : Shape := ⟨2, ![8192, 1024]⟩
abbrev S2048x1024 : Shape := ⟨2, ![2048, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel11.lean ====
abbrev S8192x2048 : Shape := ⟨2, ![8192, 2048]⟩
abbrev S8192x1024 : Shape := ⟨2, ![8192, 1024]⟩
abbrev S2048x1024 : Shape := ⟨2, ![2048, 1024]⟩
abbrev S1024 : Shape := ⟨1, ![1024]⟩
abbrev S1x1024 : Shape := ⟨2, ![1, 1024]⟩
abbrev S_ : Shape := ⟨0, ![]⟩
abbrev S7x1024 : Shape := ⟨2, ![7, 1024]⟩
abbrev S8x1024 : Shape := ⟨2, ![8, 1024]⟩
abbrev S2x8x1024 : Shape := ⟨3, ![2, 8, 1024]⟩
abbrev S1024x1024 : Shape := ⟨2, ![1024, 1024]⟩
abbrev S1x8x1024 : Shape := ⟨3, ![1, 8, 1024]⟩
abbrev S2x1x1024 : Shape := ⟨3, ![2, 1, 1024]⟩
abbrev S2x1024 : Shape := ⟨2, ![2, 1024]⟩

abbrev nBuf : Space → Nat
  | .hbm => 18
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S2048x1024, .f32⟩
  | .hbm, ⟨3, _⟩ => ⟨S1024, .f32⟩
  | .hbm, ⟨4, _⟩ => ⟨S8192x2048, .bf16⟩
  | .hbm, ⟨5, _⟩ => ⟨S8192x1024, .bf16⟩
  | .hbm, ⟨6, _⟩ => ⟨S2048x1024, .bf16⟩
  | .hbm, ⟨7, _⟩ => ⟨S1x1024, .f32⟩
  | .hbm, ⟨8, _⟩ => ⟨S_, .f32⟩
  | .hbm, ⟨9, _⟩ => ⟨S7x1024, .f32⟩
  | .hbm, ⟨10, _⟩ => ⟨S8x1024, .f32⟩
  | .hbm, ⟨11, _⟩ => ⟨S2048x1024, .bf16⟩
  | .hbm, ⟨12, _⟩ => ⟨S2x8x1024, .f32⟩
  | .hbm, ⟨13, _⟩ => ⟨S2048x1024, .f32⟩
  | .hbm, ⟨14, _⟩ => ⟨S2x1x1024, .f32⟩
  | .hbm, ⟨15, _⟩ => ⟨S2x1024, .f32⟩
  | .hbm, ⟨16, _⟩ => ⟨S_, .f32⟩
  | .hbm, ⟨17, _⟩ => ⟨S1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x8x1024, .f32⟩
  | .local _ .vmem, ⟨10, _⟩ => ⟨S1x8x1024, .f32⟩
  | .local _ .vmem, ⟨11, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S8192x2048 : Shape := ⟨2, ![8192, 2048]⟩
abbrev S8192x1024 : Shape := ⟨2, ![8192, 1024]⟩
abbrev S2048x1024 : Shape := ⟨2, ![2048, 1024]⟩
abbrev S1024 : Shape := ⟨1, ![1024]⟩
abbrev S1x1024 : Shape := ⟨2, ![1, 1024]⟩
abbrev S_ : Shape := ⟨0, ![]⟩
abbrev S1024x2048 : Shape := ⟨2, ![1024, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1024x2048, .f32⟩
  | .hbm, ⟨15, _⟩ => ⟨S2048x1024, .f32⟩
  | .hbm, ⟨16, _⟩ => ⟨S_, .f32⟩
  | .hbm, ⟨17, _⟩ => ⟨S1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S7x1024 : Shape := ⟨2, ![7, 1024]⟩
abbrev S8x1024 : Shape := ⟨2, ![8, 1024]⟩
abbrev S1x8x1024 : Shape := ⟨3, ![1, 8, 1024]⟩
abbrev S2048x1024 : Shape := ⟨2, ![2048, 1024]⟩
abbrev S1x1x1024 : Shape := ⟨3, ![1, 1, 1024]⟩

abbrev nBuf : Space → Nat
  | .hbm => 18
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192x1024, .bf16⟩
  | .hbm, ⟨5, _⟩ => ⟨S8192x1024, .bf16⟩
  | .hbm, ⟨6, _⟩ => ⟨S1024x1024, .bf16⟩
  | .hbm, ⟨7, _⟩ => ⟨S1x1024, .f32⟩
  | .hbm, ⟨8, _⟩ => ⟨S_, .f32⟩
  | .hbm, ⟨9, _⟩ => ⟨S7x1024, .f32⟩
  | .hbm, ⟨10, _⟩ => ⟨S8x1024, .f32⟩
  | .hbm, ⟨11, _⟩ => ⟨S1024x1024, .bf16⟩
  | .hbm, ⟨12, _⟩ => ⟨S1x8x1024, .f32⟩
  | .hbm, ⟨13, _⟩ => ⟨S1024x1024, .f32⟩
  | .hbm, ⟨14, _⟩ => ⟨S1x1x1024, .f32⟩
  | .hbm, ⟨15, _⟩ => ⟨S1x1024, .f32⟩
  | .hbm, ⟨16, _⟩ => ⟨S_, .f32⟩
  | .hbm, ⟨17, _⟩ => ⟨S1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S8x1024, .f32⟩
  | .local _ .vmem, ⟨6, _⟩ => ⟨S1024x1024, .bf16⟩
  | .local _ .vmem, ⟨7, _⟩ => ⟨S1x8x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 1 → Memref sig .tc .vmem S1x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false]
-- ==== Reference12Ideal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel13.lean ====
abbrev S8192x1024 : Shape := ⟨2, ![8192, 1024]⟩
abbrev S8192x2048 : Shape := ⟨2, ![8192, 2048]⟩
abbrev S2048x1024 : Shape := ⟨2, ![2048, 1024]⟩
abbrev S1024 : Shape := ⟨1, ![1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S16x8192x1 : Shape := ⟨3, ![16, 8192, 1]⟩
abbrev S512x1024 : Shape := ⟨2, ![512, 1024]⟩
abbrev S512x2048 : Shape := ⟨2, ![512, 2048]⟩
abbrev S16x512x1 : Shape := ⟨3, ![16, 512, 1]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩
abbrev S16x8192 : Shape := ⟨2, ![16, 8192]⟩

abbrev nBuf : Space → Nat
  | .hbm => 19
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S1024, .f32⟩
  | .hbm, ⟨4, _⟩ => ⟨S8192x2048, .bf16⟩
  | .hbm, ⟨5, _⟩ => ⟨S2048x1024, .bf16⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S4x1024, .f32⟩
  | .hbm, ⟨12, _⟩ => ⟨S8x1024, .f32⟩
  | .hbm, ⟨13, _⟩ => ⟨S8192x2048, .bf16⟩
  | .hbm, ⟨14, _⟩ => ⟨S16x8192x1, .f32⟩
  | .hbm, ⟨15, _⟩ => ⟨S8192x1024, .bf16⟩
  | .hbm, ⟨16, _⟩ => ⟨S8192x2048, .f32⟩
  | .hbm, ⟨17, _⟩ => ⟨S16x8192, .f32⟩
  | .hbm, ⟨18, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S8x1024, .f32⟩
  | .local _ .vmem, ⟨6, _⟩ => ⟨S512x2048, .bf16⟩
  | .local _ .vmem, ⟨7, _⟩ => ⟨S512x2048, .bf16⟩
  | .local _ .vmem, ⟨8, _⟩ => ⟨S16x512x1, .f32⟩
  | .local _ .vmem, ⟨9, _⟩ => ⟨S16x512x1, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S8192x1024 : Shape := ⟨2, ![8192, 1024]⟩
abbrev S8192x2048 : Shape := ⟨2, ![8192, 2048]⟩
abbrev S2048x1024 : Shape := ⟨2, ![2048, 1024]⟩
abbrev S1024 : Shape := ⟨1, ![1024]⟩
abbrev S1x1024 : Shape := ⟨2, ![1, 1024]⟩
abbrev S8192x16x128 : Shape := ⟨3, ![8192, 16, 128]⟩
abbrev S_ : Shape := ⟨0, ![]⟩
abbrev S8192x16 : Shape := ⟨2, ![8192, 16]⟩
abbrev S16x8192 : Shape := ⟨2, ![16, 8192]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x2048, .f32⟩
  | .hbm, ⟨11, _⟩ => ⟨S8192x2048, .f32⟩
  | .hbm, ⟨12, _⟩ => ⟨S8192x16x128, .f32⟩
  | .hbm, ⟨13, _⟩ => ⟨S_, .f32⟩
  | .hbm, ⟨14, _⟩ => ⟨S8192x16, .f32⟩
  | .hbm, ⟨15, _⟩ => ⟨S16x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel14.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x2048 : Shape := ⟨2, ![1, 2048]⟩
abbrev S7x2048 : Shape := ⟨2, ![7, 2048]⟩
abbrev S8x2048 : Shape := ⟨2, ![8, 2048]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 20
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S5x1024, .f32⟩
  | .hbm, ⟨11, _⟩ => ⟨S8x1024, .f32⟩
  | .hbm, ⟨12, _⟩ => ⟨S1024x2048, .bf16⟩
  | .hbm, ⟨13, _⟩ => ⟨S1x2048, .f32⟩
  | .hbm, ⟨14, _⟩ => ⟨S_, .f32⟩
  | .hbm, ⟨15, _⟩ => ⟨S7x2048, .f32⟩
  | .hbm, ⟨16, _⟩ => ⟨S8x2048, .f32⟩
  | .hbm, ⟨17, _⟩ => ⟨S8192x1024, .bf16⟩
  | .hbm, ⟨18, _⟩ => ⟨S8192x2048, .f32⟩
  | .hbm, ⟨19, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x2048, .bf16⟩
  | .local _ .vmem, ⟨4, _⟩ => ⟨S8x2048, .f32⟩
  | .local _ .vmem, ⟨5, _⟩ => ⟨S512x1024, .bf16⟩
  | .local _ .vmem, ⟨6, _⟩ => ⟨S512x1024, .bf16⟩
  | .local _ .vmem, ⟨7, _⟩ => ⟨S512x2048, .f32⟩
  | .local _ .vmem, ⟨8, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference14Ideal.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel15.lean ====
abbrev S8192x1024 : Shape := ⟨2, ![8192, 1024]⟩
abbrev S1024 : Shape := ⟨1, ![1024]⟩
abbrev S1024x512 : Shape := ⟨2, ![1024, 512]⟩
abbrev S512 : Shape := ⟨1, ![512]⟩
abbrev S512x2048 : Shape := ⟨2, ![512, 2048]⟩
abbrev S8192x16 : Shape := ⟨2, ![8192, 16]⟩
abbrev S_ : Shape := ⟨0, ![]⟩
abbrev S8192x64 : Shape := ⟨2, ![8192, 64]⟩
abbrev S8192x32 : Shape := ⟨2, ![8192, 32]⟩
abbrev S8192x384 : Shape := ⟨2, ![8192, 384]⟩
abbrev S1x1024 : Shape := ⟨2, ![1, 1024]⟩
abbrev S5x1024 : Shape := ⟨2, ![5, 1024]⟩
abbrev S8x1024 : Shape := ⟨2, ![8, 1024]⟩
abbrev S1x512 : Shape := ⟨2, ![1, 512]⟩
abbrev S7x512 : Shape := ⟨2, ![7, 512]⟩
abbrev S8x512 : Shape := ⟨2, ![8, 512]⟩
abbrev S8192x512 : Shape := ⟨2, ![8192, 512]⟩
abbrev S8192x2048 : Shape := ⟨2, ![8192, 2048]⟩
abbrev S512x1024 : Shape := ⟨2, ![512, 1024]⟩
abbrev S512x384 : Shape := ⟨2, ![512, 384]⟩
abbrev S512x512 : Shape := ⟨2, ![512, 512]⟩
abbrev S512x1 : Shape := ⟨2, ![512, 1]⟩
abbrev S512x128 : Shape := ⟨2, ![512, 128]⟩

abbrev nBuf : Space → Nat
  | .hbm => 38
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S512x2048, .f32⟩
  | .hbm, ⟨7, _⟩ => ⟨S8192x16, .f32⟩
  | .hbm, ⟨8, _⟩ => ⟨S8192x16, .f32⟩
  | .hbm, ⟨9, _⟩ => ⟨S_, .f32⟩
  | .hbm, ⟨10, _⟩ => ⟨S8192x64, .f32⟩
  | .hbm, ⟨11, _⟩ => ⟨S_, .f32⟩
  | .hbm, ⟨12, _⟩ => ⟨S8192x16, .f32⟩
  | .hbm, ⟨13, _⟩ => ⟨S_, .f32⟩
  | .hbm, ⟨14, _⟩ => ⟨S8192x32, .f32⟩
  | .hbm, ⟨15, _⟩ => ⟨S_, .f32⟩
  | .hbm, ⟨16, _⟩ => ⟨S8192x64, .f32⟩
  | .hbm, ⟨17, _⟩ => ⟨S8192x16, .f32⟩
  | .hbm, ⟨18, _⟩ => ⟨S8192x384, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S5x1024, .f32⟩
  | .hbm, ⟨24, _⟩ => ⟨S8x1024, .f32⟩
  | .hbm, ⟨25, _⟩ => ⟨S1024x512, .bf16⟩
  | .hbm, ⟨26, _⟩ => ⟨S1x512, .f32⟩
  | .hbm, ⟨27, _⟩ => ⟨S_, .f32⟩
  | .hbm, ⟨28, _⟩ => ⟨S7x512, .f32⟩
  | .hbm, ⟨29, _⟩ => ⟨S8x512, .f32⟩
  | .hbm, ⟨30, _⟩ => ⟨S512x2048, .bf16⟩
  | .hbm, ⟨31, _⟩ => ⟨S8192x1024, .bf16⟩
  | .hbm, ⟨32, _⟩ => ⟨S8192x512, .f32⟩
  | .hbm, ⟨33, _⟩ => ⟨S8192x512, .bf16⟩
  | .hbm, ⟨34, _⟩ => ⟨S8192x2048, .bf16⟩
  | .hbm, ⟨35, _⟩ => ⟨S8192x1024, .f32⟩
  | .hbm, ⟨36, _⟩ => ⟨S8192x512, .f32⟩
  | .hbm, ⟨37, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x512, .bf16⟩
  | .local _ .vmem, ⟨4, _⟩ => ⟨S8x512, .f32⟩
  | .local _ .vmem, ⟨5, _⟩ => ⟨S512x2048, .bf16⟩
  | .local _ .vmem, ⟨6, _⟩ => ⟨S512x384, .f32⟩
  | .local _ .vmem, ⟨7, _⟩ => ⟨S512x384, .f32⟩
  | .local _ .vmem, ⟨8, _⟩ => ⟨S512x1024, .bf16⟩
  | .local _ .vmem, ⟨9, _⟩ => ⟨S512x1024, .bf16⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x2048, .bf16⟩
  | .local _ .vmem, ⟨15, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_cst_2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v16_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel15Ideal.lean ====
variable {F : FTy → Type} [FloatOps F] [Named F]
def κ : String → Option EReal := fun
  | "exp2_scale" => some ((((Real.sqrt 96) * (Real.log 2))⁻¹ : ℝ) : EReal)
  | _ => none
-- ==== Reference15Ideal.lean ====
abbrev S8192x1024 : Shape := ⟨2, ![8192, 1024]⟩
abbrev S1024 : Shape := ⟨1, ![1024]⟩
abbrev S1024x512 : Shape := ⟨2, ![1024, 512]⟩
abbrev S512 : Shape := ⟨1, ![512]⟩
abbrev S512x2048 : Shape := ⟨2, ![512, 2048]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x512 : Shape := ⟨2, ![8192, 512]⟩
abbrev S1x512 : Shape := ⟨2, ![1, 512]⟩
abbrev S8192x2048 : Shape := ⟨2, ![8192, 2048]⟩
abbrev S8192x16x128 : Shape := ⟨3, ![8192, 16, 128]⟩
abbrev S8192x16x64 : Shape := ⟨3, ![8192, 16, 64]⟩
abbrev S8192x16x16 : Shape := ⟨3, ![8192, 16, 16]⟩
abbrev S8192x16x32 : Shape := ⟨3, ![8192, 16, 32]⟩
abbrev S8192x1x16 : Shape := ⟨3, ![8192, 1, 16]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S512x2048, .f32⟩
  | .hbm, ⟨7, _⟩ => ⟨S8192x16, .f32⟩
  | .hbm, ⟨8, _⟩ => ⟨S8192x16, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x512, .f32⟩
  | .hbm, ⟨47, _⟩ => ⟨S8192x512, .f32⟩
  | .hbm, ⟨48, _⟩ => ⟨S1x512, .f32⟩
  | .hbm, ⟨49, _⟩ => ⟨S8192x512, .f32⟩
  | .hbm, ⟨50, _⟩ => ⟨S8192x512, .f32⟩
  | .hbm, ⟨51, _⟩ => ⟨S8192x2048, .f32⟩
  | .hbm, ⟨52, _⟩ => ⟨S8192x16x128, .f32⟩
  | .hbm, ⟨53, _⟩ => ⟨S8192x16x64, .f32⟩
  | .hbm, ⟨54, _⟩ => ⟨S8192x16x16, .f32⟩
  | .hbm, ⟨55, _⟩ => ⟨S8192x16x16, .f32⟩
  | .hbm, ⟨56, _⟩ => ⟨S8192x16x32, .f32⟩
  | .hbm, ⟨57, _⟩ => ⟨S8192x1x16, .f32⟩
  | .hbm, ⟨58, _⟩ => ⟨S8192x1x16, .f32⟩
  | .hbm, ⟨59, _⟩ => ⟨S8192x16x16, .f32⟩
  | .hbm, ⟨60, _⟩ => ⟨S8192x16x16, .f32⟩
  | .hbm, ⟨61, _⟩ => ⟨S8192x16x16, .f32⟩
  | .hbm, ⟨62, _⟩ => ⟨S8192x16x16, .f32⟩
  | .hbm, ⟨63, _⟩ => ⟨S8192x16x16, .f32⟩
  | .hbm, ⟨64, _⟩ => ⟨S8192x16x16, .f32⟩
  | .hbm, ⟨65, _⟩ => ⟨S8192x16x16, .f32⟩
  | .hbm, ⟨66, _⟩ => ⟨S8192x16x16, .f32⟩
  | .hbm, ⟨67, _⟩ => ⟨S8192x16x16, .f32⟩
  | .hbm, ⟨68, _⟩ => ⟨S8192x16x16, .f32⟩
  | .hbm, ⟨69, _⟩ => ⟨S_, .f32⟩
  | .hbm, ⟨70, _⟩ => ⟨S8192x16x32, .f32⟩
  | .hbm, ⟨71, _⟩ => ⟨S8192x16x128, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S8192x16x128, .f32⟩
  | .hbm, ⟨78, _⟩ => ⟨S8192x16x128, .f32⟩
  | .hbm, ⟨79, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Kernel16.lean ====
abbrev S8192x1024 : Shape := ⟨2, ![8192, 1024]⟩
abbrev S8192x2816 : Shape := ⟨2, ![8192, 2816]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S256x1024 : Shape := ⟨2, ![256, 1024]⟩
abbrev S256x2816 : Shape := ⟨2, ![256, 2816]⟩
abbrev S256x1536 : Shape := ⟨2, ![256, 1536]⟩
abbrev S1536x1024 : Shape := ⟨2, ![1536, 1024]⟩
abbrev S1024x1536 : Shape := ⟨2, ![1024, 1536]⟩
abbrev S256x1280 : Shape := ⟨2, ![256, 1280]⟩
abbrev S1280x1024 : Shape := ⟨2, ![1280, 1024]⟩
abbrev S1024x1280 : Shape := ⟨2, ![1024, 1280]⟩
abbrev S256 : Shape := ⟨1, ![256]⟩
abbrev S256x1 : Shape := ⟨2, ![256, 1]⟩

abbrev nBuf : Space → Nat
  | .hbm => 30
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2816, .f32⟩
  | .hbm, ⟨3, _⟩ => ⟨S8192x2816, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S8192x2816, .bf16⟩
  | .hbm, ⟨11, _⟩ => ⟨S8192x2816, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S4x1024, .f32⟩
  | .hbm, ⟨18, _⟩ => ⟨S8x1024, .f32⟩
  | .hbm, ⟨19, _⟩ => ⟨S1024x5632, .bf16⟩
  | .hbm, ⟨20, _⟩ => ⟨S2816x1024, .bf16⟩
  | .hbm, ⟨21, _⟩ => ⟨S8192x1024, .f32⟩
  | .hbm, ⟨22, _⟩ => ⟨S8192x2816, .bf16⟩
  | .hbm, ⟨23, _⟩ => ⟨S8192x2816, .bf16⟩
  | .hbm, ⟨24, _⟩ => ⟨S8192x2816, .bf16⟩
  | .hbm, ⟨25, _⟩ => ⟨S8192x1024, .bf16⟩
  | .hbm, ⟨26, _⟩ => ⟨S8x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S8x1024, .f32⟩
  | .local _ .vmem, ⟨9, _⟩ => ⟨S1024x5632, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .bf16⟩
  | .local _ .vmem, ⟨20, _⟩ => ⟨S256x1024, .bf16⟩
  | .local _ .vmem, ⟨21, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference16Ideal.lean ====
abbrev S8192x1024 : Shape := ⟨2, ![8192, 1024]⟩
abbrev S8192x2816 : Shape := ⟨2, ![8192, 2816]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x1024 : Shape := ⟨2, ![1, 1024]⟩
abbrev S1024x2816 : Shape := ⟨2, ![1024, 2816]⟩
abbrev S8192 : Shape := ⟨1, ![8192]⟩
abbrev S8192x1 : Shape := ⟨2, ![8192, 1]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2816, .f32⟩
  | .hbm, ⟨3, _⟩ => ⟨S8192x2816, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S1024x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S1024x2816, .f32⟩
  | .hbm, ⟨39, _⟩ => ⟨S2816x1024, .f32⟩
  | .hbm, ⟨40, _⟩ => ⟨S8192x1024, .f32⟩
  | .hbm, ⟨41, _⟩ => ⟨S1024x2816, .f32⟩
  | .hbm, ⟨42, _⟩ => ⟨S2816x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x2816, .f32⟩
  | .hbm, ⟨83, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Proof.Frames.lean ====
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.WordCmp
public import Idealize.ShloMosaic.Lib.Claim

/-! The frame of the kernel at its own number formats: every run of it ends, leaves its four arguments as they were and
    leaves no semaphore counted.  Nothing is said here of what the three results hold (that is said, of the kernel over
    the extended reals, in the other modules), so the triple of the body hands the result windows and the two
    accumulators back at some contents. -/

@[expose] public section

set_option maxRecDepth 16384

noncomputable section

namespace Cert.Kernel.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The resource algebra of the run. -/
local notation "𝕄" => MT nD τ sig Unit (Elt F) ℕ (UR sig nD τ) ℕ

variable (m : (ℓ : Loc nD τ sig) → Buf (Elt F) ℓ) (ρ : Dev nD → PrngReg)

/-! ## The memrefs the body is called on -/

/-- Window 0's staging memref at a point. -/
abbrev stage0 (t : Fin cfg0.N) : Memref sig .tc .vmem S8192x128 .bf16 := win0_0.stage (cfg0.slots t 0)
/-- Window 1's staging memref at a point. -/
abbrev stage1 (t : Fin cfg0.N) : Memref sig .tc .vmem S8192x128 .bf16 := win0_1.stage (cfg0.slots t 1)
/-- Window 2's staging memref at a point. -/
abbrev stage2 (t : Fin cfg0.N) : Memref sig .tc .vmem S1x8192x1 .f32 := win0_2.stage (cfg0.slots t 2)
/-- Window 3's staging memref at a point. -/
abbrev stage3 (t : Fin cfg0.N) : Memref sig .tc .vmem S1x8192x1 .f32 := win0_3.stage (cfg0.slots t 3)
/-- Window 4's staging memref at a point. -/
abbrev stage4 (t : Fin cfg0.N) : Memref sig .tc .vmem S1024x128 .bf16 := win0_4.stage (cfg0.slots t 4)
/-- Window 5's staging memref at a point. -/
abbrev stage5 (t : Fin cfg0.N) : Memref sig .tc .vmem S1024x128 .bf16 := win0_5.stage (cfg0.slots t 5)
/-- Window 6's staging memref at a point. -/
abbrev stage6 (t : Fin cfg0.N) : Memref sig .tc .vmem S8192x128 .f32 := win0_6.stage (cfg0.slots t 6)
/-- Window 7's staging memref at a point. -/
abbrev stage7 (t : Fin cfg0.N) : Memref sig .tc .vmem S1024x128 .f32 := win0_7.stage (cfg0.slots t 7)
/-- Window 8's staging memref at a point. -/
abbrev stage8 (t : Fin cfg0.N) : Memref sig .tc .vmem S1024x128 .f32 := win0_8.stage (cfg0.slots t 8)
/-- The first accumulator. -/
abbrev acc0 : Memref sig .tc .vmem S1024x128 .f32 := Memref.whole cc0_scratch0
/-- The second accumulator. -/
abbrev acc1 : Memref sig .tc .vmem S1024x128 .f32 := Memref.whole cc0_scratch1

/-- What the pipeline keeps between points: the two accumulators at some contents, and the generator's register. -/
theorem kept_eq (c : Dev nD) :
    (Pipeline.ΦA spec0 c : sProp 𝕄)
      = iprop(iprop((∃ d, owns (c : Thread nD τ) acc0 fullShare d) ∗ (∃ d, owns (c : Thread nD τ) acc1 fullShare d)) ∗ (∃ r, prngReg c r)) := by
  unfold Pipeline.ΦA; rw [scopedRest0_eq]; simp only [acc0, acc1, owns_whole]; try rfl

/-! ## The body's triple -/

set_option maxHeartbeats 4000000 in
/-- The body at any point, on whole staging memrefs: the six operands' windows at their contents, the three result
    windows and the two accumulators at anything.  It runs to the end with the operands' windows as they were and the
    rest at some contents, whether or not the point is a head's first (where `dq` is cleared). -/
theorem body_run (c : Dev nD) (i : grid0.Coords) (arg2 : Memref sig .tc .vmem S8192x128 .bf16) (harg2 : arg2.IsWhole) (arg3 : Memref sig .tc .vmem S8192x128 .bf16) (harg3 : arg3.IsWhole) (arg4 : Memref sig .tc .vmem S1x8192x1 .f32) (harg4 : arg4.IsWhole) (arg5 : Memref sig .tc .vmem S1x8192x1 .f32) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S8192x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole)
    (x0 : Vec F S8192x128 .bf16) (x1 : Vec F S8192x128 .bf16) (x2 : Vec F S1x8192x1 .f32) (x3 : Vec F S1x8192x1 .f32) (x4 : Vec F S1024x128 .bf16) (x5 : Vec F S1024x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    by_cases hc0 : (Scalar.cmpi .ne (Scalar.extui (Scalar.cmpi .eq (BitVec.ofNat 32 (i 1).val) 0#32)) 0#32) = 1#1
    · sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [HS0]
      · iexists _, _; isplitr; swap; · iexact HS0
        ipureintro; rfl
      iexists _, _; isplitr; swap; · iexact HS1
      ipureintro; rfl
    · sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [HS0]
      · iexists _, _; isplitr; swap; · iexact HS0
        ipureintro; rfl
      iexists _, _; isplitr; swap; · iexact HS1
      ipureintro; rfl

/-! ## The pipeline's proof data -/

/-- The result windows, of whose contents nothing is said: 6, 7 and 8. -/
def unsaid : Fin 9 → Bool := fun w => w.val == 6 || w.val == 7 || w.val == 8

/-- The data of the pipeline on device `c`: each array as the region finds it; after a point each operand's window
    still at its block; the accumulators at some contents; nothing owed; full shares. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The data's arrays are what the region finds. -/
theorem data_A (c : Dev nD) (w : Fin cfg0.W) : (data m 0 c).A w = V m c (Pipeline.arrRef spec0 w) := by
  dsimp only [data]

/-- After a point operand window 0 still holds its block, -/
theorem after0 (c : Dev nD) (t : Fin cfg0.N) : (data m 0 c).after 0 t = iblk m c 0 t := by dsimp only [data]
/-- and so it holds it before every point. -/
theorem before0 (c : Dev nD) (t : Fin cfg0.N) (d) : (data m 0 c).before 0 t d = iblk m c 0 t :=
  before0_0_of m (data m 0 c) (data_A m c 0) (after0 m c) t d
/-- After a point operand window 1 still holds its block, -/
theorem after1 (c : Dev nD) (t : Fin cfg0.N) : (data m 0 c).after 1 t = iblk m c 1 t := by dsimp only [data]
/-- and so it holds it before every point. -/
theorem before1 (c : Dev nD) (t : Fin cfg0.N) (d) : (data m 0 c).before 1 t d = iblk m c 1 t :=
  before0_1_of m (data m 0 c) (data_A m c 1) (after1 m c) t d
/-- After a point operand window 2 still holds its block, -/
theorem after2 (c : Dev nD) (t : Fin cfg0.N) : (data m 0 c).after 2 t = iblk m c 2 t := by dsimp only [data]
/-- and so it holds it before every point. -/
theorem before2 (c : Dev nD) (t : Fin cfg0.N) (d) : (data m 0 c).before 2 t d = iblk m c 2 t :=
  before0_2_of m (data m 0 c) (data_A m c 2) (after2 m c) t d
/-- After a point operand window 3 still holds its block, -/
theorem after3 (c : Dev nD) (t : Fin cfg0.N) : (data m 0 c).after 3 t = iblk m c 3 t := by dsimp only [data]
/-- and so it holds it before every point. -/
theorem before3 (c : Dev nD) (t : Fin cfg0.N) (d) : (data m 0 c).before 3 t d = iblk m c 3 t :=
  before0_3_of m (data m 0 c) (data_A m c 3) (after3 m c) t d
/-- After a point operand window 4 still holds its block, -/
theorem after4 (c : Dev nD) (t : Fin cfg0.N) : (data m 0 c).after 4 t = iblk m c 4 t := by dsimp only [data]
/-- and so it holds it before every point. -/
theorem before4 (c : Dev nD) (t : Fin cfg0.N) (d) : (data m 0 c).before 4 t d = iblk m c 4 t :=
  before0_4_of m (data m 0 c) (data_A m c 4) (after4 m c) t d
/-- After a point operand window 5 still holds its block, -/
theorem after5 (c : Dev nD) (t : Fin cfg0.N) : (data m 0 c).after 5 t = iblk m c 5 t := by dsimp only [data]
/-- and so it holds it before every point. -/
theorem before5 (c : Dev nD) (t : Fin cfg0.N) (d) : (data m 0 c).before 5 t d = iblk m c 5 t :=
  before0_5_of m (data m 0 c) (data_A m c 5) (after5 m c) t d

/-! ## The body's obligation -/

/-- What the body is called with at point `t`, window by window, -/
def given (c : Dev nD) (t : Fin cfg0.N) : sProp 𝕄 :=
  iprop((data m 0 c).Φ t.castSucc ∗ (data m 0 c).owesAt () t.castSucc
    ∗ (∃ d, owns (c : Thread nD τ) (stage0 t) fullShare ((data m 0 c).before 0 t d))
    ∗ (∃ d, owns (c : Thread nD τ) (stage1 t) fullShare ((data m 0 c).before 1 t d))
    ∗ (∃ d, owns (c : Thread nD τ) (stage2 t) fullShare ((data m 0 c).before 2 t d))
    ∗ (∃ d, owns (c : Thread nD τ) (stage3 t) fullShare ((data m 0 c).before 3 t d))
    ∗ (∃ d, owns (c : Thread nD τ) (stage4 t) fullShare ((data m 0 c).before 4 t d))
    ∗ (∃ d, owns (c : Thread nD τ) (stage5 t) fullShare ((data m 0 c).before 5 t d))
    ∗ (∃ d, owns (c : Thread nD τ) (stage6 t) fullShare d)
    ∗ (∃ d, owns (c : Thread nD τ) (stage7 t) fullShare d)
    ∗ (∃ d, owns (c : Thread nD τ) (stage8 t) fullShare d))

/-- and what it hands back. -/
def handed (c : Dev nD) (t : Fin cfg0.N) : sProp 𝕄 :=
  iprop((data m 0 c).Φ t.succ ∗ (data m 0 c).owesAt () t.succ
    ∗ owns (c : Thread nD τ) (stage0 t) fullShare ((data m 0 c).after 0 t)
    ∗ owns (c : Thread nD τ) (stage1 t) fullShare ((data m 0 c).after 1 t)
    ∗ owns (c : Thread nD τ) (stage2 t) fullShare ((data m 0 c).after 2 t)
    ∗ owns (c : Thread nD τ) (stage3 t) fullShare ((data m 0 c).after 3 t)
    ∗ owns (c : Thread nD τ) (stage4 t) fullShare ((data m 0 c).after 4 t)
    ∗ owns (c : Thread nD τ) (stage5 t) fullShare ((data m 0 c).after 5 t)
    ∗ (∃ d, owns (c : Thread nD τ) (stage6 t) fullShare d)
    ∗ (∃ d, owns (c : Thread nD τ) (stage7 t) fullShare d)
    ∗ (∃ d, owns (c : Thread nD τ) (stage8 t) fullShare d))

set_option maxHeartbeats 1600000 in
/-- The body at any point: the triple above, at the operands' blocks. -/
theorem body_sound (c : Dev nD) (t : Fin cfg0.N) :
    given m c t ⊢ wp frame (wpE (defs₀ (F := F)) Variants.none c none) Set.univ (bodyAt0 t) (fun _ => handed m c t) := by
  unfold given handed bodyAt0
  simp only [before0, before1, before2, before3, before4, before5]
  rw [show (data m 0 c).Φ t.succ = (data m 0 c).Φ t.castSucc from rfl,
    show (data m 0 c).owesAt () t.succ = (data m 0 c).owesAt () t.castSucc from rfl,
    after0, after1, after2, after3, after4, after5]
  rw [show (data m 0 c).Φ t.castSucc = Pipeline.ΦA spec0 c from rfl, kept_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((body_run c (grid0.coords t) _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The table's row for the body at point `t` is the body as it is spelled above. -/
theorem row_eq (t : Fin cfg0.N) :
    defs₀ (F := F) .tc cfg0.body (cfg0.bodyArgs t (cfg0.slots t)) = bodyAt0 t := by
  unfold defs₀; rw [Defs.onTc_tc]

/-- The pipeline's obligation on its body, at every point. -/
theorem obligation (c : Dev nD) : BodyObligation (data (F := F) m 0 c) (defs₀ (F := F)) Variants.none () Set.univ unsaid := fun t => by
  rw [bigSep_W0, bigSep_W0, row_eq]
  exact triple_restated (body_sound m c t) rfl .rfl fun _ => .rfl

/-! ## The run and the frame -/

set_option backward.isDefEq.respectTransparency.types false in
/-- The launch: it ends with every operand's array unchanged, every other buffer as the region found it, and every
    semaphore at zero. -/
theorem run_quiet : θ_run defs (onTc (τ := τ) (main (F := F))) (s₀ m ρ) (fun r => (Pipeline.RDat.FramePost (cfgs 0) (fun c => (data m 0 c).toRForget unsaid) (V m)) r ∧ r.2.sem = fun _ => 0) :=
  Pipeline.θ_run_frame_forget (Q' := _) cfgs (data m) (0 : Fin 1) launch0 defs₀ Variants.none unsaid m ρ main
    (hbody := fun c => (obligation m c).loose) (hshare := fun c => (data m 0 c).share_full fun _ => rfl)
    (howed := fun _ _ => rfl) (V := V m) (hmain := hmain m Variants.none) (hA := data_A m) (hΦ := fun _ _ => rfl)

/-- The frame: the kernel ends with its four arguments as they were and with no semaphore counted. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_quiet m ρ)

end Cert.Kernel.AttnBwd

end
-- ==== Proof.Run.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.WordCmp
public import Idealize.ShloMosaic.Lib.Pointwise
public import Idealize.ShloMosaic.Lib.WritesUnit
public import Idealize.ShloMosaic.Lib.VecWindow

@[expose] public section

set_option maxRecDepth 16384

noncomputable section

namespace Cert.KernelIdeal.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- A buffer on chip, and what it holds. -/
abbrev VRef := Memref sig .tc .vmem
abbrev Held {S : Shape} {e : EltTy} (a : VRef S e) := BufTy.Contents (Elt Ideal) a.view.ty

variable {F : FTy → Type} [FloatOps F] [Named F]

/-- The resource algebra of the run. -/
local notation "𝕄" => MT nD τ sig Unit (Elt F) ℕ (UR sig nD τ) ℕ

/-- What the body does between the clearing of `dq` at a head's first point and the diagonal's products: it clears
    the two accumulators, and reads the block of keys, the block of values and the first diagonal rows. -/
noncomputable def start (i : grid0.Coords) (u2 : VRef S8192x128 .bf16) (w2 : u2.IsWhole) (u3 : VRef S8192x128 .bf16) (w3 : u3.IsWhole) (u4 : VRef S1x8192x1 .f32) (w4 : u4.IsWhole) (u5 : VRef S1x8192x1 .f32) (w5 : u5.IsWhole)
    (u6 : VRef S1024x128 .bf16) (w6 : u6.IsWhole) (u7 : VRef S1024x128 .bf16) (w7 : u7.IsWhole) (u8 : VRef S8192x128 .f32) (w8 : u8.IsWhole)
    (u9 : VRef S1024x128 .f32) (w9 : u9.IsWhole) (u10 : VRef S1024x128 .f32) (w10 : u10.IsWhole) (u11 : VRef S1024x128 .f32) (w11 : u11.IsWhole) (u12 : VRef S1024x128 .f32) (w12 : u12.IsWhole) :
    Prog (TpuEff nD τ sig (Elt F) Λ₀ .tc) (Σ' (u1 : BitVec 32) (v12 : FVec F S1024x128 .bf16) (v14 : FVec F S1024x128 .bf16) (v17 : BitVec 32) (v20 : BitVec 32) (v23 : BitVec 32) (v26 : BitVec 32) (v29 : FVec F S256x128 .bf16), FVec F S256x128 .bf16) := do
  let u1 : BitVec 32 := BitVec.ofNat 32 (i 1).val
  let v4 : Vec F S1024x128 .f32 ← Prog.lift (.load u11 (Rect.unit (s := S1024x128) ![0, 0] S1024x128.size inb_S1024x128_S1024x128_0_0).toLoadRect (View.loadsAt_vmem h_S1024x128))
  Prog.lift (.store u11 (Rect.unit (s := S1024x128) ![0, 0] S1024x128.size inb_S1024x128_S1024x128_0_0) (k0_pay38 (F := F)) Finset.univ (View.stores_vmem_bits_univ h_S1024x128 rfl) (.inl rfl))
  let v8 : Vec F S1024x128 .f32 ← Prog.lift (.load u12 (Rect.unit (s := S1024x128) ![0, 0] S1024x128.size inb_S1024x128_S1024x128_0_0).toLoadRect (View.loadsAt_vmem h_S1024x128))
  Prog.lift (.store u12 (Rect.unit (s := S1024x128) ![0, 0] S1024x128.size inb_S1024x128_S1024x128_0_0) (k0_pay39 (F := F)) Finset.univ (View.stores_vmem_bits_univ h_S1024x128 rfl) (.inl rfl))
  let v11 : Vec F S1024x128 .bf16 ← Prog.lift (.load u6 (Rect.unit (s := S1024x128) ![0, 0] S1024x128.size inb_S1024x128_S1024x128_0_0).toLoadRect (View.loadsAt_vmem h_S1024x128))
  let v13 : Vec F S1024x128 .bf16 ← Prog.lift (.load u7 (Rect.unit (s := S1024x128) ![0, 0] S1024x128.size inb_S1024x128_S1024x128_0_0).toLoadRect (View.loadsAt_vmem h_S1024x128))
  let v15 : BitVec 32 := Scalar.muli u1 1024#32
  let v16 : BitVec 32 := Scalar.addi v15 0#32
  let v17 : BitVec 32 := v16
  let v18 : BitVec 32 := Scalar.muli u1 1024#32
  let v19 : BitVec 32 := Scalar.addi v18 256#32
  let v20 : BitVec 32 := v19
  let v21 : BitVec 32 := Scalar.muli u1 1024#32
  let v22 : BitVec 32 := Scalar.addi v21 512#32
  let v23 : BitVec 32 := v22
  let v24 : BitVec 32 := Scalar.muli u1 1024#32
  let v25 : BitVec 32 := Scalar.addi v24 768#32
  let v26 : BitVec 32 := v25
  let v28 : Vec F S256x128 .bf16 ← Prog.lift (.load u2 (Rect.unit (s := S8192x128) (k0_off1 i 0#32) S256x128.size (k0_off1_inb i 0)).toLoadRect (View.loadsAt_vmem h_S256x128))
  let v31 : Vec F S256x128 .bf16 ← Prog.lift (.load u2 (Rect.unit (s := S8192x128) (k0_off1 i 256#32) S256x128.size (k0_off1_inb i 1)).toLoadRect (View.loadsAt_vmem h_S256x128))
  pure ⟨u1, k0_pay40 v11, k0_pay41 v13, v17, v20, v23, v26, k0_pay42 v28, k0_pay43 v31⟩

/-- The body without the clearing of `dq`. -/
noncomputable def tail (i : grid0.Coords) (u2 : VRef S8192x128 .bf16) (w2 : u2.IsWhole) (u3 : VRef S8192x128 .bf16) (w3 : u3.IsWhole) (u4 : VRef S1x8192x1 .f32) (w4 : u4.IsWhole) (u5 : VRef S1x8192x1 .f32) (w5 : u5.IsWhole)
    (u6 : VRef S1024x128 .bf16) (w6 : u6.IsWhole) (u7 : VRef S1024x128 .bf16) (w7 : u7.IsWhole) (u8 : VRef S8192x128 .f32) (w8 : u8.IsWhole)
    (u9 : VRef S1024x128 .f32) (w9 : u9.IsWhole) (u10 : VRef S1024x128 .f32) (w10 : u10.IsWhole) (u11 : VRef S1024x128 .f32) (w11 : u11.IsWhole) (u12 : VRef S1024x128 .f32) (w12 : u12.IsWhole) :
    Prog (TpuEff nD τ sig (Elt F) Λ₀ .tc) PUnit := do
  let ⟨u1, v12, v14, v17, v20, v23, v26, v29, v32⟩ : Σ' (u1 : BitVec 32) (v12 : FVec F S1024x128 .bf16) (v14 : FVec F S1024x128 .bf16) (v17 : BitVec 32) (v20 : BitVec 32) (v23 : BitVec 32) (v26 : BitVec 32) (v29 : FVec F S256x128 .bf16), FVec F S256x128 .bf16 ← start i u2 w2 u3 w3 u4 w4 u5 w5 u6 w6 u7 w7 u8 w8 u9 w9 u10 w10 u11 w11 u12 w12
  let ⟨v35, v38, v41, v44, v47, v50, v54, v56, v57, v59, v61, v63, v64, v70, v75⟩ : Σ' (v35 : FVec F S256x128 .bf16) (v38 : FVec F S256x128 .bf16) (v41 : FVec F S256x128 .bf16) (v44 : FVec F S256x128 .bf16) (v47 : FVec F S256x128 .bf16) (v50 : FVec F S256x128 .bf16) (v54 : FVec F S256x512 .f32) (v56 : FVec F S256x768 .f32) (v57 : FVec F S256x1024 .f32) (v59 : FVec F S256x256 .f32) (v61 : FVec F S256x512 .f32) (v63 : FVec F S256x768 .f32) (v64 : FVec F S256x1024 .f32) (v70 : FVec F S256x256 .f32), IVec S256x256 1 ← k0_part6 i u2 w2 u3 w3 u4 w4 u5 w5 u6 w6 u7 w7 u8 w8 u9 w9 u10 w10 u11 w11 u12 w12 v12 v14 v17 v20 v23 v26 v29 v32
  let v113 : FVec F S256x512 .f32 ← k0_part7 i u2 w2 u3 w3 u4 w4 u5 w5 u6 w6 u7 w7 u8 w8 u9 w9 u10 w10 u11 w11 u12 w12 v12 v17 v20 v29 v41 v54 v59 v70 v75
  k0_part8 i u2 w2 u3 w3 u4 w4 u5 w5 u6 w6 u7 w7 u8 w8 u9 w9 u10 w10 u11 w11 u12 w12 v12 v20 v23 v32 v44 v61 v113
  let v191 : FVec F S256x128 .f32 ← k0_part9 i u2 w2 u3 w3 u4 w4 u5 w5 u6 w6 u7 w7 u8 w8 u9 w9 u10 w10 u11 w11 u12 w12 v12 v23 v35 v47 v56 v63
  let ⟨v214, v229, cst_106⟩ : Σ' (v214 : FVec F S256x1024 .bf16) (v229 : FVec F S256x128 .f32), FVec F S256x128 .f32 ← k0_part10 i u2 w2 u3 w3 u4 w4 u5 w5 u6 w6 u7 w7 u8 w8 u9 w9 u10 w10 u11 w11 u12 w12 v23 v26 v38 v50 v57 v64 v191
  let v235 : Vec F S256x128 .f32 ← Prog.lift (.load u8 (Rect.unit (s := S8192x128) (k0_off1 i 768#32) S256x128.size (k0_off1_inb i 3)).toLoadRect (View.loadsAt_vmem h_S256x128))
  Prog.lift (.store u8 (Rect.unit (s := S8192x128) (k0_off1 i 768#32) S256x128.size (k0_off1_inb i 3)) (k0_pay1 v12 v214 v229 cst_106) Finset.univ (View.stores_vmem_bits_univ h_S256x128 rfl) (.inl rfl))
  let v236 : BitVec 32 := Scalar.addi u1 1#32
  let v237 : BitVec 32 := Scalar.subi 8#32 v236
  let v239 : BitVec 32 := Scalar.divsi v237 1#32
  let v240 : BitVec 32 := Scalar.muli v239 1#32
  let v241 : BitVec 32 := Scalar.addi v236 v240
  Scf.Loop.for (k0_t1_loop i) (k0_t1_ok i) ⟨⟩ (k0_t1_body i u2 w2 u3 w3 u4 w4 u5 w5 u6 w6 u7 w7 u8 w8 u9 w9 u10 w10 u11 w11 u12 w12 v12 v14 v236)
  Scf.Loop.for (k0_t2_loop i) (k0_t2_ok i) ⟨⟩ (k0_t2_body i u2 w2 u3 w3 u4 w4 u5 w5 u6 w6 u7 w7 u8 w8 u9 w9 u10 w10 u11 w11 u12 w12 v12 v14 v241)
  let v242 : Vec F S1024x128 .f32 ← Prog.lift (.load u11 (Rect.unit (s := S1024x128) ![0, 0] S1024x128.size inb_S1024x128_S1024x128_0_0).toLoadRect (View.loadsAt_vmem h_S1024x128))
  let v245 : Vec F S1024x128 .f32 ← Prog.lift (.load u9 (Rect.unit (s := S1024x128) ![0, 0] S1024x128.size inb_S1024x128_S1024x128_0_0).toLoadRect (View.loadsAt_vmem h_S1024x128))
  Prog.lift (.store u9 (Rect.unit (s := S1024x128) ![0, 0] S1024x128.size inb_S1024x128_S1024x128_0_0) (k0_pay6 v242) Finset.univ (View.stores_vmem_bits_univ h_S1024x128 rfl) (.inl rfl))
  let v246 : Vec F S1024x128 .f32 ← Prog.lift (.load u12 (Rect.unit (s := S1024x128) ![0, 0] S1024x128.size inb_S1024x128_S1024x128_0_0).toLoadRect (View.loadsAt_vmem h_S1024x128))
  let v247 : Vec F S1024x128 .f32 ← Prog.lift (.load u10 (Rect.unit (s := S1024x128) ![0, 0] S1024x128.size inb_S1024x128_S1024x128_0_0).toLoadRect (View.loadsAt_vmem h_S1024x128))
  Prog.lift (.store u10 (Rect.unit (s := S1024x128) ![0, 0] S1024x128.size inb_S1024x128_S1024x128_0_0) v246 Finset.univ (View.stores_vmem_bits_univ h_S1024x128 rfl) (.inl rfl))
  pure ⟨⟩

/-- The body's branch condition: whether this is the first point of its head. -/
abbrev first (i : grid0.Coords) : Prop := (Scalar.cmpi .ne (Scalar.extui (Scalar.cmpi .eq (BitVec.ofNat 32 (i 1).val) 0#32)) 0#32) = 1#1

/-- At a later point of a head the body is `tail`. -/
theorem body_later (i : grid0.Coords) (u2 : VRef S8192x128 .bf16) (w2 : u2.IsWhole) (u3 : VRef S8192x128 .bf16) (w3 : u3.IsWhole) (u4 : VRef S1x8192x1 .f32) (w4 : u4.IsWhole) (u5 : VRef S1x8192x1 .f32) (w5 : u5.IsWhole)
    (u6 : VRef S1024x128 .bf16) (w6 : u6.IsWhole) (u7 : VRef S1024x128 .bf16) (w7 : u7.IsWhole) (u8 : VRef S8192x128 .f32) (w8 : u8.IsWhole)
    (u9 : VRef S1024x128 .f32) (w9 : u9.IsWhole) (u10 : VRef S1024x128 .f32) (w10 : u10.IsWhole) (u11 : VRef S1024x128 .f32) (w11 : u11.IsWhole) (u12 : VRef S1024x128 .f32) (w12 : u12.IsWhole) (h : ¬ first i) :
    cc0_attn_bwd (F := F) i u2 w2 u3 w3 u4 w4 u5 w5 u6 w6 u7 w7 u8 w8 u9 w9 u10 w10 u11 w11 u12 w12 = tail i u2 w2 u3 w3 u4 w4 u5 w5 u6 w6 u7 w7 u8 w8 u9 w9 u10 w10 u11 w11 u12 w12 := by
  simp only [cc0_attn_bwd_eq_skeleton]; unfold cc0_attn_bwd_skel
  simp only [k0_part5_eq_skeleton]; unfold k0_part5_skel
  simp only [dif_neg h]
  rfl

/-- At the first point of a head the body clears `dq` and goes on as `tail`. -/
theorem body_first (i : grid0.Coords) (u2 : VRef S8192x128 .bf16) (w2 : u2.IsWhole) (u3 : VRef S8192x128 .bf16) (w3 : u3.IsWhole) (u4 : VRef S1x8192x1 .f32) (w4 : u4.IsWhole) (u5 : VRef S1x8192x1 .f32) (w5 : u5.IsWhole)
    (u6 : VRef S1024x128 .bf16) (w6 : u6.IsWhole) (u7 : VRef S1024x128 .bf16) (w7 : u7.IsWhole) (u8 : VRef S8192x128 .f32) (w8 : u8.IsWhole)
    (u9 : VRef S1024x128 .f32) (w9 : u9.IsWhole) (u10 : VRef S1024x128 .f32) (w10 : u10.IsWhole) (u11 : VRef S1024x128 .f32) (w11 : u11.IsWhole) (u12 : VRef S1024x128 .f32) (w12 : u12.IsWhole) (h : first i) :
    cc0_attn_bwd (F := F) i u2 w2 u3 w3 u4 w4 u5 w5 u6 w6 u7 w7 u8 w8 u9 w9 u10 w10 u11 w11 u12 w12 = (do
      let _ ← Prog.lift (.load u8 (Rect.unit (s := S8192x128) ![0, 0] S8192x128.size inb_S8192x128_S8192x128_0_0).toLoadRect (View.loadsAt_vmem h_S8192x128))
      Prog.lift (.store u8 (Rect.unit (s := S8192x128) ![0, 0] S8192x128.size inb_S8192x128_S8192x128_0_0) (k0_pay37 (F := F)) Finset.univ (View.stores_vmem_bits_univ h_S8192x128 rfl) (.inl rfl))
      tail i u2 w2 u3 w3 u4 w4 u5 w5 u6 w6 u7 w7 u8 w8 u9 w9 u10 w10 u11 w11 u12 w12) := by
  simp only [cc0_attn_bwd_eq_skeleton]; unfold cc0_attn_bwd_skel
  simp only [k0_part5_eq_skeleton]; unfold k0_part5_skel
  simp only [dif_pos h]
  rfl

set_option maxHeartbeats 2000000 in
/-- The run of `tail`: what it leaves in the three results and the two accumulators, as functions of what it finds there
    (the witnesses are the run's own). -/
@[irreducible] def run (c : Dev nD) (i : grid0.Coords) (u2 : VRef S8192x128 .bf16) (w2 : u2.IsWhole) (u3 : VRef S8192x128 .bf16) (w3 : u3.IsWhole) (u4 : VRef S1x8192x1 .f32) (w4 : u4.IsWhole) (u5 : VRef S1x8192x1 .f32) (w5 : u5.IsWhole)
    (u6 : VRef S1024x128 .bf16) (w6 : u6.IsWhole) (u7 : VRef S1024x128 .bf16) (w7 : u7.IsWhole) (u8 : VRef S8192x128 .f32) (w8 : u8.IsWhole)
    (u9 : VRef S1024x128 .f32) (w9 : u9.IsWhole) (u10 : VRef S1024x128 .f32) (w10 : u10.IsWhole) (u11 : VRef S1024x128 .f32) (w11 : u11.IsWhole) (u12 : VRef S1024x128 .f32) (w12 : u12.IsWhole)
    (X2 : BufTy.Contents (Elt F) u2.view.ty) (X3 : BufTy.Contents (Elt F) u3.view.ty) (X4 : BufTy.Contents (Elt F) u4.view.ty) (X5 : BufTy.Contents (Elt F) u5.view.ty) (X6 : BufTy.Contents (Elt F) u6.view.ty) (X7 : BufTy.Contents (Elt F) u7.view.ty) :
    Σ' (Y8 : BufTy.Contents (Elt F) u8.view.ty → BufTy.Contents (Elt F) u9.view.ty → BufTy.Contents (Elt F) u10.view.ty → BufTy.Contents (Elt F) u11.view.ty → BufTy.Contents (Elt F) u12.view.ty → BufTy.Contents (Elt F) u8.view.ty),
      Σ' (Y9 : BufTy.Contents (Elt F) u8.view.ty → BufTy.Contents (Elt F) u9.view.ty → BufTy.Contents (Elt F) u10.view.ty → BufTy.Contents (Elt F) u11.view.ty → BufTy.Contents (Elt F) u12.view.ty → BufTy.Contents (Elt F) u9.view.ty),
      Σ' (Y10 : BufTy.Contents (Elt F) u8.view.ty → BufTy.Contents (Elt F) u9.view.ty → BufTy.Contents (Elt F) u10.view.ty → BufTy.Contents (Elt F) u11.view.ty → BufTy.Contents (Elt F) u12.view.ty → BufTy.Contents (Elt F) u10.view.ty),
      Σ' (Y11 : BufTy.Contents (Elt F) u8.view.ty → BufTy.Contents (Elt F) u9.view.ty → BufTy.Contents (Elt F) u10.view.ty → BufTy.Contents (Elt F) u11.view.ty → BufTy.Contents (Elt F) u12.view.ty → BufTy.Contents (Elt F) u11.view.ty),
      { Y12 : BufTy.Contents (Elt F) u8.view.ty → BufTy.Contents (Elt F) u9.view.ty → BufTy.Contents (Elt F) u10.view.ty → BufTy.Contents (Elt F) u11.view.ty → BufTy.Contents (Elt F) u12.view.ty → BufTy.Contents (Elt F) u12.view.ty // ∀ (E : Set ℕ) (f8 : BufTy.Contents (Elt F) u8.view.ty) (f9 : BufTy.Contents (Elt F) u9.view.ty) (f10 : BufTy.Contents (Elt F) u10.view.ty) (f11 : BufTy.Contents (Elt F) u11.view.ty) (f12 : BufTy.Contents (Elt F) u12.view.ty),
      (iprop((u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u5.view.loc (c : Thread nD τ) ↦[u5.view.set]{fullShare} X5) ∗ (u6.view.loc (c : Thread nD τ) ↦[u6.view.set]{fullShare} X6) ∗ (u7.view.loc (c : Thread nD τ) ↦[u7.view.set]{fullShare} X7) ∗ (u8.view.loc (c : Thread nD τ) ↦[u8.view.set]{fullShare} f8) ∗ (u9.view.loc (c : Thread nD τ) ↦[u9.view.set]{fullShare} f9) ∗ (u10.view.loc (c : Thread nD τ) ↦[u10.view.set]{fullShare} f10) ∗ (u11.view.loc (c : Thread nD τ) ↦[u11.view.set]{fullShare} f11) ∗ (u12.view.loc (c : Thread nD τ) ↦[u12.view.set]{fullShare} f12)) : sProp 𝕄)
      ⊢ wp frame (wpE (defs₀ (F := F)) Variants.none (c : Thread nD τ) none) E (tail i u2 w2 u3 w3 u4 w4 u5 w5 u6 w6 u7 w7 u8 w8 u9 w9 u10 w10 u11 w11 u12 w12)
        (fun _ => iprop((u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u5.view.loc (c : Thread nD τ) ↦[u5.view.set]{fullShare} X5) ∗ (u6.view.loc (c : Thread nD τ) ↦[u6.view.set]{fullShare} X6) ∗ (u7.view.loc (c : Thread nD τ) ↦[u7.view.set]{fullShare} X7) ∗ (u8.view.loc (c : Thread nD τ) ↦[u8.view.set]{fullShare} (Y8 f8 f9 f10 f11 f12)) ∗ (u9.view.loc (c : Thread nD τ) ↦[u9.view.set]{fullShare} (Y9 f8 f9 f10 f11 f12)) ∗ (u10.view.loc (c : Thread nD τ) ↦[u10.view.set]{fullShare} (Y10 f8 f9 f10 f11 f12)) ∗ (u11.view.loc (c : Thread nD τ) ↦[u11.view.set]{fullShare} (Y11 f8 f9 f10 f11 f12)) ∗ (u12.view.loc (c : Thread nD τ) ↦[u12.view.set]{fullShare} (Y12 f8 f9 f10 f11 f12)))) } := by
  refine ⟨?_, ?_, ?_, ?_, ?_, fun E f8 f9 f10 f11 f12 => ?run⟩
  case run =>
    unfold tail start
    simp only [k0_part6_eq_skeleton, k0_part7_eq_skeleton, k0_part8_eq_skeleton, k0_part9_eq_skeleton, k0_part10_eq_skeleton]
    iintro ⟨H2, H3, H4, H5, H6, H7, H8, H9, H10, H11, H12⟩
    sl_exec
    sl_step
    sl_close

end Cert.KernelIdeal.AttnBwd

end
-- ==== Proof.Pay.lean ====
module

public import proofs.«01_k».proof.Proof.Gen.KernelIdeal.Skeleton
public import Idealize.ShloMosaic.Lib.Pointwise
public import Idealize.ShloMosaic.Lib.WordCmp
public import Idealize.ShloMosaic.Lib.Tactic

@[expose] public section

set_option maxRecDepth 16384

noncomputable section

namespace Cert.KernelIdeal.AttnBwd

open Idealize.ShloMosaic Idealize.ShloMosaic.TcCoe Idealize.ShloMosaic.Tactic
open Cert.KernelIdeal Cert.KernelIdeal.Gen

/-! ## The quantities the backward pass forms -/

/-- What one point of the grid works on: the head's rows `q` (scaled) and `g` (the incoming gradient) with their
    row constants `lse` and `dl`, and the block's keys `k` and values `v`. -/
structure Blk where
  q : ℕ → Fin 128 → EReal
  g : ℕ → Fin 128 → EReal
  lse : ℕ → EReal
  dl : ℕ → EReal
  k : ℕ → Fin 128 → EReal
  v : ℕ → Fin 128 → EReal

/-- The probability of column `c` of block `j` for row `r`: zero past the diagonal. -/
def Blk.P (B : Blk) (j r c : ℕ) : EReal :=
  if c + 1024 * j ≤ r then Ideal.exp2 ((∑ d, B.q r d * B.k c d) - B.lse r) else 0

/-- The gradient of the score of row `r` at column `c` of block `j`. -/
def Blk.D (B : Blk) (j r c : ℕ) : EReal :=
  B.P j r c * ((∑ d, B.g r d * B.v c d) - B.dl r)

/-- The scale of the scores, `1 / √96`. -/
def sm : EReal := (((Real.sqrt 96)⁻¹ : ℝ) : EReal)

/-- The natural logarithm of 2. -/
def ln2 : EReal := ((Real.log 2 : ℝ) : EReal)

theorem named_sm : Named.named (F := Ideal) (φ := .f32) κ "sm_scale" 0x3DD105EC#32 = sm :=
  IdealRules.named_const.ideal_named_scalar _ _ _ _ rfl

theorem named_ln2 : Named.named (F := Ideal) (φ := .f32) κ "ln2" 0x3F317218#32 = ln2 :=
  IdealRules.named_const.ideal_named_scalar _ _ _ _ rfl

theorem Blk.P_zero (B : Blk) {j r c : ℕ} (h : r < c + 1024 * j) : B.P j r c = 0 := if_neg (by omega)

theorem Blk.D_zero (B : Blk) {j r c : ℕ} (h : r < c + 1024 * j) : B.D j r c = 0 := by
  rw [Blk.D, B.P_zero h, zero_mul]

/-- A mask of the diagonal block as a condition on the row and the column. -/
theorem mask_sel {α : Type} (o r c : ℕ) (hr : r < 1024) (hc : c < 1024) (ho : o < 1024) (x y : α) :
    Scalar.select (IntOp.cmpi .sle (BitVec.ofNat 32 c) (IntOp.addi (BitVec.ofNat 32 r) (BitVec.ofNat 32 o))) x y
      = if c ≤ r + o then x else y := by
  have h : IntOp.addi (BitVec.ofNat 32 r) (BitVec.ofNat 32 o) = BitVec.ofNat 32 (r + o) := (BitVec.ofNat_add r o).symm
  rw [h, WordCmp.cmpi_sle_ofNat (by omega) (by omega)]
  by_cases hc : c ≤ r + o
  · simp [hc, Scalar.select]
  · simp [hc, Scalar.select]

/-- The gradients of a row's scores vanish past the diagonal, so the block's sum needs only the columns up to it. -/
theorem Blk.sum_D_short (B : Blk) {j r n : ℕ} (hn : n ≤ 1024) (hr : r < 1024 * j + n) (f : ℕ → EReal) :
    ∑ c ∈ Finset.range n, B.D j r c * f c = ∑ c ∈ Finset.range 1024, B.D j r c * f c := by
  refine Finset.sum_subset (fun x hx => ?_) fun c hc hc' => ?_
  · simp only [Finset.mem_range] at *; omega
  · simp only [Finset.mem_range] at *
    rw [B.D_zero (by omega), zero_mul]

/-! ## Rows `0` to `256` of the diagonal block: columns below 256 -/

section
variable (j : ℕ) (B : Blk) (k v : FVec Ideal S1024x128 .bf16) (q g : FVec Ideal S256x128 .bf16) (l e : Vec Ideal S1x256x1 .f32) (R : ℕ)
    (hk : ∀ (c : Fin 1024) d, k (ix2 c d) = B.k c d) (hv : ∀ (c : Fin 1024) d, v (ix2 c d) = B.v c d)
    (hq : ∀ (ρ : Fin 256) d, q (ix2 ρ d) = B.q (R + ρ) d) (hg : ∀ (ρ : Fin 256) d, g (ix2 ρ d) = B.g (R + ρ) d)
    (hl : ∀ ρ : Fin 256, l (ix3 0 ρ 0) = B.lse (R + ρ)) (he : ∀ ρ : Fin 256, e (ix3 0 ρ 0) = B.dl (R + ρ))
  (hR : R = 1024 * j + 0)
include hk hq hl hR in
/-- The probabilities. -/
theorem p_d0 (ρ : Fin 256) (c : Fin 256) : (k0_pay59 (k0_pay57 k q l) k0_pay58) (ix2 ρ c) = B.P j (R + ρ) c := by
  unfold k0_pay59 k0_pay57 k0_pay58
  simp only [pointwise, List.foldl]
  have hs : ∀ d, k (ix2 ⟨c, by omega⟩ d) = B.k c d := fun d => hk ⟨c, by omega⟩ d
  have hm := mask_sel (α := EReal) 0 ρ c (by omega) (by omega) (by omega)
  have hi : ((c : ℕ) ≤ ρ + 0) = ((c : ℕ) + 1024 * j ≤ R + ρ) := by rw [hR]; exact propext (by omega)
  simp [hq, hl, Blk.P] at hs hm hi ⊢
  simp [hs, hm, hi]
  rfl

include hk hv hq hg hl he hR in
/-- The gradients of the scores. -/
theorem ds_d0 (ρ : Fin 256) (c : Fin 256) : (k0_pay60 (k0_pay53 v (g)) (k0_pay57 k q l) k0_pay58 e) (ix2 ρ c) = B.D j (R + ρ) c := by
  have hp := p_d0 j B k q l R hk hq hl hR ρ c
  unfold k0_pay60 k0_pay53 k0_pay46
  simp only [pointwise, List.foldl]
  have hs : ∀ d, v (ix2 ⟨c, by omega⟩ d) = B.v c d := fun d => hv ⟨c, by omega⟩ d
  simp [hg, he, hp, Blk.D] at hs ⊢
  simp [hs]

include hk hq hg hl hR in
/-- What the rows add to the values' gradient. -/
theorem dva_d0 (a : Vec Ideal S256x128 .f32) (c : Fin 256) (d : Fin 128) : (k0_pay61 g (k0_pay57 k q l) k0_pay58 a) (ix2 c d)
    = a (ix2 c d) + ∑ ρ ∈ Finset.range 256, B.P j (R + ρ) c * B.g (R + ρ) d := by
  have hp := fun ρ => p_d0 j B k q l R hk hq hl hR ρ c
  unfold k0_pay61
  simp only [pointwise]
  simp only [hp, hg, zero_add, Finset.sum_range]

include hk hv hq hg hl he hR in
/-- What the rows add to the keys' gradient. -/
theorem dka_d0 (q' : FVec Ideal S256x128 .bf16) (hq' : ∀ (ρ : Fin 256) d, q' (ix2 ρ d) = B.q (R + ρ) d) (a : Vec Ideal S256x128 .f32) (c : Fin 256) (d : Fin 128) : (k0_pay62 q' (k0_pay53 v g) (k0_pay57 k q l) k0_pay58 e a) (ix2 c d)
    = a (ix2 c d) + ∑ ρ ∈ Finset.range 256, B.D j (R + ρ) c * B.q (R + ρ) d := by
  have hp := fun ρ => ds_d0 j B k v q g l e R hk hv hq hg hl he hR ρ c
  unfold k0_pay62
  simp only [pointwise]
  simp only [hp, hq', zero_add, Finset.sum_range]

include hk hv hq hg hl he hR in
/-- What the block adds to the rows' gradient. -/
theorem dq_d0 (a : Vec Ideal S256x128 .f32) (ρ : Fin 256) (d : Fin 128) : (k0_pay63 k (k0_pay53 v g) (k0_pay57 k q l) k0_pay58 e a) (ix2 ρ d)
    = a (ix2 ρ d) + (∑ c ∈ Finset.range 1024, B.D j (R + ρ) c * B.k c d) * sm := by
  have hp := ds_d0 j B k v q g l e R hk hv hq hg hl he hR ρ
  rw [← B.sum_D_short (n := 256) (by omega) (by omega), Finset.sum_range]
  have hs : ∀ c : Fin 256, k (ix2 ⟨c, by omega⟩ d) = B.k c d := fun c => hk ⟨c, by omega⟩ d
  unfold k0_pay63
  simp only [pointwise]
  simp only [hp, hs, zero_add, named_sm, Matrix.cons_val_zero, Matrix.cons_val_one]

end

/-! ## Rows `256` to `512` of the diagonal block: columns below 512 -/

section
variable (j : ℕ) (B : Blk) (k v : FVec Ideal S1024x128 .bf16) (q g : FVec Ideal S256x128 .bf16) (l e : Vec Ideal S1x256x1 .f32) (R : ℕ)
    (hk : ∀ (c : Fin 1024) d, k (ix2 c d) = B.k c d) (hv : ∀ (c : Fin 1024) d, v (ix2 c d) = B.v c d)
    (hq : ∀ (ρ : Fin 256) d, q (ix2 ρ d) = B.q (R + ρ) d) (hg : ∀ (ρ : Fin 256) d, g (ix2 ρ d) = B.g (R + ρ) d)
    (hl : ∀ ρ : Fin 256, l (ix3 0 ρ 0) = B.lse (R + ρ)) (he : ∀ ρ : Fin 256, e (ix3 0 ρ 0) = B.dl (R + ρ))
  (hR : R = 1024 * j + 256)
include hk hq hl hR in
/-- The probabilities. -/
theorem p_d1 (ρ : Fin 256) (c : Fin 512) : (k0_pay65 (k0_pay64 (k0_pay50 k q) l)) (ix2 ρ c) = B.P j (R + ρ) c := by
  unfold k0_pay65 k0_pay64 k0_pay50
  simp only [pointwise, List.foldl]
  have hs : ∀ d, k (ix2 ⟨c, by omega⟩ d) = B.k c d := fun d => hk ⟨c, by omega⟩ d
  have hm := mask_sel (α := EReal) 256 ρ c (by omega) (by omega) (by omega)
  have hi : ((c : ℕ) ≤ ρ + 256) = ((c : ℕ) + 1024 * j ≤ R + ρ) := by rw [hR]; exact propext (by omega)
  simp [hq, hl, Blk.P] at hs hm hi ⊢
  simp [hs, hm, hi]
  rfl

include hk hv hq hg hl he hR in
/-- The gradients of the scores. -/
theorem ds_d1 (ρ : Fin 256) (c : Fin 512) : (k0_pay66 (k0_pay54 v g) (k0_pay64 (k0_pay50 k q) l) e) (ix2 ρ c) = B.D j (R + ρ) c := by
  have hp := p_d1 j B k q l R hk hq hl hR ρ c
  unfold k0_pay66 k0_pay54 k0_pay47
  simp only [pointwise, List.foldl]
  have hs : ∀ d, v (ix2 ⟨c, by omega⟩ d) = B.v c d := fun d => hv ⟨c, by omega⟩ d
  simp [hg, he, hp, Blk.D] at hs ⊢
  simp [hs]

include hk hq hg hl hR in
/-- What the rows add to the values' gradient. -/
theorem dva_d1 (a : Vec Ideal S512x128 .f32) (c : Fin 512) (d : Fin 128) : (k0_pay67 g (k0_pay64 (k0_pay50 k q) l) a) (ix2 c d)
    = a (ix2 c d) + ∑ ρ ∈ Finset.range 256, B.P j (R + ρ) c * B.g (R + ρ) d := by
  have hp := fun ρ => p_d1 j B k q l R hk hq hl hR ρ c
  unfold k0_pay67
  simp only [pointwise]
  simp only [hp, hg, zero_add, Finset.sum_range]

include hk hv hq hg hl he hR in
/-- What the rows add to the keys' gradient. -/
theorem dka_d1 (q' : FVec Ideal S256x128 .bf16) (hq' : ∀ (ρ : Fin 256) d, q' (ix2 ρ d) = B.q (R + ρ) d) (a : Vec Ideal S512x128 .f32) (c : Fin 512) (d : Fin 128) : (k0_pay68 q' (k0_pay54 v g) (k0_pay64 (k0_pay50 k q) l) e a) (ix2 c d)
    = a (ix2 c d) + ∑ ρ ∈ Finset.range 256, B.D j (R + ρ) c * B.q (R + ρ) d := by
  have hp := fun ρ => ds_d1 j B k v q g l e R hk hv hq hg hl he hR ρ c
  unfold k0_pay68
  simp only [pointwise]
  simp only [hp, hq', zero_add, Finset.sum_range]

include hk hv hq hg hl he hR in
/-- What the block adds to the rows' gradient. -/
theorem dq_d1 (a : Vec Ideal S256x128 .f32) (ρ : Fin 256) (d : Fin 128) : (k0_pay69 k (k0_pay54 v g) (k0_pay64 (k0_pay50 k q) l) e a) (ix2 ρ d)
    = a (ix2 ρ d) + (∑ c ∈ Finset.range 1024, B.D j (R + ρ) c * B.k c d) * sm := by
  have hp := ds_d1 j B k v q g l e R hk hv hq hg hl he hR ρ
  rw [← B.sum_D_short (n := 512) (by omega) (by omega), Finset.sum_range]
  have hs : ∀ c : Fin 512, k (ix2 ⟨c, by omega⟩ d) = B.k c d := fun c => hk ⟨c, by omega⟩ d
  unfold k0_pay69
  simp only [pointwise]
  simp only [hp, hs, zero_add, named_sm, Matrix.cons_val_zero, Matrix.cons_val_one]

end

/-! ## Rows `512` to `768` of the diagonal block: columns below 768 -/

section
variable (j : ℕ) (B : Blk) (k v : FVec Ideal S1024x128 .bf16) (q g : FVec Ideal S256x128 .bf16) (l e : Vec Ideal S1x256x1 .f32) (R : ℕ)
    (hk : ∀ (c : Fin 1024) d, k (ix2 c d) = B.k c d) (hv : ∀ (c : Fin 1024) d, v (ix2 c d) = B.v c d)
    (hq : ∀ (ρ : Fin 256) d, q (ix2 ρ d) = B.q (R + ρ) d) (hg : ∀ (ρ : Fin 256) d, g (ix2 ρ d) = B.g (R + ρ) d)
    (hl : ∀ ρ : Fin 256, l (ix3 0 ρ 0) = B.lse (R + ρ)) (he : ∀ ρ : Fin 256, e (ix3 0 ρ 0) = B.dl (R + ρ))
  (hR : R = 1024 * j + 512)
include hk hq hl hR in
/-- The probabilities. -/
theorem p_d2 (ρ : Fin 256) (c : Fin 768) : (k0_pay70 (k0_pay51 k q) l) (ix2 ρ c) = B.P j (R + ρ) c := by
  unfold k0_pay70 k0_pay51 k0_pay44
  simp only [pointwise, List.foldl]
  have hs : ∀ d, k (ix2 ⟨c, by omega⟩ d) = B.k c d := fun d => hk ⟨c, by omega⟩ d
  have hm := mask_sel (α := EReal) 512 ρ c (by omega) (by omega) (by omega)
  have hi : ((c : ℕ) ≤ ρ + 512) = ((c : ℕ) + 1024 * j ≤ R + ρ) := by rw [hR]; exact propext (by omega)
  simp [hq, hl, Blk.P] at hs hm hi ⊢
  simp [hs, hm, hi]
  rfl

include hk hv hq hg hl he hR in
/-- The gradients of the scores. -/
theorem ds_d2 (ρ : Fin 256) (c : Fin 768) : (k0_pay71 (k0_pay51 k q) (k0_pay55 v g) l e) (ix2 ρ c) = B.D j (R + ρ) c := by
  have hp := p_d2 j B k q l R hk hq hl hR ρ c
  unfold k0_pay71 k0_pay55 k0_pay48
  simp only [pointwise, List.foldl]
  have hs : ∀ d, v (ix2 ⟨c, by omega⟩ d) = B.v c d := fun d => hv ⟨c, by omega⟩ d
  simp [hg, he, hp, Blk.D] at hs ⊢
  simp [hs]

include hk hq hg hl hR in
/-- What the rows add to the values' gradient. -/
theorem dva_d2 (a : Vec Ideal S768x128 .f32) (c : Fin 768) (d : Fin 128) : (k0_pay72 g (k0_pay51 k q) l a) (ix2 c d)
    = a (ix2 c d) + ∑ ρ ∈ Finset.range 256, B.P j (R + ρ) c * B.g (R + ρ) d := by
  have hp := fun ρ => p_d2 j B k q l R hk hq hl hR ρ c
  unfold k0_pay72
  simp only [pointwise]
  simp only [hp, hg, zero_add, Finset.sum_range]

include hk hv hq hg hl he hR in
/-- What the rows add to the keys' gradient. -/
theorem dka_d2 (q' : FVec Ideal S256x128 .bf16) (hq' : ∀ (ρ : Fin 256) d, q' (ix2 ρ d) = B.q (R + ρ) d) (a : Vec Ideal S768x128 .f32) (c : Fin 768) (d : Fin 128) : (k0_pay73 q' (k0_pay51 k q) (k0_pay55 v g) l e a) (ix2 c d)
    = a (ix2 c d) + ∑ ρ ∈ Finset.range 256, B.D j (R + ρ) c * B.q (R + ρ) d := by
  have hp := fun ρ => ds_d2 j B k v q g l e R hk hv hq hg hl he hR ρ c
  unfold k0_pay73
  simp only [pointwise]
  simp only [hp, hq', zero_add, Finset.sum_range]

include hk hv hq hg hl he hR in
/-- What the block adds to the rows' gradient. -/
theorem dq_d2 (a : Vec Ideal S256x128 .f32) (ρ : Fin 256) (d : Fin 128) : (k0_pay74 k (k0_pay51 k q) (k0_pay55 v g) l e a) (ix2 ρ d)
    = a (ix2 ρ d) + (∑ c ∈ Finset.range 1024, B.D j (R + ρ) c * B.k c d) * sm := by
  have hp := ds_d2 j B k v q g l e R hk hv hq hg hl he hR ρ
  rw [← B.sum_D_short (n := 768) (by omega) (by omega), Finset.sum_range]
  have hs : ∀ c : Fin 768, k (ix2 ⟨c, by omega⟩ d) = B.k c d := fun c => hk ⟨c, by omega⟩ d
  unfold k0_pay74
  simp only [pointwise]
  simp only [hp, hs, zero_add, named_sm, Matrix.cons_val_zero, Matrix.cons_val_one]

end

/-! ## Rows `768` to `1024` of the diagonal block: columns below 1024 -/

section
variable (j : ℕ) (B : Blk) (k v : FVec Ideal S1024x128 .bf16) (q g : FVec Ideal S256x128 .bf16) (l e : Vec Ideal S1x256x1 .f32) (R : ℕ)
    (hk : ∀ (c : Fin 1024) d, k (ix2 c d) = B.k c d) (hv : ∀ (c : Fin 1024) d, v (ix2 c d) = B.v c d)
    (hq : ∀ (ρ : Fin 256) d, q (ix2 ρ d) = B.q (R + ρ) d) (hg : ∀ (ρ : Fin 256) d, g (ix2 ρ d) = B.g (R + ρ) d)
    (hl : ∀ ρ : Fin 256, l (ix3 0 ρ 0) = B.lse (R + ρ)) (he : ∀ ρ : Fin 256, e (ix3 0 ρ 0) = B.dl (R + ρ))
  (hR : R = 1024 * j + 768)
include hk hq hl hR in
/-- The probabilities. -/
theorem p_d3 (ρ : Fin 256) (c : Fin 1024) : (k0_pay75 (k0_pay52 k q) l) (ix2 ρ c) = B.P j (R + ρ) c := by
  unfold k0_pay75 k0_pay52 k0_pay45
  simp only [pointwise, List.foldl]
  have hs : ∀ d, k (ix2 c d) = B.k c d := fun d => hk c d
  have hm := mask_sel (α := EReal) 768 ρ c (by omega) (by omega) (by omega)
  have hi : ((c : ℕ) ≤ ρ + 768) = ((c : ℕ) + 1024 * j ≤ R + ρ) := by rw [hR]; exact propext (by omega)
  simp [hq, hl, Blk.P] at hs hm hi ⊢
  simp [hs, hm, hi]
  rfl

include hk hv hq hg hl he hR in
/-- The gradients of the scores. -/
theorem ds_d3 (ρ : Fin 256) (c : Fin 1024) : (k0_pay76 (k0_pay52 k q) (k0_pay56 v g) l e) (ix2 ρ c) = B.D j (R + ρ) c := by
  have hp := p_d3 j B k q l R hk hq hl hR ρ c
  unfold k0_pay76 k0_pay56 k0_pay49
  simp only [pointwise, List.foldl]
  have hs : ∀ d, v (ix2 c d) = B.v c d := fun d => hv c d
  simp [hg, he, hp, Blk.D] at hs ⊢
  simp [hs]

include hk hq hg hl hR in
/-- What the rows add to the values' gradient. -/
theorem dva_d3 (a : Vec Ideal S1024x128 .f32) (c : Fin 1024) (d : Fin 128) : (k0_pay77 g (k0_pay52 k q) l a) (ix2 c d)
    = a (ix2 c d) + ∑ ρ ∈ Finset.range 256, B.P j (R + ρ) c * B.g (R + ρ) d := by
  have hp := fun ρ => p_d3 j B k q l R hk hq hl hR ρ c
  unfold k0_pay77
  simp only [pointwise]
  simp only [hp, hg, zero_add, Finset.sum_range]

include hk hv hq hg hl he hR in
/-- What the rows add to the keys' gradient. -/
theorem dka_d3 (q' : FVec Ideal S256x128 .bf16) (hq' : ∀ (ρ : Fin 256) d, q' (ix2 ρ d) = B.q (R + ρ) d) (a : Vec Ideal S1024x128 .f32) (c : Fin 1024) (d : Fin 128) : (k0_pay78 q' (k0_pay52 k q) (k0_pay56 v g) l e a) (ix2 c d)
    = a (ix2 c d) + ∑ ρ ∈ Finset.range 256, B.D j (R + ρ) c * B.q (R + ρ) d := by
  have hp := fun ρ => ds_d3 j B k v q g l e R hk hv hq hg hl he hR ρ c
  unfold k0_pay78
  simp only [pointwise]
  simp only [hp, hq', zero_add, Finset.sum_range]

include hk hv hq hg hl he hR in
/-- What the block adds to the rows' gradient. -/
theorem dq_d3 (a : Vec Ideal S256x128 .f32) (ρ : Fin 256) (d : Fin 128) : (k0_pay1 k (k0_pay76 (k0_pay52 k q) (k0_pay56 v g) l e) (k0_pay79 a) (constant (F := Ideal) S256x128 .f32 0x00000000#32)) (ix2 ρ d)
    = a (ix2 ρ d) + (∑ c ∈ Finset.range 1024, B.D j (R + ρ) c * B.k c d) * sm := by
  have hp := ds_d3 j B k v q g l e R hk hv hq hg hl he hR ρ
  rw [Finset.sum_range]
  have hs : ∀ c : Fin 1024, k (ix2 c d) = B.k c d := fun c => hk c d
  unfold k0_pay1 k0_pay79
  simp only [pointwise]
  simp only [hp, hs, zero_add, named_sm, Matrix.cons_val_zero, Matrix.cons_val_one]

end

/-! ## Rows of a block below the diagonal, first half -/

section
variable (j : ℕ) (B : Blk) (k v : FVec Ideal S1024x128 .bf16) (q g : FVec Ideal S512x128 .bf16) (l e : Vec Ideal S1x512x1 .f32) (R : ℕ)
    (hk : ∀ (c : Fin 1024) d, k (ix2 c d) = B.k c d) (hv : ∀ (c : Fin 1024) d, v (ix2 c d) = B.v c d)
    (hq : ∀ (ρ : Fin 512) d, q (ix2 ρ d) = B.q (R + ρ) d) (hg : ∀ (ρ : Fin 512) d, g (ix2 ρ d) = B.g (R + ρ) d)
    (hl : ∀ ρ : Fin 512, l (ix3 0 ρ 0) = B.lse (R + ρ)) (he : ∀ ρ : Fin 512, e (ix3 0 ρ 0) = B.dl (R + ρ))
  (hR : 1024 * (j + 1) ≤ R)
include hk hq hl hR in
/-- The probabilities. -/
theorem p_t0 (ρ : Fin 512) (c : Fin 1024) : (k0_pay13 k q l) (ix2 ρ c) = B.P j (R + ρ) c := by
  unfold k0_pay13 k0_pay7
  simp only [pointwise, List.foldl]
  have hs : ∀ d, k (ix2 c d) = B.k c d := fun d => hk c d
  have hi : (c : ℕ) + 1024 * j ≤ R + ρ := by omega
  simp [hq, hl, Blk.P] at hs ⊢
  simp [hs, hi]
  rfl

include hk hv hq hg hl he hR in
/-- The gradients of the scores. -/
theorem ds_t0 (ρ : Fin 512) (c : Fin 1024) : (k0_pay14 k v q g l e) (ix2 ρ c) = B.D j (R + ρ) c := by
  have hp := p_t0 j B k q l R hk hq hl hR ρ c
  unfold k0_pay14 k0_pay9
  simp only [pointwise, List.foldl]
  have hs : ∀ d, v (ix2 c d) = B.v c d := fun d => hv c d
  simp [hg, he, hp, Blk.D] at hs ⊢
  simp [hs]

include hk hq hg hl hR in
/-- What the rows add to the values' gradient. -/
theorem dva_t0 (a : Vec Ideal S1024x128 .f32) (c : Fin 1024) (d : Fin 128) : (k0_pay16 (k0_pay15 k q g l a)) (ix2 c d)
    = a (ix2 c d) + ∑ ρ ∈ Finset.range 512, B.P j (R + ρ) c * B.g (R + ρ) d := by
  have hp := fun ρ => p_t0 j B k q l R hk hq hl hR ρ c
  unfold k0_pay16 k0_pay15 k0_pay9
  simp only [pointwise]
  simp only [hp, hg, zero_add, Finset.sum_range]

include hk hv hq hg hl he hR in
/-- What the rows add to the keys' gradient. -/
theorem dka_t0 (a : Vec Ideal S1024x128 .f32) (c : Fin 1024) (d : Fin 128) : (k0_pay17 (k0_pay7 q) (k0_pay14 k v q g l e) a) (ix2 c d)
    = a (ix2 c d) + ∑ ρ ∈ Finset.range 512, B.D j (R + ρ) c * B.q (R + ρ) d := by
  have hp := fun ρ => ds_t0 j B k v q g l e R hk hv hq hg hl he hR ρ c
  unfold k0_pay17 k0_pay7
  simp only [pointwise]
  simp only [hp, hq, zero_add, Finset.sum_range]

include hk hv hq hg hl he hR in
/-- What the block adds to the rows' gradient. -/
theorem dq_t0 (a : Vec Ideal S512x128 .f32) (ρ : Fin 512) (d : Fin 128) : (k0_pay18 k (k0_pay14 k v q g l e) a) (ix2 ρ d)
    = a (ix2 ρ d) + (∑ c ∈ Finset.range 1024, B.D j (R + ρ) c * B.k c d) * sm := by
  have hp := ds_t0 j B k v q g l e R hk hv hq hg hl he hR ρ
  rw [Finset.sum_range]
  have hs : ∀ c : Fin 1024, k (ix2 c d) = B.k c d := fun c => hk c d
  unfold k0_pay18
  simp only [pointwise]
  simp only [hp, hs, zero_add, named_sm, Matrix.cons_val_zero, Matrix.cons_val_one]

end

/-! ## Rows of a block below the diagonal, second half -/

section
variable (j : ℕ) (B : Blk) (k v : FVec Ideal S1024x128 .bf16) (q g : FVec Ideal S512x128 .bf16) (l e : Vec Ideal S1x512x1 .f32) (R : ℕ)
    (hk : ∀ (c : Fin 1024) d, k (ix2 c d) = B.k c d) (hv : ∀ (c : Fin 1024) d, v (ix2 c d) = B.v c d)
    (hq : ∀ (ρ : Fin 512) d, q (ix2 ρ d) = B.q (R + ρ) d) (hg : ∀ (ρ : Fin 512) d, g (ix2 ρ d) = B.g (R + ρ) d)
    (hl : ∀ ρ : Fin 512, l (ix3 0 ρ 0) = B.lse (R + ρ)) (he : ∀ ρ : Fin 512, e (ix3 0 ρ 0) = B.dl (R + ρ))
  (hR : 1024 * (j + 1) ≤ R)
include hk hq hl hR in
/-- The probabilities. -/
theorem p_t1 (ρ : Fin 512) (c : Fin 1024) : (k0_pay19 (k0_pay11 k q) l) (ix2 ρ c) = B.P j (R + ρ) c := by
  unfold k0_pay19 k0_pay11 k0_pay8
  simp only [pointwise, List.foldl]
  have hs : ∀ d, k (ix2 c d) = B.k c d := fun d => hk c d
  have hi : (c : ℕ) + 1024 * j ≤ R + ρ := by omega
  simp [hq, hl, Blk.P] at hs ⊢
  simp [hs, hi]
  rfl

include hk hv hq hg hl he hR in
/-- The gradients of the scores. -/
theorem ds_t1 (ρ : Fin 512) (c : Fin 1024) : (k0_pay20 (k0_pay11 k q) (k0_pay12 v g) l e) (ix2 ρ c) = B.D j (R + ρ) c := by
  have hp := p_t1 j B k q l R hk hq hl hR ρ c
  unfold k0_pay20 k0_pay12 k0_pay10
  simp only [pointwise, List.foldl]
  have hs : ∀ d, v (ix2 c d) = B.v c d := fun d => hv c d
  simp [hg, he, hp, Blk.D] at hs ⊢
  simp [hs]

include hk hq hg hl hR in
/-- What the rows add to the values' gradient. -/
theorem dva_t1 (a : Vec Ideal S1024x128 .f32) (c : Fin 1024) (d : Fin 128) : (k0_pay21 (k0_pay10 g) (k0_pay11 k q) l a) (ix2 c d)
    = a (ix2 c d) + ∑ ρ ∈ Finset.range 512, B.P j (R + ρ) c * B.g (R + ρ) d := by
  have hp := fun ρ => p_t1 j B k q l R hk hq hl hR ρ c
  unfold k0_pay21 k0_pay10
  simp only [pointwise]
  simp only [hp, hg, zero_add, Finset.sum_range]

include hk hv hq hg hl he hR in
/-- What the rows add to the keys' gradient. -/
theorem dka_t1 (a : Vec Ideal S1024x128 .f32) (c : Fin 1024) (d : Fin 128) : (k0_pay2 (k0_pay8 q) (k0_pay20 (k0_pay11 k q) (k0_pay12 v g) l e) a) (ix2 c d)
    = a (ix2 c d) + ∑ ρ ∈ Finset.range 512, B.D j (R + ρ) c * B.q (R + ρ) d := by
  have hp := fun ρ => ds_t1 j B k v q g l e R hk hv hq hg hl he hR ρ c
  unfold k0_pay2 k0_pay8
  simp only [pointwise]
  simp only [hp, hq, zero_add, Finset.sum_range]

include hk hv hq hg hl he hR in
/-- What the block adds to the rows' gradient. -/
theorem dq_t1 (a : Vec Ideal S512x128 .f32) (ρ : Fin 512) (d : Fin 128) : (k0_pay3 k (k0_pay20 (k0_pay11 k q) (k0_pay12 v g) l e) a) (ix2 ρ d)
    = a (ix2 ρ d) + (∑ c ∈ Finset.range 1024, B.D j (R + ρ) c * B.k c d) * sm := by
  have hp := ds_t1 j B k v q g l e R hk hv hq hg hl he hR ρ
  rw [Finset.sum_range]
  have hs : ∀ c : Fin 1024, k (ix2 c d) = B.k c d := fun c => hk c d
  unfold k0_pay3
  simp only [pointwise]
  simp only [hp, hs, zero_add, named_sm, Matrix.cons_val_zero, Matrix.cons_val_one]

end

end Cert.KernelIdeal.AttnBwd
-- ==== Proof.Reads.lean ====
module

public import proofs.«01_k».proof.Proof.Run
public import proofs.«01_k».proof.Proof.Pay

@[expose] public section

set_option maxRecDepth 16384

noncomputable section

namespace Cert.KernelIdeal.AttnBwd

open Idealize.ShloMosaic Idealize.ShloMosaic.TcCoe Idealize.ShloMosaic.Tactic
open Idealize.SL.Sem
open Cert.KernelIdeal Cert.KernelIdeal.Gen

/-! ## Reading and writing rows -/

section Rows
variable {κ' : Kind} {sp : Space} {Val : EltTy → Type} {e : EltTy}

/-- Writing the rows `[o, o + n)` of a matrix: those rows read the payload, the others what was there. -/
theorem write_rows {N M n o : ℕ} (v : View sig κ' sp (⟨2, ![N, M]⟩ : Shape) e) (f : v.ty.Contents Val) {off : Fin 2 → ℕ}
    (inb : ∀ a : Fin 2, off a + (![n, M] : Fin 2 → ℕ) a ≤ (![N, M] : Fin 2 → ℕ) a)
    (w : (⟨2, ![n, M]⟩ : Shape).Idx → Val e) (L : List (View.Piece Val (⟨2, ![N, M]⟩ : Shape) e)) (hoff : off = ![o, 0])
    (r : Fin N) (d : Fin M) :
    v.read Val (v.writes Val f ((⟨Rect.unit (s := ⟨2, ![N, M]⟩) off ![n, M] inb, w⟩ : View.Piece Val (⟨2, ![N, M]⟩ : Shape) e) :: L)) (ix2 r d)
      = if h : o ≤ r.val ∧ r.val < o + n then w (ix2 ⟨r - o, by omega⟩ d) else v.read Val (v.writes Val f L) (ix2 r d) := by
  by_cases h : o ≤ r.val ∧ r.val < o + n
  · rw [dif_pos h]
    exact View.read_writes_cons_rows_of_mem v f inb w L (ix2 r d) (ix2 ⟨r - o, by omega⟩ d) hoff
      (by show r.val = o + (r.val - o); omega) rfl
  · rw [dif_neg h]
    exact View.read_writes_cons_rows_of_not_mem (W := n) v f inb w L (ix2 r d) hoff rfl (by show r.val < o ∨ o + n ≤ r.val; omega)

/-- Reading the rows `[o, o + n)` of a matrix. -/
theorem read_rows {N M n o : ℕ} (v : View sig κ' sp (⟨2, ![N, M]⟩ : Shape) e) (f : v.ty.Contents Val) {off : Fin 2 → ℕ}
    (inb : ∀ a : Fin 2, off a + (![n, M] : Fin 2 → ℕ) a ≤ (![N, M] : Fin 2 → ℕ) a) (hoff : off = ![o, 0])
    (r : Fin n) (d : Fin M) (h : o + r < N) :
    (v.readAt Val (Rect.unit (s := ⟨2, ![N, M]⟩) off ![n, M] inb).toLoadRect f : (⟨2, ![n, M]⟩ : Shape).Idx → Val e) (ix2 r d)
      = v.read Val f (ix2 ⟨o + r, h⟩ d) := by
  subst hoff
  refine congrArg (v.read Val f) (funext fun a => Fin.ext ?_)
  match a with
  | ⟨0, _⟩ => show o + 1 * r.val = o + r.val; omega
  | ⟨1, _⟩ => show 0 + 1 * d.val = d.val; omega

/-- Reading a run of a row constant. -/
theorem read_run {N n o : ℕ} (v : View sig κ' sp (⟨3, ![1, N, 1]⟩ : Shape) e) (f : v.ty.Contents Val) {off : Fin 3 → ℕ}
    (inb : ∀ a : Fin 3, off a + (![1, n, 1] : Fin 3 → ℕ) a ≤ (![1, N, 1] : Fin 3 → ℕ) a) (hoff : off = ![0, o, 0])
    (r : Fin n) (h : o + r < N) :
    (v.readAt Val (Rect.unit (s := ⟨3, ![1, N, 1]⟩) off ![1, n, 1] inb).toLoadRect f : (⟨3, ![1, n, 1]⟩ : Shape).Idx → Val e) (ix3 0 r 0)
      = v.read Val f (ix3 0 ⟨o + r, h⟩ 0) := by
  subst hoff
  refine congrArg (v.read Val f) (funext fun a => Fin.ext ?_)
  match a with
  | ⟨0, _⟩ => rfl
  | ⟨1, _⟩ => show o + 1 * r.val = o + r.val; omega
  | ⟨2, _⟩ => rfl

end Rows

/-! ## The sums the accumulators hold -/

/-- What the first `n` rows from the diagonal on give the values' gradient. -/
def Blk.dv (B : Blk) (j n c : ℕ) (d : Fin 128) : EReal := ∑ ρ ∈ Finset.range n, B.P j (1024 * j + ρ) c * B.g (1024 * j + ρ) d

/-- What the first `n` rows from the diagonal on give the keys' gradient, before its last factor. -/
def Blk.dk (B : Blk) (j n c : ℕ) (d : Fin 128) : EReal := ∑ ρ ∈ Finset.range n, B.D j (1024 * j + ρ) c * B.q (1024 * j + ρ) d

/-- What block `j` gives the gradient of row `r`. -/
def Blk.dq (B : Blk) (j r : ℕ) (d : Fin 128) : EReal := (∑ c ∈ Finset.range 1024, B.D j r c * B.k c d) * sm

theorem Blk.dv_add (B : Blk) (j n m R c : ℕ) (d : Fin 128) (hR : R = 1024 * j + n) :
    B.dv j n c d + ∑ ρ ∈ Finset.range m, B.P j (R + ρ) c * B.g (R + ρ) d = B.dv j (n + m) c d := by
  subst hR; simp only [Blk.dv, Finset.sum_range_add, Nat.add_assoc]

theorem Blk.dk_add (B : Blk) (j n m R c : ℕ) (d : Fin 128) (hR : R = 1024 * j + n) :
    B.dk j n c d + ∑ ρ ∈ Finset.range m, B.D j (R + ρ) c * B.q (R + ρ) d = B.dk j (n + m) c d := by
  subst hR; simp only [Blk.dk, Finset.sum_range_add, Nat.add_assoc]

/-- Rows above column `c` give its value nothing. -/
theorem Blk.dv_above (B : Blk) (j n m c : ℕ) (d : Fin 128) (h : n + m ≤ c) : B.dv j n c d = B.dv j (n + m) c d := by
  rw [← B.dv_add j n m _ c d rfl, Finset.sum_eq_zero, add_zero]
  intro ρ hρ
  rw [B.P_zero (by have := Finset.mem_range.mp hρ; omega), zero_mul]

/-- Rows above column `c` give its key nothing. -/
theorem Blk.dk_above (B : Blk) (j n m c : ℕ) (d : Fin 128) (h : n + m ≤ c) : B.dk j n c d = B.dk j (n + m) c d := by
  rw [← B.dk_add j n m _ c d rfl, Finset.sum_eq_zero, add_zero]
  intro ρ hρ
  rw [B.D_zero (by have := Finset.mem_range.mp hρ; omega), zero_mul]

/-- A block gives the rows above it nothing. -/
theorem Blk.dq_above (B : Blk) (j r : ℕ) (d : Fin 128) (h : r < 1024 * j) : B.dq j r d = 0 := by
  rw [Blk.dq, Finset.sum_eq_zero, zero_mul]
  intro c _
  rw [B.D_zero (by omega), zero_mul]

/-! ## The diagonal block -/

/-- What the six windows hold at a point: the head's rows and the block's keys and values. -/
structure Holds (u2 : VRef S8192x128 .bf16) (u3 : VRef S8192x128 .bf16) (u4 : VRef S1x8192x1 .f32) (u5 : VRef S1x8192x1 .f32) (u6 : VRef S1024x128 .bf16) (u7 : VRef S1024x128 .bf16)
    (X2 : Held u2) (X3 : Held u3) (X4 : Held u4) (X5 : Held u5) (X6 : Held u6) (X7 : Held u7) (B : Blk) : Prop where
  q : ∀ (r : Fin 8192) (d : Fin 128), (u2.view.read (Elt Ideal) X2 (ix2 r d) : EReal) = B.q r d
  g : ∀ (r : Fin 8192) (d : Fin 128), (u3.view.read (Elt Ideal) X3 (ix2 r d) : EReal) = B.g r d
  lse : ∀ r : Fin 8192, (u4.view.read (Elt Ideal) X4 (ix3 0 r 0) : EReal) = B.lse r
  dl : ∀ r : Fin 8192, (u5.view.read (Elt Ideal) X5 (ix3 0 r 0) : EReal) = B.dl r
  k : ∀ (c : Fin 1024) (d : Fin 128), (u6.view.read (Elt Ideal) X6 (ix2 c d) : EReal) = B.k c d
  v : ∀ (c : Fin 1024) (d : Fin 128), (u7.view.read (Elt Ideal) X7 (ix2 c d) : EReal) = B.v c d

/-- The block's keys as the body holds them. -/
abbrev kt (u6 : VRef S1024x128 .bf16) (X6 : Held u6) : FVec Ideal S1024x128 .bf16 := k0_pay40 (View.readAt (Elt Ideal) u6.view (Rect.unit (s := S1024x128) ![0, 0] S1024x128.size inb_S1024x128_S1024x128_0_0).toLoadRect X6)
/-- The block's values as the body holds them. -/
abbrev vt (u7 : VRef S1024x128 .bf16) (X7 : Held u7) : FVec Ideal S1024x128 .bf16 := k0_pay41 (View.readAt (Elt Ideal) u7.view (Rect.unit (s := S1024x128) ![0, 0] S1024x128.size inb_S1024x128_S1024x128_0_0).toLoadRect X7)

theorem pay42_apply (x : Vec Ideal S256x128 .bf16) (r : Fin 256) (d : Fin 128) : (k0_pay42 x : FVec Ideal S256x128 .bf16) (ix2 r d) = x (ix2 r d) := by
  unfold k0_pay42
  simp only [pointwise]

theorem pay43_apply (x : Vec Ideal S256x128 .bf16) (r : Fin 256) (d : Fin 128) : (k0_pay43 x : FVec Ideal S256x128 .bf16) (ix2 r d) = x (ix2 r d) := by
  unfold k0_pay43
  simp only [pointwise]

theorem pay44_apply (x : Vec Ideal S256x128 .bf16) (r : Fin 256) (d : Fin 128) : (k0_pay44 x : FVec Ideal S256x128 .bf16) (ix2 r d) = x (ix2 r d) := by
  unfold k0_pay44
  simp only [pointwise]

theorem pay45_apply (x : Vec Ideal S256x128 .bf16) (r : Fin 256) (d : Fin 128) : (k0_pay45 x : FVec Ideal S256x128 .bf16) (ix2 r d) = x (ix2 r d) := by
  unfold k0_pay45
  simp only [pointwise]

theorem pay46_apply (x : Vec Ideal S256x128 .bf16) (r : Fin 256) (d : Fin 128) : (k0_pay46 x : FVec Ideal S256x128 .bf16) (ix2 r d) = x (ix2 r d) := by
  unfold k0_pay46
  simp only [pointwise]

theorem pay47_apply (x : Vec Ideal S256x128 .bf16) (r : Fin 256) (d : Fin 128) : (k0_pay47 x : FVec Ideal S256x128 .bf16) (ix2 r d) = x (ix2 r d) := by
  unfold k0_pay47
  simp only [pointwise]

theorem pay48_apply (x : Vec Ideal S256x128 .bf16) (r : Fin 256) (d : Fin 128) : (k0_pay48 x : FVec Ideal S256x128 .bf16) (ix2 r d) = x (ix2 r d) := by
  unfold k0_pay48
  simp only [pointwise]

theorem pay49_apply (x : Vec Ideal S256x128 .bf16) (r : Fin 256) (d : Fin 128) : (k0_pay49 x : FVec Ideal S256x128 .bf16) (ix2 r d) = x (ix2 r d) := by
  unfold k0_pay49
  simp only [pointwise]

section
variable (i : grid0.Coords) {u2 : VRef S8192x128 .bf16} {u3 : VRef S8192x128 .bf16} {u4 : VRef S1x8192x1 .f32} {u5 : VRef S1x8192x1 .f32} {u6 : VRef S1024x128 .bf16} {u7 : VRef S1024x128 .bf16} {u8 : VRef S8192x128 .f32} {u9 : VRef S1024x128 .f32} {u10 : VRef S1024x128 .f32} {u11 : VRef S1024x128 .f32} {u12 : VRef S1024x128 .f32}
    {X2 : Held u2} {X3 : Held u3} {X4 : Held u4} {X5 : Held u5} {X6 : Held u6} {X7 : Held u7} {B : Blk}
    (hX : Holds u2 u3 u4 u5 u6 u7 X2 X3 X4 X5 X6 X7 B)

include hX in
theorem kt_eq (c : Fin 1024) (d : Fin 128) : kt u6 X6 (ix2 c d) = B.k c d := by
  unfold kt k0_pay40
  simp only [pointwise]
  rw [View.readAt_full]
  exact hX.k c d

include hX in
theorem vt_eq (c : Fin 1024) (d : Fin 128) : vt u7 X7 (ix2 c d) = B.v c d := by
  unfold vt k0_pay41
  simp only [pointwise]
  rw [View.readAt_full]
  exact hX.v c d

include hX in
theorem q_eq {n o : ℕ} {off : Fin 2 → ℕ} (inb : ∀ a : Fin 2, off a + (![n, 128] : Fin 2 → ℕ) a ≤ (![8192, 128] : Fin 2 → ℕ) a)
    (hoff : off = ![o, 0]) (r : Fin n) (d : Fin 128) (h : o + r < 8192) :
    ((View.readAt (Elt Ideal) u2.view (Rect.unit (s := S8192x128) off ![n, 128] inb).toLoadRect X2 : (⟨2, ![n, 128]⟩ : Shape).Idx → EReal)) (ix2 r d) = B.q (o + r) d :=
  (read_rows u2.view X2 inb hoff r d h).trans (hX.q _ d)

include hX in
theorem g_eq {n o : ℕ} {off : Fin 2 → ℕ} (inb : ∀ a : Fin 2, off a + (![n, 128] : Fin 2 → ℕ) a ≤ (![8192, 128] : Fin 2 → ℕ) a)
    (hoff : off = ![o, 0]) (r : Fin n) (d : Fin 128) (h : o + r < 8192) :
    ((View.readAt (Elt Ideal) u3.view (Rect.unit (s := S8192x128) off ![n, 128] inb).toLoadRect X3 : (⟨2, ![n, 128]⟩ : Shape).Idx → EReal)) (ix2 r d) = B.g (o + r) d :=
  (read_rows u3.view X3 inb hoff r d h).trans (hX.g _ d)

include hX in
theorem lse_eq {n o : ℕ} {off : Fin 3 → ℕ} (inb : ∀ a : Fin 3, off a + (![1, n, 1] : Fin 3 → ℕ) a ≤ (![1, 8192, 1] : Fin 3 → ℕ) a)
    (hoff : off = ![0, o, 0]) (r : Fin n) (h : o + r < 8192) :
    ((View.readAt (Elt Ideal) u4.view (Rect.unit (s := S1x8192x1) off ![1, n, 1] inb).toLoadRect X4 : (⟨3, ![1, n, 1]⟩ : Shape).Idx → EReal)) (ix3 0 r 0) = B.lse (o + r) :=
  (read_run u4.view X4 inb hoff r h).trans (hX.lse _)

include hX in
theorem dl_eq {n o : ℕ} {off : Fin 3 → ℕ} (inb : ∀ a : Fin 3, off a + (![1, n, 1] : Fin 3 → ℕ) a ≤ (![1, 8192, 1] : Fin 3 → ℕ) a)
    (hoff : off = ![0, o, 0]) (r : Fin n) (h : o + r < 8192) :
    ((View.readAt (Elt Ideal) u5.view (Rect.unit (s := S1x8192x1) off ![1, n, 1] inb).toLoadRect X5 : (⟨3, ![1, n, 1]⟩ : Shape).Idx → EReal)) (ix3 0 r 0) = B.dl (o + r) :=
  (read_run u5.view X5 inb hoff r h).trans (hX.dl _)

theorem i1_lt : (i 1).val < 8 := (i 1).isLt

/-- The cleared accumulator. -/
theorem H12_1_eq (c : Fin 1024) (d : Fin 128) :
    (u12.view.read (Elt Ideal) (u12.view.writes (Elt Ideal) u12.view.junk (run.sl.H12_1 (F := Ideal))) (ix2 c d) : EReal) = B.dv (i 1).val 0 c d := by
  unfold run.sl.H12_1
  refine (congrFun (View.read_writes_full _ _ _ _ _) _).trans ?_
  unfold k0_pay39
  simp only [pointwise]
  simp [Blk.dv]

include hX in
/-- After the rows `0` to `256` of the diagonal block. -/
theorem H12_2_eq (c : Fin 1024) (d : Fin 128) :
    (u12.view.read (Elt Ideal) (u12.view.writes (Elt Ideal) u12.view.junk (run.sl.H12_2 i u2 u3 u4 u6 u7 u12 X2 X3 X4 X6 X7)) (ix2 c d) : EReal) = B.dv (i 1).val 256 c d := by
  unfold run.sl.H12_2
  have hi := i1_lt i
  refine (write_rows (n := 256) (o := 0) _ _ _ _ _ rfl c d).trans ?_
  split
  · rename_i hc
    refine (dva_d0 (i 1).val B (kt u6 X6) _ _ _ (1024 * (i 1).val + 0) (kt_eq hX) (fun ρ d => (pay42_apply _ ρ d).trans (q_eq hX _ (k0_off1_eq i 0) ρ d (by omega))) (fun ρ d => (pay46_apply _ ρ d).trans (g_eq hX _ (k0_off1_eq i 0) ρ d (by omega))) (fun ρ => lse_eq hX _ (k0_off2_eq i 0) ρ (by omega)) rfl _ _ d).trans ?_
    rw [← B.dv_add (i 1).val 0 256 (1024 * (i 1).val + 0) c d rfl]
    refine congrArg₂ (· + ·) ?_ rfl
    refine (read_rows u12.view _ _ rfl _ d (by omega)).trans ?_
    refine (congrArg (u12.view.read (Elt Ideal) _) (congrArg (ix2 · d) (Fin.ext ?_))).trans (H12_1_eq (i := i) (B := B) c d)
    simp
  · rename_i hc
    refine (H12_1_eq (i := i) (B := B) c d).trans (B.dv_above (i 1).val 0 256 c d (by omega))

include hX in
/-- After the rows `256` to `512` of the diagonal block. -/
theorem H12_3_eq (c : Fin 1024) (d : Fin 128) :
    (u12.view.read (Elt Ideal) (u12.view.writes (Elt Ideal) u12.view.junk (run.sl.H12_3 i u2 u3 u4 u6 u7 u12 X2 X3 X4 X6 X7)) (ix2 c d) : EReal) = B.dv (i 1).val 512 c d := by
  unfold run.sl.H12_3
  have hi := i1_lt i
  refine (write_rows (n := 512) (o := 0) _ _ _ _ _ rfl c d).trans ?_
  split
  · rename_i hc
    refine (dva_d1 (i 1).val B (kt u6 X6) _ _ _ (1024 * (i 1).val + 256) (kt_eq hX) (fun ρ d => (pay43_apply _ ρ d).trans (q_eq hX _ (k0_off1_eq i 1) ρ d (by omega))) (fun ρ d => (pay47_apply _ ρ d).trans (g_eq hX _ (k0_off1_eq i 1) ρ d (by omega))) (fun ρ => lse_eq hX _ (k0_off2_eq i 1) ρ (by omega)) rfl _ _ d).trans ?_
    rw [← B.dv_add (i 1).val 256 256 (1024 * (i 1).val + 256) c d rfl]
    refine congrArg₂ (· + ·) ?_ rfl
    refine (read_rows u12.view _ _ rfl _ d (by omega)).trans ?_
    refine (congrArg (u12.view.read (Elt Ideal) _) (congrArg (ix2 · d) (Fin.ext ?_))).trans (H12_2_eq i hX c d)
    simp
  · rename_i hc
    refine (H12_2_eq i hX c d).trans (B.dv_above (i 1).val 256 256 c d (by omega))

include hX in
/-- After the rows `512` to `768` of the diagonal block. -/
theorem H12_4_eq (c : Fin 1024) (d : Fin 128) :
    (u12.view.read (Elt Ideal) (u12.view.writes (Elt Ideal) u12.view.junk (run.sl.H12_4 i u2 u3 u4 u6 u7 u12 X2 X3 X4 X6 X7)) (ix2 c d) : EReal) = B.dv (i 1).val 768 c d := by
  unfold run.sl.H12_4
  have hi := i1_lt i
  refine (write_rows (n := 768) (o := 0) _ _ _ _ _ rfl c d).trans ?_
  split
  · rename_i hc
    refine (dva_d2 (i 1).val B (kt u6 X6) _ _ _ (1024 * (i 1).val + 512) (kt_eq hX) (fun ρ d => (q_eq hX _ (k0_off1_eq i 2) ρ d (by omega))) (fun ρ d => (pay48_apply _ ρ d).trans (g_eq hX _ (k0_off1_eq i 2) ρ d (by omega))) (fun ρ => lse_eq hX _ (k0_off2_eq i 2) ρ (by omega)) rfl _ _ d).trans ?_
    rw [← B.dv_add (i 1).val 512 256 (1024 * (i 1).val + 512) c d rfl]
    refine congrArg₂ (· + ·) ?_ rfl
    refine (read_rows u12.view _ _ rfl _ d (by omega)).trans ?_
    refine (congrArg (u12.view.read (Elt Ideal) _) (congrArg (ix2 · d) (Fin.ext ?_))).trans (H12_3_eq i hX c d)
    simp
  · rename_i hc
    refine (H12_3_eq i hX c d).trans (B.dv_above (i 1).val 512 256 c d (by omega))

include hX in
/-- After the rows `768` to `1024` of the diagonal block. -/
theorem H12_5_eq (c : Fin 1024) (d : Fin 128) :
    (u12.view.read (Elt Ideal) (u12.view.writes (Elt Ideal) u12.view.junk (run.sl.H12_5 i u2 u3 u4 u6 u7 u12 X2 X3 X4 X6 X7)) (ix2 c d) : EReal) = B.dv (i 1).val 1024 c d := by
  unfold run.sl.H12_5
  have hi := i1_lt i
  refine (write_rows (n := 1024) (o := 0) _ _ _ _ _ rfl c d).trans ?_
  split
  · rename_i hc
    refine (dva_d3 (i 1).val B (kt u6 X6) _ _ _ (1024 * (i 1).val + 768) (kt_eq hX) (fun ρ d => (q_eq hX _ (k0_off1_eq i 3) ρ d (by omega))) (fun ρ d => (pay49_apply _ ρ d).trans (g_eq hX _ (k0_off1_eq i 3) ρ d (by omega))) (fun ρ => lse_eq hX _ (k0_off2_eq i 3) ρ (by omega)) rfl _ _ d).trans ?_
    rw [← B.dv_add (i 1).val 768 256 (1024 * (i 1).val + 768) c d rfl]
    refine congrArg₂ (· + ·) ?_ rfl
    refine (read_rows u12.view _ _ rfl _ d (by omega)).trans ?_
    refine (congrArg (u12.view.read (Elt Ideal) _) (congrArg (ix2 · d) (Fin.ext ?_))).trans (H12_4_eq i hX c d)
    simp
  · rename_i hc
    refine (H12_4_eq i hX c d).trans (B.dv_above (i 1).val 768 256 c d (by omega))

/-- The cleared accumulator. -/
theorem H11_1_eq (c : Fin 1024) (d : Fin 128) :
    (u11.view.read (Elt Ideal) (u11.view.writes (Elt Ideal) u11.view.junk (run.sl.H11_1 (F := Ideal))) (ix2 c d) : EReal) = B.dk (i 1).val 0 c d := by
  unfold run.sl.H11_1
  refine (congrFun (View.read_writes_full _ _ _ _ _) _).trans ?_
  unfold k0_pay38
  simp only [pointwise]
  simp [Blk.dk]

include hX in
/-- After the rows `0` to `256` of the diagonal block. -/
theorem H11_2_eq (c : Fin 1024) (d : Fin 128) :
    (u11.view.read (Elt Ideal) (u11.view.writes (Elt Ideal) u11.view.junk (run.sl.H11_2 i u2 u3 u4 u5 u6 u7 u11 X2 X3 X4 X5 X6 X7)) (ix2 c d) : EReal) = B.dk (i 1).val 256 c d := by
  unfold run.sl.H11_2
  have hi := i1_lt i
  refine (write_rows (n := 256) (o := 0) _ _ _ _ _ rfl c d).trans ?_
  split
  · rename_i hc
    refine (dka_d0 (i 1).val B (kt u6 X6) (vt u7 X7) _ _ _ _ (1024 * (i 1).val + 0) (kt_eq hX) (vt_eq hX) (fun ρ d => (pay42_apply _ ρ d).trans (q_eq hX _ (k0_off1_eq i 0) ρ d (by omega))) (fun ρ d => (g_eq hX _ (k0_off1_eq i 0) ρ d (by omega))) (fun ρ => lse_eq hX _ (k0_off2_eq i 0) ρ (by omega)) (fun ρ => dl_eq hX _ (k0_off2_eq i 0) ρ (by omega)) rfl _ (fun ρ d => (pay42_apply _ ρ d).trans (q_eq hX _ (k0_off1_eq i 0) ρ d (by omega))) _ _ d).trans ?_
    rw [← B.dk_add (i 1).val 0 256 (1024 * (i 1).val + 0) c d rfl]
    refine congrArg₂ (· + ·) ?_ rfl
    refine (read_rows u11.view _ _ rfl _ d (by omega)).trans ?_
    refine (congrArg (u11.view.read (Elt Ideal) _) (congrArg (ix2 · d) (Fin.ext ?_))).trans (H11_1_eq (i := i) (B := B) c d)
    simp
  · rename_i hc
    refine (H11_1_eq (i := i) (B := B) c d).trans (B.dk_above (i 1).val 0 256 c d (by omega))

include hX in
/-- After the rows `256` to `512` of the diagonal block. -/
theorem H11_3_eq (c : Fin 1024) (d : Fin 128) :
    (u11.view.read (Elt Ideal) (u11.view.writes (Elt Ideal) u11.view.junk (run.sl.H11_3 i u2 u3 u4 u5 u6 u7 u11 X2 X3 X4 X5 X6 X7)) (ix2 c d) : EReal) = B.dk (i 1).val 512 c d := by
  unfold run.sl.H11_3
  have hi := i1_lt i
  refine (write_rows (n := 512) (o := 0) _ _ _ _ _ rfl c d).trans ?_
  split
  · rename_i hc
    refine (dka_d1 (i 1).val B (kt u6 X6) (vt u7 X7) _ _ _ _ (1024 * (i 1).val + 256) (kt_eq hX) (vt_eq hX) (fun ρ d => (pay43_apply _ ρ d).trans (q_eq hX _ (k0_off1_eq i 1) ρ d (by omega))) (fun ρ d => (g_eq hX _ (k0_off1_eq i 1) ρ d (by omega))) (fun ρ => lse_eq hX _ (k0_off2_eq i 1) ρ (by omega)) (fun ρ => dl_eq hX _ (k0_off2_eq i 1) ρ (by omega)) rfl _ (fun ρ d => (pay43_apply _ ρ d).trans (q_eq hX _ (k0_off1_eq i 1) ρ d (by omega))) _ _ d).trans ?_
    rw [← B.dk_add (i 1).val 256 256 (1024 * (i 1).val + 256) c d rfl]
    refine congrArg₂ (· + ·) ?_ rfl
    refine (read_rows u11.view _ _ rfl _ d (by omega)).trans ?_
    refine (congrArg (u11.view.read (Elt Ideal) _) (congrArg (ix2 · d) (Fin.ext ?_))).trans (H11_2_eq i hX c d)
    simp
  · rename_i hc
    refine (H11_2_eq i hX c d).trans (B.dk_above (i 1).val 256 256 c d (by omega))

include hX in
/-- After the rows `512` to `768` of the diagonal block. -/
theorem H11_4_eq (c : Fin 1024) (d : Fin 128) :
    (u11.view.read (Elt Ideal) (u11.view.writes (Elt Ideal) u11.view.junk (run.sl.H11_4 i u2 u3 u4 u5 u6 u7 u11 X2 X3 X4 X5 X6 X7)) (ix2 c d) : EReal) = B.dk (i 1).val 768 c d := by
  unfold run.sl.H11_4
  have hi := i1_lt i
  refine (write_rows (n := 768) (o := 0) _ _ _ _ _ rfl c d).trans ?_
  split
  · rename_i hc
    refine (dka_d2 (i 1).val B (kt u6 X6) (vt u7 X7) _ _ _ _ (1024 * (i 1).val + 512) (kt_eq hX) (vt_eq hX) (fun ρ d => (q_eq hX _ (k0_off1_eq i 2) ρ d (by omega))) (fun ρ d => (g_eq hX _ (k0_off1_eq i 2) ρ d (by omega))) (fun ρ => lse_eq hX _ (k0_off2_eq i 2) ρ (by omega)) (fun ρ => dl_eq hX _ (k0_off2_eq i 2) ρ (by omega)) rfl _ (fun ρ d => (pay44_apply _ ρ d).trans (q_eq hX _ (k0_off1_eq i 2) ρ d (by omega))) _ _ d).trans ?_
    rw [← B.dk_add (i 1).val 512 256 (1024 * (i 1).val + 512) c d rfl]
    refine congrArg₂ (· + ·) ?_ rfl
    refine (read_rows u11.view _ _ rfl _ d (by omega)).trans ?_
    refine (congrArg (u11.view.read (Elt Ideal) _) (congrArg (ix2 · d) (Fin.ext ?_))).trans (H11_3_eq i hX c d)
    simp
  · rename_i hc
    refine (H11_3_eq i hX c d).trans (B.dk_above (i 1).val 512 256 c d (by omega))

include hX in
/-- After the rows `768` to `1024` of the diagonal block. -/
theorem H11_5_eq (c : Fin 1024) (d : Fin 128) :
    (u11.view.read (Elt Ideal) (u11.view.writes (Elt Ideal) u11.view.junk (run.sl.H11_5 i u2 u3 u4 u5 u6 u7 u11 X2 X3 X4 X5 X6 X7)) (ix2 c d) : EReal) = B.dk (i 1).val 1024 c d := by
  unfold run.sl.H11_5
  have hi := i1_lt i
  refine (write_rows (n := 1024) (o := 0) _ _ _ _ _ rfl c d).trans ?_
  split
  · rename_i hc
    refine (dka_d3 (i 1).val B (kt u6 X6) (vt u7 X7) _ _ _ _ (1024 * (i 1).val + 768) (kt_eq hX) (vt_eq hX) (fun ρ d => (q_eq hX _ (k0_off1_eq i 3) ρ d (by omega))) (fun ρ d => (g_eq hX _ (k0_off1_eq i 3) ρ d (by omega))) (fun ρ => lse_eq hX _ (k0_off2_eq i 3) ρ (by omega)) (fun ρ => dl_eq hX _ (k0_off2_eq i 3) ρ (by omega)) rfl _ (fun ρ d => (pay45_apply _ ρ d).trans (q_eq hX _ (k0_off1_eq i 3) ρ d (by omega))) _ _ d).trans ?_
    rw [← B.dk_add (i 1).val 768 256 (1024 * (i 1).val + 768) c d rfl]
    refine congrArg₂ (· + ·) ?_ rfl
    refine (read_rows u11.view _ _ rfl _ d (by omega)).trans ?_
    refine (congrArg (u11.view.read (Elt Ideal) _) (congrArg (ix2 · d) (Fin.ext ?_))).trans (H11_4_eq i hX c d)
    simp
  · rename_i hc
    refine (H11_4_eq i hX c d).trans (B.dk_above (i 1).val 768 256 c d (by omega))

end

end Cert.KernelIdeal.AttnBwd

end
-- ==== Proof.Math.lean ====
module

public import proofs.«01_k».proof.Proof.Reads

@[expose] public section

set_option maxRecDepth 16384

noncomputable section

namespace Cert.KernelIdeal.AttnBwd

open Idealize.ShloMosaic Idealize.ShloMosaic.TcCoe Idealize.ShloMosaic.Tactic
open Idealize.SL.Sem

/-! ## The mathematics of one head, in real numbers -/

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over consecutive blocks is the sum over all. -/
theorem sum_blocks (b n : ℕ) (f : ℕ → ℝ) : ∑ j ∈ Finset.range n, ∑ c ∈ Finset.range b, f (b * j + c) = ∑ i ∈ Finset.range (b * n), f i := by
  induction n with
  | zero => simp
  | succ n ih => rw [Finset.sum_range_succ, ih, Nat.mul_succ, Finset.sum_range_add]

/-- One head: its queries, output gradients, keys, values, and the number subtracted from each row of scores. -/
structure Head where
  Q : ℕ → Fin 128 → ℝ
  G : ℕ → Fin 128 → ℝ
  K : ℕ → Fin 128 → ℝ
  W : ℕ → Fin 128 → ℝ
  M : ℕ → ℝ

namespace Head

variable (H : Head)

/-- The scaled score of row `r` and key `c`. -/
def s (r c : ℕ) : ℝ := (∑ d, H.Q r d * H.K c d) / √96
/-- Its exponential, the row's number subtracted; zero past the diagonal. -/
def e (r c : ℕ) : ℝ := if c ≤ r then Real.exp (H.s r c - H.M r) else 0
/-- The row's sum of exponentials. -/
def l (r : ℕ) : ℝ := ∑ c ∈ Finset.range 8192, H.e r c
/-- The attention weight. -/
def p (r c : ℕ) : ℝ := H.e r c / H.l r
/-- The gradient of the weight. -/
def dP (r c : ℕ) : ℝ := ∑ d, H.G r d * H.W c d
/-- The attention's output. -/
def o (r : ℕ) (d : Fin 128) : ℝ := ∑ c ∈ Finset.range 8192, H.p r c * H.W c d
/-- The row's product of gradient and output. -/
def del (r : ℕ) : ℝ := ∑ d, H.G r d * H.o r d
/-- The gradient of the score (before its scale). -/
def ds (r c : ℕ) : ℝ := H.p r c * (H.dP r c - H.del r)

theorem e_nonneg (r c : ℕ) : 0 ≤ H.e r c := by
  unfold e; split
  · exact (Real.exp_pos _).le
  · exact le_refl _

theorem l_pos (r : ℕ) : 0 < H.l r := by
  refine Finset.sum_pos' (fun c _ => H.e_nonneg r c) ⟨0, Finset.mem_range.mpr (by norm_num), ?_⟩
  unfold e; rw [if_pos (Nat.zero_le _)]; exact Real.exp_pos _

theorem e_of_lt {r c : ℕ} (h : r < c) : H.e r c = 0 := by unfold e; rw [if_neg (by omega)]
theorem p_of_lt {r c : ℕ} (h : r < c) : H.p r c = 0 := by unfold p; rw [H.e_of_lt h, zero_div]
theorem ds_of_lt {r c : ℕ} (h : r < c) : H.ds r c = 0 := by unfold ds; rw [H.p_of_lt h, zero_mul]

/-- The row's product of gradient and output is the weighted sum of the weights' gradients. -/
theorem del_eq (r : ℕ) : H.del r = ∑ c ∈ Finset.range 8192, H.dP r c * H.p r c := by
  unfold del o dP
  simp only [Finset.mul_sum, Finset.sum_mul]
  rw [Finset.sum_comm]
  refine Finset.sum_congr rfl fun c _ => Finset.sum_congr rfl fun d _ => by ring

/-- The base-two exponential the kernel takes is the attention weight. -/
theorem rpow_eq (r c : ℕ) (h : c ≤ r) :
    (2 : ℝ) ^ ((∑ d, H.Q r d * (1 / (√96 * Real.log 2)) * H.K c d) - (H.M r + Real.log (H.l r)) / Real.log 2) = H.p r c := by
  have h2 : Real.log 2 ≠ 0 := (Real.log_pos (by norm_num)).ne'
  have h9 : √(96 : ℝ) ≠ 0 := (Real.sqrt_pos.mpr (by norm_num)).ne'
  have e1 : (∑ d, H.Q r d * (1 / (√96 * Real.log 2)) * H.K c d) = H.s r c / Real.log 2 := by
    unfold s
    rw [div_div, Finset.sum_div]
    refine Finset.sum_congr rfl fun d _ => by ring
  rw [Real.rpow_def_of_pos (by norm_num), e1]
  have e2 : Real.log 2 * (H.s r c / Real.log 2 - (H.M r + Real.log (H.l r)) / Real.log 2) = (H.s r c - H.M r) - Real.log (H.l r) := by
    field_simp; ring
  rw [e2, Real.exp_sub, Real.exp_log (H.l_pos r)]
  unfold p e
  rw [if_pos h]

/-! ## The kernel's block computes it -/

/-- Block `j` of the keys holds this head's numbers: the queries scaled for the base-two exponential, the row log-sums in
    base two, the rows' products of gradient and output. -/
structure Is (j : ℕ) (B : Blk) : Prop where
  q : ∀ r < 8192, ∀ d, B.q r d = ((H.Q r d * (1 / (√96 * Real.log 2)) : ℝ) : EReal)
  g : ∀ r < 8192, ∀ d, B.g r d = ((H.G r d : ℝ) : EReal)
  lse : ∀ r < 8192, B.lse r = (((H.M r + Real.log (H.l r)) / Real.log 2 : ℝ) : EReal)
  dl : ∀ r < 8192, B.dl r = ((H.del r : ℝ) : EReal)
  k : ∀ c < 1024, ∀ d, B.k c d = ((H.K (1024 * j + c) d : ℝ) : EReal)
  v : ∀ c < 1024, ∀ d, B.v c d = ((H.W (1024 * j + c) d : ℝ) : EReal)

variable {H} {j : ℕ} {B : Blk}

theorem Is.P (hB : H.Is j B) {r c : ℕ} (hr : r < 8192) (hc : c < 1024) : B.P j r c = ((H.p r (1024 * j + c) : ℝ) : EReal) := by
  unfold Blk.P
  split
  · next h =>
    rw [hB.lse r hr]
    simp only [hB.q r hr, hB.k c hc]
    simp only [← EReal.coe_mul]
    rw [← coe_sum, ← EReal.coe_sub, Ideal.exp2_coe]
    exact congrArg _ (H.rpow_eq r (1024 * j + c) (by omega))
  · next h => rw [H.p_of_lt (by omega)]; rfl

theorem Is.D (hB : H.Is j B) {r c : ℕ} (hr : r < 8192) (hc : c < 1024) : B.D j r c = ((H.ds r (1024 * j + c) : ℝ) : EReal) := by
  unfold Blk.D
  rw [hB.P hr hc, hB.dl r hr]
  simp only [hB.g r hr, hB.v c hc]
  simp only [← EReal.coe_mul]
  rw [← coe_sum, ← EReal.coe_sub, ← EReal.coe_mul]
  rfl

theorem Is.dq (hB : H.Is j B) {r : ℕ} (hr : r < 8192) (d : Fin 128) :
    B.dq j r d = (((∑ c ∈ Finset.range 1024, H.ds r (1024 * j + c) * H.K (1024 * j + c) d) / √96 : ℝ) : EReal) := by
  unfold Blk.dq sm
  rw [Finset.sum_congr rfl (g := fun c => ((H.ds r (1024 * j + c) * H.K (1024 * j + c) d : ℝ) : EReal)) fun c hc => by
    rw [hB.D hr (Finset.mem_range.mp hc), hB.k c (Finset.mem_range.mp hc), ← EReal.coe_mul]]
  rw [← coe_sum, ← EReal.coe_mul, div_eq_mul_inv]

/-- The eight blocks' parts of `dq`, summed. -/
theorem dq_sum (Bs : ℕ → Blk) (hB : ∀ j < 8, H.Is j (Bs j)) {r : ℕ} (hr : r < 8192) (d : Fin 128) :
    ∑ j ∈ Finset.range 8, (Bs j).dq j r d = (((∑ c ∈ Finset.range 8192, H.ds r c * H.K c d) / √96 : ℝ) : EReal) := by
  rw [Finset.sum_congr rfl fun j hj => (hB j (Finset.mem_range.mp hj)).dq hr d, ← coe_sum, ← Finset.sum_div,
    sum_blocks 1024 8 fun i => H.ds r i * H.K i d]

/-- A block's rows of `dv`. -/
theorem Is.dv (hB : H.Is j B) (hj : j < 8) {c : ℕ} (hc : c < 1024) (d : Fin 128) :
    B.dv j (8192 - 1024 * j) c d = ((∑ r ∈ Finset.range 8192, H.p r (1024 * j + c) * H.G r d : ℝ) : EReal) := by
  unfold Blk.dv
  rw [Finset.sum_congr rfl (g := fun ρ => ((H.p (1024 * j + ρ) (1024 * j + c) * H.G (1024 * j + ρ) d : ℝ) : EReal)) fun ρ hρ => by
    have := Finset.mem_range.mp hρ
    rw [hB.P (by omega) hc, hB.g _ (by omega), ← EReal.coe_mul]]
  rw [← coe_sum]
  congr 1
  have e : 8192 = 1024 * j + (8192 - 1024 * j) := by omega
  conv_rhs => rw [e, Finset.sum_range_add]
  rw [Finset.sum_eq_zero (s := Finset.range (1024 * j)) fun r hr => by
    rw [H.p_of_lt (by have := Finset.mem_range.mp hr; omega), zero_mul], zero_add]

/-- A block's rows of `dk`, scaled back. -/
theorem Is.dk (hB : H.Is j B) (hj : j < 8) {c : ℕ} (hc : c < 1024) (d : Fin 128) :
    B.dk j (8192 - 1024 * j) c d * ln2 = (((∑ r ∈ Finset.range 8192, H.ds r (1024 * j + c) * H.Q r d) / √96 : ℝ) : EReal) := by
  unfold Blk.dk ln2
  rw [Finset.sum_congr rfl (g := fun ρ => ((H.ds (1024 * j + ρ) (1024 * j + c) * (H.Q (1024 * j + ρ) d * (1 / (√96 * Real.log 2))) : ℝ) : EReal)) fun ρ hρ => by
    have := Finset.mem_range.mp hρ
    rw [hB.D (by omega) hc, hB.q _ (by omega), ← EReal.coe_mul]]
  rw [← coe_sum, ← EReal.coe_mul]
  congr 1
  have e : 8192 = 1024 * j + (8192 - 1024 * j) := by omega
  conv_rhs => rw [e, Finset.sum_range_add]
  rw [Finset.sum_eq_zero (s := Finset.range (1024 * j)) fun r hr => by
    rw [H.ds_of_lt (by have := Finset.mem_range.mp hr; omega), zero_mul], zero_add, Finset.sum_mul, Finset.sum_div]
  have h2 : Real.log 2 ≠ 0 := (Real.log_pos (by norm_num)).ne'
  have h9 : √(96 : ℝ) ≠ 0 := (Real.sqrt_pos.mpr (by norm_num)).ne'
  refine Finset.sum_congr rfl fun r _ => by field_simp

end Head

end Cert.KernelIdeal.AttnBwd

end
-- ==== Proof.Trips.lean ====
module

public import proofs.«01_k».proof.Proof.Reads

@[expose] public section

set_option maxRecDepth 16384

noncomputable section

namespace Cert.KernelIdeal.AttnBwd

open Idealize.ShloMosaic Idealize.ShloMosaic.TcCoe Idealize.ShloMosaic.Tactic
open Idealize.SL.Sem
open Cert.KernelIdeal Cert.KernelIdeal.Gen

/-! ## How often the loops run -/

/-- The loop over the blocks below the diagonal runs once for each of them. -/
theorem trips1 (i : grid0.Coords) : (k0_t1_loop i).trips = 7 - (i 1).val := by
  have h : ∀ n : Fin 8, Scf.trips (Scalar.addi (BitVec.ofNat 32 n.val) 1#32)
      (Scalar.addi (Scalar.addi (BitVec.ofNat 32 n.val) 1#32) (Scalar.muli (Scalar.divsi (Scalar.subi 8#32 (Scalar.addi (BitVec.ofNat 32 n.val) 1#32)) 1#32) 1#32)) 1#32 = 7 - n.val := by
    decide
  exact h ⟨(i 1).val, i1_lt i⟩

/-- The rest of the loop is empty. -/
theorem trips2 (i : grid0.Coords) : (k0_t2_loop i).trips = 0 := by
  have h : ∀ n : Fin 8, Scf.trips (Scalar.addi (Scalar.addi (BitVec.ofNat 32 n.val) 1#32) (Scalar.muli (Scalar.divsi (Scalar.subi 8#32 (Scalar.addi (BitVec.ofNat 32 n.val) 1#32)) 1#32) 1#32))
      (Scalar.addi (Scalar.addi (BitVec.ofNat 32 n.val) 1#32) (Scalar.subi 8#32 (Scalar.addi (BitVec.ofNat 32 n.val) 1#32))) 1#32 = 0 := by
    decide
  exact h ⟨(i 1).val, i1_lt i⟩

/-! ## Where a trip's rows are -/

theorem row0 (i : grid0.Coords) (k : Fin (k0_t1_loop i).trips) (ρ : Fin 512) : (1024 * (i 1).val + (1024 + 1024 * k.val)) + ρ.val < 8192 := by
  have h := Nat.lt_of_lt_of_eq k.isLt (trips1 i); have hi := i1_lt i; omega

theorem off3_0 (i : grid0.Coords) (k : Fin (k0_t1_loop i).trips) : k0_off3 i k 0#32 = ![(1024 * (i 1).val + (1024 + 1024 * k.val)), 0] := by
  rw [show k0_off3 i k 0#32 = _ from k0_off3_eq i k 0]
  congr 1
  show 1024 * (i 1).val + 1024 * k.val + 512 * 0 + 1024 = _
  omega

theorem off4_0 (i : grid0.Coords) (k : Fin (k0_t1_loop i).trips) : k0_off4 i k 0#32 = ![0, (1024 * (i 1).val + (1024 + 1024 * k.val)), 0] := by
  rw [show k0_off4 i k 0#32 = _ from k0_off4_eq i k 0]
  congr 2
  show 1024 * (i 1).val + 1024 * k.val + 512 * 0 + 1024 = _
  omega

theorem row1 (i : grid0.Coords) (k : Fin (k0_t1_loop i).trips) (ρ : Fin 512) : (1024 * (i 1).val + ((1024 + 1024 * k.val) + 512)) + ρ.val < 8192 := by
  have h := Nat.lt_of_lt_of_eq k.isLt (trips1 i); have hi := i1_lt i; omega

theorem off3_1 (i : grid0.Coords) (k : Fin (k0_t1_loop i).trips) : k0_off3 i k 512#32 = ![(1024 * (i 1).val + ((1024 + 1024 * k.val) + 512)), 0] := by
  rw [show k0_off3 i k 512#32 = _ from k0_off3_eq i k 1]
  congr 1
  show 1024 * (i 1).val + 1024 * k.val + 512 * 1 + 1024 = _
  omega

theorem off4_1 (i : grid0.Coords) (k : Fin (k0_t1_loop i).trips) : k0_off4 i k 512#32 = ![0, (1024 * (i 1).val + ((1024 + 1024 * k.val) + 512)), 0] := by
  rw [show k0_off4 i k 512#32 = _ from k0_off4_eq i k 1]
  congr 2
  show 1024 * (i 1).val + 1024 * k.val + 512 * 1 + 1024 = _
  omega

section
variable (c : Dev nD) (i : grid0.Coords) (u2 : VRef S8192x128 .bf16) (w2 : u2.IsWhole) (u3 : VRef S8192x128 .bf16) (w3 : u3.IsWhole) (u4 : VRef S1x8192x1 .f32) (w4 : u4.IsWhole) (u5 : VRef S1x8192x1 .f32) (w5 : u5.IsWhole)
    (u6 : VRef S1024x128 .bf16) (w6 : u6.IsWhole) (u7 : VRef S1024x128 .bf16) (w7 : u7.IsWhole) (u8 : VRef S8192x128 .f32) (w8 : u8.IsWhole)
    (u9 : VRef S1024x128 .f32) (w9 : u9.IsWhole) (u10 : VRef S1024x128 .f32) (w10 : u10.IsWhole) (u11 : VRef S1024x128 .f32) (w11 : u11.IsWhole) (u12 : VRef S1024x128 .f32) (w12 : u12.IsWhole)
    {X2 : Held u2} {X3 : Held u3} {X4 : Held u4} {X5 : Held u5} {X6 : Held u6} {X7 : Held u7} {B : Blk} (v236 : BitVec 32)
    {f8 : Held u8} {f11 : Held u11} {f12 : Held u12}

/-! ## One block below the diagonal -/

section
variable {v12 v14 : FVec Ideal S1024x128 .bf16} (hk : ∀ (c : Fin 1024) d, v12 (ix2 c d) = B.k c d) (hv : ∀ (c : Fin 1024) d, v14 (ix2 c d) = B.v c d)
    (hX : Holds u2 u3 u4 u5 u6 u7 X2 X3 X4 X5 X6 X7 B) (k : Fin (k0_t1_loop i).trips)

theorem trip_dq_pieces : (tripL_k0_t1 (F := Ideal) Variants.none c none i u2 w2 u3 w3 u4 w4 u5 w5 u6 w6 u7 w7 u8 w8 u9 w9 u10 w10 u11 w11 u12 w12 v12 v14 v236 X2 X3 X4 X5 k f8 f11 f12).1 = [⟨Rect.unit (s := S8192x128) (k0_off3 i k 512#32) S512x128.size (k0_off3_inb i k 1), k0_pay3 v12 (k0_pay20 (k0_pay11 v12 (View.readAt (Elt Ideal) u2.view (Rect.unit (s := S8192x128) (k0_off3 i k 512#32) S512x128.size (k0_off3_inb i k 1)).toLoadRect X2)) (k0_pay12 v14 (View.readAt (Elt Ideal) u3.view (Rect.unit (s := S8192x128) (k0_off3 i k 512#32) S512x128.size (k0_off3_inb i k 1)).toLoadRect X3)) (View.readAt (Elt Ideal) u4.view (Rect.unit (s := S1x8192x1) (k0_off4 i k 512#32) S1x512x1.size (k0_off4_inb i k 1)).toLoadRect X4) (View.readAt (Elt Ideal) u5.view (Rect.unit (s := S1x8192x1) (k0_off4 i k 512#32) S1x512x1.size (k0_off4_inb i k 1)).toLoadRect X5)) (View.readAt (Elt Ideal) u8.view (Rect.unit (s := S8192x128) (k0_off3 i k 512#32) S512x128.size (k0_off3_inb i k 1)).toLoadRect f8)⟩, ⟨Rect.unit (s := S8192x128) (k0_off3 i k 0#32) S512x128.size (k0_off3_inb i k 0), k0_pay18 v12 (k0_pay14 v12 v14 (View.readAt (Elt Ideal) u2.view (Rect.unit (s := S8192x128) (k0_off3 i k 0#32) S512x128.size (k0_off3_inb i k 0)).toLoadRect X2) (View.readAt (Elt Ideal) u3.view (Rect.unit (s := S8192x128) (k0_off3 i k 0#32) S512x128.size (k0_off3_inb i k 0)).toLoadRect X3) (View.readAt (Elt Ideal) u4.view (Rect.unit (s := S1x8192x1) (k0_off4 i k 0#32) S1x512x1.size (k0_off4_inb i k 0)).toLoadRect X4) (View.readAt (Elt Ideal) u5.view (Rect.unit (s := S1x8192x1) (k0_off4 i k 0#32) S1x512x1.size (k0_off4_inb i k 0)).toLoadRect X5)) (View.readAt (Elt Ideal) u8.view (Rect.unit (s := S8192x128) (k0_off3 i k 0#32) S512x128.size (k0_off3_inb i k 0)).toLoadRect f8)⟩] := by
  unfold tripL_k0_t1 trip_k0_t1
  rfl

theorem trip_dk_pieces : (tripL_k0_t1 (F := Ideal) Variants.none c none i u2 w2 u3 w3 u4 w4 u5 w5 u6 w6 u7 w7 u8 w8 u9 w9 u10 w10 u11 w11 u12 w12 v12 v14 v236 X2 X3 X4 X5 k f8 f11 f12).2.1 = ⟨(Rect.unit (s := S1024x128) ![0, 0] S1024x128.size inb_S1024x128_S1024x128_0_0), k0_pay2 (k0_pay8 (View.readAt (Elt Ideal) u2.view (Rect.unit (s := S8192x128) (k0_off3 i k 512#32) S512x128.size (k0_off3_inb i k 1)).toLoadRect X2)) (k0_pay20 (k0_pay11 v12 (View.readAt (Elt Ideal) u2.view (Rect.unit (s := S8192x128) (k0_off3 i k 512#32) S512x128.size (k0_off3_inb i k 1)).toLoadRect X2)) (k0_pay12 v14 (View.readAt (Elt Ideal) u3.view (Rect.unit (s := S8192x128) (k0_off3 i k 512#32) S512x128.size (k0_off3_inb i k 1)).toLoadRect X3)) (View.readAt (Elt Ideal) u4.view (Rect.unit (s := S1x8192x1) (k0_off4 i k 512#32) S1x512x1.size (k0_off4_inb i k 1)).toLoadRect X4) (View.readAt (Elt Ideal) u5.view (Rect.unit (s := S1x8192x1) (k0_off4 i k 512#32) S1x512x1.size (k0_off4_inb i k 1)).toLoadRect X5)) (u11.view.readCov [⟨(Rect.unit (s := S1024x128) ![0, 0] S1024x128.size inb_S1024x128_S1024x128_0_0), k0_pay17 (k0_pay7 (View.readAt (Elt Ideal) u2.view (Rect.unit (s := S8192x128) (k0_off3 i k 0#32) S512x128.size (k0_off3_inb i k 0)).toLoadRect X2)) (k0_pay14 v12 v14 (View.readAt (Elt Ideal) u2.view (Rect.unit (s := S8192x128) (k0_off3 i k 0#32) S512x128.size (k0_off3_inb i k 0)).toLoadRect X2) (View.readAt (Elt Ideal) u3.view (Rect.unit (s := S8192x128) (k0_off3 i k 0#32) S512x128.size (k0_off3_inb i k 0)).toLoadRect X3) (View.readAt (Elt Ideal) u4.view (Rect.unit (s := S1x8192x1) (k0_off4 i k 0#32) S1x512x1.size (k0_off4_inb i k 0)).toLoadRect X4) (View.readAt (Elt Ideal) u5.view (Rect.unit (s := S1x8192x1) (k0_off4 i k 0#32) S1x512x1.size (k0_off4_inb i k 0)).toLoadRect X5)) (View.readAt (Elt Ideal) u11.view (Rect.unit (s := S1024x128) ![0, 0] S1024x128.size inb_S1024x128_S1024x128_0_0).toLoadRect f11)⟩] (Rect.unit (s := S1024x128) ![0, 0] S1024x128.size inb_S1024x128_S1024x128_0_0).toLoadRect)⟩ :: [⟨(Rect.unit (s := S1024x128) ![0, 0] S1024x128.size inb_S1024x128_S1024x128_0_0), k0_pay17 (k0_pay7 (View.readAt (Elt Ideal) u2.view (Rect.unit (s := S8192x128) (k0_off3 i k 0#32) S512x128.size (k0_off3_inb i k 0)).toLoadRect X2)) (k0_pay14 v12 v14 (View.readAt (Elt Ideal) u2.view (Rect.unit (s := S8192x128) (k0_off3 i k 0#32) S512x128.size (k0_off3_inb i k 0)).toLoadRect X2) (View.readAt (Elt Ideal) u3.view (Rect.unit (s := S8192x128) (k0_off3 i k 0#32) S512x128.size (k0_off3_inb i k 0)).toLoadRect X3) (View.readAt (Elt Ideal) u4.view (Rect.unit (s := S1x8192x1) (k0_off4 i k 0#32) S1x512x1.size (k0_off4_inb i k 0)).toLoadRect X4) (View.readAt (Elt Ideal) u5.view (Rect.unit (s := S1x8192x1) (k0_off4 i k 0#32) S1x512x1.size (k0_off4_inb i k 0)).toLoadRect X5)) (View.readAt (Elt Ideal) u11.view (Rect.unit (s := S1024x128) ![0, 0] S1024x128.size inb_S1024x128_S1024x128_0_0).toLoadRect f11)⟩] := by
  unfold tripL_k0_t1 trip_k0_t1
  rfl

theorem trip_dv_pieces : (tripL_k0_t1 (F := Ideal) Variants.none c none i u2 w2 u3 w3 u4 w4 u5 w5 u6 w6 u7 w7 u8 w8 u9 w9 u10 w10 u11 w11 u12 w12 v12 v14 v236 X2 X3 X4 X5 k f8 f11 f12).2.2 = ⟨(Rect.unit (s := S1024x128) ![0, 0] S1024x128.size inb_S1024x128_S1024x128_0_0), k0_pay21 (k0_pay10 (View.readAt (Elt Ideal) u3.view (Rect.unit (s := S8192x128) (k0_off3 i k 512#32) S512x128.size (k0_off3_inb i k 1)).toLoadRect X3)) (k0_pay11 v12 (View.readAt (Elt Ideal) u2.view (Rect.unit (s := S8192x128) (k0_off3 i k 512#32) S512x128.size (k0_off3_inb i k 1)).toLoadRect X2)) (View.readAt (Elt Ideal) u4.view (Rect.unit (s := S1x8192x1) (k0_off4 i k 512#32) S1x512x1.size (k0_off4_inb i k 1)).toLoadRect X4) (u12.view.readCov [⟨(Rect.unit (s := S1024x128) ![0, 0] S1024x128.size inb_S1024x128_S1024x128_0_0), k0_pay16 (k0_pay15 v12 (View.readAt (Elt Ideal) u2.view (Rect.unit (s := S8192x128) (k0_off3 i k 0#32) S512x128.size (k0_off3_inb i k 0)).toLoadRect X2) (View.readAt (Elt Ideal) u3.view (Rect.unit (s := S8192x128) (k0_off3 i k 0#32) S512x128.size (k0_off3_inb i k 0)).toLoadRect X3) (View.readAt (Elt Ideal) u4.view (Rect.unit (s := S1x8192x1) (k0_off4 i k 0#32) S1x512x1.size (k0_off4_inb i k 0)).toLoadRect X4) (View.readAt (Elt Ideal) u12.view (Rect.unit (s := S1024x128) ![0, 0] S1024x128.size inb_S1024x128_S1024x128_0_0).toLoadRect f12))⟩] (Rect.unit (s := S1024x128) ![0, 0] S1024x128.size inb_S1024x128_S1024x128_0_0).toLoadRect)⟩ :: [⟨(Rect.unit (s := S1024x128) ![0, 0] S1024x128.size inb_S1024x128_S1024x128_0_0), k0_pay16 (k0_pay15 v12 (View.readAt (Elt Ideal) u2.view (Rect.unit (s := S8192x128) (k0_off3 i k 0#32) S512x128.size (k0_off3_inb i k 0)).toLoadRect X2) (View.readAt (Elt Ideal) u3.view (Rect.unit (s := S8192x128) (k0_off3 i k 0#32) S512x128.size (k0_off3_inb i k 0)).toLoadRect X3) (View.readAt (Elt Ideal) u4.view (Rect.unit (s := S1x8192x1) (k0_off4 i k 0#32) S1x512x1.size (k0_off4_inb i k 0)).toLoadRect X4) (View.readAt (Elt Ideal) u12.view (Rect.unit (s := S1024x128) ![0, 0] S1024x128.size inb_S1024x128_S1024x128_0_0).toLoadRect f12))⟩] := by
  unfold tripL_k0_t1 trip_k0_t1
  rfl

include hk hX in
/-- One block's rows added to the accumulator of the values. -/
theorem trip_dv (hf : ∀ (c : Fin 1024) d, (u12.view.read (Elt Ideal) f12 (ix2 c d) : EReal) = B.dv (i 1).val (1024 + 1024 * k.val) c d) (c' : Fin 1024) (d : Fin 128) :
    (u12.view.read (Elt Ideal) (u12.view.writes (Elt Ideal) f12 (tripL_k0_t1 (F := Ideal) Variants.none c none i u2 w2 u3 w3 u4 w4 u5 w5 u6 w6 u7 w7 u8 w8 u9 w9 u10 w10 u11 w11 u12 w12 v12 v14 v236 X2 X3 X4 X5 k f8 f11 f12).2.2) (ix2 c' d) : EReal) = B.dv (i 1).val ((1024 + 1024 * k.val) + 1024) c' d := by
  rw [trip_dv_pieces]
  refine (congrFun (View.read_writes_full _ _ _ _ _) _).trans ?_
  refine (dva_t1 (i 1).val B v12 _ _ _ (1024 * (i 1).val + ((1024 + 1024 * k.val) + 512)) hk (fun ρ d => q_eq hX _ (off3_1 i k) ρ d (row1 i k ρ)) (fun ρ d => g_eq hX _ (off3_1 i k) ρ d (row1 i k ρ)) (fun ρ => lse_eq hX _ (off4_1 i k) ρ (row1 i k ρ)) (by omega) _ c' d).trans ?_
  rw [show (1024 + 1024 * k.val) + 1024 = ((1024 + 1024 * k.val) + 512) + 512 from rfl, ← B.dv_add (i 1).val ((1024 + 1024 * k.val) + 512) 512 (1024 * (i 1).val + ((1024 + 1024 * k.val) + 512)) c' d rfl]
  refine congrArg₂ (· + ·) ?_ rfl
  refine (congrFun (View.readCov_full _ _ _ _ _) _).trans ?_
  refine (dva_t0 (i 1).val B v12 _ _ _ (1024 * (i 1).val + (1024 + 1024 * k.val)) hk (fun ρ d => q_eq hX _ (off3_0 i k) ρ d (row0 i k ρ)) (fun ρ d => g_eq hX _ (off3_0 i k) ρ d (row0 i k ρ)) (fun ρ => lse_eq hX _ (off4_0 i k) ρ (row0 i k ρ)) (by omega) _ c' d).trans ?_
  rw [← B.dv_add (i 1).val (1024 + 1024 * k.val) 512 (1024 * (i 1).val + (1024 + 1024 * k.val)) c' d rfl]
  refine congrArg₂ (· + ·) ?_ rfl
  exact (congrFun (View.readAt_full _ _ _) _).trans (hf c' d)

include hk hv hX in
/-- One block's rows added to the accumulator of the keys. -/
theorem trip_dk (hf : ∀ (c : Fin 1024) d, (u11.view.read (Elt Ideal) f11 (ix2 c d) : EReal) = B.dk (i 1).val (1024 + 1024 * k.val) c d) (c' : Fin 1024) (d : Fin 128) :
    (u11.view.read (Elt Ideal) (u11.view.writes (Elt Ideal) f11 (tripL_k0_t1 (F := Ideal) Variants.none c none i u2 w2 u3 w3 u4 w4 u5 w5 u6 w6 u7 w7 u8 w8 u9 w9 u10 w10 u11 w11 u12 w12 v12 v14 v236 X2 X3 X4 X5 k f8 f11 f12).2.1) (ix2 c' d) : EReal) = B.dk (i 1).val ((1024 + 1024 * k.val) + 1024) c' d := by
  rw [trip_dk_pieces]
  refine (congrFun (View.read_writes_full _ _ _ _ _) _).trans ?_
  refine (dka_t1 (i 1).val B v12 v14 _ _ _ _ (1024 * (i 1).val + ((1024 + 1024 * k.val) + 512)) hk hv (fun ρ d => q_eq hX _ (off3_1 i k) ρ d (row1 i k ρ)) (fun ρ d => g_eq hX _ (off3_1 i k) ρ d (row1 i k ρ)) (fun ρ => lse_eq hX _ (off4_1 i k) ρ (row1 i k ρ)) (fun ρ => dl_eq hX _ (off4_1 i k) ρ (row1 i k ρ)) (by omega) _ c' d).trans ?_
  rw [show (1024 + 1024 * k.val) + 1024 = ((1024 + 1024 * k.val) + 512) + 512 from rfl, ← B.dk_add (i 1).val ((1024 + 1024 * k.val) + 512) 512 (1024 * (i 1).val + ((1024 + 1024 * k.val) + 512)) c' d rfl]
  refine congrArg₂ (· + ·) ?_ rfl
  refine (congrFun (View.readCov_full _ _ _ _ _) _).trans ?_
  refine (dka_t0 (i 1).val B v12 v14 _ _ _ _ (1024 * (i 1).val + (1024 + 1024 * k.val)) hk hv (fun ρ d => q_eq hX _ (off3_0 i k) ρ d (row0 i k ρ)) (fun ρ d => g_eq hX _ (off3_0 i k) ρ d (row0 i k ρ)) (fun ρ => lse_eq hX _ (off4_0 i k) ρ (row0 i k ρ)) (fun ρ => dl_eq hX _ (off4_0 i k) ρ (row0 i k ρ)) (by omega) _ c' d).trans ?_
  rw [← B.dk_add (i 1).val (1024 + 1024 * k.val) 512 (1024 * (i 1).val + (1024 + 1024 * k.val)) c' d rfl]
  refine congrArg₂ (· + ·) ?_ rfl
  exact (congrFun (View.readAt_full _ _ _) _).trans (hf c' d)

include hk hv hX in
/-- One block's rows of `dq` updated. -/
theorem trip_dq (base : Fin 8192 → Fin 128 → EReal)
    (hf : ∀ (r : Fin 8192) d, (u8.view.read (Elt Ideal) f8 (ix2 r d) : EReal) = base r d + if r.val < 1024 * (i 1).val + (1024 + 1024 * k.val) then B.dq (i 1).val r d else 0) (r' : Fin 8192) (d : Fin 128) :
    (u8.view.read (Elt Ideal) (u8.view.writes (Elt Ideal) f8 (tripL_k0_t1 (F := Ideal) Variants.none c none i u2 w2 u3 w3 u4 w4 u5 w5 u6 w6 u7 w7 u8 w8 u9 w9 u10 w10 u11 w11 u12 w12 v12 v14 v236 X2 X3 X4 X5 k f8 f11 f12).1) (ix2 r' d) : EReal)
      = base r' d + if r'.val < 1024 * (i 1).val + ((1024 + 1024 * k.val) + 1024) then B.dq (i 1).val r' d else 0 := by
  rw [trip_dq_pieces]
  refine (write_rows (n := 512) (o := (1024 * (i 1).val + ((1024 + 1024 * k.val) + 512))) _ _ _ _ _ (off3_1 i k) r' d).trans ?_
  split
  · rename_i hr
    refine (dq_t1 (i 1).val B v12 v14 _ _ _ _ (1024 * (i 1).val + ((1024 + 1024 * k.val) + 512)) hk hv (fun ρ d => q_eq hX _ (off3_1 i k) ρ d (row1 i k ρ)) (fun ρ d => g_eq hX _ (off3_1 i k) ρ d (row1 i k ρ)) (fun ρ => lse_eq hX _ (off4_1 i k) ρ (row1 i k ρ)) (fun ρ => dl_eq hX _ (off4_1 i k) ρ (row1 i k ρ)) (by omega) _ _ d).trans ?_
    rw [if_pos (by omega)]
    refine congrArg₂ (· + ·) ?_ ?_
    · refine (read_rows u8.view _ _ (off3_1 i k) _ d (row1 i k _)).trans ?_
      refine (congrArg (u8.view.read (Elt Ideal) _) (congrArg (ix2 · d) (Fin.ext ?_))).trans ((hf r' d).trans ?_)
      · show (1024 * (i 1).val + ((1024 + 1024 * k.val) + 512)) + (r'.val - (1024 * (i 1).val + ((1024 + 1024 * k.val) + 512))) = r'.val; omega
      · rw [if_neg (by omega), add_zero]
    · show B.dq (i 1).val ((1024 * (i 1).val + ((1024 + 1024 * k.val) + 512)) + (r'.val - (1024 * (i 1).val + ((1024 + 1024 * k.val) + 512)))) d = _
      rw [show (1024 * (i 1).val + ((1024 + 1024 * k.val) + 512)) + (r'.val - (1024 * (i 1).val + ((1024 + 1024 * k.val) + 512))) = r'.val by omega]
  · refine (write_rows (n := 512) (o := (1024 * (i 1).val + (1024 + 1024 * k.val))) _ _ _ _ _ (off3_0 i k) r' d).trans ?_
    split
    · rename_i hr
      refine (dq_t0 (i 1).val B v12 v14 _ _ _ _ (1024 * (i 1).val + (1024 + 1024 * k.val)) hk hv (fun ρ d => q_eq hX _ (off3_0 i k) ρ d (row0 i k ρ)) (fun ρ d => g_eq hX _ (off3_0 i k) ρ d (row0 i k ρ)) (fun ρ => lse_eq hX _ (off4_0 i k) ρ (row0 i k ρ)) (fun ρ => dl_eq hX _ (off4_0 i k) ρ (row0 i k ρ)) (by omega) _ _ d).trans ?_
      rw [if_pos (by omega)]
      refine congrArg₂ (· + ·) ?_ ?_
      · refine (read_rows u8.view _ _ (off3_0 i k) _ d (row0 i k _)).trans ?_
        refine (congrArg (u8.view.read (Elt Ideal) _) (congrArg (ix2 · d) (Fin.ext ?_))).trans ((hf r' d).trans ?_)
        · show (1024 * (i 1).val + (1024 + 1024 * k.val)) + (r'.val - (1024 * (i 1).val + (1024 + 1024 * k.val))) = r'.val; omega
        · rw [if_neg (by omega), add_zero]
      · show B.dq (i 1).val ((1024 * (i 1).val + (1024 + 1024 * k.val)) + (r'.val - (1024 * (i 1).val + (1024 + 1024 * k.val)))) d = _
        rw [show (1024 * (i 1).val + (1024 + 1024 * k.val)) + (r'.val - (1024 * (i 1).val + (1024 + 1024 * k.val))) = r'.val by omega]
    · refine (hf r' d).trans ?_
      congr 1
      by_cases h : r'.val < 1024 * (i 1).val + (1024 + 1024 * k.val)
      · rw [if_pos h, if_pos (by omega)]
      · rw [if_neg h, if_neg (by omega)]

end

/-! ## The whole loop -/

section
variable {v12 v14 : FVec Ideal S1024x128 .bf16} (hk : ∀ (c : Fin 1024) d, v12 (ix2 c d) = B.k c d) (hv : ∀ (c : Fin 1024) d, v14 (ix2 c d) = B.v c d)
    (hX : Holds u2 u3 u4 u5 u6 u7 X2 X3 X4 X5 X6 X7 B)
    (base : Fin 8192 → Fin 128 → EReal)
    (h8 : ∀ (r : Fin 8192) d, (u8.view.read (Elt Ideal) f8 (ix2 r d) : EReal) = base r d + if r.val < 1024 * (i 1).val + 1024 then B.dq (i 1).val r d else 0)
    (h11 : ∀ (c : Fin 1024) d, (u11.view.read (Elt Ideal) f11 (ix2 c d) : EReal) = B.dk (i 1).val 1024 c d)
    (h12 : ∀ (c : Fin 1024) d, (u12.view.read (Elt Ideal) f12 (ix2 c d) : EReal) = B.dv (i 1).val 1024 c d)

include hk hv hX h8 h11 h12 in
/-- After `t` blocks below the diagonal. -/
theorem loop_eq (t : ℕ) (ht : t ≤ (k0_t1_loop i).trips) :
    (∀ (r : Fin 8192) d, (u8.view.read (Elt Ideal) (u8.view.writes (Elt Ideal) f8 (pb_k0_t1 (F := Ideal) Variants.none c none i u2 w2 u3 w3 u4 w4 u5 w5 u6 w6 u7 w7 u8 w8 u9 w9 u10 w10 u11 w11 u12 w12 v12 v14 v236 X2 X3 X4 X5 f8 f11 f12 t).1) (ix2 r d) : EReal)
        = base r d + if r.val < 1024 * (i 1).val + (1024 + 1024 * t) then B.dq (i 1).val r d else 0)
      ∧ (∀ (c' : Fin 1024) d, (u11.view.read (Elt Ideal) (u11.view.writes (Elt Ideal) f11 (pb_k0_t1 (F := Ideal) Variants.none c none i u2 w2 u3 w3 u4 w4 u5 w5 u6 w6 u7 w7 u8 w8 u9 w9 u10 w10 u11 w11 u12 w12 v12 v14 v236 X2 X3 X4 X5 f8 f11 f12 t).2.1) (ix2 c' d) : EReal) = B.dk (i 1).val (1024 + 1024 * t) c' d)
      ∧ (∀ (c' : Fin 1024) d, (u12.view.read (Elt Ideal) (u12.view.writes (Elt Ideal) f12 (pb_k0_t1 (F := Ideal) Variants.none c none i u2 w2 u3 w3 u4 w4 u5 w5 u6 w6 u7 w7 u8 w8 u9 w9 u10 w10 u11 w11 u12 w12 v12 v14 v236 X2 X3 X4 X5 f8 f11 f12 t).2.2) (ix2 c' d) : EReal) = B.dv (i 1).val (1024 + 1024 * t) c' d) := by
  induction t with
  | zero => exact ⟨h8, h11, h12⟩
  | succ t ih =>
    obtain ⟨i8, i11, i12⟩ := ih (by omega)
    rw [pb_k0_t1_succ (F := Ideal) (k := ⟨t, by omega⟩)]
    dsimp only
    simp only [View.writes_append]
    exact ⟨fun r d => trip_dq c i u2 w2 u3 w3 u4 w4 u5 w5 u6 w6 u7 w7 u8 w8 u9 w9 u10 w10 u11 w11 u12 w12 v236 hk hv hX ⟨t, by omega⟩ base i8 r d,
      fun c' d => trip_dk c i u2 w2 u3 w3 u4 w4 u5 w5 u6 w6 u7 w7 u8 w8 u9 w9 u10 w10 u11 w11 u12 w12 v236 hk hv hX ⟨t, by omega⟩ i11 c' d,
      fun c' d => trip_dv c i u2 w2 u3 w3 u4 w4 u5 w5 u6 w6 u7 w7 u8 w8 u9 w9 u10 w10 u11 w11 u12 w12 v236 hk hX ⟨t, by omega⟩ i12 c' d⟩

end
end

end Cert.KernelIdeal.AttnBwd

end
-- ==== Proof.Out.lean ====
module

public import proofs.«01_k».proof.Proof.Trips

@[expose] public section

set_option maxRecDepth 16384

noncomputable section

namespace Cert.KernelIdeal.AttnBwd

open Idealize.ShloMosaic Idealize.ShloMosaic.TcCoe Idealize.ShloMosaic.Tactic
open Idealize.SL.Sem
open Cert.KernelIdeal Cert.KernelIdeal.Gen

/-! ## The diagonal rows of `dq` -/

theorem drow0 (i : grid0.Coords) (ρ : Fin 256) : (1024 * (i 1).val + 0) + ρ.val < 8192 := by
  have hi := i1_lt i; omega

theorem drow1 (i : grid0.Coords) (ρ : Fin 256) : (1024 * (i 1).val + 256) + ρ.val < 8192 := by
  have hi := i1_lt i; omega

theorem drow2 (i : grid0.Coords) (ρ : Fin 256) : (1024 * (i 1).val + 512) + ρ.val < 8192 := by
  have hi := i1_lt i; omega

theorem drow3 (i : grid0.Coords) (ρ : Fin 256) : (1024 * (i 1).val + 768) + ρ.val < 8192 := by
  have hi := i1_lt i; omega

/-- What the diagonal block stores into `dq`, newest first. -/
def diagPieces (i : grid0.Coords) (u2 : VRef S8192x128 .bf16) (u3 : VRef S8192x128 .bf16) (u4 : VRef S1x8192x1 .f32) (u5 : VRef S1x8192x1 .f32) (u6 : VRef S1024x128 .bf16) (u7 : VRef S1024x128 .bf16) (u8 : VRef S8192x128 .f32)
    (X2 : Held u2) (X3 : Held u3) (X4 : Held u4) (X5 : Held u5) (X6 : Held u6) (X7 : Held u7) (f8 : Held u8) : List (View.Piece (Elt Ideal) S8192x128 .f32) :=
  [⟨Rect.unit (s := S8192x128) (k0_off1 i 768#32) S256x128.size (k0_off1_inb i 3), k0_pay1 (kt u6 X6) (run.sl.r_16 i u2 u3 u4 u5 u6 u7 X2 X3 X4 X5 X6 X7) (run.sl.r_17 i u8 f8) (run.sl.cst_106 (F := Ideal))⟩,
    ⟨Rect.unit (s := S8192x128) (k0_off1 i 512#32) S256x128.size (k0_off1_inb i 2), run.sl.r_15 i u2 u3 u4 u5 u6 u7 u8 X2 X3 X4 X5 X6 X7 f8⟩,
    ⟨Rect.unit (s := S8192x128) (k0_off1 i 256#32) S256x128.size (k0_off1_inb i 1), k0_pay69 (kt u6 X6) (run.sl.r_10 i u2 u3 u6 u7 X2 X3 X6 X7) (run.sl.r_14 i u2 u4 u6 u7 X2 X4 X6 X7) (View.readAt (Elt Ideal) u5.view (Rect.unit (s := S1x8192x1) (k0_off2 i 256#32) S1x256x1.size (k0_off2_inb i 1)).toLoadRect X5) (run.sl.v142 i u8 f8)⟩,
    ⟨Rect.unit (s := S8192x128) (k0_off1 i 0#32) S256x128.size (k0_off1_inb i 0), k0_pay63 (kt u6 X6) (run.sl.r_9 i u2 u3 u6 u7 X2 X3 X6 X7) (run.sl.r_13 i u2 u4 u6 u7 X2 X4 X6 X7) (k0_pay58) (View.readAt (Elt Ideal) u5.view (Rect.unit (s := S1x8192x1) (k0_off2 i 0#32) S1x256x1.size (k0_off2_inb i 0)).toLoadRect X5) (View.readAt (Elt Ideal) u8.view (Rect.unit (s := S8192x128) (k0_off1 i 0#32) S256x128.size (k0_off1_inb i 0)).toLoadRect f8)⟩]

section
variable (i : grid0.Coords) {u2 : VRef S8192x128 .bf16} {u3 : VRef S8192x128 .bf16} {u4 : VRef S1x8192x1 .f32} {u5 : VRef S1x8192x1 .f32} {u6 : VRef S1024x128 .bf16} {u7 : VRef S1024x128 .bf16} {u8 : VRef S8192x128 .f32} {u9 : VRef S1024x128 .f32} {u10 : VRef S1024x128 .f32} {u11 : VRef S1024x128 .f32} {u12 : VRef S1024x128 .f32}
    {X2 : Held u2} {X3 : Held u3} {X4 : Held u4} {X5 : Held u5} {X6 : Held u6} {X7 : Held u7} {B : Blk} (hX : Holds u2 u3 u4 u5 u6 u7 X2 X3 X4 X5 X6 X7 B)
    {f8 : Held u8}

include hX in
/-- The diagonal block's rows of `dq` updated. -/
theorem diag_dq (base : Fin 8192 → Fin 128 → EReal) (hf : ∀ (r : Fin 8192) d, (u8.view.read (Elt Ideal) f8 (ix2 r d) : EReal) = base r d) (r' : Fin 8192) (d : Fin 128) :
    (u8.view.read (Elt Ideal) (u8.view.writes (Elt Ideal) f8 (diagPieces i u2 u3 u4 u5 u6 u7 u8 X2 X3 X4 X5 X6 X7 f8)) (ix2 r' d) : EReal)
      = base r' d + if r'.val < 1024 * (i 1).val + 1024 then B.dq (i 1).val r' d else 0 := by
  unfold diagPieces
  refine (write_rows (n := 256) (o := (1024 * (i 1).val + 768)) _ _ _ _ _ (k0_off1_eq i 3) r' d).trans ?_
  split
  · rename_i hr
    refine (dq_d3 (i 1).val B (kt u6 X6) (vt u7 X7) _ _ _ _ (1024 * (i 1).val + 768) (kt_eq hX) (vt_eq hX) (fun ρ d => q_eq hX _ (k0_off1_eq i 3) ρ d (drow3 i ρ)) (fun ρ d => g_eq hX _ (k0_off1_eq i 3) ρ d (drow3 i ρ)) (fun ρ => lse_eq hX _ (k0_off2_eq i 3) ρ (drow3 i ρ)) (fun ρ => dl_eq hX _ (k0_off2_eq i 3) ρ (drow3 i ρ)) rfl _ _ d).trans ?_
    rw [if_pos (by omega)]
    refine congrArg₂ (· + ·) ?_ ?_
    · refine (read_rows u8.view _ _ (k0_off1_eq i 3) _ d (drow3 i _)).trans ?_
      refine (congrArg (u8.view.read (Elt Ideal) _) (congrArg (ix2 · d) (Fin.ext ?_))).trans (hf r' d)
      show (1024 * (i 1).val + 768) + (r'.val - (1024 * (i 1).val + 768)) = r'.val; omega
    · show B.dq (i 1).val ((1024 * (i 1).val + 768) + (r'.val - (1024 * (i 1).val + 768))) d = _
      rw [show (1024 * (i 1).val + 768) + (r'.val - (1024 * (i 1).val + 768)) = r'.val by omega]
  rename_i h3
  refine (write_rows (n := 256) (o := (1024 * (i 1).val + 512)) _ _ _ _ _ (k0_off1_eq i 2) r' d).trans ?_
  split
  · rename_i hr
    refine (dq_d2 (i 1).val B (kt u6 X6) (vt u7 X7) _ _ _ _ (1024 * (i 1).val + 512) (kt_eq hX) (vt_eq hX) (fun ρ d => q_eq hX _ (k0_off1_eq i 2) ρ d (drow2 i ρ)) (fun ρ d => g_eq hX _ (k0_off1_eq i 2) ρ d (drow2 i ρ)) (fun ρ => lse_eq hX _ (k0_off2_eq i 2) ρ (drow2 i ρ)) (fun ρ => dl_eq hX _ (k0_off2_eq i 2) ρ (drow2 i ρ)) rfl _ _ d).trans ?_
    rw [if_pos (by omega)]
    refine congrArg₂ (· + ·) ?_ ?_
    · refine (read_rows u8.view _ _ (k0_off1_eq i 2) _ d (drow2 i _)).trans ?_
      refine (congrArg (u8.view.read (Elt Ideal) _) (congrArg (ix2 · d) (Fin.ext ?_))).trans (hf r' d)
      show (1024 * (i 1).val + 512) + (r'.val - (1024 * (i 1).val + 512)) = r'.val; omega
    · show B.dq (i 1).val ((1024 * (i 1).val + 512) + (r'.val - (1024 * (i 1).val + 512))) d = _
      rw [show (1024 * (i 1).val + 512) + (r'.val - (1024 * (i 1).val + 512)) = r'.val by omega]
  rename_i h2
  refine (write_rows (n := 256) (o := (1024 * (i 1).val + 256)) _ _ _ _ _ (k0_off1_eq i 1) r' d).trans ?_
  split
  · rename_i hr
    refine (dq_d1 (i 1).val B (kt u6 X6) (vt u7 X7) _ _ _ _ (1024 * (i 1).val + 256) (kt_eq hX) (vt_eq hX) (fun ρ d => (pay43_apply _ ρ d).trans (q_eq hX _ (k0_off1_eq i 1) ρ d (drow1 i ρ))) (fun ρ d => g_eq hX _ (k0_off1_eq i 1) ρ d (drow1 i ρ)) (fun ρ => lse_eq hX _ (k0_off2_eq i 1) ρ (drow1 i ρ)) (fun ρ => dl_eq hX _ (k0_off2_eq i 1) ρ (drow1 i ρ)) rfl _ _ d).trans ?_
    rw [if_pos (by omega)]
    refine congrArg₂ (· + ·) ?_ ?_
    · refine (read_rows u8.view _ _ (k0_off1_eq i 1) _ d (drow1 i _)).trans ?_
      refine (congrArg (u8.view.read (Elt Ideal) _) (congrArg (ix2 · d) (Fin.ext ?_))).trans (hf r' d)
      show (1024 * (i 1).val + 256) + (r'.val - (1024 * (i 1).val + 256)) = r'.val; omega
    · show B.dq (i 1).val ((1024 * (i 1).val + 256) + (r'.val - (1024 * (i 1).val + 256))) d = _
      rw [show (1024 * (i 1).val + 256) + (r'.val - (1024 * (i 1).val + 256)) = r'.val by omega]
  rename_i h1
  refine (write_rows (n := 256) (o := (1024 * (i 1).val + 0)) _ _ _ _ _ (k0_off1_eq i 0) r' d).trans ?_
  split
  · rename_i hr
    refine (dq_d0 (i 1).val B (kt u6 X6) (vt u7 X7) _ _ _ _ (1024 * (i 1).val + 0) (kt_eq hX) (vt_eq hX) (fun ρ d => (pay42_apply _ ρ d).trans (q_eq hX _ (k0_off1_eq i 0) ρ d (drow0 i ρ))) (fun ρ d => g_eq hX _ (k0_off1_eq i 0) ρ d (drow0 i ρ)) (fun ρ => lse_eq hX _ (k0_off2_eq i 0) ρ (drow0 i ρ)) (fun ρ => dl_eq hX _ (k0_off2_eq i 0) ρ (drow0 i ρ)) rfl _ _ d).trans ?_
    rw [if_pos (by omega)]
    refine congrArg₂ (· + ·) ?_ ?_
    · refine (read_rows u8.view _ _ (k0_off1_eq i 0) _ d (drow0 i _)).trans ?_
      refine (congrArg (u8.view.read (Elt Ideal) _) (congrArg (ix2 · d) (Fin.ext ?_))).trans (hf r' d)
      show (1024 * (i 1).val + 0) + (r'.val - (1024 * (i 1).val + 0)) = r'.val; omega
    · show B.dq (i 1).val ((1024 * (i 1).val + 0) + (r'.val - (1024 * (i 1).val + 0))) d = _
      rw [show (1024 * (i 1).val + 0) + (r'.val - (1024 * (i 1).val + 0)) = r'.val by omega]
  rename_i h0
  refine (hf r' d).trans ?_
  by_cases h : r'.val < 1024 * (i 1).val
  · rw [if_pos (by omega), B.dq_above _ _ _ h, add_zero]
  · rw [if_neg (by omega), add_zero]

end

/-! ## What the body leaves -/

/-- The loop's stores, newest first: into `dq` and into the two accumulators. -/
def loopPieces (c : Dev nD) (i : grid0.Coords) (u2 : VRef S8192x128 .bf16) (w2 : u2.IsWhole) (u3 : VRef S8192x128 .bf16) (w3 : u3.IsWhole) (u4 : VRef S1x8192x1 .f32) (w4 : u4.IsWhole) (u5 : VRef S1x8192x1 .f32) (w5 : u5.IsWhole)
    (u6 : VRef S1024x128 .bf16) (w6 : u6.IsWhole) (u7 : VRef S1024x128 .bf16) (w7 : u7.IsWhole) (u8 : VRef S8192x128 .f32) (w8 : u8.IsWhole)
    (u9 : VRef S1024x128 .f32) (w9 : u9.IsWhole) (u10 : VRef S1024x128 .f32) (w10 : u10.IsWhole) (u11 : VRef S1024x128 .f32) (w11 : u11.IsWhole) (u12 : VRef S1024x128 .f32) (w12 : u12.IsWhole)
    (X2 : Held u2) (X3 : Held u3) (X4 : Held u4) (X5 : Held u5) (X6 : Held u6) (X7 : Held u7) (f8 : Held u8) : List (View.Piece (Elt Ideal) S8192x128 .f32) × List (View.Piece (Elt Ideal) S1024x128 .f32) × List (View.Piece (Elt Ideal) S1024x128 .f32) :=
  (pb_k0_t1 (F := Ideal) Variants.none c none i u2 w2 u3 w3 u4 w4 u5 w5 u6 w6 u7 w7 u8 w8 u9 w9 u10 w10 u11 w11 u12 w12 (kt u6 X6) (vt u7 X7) (Scalar.addi (BitVec.ofNat 32 (i 1).val) 1#32) X2 X3 X4 X5 (u8.view.writes (Elt Ideal) f8 (diagPieces i u2 u3 u4 u5 u6 u7 u8 X2 X3 X4 X5 X6 X7 f8)) (u11.view.writes (Elt Ideal) u11.view.junk (run.sl.H11_5 i u2 u3 u4 u5 u6 u7 u11 X2 X3 X4 X5 X6 X7)) (u12.view.writes (Elt Ideal) u12.view.junk (run.sl.H12_5 i u2 u3 u4 u6 u7 u12 X2 X3 X4 X6 X7)) (k0_t1_loop i).trips)

/-- The stores of the loop's empty rest. -/
def restPieces (c : Dev nD) (i : grid0.Coords) (u2 : VRef S8192x128 .bf16) (w2 : u2.IsWhole) (u3 : VRef S8192x128 .bf16) (w3 : u3.IsWhole) (u4 : VRef S1x8192x1 .f32) (w4 : u4.IsWhole) (u5 : VRef S1x8192x1 .f32) (w5 : u5.IsWhole)
    (u6 : VRef S1024x128 .bf16) (w6 : u6.IsWhole) (u7 : VRef S1024x128 .bf16) (w7 : u7.IsWhole) (u8 : VRef S8192x128 .f32) (w8 : u8.IsWhole)
    (u9 : VRef S1024x128 .f32) (w9 : u9.IsWhole) (u10 : VRef S1024x128 .f32) (w10 : u10.IsWhole) (u11 : VRef S1024x128 .f32) (w11 : u11.IsWhole) (u12 : VRef S1024x128 .f32) (w12 : u12.IsWhole)
    (X2 : Held u2) (X3 : Held u3) (X4 : Held u4) (X5 : Held u5) (X6 : Held u6) (X7 : Held u7) (f8 : Held u8) : List (View.Piece (Elt Ideal) S8192x128 .f32) × List (View.Piece (Elt Ideal) S1024x128 .f32) × List (View.Piece (Elt Ideal) S1024x128 .f32) :=
  (pb_k0_t2 (F := Ideal) Variants.none c none i u2 w2 u3 w3 u4 w4 u5 w5 u6 w6 u7 w7 u8 w8 u9 w9 u10 w10 u11 w11 u12 w12 (kt u6 X6) (vt u7 X7) (Scalar.addi (Scalar.addi (BitVec.ofNat 32 (i 1).val) 1#32) (Scalar.muli (Scalar.divsi (Scalar.subi 8#32 (Scalar.addi (BitVec.ofNat 32 (i 1).val) 1#32)) 1#32) 1#32)) X2 X3 X4 X5 (u8.view.writes (Elt Ideal) f8 ((loopPieces c i u2 w2 u3 w3 u4 w4 u5 w5 u6 w6 u7 w7 u8 w8 u9 w9 u10 w10 u11 w11 u12 w12 X2 X3 X4 X5 X6 X7 f8).1 ++ (diagPieces i u2 u3 u4 u5 u6 u7 u8 X2 X3 X4 X5 X6 X7 f8))) (u11.view.writes (Elt Ideal) u11.view.junk ((loopPieces c i u2 w2 u3 w3 u4 w4 u5 w5 u6 w6 u7 w7 u8 w8 u9 w9 u10 w10 u11 w11 u12 w12 X2 X3 X4 X5 X6 X7 f8).2.1 ++ (run.sl.H11_5 i u2 u3 u4 u5 u6 u7 u11 X2 X3 X4 X5 X6 X7))) (u12.view.writes (Elt Ideal) u12.view.junk ((loopPieces c i u2 w2 u3 w3 u4 w4 u5 w5 u6 w6 u7 w7 u8 w8 u9 w9 u10 w10 u11 w11 u12 w12 X2 X3 X4 X5 X6 X7 f8).2.2 ++ (run.sl.H12_5 i u2 u3 u4 u6 u7 u12 X2 X3 X4 X6 X7))) (k0_t2_loop i).trips)

section
variable (c : Dev nD) (i : grid0.Coords) (u2 : VRef S8192x128 .bf16) (w2 : u2.IsWhole) (u3 : VRef S8192x128 .bf16) (w3 : u3.IsWhole) (u4 : VRef S1x8192x1 .f32) (w4 : u4.IsWhole) (u5 : VRef S1x8192x1 .f32) (w5 : u5.IsWhole)
    (u6 : VRef S1024x128 .bf16) (w6 : u6.IsWhole) (u7 : VRef S1024x128 .bf16) (w7 : u7.IsWhole) (u8 : VRef S8192x128 .f32) (w8 : u8.IsWhole)
    (u9 : VRef S1024x128 .f32) (w9 : u9.IsWhole) (u10 : VRef S1024x128 .f32) (w10 : u10.IsWhole) (u11 : VRef S1024x128 .f32) (w11 : u11.IsWhole) (u12 : VRef S1024x128 .f32) (w12 : u12.IsWhole)
    {X2 : Held u2} {X3 : Held u3} {X4 : Held u4} {X5 : Held u5} {X6 : Held u6} {X7 : Held u7} {B : Blk} (hX : Holds u2 u3 u4 u5 u6 u7 X2 X3 X4 X5 X6 X7 B)
    {f8 : Held u8} {f9 : Held u9} {f10 : Held u10} {f11 : Held u11} {f12 : Held u12}

theorem rest_nil : (restPieces c i u2 w2 u3 w3 u4 w4 u5 w5 u6 w6 u7 w7 u8 w8 u9 w9 u10 w10 u11 w11 u12 w12 X2 X3 X4 X5 X6 X7 f8) = ([], [], []) := by
  unfold restPieces
  rw [trips2 i]
  rfl

theorem run_dq : (run (F := Ideal) c i u2 w2 u3 w3 u4 w4 u5 w5 u6 w6 u7 w7 u8 w8 u9 w9 u10 w10 u11 w11 u12 w12 X2 X3 X4 X5 X6 X7).1 f8 f9 f10 f11 f12 = u8.view.writes (Elt Ideal) f8 ((restPieces c i u2 w2 u3 w3 u4 w4 u5 w5 u6 w6 u7 w7 u8 w8 u9 w9 u10 w10 u11 w11 u12 w12 X2 X3 X4 X5 X6 X7 f8).1 ++ ((loopPieces c i u2 w2 u3 w3 u4 w4 u5 w5 u6 w6 u7 w7 u8 w8 u9 w9 u10 w10 u11 w11 u12 w12 X2 X3 X4 X5 X6 X7 f8).1 ++ (diagPieces i u2 u3 u4 u5 u6 u7 u8 X2 X3 X4 X5 X6 X7 f8))) := by
  unfold run
  rfl

theorem run_dk : (run (F := Ideal) c i u2 w2 u3 w3 u4 w4 u5 w5 u6 w6 u7 w7 u8 w8 u9 w9 u10 w10 u11 w11 u12 w12 X2 X3 X4 X5 X6 X7).2.1 f8 f9 f10 f11 f12 = u9.view.writes (Elt Ideal) f9 [⟨(Rect.unit (s := S1024x128) ![0, 0] S1024x128.size inb_S1024x128_S1024x128_0_0), k0_pay6 (u11.view.readCov ((restPieces c i u2 w2 u3 w3 u4 w4 u5 w5 u6 w6 u7 w7 u8 w8 u9 w9 u10 w10 u11 w11 u12 w12 X2 X3 X4 X5 X6 X7 f8).2.1 ++ ((loopPieces c i u2 w2 u3 w3 u4 w4 u5 w5 u6 w6 u7 w7 u8 w8 u9 w9 u10 w10 u11 w11 u12 w12 X2 X3 X4 X5 X6 X7 f8).2.1 ++ (run.sl.H11_5 i u2 u3 u4 u5 u6 u7 u11 X2 X3 X4 X5 X6 X7))) (Rect.unit (s := S1024x128) ![0, 0] S1024x128.size inb_S1024x128_S1024x128_0_0).toLoadRect)⟩] := by
  unfold run
  dsimp only
  unfold run.sl.v242 restPieces loopPieces diagPieces
  rfl

theorem run_dv : (run (F := Ideal) c i u2 w2 u3 w3 u4 w4 u5 w5 u6 w6 u7 w7 u8 w8 u9 w9 u10 w10 u11 w11 u12 w12 X2 X3 X4 X5 X6 X7).2.2.1 f8 f9 f10 f11 f12 = u10.view.writes (Elt Ideal) f10 [⟨(Rect.unit (s := S1024x128) ![0, 0] S1024x128.size inb_S1024x128_S1024x128_0_0), u12.view.readCov ((restPieces c i u2 w2 u3 w3 u4 w4 u5 w5 u6 w6 u7 w7 u8 w8 u9 w9 u10 w10 u11 w11 u12 w12 X2 X3 X4 X5 X6 X7 f8).2.2 ++ ((loopPieces c i u2 w2 u3 w3 u4 w4 u5 w5 u6 w6 u7 w7 u8 w8 u9 w9 u10 w10 u11 w11 u12 w12 X2 X3 X4 X5 X6 X7 f8).2.2 ++ (run.sl.H12_5 i u2 u3 u4 u6 u7 u12 X2 X3 X4 X6 X7))) (Rect.unit (s := S1024x128) ![0, 0] S1024x128.size inb_S1024x128_S1024x128_0_0).toLoadRect⟩] := by
  unfold run
  dsimp only
  unfold run.sl.v246 restPieces loopPieces diagPieces
  rfl

include hX in
theorem loop_out (base : Fin 8192 → Fin 128 → EReal) (hf : ∀ (r : Fin 8192) d, (u8.view.read (Elt Ideal) f8 (ix2 r d) : EReal) = base r d) :
    (∀ (r : Fin 8192) d, (u8.view.read (Elt Ideal) (u8.view.writes (Elt Ideal) f8 ((restPieces c i u2 w2 u3 w3 u4 w4 u5 w5 u6 w6 u7 w7 u8 w8 u9 w9 u10 w10 u11 w11 u12 w12 X2 X3 X4 X5 X6 X7 f8).1 ++ ((loopPieces c i u2 w2 u3 w3 u4 w4 u5 w5 u6 w6 u7 w7 u8 w8 u9 w9 u10 w10 u11 w11 u12 w12 X2 X3 X4 X5 X6 X7 f8).1 ++ (diagPieces i u2 u3 u4 u5 u6 u7 u8 X2 X3 X4 X5 X6 X7 f8)))) (ix2 r d) : EReal) = base r d + B.dq (i 1).val r d)
      ∧ (∀ (c' : Fin 1024) d, (u11.view.read (Elt Ideal) (u11.view.writes (Elt Ideal) u11.view.junk ((restPieces c i u2 w2 u3 w3 u4 w4 u5 w5 u6 w6 u7 w7 u8 w8 u9 w9 u10 w10 u11 w11 u12 w12 X2 X3 X4 X5 X6 X7 f8).2.1 ++ ((loopPieces c i u2 w2 u3 w3 u4 w4 u5 w5 u6 w6 u7 w7 u8 w8 u9 w9 u10 w10 u11 w11 u12 w12 X2 X3 X4 X5 X6 X7 f8).2.1 ++ (run.sl.H11_5 i u2 u3 u4 u5 u6 u7 u11 X2 X3 X4 X5 X6 X7)))) (ix2 c' d) : EReal) = B.dk (i 1).val (8192 - 1024 * (i 1).val) c' d)
      ∧ (∀ (c' : Fin 1024) d, (u12.view.read (Elt Ideal) (u12.view.writes (Elt Ideal) u12.view.junk ((restPieces c i u2 w2 u3 w3 u4 w4 u5 w5 u6 w6 u7 w7 u8 w8 u9 w9 u10 w10 u11 w11 u12 w12 X2 X3 X4 X5 X6 X7 f8).2.2 ++ ((loopPieces c i u2 w2 u3 w3 u4 w4 u5 w5 u6 w6 u7 w7 u8 w8 u9 w9 u10 w10 u11 w11 u12 w12 X2 X3 X4 X5 X6 X7 f8).2.2 ++ (run.sl.H12_5 i u2 u3 u4 u6 u7 u12 X2 X3 X4 X6 X7)))) (ix2 c' d) : EReal) = B.dv (i 1).val (8192 - 1024 * (i 1).val) c' d) := by
  have hi := i1_lt i
  obtain ⟨a8, a11, a12⟩ := loop_eq c i u2 w2 u3 w3 u4 w4 u5 w5 u6 w6 u7 w7 u8 w8 u9 w9 u10 w10 u11 w11 u12 w12 (Scalar.addi (BitVec.ofNat 32 (i 1).val) 1#32) (kt_eq hX) (vt_eq hX) hX base
    (diag_dq i hX (f8 := f8) base hf) (H11_5_eq i hX (u11 := u11)) (H12_5_eq i hX (u12 := u12)) (k0_t1_loop i).trips le_rfl
  have ht : 1024 + 1024 * (k0_t1_loop i).trips = 8192 - 1024 * (i 1).val := by rw [trips1 i]; omega
  rw [rest_nil]
  simp only [List.nil_append, View.writes_append]
  refine ⟨fun r d => (a8 r d).trans ?_, fun c' d => (a11 c' d).trans ?_, fun c' d => (a12 c' d).trans ?_⟩
  · rw [if_pos (by rw [ht]; omega)]
  · rw [ht]
  · rw [ht]

include hX in
/-- The block's part of `dq` is added to what was there. -/
theorem out_dq (base : Fin 8192 → Fin 128 → EReal) (hf : ∀ (r : Fin 8192) d, (u8.view.read (Elt Ideal) f8 (ix2 r d) : EReal) = base r d) (r : Fin 8192) (d : Fin 128) :
    (u8.view.read (Elt Ideal) ((run (F := Ideal) c i u2 w2 u3 w3 u4 w4 u5 w5 u6 w6 u7 w7 u8 w8 u9 w9 u10 w10 u11 w11 u12 w12 X2 X3 X4 X5 X6 X7).1 f8 f9 f10 f11 f12) (ix2 r d) : EReal) = base r d + B.dq (i 1).val r d := by
  rw [run_dq]
  exact (loop_out c i u2 w2 u3 w3 u4 w4 u5 w5 u6 w6 u7 w7 u8 w8 u9 w9 u10 w10 u11 w11 u12 w12 hX base hf).1 r d

include hX in
/-- The block's rows of `dk`. -/
theorem out_dk (c' : Fin 1024) (d : Fin 128) :
    (u9.view.read (Elt Ideal) ((run (F := Ideal) c i u2 w2 u3 w3 u4 w4 u5 w5 u6 w6 u7 w7 u8 w8 u9 w9 u10 w10 u11 w11 u12 w12 X2 X3 X4 X5 X6 X7).2.1 f8 f9 f10 f11 f12) (ix2 c' d) : EReal) = B.dk (i 1).val (8192 - 1024 * (i 1).val) c' d * ln2 := by
  rw [run_dk]
  refine (congrFun (View.read_writes_full _ _ _ _ _) _).trans ?_
  unfold k0_pay6
  simp only [pointwise]
  rw [named_ln2]
  refine congrArg (· * ln2) ?_
  refine Eq.trans ?_ ((loop_out c i u2 w2 u3 w3 u4 w4 u5 w5 u6 w6 u7 w7 u8 w8 u9 w9 u10 w10 u11 w11 u12 w12 hX (f8 := f8) _ (fun _ _ => rfl)).2.1 c' d)
  exact congrFun (View.readAt_full u11.view _ _) _

include hX in
/-- The block's rows of `dv`. -/
theorem out_dv (c' : Fin 1024) (d : Fin 128) :
    (u10.view.read (Elt Ideal) ((run (F := Ideal) c i u2 w2 u3 w3 u4 w4 u5 w5 u6 w6 u7 w7 u8 w8 u9 w9 u10 w10 u11 w11 u12 w12 X2 X3 X4 X5 X6 X7).2.2.1 f8 f9 f10 f11 f12) (ix2 c' d) : EReal) = B.dv (i 1).val (8192 - 1024 * (i 1).val) c' d := by
  rw [run_dv]
  refine (congrFun (View.read_writes_full _ _ _ _ _) _).trans ?_
  refine Eq.trans ?_ ((loop_out c i u2 w2 u3 w3 u4 w4 u5 w5 u6 w6 u7 w7 u8 w8 u9 w9 u10 w10 u11 w11 u12 w12 hX (f8 := f8) _ (fun _ _ => rfl)).2.2 c' d)
  exact congrFun (View.readAt_full u12.view _ _) _

end

end Cert.KernelIdeal.AttnBwd

end
-- ==== Proof.Triple.lean ====
module

public import proofs.«01_k».proof.Proof.Out

@[expose] public section

set_option maxRecDepth 16384

noncomputable section

namespace Cert.KernelIdeal.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The body's triple -/

/-- The resource algebra of the run. -/
local notation "𝕄" => MT nD τ sig Unit (Elt Ideal) ℕ (UR sig nD τ) ℕ

/-- Contents that read as a block of inputs hold it. -/
theorem holds_unread (u2 : VRef S8192x128 .bf16) (w2 : u2.IsWhole) (u3 : VRef S8192x128 .bf16) (w3 : u3.IsWhole) (u4 : VRef S1x8192x1 .f32) (w4 : u4.IsWhole) (u5 : VRef S1x8192x1 .f32) (w5 : u5.IsWhole)
    (u6 : VRef S1024x128 .bf16) (w6 : u6.IsWhole) (u7 : VRef S1024x128 .bf16) (w7 : u7.IsWhole) (u8 : VRef S8192x128 .f32) (w8 : u8.IsWhole)
    (u9 : VRef S1024x128 .f32) (w9 : u9.IsWhole) (u10 : VRef S1024x128 .f32) (w10 : u10.IsWhole) (u11 : VRef S1024x128 .f32) (w11 : u11.IsWhole) (u12 : VRef S1024x128 .f32) (w12 : u12.IsWhole)
    (x2 : Vec Ideal S8192x128 .bf16) (x3 : Vec Ideal S8192x128 .bf16) (x4 : Vec Ideal S1x8192x1 .f32) (x5 : Vec Ideal S1x8192x1 .f32) (x6 : Vec Ideal S1024x128 .bf16) (x7 : Vec Ideal S1024x128 .bf16) (B : Blk)
    (hq : ∀ (r : Fin 8192) (d : Fin 128), (x2 (ix2 r d) : EReal) = B.q r d)
    (hg : ∀ (r : Fin 8192) (d : Fin 128), (x3 (ix2 r d) : EReal) = B.g r d)
    (hl : ∀ r : Fin 8192, (x4 (ix3 0 r 0) : EReal) = B.lse r) (he : ∀ r : Fin 8192, (x5 (ix3 0 r 0) : EReal) = B.dl r)
    (hk : ∀ (r : Fin 1024) (d : Fin 128), (x6 (ix2 r d) : EReal) = B.k r d)
    (hv : ∀ (r : Fin 1024) (d : Fin 128), (x7 (ix2 r d) : EReal) = B.v r d) :
    Holds u2 u3 u4 u5 u6 u7 (w2.unread x2) (w3.unread x3) (w4.unread x4) (w5.unread x5) (w6.unread x6) (w7.unread x7) B :=
  ⟨fun r d => by rw [w2.read_unread]; exact hq r d, fun r d => by rw [w3.read_unread]; exact hg r d,
    fun r => by rw [w4.read_unread]; exact hl r, fun r => by rw [w5.read_unread]; exact he r,
    fun r d => by rw [w6.read_unread]; exact hk r d, fun r d => by rw [w7.read_unread]; exact hv r d⟩

set_option maxHeartbeats 1600000 in
theorem tail_triple (c : Dev nD) (i : grid0.Coords) (u2 : VRef S8192x128 .bf16) (w2 : u2.IsWhole) (u3 : VRef S8192x128 .bf16) (w3 : u3.IsWhole) (u4 : VRef S1x8192x1 .f32) (w4 : u4.IsWhole) (u5 : VRef S1x8192x1 .f32) (w5 : u5.IsWhole)
    (u6 : VRef S1024x128 .bf16) (w6 : u6.IsWhole) (u7 : VRef S1024x128 .bf16) (w7 : u7.IsWhole) (u8 : VRef S8192x128 .f32) (w8 : u8.IsWhole)
    (u9 : VRef S1024x128 .f32) (w9 : u9.IsWhole) (u10 : VRef S1024x128 .f32) (w10 : u10.IsWhole) (u11 : VRef S1024x128 .f32) (w11 : u11.IsWhole) (u12 : VRef S1024x128 .f32) (w12 : u12.IsWhole)
    (x2 : Vec Ideal S8192x128 .bf16) (x3 : Vec Ideal S8192x128 .bf16) (x4 : Vec Ideal S1x8192x1 .f32) (x5 : Vec Ideal S1x8192x1 .f32) (x6 : Vec Ideal S1024x128 .bf16) (x7 : Vec Ideal S1024x128 .bf16) (B : Blk) (hX : Holds u2 u3 u4 u5 u6 u7 (w2.unread x2) (w3.unread x3) (w4.unread x4) (w5.unread x5) (w6.unread x6) (w7.unread x7) B) (E : Set ℕ)
    (f8 : Held u8) (b8 : Vec Ideal S8192x128 .f32) (hf8 : u8.view.read (Elt Ideal) f8 = b8) :
    (iprop(owns (c : Thread nD τ) u2 fullShare x2 ∗ owns (c : Thread nD τ) u3 fullShare x3 ∗ owns (c : Thread nD τ) u4 fullShare x4 ∗ owns (c : Thread nD τ) u5 fullShare x5 ∗ owns (c : Thread nD τ) u6 fullShare x6 ∗ owns (c : Thread nD τ) u7 fullShare x7 ∗ (u8.view.loc (c : Thread nD τ) ↦[u8.view.set]{fullShare} f8) ∗ (∃ d, owns (c : Thread nD τ) u9 fullShare d) ∗ (∃ d, owns (c : Thread nD τ) u10 fullShare d) ∗ (∃ d, owns (c : Thread nD τ) u11 fullShare d) ∗ (∃ d, owns (c : Thread nD τ) u12 fullShare d)) : sProp 𝕄)
      ⊢ wp frame (wpE (defs₀ (F := Ideal)) Variants.none (c : Thread nD τ) none) E (tail i u2 w2 u3 w3 u4 w4 u5 w5 u6 w6 u7 w7 u8 w8 u9 w9 u10 w10 u11 w11 u12 w12) (fun _ => iprop(owns (c : Thread nD τ) u2 fullShare x2 ∗ owns (c : Thread nD τ) u3 fullShare x3 ∗ owns (c : Thread nD τ) u4 fullShare x4 ∗ owns (c : Thread nD τ) u5 fullShare x5 ∗ owns (c : Thread nD τ) u6 fullShare x6 ∗ owns (c : Thread nD τ) u7 fullShare x7 ∗ owns (c : Thread nD τ) u8 fullShare (fun x => b8 x + B.dq (i 1).val (x 0).val (x 1)) ∗ owns (c : Thread nD τ) u9 fullShare (fun x => B.dk (i 1).val (8192 - 1024 * (i 1).val) (x 0).val (x 1) * ln2) ∗ owns (c : Thread nD τ) u10 fullShare (fun x => B.dv (i 1).val (8192 - 1024 * (i 1).val) (x 0).val (x 1)) ∗ (∃ d, owns (c : Thread nD τ) u11 fullShare d) ∗ (∃ d, owns (c : Thread nD τ) u12 fullShare d))) := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, H8, ⟨%d9, %f9, -, H9⟩, ⟨%d10, %f10, -, H10⟩, ⟨%d11, %f11, -, H11⟩, ⟨%d12, %f12, -, H12⟩⟩
  obtain rfl := w2.eq_unread hf2; obtain rfl := w3.eq_unread hf3; obtain rfl := w4.eq_unread hf4; obtain rfl := w5.eq_unread hf5; obtain rfl := w6.eq_unread hf6; obtain rfl := w7.eq_unread hf7
  iapply (wp_wand_r _ _ _)
  isplitl [H2 H3 H4 H5 H6 H7 H8 H9 H10 H11 H12]
  · iapply ((run (F := Ideal) c i u2 w2 u3 w3 u4 w4 u5 w5 u6 w6 u7 w7 u8 w8 u9 w9 u10 w10 u11 w11 u12 w12 (w2.unread x2) (w3.unread x3) (w4.unread x4) (w5.unread x5) (w6.unread x6) (w7.unread x7)).2.2.2.2.2 E f8 f9 f10 f11 f12)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro %u ⟨H2, H3, H4, H5, H6, H7, H8, H9, H10, H11, H12⟩
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; swap; · iexact H8
      ipureintro
      funext x
      rw [eq_ix2 (n0 := 8192) (n1 := 128) x]
      exact out_dq c i u2 w2 u3 w3 u4 w4 u5 w5 u6 w6 u7 w7 u8 w8 u9 w9 u10 w10 u11 w11 u12 w12 hX (fun r d => b8 (ix2 r d)) (fun r d => congrFun hf8 _) (x 0) (x 1)
    isplitl [H9]
    · iexists _; isplitr; swap; · iexact H9
      ipureintro
      funext x
      rw [eq_ix2 (n0 := 1024) (n1 := 128) x]
      exact out_dk c i u2 w2 u3 w3 u4 w4 u5 w5 u6 w6 u7 w7 u8 w8 u9 w9 u10 w10 u11 w11 u12 w12 hX (x 0) (x 1)
    isplitl [H10]
    · iexists _; isplitr; swap; · iexact H10
      ipureintro
      funext x
      rw [eq_ix2 (n0 := 1024) (n1 := 128) x]
      exact out_dv c i u2 w2 u3 w3 u4 w4 u5 w5 u6 w6 u7 w7 u8 w8 u9 w9 u10 w10 u11 w11 u12 w12 hX (x 0) (x 1)
    isplitl [H11]
    · iexists _, _; isplitr; swap; · iexact H11
      ipureintro; rfl
    iexists _, _; isplitr; swap; · iexact H12
    ipureintro; rfl

/-- At a later point of a head: the block's part of `dq` is added to what the point before left; the block's rows of
    `dk` and `dv` are written. -/
theorem later_triple (c : Dev nD) (i : grid0.Coords) (u2 : VRef S8192x128 .bf16) (w2 : u2.IsWhole) (u3 : VRef S8192x128 .bf16) (w3 : u3.IsWhole) (u4 : VRef S1x8192x1 .f32) (w4 : u4.IsWhole) (u5 : VRef S1x8192x1 .f32) (w5 : u5.IsWhole)
    (u6 : VRef S1024x128 .bf16) (w6 : u6.IsWhole) (u7 : VRef S1024x128 .bf16) (w7 : u7.IsWhole) (u8 : VRef S8192x128 .f32) (w8 : u8.IsWhole)
    (u9 : VRef S1024x128 .f32) (w9 : u9.IsWhole) (u10 : VRef S1024x128 .f32) (w10 : u10.IsWhole) (u11 : VRef S1024x128 .f32) (w11 : u11.IsWhole) (u12 : VRef S1024x128 .f32) (w12 : u12.IsWhole)
    (x2 : Vec Ideal S8192x128 .bf16) (x3 : Vec Ideal S8192x128 .bf16) (x4 : Vec Ideal S1x8192x1 .f32) (x5 : Vec Ideal S1x8192x1 .f32) (x6 : Vec Ideal S1024x128 .bf16) (x7 : Vec Ideal S1024x128 .bf16) (B : Blk) (hX : Holds u2 u3 u4 u5 u6 u7 (w2.unread x2) (w3.unread x3) (w4.unread x4) (w5.unread x5) (w6.unread x6) (w7.unread x7) B) (hi : ¬ first i) (E : Set ℕ) (b8 : Vec Ideal S8192x128 .f32) :
    (iprop(owns (c : Thread nD τ) u2 fullShare x2 ∗ owns (c : Thread nD τ) u3 fullShare x3 ∗ owns (c : Thread nD τ) u4 fullShare x4 ∗ owns (c : Thread nD τ) u5 fullShare x5 ∗ owns (c : Thread nD τ) u6 fullShare x6 ∗ owns (c : Thread nD τ) u7 fullShare x7 ∗ owns (c : Thread nD τ) u8 fullShare b8 ∗ (∃ d, owns (c : Thread nD τ) u9 fullShare d) ∗ (∃ d, owns (c : Thread nD τ) u10 fullShare d) ∗ (∃ d, owns (c : Thread nD τ) u11 fullShare d) ∗ (∃ d, owns (c : Thread nD τ) u12 fullShare d)) : sProp 𝕄)
      ⊢ wp frame (wpE (defs₀ (F := Ideal)) Variants.none (c : Thread nD τ) none) E (cc0_attn_bwd (F := Ideal) i u2 w2 u3 w3 u4 w4 u5 w5 u6 w6 u7 w7 u8 w8 u9 w9 u10 w10 u11 w11 u12 w12) (fun _ => iprop(owns (c : Thread nD τ) u2 fullShare x2 ∗ owns (c : Thread nD τ) u3 fullShare x3 ∗ owns (c : Thread nD τ) u4 fullShare x4 ∗ owns (c : Thread nD τ) u5 fullShare x5 ∗ owns (c : Thread nD τ) u6 fullShare x6 ∗ owns (c : Thread nD τ) u7 fullShare x7 ∗ owns (c : Thread nD τ) u8 fullShare (fun x => b8 x + B.dq (i 1).val (x 0).val (x 1)) ∗ owns (c : Thread nD τ) u9 fullShare (fun x => B.dk (i 1).val (8192 - 1024 * (i 1).val) (x 0).val (x 1) * ln2) ∗ owns (c : Thread nD τ) u10 fullShare (fun x => B.dv (i 1).val (8192 - 1024 * (i 1).val) (x 0).val (x 1)) ∗ (∃ d, owns (c : Thread nD τ) u11 fullShare d) ∗ (∃ d, owns (c : Thread nD τ) u12 fullShare d))) := by
  rw [body_later i u2 w2 u3 w3 u4 w4 u5 w5 u6 w6 u7 w7 u8 w8 u9 w9 u10 w10 u11 w11 u12 w12 hi]
  iintro ⟨H2, H3, H4, H5, H6, H7, H8, H9, H10, H11, H12⟩
  unfold owns at *
  icases H8 with ⟨%f8, %hf8, H8⟩
  iapply (tail_triple c i u2 w2 u3 w3 u4 w4 u5 w5 u6 w6 u7 w7 u8 w8 u9 w9 u10 w10 u11 w11 u12 w12 x2 x3 x4 x5 x6 x7 B hX E f8 b8 hf8)
  unfold owns
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- At the first point of a head the same, from zero. -/
theorem first_triple (c : Dev nD) (i : grid0.Coords) (u2 : VRef S8192x128 .bf16) (w2 : u2.IsWhole) (u3 : VRef S8192x128 .bf16) (w3 : u3.IsWhole) (u4 : VRef S1x8192x1 .f32) (w4 : u4.IsWhole) (u5 : VRef S1x8192x1 .f32) (w5 : u5.IsWhole)
    (u6 : VRef S1024x128 .bf16) (w6 : u6.IsWhole) (u7 : VRef S1024x128 .bf16) (w7 : u7.IsWhole) (u8 : VRef S8192x128 .f32) (w8 : u8.IsWhole)
    (u9 : VRef S1024x128 .f32) (w9 : u9.IsWhole) (u10 : VRef S1024x128 .f32) (w10 : u10.IsWhole) (u11 : VRef S1024x128 .f32) (w11 : u11.IsWhole) (u12 : VRef S1024x128 .f32) (w12 : u12.IsWhole)
    (x2 : Vec Ideal S8192x128 .bf16) (x3 : Vec Ideal S8192x128 .bf16) (x4 : Vec Ideal S1x8192x1 .f32) (x5 : Vec Ideal S1x8192x1 .f32) (x6 : Vec Ideal S1024x128 .bf16) (x7 : Vec Ideal S1024x128 .bf16) (B : Blk) (hX : Holds u2 u3 u4 u5 u6 u7 (w2.unread x2) (w3.unread x3) (w4.unread x4) (w5.unread x5) (w6.unread x6) (w7.unread x7) B) (hi : first i) (E : Set ℕ) :
    (iprop(owns (c : Thread nD τ) u2 fullShare x2 ∗ owns (c : Thread nD τ) u3 fullShare x3 ∗ owns (c : Thread nD τ) u4 fullShare x4 ∗ owns (c : Thread nD τ) u5 fullShare x5 ∗ owns (c : Thread nD τ) u6 fullShare x6 ∗ owns (c : Thread nD τ) u7 fullShare x7 ∗ (∃ d, owns (c : Thread nD τ) u8 fullShare d) ∗ (∃ d, owns (c : Thread nD τ) u9 fullShare d) ∗ (∃ d, owns (c : Thread nD τ) u10 fullShare d) ∗ (∃ d, owns (c : Thread nD τ) u11 fullShare d) ∗ (∃ d, owns (c : Thread nD τ) u12 fullShare d)) : sProp 𝕄)
      ⊢ wp frame (wpE (defs₀ (F := Ideal)) Variants.none (c : Thread nD τ) none) E (cc0_attn_bwd (F := Ideal) i u2 w2 u3 w3 u4 w4 u5 w5 u6 w6 u7 w7 u8 w8 u9 w9 u10 w10 u11 w11 u12 w12)
        (fun _ => iprop(owns (c : Thread nD τ) u2 fullShare x2 ∗ owns (c : Thread nD τ) u3 fullShare x3 ∗ owns (c : Thread nD τ) u4 fullShare x4 ∗ owns (c : Thread nD τ) u5 fullShare x5 ∗ owns (c : Thread nD τ) u6 fullShare x6 ∗ owns (c : Thread nD τ) u7 fullShare x7 ∗ owns (c : Thread nD τ) u8 fullShare (fun x => B.dq (i 1).val (x 0).val (x 1)) ∗ owns (c : Thread nD τ) u9 fullShare (fun x => B.dk (i 1).val (8192 - 1024 * (i 1).val) (x 0).val (x 1) * ln2) ∗ owns (c : Thread nD τ) u10 fullShare (fun x => B.dv (i 1).val (8192 - 1024 * (i 1).val) (x 0).val (x 1)) ∗ (∃ d, owns (c : Thread nD τ) u11 fullShare d) ∗ (∃ d, owns (c : Thread nD τ) u12 fullShare d))) := by
  rw [body_first i u2 w2 u3 w3 u4 w4 u5 w5 u6 w6 u7 w7 u8 w8 u9 w9 u10 w10 u11 w11 u12 w12 hi]
  have hT := tail_triple c i u2 w2 u3 w3 u4 w4 u5 w5 u6 w6 u7 w7 u8 w8 u9 w9 u10 w10 u11 w11 u12 w12 x2 x3 x4 x5 x6 x7 B hX E
  generalize tail (F := Ideal) i u2 w2 u3 w3 u4 w4 u5 w5 u6 w6 u7 w7 u8 w8 u9 w9 u10 w10 u11 w11 u12 w12 = T at hT ⊢
  rw [show (fun x : S8192x128.Idx => B.dq (i 1).val (x 0).val (x 1)) = (fun x : S8192x128.Idx => (0 : EReal) + B.dq (i 1).val (x 0).val (x 1)) from funext fun x => (zero_add _).symm]
  iintro ⟨H2, H3, H4, H5, H6, H7, ⟨%d8, H8⟩, H9, H10, H11, H12⟩
  unfold owns at *
  icases H8 with ⟨%f8, %hf8, H8⟩
  have hz : u8.view.read (Elt Ideal) (u8.view.writes (Elt Ideal) f8 [⟨Rect.unit (s := S8192x128) ![0, 0] S8192x128.size inb_S8192x128_S8192x128_0_0, k0_pay37 (F := Ideal)⟩]) = fun _ => (0 : EReal) := by
    funext x
    refine (congrFun (View.read_writes_full u8.view _ _ _ _) _).trans ?_
    unfold k0_pay37
    simp only [pointwise]
  sl_exec
  iapply (hT _ (fun _ => (0 : EReal)) hz)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal.AttnBwd

end
-- ==== Proof.Grid.lean ====
module

public import proofs.«01_k».proof.Proof.Triple
public import Idealize.ShloMosaic.Lib.Claim
public import Idealize.ShloMosaic.Lib.Pipeline.ValueKit

@[expose] public section

set_option maxRecDepth 16384

noncomputable section

namespace Cert.KernelIdeal.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The resource algebra of the run. -/
local notation "𝕄" => MT nD τ sig Unit (Elt Ideal) ℕ (UR sig nD τ) ℕ

/-! ## One head's block, read off the arrays -/

/-- The entry of a matrix of all heads at row `r` and column `c`. -/
def at2 (A : S8192x2048.Idx → EReal) (r c : ℕ) : EReal := A (ix2 (Fin.ofNat 8192 r) (Fin.ofNat 2048 c))

/-- The entry of a per-head, per-row number at head `h` and row `r`. -/
def at3 (A : S16x8192x1.Idx → EReal) (h r : ℕ) : EReal := A (ix3 (Fin.ofNat 16 h) (Fin.ofNat 8192 r) 0)

theorem at2_eq (A : S8192x2048.Idx → EReal) (x : S8192x2048.Idx) (r c : ℕ) (hr : (x 0).val = r) (hc : (x 1).val = c) : A x = at2 A r c := by
  unfold at2; congr 1; funext a; apply Fin.ext
  match a with
  | ⟨0, _⟩ => subst hr; exact (Nat.mod_eq_of_lt (x 0).isLt).symm
  | ⟨1, _⟩ => subst hc; exact (Nat.mod_eq_of_lt (x 1).isLt).symm

theorem at3_eq (A : S16x8192x1.Idx → EReal) (x : S16x8192x1.Idx) (h r : ℕ) (hh : (x 0).val = h) (hr : (x 1).val = r) : A x = at3 A h r := by
  unfold at3; congr 1; funext a; apply Fin.ext
  match a with
  | ⟨0, _⟩ => subst hh; exact (Nat.mod_eq_of_lt (x 0).isLt).symm
  | ⟨1, _⟩ => subst hr; exact (Nat.mod_eq_of_lt (x 1).isLt).symm
  | ⟨2, _⟩ => exact Nat.lt_one_iff.mp (x 2).isLt

/-- What head `h` and its `j`-th block of 1024 keys read of the six arrays. -/
def headBlk (Q G : S8192x2048.Idx → EReal) (L D : S16x8192x1.Idx → EReal) (K W : S8192x2048.Idx → EReal) (h j : ℕ) : Blk where
  q r d := at2 Q r (128 * h + d.val)
  g r d := at2 G r (128 * h + d.val)
  lse r := at3 L h r
  dl r := at3 D h r
  k c d := at2 K (1024 * j + c) (128 * h + d.val)
  v c d := at2 W (1024 * j + c) (128 * h + d.val)

variable (m : (ℓ : Loc nD τ sig) → Buf (Elt Ideal) ℓ) (ρ : Dev nD → PrngReg)

/-- The same of the arrays the kernel finds. -/
def hb (c : Dev nD) (h j : ℕ) : Blk :=
  headBlk (V m c main_v39) (V m c main_v42) (V m c main_v29) (V m c main_v33) (V m c main_v40) (V m c main_v41) h j

/-! ## The grid -/

theorem coords1 (t : Fin cfg0.N) : (grid0.coords t 1).val = t.val % 8 := by
  have e1 : (grid0.coords t 1).val = t.val / 1 % 8 := Pipeline.Grid.coords_val t 1 (by decide) rfl
  rw [e1, Nat.div_one]

theorem first_iff (t : Fin cfg0.N) : first (grid0.coords t) ↔ t.val % 8 = 0 := by
  have ht : t.val < 128 := Nat.lt_of_lt_of_eq t.isLt N_0
  have e1 : (grid0.coords t 1).val = t.val / 1 % 8 := Pipeline.Grid.coords_val t 1 (by decide) rfl
  simp only [first, e1]
  word_cmp

theorem index0 : ∀ t : Fin cfg0.N, win0_0.index t (0 : Fin 2) = 0 ∧ win0_0.index t (1 : Fin 2) = t.val / 8 :=
  (by decide +kernel : ∀ t : Fin grid0.N, _)
theorem index1 : ∀ t : Fin cfg0.N, win0_1.index t (0 : Fin 2) = 0 ∧ win0_1.index t (1 : Fin 2) = t.val / 8 :=
  (by decide +kernel : ∀ t : Fin grid0.N, _)
theorem index2 : ∀ t : Fin cfg0.N, win0_2.index t (0 : Fin 3) = t.val / 8 ∧ win0_2.index t (1 : Fin 3) = 0 ∧ win0_2.index t (2 : Fin 3) = 0 :=
  (by decide +kernel : ∀ t : Fin grid0.N, _)
theorem index3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem index4 : ∀ t : Fin cfg0.N, win0_4.index t (0 : Fin 2) = t.val % 8 ∧ win0_4.index t (1 : Fin 2) = t.val / 8 :=
  (by decide +kernel : ∀ t : Fin grid0.N, _)
theorem index5 : ∀ t : Fin cfg0.N, win0_5.index t (0 : Fin 2) = t.val % 8 ∧ win0_5.index t (1 : Fin 2) = t.val / 8 :=
  (by decide +kernel : ∀ t : Fin grid0.N, _)
theorem index6 : ∀ t : Fin cfg0.N, win0_6.index t (0 : Fin 2) = 0 ∧ win0_6.index t (1 : Fin 2) = t.val / 8 :=
  (by decide +kernel : ∀ t : Fin grid0.N, _)
theorem index7 : ∀ t : Fin cfg0.N, win0_7.index t (0 : Fin 2) = t.val % 8 ∧ win0_7.index t (1 : Fin 2) = t.val / 8 :=
  (by decide +kernel : ∀ t : Fin grid0.N, _)
theorem index8 : ∀ t : Fin cfg0.N, win0_8.index t (0 : Fin 2) = t.val % 8 ∧ win0_8.index t (1 : Fin 2) = t.val / 8 :=
  (by decide +kernel : ∀ t : Fin grid0.N, _)

theorem iblk0 (c : Dev nD) (t : Fin cfg0.N) (r : Fin 8192) (d : Fin 128) : (iblk m c 0 t (ix2 r d) : EReal) = (hb m c (t.val / 8) (t.val % 8)).q r d := by
  obtain ⟨e0, e1⟩ := index0 t
  refine at2_eq (V m c main_v39) (((cfg0.win 0).blk t).view.emb (ix2 r d)) _ _ ?_ ?_
  · show win0_0.index t (0 : Fin 2) * 8192 + 1 * r.val = r.val; omega
  · show win0_0.index t (1 : Fin 2) * 128 + 1 * d.val = 128 * (t.val / 8) + d.val; omega

theorem iblk1 (c : Dev nD) (t : Fin cfg0.N) (r : Fin 8192) (d : Fin 128) : (iblk m c 1 t (ix2 r d) : EReal) = (hb m c (t.val / 8) (t.val % 8)).g r d := by
  obtain ⟨e0, e1⟩ := index1 t
  refine at2_eq (V m c main_v42) (((cfg0.win 1).blk t).view.emb (ix2 r d)) _ _ ?_ ?_
  · show win0_1.index t (0 : Fin 2) * 8192 + 1 * r.val = r.val; omega
  · show win0_1.index t (1 : Fin 2) * 128 + 1 * d.val = 128 * (t.val / 8) + d.val; omega

theorem iblk2 (c : Dev nD) (t : Fin cfg0.N) (r : Fin 8192) : (iblk m c 2 t (ix3 0 r 0) : EReal) = (hb m c (t.val / 8) (t.val % 8)).lse r := by
  obtain ⟨e0, e1, e2⟩ := index2 t
  refine at3_eq (V m c main_v29) (((cfg0.win 2).blk t).view.emb (ix3 0 r 0)) _ _ ?_ ?_
  · show win0_2.index t (0 : Fin 3) * 1 + 1 * 0 = t.val / 8; omega
  · show win0_2.index t (1 : Fin 3) * 8192 + 1 * r.val = r.val; omega

theorem iblk3 (c : Dev nD) (t : Fin cfg0.N) (r : Fin 8192) : (iblk m c 3 t (ix3 0 r 0) : EReal) = (hb m c (t.val / 8) (t.val % 8)).dl r := by
  obtain ⟨e0, e1, e2⟩ := index3 t
  refine at3_eq (V m c main_v33) (((cfg0.win 3).blk t).view.emb (ix3 0 r 0)) _ _ ?_ ?_
  · show win0_3.index t (0 : Fin 3) * 1 + 1 * 0 = t.val / 8; omega
  · show win0_3.index t (1 : Fin 3) * 8192 + 1 * r.val = r.val; omega

theorem iblk4 (c : Dev nD) (t : Fin cfg0.N) (r : Fin 1024) (d : Fin 128) : (iblk m c 4 t (ix2 r d) : EReal) = (hb m c (t.val / 8) (t.val % 8)).k r d := by
  obtain ⟨e0, e1⟩ := index4 t
  refine at2_eq (V m c main_v40) (((cfg0.win 4).blk t).view.emb (ix2 r d)) _ _ ?_ ?_
  · show win0_4.index t (0 : Fin 2) * 1024 + 1 * r.val = 1024 * (t.val % 8) + r.val; omega
  · show win0_4.index t (1 : Fin 2) * 128 + 1 * d.val = 128 * (t.val / 8) + d.val; omega

theorem iblk5 (c : Dev nD) (t : Fin cfg0.N) (r : Fin 1024) (d : Fin 128) : (iblk m c 5 t (ix2 r d) : EReal) = (hb m c (t.val / 8) (t.val % 8)).v r d := by
  obtain ⟨e0, e1⟩ := index5 t
  refine at2_eq (V m c main_v41) (((cfg0.win 5).blk t).view.emb (ix2 r d)) _ _ ?_ ?_
  · show win0_5.index t (0 : Fin 2) * 1024 + 1 * r.val = 1024 * (t.val % 8) + r.val; omega
  · show win0_5.index t (1 : Fin 2) * 128 + 1 * d.val = 128 * (t.val / 8) + d.val; omega

/-! ## What the pipeline's buffers hold at each point -/

/-- `dq` of the head after the point: the blocks of keys up to this one, summed. -/
def left6 (c : Dev nD) (t : ℕ) : S8192x128.Idx → EReal :=
  fun x => ∑ j ∈ Finset.range (t % 8 + 1), (hb m c (t / 8) j).dq j (x 0).val (x 1)
/-- The block's rows of `dk`. -/
def left7 (c : Dev nD) (t : ℕ) : S1024x128.Idx → EReal :=
  fun x => (hb m c (t / 8) (t % 8)).dk (t % 8) (8192 - 1024 * (t % 8)) (x 0).val (x 1) * ln2
/-- The block's rows of `dv`. -/
def left8 (c : Dev nD) (t : ℕ) : S1024x128.Idx → EReal :=
  fun x => (hb m c (t / 8) (t % 8)).dv (t % 8) (8192 - 1024 * (t % 8)) (x 0).val (x 1)

/-- The proof data: the arrays as the kernel finds them; after the body at a point each input's buffer at its block,
    the outputs' at the partial `dq`, the `dk` rows and the `dv` rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => left6 m c t.val
    | ⟨7, _⟩ => left7 m c t.val
    | ⟨8, _⟩ => left8 m c t.val
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = left6 m c t.val := by dsimp only [dats]
theorem after7 (c : Dev nD) (t : Fin cfg0.N) : (dats m 0 c).after 7 t = left7 m c t.val := by dsimp only [dats]
theorem after8 (c : Dev nD) (t : Fin cfg0.N) : (dats m 0 c).after 8 t = left8 m c t.val := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At a later point of a head the buffer of `dq` holds what the point before left. -/
theorem before6 (c : Dev nD) (t : Fin cfg0.N) (h : t.val % 8 ≠ 0) (d) : (dats m 0 c).before 6 t d = left6 m c (t.val - 1) := by
  refine ((dats m 0 c).before_out_kept 6 rfl t (by omega) ?_ (fun _ => rfl) (fun _ _ => rfl) d).trans (after6 m c _)
  rw [Bool.eq_false_iff]
  intro hf
  have := (flush0_6 _).mp hf
  have h1 : (t.val - 1) % 8 = 7 := this
  omega

/-- Adding the point's block to what the point before left. -/
theorem left6_step (c : Dev nD) (t : ℕ) (h : t % 8 ≠ 0) (x : S8192x128.Idx) :
    left6 m c (t - 1) x + (hb m c (t / 8) (t % 8)).dq (t % 8) (x 0).val (x 1) = left6 m c t x := by
  unfold left6
  have e1 : (t - 1) % 8 + 1 = t % 8 := by omega
  have e2 : (t - 1) / 8 = t / 8 := by omega
  rw [e1, e2, Finset.sum_range_succ]

/-- At a head's first point `dq` is its block alone. -/
theorem left6_zero (c : Dev nD) (t : ℕ) (h : t % 8 = 0) (x : S8192x128.Idx) :
    (hb m c (t / 8) (t % 8)).dq (t % 8) (x 0).val (x 1) = left6 m c t x := by
  unfold left6
  rw [h]; simp only [zero_add, Finset.sum_range_one]

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

set_option maxHeartbeats 1600000 in
/-- The body at any point: it takes the buffers to what the proof data says it leaves. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  rw [show (dats m 0 c).Φ t.castSucc = Pipeline.ΦA spec0 c from rfl, PhiA_eq]
  have hX : ∀ (u2 : VRef S8192x128 .bf16) (w2 : u2.IsWhole) (u3 : VRef S8192x128 .bf16) (w3 : u3.IsWhole) (u4 : VRef S1x8192x1 .f32) (w4 : u4.IsWhole) (u5 : VRef S1x8192x1 .f32) (w5 : u5.IsWhole) (u6 : VRef S1024x128 .bf16) (w6 : u6.IsWhole) (u7 : VRef S1024x128 .bf16) (w7 : u7.IsWhole),
      Holds u2 u3 u4 u5 u6 u7 (w2.unread (iblk m c 0 t)) (w3.unread (iblk m c 1 t)) (w4.unread (iblk m c 2 t)) (w5.unread (iblk m c 3 t)) (w6.unread (iblk m c 4 t)) (w7.unread (iblk m c 5 t)) (hb m c (t.val / 8) (t.val % 8)) :=
    fun u2 w2 u3 w3 u4 w4 u5 w5 u6 w6 u7 w7 =>
      ⟨fun r d => by rw [w2.read_unread]; exact iblk0 m c t r d, fun r d => by rw [w3.read_unread]; exact iblk1 m c t r d,
        fun r => by rw [w4.read_unread]; exact iblk2 m c t r, fun r => by rw [w5.read_unread]; exact iblk3 m c t r,
        fun r d => by rw [w6.read_unread]; exact iblk4 m c t r d, fun r d => by rw [w7.read_unread]; exact iblk5 m c t r d⟩
  have h9 : (fun x : S1024x128.Idx => (hb m c (t.val / 8) (t.val % 8)).dk (grid0.coords t 1).val (8192 - 1024 * (grid0.coords t 1).val) (x 0).val (x 1) * ln2) = left7 m c t.val := by
    rw [coords1]; rfl
  have h10 : (fun x : S1024x128.Idx => (hb m c (t.val / 8) (t.val % 8)).dv (grid0.coords t 1).val (8192 - 1024 * (grid0.coords t 1).val) (x 0).val (x 1)) = left8 m c t.val := by
    rw [coords1]; rfl
  by_cases h0 : t.val % 8 = 0
  · have h8 : (fun x : S8192x128.Idx => (hb m c (t.val / 8) (t.val % 8)).dq (grid0.coords t 1).val (x 0).val (x 1)) = left6 m c t.val := by
      rw [coords1]; funext x; exact left6_zero m c t.val h0 x
    have hT := first_triple c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _)
      (iblk m c 0 t) (iblk m c 1 t) (iblk m c 2 t) (iblk m c 3 t) (iblk m c 4 t) (iblk m c 5 t) (hb m c (t.val / 8) (t.val % 8)) (hX _ _ _ _ _ _ _ _ _ _ _ _) ((first_iff t).mpr h0) Set.univ
    rw [h8, h9, h10] at hT
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r _ _ _)
    isplitl [H0 H1 H2 H3 H4 H5 H6 H7 H8 HS0 HS1]
    · iapply hT
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iexact HS1
    iintro %_ ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have h8 : (fun x : S8192x128.Idx => left6 m c (t.val - 1) x + (hb m c (t.val / 8) (t.val % 8)).dq (grid0.coords t 1).val (x 0).val (x 1)) = left6 m c t.val := by
      rw [coords1]; funext x; exact left6_step m c t.val h0 x
    have hT := later_triple c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _)
      (iblk m c 0 t) (iblk m c 1 t) (iblk m c 2 t) (iblk m c 3 t) (iblk m c 4 t) (iblk m c 5 t) (hb m c (t.val / 8) (t.val % 8)) (hX _ _ _ _ _ _ _ _ _ _ _ _) (fun h => h0 ((first_iff t).mp h)) Set.univ (left6 m c (t.val - 1))
    rw [h8, h9, h10] at hT
    simp only [before6 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r _ _ _)
    isplitl [H0 H1 H2 H3 H4 H5 H6 H7 H8 HS0 HS1]
    · iapply hT
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iexact HS1
    iintro %_ ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) : defs₀ (F := Ideal) .tc cfg0.body (cfg0.bodyArgs t (cfg0.slots t)) = bodyAt0 t := by
  unfold defs₀; rw [Defs.onTc_tc]

/-- The pipeline's body obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
/-- Every execution of the kernel terminates with the pipeline's arrays as the proof data says and every counter at zero. -/
theorem run_post : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.AttnBwd

end
-- ==== Proof.Ref.lean ====
module

public import proofs.«01_k».proof.Proof.Gen.ReferenceIdeal.Read
public import proofs.«01_k».proof.Proof.Math
public import proofs.«01_k».proof.Proof.Grid

@[expose] public section

set_option maxRecDepth 16384

noncomputable section

namespace Cert.ReferenceIdeal.AttnBwd

open Cert.ReferenceIdeal Cert.ReferenceIdeal.Gen Cert.ReferenceIdeal.Read
open Idealize.ShloMosaic Idealize.ShloMosaic.TcCoe Idealize.ShloMosaic.Tactic Idealize.SL.Sem
open Cert.KernelIdeal.AttnBwd (Head at2 at2_eq coe_sum)

/-! # The reference's stages, in real numbers -/

/-- Every entry of the array is a real number. -/
def Real2 (A : S8192x2048.Idx → EReal) : Prop := ∀ i, A i = ((A i).toReal : EReal)

/-- The entry of an array at row `r` and column `c`, as a real number. -/
def rat (A : S8192x2048.Idx → EReal) (r c : ℕ) : ℝ := (at2 A r c).toReal

theorem Real2.at2 {A : S8192x2048.Idx → EReal} (hA : Real2 A) (r c : ℕ) : at2 A r c = (rat A r c : EReal) := hA _

theorem Real2.read {A : S8192x2048.Idx → EReal} (hA : Real2 A) (x : S8192x2048.Idx) (r c : ℕ) (hr : (x 0).val = r) (hc : (x 1).val = c) :
    A x = (rat A r c : EReal) := (at2_eq A x r c hr hc).trans (hA.at2 r c)

/-- Head `h` of the four arguments, its rows' maxima being those the reference takes. -/
def hd (x0 x1 x2 x3 : S8192x2048.Idx → EReal) (h : ℕ) : Head where
  Q r d := rat x0 r (128 * h + d.val)
  G r d := rat x3 r (128 * h + d.val)
  K r d := rat x1 r (128 * h + d.val)
  W r d := rat x2 r (128 * h + d.val)
  M r := (val_main_v14 (F := Ideal) x0 x1 (ix2 (Fin.ofNat 16 h) (Fin.ofNat 8192 r))).toReal

section
variable (x0 x1 x2 x3 : S8192x2048.Idx → EReal) (h0 : Real2 x0) (h1 : Real2 x1) (h2 : Real2 x2) (h3 : Real2 x3)

include h0 in
theorem v0_eq (i : S8192x16x128.Idx) : val_main_v0 (F := Ideal) x0 i = (rat x0 (i 0).val (128 * (i 1).val + (i 2).val) : EReal) := by
  rw [val_main_v0_apply]
  have a0 : (i 0).val < 8192 := (i 0).isLt
  have a1 : (i 1).val < 16 := (i 1).isLt
  have a2 : (i 2).val < 128 := (i 2).isLt
  exact h0.read _ _ _ (show (((i 0).val * 16 + (i 1).val) * 128 + (i 2).val) / 2048 = _ by omega)
    (show (((i 0).val * 16 + (i 1).val) * 128 + (i 2).val) % 2048 = _ by omega)

include h1 in
theorem v1_eq (i : S8192x16x128.Idx) : val_main_v1 (F := Ideal) x1 i = (rat x1 (i 0).val (128 * (i 1).val + (i 2).val) : EReal) := v0_eq x1 h1 i

include h2 in
theorem v2_eq (i : S8192x16x128.Idx) : val_main_v2 (F := Ideal) x2 i = (rat x2 (i 0).val (128 * (i 1).val + (i 2).val) : EReal) := v0_eq x2 h2 i

include h3 in
theorem v45_eq (i : S8192x16x128.Idx) : val_main_v45 (F := Ideal) x3 i = (rat x3 (i 0).val (128 * (i 1).val + (i 2).val) : EReal) := v0_eq x3 h3 i

theorem sqrt96 (i : S_.Idx) : val_main_v4 (F := Ideal) i = ((√96 : ℝ) : EReal) := by
  rw [val_main_v4_apply, val_main_cst_apply, Ideal.hostUnary_sqrt_def]
  have : (FloatOps.ofBits (F := Ideal) .f32 0x42C00000#32 : EReal) = ((96 : ℝ) : EReal) := by
    simp [Ideal.ofBits_def, Ideal.ofBits, Ideal.ieee]
    rw [← EReal.coe_mul]
    norm_num
  rw [this, Ideal.sqrt_coe, if_neg (by norm_num)]

theorem sqrt96_pos : (0 : ℝ) < √96 := Real.sqrt_pos.mpr (by norm_num)

theorem coe_div (a b : ℝ) (hb : b ≠ 0) : FloatOps.hostDivf (F := Ideal) (φ := .f32) (a : EReal) (b : EReal) = ((a / b : ℝ) : EReal) := by
  rw [Ideal.hostDivf_def, Ideal.div_coe hb, ← EReal.coe_mul, mul_one_div]

include h0 h1 in
/-- The scaled scores. -/
theorem v6_eq (i : S16x8192x8192.Idx) : val_main_v6 (F := Ideal) x0 x1 i = ((hd x0 x1 x2 x3 (i 0).val).s (i 1).val (i 2).val : EReal) := by
  rw [val_main_v6_apply, val_main_v3_apply, val_main_v5_apply, sqrt96]
  have : ∑ k : Fin 128, val_main_v0 (F := Ideal) x0 (lidx_main_v3 i k) * val_main_v1 (F := Ideal) x1 (ridx_main_v3 i k)
      = ((∑ d, (hd x0 x1 x2 x3 (i 0).val).Q (i 1).val d * (hd x0 x1 x2 x3 (i 0).val).K (i 2).val d : ℝ) : EReal) := by
    rw [coe_sum]
    refine Finset.sum_congr rfl fun d _ => ?_
    rw [v0_eq x0 h0, v1_eq x1 h1, EReal.coe_mul]
    rfl
  rw [this]
  exact coe_div _ _ sqrt96_pos.ne'

/-- The causal mask: column at most row. -/
theorem mask_eq {α : Type} (i : S16x8192x8192.Idx) (x y : α) :
    Scalar.select (val_main_v13_1 (F := Ideal) i) x y = if (i 2).val ≤ (i 1).val then x else y := by
  rw [val_main_v13_1_apply, val_main_v12_apply, val_main_v10_apply, val_main_v11_apply]
  have a1 : (i 1).val < 8192 := (i 1).isLt
  have a2 : (i 2).val < 8192 := (i 2).isLt
  have e1 : val_main_v8 (F := Ideal) (idx_main_v10 (idx_main_v13_1 i)) = BitVec.ofNat 32 (i 2).val := rfl
  have e2 : val_main_v9 (F := Ideal) (idx_main_v11 (idx_main_v13_1 i)) = BitVec.ofNat 32 (i 1).val := rfl
  rw [e1, e2, WordCmp.cmpi_sle_ofNat (by omega) (by omega)]
  by_cases hc : (i 2).val ≤ (i 1).val
  · simp [hc, Scalar.select]
  · simp [hc, Scalar.select]

theorem ninf : (FloatOps.ofBits (F := Ideal) .f32 0xFF800000#32 : EReal) = ⊥ := by
  simp [Ideal.ofBits_def, Ideal.ofBits, Ideal.ieee]

include h0 h1 in
/-- The masked scores. -/
theorem v13_eq (i : S16x8192x8192.Idx) : val_main_v13_0 (F := Ideal) x0 x1 i
    = if (i 2).val ≤ (i 1).val then ((hd x0 x1 x2 x3 (i 0).val).s (i 1).val (i 2).val : EReal) else ⊥ := by
  rw [val_main_v13_0_apply, mask_eq, v6_eq x0 x1 x2 x3 h0 h1, val_main_call0_v2_apply, val_main_call0_v0_apply, val_main_cst_0_apply, ninf]

theorem ix_row (i : S16x8192.Idx) : (ix2 (Fin.ofNat 16 (i 0).val) (Fin.ofNat 8192 (i 1).val) : S16x8192.Idx) = i := by
  funext a; apply Fin.ext
  match a with
  | ⟨0, _⟩ => exact Nat.mod_eq_of_lt (i 0).isLt
  | ⟨1, _⟩ => exact Nat.mod_eq_of_lt (i 1).isLt

theorem hd_M (i : S16x8192.Idx) : (hd x0 x1 x2 x3 (i 0).val).M (i 1).val = (val_main_v14 (F := Ideal) x0 x1 i).toReal := by
  unfold hd
  dsimp only
  rw [ix_row]

include h0 h1 in
/-- A row's largest score is a real number: the row has a score that is not `-∞`, and none is `∞`. -/
theorem v14_eq (i : S16x8192.Idx) : val_main_v14 (F := Ideal) x0 x1 i = ((hd x0 x1 x2 x3 (i 0).val).M (i 1).val : EReal) := by
  rw [hd_M]
  have hf : val_main_v14 (F := Ideal) x0 x1 i = (Finset.univ.filter fun k => reducesTo_S16x8192x8192_S16x8192_d2.drop k = i).fold max (⊥ : EReal)
      (val_main_v13_0 (F := Ideal) x0 x1) := by
    unfold val_main_v14
    refine (Host.reduce_eq_fold (f := (max : EReal → EReal → EReal)) _ _ _ _ _).trans ?_
    rw [val_main_cst_1_apply, ninf]
  refine (EReal.coe_toReal ?_ ?_).symm
  · refine ne_of_lt ?_
    rw [hf, Finset.fold_max_lt]
    refine ⟨bot_lt_top, fun k _ => ?_⟩
    rw [v13_eq x0 x1 x2 x3 h0 h1]
    split
    · exact EReal.coe_lt_top _
    · exact bot_lt_top
  · refine ne_of_gt ?_
    rw [hf, Finset.lt_fold_max]
    refine Or.inr ⟨ix3 (⟨(i 0).val, (i 0).isLt⟩ : Fin 16) (⟨(i 1).val, (i 1).isLt⟩ : Fin 8192) (0 : Fin 8192), ?_, ?_⟩
    · rw [Finset.mem_filter]
      refine ⟨Finset.mem_univ _, funext fun a => Fin.ext ?_⟩
      match a with
      | ⟨0, _⟩ => rfl
      | ⟨1, _⟩ => rfl
    · rw [v13_eq x0 x1 x2 x3 h0 h1]
      refine lt_of_lt_of_eq (EReal.bot_lt_coe _) (if_pos ?_).symm
      exact Nat.zero_le _

include h0 h1 in
/-- The exponentials. -/
theorem v34_eq (i : S16x8192x8192.Idx) : val_main_v34 (F := Ideal) x0 x1 i = ((hd x0 x1 x2 x3 (i 0).val).e (i 1).val (i 2).val : EReal) := by
  rw [val_main_v34_apply, val_main_v33_apply, v13_eq x0 x1 x2 x3 h0 h1, val_main_v32_apply, val_main_v31_apply, val_main_v21_apply,
    val_main_v20_apply, val_main_cst_3_apply, ninf, v14_eq x0 x1 x2 x3 h0 h1, Ideal.maximumf_def, max_eq_right bot_le, Ideal.hostUnary_exp_def,
    Ideal.subf_def]
  unfold Head.e
  by_cases hc : (i 2).val ≤ (i 1).val
  · rw [if_pos hc, if_pos hc, ← EReal.coe_sub, Ideal.exp_coe]
  · rw [if_neg hc, if_neg hc, EReal.bot_sub, Ideal.exp_bot]
    rfl

theorem zero_add_cst (b : EReal) : (FloatOps.ofBits (F := Ideal) .f32 0x00000000#32 : EReal) + b = b := by
  simp [Ideal.ofBits_def, Ideal.ofBits, Ideal.ieee]

include h0 h1 in
/-- The sums of the rows' exponentials. -/
theorem v35_eq (i : S16x8192.Idx) : val_main_v35 (F := Ideal) x0 x1 i = ((hd x0 x1 x2 x3 (i 0).val).l (i 1).val : EReal) := by
  rw [val_main_v35_apply, val_main_cst_9_apply, zero_add_cst]
  unfold Head.l
  rw [coe_sum, Finset.sum_range]
  exact Finset.sum_congr rfl fun c _ => v34_eq x0 x1 x2 x3 h0 h1 _

include h0 h1 in
theorem v36_eq (i : S16x8192x1.Idx) : val_main_v36 (F := Ideal) x0 x1 i = ((hd x0 x1 x2 x3 (i 0).val).l (i 1).val : EReal) := by
  rw [val_main_v36_apply]
  exact v35_eq x0 x1 x2 x3 h0 h1 _

include h0 h1 in
/-- The probabilities. -/
theorem v38_eq (i : S16x8192x8192.Idx) : val_main_v38 (F := Ideal) x0 x1 i = ((hd x0 x1 x2 x3 (i 0).val).p (i 1).val (i 2).val : EReal) := by
  rw [val_main_v38_apply, v34_eq x0 x1 x2 x3 h0 h1, val_main_v37_apply, v36_eq x0 x1 x2 x3 h0 h1]
  exact coe_div _ _ (Head.l_pos _ _).ne'

include h3 in
theorem v46_eq (i : S16x128x8192.Idx) : val_main_v46 (F := Ideal) x3 i = ((hd x0 x1 x2 x3 (i 0).val).G (i 2).val ⟨(i 1).val, (i 1).isLt⟩ : EReal) := by
  rw [val_main_v46_apply, v45_eq x3 h3]
  rfl

include h2 h3 in
/-- The gradients of the probabilities. -/
theorem v47_eq (i : S16x8192x8192.Idx) : val_main_v47 (F := Ideal) x2 x3 i = ((hd x0 x1 x2 x3 (i 0).val).dP (i 1).val (i 2).val : EReal) := by
  rw [val_main_v47_apply]
  unfold Head.dP
  rw [coe_sum]
  refine Finset.sum_congr rfl fun d _ => ?_
  rw [v46_eq x0 x1 x2 x3 h3, v2_eq x2 h2, EReal.coe_mul]
  rfl

include h0 h1 h3 in
/-- The gradient of the values: the transposed probabilities times the output's gradient. -/
theorem v69_eq (x : S8192x2048.Idx) : val_main_v69 (F := Ideal) x0 x1 x3 x = ((∑ r ∈ Finset.range 8192,
    (hd x0 x1 x2 x3 ((x 1).val / 128)).p r (x 0).val * (hd x0 x1 x2 x3 ((x 1).val / 128)).G r (Fin.ofNat 128 (x 1).val) : ℝ) : EReal) := by
  have a0 : (x 0).val < 8192 := (x 0).isLt
  have a1 : (x 1).val < 2048 := (x 1).isLt
  rw [val_main_v69_apply, val_main_v49_apply, val_main_v48_apply, coe_sum, Finset.sum_range]
  refine Finset.sum_congr rfl fun r _ => ?_
  rw [v46_eq x0 x1 x2 x3 h3, v38_eq x0 x1 x2 x3 h0 h1, mul_comm, EReal.coe_mul]
  have e0 : ((x 0).val * 2048 + (x 1).val) / 128 % 16 = (x 1).val / 128 := by omega
  have e1 : ((x 0).val * 2048 + (x 1).val) / 2048 = (x 0).val := by omega
  have e2 : ((x 0).val * 2048 + (x 1).val) % 128 = (x 1).val % 128 := by omega
  show ((hd x0 x1 x2 x3 (((x 0).val * 2048 + (x 1).val) / 128 % 16)).p r.val (((x 0).val * 2048 + (x 1).val) / 2048) : EReal)
    * ((hd x0 x1 x2 x3 (((x 0).val * 2048 + (x 1).val) / 128 % 16)).G r.val ⟨((x 0).val * 2048 + (x 1).val) % 128, _⟩ : EReal) = _
  simp only [e0, e1, e2]
  rfl

/-- A row's sum of `dP · e / l²` is the row's constant `del` over the row's sum. -/
theorem row_sum (H : Head) (r : ℕ) : ∑ c ∈ Finset.range 8192, H.dP r c * (1 / (H.l r * H.l r)) * H.e r c = H.del r / H.l r := by
  rw [H.del_eq, Finset.sum_div]
  refine Finset.sum_congr rfl fun c _ => ?_
  have := (H.l_pos r).ne'
  unfold Head.p
  field_simp

include h0 h1 h2 h3 in
theorem v53_eq (i : S16x8192.Idx) : val_main_v53 (F := Ideal) x0 x1 x2 x3 i
    = (((hd x0 x1 x2 x3 (i 0).val).del (i 1).val / (hd x0 x1 x2 x3 (i 0).val).l (i 1).val : ℝ) : EReal) := by
  rw [val_main_v53_apply, val_main_cst_11_apply, zero_add_cst, ← row_sum, coe_sum, Finset.sum_range]
  refine Finset.sum_congr rfl fun c _ => ?_
  have hl := (Head.l_pos (hd x0 x1 x2 x3 (i 0).val) (i 1).val).ne'
  have one : (FloatOps.ofBits (F := Ideal) .f32 0x3F800000#32 : EReal) = ((1 : ℝ) : EReal) := by
    simp [Ideal.ofBits_def, Ideal.ofBits, Ideal.ieee]
    try rw [← EReal.coe_mul]
    try norm_num
  rw [val_main_v52_apply, val_main_v51_apply, v47_eq x0 x1 x2 x3 h2 h3, v34_eq x0 x1 x2 x3 h0 h1, val_main_v50_apply, val_main_v41_apply,
    val_main_v39_apply, v36_eq x0 x1 x2 x3 h0 h1, val_main_v40_apply, val_main_cst_10_apply, one, Ideal.mulf_def, Ideal.mulf_def, Ideal.mulf_def,
    ← EReal.coe_mul, coe_div _ _ (mul_ne_zero hl hl), ← EReal.coe_mul, ← EReal.coe_mul]

include h0 h1 h2 h3 in
theorem v58_eq (i : S16x8192.Idx) : val_main_v58 (F := Ideal) x0 x1 x2 x3 i
    = ((-((hd x0 x1 x2 x3 (i 0).val).del (i 1).val / (hd x0 x1 x2 x3 (i 0).val).l (i 1).val) : ℝ) : EReal) := by
  have a0 : (i 0).val < 16 := (i 0).isLt
  have a1 : (i 1).val < 8192 := (i 1).isLt
  rw [val_main_v58_apply, val_main_cst_12_apply, zero_add_cst, Fin.sum_univ_one, val_main_v55_apply, val_main_v54_apply,
    v53_eq x0 x1 x2 x3 h0 h1 h2 h3]
  have e0 : (((i 0).val * 8192 + (i 1).val) * 1 + 0) / 8192 = (i 0).val := by omega
  have e1 : (((i 0).val * 8192 + (i 1).val) * 1 + 0) % 8192 = (i 1).val := by omega
  show -(((hd x0 x1 x2 x3 ((((i 0).val * 8192 + (i 1).val) * 1 + 0) / 8192)).del ((((i 0).val * 8192 + (i 1).val) * 1 + 0) % 8192)
    / (hd x0 x1 x2 x3 ((((i 0).val * 8192 + (i 1).val) * 1 + 0) / 8192)).l ((((i 0).val * 8192 + (i 1).val) * 1 + 0) % 8192) : ℝ) : EReal) = _
  rw [e0, e1, EReal.coe_neg]

include h0 h1 h2 h3 in
/-- The gradients of the scores, scaled. -/
theorem v64_eq (i : S16x8192x8192.Idx) : val_main_v64 (F := Ideal) x0 x1 x2 x3 i
    = (((hd x0 x1 x2 x3 (i 0).val).ds (i 1).val (i 2).val / √96 : ℝ) : EReal) := by
  have hl := (Head.l_pos (hd x0 x1 x2 x3 (i 0).val) (i 1).val).ne'
  have h62 : val_main_v62 (F := Ideal) x0 x1 x2 x3 i = ((hd x0 x1 x2 x3 (i 0).val).ds (i 1).val (i 2).val : EReal) := by
    rw [val_main_v62_apply, mask_eq, val_main_v61_apply, v34_eq x0 x1 x2 x3 h0 h1, val_main_v60_apply, val_main_v57_apply,
      v47_eq x0 x1 x2 x3 h2 h3, val_main_v56_apply, v36_eq x0 x1 x2 x3 h0 h1, val_main_v59_apply, v58_eq x0 x1 x2 x3 h0 h1 h2 h3]
    by_cases hc : (i 2).val ≤ (i 1).val
    · rw [if_pos hc]
      refine (congrArg₂ _ (congrArg₂ _ (coe_div _ _ hl) rfl) rfl).trans ?_
      rw [Ideal.addf_def, Ideal.mulf_def, ← EReal.coe_add, ← EReal.coe_mul]
      congr 1
      unfold Head.ds Head.p
      field_simp
      try rfl
      try ring_nf
    · rw [if_neg hc, Head.ds_of_lt _ (by omega), val_main_call1_v0_apply, val_main_call1_cst_apply]
      simp [Ideal.ofBits_def, Ideal.ofBits, Ideal.ieee]
  rw [val_main_v64_apply, h62, val_main_v63_apply, sqrt96]
  exact coe_div _ _ sqrt96_pos.ne'

include h0 h1 h2 h3 in
/-- The gradient of the keys. -/
theorem v70_eq (x : S8192x2048.Idx) : val_main_v70 (F := Ideal) x0 x1 x2 x3 x = (((∑ r ∈ Finset.range 8192,
    (hd x0 x1 x2 x3 ((x 1).val / 128)).ds r (x 0).val * (hd x0 x1 x2 x3 ((x 1).val / 128)).Q r (Fin.ofNat 128 (x 1).val)) / √96 : ℝ) : EReal) := by
  have a0 : (x 0).val < 8192 := (x 0).isLt
  have a1 : (x 1).val < 2048 := (x 1).isLt
  rw [val_main_v70_apply, val_main_v66_apply, val_main_v65_apply, Finset.sum_div, coe_sum, Finset.sum_range]
  refine Finset.sum_congr rfl fun r _ => ?_
  rw [v64_eq x0 x1 x2 x3 h0 h1 h2 h3, v0_eq x0 h0, mul_div_right_comm, EReal.coe_mul]
  have e0 : ((x 0).val * 2048 + (x 1).val) / 128 % 16 = (x 1).val / 128 := by omega
  have e1 : ((x 0).val * 2048 + (x 1).val) / 2048 = (x 0).val := by omega
  have e2 : ((x 0).val * 2048 + (x 1).val) % 128 = (x 1).val % 128 := by omega
  show (((hd x0 x1 x2 x3 (((x 0).val * 2048 + (x 1).val) / 128 % 16)).ds r.val (((x 0).val * 2048 + (x 1).val) / 2048) / √96 : ℝ) : EReal)
    * (rat x0 r.val (128 * (((x 0).val * 2048 + (x 1).val) / 128 % 16) + ((x 0).val * 2048 + (x 1).val) % 128) : EReal) = _
  rw [e0, e1, e2]
  rfl

include h0 h1 h2 h3 in
/-- The gradient of the queries. -/
theorem v71_eq (x : S8192x2048.Idx) : val_main_v71 (F := Ideal) x0 x1 x2 x3 x = (((∑ c ∈ Finset.range 8192,
    (hd x0 x1 x2 x3 ((x 1).val / 128)).ds (x 0).val c * (hd x0 x1 x2 x3 ((x 1).val / 128)).K c (Fin.ofNat 128 (x 1).val)) / √96 : ℝ) : EReal) := by
  have a0 : (x 0).val < 8192 := (x 0).isLt
  have a1 : (x 1).val < 2048 := (x 1).isLt
  rw [val_main_v71_apply, val_main_v68_apply, val_main_v67_apply, Finset.sum_div, coe_sum, Finset.sum_range]
  refine Finset.sum_congr rfl fun c _ => ?_
  rw [v64_eq x0 x1 x2 x3 h0 h1 h2 h3, v1_eq x1 h1, mul_div_right_comm, EReal.coe_mul]
  have e0 : ((x 0).val * 2048 + (x 1).val) / 128 % 16 = (x 1).val / 128 := by omega
  have e1 : ((x 0).val * 2048 + (x 1).val) / 2048 = (x 0).val := by omega
  have e2 : ((x 0).val * 2048 + (x 1).val) % 128 = (x 1).val % 128 := by omega
  show (((hd x0 x1 x2 x3 (((x 0).val * 2048 + (x 1).val) / 128 % 16)).ds (((x 0).val * 2048 + (x 1).val) / 2048) c.val / √96 : ℝ) : EReal)
    * (rat x1 c.val (128 * (((x 0).val * 2048 + (x 1).val) / 128 % 16) + ((x 0).val * 2048 + (x 1).val) % 128) : EReal) = _
  rw [e0, e1, e2]
  rfl
end
end Cert.ReferenceIdeal.AttnBwd
end
-- ==== Proof.Arrays.lean ====
module

public import proofs.«01_k».proof.Proof.Grid

@[expose] public section

set_option maxRecDepth 16384

noncomputable section

namespace Cert.KernelIdeal.AttnBwd

open Idealize.ShloMosaic Idealize.ShloMosaic.TcCoe Idealize.ShloMosaic.Tactic
open Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The three results as functions of the arrays the kernel finds -/

/-- `dq` after the run: row `r`, column `c` is the sum over the eight blocks of keys, in the head of column `c`. -/
def outQ (c : Dev nD) : S8192x2048.Idx → EReal := fun x =>
  ∑ j ∈ Finset.range 8, (hb m c ((x 1).val / 128) j).dq j (x 0).val (Fin.ofNat 128 (x 1).val)

/-- `dk` after the run: each row by the block of keys it is in. -/
def outK (c : Dev nD) : S8192x2048.Idx → EReal := fun x =>
  (hb m c ((x 1).val / 128) ((x 0).val / 1024)).dk ((x 0).val / 1024) (8192 - 1024 * ((x 0).val / 1024)) ((x 0).val % 1024) (Fin.ofNat 128 (x 1).val) * ln2

/-- `dv` after the run: each row by the block of keys it is in. -/
def outV (c : Dev nD) : S8192x2048.Idx → EReal := fun x =>
  (hb m c ((x 1).val / 128) ((x 0).val / 1024)).dv ((x 0).val / 1024) (8192 - 1024 * ((x 0).val / 1024)) ((x 0).val % 1024) (Fin.ofNat 128 (x 1).val)

theorem final6 (c : Dev nD) : (dats m 0 c).arrAt 6 cfg0.N = outQ m c := by
  refine (dats m 0 c).arrAt_eq_of_covers 6 _ (by decide +kernel) fun t hf y => ?_
  have h7 : t.val % 8 = 7 := (flush0_6 t).mp hf
  obtain ⟨e0, e1⟩ := index6 t
  rw [after6]
  have y0 : (y (0 : Fin 2)).val < 8192 := (y (0 : Fin 2)).isLt
  have y1 : (y (1 : Fin 2)).val < 128 := (y (1 : Fin 2)).isLt
  have hx0 : ((((cfg0.win 6).blk t).view.emb y) (0 : Fin 2)).val = (y (0 : Fin 2)).val := by
    show win0_6.index t (0 : Fin 2) * 8192 + 1 * (y (0 : Fin 2)).val = _; omega
  have hx1 : ((((cfg0.win 6).blk t).view.emb y) (1 : Fin 2)).val = t.val / 8 * 128 + (y (1 : Fin 2)).val := by
    show win0_6.index t (1 : Fin 2) * 128 + 1 * (y (1 : Fin 2)).val = _; omega
  show left6 m c t.val y = outQ m c (((cfg0.win 6).blk t).view.emb y)
  unfold left6 outQ
  rw [hx0, hx1, h7, show (t.val / 8 * 128 + (y (1 : Fin 2)).val) / 128 = t.val / 8 by omega]
  refine Finset.sum_congr rfl fun j _ => ?_
  congr 1
  apply Fin.ext
  show (y (1 : Fin 2)).val = (t.val / 8 * 128 + (y (1 : Fin 2)).val) % 128
  omega

theorem final7 (c : Dev nD) : (dats m 0 c).arrAt 7 cfg0.N = outK m c := by
  refine (dats m 0 c).arrAt_eq_of_covers 7 _ (by decide +kernel) fun t hf y => ?_
  obtain ⟨e0, e1⟩ := index7 t
  rw [after7]
  have y0 : (y (0 : Fin 2)).val < 1024 := (y (0 : Fin 2)).isLt
  have y1 : (y (1 : Fin 2)).val < 128 := (y (1 : Fin 2)).isLt
  have hx0 : ((((cfg0.win 7).blk t).view.emb y) (0 : Fin 2)).val = t.val % 8 * 1024 + (y (0 : Fin 2)).val := by
    show win0_7.index t (0 : Fin 2) * 1024 + 1 * (y (0 : Fin 2)).val = _; omega
  have hx1 : ((((cfg0.win 7).blk t).view.emb y) (1 : Fin 2)).val = t.val / 8 * 128 + (y (1 : Fin 2)).val := by
    show win0_7.index t (1 : Fin 2) * 128 + 1 * (y (1 : Fin 2)).val = _; omega
  show left7 m c t.val y = outK m c (((cfg0.win 7).blk t).view.emb y)
  unfold left7 outK
  rw [hx0, hx1, show (t.val / 8 * 128 + (y (1 : Fin 2)).val) / 128 = t.val / 8 by omega,
    show (t.val % 8 * 1024 + (y (0 : Fin 2)).val) / 1024 = t.val % 8 by omega,
    show (t.val % 8 * 1024 + (y (0 : Fin 2)).val) % 1024 = (y (0 : Fin 2)).val by omega,
    show Fin.ofNat 128 (t.val / 8 * 128 + (y (1 : Fin 2)).val) = y (1 : Fin 2) from
      Fin.ext (show (t.val / 8 * 128 + (y (1 : Fin 2)).val) % 128 = _ by omega)]

theorem final8 (c : Dev nD) : (dats m 0 c).arrAt 8 cfg0.N = outV m c := by
  refine (dats m 0 c).arrAt_eq_of_covers 8 _ (by decide +kernel) fun t hf y => ?_
  obtain ⟨e0, e1⟩ := index8 t
  rw [after8]
  have y0 : (y (0 : Fin 2)).val < 1024 := (y (0 : Fin 2)).isLt
  have y1 : (y (1 : Fin 2)).val < 128 := (y (1 : Fin 2)).isLt
  have hx0 : ((((cfg0.win 8).blk t).view.emb y) (0 : Fin 2)).val = t.val % 8 * 1024 + (y (0 : Fin 2)).val := by
    show win0_8.index t (0 : Fin 2) * 1024 + 1 * (y (0 : Fin 2)).val = _; omega
  have hx1 : ((((cfg0.win 8).blk t).view.emb y) (1 : Fin 2)).val = t.val / 8 * 128 + (y (1 : Fin 2)).val := by
    show win0_8.index t (1 : Fin 2) * 128 + 1 * (y (1 : Fin 2)).val = _; omega
  show left8 m c t.val y = outV m c (((cfg0.win 8).blk t).view.emb y)
  unfold left8 outV
  rw [hx0, hx1, show (t.val / 8 * 128 + (y (1 : Fin 2)).val) / 128 = t.val / 8 by omega,
    show (t.val % 8 * 1024 + (y (0 : Fin 2)).val) / 1024 = t.val % 8 by omega,
    show (t.val % 8 * 1024 + (y (0 : Fin 2)).val) % 1024 = (y (0 : Fin 2)).val by omega,
    show Fin.ofNat 128 (t.val / 8 * 128 + (y (1 : Fin 2)).val) = y (1 : Fin 2) from
      Fin.ext (show (t.val / 8 * 128 + (y (1 : Fin 2)).val) % 128 = _ by omega)]

/-- Every execution of the kernel program terminates with the three results at these functions, the arguments as they
    were, and every counter at zero. -/
theorem run_out : θ_run defs (onTc (τ := τ) (main (F := Ideal))) ⟨m, fun _ => 0, ρ⟩ (fun r => (∀ c : Dev nD,
      r.2.mem ((c.tc : Thread nD τ).loc main_v43_0) = outQ m c
      ∧ r.2.mem ((c.tc : Thread nD τ).loc main_v43_1) = outK m c
      ∧ r.2.mem ((c.tc : Thread nD τ).loc main_v43_2) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h1 := run_post m ρ
  have h2 := frame_of m ρ (dats m) (A_eq m) ((θ_run defs _ _).mono (fun _ h => h.1) h1)
  refine (θ_run defs _ _).mono (fun r h => ?_) (θ_run_and h1 h2)
  obtain ⟨⟨hp, hs⟩, ha⟩ := h
  exact ⟨fun c => ⟨((hp c).1 6).trans (final6 m c), ((hp c).1 7).trans (final7 m c), ((hp c).1 8).trans (final8 m c), ha c⟩, hs⟩

end Cert.KernelIdeal.AttnBwd

end
-- ==== Proof.Host.lean ====
module

public import proofs.«01_k».proof.Proof.Ref
public import proofs.«01_k».proof.Proof.Arrays

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic Idealize.SL.Sem Idealize.ShloMosaic.StableHlo
open Cert.ReferenceIdeal.Read (val_main_v2 val_main_v13_0 val_main_v14 val_main_v21 val_main_v31 val_main_v32 val_main_v33 val_main_v34 val_main_v35 val_main_v36
  val_main_v37 val_main_v38 val_main_v45)
open Cert.ReferenceIdeal.AttnBwd

/-! # What the host gives the kernel -/

/-- The exponentials of a head's scores less the row's maximum. -/
def hE (x0 x1 : S8192x2048.Idx → EReal) : FVec Ideal S16x8192x8192 .f32 :=
  Host.exp (subf (val_main_v13_0 (F := Ideal) x0 x1) (broadcastInDim S16x8192x8192 ![0, 1, 2] bcast_S16x8192x1_S16x8192x8192_0_1_2
    (broadcastInDim S16x8192x1 ![0, 1] bcast_S16x8192_S16x8192x1_0_1 (val_main_v14 (F := Ideal) x0 x1))))

/-- The rows' sums of them. -/
def hL (x0 x1 : S8192x2048.Idx → EReal) : FVec Ideal S16x8192x1 .f32 :=
  broadcastInDim S16x8192x1 ![0, 1] bcast_S16x8192_S16x8192x1_0_1
    (Host.reduceAdd (hE x0 x1) (constant (F := Ideal) S_ .f32 0x00000000#32) reducesTo_S16x8192x8192_S16x8192_d2 h_S_)

/-- The rows' logarithmic sums to base 2. -/
def hLse (x0 x1 : S8192x2048.Idx → EReal) : FVec Ideal S16x8192x1 .f32 :=
  Host.divf (addf (broadcastInDim S16x8192x1 ![0, 1] bcast_S16x8192_S16x8192x1_0_1 (val_main_v14 (F := Ideal) x0 x1)) (Host.log (hL x0 x1)))
    (broadcastInDim S16x8192x1 ![] bcast_S_S16x8192x1 (Host.log (constant (F := Ideal) S_ .f32 0x40000000#32)))

/-- The attention's output. -/
def hO (x0 x1 x2 : S8192x2048.Idx → EReal) : FVec Ideal S16x8192x128 .f32 :=
  Host.dotGeneral (φ₁ := .f32) (φ₂ := .f32) dot_S16x8192x8192_S8192x16x128_S16x8192x128_2_0_1_2_0_1 none
    (Host.divf (hE x0 x1) (broadcastInDim S16x8192x8192 ![0, 1, 2] bcast_S16x8192x1_S16x8192x8192_0_1_2 (hL x0 x1))) (val_main_v2 (F := Ideal) x2 : FVec Ideal S8192x16x128 .f32)

/-- The output's gradient, head by head. -/
def hG (x3 : S8192x2048.Idx → EReal) : FVec Ideal S16x8192x128 .f32 :=
  transpose S16x8192x128 [1, 0, 2] (val_main_v2 (F := Ideal) x3 : FVec Ideal S8192x16x128 .f32) transposes_S8192x16x128_S16x8192x128_1_0_2

/-- The rows' constants: the output's gradient against the output. -/
def hDel (x0 x1 x2 x3 : S8192x2048.Idx → EReal) : FVec Ideal S16x8192x1 .f32 :=
  broadcastInDim S16x8192x1 ![0, 1] bcast_S16x8192_S16x8192x1_0_1
    (Host.reduceAdd (mulf (hG x3) (hO x0 x1 x2)) (constant (F := Ideal) S_ .f32 0x00000000#32) reducesTo_S16x8192x128_S16x8192_d2 h_S_)

/-- The scaled queries. -/
def hQ (x0 : S8192x2048.Idx → EReal) : S8192x2048.Idx → EReal :=
  mulf (F := Ideal) (s := S8192x2048) (φ := .f32) x0 (broadcastInDim S8192x2048 ![] bcast_S_S8192x2048 (Host.divf (constant (F := Ideal) S_ .f32 0x3F800000#32)
    (mulf (Host.sqrt (constant (F := Ideal) S_ .f32 0x42C00000#32)) (Host.log (constant (F := Ideal) S_ .f32 0x40000000#32)))))

variable (m : (ℓ : Loc nD τ sig) → Buf (Elt Ideal) ℓ) (c : Dev nD)

/-- The argument `b` as launched. -/
abbrev arg (b : Ref sig .tc) := m ((c.tc : Thread nD τ).loc b)

set_option maxHeartbeats 4000000

theorem V29 : V m c main_v29 = hLse (arg m c main_arg0) (arg m c main_arg1) := by
  simp only [V, hostOps0, hostOps0_1, hostOps0_2, TRef.nullary, TRef.ternary, TRef.unary, TRef.toBuf, TRef.ofBuf, cast_eq, List.flatten_cons, List.flatten_nil, List.append_nil, List.cons_append, List.nil_append]
  after_results_simp <;> rfl

theorem V33 : V m c main_v33 = hDel (arg m c main_arg0) (arg m c main_arg1) (arg m c main_arg2) (arg m c main_arg3) := by
  simp only [V, hostOps0, hostOps0_1, hostOps0_2, TRef.nullary, TRef.ternary, TRef.unary, TRef.toBuf, TRef.ofBuf, cast_eq, List.flatten_cons, List.flatten_nil, List.append_nil, List.cons_append, List.nil_append]
  after_results_simp <;> rfl

theorem V39 : V m c main_v39 = hQ (arg m c main_arg0) := by
  simp only [V, hostOps0, hostOps0_1, hostOps0_2, TRef.nullary, TRef.ternary, TRef.unary, TRef.toBuf, TRef.ofBuf, cast_eq, List.flatten_cons, List.flatten_nil, List.append_nil, List.cons_append, List.nil_append]
  after_results_simp <;> rfl

theorem V40 : V m c main_v40 = arg m c main_arg1 := by
  simp only [V, hostOps0, hostOps0_1, hostOps0_2, TRef.nullary, TRef.ternary, TRef.unary, TRef.toBuf, TRef.ofBuf, cast_eq, List.flatten_cons, List.flatten_nil, List.append_nil, List.cons_append, List.nil_append]
  after_results_simp <;> rfl

theorem V41 : V m c main_v41 = arg m c main_arg2 := by
  simp only [V, hostOps0, hostOps0_1, hostOps0_2, TRef.nullary, TRef.ternary, TRef.unary, TRef.toBuf, TRef.ofBuf, cast_eq, List.flatten_cons, List.flatten_nil, List.append_nil, List.cons_append, List.nil_append]
  after_results_simp <;> rfl

theorem V42 : V m c main_v42 = arg m c main_arg3 := by
  simp only [V, hostOps0, hostOps0_1, hostOps0_2, TRef.nullary, TRef.ternary, TRef.unary, TRef.toBuf, TRef.ofBuf, cast_eq, List.flatten_cons, List.flatten_nil, List.append_nil, List.cons_append, List.nil_append]
  after_results_simp <;> rfl

end Cert.KernelIdeal.AttnBwd
end
-- ==== Proof.HostVal.lean ====
module

public import proofs.«01_k».proof.Proof.Host

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic Idealize.SL.Sem Idealize.ShloMosaic.StableHlo
open Cert.ReferenceIdeal.Read (val_main_v2 val_main_v13_0 val_main_v14 val_main_v21 val_main_v31 val_main_v32 val_main_v33 val_main_v34 val_main_v35 val_main_v36
  val_main_v37 val_main_v38 val_main_v45)
open Cert.ReferenceIdeal.AttnBwd

/-! ## Their values, in real numbers -/

section
variable (x0 x1 x2 x3 : S8192x2048.Idx → EReal) (h0 : Real2 x0) (h1 : Real2 x1) (h2 : Real2 x2) (h3 : Real2 x3)

theorem two_bits : (FloatOps.ofBits (F := Ideal) .f32 0x40000000#32 : EReal) = ((2 : ℝ) : EReal) := by
  simp [Ideal.ofBits_def, Ideal.ofBits, Ideal.ieee]
  try rw [← EReal.coe_mul]
  try norm_num

theorem one_bits : (FloatOps.ofBits (F := Ideal) .f32 0x3F800000#32 : EReal) = ((1 : ℝ) : EReal) := by
  simp [Ideal.ofBits_def, Ideal.ofBits, Ideal.ieee]
  try rw [← EReal.coe_mul]
  try norm_num

theorem log_pos (r : ℝ) (h : 0 < r) : Ideal.log (r : EReal) = ((Real.log r : ℝ) : EReal) := by
  rw [Ideal.log_coe, if_neg (by linarith)]

theorem log2_ne : Real.log 2 ≠ 0 := (Real.log_pos (by norm_num)).ne'

theorem v21_eq : val_main_v21 (F := Ideal) x0 x1 = val_main_v14 (F := Ideal) x0 x1 := by
  funext i
  rw [Cert.ReferenceIdeal.Read.val_main_v21_apply, Cert.ReferenceIdeal.Read.val_main_v20_apply, Cert.ReferenceIdeal.Read.val_main_cst_3_apply, ninf,
    Ideal.maximumf_def, max_eq_right bot_le]

theorem hE_ref : hE x0 x1 = val_main_v34 (F := Ideal) x0 x1 := by
  unfold val_main_v34 val_main_v33 val_main_v32 val_main_v31
  rw [v21_eq]
  rfl

theorem hL_ref : hL x0 x1 = val_main_v36 (F := Ideal) x0 x1 := by
  unfold hL
  rw [hE_ref]
  rfl

theorem hP_ref : Host.divf (hE x0 x1) (broadcastInDim S16x8192x8192 ![0, 1, 2] bcast_S16x8192x1_S16x8192x8192_0_1_2 (hL x0 x1))
    = val_main_v38 (F := Ideal) x0 x1 := by
  rw [hE_ref, hL_ref]
  rfl

theorem bc_row (y : FVec Ideal S16x8192 .f32) (i : S16x8192x1.Idx) :
    broadcastInDim S16x8192x1 ![0, 1] bcast_S16x8192_S16x8192x1_0_1 y i = y (Cert.ReferenceIdeal.Read.idx_main_v36 i) :=
  broadcastInDim_apply _ bcast_S16x8192_S16x8192x1_0_1 y i (Cert.ReferenceIdeal.Read.idx_main_v36 i) (fun a => match a with
    | ⟨0, _⟩ => by show (i 0).val = if (16 : Nat) = 1 then 0 else (i 0).val; rw [if_neg (by decide)]
    | ⟨1, _⟩ => by show (i 1).val = if (8192 : Nat) = 1 then 0 else (i 1).val; rw [if_neg (by decide)])

theorem bc_one (y : FVec Ideal S_ .f32) (i : S16x8192x1.Idx) : broadcastInDim S16x8192x1 ![] bcast_S_S16x8192x1 y i = y (fun a => a.elim0) :=
  broadcastInDim_apply _ bcast_S_S16x8192x1 y i (fun a => a.elim0) (fun a => a.elim0)

theorem bc_all (y : FVec Ideal S_ .f32) (i : S8192x2048.Idx) : broadcastInDim S8192x2048 ![] bcast_S_S8192x2048 y i = y (fun a => a.elim0) :=
  broadcastInDim_apply _ bcast_S_S8192x2048 y i (fun a => a.elim0) (fun a => a.elim0)

theorem lse_read (a b : FVec Ideal S16x8192x1 .f32) (y : FVec Ideal S_ .f32) (i : S16x8192x1.Idx) :
    Host.divf (addf a (Host.log b)) (broadcastInDim S16x8192x1 ![] bcast_S_S16x8192x1 (Host.log y)) i
      = FloatOps.hostDivf (FloatOps.addf (a i) (FloatOps.hostUnary .log (b i))) (FloatOps.hostUnary .log (y (fun a => a.elim0))) := by
  show FloatOps.hostDivf (FloatOps.addf (a i) (FloatOps.hostUnary .log (b i))) (broadcastInDim S16x8192x1 ![] bcast_S_S16x8192x1 (Host.log y) i) = _
  rw [bc_one]
  rfl

include h0 h1 in
theorem hLse_eq (i : S16x8192x1.Idx) : hLse x0 x1 i
    = ((((hd x0 x1 x2 x3 (i 0).val).M (i 1).val + Real.log ((hd x0 x1 x2 x3 (i 0).val).l (i 1).val)) / Real.log 2 : ℝ) : EReal) := by
  have e14 := v14_eq x0 x1 x2 x3 h0 h1 (Cert.ReferenceIdeal.Read.idx_main_v36 i)
  have el := v36_eq x0 x1 x2 x3 h0 h1 i
  unfold hLse
  rw [lse_read, bc_row, hL_ref, e14, el]
  rw [Ideal.hostUnary_log_def, log_pos _ (Head.l_pos _ _), Ideal.addf_def, ← EReal.coe_add]
  refine (congrArg₂ _ rfl (show _ = ((Real.log 2 : ℝ) : EReal) from ?_)).trans (coe_div _ _ log2_ne)
  exact (congrArg Ideal.log two_bits).trans (log_pos 2 (by norm_num))

/-- The product of a head's probabilities with its values, as a sum over the columns. -/
theorem dot_probs (y0 : FVec Ideal S16x8192x8192 .f32) (y1 : FVec Ideal S8192x16x128 .f32) (i : S16x8192x128.Idx) :
    (Host.dotGeneral (φ₁ := .f32) (φ₂ := .f32) dot_S16x8192x8192_S8192x16x128_S16x8192x128_2_0_1_2_0_1 none y0 y1 : FVec Ideal S16x8192x128 .f32) i
      = ∑ k : Fin 8192, y0 (Cert.ReferenceIdeal.Read.lidx_main_v67 i k) * y1 (Cert.ReferenceIdeal.Read.ridx_main_v67 i k) := by
  let e := (ValueIdx.contrEquiv1 dot_S16x8192x8192_S8192x16x128_S16x8192x128_2_0_1_2_0_1 8192 rfl rfl).symm
  have he : ∀ k, (e k ⟨0, by decide⟩).val = k.val :=
    ValueIdx.contrEquiv1_symm_val dot_S16x8192x8192_S8192x16x128_S16x8192x128_2_0_1_2_0_1 8192 rfl rfl
  simp only [Host.dotGeneral]
  refine (Ideal.dotGeneral_apply ..).trans ((Equiv.sum_comp e _).symm.trans (Finset.sum_congr rfl fun k _ => congrArg₂ _ (congrArg y0 (funext fun a => Fin.ext ?_)) (congrArg y1 (funext fun a => Fin.ext ?_))))
  · match a with
    | ⟨0, _⟩ => exact Cert.ReferenceIdeal.Read.lhs_main_v67_0 _ _
    | ⟨1, _⟩ => exact Cert.ReferenceIdeal.Read.lhs_main_v67_1 _ _
    | ⟨2, _⟩ => exact (Cert.ReferenceIdeal.Read.lhs_main_v67_2 _ _).trans (he k)
  · match a with
    | ⟨0, _⟩ => exact (Cert.ReferenceIdeal.Read.rhs_main_v67_0 _ _).trans (he k)
    | ⟨1, _⟩ => exact Cert.ReferenceIdeal.Read.rhs_main_v67_1 _ _
    | ⟨2, _⟩ => exact Cert.ReferenceIdeal.Read.rhs_main_v67_2 _ _

include h0 h1 h2 in
theorem hO_eq (i : S16x8192x128.Idx) : hO x0 x1 x2 i = ((hd x0 x1 x2 x3 (i 0).val).o (i 1).val ⟨(i 2).val, (i 2).isLt⟩ : EReal) := by
  have e : hO x0 x1 x2 i = ∑ k : Fin 8192, val_main_v38 (F := Ideal) x0 x1 (Cert.ReferenceIdeal.Read.lidx_main_v67 i k)
      * val_main_v2 (F := Ideal) x2 (Cert.ReferenceIdeal.Read.ridx_main_v67 i k) := by
    unfold hO
    rw [hP_ref]
    exact dot_probs _ _ i
  rw [e]
  unfold Head.o
  rw [coe_sum, Finset.sum_range]
  refine Finset.sum_congr rfl fun k _ => ?_
  rw [v38_eq x0 x1 x2 x3 h0 h1, v2_eq x2 h2, EReal.coe_mul]
  rfl

include h3 in
theorem hG_eq (i : S16x8192x128.Idx) : hG x3 i = ((hd x0 x1 x2 x3 (i 0).val).G (i 1).val ⟨(i 2).val, (i 2).isLt⟩ : EReal) := by
  refine (transpose_apply [1, 0, 2] (val_main_v2 (F := Ideal) x3) transposes_S8192x16x128_S16x8192x128_1_0_2 i
    (ix3 (⟨(i 1).val, (i 1).isLt⟩ : Fin 8192) (⟨(i 0).val, (i 0).isLt⟩ : Fin 16) (⟨(i 2).val, (i 2).isLt⟩ : Fin 128)) (fun b => match b with
      | ⟨0, _⟩ => rfl
      | ⟨1, _⟩ => rfl
      | ⟨2, _⟩ => rfl)).trans ?_
  exact v2_eq x3 h3 _

include h0 h1 h2 h3 in
theorem hDel_eq (i : S16x8192x1.Idx) : hDel x0 x1 x2 x3 i = ((hd x0 x1 x2 x3 (i 0).val).del (i 1).val : EReal) := by
  unfold hDel
  rw [bc_row]
  simp only [Host.reduceAdd, Ideal.hostReduceAdd_def]
  rw [Ideal.hostReduceAdd_single reducesTo_S16x8192x128_S16x8192_d2 (by decide)]
  refine (zero_add_cst _).trans ?_
  unfold Head.del
  rw [coe_sum]
  refine Finset.sum_congr rfl fun d _ => ?_
  show FloatOps.mulf (hG x3 _) (hO x0 x1 x2 _) = _
  rw [hG_eq x0 x1 x2 x3 h3, hO_eq x0 x1 x2 x3 h0 h1 h2, Ideal.mulf_def, ← EReal.coe_mul]
  rfl

include h0 in
theorem hQ_eq (i : S8192x2048.Idx) : hQ x0 i = ((rat x0 (i 0).val (i 1).val * (1 / (√96 * Real.log 2)) : ℝ) : EReal) := by
  have e : (FloatOps.hostDivf (FloatOps.ofBits (F := Ideal) .f32 0x3F800000#32) (FloatOps.mulf (Cert.ReferenceIdeal.Read.val_main_v4 (F := Ideal) (fun a => a.elim0))
      (FloatOps.hostUnary .log (FloatOps.ofBits (F := Ideal) .f32 0x40000000#32))) : EReal) = ((1 / (√96 * Real.log 2) : ℝ) : EReal) := by
    rw [sqrt96, one_bits, two_bits, Ideal.hostUnary_log_def, log_pos 2 (by norm_num), Ideal.mulf_def, ← EReal.coe_mul]
    exact coe_div _ _ (mul_ne_zero sqrt96_pos.ne' log2_ne)
  unfold hQ
  refine (congrArg₂ (fun a b : EReal => a * b) (h0.read i _ _ rfl rfl) ((bc_all _ i).trans e)).trans ?_
  exact (EReal.coe_mul _ _).symm
end

variable (m : (ℓ : Loc nD τ sig) → Buf (Elt Ideal) ℓ) (c : Dev nD)

/-- The six arrays of the launch, at head `h` and block `j`, are that head's. -/
theorem hb_is (h0 : Real2 (arg m c main_arg0)) (h1 : Real2 (arg m c main_arg1)) (h2 : Real2 (arg m c main_arg2)) (h3 : Real2 (arg m c main_arg3))
    (h : ℕ) (hh : h < 16) (j : ℕ) (hj : j < 8) :
    (hd (arg m c main_arg0) (arg m c main_arg1) (arg m c main_arg2) (arg m c main_arg3) h).Is j (hb m c h j) where
  q r hr d := by
    show at2 (V m c main_v39) r (128 * h + d.val) = _
    rw [V39]
    refine (hQ_eq _ h0 _).trans ?_
    rw [show ((ix2 (Fin.ofNat 8192 r) (Fin.ofNat 2048 (128 * h + d.val)) : S8192x2048.Idx) 0).val = r from Nat.mod_eq_of_lt hr,
      show ((ix2 (Fin.ofNat 8192 r) (Fin.ofNat 2048 (128 * h + d.val)) : S8192x2048.Idx) 1).val = 128 * h + d.val from Nat.mod_eq_of_lt (by omega)]
    rfl
  g r hr d := by
    show at2 (V m c main_v42) r (128 * h + d.val) = _
    rw [V42]
    exact h3.at2 _ _
  lse r hr := by
    show at3 (V m c main_v29) h r = _
    rw [V29]
    refine (hLse_eq _ _ (arg m c main_arg2) (arg m c main_arg3) h0 h1 _).trans ?_
    rw [show ((ix3 (Fin.ofNat 16 h) (Fin.ofNat 8192 r) 0 : S16x8192x1.Idx) 0).val = h from Nat.mod_eq_of_lt hh,
      show ((ix3 (Fin.ofNat 16 h) (Fin.ofNat 8192 r) 0 : S16x8192x1.Idx) 1).val = r from Nat.mod_eq_of_lt hr]
  dl r hr := by
    show at3 (V m c main_v33) h r = _
    rw [V33]
    refine (hDel_eq _ _ _ _ h0 h1 h2 h3 _).trans ?_
    rw [show ((ix3 (Fin.ofNat 16 h) (Fin.ofNat 8192 r) 0 : S16x8192x1.Idx) 0).val = h from Nat.mod_eq_of_lt hh,
      show ((ix3 (Fin.ofNat 16 h) (Fin.ofNat 8192 r) 0 : S16x8192x1.Idx) 1).val = r from Nat.mod_eq_of_lt hr]
  k c' hc d := by
    show at2 (V m c main_v40) (1024 * j + c') (128 * h + d.val) = _
    rw [V40]
    exact h1.at2 _ _
  v c' hc d := by
    unfold hb headBlk
    dsimp only
    rw [V41]
    exact h2.at2 _ _

/-! ## The three results are the reference's -/

section
variable (h0 : Real2 (arg m c main_arg0)) (h1 : Real2 (arg m c main_arg1)) (h2 : Real2 (arg m c main_arg2)) (h3 : Real2 (arg m c main_arg3))
include h0 h1 h2 h3

/-- The gradient of the queries the launch leaves is the reference's. -/
theorem outQ_ref : outQ m c = Cert.ReferenceIdeal.Read.val_main_v71 (F := Ideal) (arg m c main_arg0) (arg m c main_arg1) (arg m c main_arg2) (arg m c main_arg3) := by
  funext x
  have a0 : (x 0).val < 8192 := (x 0).isLt
  have a1 : (x 1).val < 2048 := (x 1).isLt
  rw [v71_eq _ _ _ _ h0 h1 h2 h3]
  exact Head.dq_sum (hb m c ((x 1).val / 128)) (fun j hj => hb_is m c h0 h1 h2 h3 ((x 1).val / 128) (by omega) j hj) a0 _

/-- The gradient of the keys the launch leaves is the reference's. -/
theorem outK_ref : outK m c = Cert.ReferenceIdeal.Read.val_main_v70 (F := Ideal) (arg m c main_arg0) (arg m c main_arg1) (arg m c main_arg2) (arg m c main_arg3) := by
  funext x
  have a0 : (x 0).val < 8192 := (x 0).isLt
  have a1 : (x 1).val < 2048 := (x 1).isLt
  rw [v70_eq _ _ _ _ h0 h1 h2 h3]
  refine (Head.Is.dk (hb_is m c h0 h1 h2 h3 ((x 1).val / 128) (by omega) ((x 0).val / 1024) (by omega)) (by omega) (Nat.mod_lt _ (by omega)) _).trans ?_
  rw [Nat.div_add_mod]

/-- The gradient of the values the launch leaves is the reference's. -/
theorem outV_ref : outV m c = Cert.ReferenceIdeal.Read.val_main_v69 (F := Ideal) (arg m c main_arg0) (arg m c main_arg1) (arg m c main_arg3) := by
  funext x
  have a0 : (x 0).val < 8192 := (x 0).isLt
  have a1 : (x 1).val < 2048 := (x 1).isLt
  rw [v69_eq (arg m c main_arg0) (arg m c main_arg1) (arg m c main_arg2) (arg m c main_arg3) h0 h1 h3]
  refine (Head.Is.dv (hb_is m c h0 h1 h2 h3 ((x 1).val / 128) (by omega) ((x 0).val / 1024) (by omega)) (by omega) (Nat.mod_lt _ (by omega)) _).trans ?_
  rw [Nat.div_add_mod]
end

end Cert.KernelIdeal.AttnBwd
end
-- ==== Proof.Finite.lean ====
module

public import proofs.«01_k».proof.Defs
public import proofs.«01_k».proof.Proof.HostVal
public import proofs.«01_k».proof.Proof.Gen.KernelIdeal
public import Idealize.ShloMosaic.Lib.ReduceAll
public import Idealize.ShloMosaic.Lib.Pointwise

/-! What the precondition says: `finite` is all ones exactly where every element of the four arguments is a real number.
    This module draws that from the printed predicate. -/

@[expose] public section

noncomputable section

namespace Cert.Finite

open Idealize.ShloMosaic
open Cert.ReferenceIdeal.AttnBwd (Real2)

/-- The side conditions of the predicate's operations. -/
instance facts : Cert.Pre_finite.Facts where
  bcast_S_S8192x2048 := ⟨fun a => a.elim0, fun a => a.elim0⟩
  reducesTo_S8192x2048_S_d0_1 := by decide
  h_S_ := by decide

/-- A conjunction of two bits that is one has both of them one. -/
theorem and_one {a b : BitVec 1} (h : IntOp.andi a b = 1#1) : a = 1#1 ∧ b = 1#1 := IntOp.andi_eq_one.1 h

/-- An extended real whose absolute value is below infinity is a real number. -/
theorem real_of_lt {x : EReal} (h : max x (-x) < ⊤) : x = (x.toReal : EReal) := by
  refine (EReal.coe_toReal ?_ ?_).symm
  · rintro rfl; simp at h
  · rintro rfl; simp at h

/-- The scalar shape has one index. -/
instance : Subsingleton Cert.Pre_finite.S_.Idx := ⟨fun a b => funext fun i => i.elim0⟩

/-- One of the predicate's four conjuncts: that the absolute value of each element is below infinity makes the array
    an array of real numbers. -/
theorem real_of_conjunct (x : Cert.Pre_finite.S8192x2048.Idx → EReal) (j : Cert.Pre_finite.S_.Idx)
    (h : Host.reduce IntOp.andi
      (cmpf (F := Ideal) (φ := .f32) .olt (Host.absf (F := Ideal) (φ := .f32) x)
        (broadcastInDim Cert.Pre_finite.S8192x2048 ![] Cert.Pre_finite.Facts.bcast_S_S8192x2048 (constant (F := Ideal) Cert.Pre_finite.S_ .f32 0x7F800000#32)))
      (constantI Cert.Pre_finite.S_ 1 1#1) Cert.Pre_finite.Facts.reducesTo_S8192x2048_S_d0_1 Cert.Pre_finite.Facts.h_S_ j = 1#1) :
    Real2 x := fun i => by
  have e := Host.reduce_andi_all _ _ _ _ j h i
  have e' : Ideal.cmp .olt (max (x i) (-(x i))) (Ideal.ofBits .f32 0x7F800000#32) = 1#1 := e
  have t : Ideal.ofBits .f32 0x7F800000#32 = ⊤ := by simp [Ideal.ofBits, Ideal.ieee]
  rw [t, Ideal.cmp_olt] at e'
  refine real_of_lt ?_
  by_contra hn
  rw [decide_eq_false hn] at e'
  exact absurd e' (by decide)

/-- The precondition makes each of the four arguments, on every device, an array of real numbers. -/
theorem real_of_pre (x0 x1 x2 x3 : Cert.Pre_finite.S8192x2048.Idx → EReal)
    (h : Cert.Pre_finite.fn (F := Ideal) x0 x1 x2 x3 = fun _ => 1#1) : Real2 x0 ∧ Real2 x1 ∧ Real2 x2 ∧ Real2 x3 := by
  have j : Cert.Pre_finite.S_.Idx := fun i => i.elim0
  have e := congrFun h j
  unfold Cert.Pre_finite.fn Cert.Pre_finite.fn_part1 at e
  dsimp only at e
  obtain ⟨e, e3⟩ := and_one e
  obtain ⟨e, e2⟩ := and_one e
  obtain ⟨e0, e1⟩ := and_one e
  exact ⟨real_of_conjunct x0 j e0, real_of_conjunct x1 j e1, real_of_conjunct x2 j e2, real_of_conjunct x3 j e3⟩

end Cert.Finite

end
-- ==== Proof.Common.lean ====
module

public import Idealize.ShloMosaic.Lib.MatmulPlain
public import Idealize.ShloMosaic.Lib.ValueIdx
public import Idealize.ShloMosaic.Lib.Tactic
public import Idealize.ShloMosaic.Lib.Pipeline.ValueKit
public import Idealize.ShloMosaic.Lib.Quiescent

/-! Facts that several of the calls share, at extents that stay variables: the three kinds of product read entry by entry
    over the extended reals, and the normalization and modulation of rows. -/

@[expose] public section

noncomputable section

namespace Cert.Common

open Idealize.ShloMosaic

theorem zero_bits : Ideal.ofBits .f32 0x00000000#32 = 0 := by simp [Ideal.ofBits, Ideal.ieee]

theorem zeros2 : (![0, 0] : Fin 2 → Nat) = fun _ => 0 := funext fun a => by fin_cases a <;> rfl

/-- An index of two coordinates is made of its two coordinates. -/
theorem eta {M N : ℕ} (z : (⟨2, ![M, N]⟩ : Shape).Idx) : z = ix2 (z (0 : Fin 2) : Fin M) (z (1 : Fin 2) : Fin N) := funext fun a => by
  match a with
  | ⟨0, _⟩ => rfl
  | ⟨1, _⟩ => rfl

section
variable {M K N : ℕ} {φ₁ φ₂ : FTy}

/-- The product of rows with columns, from a zero accumulator. -/
theorem nn (x : FVec Ideal ⟨2, ![M, K]⟩ φ₁) (y : FVec Ideal ⟨2, ![K, N]⟩ φ₂) (p : Fin M) (q : Fin N) :
    (FloatOps.matmul (DotDims.plain M K N) none x y (constant (F := Ideal) ⟨2, ![M, N]⟩ .f32 0x00000000#32) (ix2 p q) : EReal)
      = ∑ k : Fin K, (x (ix2 p k) : EReal) * (y (ix2 k q) : EReal) := by
  refine (Ideal.matmul_plain_apply none x y _ p q).trans ?_
  show Ideal.ofBits .f32 0x00000000#32 + _ = _
  rw [zero_bits, zero_add]
  rfl

/-- The product of rows with rows, from a zero accumulator. -/
theorem nt (x : FVec Ideal ⟨2, ![M, K]⟩ φ₁) (y : FVec Ideal ⟨2, ![N, K]⟩ φ₂) (p : Fin M) (q : Fin N) :
    (FloatOps.matmul (DotDims.transposedRhs M K N) none x y (constant (F := Ideal) ⟨2, ![M, N]⟩ .f32 0x00000000#32) (ix2 p q) : EReal)
      = ∑ k : Fin K, (x (ix2 p k) : EReal) * (y (ix2 q k) : EReal) := by
  refine (Ideal.matmul_transposedRhs_apply none x y _ p q).trans ?_
  show Ideal.ofBits .f32 0x00000000#32 + _ = _
  rw [zero_bits, zero_add]
  rfl

/-- The product of columns with columns, from a zero accumulator. -/
theorem tn (wf : DotDims.WF ⟨2, ![K, M]⟩ ⟨2, ![K, N]⟩ ⟨2, ![M, N]⟩ [0] [0] [1] [1] [] []) (x : FVec Ideal ⟨2, ![K, M]⟩ φ₁) (y : FVec Ideal ⟨2, ![K, N]⟩ φ₂)
    (p : Fin M) (q : Fin N) :
    (FloatOps.matmul (⟨[0], [0], [1], [1], [], [], wf⟩ : DotDims ⟨2, ![K, M]⟩ ⟨2, ![K, N]⟩ ⟨2, ![M, N]⟩) none x y
        (constant (F := Ideal) ⟨2, ![M, N]⟩ .f32 0x00000000#32) (ix2 p q) : EReal)
      = ∑ k : Fin K, (x (ix2 k p) : EReal) * (y (ix2 k q) : EReal) := by
  let d : DotDims ⟨2, ![K, M]⟩ ⟨2, ![K, N]⟩ ⟨2, ![M, N]⟩ := ⟨[0], [0], [1], [1], [], [], wf⟩
  let e := (ValueIdx.contrEquiv1 d K rfl rfl).symm
  have he : ∀ k, (e k ⟨0, Nat.one_pos⟩).val = k.val := ValueIdx.contrEquiv1_symm_val d K rfl rfl
  refine (Ideal.matmul_constant_zero_apply (φ₁ := φ₁) (φ₂ := φ₂) d none x y (ix2 p q)).trans ((Equiv.sum_comp e _).symm.trans
    (Finset.sum_congr rfl fun k _ => congrArg₂ _ (congrArg x (funext fun a => Fin.ext ?_)) (congrArg y (funext fun a => Fin.ext ?_))))
  · match a with
    | ⟨0, _⟩ => exact (d.lhsIdx_val_of_single rfl _ _).trans (he k)
    | ⟨1, _⟩ => rfl
  · match a with
    | ⟨0, _⟩ => exact (d.rhsIdx_val_of_single rfl _ _).trans (he k)
    | ⟨1, _⟩ => rfl

end

/-- Two indices of a matrix are one when their rows and their columns are. -/
theorem ext2 {M N : ℕ} {z w : (⟨2, ![M, N]⟩ : Shape).Idx} (h0 : (z 0).val = (w 0).val) (h1 : (z 1).val = (w 1).val) : z = w :=
  funext fun a => Fin.ext (by match a with | ⟨0, _⟩ => exact h0 | ⟨1, _⟩ => exact h1)

/-- An index of a piece in row `p`, when the piece starts at row 0. -/
theorem inRow {M N : ℕ} (x : (⟨2, ![M, N]⟩ : Shape).Idx) (p : Fin M) (h : p.val = 0 + (x 0).val) : x = ix2 p (x 1 : Fin N) :=
  ext2 (by show (x 0).val = p.val; omega) rfl

/-- A load of a whole array is the array. -/
theorem ld0 {M N : ℕ} {e : EltTy} (x : Vec Ideal ⟨2, ![M, N]⟩ e) (inb) :
    View.ld x (Rect.unit (s := ⟨2, ![M, N]⟩) ![0, 0] ![M, N] inb) = x :=
  View.ld_unit_zero (S := ⟨2, ![M, N]⟩) zeros2 inb x

/-- What is added to at each point of runs of four points, and starts anew at each run's first, holds at point `n` the
    partial sum `Q` of its run up to the end of the point's block of `b` rows. -/
theorem running {N : ℕ} (b : ℕ) (Q : ℕ → ℕ → EReal) (f : ∀ n, n < N → EReal)
    (first : ∀ t : Fin N, t.val % 4 = 0 → f t.val t.isLt = Q (t.val / 4) (b * (t.val % 4) + b))
    (next : ∀ (n : ℕ) (hn : n + 1 < N), ¬(n + 1) % 4 = 0 → f n (Nat.lt_of_succ_lt hn) = Q ((n + 1) / 4) (b * ((n + 1) % 4)) →
      f (n + 1) hn = Q ((n + 1) / 4) (b * ((n + 1) % 4) + b)) :
    ∀ (n : ℕ) (hn : n < N), f n hn = Q (n / 4) (b * (n % 4) + b) := by
  intro n
  induction n with
  | zero => exact fun hn => first ⟨0, hn⟩ rfl
  | succ n ih =>
    intro hn
    by_cases h0 : (n + 1) % 4 = 0
    · exact first ⟨n + 1, hn⟩ h0
    · refine next n hn h0 ((ih _).trans ?_)
      rw [show (n + 1) / 4 = n / 4 by omega, show (n + 1) % 4 = n % 4 + 1 by omega, Nat.mul_succ]

/-- An entry of a piece of a matrix. -/
theorem cut {e : EltTy} {M N o₀ o₁ m n : ℕ} (x : Vec Ideal ⟨2, ![M, N]⟩ e) (inb : ∀ a, (![o₀, o₁] : Fin 2 → ℕ) a + (![m, n] : Fin 2 → ℕ) a ≤ (![M, N] : Fin 2 → ℕ) a)
    (p : Fin m) (q : Fin n) (i : Fin M) (j : Fin N) (hi : i.val = o₀ + p.val) (hj : j.val = o₁ + q.val) :
    View.ld x (Rect.unit (s := ⟨2, ![M, N]⟩) ![o₀, o₁] ![m, n] inb) (ix2 p q) = x (ix2 i j) :=
  View.ld_unit_apply_of x ![o₀, o₁] ![m, n] inb (ix2 p q) (ix2 i j) fun a => by match a with | ⟨0, _⟩ => exact hi | ⟨1, _⟩ => exact hj

section
variable {M N : ℕ}

/-- One row repeated. -/
theorem row {α : Type} (v : (⟨2, ![1, N]⟩ : Shape).Idx → α) (h : (⟨2, ![1, N]⟩ : Shape).Broadcasts ⟨2, ![M, N]⟩) (p : Fin M) (q : Fin N) :
    broadcastTo ⟨2, ![M, N]⟩ v h (ix2 p q) = v (ix2 (0 : Fin 1) q) :=
  broadcastTo_apply v h (ix2 p q) (ix2 (0 : Fin 1) q) fun a => match a with
    | ⟨0, _⟩ => rfl
    | ⟨1, _⟩ => by show q.val = if N = 1 then 0 else q.val; split <;> omega

/-- One column repeated. -/
theorem col {α : Type} (v : (⟨2, ![M, 1]⟩ : Shape).Idx → α) (h : (⟨2, ![M, 1]⟩ : Shape).Broadcasts ⟨2, ![M, N]⟩) (p : Fin M) (q : Fin N) :
    broadcastTo ⟨2, ![M, N]⟩ v h (ix2 p q) = v (ix2 p (0 : Fin 1)) :=
  broadcastTo_apply v h (ix2 p q) (ix2 p (0 : Fin 1)) fun a => match a with
    | ⟨0, _⟩ => by show p.val = if M = 1 then 0 else p.val; split <;> omega
    | ⟨1, _⟩ => rfl

/-- The sums along the rows, as one column. -/
theorem rowSum (v : FVec Ideal ⟨2, ![M, N]⟩ .f32) (h : (⟨2, ![M, N]⟩ : Shape).Reduces [1] ⟨1, ![M]⟩) (hs : (⟨1, ![M]⟩ : Shape).ShapeCasts ⟨2, ![M, 1]⟩) (p : Fin M) :
    (shapeCast ⟨2, ![M, 1]⟩ (multiReduction (F := Ideal) (φ := .f32) .add [1] ⟨1, ![M]⟩ v 0x00000000#32 h (.inl rfl) rfl) hs (ix2 p (0 : Fin 1)) : EReal)
      = ∑ j : Fin N, (v (ix2 p j) : EReal) := by
  refine (shapeCast_apply _ hs (ix2 p (0 : Fin 1)) (ix1 p) ?_).trans ?_
  · rw [Shape.rowMajor_val_one, Shape.rowMajor_val_two]
    show p.val = p.val * 1 + 0
    omega
  refine (Ideal.multiReduction_add_single _ _ h (.inl rfl) rfl (ix1 p)).trans (Finset.sum_congr rfl fun j _ => ?_)
  have hl : h.lift (ix1 p) j = ix2 p j := funext fun a => by
    match a with
    | ⟨0, _⟩ => rfl
    | ⟨1, _⟩ => rfl
  exact congrArg _ hl

/-- A vector taken as a one-row array. -/
theorem castRow {α : Type} (v : (⟨1, ![N]⟩ : Shape).Idx → α) (h : (⟨1, ![N]⟩ : Shape).ShapeCasts ⟨2, ![1, N]⟩) (q : Fin N) :
    shapeCast ⟨2, ![1, N]⟩ v h (ix2 (0 : Fin 1) q) = v (ix1 q) := by
  refine shapeCast_apply v h (ix2 (0 : Fin 1) q) (ix1 q) ?_
  rw [Shape.rowMajor_val_one, Shape.rowMajor_val_two]
  show q.val = 0 * N + q.val
  omega

end

end Cert.Common

end
-- ==== Proof.Wgrad.lean ====
module

public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Common

/-! The call that makes the gradient of one half of a feed-forward layer's first weight. Its grid visits, for each block of columns of `x`, the four blocks of rows; it adds each
    block's product to an accumulator and writes the accumulator out after the fourth. Over the extended reals the
    accumulator is a partial sum over the rows, so the result is the whole sum, which is the reference's. -/

@[expose] public section

set_option maxRecDepth 16384

noncomputable section

namespace Cert.Kernel2Ideal.Wgrad

open Idealize.ShloMosaic Idealize.ShloMosaic.TcCoe Idealize.ShloMosaic.Tactic Idealize.SL.Sem
open Idealize.ShloMosaic.Pipeline (Dat)
open Cert.Kernel2Ideal Cert.Kernel2Ideal.Gen

open Cert.Common (zeros2)

/-! ## What one point of the grid leaves -/

section
variable (c : Dev nD) (i : grid0.Coords) (a3 : Memref sig .tc .vmem S2048x512 .bf16) (h3 : a3.IsWhole)
  (a4 : Memref sig .tc .vmem S2048x2816 .bf16) (h4 : a4.IsWhole) (a5 : Memref sig .tc .vmem S512x2816 .bf16) (h5 : a5.IsWhole)
  (a6 : Memref sig .tc .vmem S512x2816 .f32) (h6 : a6.IsWhole)
  (x : Vec Ideal S2048x512 .bf16) (y : Vec Ideal S2048x2816 .bf16) (s : Vec Ideal S512x2816 .f32)

/-- The first block of rows leaves in the accumulator zero plus the block's product. -/
theorem acc_first (hc : cond0_0 i) (hd : ¬cond0_1 i) :
    sout0_A_0 c i a3 h3 a4 h4 a5 h5 a6 h6 hc hd x y = k0_pay2 (k0_pay1 (F := Ideal)) x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S512x2816) zeros2, View.readCov_unit_zero (S := S512x2816) _ zeros2]
  simp only [View.readAt_eq_ld, h3.read_unread, h4.read_unread, Common.ld0]

/-- A middle block of rows adds its product to the accumulator. -/
theorem acc_next (hc : ¬cond0_0 i) (hd : ¬cond0_1 i) :
    sout0_B_0 c i a3 h3 a4 h4 a5 h5 a6 h6 hc hd x y s = k0_pay2 s x y := by
  unfold sout0_B_0
  rw [View.read_writes_eq_canon _ _ _ (scover0_B_0 c i a3 h3 a4 h4 a5 h5 a6 h6 hc hd x y s)]
  unfold kernelRun0_B
  dsimp only
  rw [View.canon_unit_zero zeros2]
  simp only [View.readAt_eq_ld, h3.read_unread, h4.read_unread, h6.read_unread, Common.ld0]

/-- The last block of rows adds its product to the accumulator too. -/
theorem acc_last (hc : ¬cond0_0 i) (hd : cond0_1 i) :
    sout0_C_0 c i a3 h3 a4 h4 a5 h5 a6 h6 hc hd x y s = k0_pay2 s x y := by
  unfold sout0_C_0
  rw [View.read_writes_eq_canon _ _ _ (scover0_C_0 c i a3 h3 a4 h4 a5 h5 a6 h6 hc hd x y s)]
  unfold kernelRun0_C
  dsimp only
  sl_unfold_words
  rw [View.canon_unit_zero zeros2]
  simp only [View.readAt_eq_ld, h3.read_unread, h4.read_unread, h6.read_unread, Common.ld0]

/-- The last block of rows writes the accumulator it leaves to the output block. -/
theorem out_last (hc : ¬cond0_0 i) (hd : cond0_1 i) :
    out0_C_2 c i a3 h3 a4 h4 a5 h5 a6 h6 hc hd x y s = k0_pay3 (k0_pay2 s x y) := by
  unfold out0_C_2
  rw [View.read_writes_eq_canon _ _ _ (cover0_C_2 c i a3 h3 a4 h4 a5 h5 a6 h6 hc hd x y s)]
  unfold kernelRun0_C
  dsimp only
  sl_unfold_words
  rw [View.canon_unit_zero zeros2, View.readCov_unit_zero (S := S512x2816) _ zeros2]
  simp only [View.readAt_eq_ld, h3.read_unread, h4.read_unread, h6.read_unread, Common.ld0]

/-- The zero block, entry by entry. -/
theorem pay1_apply (p : Fin 512) (q : Fin 2816) : (k0_pay1 (F := Ideal) (ix2 p q) : EReal) = 0 := by
  unfold k0_pay1
  simp only [shapeCast_self]
  exact Common.zero_bits

/-- An accumulator with a block's product added, entry by entry. -/
theorem pay2_apply (p : Fin 512) (q : Fin 2816) :
    (k0_pay2 s x y (ix2 p q) : EReal) = (s (ix2 p q) : EReal) + ∑ r : Fin 2048, (x (ix2 r p) : EReal) * (y (ix2 r q) : EReal) := by
  unfold k0_pay2
  simp only [shapeCast_self]
  show (s (ix2 p q) : EReal) + _ = _
  refine congrArg ((s (ix2 p q) : EReal) + ·) ?_
  exact Common.tn _ x y p q

end

/-! ## The accumulator after each point -/

variable (m : (ℓ : Loc nD τ sig) → Buf (Elt Ideal) ℓ)

/-- The entry of `x` at row `r` and column `k`, counted by naturals. -/
def xAt (c : Dev nD) (r k : ℕ) : EReal :=
  (m (c.tc.loc main_arg0) : S8192x1024.Idx → EReal) (ix2 (Fin.ofNat 8192 r) (Fin.ofNat 1024 k))

/-- The entry of the incoming gradient at row `r` and column `k`, counted by naturals. -/
def yAt (c : Dev nD) (r k : ℕ) : EReal :=
  (m (c.tc.loc main_arg1) : S8192x2816.Idx → EReal) (ix2 (Fin.ofNat 8192 r) (Fin.ofNat 2816 k))

theorem V_x (c : Dev nD) : (V m c main_v0 : S8192x1024.Idx → EReal) = m (c.tc.loc main_arg0) := by
  simp only [V, V0, hostOps0, List.flatten_singleton]
  after_results_simp <;> rfl

theorem V_y (c : Dev nD) : (V m c main_v1 : S8192x2816.Idx → EReal) = m (c.tc.loc main_arg1) := by
  simp only [V, V0, hostOps0, List.flatten_singleton]
  after_results_simp <;> rfl

theorem index0 : ∀ t : Fin cfg0.N, win0_0.index t (0 : Fin 2) = t.val % 4 ∧ win0_0.index t (1 : Fin 2) = t.val / 4 := by decide +kernel
theorem index1 : ∀ t : Fin cfg0.N, win0_1.index t (0 : Fin 2) = t.val % 4 ∧ win0_1.index t (1 : Fin 2) = 0 := by decide +kernel
theorem index2 : ∀ t : Fin cfg0.N, win0_2.index t (0 : Fin 2) = t.val / 4 ∧ win0_2.index t (1 : Fin 2) = 0 := by decide +kernel

theorem iblk_x (c : Dev nD) (t : Fin cfg0.N) (r : Fin 2048) (p : Fin 512) :
    (iblk m c 0 t (ix2 r p) : EReal) = xAt m c (2048 * (t.val % 4) + r.val) (512 * (t.val / 4) + p.val) := by
  obtain ⟨e0, e1⟩ := index0 t
  have hN : t.val < 8 := lt_of_lt_of_eq t.isLt N_0
  have hr := r.isLt
  have hp := p.isLt
  show (V m c main_v0 : S8192x1024.Idx → EReal) (((cfg0.win 0).blk t).view.emb (ix2 r p)) = _
  rw [V_x]
  unfold xAt
  exact congrArg _ (Common.ext2 (by show win0_0.index t (0 : Fin 2) * 2048 + 1 * r.val = (2048 * (t.val % 4) + r.val) % 8192; omega)
    (by show win0_0.index t (1 : Fin 2) * 512 + 1 * p.val = (512 * (t.val / 4) + p.val) % 1024; omega))

theorem iblk_y (c : Dev nD) (t : Fin cfg0.N) (r : Fin 2048) (q : Fin 2816) :
    (iblk m c 1 t (ix2 r q) : EReal) = yAt m c (2048 * (t.val % 4) + r.val) (2816 * (0) + q.val) := by
  obtain ⟨e0, e1⟩ := index1 t
  have hN : t.val < 8 := lt_of_lt_of_eq t.isLt N_0
  have hr := r.isLt
  have hq := q.isLt
  show (V m c main_v1 : S8192x2816.Idx → EReal) (((cfg0.win 1).blk t).view.emb (ix2 r q)) = _
  rw [V_y]
  unfold yAt
  exact congrArg _ (Common.ext2 (by show win0_1.index t (0 : Fin 2) * 2048 + 1 * r.val = (2048 * (t.val % 4) + r.val) % 8192; omega)
    (by show win0_1.index t (1 : Fin 2) * 2816 + 1 * q.val = (2816 * (0) + q.val) % 2816; omega))

/-- The sum over the first `n` rows for column `i` of `x` and column `j` of the incoming gradient. -/
def part (c : Dev nD) (n i j : ℕ) : EReal := ∑ r ∈ Finset.range n, xAt m c r i * yAt m c r j

/-- Adding a block's product to the sum over the rows before it gives the sum over the rows up to its end. -/
theorem pay2_part (c : Dev nD) (t : Fin cfg0.N) (s : Vec Ideal S512x2816 .f32) (p : Fin 512) (q : Fin 2816)
    (hs : (s (ix2 p q) : EReal) = part m c (2048 * (t.val % 4)) (512 * (t.val / 4) + p.val) (2816 * (0) + q.val)) :
    (k0_pay2 s (iblk m c 0 t) (iblk m c 1 t) (ix2 p q) : EReal)
      = part m c (2048 * (t.val % 4) + 2048) (512 * (t.val / 4) + p.val) (2816 * (0) + q.val) := by
  refine (pay2_apply _ _ _ p q).trans ?_
  rw [hs]
  unfold part
  rw [Finset.sum_range_add, Finset.sum_range (n := 2048)]
  refine congrArg _ (Finset.sum_congr rfl fun r _ => ?_)
  rw [← iblk_x, ← iblk_y]

/-- The accumulator after the first block of rows of a block of columns. -/
theorem acc_A (c : Dev nD) (t : Fin cfg0.N) (h0 : t.val % 4 = 0) :
    (outsAt0 m c t.val t.isLt).2 = k0_pay2 (k0_pay1 (F := Ideal)) (iblk m c 0 t) (iblk m c 1 t) := by
  rw [outsAt0_A m c t h0 (by omega)]
  dsimp only
  rw [acc_first]

/-- The accumulator after a later block of rows. -/
theorem acc_BC (c : Dev nD) (t : Fin cfg0.N) (h0 : ¬t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    rw [acc_last]
  · rw [outsAt0_B m c t h0 h1]
    dsimp only
    rw [acc_next]

/-- The output block after the last block of rows. -/
theorem out_C (c : Dev nD) (t : Fin cfg0.N) (h1 : t.val % 4 = 3) :
    (outsAt0 m c t.val t.isLt).1 = k0_pay3 (outsAt0 m c t.val t.isLt).2 := by
  have h0 : ¬t.val % 4 = 0 := by omega
  rw [acc_BC m c t h0, outsAt0_C m c t h0 h1]
  dsimp only
  rw [out_last]

/-- After point `n` the accumulator holds the sum over the rows up to the end of the point's block. -/
theorem acc_eq (c : Dev nD) (p : Fin 512) (q : Fin 2816) : ∀ (n : ℕ) (hn : n < cfg0.N),
    ((outsAt0 m c n hn).2 (ix2 p q) : EReal)
      = part m c (2048 * (n % 4) + 2048) (512 * (n / 4) + p.val) (2816 * (0) + q.val) :=
  Common.running 2048 (fun g r => part m c r (512 * g + p.val) (2816 * (0) + q.val)) _ (fun t h0 => by
    rw [acc_A m c t h0]
    refine pay2_part m c t _ p q ?_
    rw [pay1_apply, h0]
    exact (Finset.sum_range_zero _).symm)
    fun n hn h0 ih => (congrFun (acc_BC m c ⟨n + 1, hn⟩ h0) (ix2 p q)).trans (pay2_part m c ⟨n + 1, hn⟩ _ p q ih)

/-- At a block's last point the output block holds the sum over all rows. -/
theorem out_eq (c : Dev nD) (t : Fin cfg0.N) (h1 : t.val % 4 = 3) (p : Fin 512) (q : Fin 2816) :
    ((outsAt0 m c t.val t.isLt).1 (ix2 p q) : EReal) = part m c 8192 (512 * (t.val / 4) + p.val) (2816 * (0) + q.val) := by
  rw [out_C m c t h1]
  refine (acc_eq m c p q t.val t.isLt).trans ?_
  rw [h1]

/-! ## The result -/

/-- The gradient of the weight: entry `(i, j)` is the sum over the rows of `x` at `i` times the incoming gradient at `j`. -/
def grad (c : Dev nD) : S1024x2816.Idx → EReal := fun z => part m c 8192 (z 0).val (z 1).val

theorem final (c : Dev nD) : (dats m 0 c).arrAt 2 cfg0.N = grad m c := by
  refine (dats m 0 c).arrAt_eq_of_covers 2 _ (by decide +kernel) fun t hf y => ?_
  have h3 : t.val % 4 = 3 := (flush0_2 t).mp hf
  obtain ⟨e0, e1⟩ := index2 t
  rw [after0_2]
  have hx0 : ((((cfg0.win 2).blk t).view.emb y) (0 : Fin 2)).val = 512 * (t.val / 4) + (y (0 : Fin 2)).val := by
    show win0_2.index t (0 : Fin 2) * 512 + 1 * (y (0 : Fin 2)).val = _; omega
  have hx1 : ((((cfg0.win 2).blk t).view.emb y) (1 : Fin 2)).val = 2816 * (0) + (y (1 : Fin 2)).val := by
    show win0_2.index t (1 : Fin 2) * 2816 + 1 * (y (1 : Fin 2)).val = _; omega
  show ((outsAt0 m c t.val t.isLt).1 y : EReal) = grad m c (((cfg0.win 2).blk t).view.emb y)
  unfold grad
  rw [hx0, hx1, ← out_eq m c t h3 (y (0 : Fin 2)) (y (1 : Fin 2))]
  exact congrArg _ (Common.eta (M := 512) (N := 2816) y)

/-- The result's change of format after the call is the identity over the extended reals. -/
theorem tail_eq (c : Dev nD) : Pipeline.afterTail₀ cfgs (dats m) 0 (V0 m) [hostOps1] c main_v3 = grad m c := by
  unfold Pipeline.afterTail₀
  simp only [hostOps1, List.flatten_singleton]
  after_results_simp
  exact (Pipeline.withArrays_arr spec0 (by decide) c (V0 m c) (fun w => (dats m 0 c).arrAt w cfg0.N) 2).trans (final m c)

/-! ## The reference -/

theorem ref_eq (c : Dev nD) : (Cert.Reference2Ideal.Read.val_main_v3 (F := Ideal) (m (c.tc.loc main_arg0))
    (m (c.tc.loc main_arg1)) : S1024x2816.Idx → EReal) = grad m c := by
  funext z
  rw [Cert.Reference2Ideal.Read.val_main_v3_apply, Cert.Reference2Ideal.Read.val_main_v2_apply]
  unfold grad part
  rw [Finset.sum_range]
  refine Finset.sum_congr rfl fun r _ => (mul_comm _ _).trans ?_
  unfold xAt yAt
  exact congrArg₂ _ (congrArg _ (Common.ext2 (Nat.mod_eq_of_lt r.isLt).symm (Nat.mod_eq_of_lt (z (0 : Fin 2)).isLt).symm))
    (congrArg _ (Common.ext2 (Nat.mod_eq_of_lt r.isLt).symm (Nat.mod_eq_of_lt (z (1 : Fin 2)).isLt).symm))

end Cert.Kernel2Ideal.Wgrad

end
-- ==== Proof.WgradGated.lean ====
module

public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Math
public import proofs.«01_k».proof.Proof.Common

/-! The call that makes the gradients of a feed-forward layer's second weight and of its gate. Its grid visits, for each block of columns of `x`, the four blocks of rows; it adds each
    block's product to an accumulator. After the fourth it writes the accumulator times a gate's row to one output, and
    the accumulator times the weight's block, summed down the block's rows, to the other. Over the extended reals the
    accumulator is a partial sum over the rows. Where every argument is an array of real numbers, the two results are
    the reference's gradients of the weight and of the gate. -/

@[expose] public section

set_option maxRecDepth 16384

noncomputable section

namespace Cert.Kernel3Ideal.Wgrad

open Idealize.ShloMosaic Idealize.ShloMosaic.TcCoe Idealize.ShloMosaic.Tactic Idealize.SL.Sem
open Idealize.ShloMosaic.Pipeline (Dat)
open Cert.Kernel3Ideal Cert.Kernel3Ideal.Gen

open Cert.Common (zeros2)
theorem zeros3 : (![0, 0, 0] : Fin 3 → Nat) = fun _ => 0 := funext fun a => by fin_cases a <;> rfl

/-! ## What one point of the grid leaves -/

/-- The first row of the eight-row array that carries the gate. -/
def row (u : Vec Ideal S8x1024 .f32) : Vec Ideal S1x1024 .f32 :=
  View.ld u (Rect.unit (s := S8x1024) ![0, 0] S1x1024.size inb_S8x1024_S1x1024_0_0)

section
variable (c : Dev nD) (i : grid0.Coords) (a3 : Memref sig .tc .vmem S2048x1408 .bf16) (h3 : a3.IsWhole)
  (a4 : Memref sig .tc .vmem S2048x1024 .bf16) (h4 : a4.IsWhole) (a5 : Memref sig .tc .vmem S1408x1024 .bf16) (h5 : a5.IsWhole)
  (a6 : Memref sig .tc .vmem S8x1024 .f32) (h6 : a6.IsWhole) (a7 : Memref sig .tc .vmem S1408x1024 .bf16) (h7 : a7.IsWhole)
  (a8 : Memref sig .tc .vmem S1x8x1024 .f32) (h8 : a8.IsWhole) (a9 : Memref sig .tc .vmem S1408x1024 .f32) (h9 : a9.IsWhole)
  (x : Vec Ideal S2048x1408 .bf16) (y : Vec Ideal S2048x1024 .bf16) (w : Vec Ideal S1408x1024 .bf16) (u : Vec Ideal S8x1024 .f32)
  (s : Vec Ideal S1408x1024 .f32)

/-- The first block of rows leaves in the accumulator zero plus the block's product. -/
theorem acc_first (hc : cond0_0 i) (hd : ¬cond0_1 i) :
    sout0_A_0 c i a3 h3 a4 h4 a5 h5 a6 h6 a7 h7 a8 h8 a9 h9 hc hd x y w u = k0_pay2 (k0_pay1 (F := Ideal)) x y := by
  unfold sout0_A_0
  rw [View.read_writes_eq_canon _ _ _ (scover0_A_0 c i a3 h3 a4 h4 a5 h5 a6 h6 a7 h7 a8 h8 a9 h9 hc hd x y w u)]
  unfold kernelRun0_A
  dsimp only
  sl_unfold_words
  rw [View.canon_cons_unit_zero (S := S1408x1024) zeros2, View.readCov_unit_zero (S := S1408x1024) _ zeros2]
  simp only [View.readAt_eq_ld, h3.read_unread, h4.read_unread, Common.ld0]

/-- A middle block of rows adds its product to the accumulator. -/
theorem acc_next (hc : ¬cond0_0 i) (hd : ¬cond0_1 i) :
    sout0_B_0 c i a3 h3 a4 h4 a5 h5 a6 h6 a7 h7 a8 h8 a9 h9 hc hd x y w u s = k0_pay2 s x y := by
  unfold sout0_B_0
  rw [View.read_writes_eq_canon _ _ _ (scover0_B_0 c i a3 h3 a4 h4 a5 h5 a6 h6 a7 h7 a8 h8 a9 h9 hc hd x y w u s)]
  unfold kernelRun0_B
  dsimp only
  sl_unfold_words
  rw [View.canon_unit_zero zeros2]
  simp only [View.readAt_eq_ld, h3.read_unread, h4.read_unread, h9.read_unread, Common.ld0]

/-- The last block of rows adds its product to the accumulator too. -/
theorem acc_last (hc : ¬cond0_0 i) (hd : cond0_1 i) :
    sout0_C_0 c i a3 h3 a4 h4 a5 h5 a6 h6 a7 h7 a8 h8 a9 h9 hc hd x y w u s = k0_pay2 s x y := by
  unfold sout0_C_0
  rw [View.read_writes_eq_canon _ _ _ (scover0_C_0 c i a3 h3 a4 h4 a5 h5 a6 h6 a7 h7 a8 h8 a9 h9 hc hd x y w u s)]
  unfold kernelRun0_C
  dsimp only
  sl_unfold_words
  rw [View.canon_unit_zero zeros2]
  simp only [View.readAt_eq_ld, h3.read_unread, h4.read_unread, h9.read_unread, Common.ld0]

/-- The last block of rows writes the accumulator it leaves, times the gate's row, to the weight's output block. -/
theorem out_weight (hc : ¬cond0_0 i) (hd : cond0_1 i) :
    out0_C_4 c i a3 h3 a4 h4 a5 h5 a6 h6 a7 h7 a8 h8 a9 h9 hc hd x y w u s = k0_pay3 (k0_pay2 s x y) (row u) := by
  unfold out0_C_4
  rw [View.read_writes_eq_canon _ _ _ (cover0_C_4 c i a3 h3 a4 h4 a5 h5 a6 h6 a7 h7 a8 h8 a9 h9 hc hd x y w u s)]
  unfold kernelRun0_C
  dsimp only
  sl_unfold_words
  rw [View.canon_unit_zero zeros2, View.readCov_unit_zero (S := S1408x1024) _ zeros2]
  simp only [View.readAt_eq_ld, h3.read_unread, h4.read_unread, h6.read_unread, h9.read_unread, Common.ld0]
  rfl

/-- The last block of rows writes the accumulator it leaves, times the weight's block and summed down its rows, to the
    gate's output block. -/
theorem out_gate (hc : ¬cond0_0 i) (hd : cond0_1 i) :
    out0_C_5 c i a3 h3 a4 h4 a5 h5 a6 h6 a7 h7 a8 h8 a9 h9 hc hd x y w u s = k0_pay4 (k0_pay2 s x y) w := by
  unfold out0_C_5
  rw [View.read_writes_eq_canon _ _ _ (cover0_C_5 c i a3 h3 a4 h4 a5 h5 a6 h6 a7 h7 a8 h8 a9 h9 hc hd x y w u s)]
  unfold kernelRun0_C
  dsimp only
  sl_unfold_words
  rw [View.canon_unit_zero zeros3, View.readCov_unit_zero (S := S1408x1024) _ zeros2]
  simp only [View.readAt_eq_ld, h3.read_unread, h4.read_unread, h5.read_unread, h9.read_unread, Common.ld0]

/-- The zero block, entry by entry. -/
theorem pay1_apply (p : Fin 1408) (q : Fin 1024) : (k0_pay1 (F := Ideal) (ix2 p q) : EReal) = 0 := by
  unfold k0_pay1
  simp only [shapeCast_self]
  exact Common.zero_bits

/-- An accumulator with a block's product added, entry by entry. -/
theorem pay2_apply (p : Fin 1408) (q : Fin 1024) :
    (k0_pay2 s x y (ix2 p q) : EReal) = (s (ix2 p q) : EReal) + ∑ r : Fin 2048, (x (ix2 r p) : EReal) * (y (ix2 r q) : EReal) := by
  unfold k0_pay2
  simp only [shapeCast_self]
  show (s (ix2 p q) : EReal) + _ = _
  refine congrArg ((s (ix2 p q) : EReal) + ·) ?_
  exact Common.tn _ x y p q

/-- An accumulator times the gate's row, entry by entry. -/
theorem pay3_apply (p : Fin 1408) (q : Fin 1024) :
    (k0_pay3 s (row u) (ix2 p q) : EReal) = (s (ix2 p q) : EReal) * (u (ix2 (0 : Fin 8) q) : EReal) := by
  unfold k0_pay3
  simp only [shapeCast_self]
  show (s (ix2 p q) : EReal) * (broadcastTo S1408x1024 (row u) broadcasts_S1x1024_S1408x1024 (ix2 p q) : EReal) = _
  refine congrArg ((s (ix2 p q) : EReal) * ·) ?_
  exact (Common.row (row u) _ p q).trans (Common.cut u _ 0 q 0 q rfl (Nat.zero_add _).symm)

/-- An accumulator times the weight's block, summed down the rows; every one of the eight rows holds the same sum. -/
theorem pay4_apply (e : Fin 8) (q : Fin 1024) :
    (k0_pay4 s w (ix3 (0 : Fin 1) e q) : EReal) = ∑ p : Fin 1408, (s (ix2 p q) : EReal) * (w (ix2 p q) : EReal) := by
  unfold k0_pay4
  simp only [shapeCast_self]
  refine (shapeCast_apply _ shapeCasts_S8x1024_S1x8x1024 (ix3 (0 : Fin 1) e q) (ix2 e q) ?_).trans ?_
  · rw [Shape.rowMajor_val_two, Shape.rowMajor_val_three]
    show e.val * 1024 + q.val = (0 * 8 + e.val) * 1024 + q.val
    omega
  refine (Common.row _ _ e q).trans ((Common.castRow _ _ q).trans ?_)
  refine (Ideal.multiReduction_add_single _ _ reduces_S1408x1024_S1024 (.inl rfl) rfl (ix1 q)).trans (Finset.sum_congr rfl fun p _ => ?_)
  have hl : reduces_S1408x1024_S1024.lift (ix1 q) p = ix2 p q := Common.ext2 rfl rfl
  exact (congrArg _ hl).trans rfl

end

/-! ## The accumulator after each point -/

variable (m : (ℓ : Loc nD τ sig) → Buf (Elt Ideal) ℓ)

/-- The entry of `x` at row `r` and column `k`, counted by naturals. -/
def xAt (c : Dev nD) (r k : ℕ) : EReal :=
  (m (c.tc.loc main_arg0) : S8192x2816.Idx → EReal) (ix2 (Fin.ofNat 8192 r) (Fin.ofNat 2816 k))

/-- The entry of the incoming gradient at row `r` and column `k`, counted by naturals. -/
def yAt (c : Dev nD) (r k : ℕ) : EReal :=
  (m (c.tc.loc main_arg1) : S8192x1024.Idx → EReal) (ix2 (Fin.ofNat 8192 r) (Fin.ofNat 1024 k))

/-- The entry of the weight at row `r` and column `k`, counted by naturals. -/
def wAt (c : Dev nD) (r k : ℕ) : EReal :=
  (m (c.tc.loc main_arg2) : S2816x1024.Idx → EReal) (ix2 (Fin.ofNat 2816 r) (Fin.ofNat 1024 k))

/-- The gate's entry `k`, counted by naturals. -/
def gAt (c : Dev nD) (k : ℕ) : EReal :=
  (m (c.tc.loc main_arg3) : S1024.Idx → EReal) (ix1 (Fin.ofNat 1024 k))

/-- The number one half, as the programs write it. -/
def half : EReal := Ideal.ofBits .f32 0x3F000000#32

theorem half_eq : half = ((1 / 2 : ℝ) : EReal) := by
  unfold half
  simp [Ideal.ofBits, Ideal.ieee]
  try rw [← EReal.coe_mul]
  try norm_num

theorem V_x (c : Dev nD) : (V m c main_v0 : S8192x2816.Idx → EReal) = m (c.tc.loc main_arg0) := by
  simp only [V, V0, hostOps0, List.flatten_singleton]
  after_results_simp <;> rfl

theorem V_y (c : Dev nD) : (V m c main_v1 : S8192x1024.Idx → EReal) = m (c.tc.loc main_arg1) := by
  simp only [V, V0, hostOps0, List.flatten_singleton]
  after_results_simp <;> rfl

theorem V_w (c : Dev nD) : (V m c main_v2 : S2816x1024.Idx → EReal) = m (c.tc.loc main_arg2) := by
  simp only [V, V0, hostOps0, List.flatten_singleton]
  after_results_simp <;> rfl

theorem V_u (c : Dev nD) : (V m c main_v7 : S8x1024.Idx → EReal) = concatenate S8x1024 0
    [⟨S1x1024, shapeCast S1x1024 (mulf (F := Ideal) (φ := .f32) (broadcastInDim S1024 ![] bcast_S_S1024 (constant (F := Ideal) S_ .f32 0x3F000000#32))
        (m (c.tc.loc main_arg3))) shapeCasts_S1024_S1x1024⟩,
      ⟨S7x1024, broadcastInDim S7x1024 ![] bcast_S_S7x1024 (constant (F := Ideal) S_ .f32 0x00000000#32)⟩]
    concatenates_S1x1024_S7x1024_S8x1024_d0 := by
  simp only [V, V0, hostOps0, List.flatten_singleton]
  after_results_simp <;> rfl

/-- The first row of the array that carries the gate is half the gate. -/
theorem V_u_row (c : Dev nD) (q : Fin 1024) : (V m c main_v7 : S8x1024.Idx → EReal) (ix2 (0 : Fin 8) q) = half * gAt m c q.val := by
  rw [V_u]
  refine (concatenate_pair_apply_left 0 _ _ concatenates_S1x1024_S7x1024_S8x1024_d0 (ix2 (0 : Fin 8) q) rfl (ix2 (0 : Fin 1) q) (fun b => ?_)).trans ?_
  · match b with
    | ⟨0, _⟩ => rfl
    | ⟨1, _⟩ => rfl
  refine (shapeCast_apply _ shapeCasts_S1024_S1x1024 (ix2 (0 : Fin 1) q) (ix1 q) ?_).trans ?_
  · rw [Shape.rowMajor_val_one, Shape.rowMajor_val_two]
    show q.val = 0 * 1024 + q.val
    omega
  refine congrArg (half * ·) ?_
  unfold gAt
  refine congrArg _ (funext fun a => Fin.ext ?_)
  match a with
  | ⟨0, _⟩ => exact (Nat.mod_eq_of_lt q.isLt).symm

theorem index0 : ∀ t : Fin cfg0.N, win0_0.index t (0 : Fin 2) = t.val % 4 ∧ win0_0.index t (1 : Fin 2) = t.val / 4 := by decide +kernel
theorem index1 : ∀ t : Fin cfg0.N, win0_1.index t (0 : Fin 2) = t.val % 4 ∧ win0_1.index t (1 : Fin 2) = 0 := by decide +kernel
theorem index2 : ∀ t : Fin cfg0.N, win0_2.index t (0 : Fin 2) = t.val / 4 ∧ win0_2.index t (1 : Fin 2) = 0 := by decide +kernel
theorem index3 : ∀ t : Fin cfg0.N, win0_3.index t (0 : Fin 2) = 0 ∧ win0_3.index t (1 : Fin 2) = 0 := by decide +kernel
theorem index4 : ∀ t : Fin cfg0.N, win0_4.index t (0 : Fin 2) = t.val / 4 ∧ win0_4.index t (1 : Fin 2) = 0 := by decide +kernel
theorem index5 : ∀ t : Fin cfg0.N, win0_5.index t (0 : Fin 3) = t.val / 4 ∧ win0_5.index t (1 : Fin 3) = 0 ∧ win0_5.index t (2 : Fin 3) = 0 := by decide +kernel

theorem iblk_x (c : Dev nD) (t : Fin cfg0.N) (r : Fin 2048) (p : Fin 1408) :
    (iblk m c 0 t (ix2 r p) : EReal) = xAt m c (2048 * (t.val % 4) + r.val) (1408 * (t.val / 4) + p.val) := by
  obtain ⟨e0, e1⟩ := index0 t
  have hN : t.val < 8 := lt_of_lt_of_eq t.isLt N_0
  have hr := r.isLt
  have hp := p.isLt
  show (V m c main_v0 : S8192x2816.Idx → EReal) (((cfg0.win 0).blk t).view.emb (ix2 r p)) = _
  rw [V_x]
  unfold xAt
  exact congrArg _ (Common.ext2 (by show win0_0.index t (0 : Fin 2) * 2048 + 1 * r.val = (2048 * (t.val % 4) + r.val) % 8192; omega)
    (by show win0_0.index t (1 : Fin 2) * 1408 + 1 * p.val = (1408 * (t.val / 4) + p.val) % 2816; omega))

theorem iblk_y (c : Dev nD) (t : Fin cfg0.N) (r : Fin 2048) (q : Fin 1024) :
    (iblk m c 1 t (ix2 r q) : EReal) = yAt m c (2048 * (t.val % 4) + r.val) q.val := by
  obtain ⟨e0, e1⟩ := index1 t
  have hN : t.val < 8 := lt_of_lt_of_eq t.isLt N_0
  have hr := r.isLt
  have hq := q.isLt
  show (V m c main_v1 : S8192x1024.Idx → EReal) (((cfg0.win 1).blk t).view.emb (ix2 r q)) = _
  rw [V_y]
  unfold yAt
  exact congrArg _ (Common.ext2 (by show win0_1.index t (0 : Fin 2) * 2048 + 1 * r.val = (2048 * (t.val % 4) + r.val) % 8192; omega)
    (by show win0_1.index t (1 : Fin 2) * 1024 + 1 * q.val = q.val % 1024; omega))

theorem iblk_w (c : Dev nD) (t : Fin cfg0.N) (p : Fin 1408) (q : Fin 1024) :
    (iblk m c 2 t (ix2 p q) : EReal) = wAt m c (1408 * (t.val / 4) + p.val) q.val := by
  obtain ⟨e0, e1⟩ := index2 t
  have hN : t.val < 8 := lt_of_lt_of_eq t.isLt N_0
  have hp := p.isLt
  have hq := q.isLt
  show (V m c main_v2 : S2816x1024.Idx → EReal) (((cfg0.win 2).blk t).view.emb (ix2 p q)) = _
  rw [V_w]
  unfold wAt
  exact congrArg _ (Common.ext2 (by show win0_2.index t (0 : Fin 2) * 1408 + 1 * p.val = (1408 * (t.val / 4) + p.val) % 2816; omega)
    (by show win0_2.index t (1 : Fin 2) * 1024 + 1 * q.val = q.val % 1024; omega))

theorem iblk_u (c : Dev nD) (t : Fin cfg0.N) (q : Fin 1024) :
    (iblk m c 3 t (ix2 (0 : Fin 8) q) : EReal) = half * gAt m c q.val := by
  obtain ⟨e0, e1⟩ := index3 t
  refine Eq.trans ?_ (V_u_row m c q)
  show (V m c main_v7 : S8x1024.Idx → EReal) (((cfg0.win 3).blk t).view.emb (ix2 (0 : Fin 8) q)) = _
  exact congrArg _ (Common.ext2 (by show win0_3.index t (0 : Fin 2) * 8 + 1 * 0 = 0; omega) (by show win0_3.index t (1 : Fin 2) * 1024 + 1 * q.val = q.val; omega))

/-- The sum over the first `n` rows for column `i` of `x` and column `j` of the incoming gradient. -/
def part (c : Dev nD) (n i j : ℕ) : EReal := ∑ r ∈ Finset.range n, xAt m c r i * yAt m c r j

/-- Adding a block's product to the sum over the rows before it gives the sum over the rows up to its end. -/
theorem pay2_part (c : Dev nD) (t : Fin cfg0.N) (s : Vec Ideal S1408x1024 .f32) (p : Fin 1408) (q : Fin 1024)
    (hs : (s (ix2 p q) : EReal) = part m c (2048 * (t.val % 4)) (1408 * (t.val / 4) + p.val) q.val) :
    (k0_pay2 s (iblk m c 0 t) (iblk m c 1 t) (ix2 p q) : EReal)
      = part m c (2048 * (t.val % 4) + 2048) (1408 * (t.val / 4) + p.val) q.val := by
  refine (pay2_apply _ _ _ p q).trans ?_
  rw [hs]
  unfold part
  rw [Finset.sum_range_add, Finset.sum_range (n := 2048)]
  refine congrArg _ (Finset.sum_congr rfl fun r _ => ?_)
  rw [← iblk_x, ← iblk_y]

/-- The accumulator after the first block of rows of a block of columns. -/
theorem acc_A (c : Dev nD) (t : Fin cfg0.N) (h0 : t.val % 4 = 0) :
    (outsAt0 m c t.val t.isLt).2.2 = k0_pay2 (k0_pay1 (F := Ideal)) (iblk m c 0 t) (iblk m c 1 t) := by
  rw [outsAt0_A m c t h0 (by omega)]
  dsimp only
  rw [acc_first]

/-- The accumulator after a later block of rows. -/
theorem acc_BC (c : Dev nD) (t : Fin cfg0.N) (h0 : ¬t.val % 4 = 0) :
    (outsAt0 m c t.val t.isLt).2.2
      = k0_pay2 (outsAt0 m c (t.val - 1) (Nat.lt_of_le_of_lt (Nat.sub_le _ _) t.isLt)).2.2 (iblk m c 0 t) (iblk m c 1 t) := by
  by_cases h1 : t.val % 4 = 3
  · rw [outsAt0_C m c t h0 h1]
    dsimp only
    rw [acc_last]
  · rw [outsAt0_B m c t h0 h1]
    dsimp only
    rw [acc_next]

/-- The weight's output block after the last block of rows. -/
theorem weight_C (c : Dev nD) (t : Fin cfg0.N) (h1 : t.val % 4 = 3) :
    (outsAt0 m c t.val t.isLt).1 = k0_pay3 (outsAt0 m c t.val t.isLt).2.2 (row (iblk m c 3 t)) := by
  have h0 : ¬t.val % 4 = 0 := by omega
  rw [acc_BC m c t h0, outsAt0_C m c t h0 h1]
  dsimp only
  rw [out_weight]

/-- The gate's output block after the last block of rows. -/
theorem gate_C (c : Dev nD) (t : Fin cfg0.N) (h1 : t.val % 4 = 3) :
    (outsAt0 m c t.val t.isLt).2.1 = k0_pay4 (outsAt0 m c t.val t.isLt).2.2 (iblk m c 2 t) := by
  have h0 : ¬t.val % 4 = 0 := by omega
  rw [acc_BC m c t h0, outsAt0_C m c t h0 h1]
  dsimp only
  rw [out_gate]

/-- After point `n` the accumulator holds the sum over the rows up to the end of the point's block. -/
theorem acc_eq (c : Dev nD) (p : Fin 1408) (q : Fin 1024) : ∀ (n : ℕ) (hn : n < cfg0.N),
    ((outsAt0 m c n hn).2.2 (ix2 p q) : EReal)
      = part m c (2048 * (n % 4) + 2048) (1408 * (n / 4) + p.val) q.val :=
  Common.running 2048 (fun g r => part m c r (1408 * g + p.val) q.val) _ (fun t h0 => by
    rw [acc_A m c t h0]
    refine pay2_part m c t _ p q ?_
    rw [pay1_apply, h0]
    exact (Finset.sum_range_zero _).symm)
    fun n hn h0 ih => (congrFun (acc_BC m c ⟨n + 1, hn⟩ h0) (ix2 p q)).trans (pay2_part m c ⟨n + 1, hn⟩ _ p q ih)

/-- At a block's last point the accumulator holds the sum over all rows. -/
theorem acc_full (c : Dev nD) (t : Fin cfg0.N) (h1 : t.val % 4 = 3) (p : Fin 1408) (q : Fin 1024) :
    ((outsAt0 m c t.val t.isLt).2.2 (ix2 p q) : EReal) = part m c 8192 (1408 * (t.val / 4) + p.val) q.val := by
  refine (acc_eq m c p q t.val t.isLt).trans ?_
  rw [h1]

/-! ## The two output arrays -/

/-- The weight's gradient: entry `(i, j)` is the sum over the rows of `x` at `i` times the incoming gradient at `j`, times
    half the gate at `j`. -/
def dw (c : Dev nD) : S2816x1024.Idx → EReal := fun z => part m c 8192 (z 0).val (z 1).val * (half * gAt m c (z 1).val)

/-- The gate's partial sums: for block `b` and column `j`, the sum over the block's rows `i` of the weight times the
    ungated gradient at `(i, j)`. -/
def gs (c : Dev nD) : S2x8x1024.Idx → EReal := fun z =>
  ∑ p ∈ Finset.range 1408, part m c 8192 (1408 * (z 0).val + p) (z 2).val * wAt m c (1408 * (z 0).val + p) (z 2).val

theorem final_weight (c : Dev nD) : (dats m 0 c).arrAt 4 cfg0.N = dw m c := by
  refine (dats m 0 c).arrAt_eq_of_covers 4 _ (by decide +kernel) fun t hf y => ?_
  have h3 : t.val % 4 = 3 := (flush0_4 t).mp hf
  obtain ⟨e0, e1⟩ := index4 t
  rw [after0_4]
  have hx0 : ((((cfg0.win 4).blk t).view.emb y) (0 : Fin 2)).val = 1408 * (t.val / 4) + (y (0 : Fin 2)).val := by
    show win0_4.index t (0 : Fin 2) * 1408 + 1 * (y (0 : Fin 2)).val = _; omega
  have hx1 : ((((cfg0.win 4).blk t).view.emb y) (1 : Fin 2)).val = (y (1 : Fin 2)).val := by
    show win0_4.index t (1 : Fin 2) * 1024 + 1 * (y (1 : Fin 2)).val = _; omega
  show ((outsAt0 m c t.val t.isLt).1 y : EReal) = dw m c (((cfg0.win 4).blk t).view.emb y)
  unfold dw
  rw [hx0, hx1, ← iblk_u m c t (y (1 : Fin 2)), ← acc_full m c t h3 (y (0 : Fin 2)) (y (1 : Fin 2)), weight_C m c t h3]
  exact (congrArg _ (Common.eta (M := 1408) (N := 1024) y)).trans (pay3_apply _ _ _ _)

theorem final_gate (c : Dev nD) : (dats m 0 c).arrAt 5 cfg0.N = gs m c := by
  refine (dats m 0 c).arrAt_eq_of_covers 5 _ (by decide +kernel) fun t hf y => ?_
  have h3 : t.val % 4 = 3 := (flush0_5 t).mp hf
  obtain ⟨e0, e1, e2⟩ := index5 t
  rw [after0_5]
  have hy0 : (y (0 : Fin 3)).val < 1 := (y (0 : Fin 3)).isLt
  have hx0 : ((((cfg0.win 5).blk t).view.emb y) (0 : Fin 3)).val = t.val / 4 := by
    show win0_5.index t (0 : Fin 3) * 1 + 1 * (y (0 : Fin 3)).val = _; omega
  have hx2 : ((((cfg0.win 5).blk t).view.emb y) (2 : Fin 3)).val = (y (2 : Fin 3)).val := by
    show win0_5.index t (2 : Fin 3) * 1024 + 1 * (y (2 : Fin 3)).val = _; omega
  have hy : y = ix3 (0 : Fin 1) (y (1 : Fin 3) : Fin 8) (y (2 : Fin 3) : Fin 1024) := funext fun a => by
    match a with
    | ⟨0, _⟩ => exact Fin.ext (by show (y (0 : Fin 3)).val = 0; omega)
    | ⟨1, _⟩ => rfl
    | ⟨2, _⟩ => rfl
  show ((outsAt0 m c t.val t.isLt).2.1 y : EReal) = gs m c (((cfg0.win 5).blk t).view.emb y)
  unfold gs
  rw [hx0, hx2, gate_C m c t h3, Finset.sum_range]
  refine (congrArg _ hy).trans ((pay4_apply _ _ _ _).trans (Finset.sum_congr rfl fun p _ => ?_))
  exact congrArg₂ _ (acc_full m c t h3 p (y (2 : Fin 3))) (iblk_w m c t p (y (2 : Fin 3)))

/-! ## The results -/

/-- The gate's gradient: half the sum of the blocks' partial sums. -/
def dg (c : Dev nD) : S1024.Idx → EReal := fun z => half * ∑ b ∈ Finset.range 2,
  ∑ p ∈ Finset.range 1408, part m c 8192 (1408 * b + p) (z 0).val * wAt m c (1408 * b + p) (z 0).val

/-- The weight's change of format after the call is the identity over the extended reals. -/
theorem tail_weight (c : Dev nD) : Pipeline.afterTail₀ cfgs (dats m) 0 (V0 m) [hostOps1] c main_v9 = dw m c := by
  unfold Pipeline.afterTail₀
  simp only [hostOps1, List.flatten_singleton]
  after_results_simp
  exact (Pipeline.withArrays_arr spec0 (by decide) c (V0 m c) (fun w => (dats m 0 c).arrAt w cfg0.N) 4).trans (final_weight m c)

/-- What the lines after the call make of the gate's partial sums. -/
def gateTail (x : S2x8x1024.Idx → EReal) : S1024.Idx → EReal :=
  mulf (F := Ideal) (φ := .f32) (broadcastInDim S1024 ![] bcast_S_S1024 (constant (F := Ideal) S_ .f32 0x3F000000#32))
    (Host.reduceAdd (F := Ideal) (φ := .f32) (shapeCast S2x1024 (extractStridedSlice S2x1x1024 ![0, 0, 0] x slices_S2x8x1024_S2x1x1024_0_0_0)
      shapeCasts_S2x1x1024_S2x1024) (constant (F := Ideal) S_ .f32 0x00000000#32) reducesTo_S2x1024_S1024_d0 h_S_)

/-- They take the first of each block's eight rows, add the blocks' and halve. -/
theorem gateTail_apply (x : S2x8x1024.Idx → EReal) (z : S1024.Idx) :
    gateTail x z = half * ∑ b : Fin 2, x (ix3 b (0 : Fin 8) (z 0 : Fin 1024)) := by
  unfold gateTail
  show half * (Host.reduceAdd (F := Ideal) (φ := .f32) _ _ reducesTo_S2x1024_S1024_d0 h_S_ z : EReal) = _
  refine congrArg (half * ·) ?_
  simp only [Host.reduceAdd, Ideal.hostReduceAdd_def]
  rw [Ideal.hostReduceAdd_single reducesTo_S2x1024_S1024_d0 (by decide)]
  refine Eq.trans (congrArg (· + _) (show Ideal.ofBits .f32 0x00000000#32 = 0 by simp [Ideal.ofBits, Ideal.ieee])) ?_
  rw [zero_add]
  refine Finset.sum_congr rfl fun b _ => ?_
  refine (shapeCast_apply _ shapeCasts_S2x1x1024_S2x1024 _ (ix3 (b : Fin 2) (0 : Fin 1) (z 0 : Fin 1024)) ?_).trans ?_
  · rw [Shape.rowMajor_val_two, Shape.rowMajor_val_three]
    show (b.val * 1 + 0) * 1024 + (z 0).val = b.val * 1024 + (z 0).val
    omega
  refine extractStridedSlice_apply ![0, 0, 0] x slices_S2x8x1024_S2x1x1024_0_0_0 _ (ix3 (b : Fin 2) (0 : Fin 8) (z 0 : Fin 1024)) (fun a => ?_)
  match a with
  | ⟨0, _⟩ => show b.val = 0 + b.val; omega
  | ⟨1, _⟩ => rfl
  | ⟨2, _⟩ => show (z 0).val = 0 + (z 0).val; omega

theorem tail_gate (c : Dev nD) : Pipeline.afterTail₀ cfgs (dats m) 0 (V0 m) [hostOps1] c main_v14 = dg m c := by
  have h : Pipeline.withArrays spec0 c (V0 m c) (fun w => (dats m 0 c).arrAt w cfg0.N) (Proc.devRef .tc main_v8_1) = gs m c :=
    (Pipeline.withArrays_arr spec0 (by decide) c (V0 m c) _ 5).trans (final_gate m c)
  have e : Pipeline.afterTail₀ cfgs (dats m) 0 (V0 m) [hostOps1] c main_v14
      = gateTail (Pipeline.withArrays spec0 c (V0 m c) (fun w => (dats m 0 c).arrAt w cfg0.N) (Proc.devRef .tc main_v8_1)) := by
    unfold Pipeline.afterTail₀
    simp only [hostOps1, List.flatten_singleton]
    after_results_simp
    rfl
  refine e.trans ((congrArg gateTail h).trans (funext fun z => (gateTail_apply _ z).trans ?_))
  unfold dg gs
  rw [Finset.sum_range]
  rfl

/-! ## The reference -/

/-- Every argument is an array of real numbers. -/
structure RealArgs (c : Dev nD) : Prop where
  x : ∀ r k, xAt m c r k = ((xAt m c r k).toReal : EReal)
  y : ∀ r k, yAt m c r k = ((yAt m c r k).toReal : EReal)
  w : ∀ r k, wAt m c r k = ((wAt m c r k).toReal : EReal)
  g : ∀ k, gAt m c k = ((gAt m c k).toReal : EReal)

open Cert.KernelIdeal.AttnBwd (coe_sum sum_blocks)

section
variable {m} {c : Dev nD}

/-- A sum over rows of real entries is the real sum. -/
theorem part_real (h : RealArgs m c) (n i j : ℕ) :
    part m c n i j = ((∑ r ∈ Finset.range n, (xAt m c r i).toReal * (yAt m c r j).toReal : ℝ) : EReal) := by
  unfold part
  rw [coe_sum]
  refine Finset.sum_congr rfl fun r _ => ?_
  rw [EReal.coe_mul, ← h.x, ← h.y]

end

theorem arg0_at (c : Dev nD) (z : S8192x2816.Idx) (r k : ℕ) (h0 : (z 0).val = r) (h1 : (z 1).val = k) :
    (m (c.tc.loc main_arg0) : S8192x2816.Idx → EReal) z = xAt m c r k := by
  subst h0 h1
  unfold xAt
  exact congrArg _ (Common.ext2 (Nat.mod_eq_of_lt (z (0 : Fin 2)).isLt).symm (Nat.mod_eq_of_lt (z (1 : Fin 2)).isLt).symm)

theorem arg1_at (c : Dev nD) (z : S8192x1024.Idx) (r k : ℕ) (h0 : (z 0).val = r) (h1 : (z 1).val = k) :
    (m (c.tc.loc main_arg1) : S8192x1024.Idx → EReal) z = yAt m c r k := by
  subst h0 h1
  unfold yAt
  exact congrArg _ (Common.ext2 (Nat.mod_eq_of_lt (z (0 : Fin 2)).isLt).symm (Nat.mod_eq_of_lt (z (1 : Fin 2)).isLt).symm)

theorem arg2_at (c : Dev nD) (z : S2816x1024.Idx) (r k : ℕ) (h0 : (z 0).val = r) (h1 : (z 1).val = k) :
    (m (c.tc.loc main_arg2) : S2816x1024.Idx → EReal) z = wAt m c r k := by
  subst h0 h1
  unfold wAt
  exact congrArg _ (Common.ext2 (Nat.mod_eq_of_lt (z (0 : Fin 2)).isLt).symm (Nat.mod_eq_of_lt (z (1 : Fin 2)).isLt).symm)

theorem arg3_at (c : Dev nD) (z : S1024.Idx) (k : ℕ) (h0 : (z 0).val = k) :
    (m (c.tc.loc main_arg3) : S1024.Idx → EReal) z = gAt m c k := by
  subst h0
  unfold gAt
  refine congrArg _ (funext fun a => Fin.ext ?_)
  match a with
  | ⟨0, _⟩ => exact (Nat.mod_eq_of_lt (z (0 : Fin 1)).isLt).symm

open Cert.Reference3Ideal.Read in
/-- The reference's gradient of the weight is the kernel's. -/
theorem ref_weight (c : Dev nD) (h : RealArgs m c) : (val_main_v12 (F := Ideal) (m (c.tc.loc main_arg0))
    (m (c.tc.loc main_arg1)) (m (c.tc.loc main_arg3)) : S2816x1024.Idx → EReal) = dw m c := by
  funext z
  rw [val_main_v12_apply, val_main_v11_apply]
  unfold dw
  rw [part_real h, half_eq, h.g, ← EReal.coe_mul, ← EReal.coe_mul, Finset.sum_mul, coe_sum, Finset.sum_range]
  refine Finset.sum_congr rfl fun r _ => ?_
  rw [val_main_v7_apply, val_main_v6_apply, val_main_v2_apply, val_main_v1_apply, val_main_v0_apply, val_main_cst_apply,
    arg0_at m c _ r.val (z 0).val rfl rfl, arg1_at m c _ r.val (z 1).val rfl rfl, arg3_at m c _ (z 1).val rfl, Ideal.mulf_def, Ideal.mulf_def]
  show half * gAt m c (z 1).val * yAt m c r.val (z 1).val * xAt m c r.val (z 0).val = _
  rw [half_eq, h.g, h.x, h.y, ← EReal.coe_mul, ← EReal.coe_mul, ← EReal.coe_mul]
  simp only [EReal.toReal_coe]
  exact congrArg _ (by ring)

open Cert.Reference3Ideal.Read in
/-- The reference's gradient of the gate is the kernel's. -/
theorem ref_gate (c : Dev nD) (h : RealArgs m c) : (val_main_v15 (F := Ideal) (m (c.tc.loc main_arg0))
    (m (c.tc.loc main_arg1)) (m (c.tc.loc main_arg2)) : S1024.Idx → EReal) = dg m c := by
  funext z
  have zero : (FloatOps.ofBits (F := Ideal) .f32 0x00000000#32 : EReal) = 0 := by
    simp [Ideal.ofBits_def, Ideal.ofBits, Ideal.ieee]
  rw [val_main_v15_apply, val_main_cst_2_apply, zero, zero_add, Fin.sum_univ_one, val_main_v14_apply, val_main_v13_apply,
    val_main_cst_1_apply, val_main_v10_apply, val_main_v9_apply, val_main_cst_0_apply, zero, zero_add, Ideal.mulf_def]
  unfold dg
  refine congrArg (half * ·) ?_
  have left : ∀ r : Fin 8192, (val_main_v8 (F := Ideal) (m (c.tc.loc main_arg0)) (m (c.tc.loc main_arg1))
      (m (c.tc.loc main_arg2)) (idx_main_v9 (idx_main_v10 (idx_main_v15 z 0)) r) : EReal)
      = ((∑ i ∈ Finset.range 2816, (xAt m c r.val i).toReal * (yAt m c r.val (z 0).val).toReal * (wAt m c i (z 0).val).toReal : ℝ) : EReal) := fun r => by
    have hz : (idx_main_v10 (idx_main_v15 z 0) 0).val = (z 0).val := by
      show 0 * 1024 + (z 0).val = (z 0).val
      omega
    rw [val_main_v8_apply, val_main_v3_apply, Ideal.mulf_def, arg1_at m c _ r.val (z 0).val rfl hz, h.y, Finset.sum_range]
    refine (congrArg (((yAt m c r.val (z 0).val).toReal : EReal) * ·) (Finset.sum_congr rfl fun (k : Fin 2816) _ =>
      (congrArg₂ (fun a b : EReal => a * b) (arg0_at m c _ r.val k.val rfl rfl) (arg2_at m c _ k.val (z 0).val rfl hz)).trans
        (show xAt m c r.val k.val * wAt m c k.val (z 0).val = (((xAt m c r.val k.val).toReal * (wAt m c k.val (z 0).val).toReal : ℝ) : EReal) by
          rw [EReal.coe_mul, ← h.x, ← h.w]))).trans ?_
    rw [← coe_sum, ← EReal.coe_mul, Finset.mul_sum]
    exact congrArg _ (Finset.sum_congr rfl fun k _ => by simp only [EReal.toReal_coe]; ring)
  have right : ∀ i : ℕ, part m c 8192 i (z 0).val * wAt m c i (z 0).val
      = ((∑ r ∈ Finset.range 8192, (xAt m c r i).toReal * (yAt m c r (z 0).val).toReal * (wAt m c i (z 0).val).toReal : ℝ) : EReal) := fun i => by
    rw [part_real h, h.w, ← EReal.coe_mul, Finset.sum_mul]
    simp only [EReal.toReal_coe]
  simp only [right]
  refine (Finset.sum_congr rfl fun r _ => left r).trans ?_
  simp only [← coe_sum]
  refine congrArg _ ?_
  rw [sum_blocks 1408 2 (fun i => ∑ r ∈ Finset.range 8192, (xAt m c r i).toReal * (yAt m c r (z 0).val).toReal * (wAt m c i (z 0).val).toReal)]
  exact (Finset.sum_range (fun r => ∑ i ∈ Finset.range 2816, (xAt m c r i).toReal * (yAt m c r (z 0).val).toReal * (wAt m c i (z 0).val).toReal)).symm.trans
    Finset.sum_comm

end Cert.Kernel3Ideal.Wgrad

end
-- ==== Proof.FiniteGated.lean ====
module

public import proofs.«01_k».proof.Defs
public import proofs.«01_k».proof.Proof.Finite
public import proofs.«01_k».proof.Proof.WgradGated
public import Idealize.ShloMosaic.Lib.ReduceAll
public import Idealize.ShloMosaic.Lib.Pointwise

/-! What the precondition of the gated weight gradient says: every element of the four arguments is a real number. -/

@[expose] public section

noncomputable section

namespace Cert.FiniteGated

open Idealize.ShloMosaic Idealize.ShloMosaic.TcCoe
open Cert.Finite (and_one real_of_lt)

/-- The side conditions of the predicate's operations. -/
instance facts : Cert.Pre_finite3.Facts where
  bcast_S_S8192x2816 := ⟨fun a => a.elim0, fun a => a.elim0⟩
  reducesTo_S8192x2816_S_d0_1 := by decide
  h_S_ := by decide
  bcast_S_S8192x1024 := ⟨fun a => a.elim0, fun a => a.elim0⟩
  reducesTo_S8192x1024_S_d0_1 := by decide
  bcast_S_S2816x1024 := ⟨fun a => a.elim0, fun a => a.elim0⟩
  reducesTo_S2816x1024_S_d0_1 := by decide
  bcast_S_S1024 := ⟨fun a => a.elim0, fun a => a.elim0⟩
  reducesTo_S1024_S_d0 := by decide

/-- One of the predicate's conjuncts, for an array of any shape: that the absolute value of each element is below
    infinity makes each element a real number. -/
theorem real_of_test {S : Shape} {axes : List (Fin S.rank)} (x : S.Idx → EReal) (hb : Cert.Pre_finite3.S_.BroadcastsInDim S (![] : Fin 0 → Fin S.rank))
    (hr : S.ReducesTo axes Cert.Pre_finite3.S_) (hu : 0 < Cert.Pre_finite3.S_.numel) (j : Cert.Pre_finite3.S_.Idx)
    (h : Host.reduce IntOp.andi
      (cmpf (F := Ideal) (φ := .f32) .olt (Host.absf (F := Ideal) (φ := .f32) x)
        (broadcastInDim S ![] hb (constant (F := Ideal) Cert.Pre_finite3.S_ .f32 0x7F800000#32)))
      (constantI Cert.Pre_finite3.S_ 1 1#1) hr hu j = 1#1) (i : S.Idx) : x i = ((x i).toReal : EReal) := by
  have e := Host.reduce_andi_all _ _ _ _ j h i
  have e' : Ideal.cmp .olt (max (x i) (-(x i))) (Ideal.ofBits .f32 0x7F800000#32) = 1#1 := e
  have t : Ideal.ofBits .f32 0x7F800000#32 = ⊤ := by simp [Ideal.ofBits, Ideal.ieee]
  rw [t, Ideal.cmp_olt] at e'
  refine real_of_lt ?_
  by_contra hn
  rw [decide_eq_false hn] at e'
  exact absurd e' (by decide)

open Cert.Kernel3Ideal in
/-- The precondition makes the kernel's four arguments, on every device, arrays of real numbers. -/
theorem real_args (m : (ℓ : Loc nD τ sig) → Buf (Elt Ideal) ℓ) (c : Dev nD)
    (h : Cert.Pre_finite3.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    Cert.Kernel3Ideal.Wgrad.RealArgs m c := by
  have j : Cert.Pre_finite3.S_.Idx := fun i => i.elim0
  have e := congrFun h j
  unfold Cert.Pre_finite3.fn Cert.Pre_finite3.fn_part1 at e
  dsimp only at e
  obtain ⟨e, e3⟩ := and_one e
  obtain ⟨e, e2⟩ := and_one e
  obtain ⟨e0, e1⟩ := and_one e
  exact ⟨fun r k => real_of_test _ _ _ _ j e0 _, fun r k => real_of_test _ _ _ _ j e1 _,
    fun r k => real_of_test _ _ _ _ j e2 _, fun k => real_of_test _ _ _ _ j e3 _⟩

end Cert.FiniteGated

end
-- ==== Proof.ConvInFwd.lean ====
module

public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import proofs.«01_k».proof.Proof.Common

/-! The forward call that makes the convolution's first pointwise product. Each point of its grid takes 512 rows of the
    residual stream, normalizes and modulates them, multiplies them by the pointwise weight and adds the bias. Over the
    extended reals its two results are those of the reference, from any arguments. -/

@[expose] public section

set_option maxRecDepth 16384

noncomputable section

namespace Cert.Kernel14Ideal.ConvIn

open Idealize.ShloMosaic Idealize.ShloMosaic.TcCoe Idealize.ShloMosaic.Tactic Idealize.SL.Sem
open Idealize.ShloMosaic.Pipeline (Dat)
open Cert Cert.Kernel14Ideal Cert.Kernel14Ideal.Gen

open Cert.Common (zeros2 zero_bits)

/-! ## What one point of the grid computes -/

/-- The product of a block of rows with the weight, entry by entry. -/
theorem prod_pre (x : FVec Ideal S512x1024 .bf16) (y : FVec Ideal S1024x2048 .bf16) (p : Fin 512) (q : Fin 2048) :
    (matmul dot_S512x1024_S1024x2048_S512x2048_1_0_0_1_n_n none x y (constant (F := Ideal) S512x2048 .f32 0x00000000#32) (ix2 p q) : EReal)
      = ∑ r : Fin 1024, (x (ix2 p r) : EReal) * (y (ix2 r q) : EReal) := by
  exact Common.nn x y p q

/-- The constants that the programs write: the row length, the number added to the mean square, and one. -/
def len : EReal := Ideal.ofBits .f32 0x44800000#32
def eps : EReal := Ideal.ofBits .f32 0x358637BD#32
def one : EReal := Ideal.ofBits .f32 0x3F800000#32

section
variable (x0 : Vec Ideal S512x1024 .f32) (x1 : Vec Ideal S8x1024 .f32) (x2 : Vec Ideal S1024x2048 .bf16) (x3 : Vec Ideal S8x2048 .f32)

/-- The first row of the second eight-row array: the bias. -/
def biasRow : Vec Ideal S1x2048 .f32 := View.ld x3 (Rect.unit (s := S8x2048) ![0, 0] S1x2048.size inb_S8x2048_S1x2048_0_0)

/-- The normalized and modulated rows, entry by entry. -/
theorem pay1_apply (p : Fin 512) (k : Fin 1024) :
    (k0_pay1 x0 x1 (ix2 p k) : EReal)
      = (x0 (ix2 p k) : EReal) * Ideal.rsqrt (Ideal.div (∑ j : Fin 1024, (x0 (ix2 p j) : EReal) * (x0 (ix2 p j) : EReal)) len + eps)
        * (x1 (ix2 (0 : Fin 8) k) : EReal) * (one + (x1 (ix2 (2 : Fin 8) k) : EReal)) + (x1 (ix2 (1 : Fin 8) k) : EReal) := by
  have cut0 : (extractStridedSlice S1x1024 ![0, 0] x1 slices_S8x1024_o0_0_S1x1024 (ix2 (0 : Fin 1) k) : EReal) = x1 (ix2 (0 : Fin 8) k) :=
    extractStridedSlice_apply ![0, 0] x1 slices_S8x1024_o0_0_S1x1024 (ix2 (0 : Fin 1) k) (ix2 (0 : Fin 8) k) fun a => match a with
      | ⟨0, _⟩ => rfl
      | ⟨1, _⟩ => by show k.val = 0 + k.val; omega
  have cut1 : (extractStridedSlice S1x1024 ![1, 0] x1 slices_S8x1024_o1_0_S1x1024 (ix2 (0 : Fin 1) k) : EReal) = x1 (ix2 (1 : Fin 8) k) :=
    extractStridedSlice_apply ![1, 0] x1 slices_S8x1024_o1_0_S1x1024 (ix2 (0 : Fin 1) k) (ix2 (1 : Fin 8) k) fun a => match a with
      | ⟨0, _⟩ => rfl
      | ⟨1, _⟩ => by show k.val = 0 + k.val; omega
  have cut2 : (extractStridedSlice S1x1024 ![2, 0] x1 slices_S8x1024_o2_0_S1x1024 (ix2 (0 : Fin 1) k) : EReal) = x1 (ix2 (2 : Fin 8) k) :=
    extractStridedSlice_apply ![2, 0] x1 slices_S8x1024_o2_0_S1x1024 (ix2 (0 : Fin 1) k) (ix2 (2 : Fin 8) k) fun a => match a with
      | ⟨0, _⟩ => rfl
      | ⟨1, _⟩ => by show k.val = 0 + k.val; omega
  unfold k0_pay1
  simp only [shapeCast_self]
  show (x0 (ix2 p k) : EReal) * (broadcastTo S512x1024 _ broadcasts_S512x1_S512x1024 (ix2 p k) : EReal)
    * (broadcastTo S512x1024 _ broadcasts_S1x1024_S512x1024 (ix2 p k) : EReal) * (broadcastTo S512x1024 _ broadcasts_S1x1024_S512x1024 (ix2 p k) : EReal)
    + (broadcastTo S512x1024 _ broadcasts_S1x1024_S512x1024 (ix2 p k) : EReal) = _
  rw [Common.row, Common.row, Common.row, Common.col, cut0, cut1]
  show (x0 (ix2 p k) : EReal) * Ideal.rsqrt (Ideal.div (shapeCast S512x1 _ shapeCasts_S512_S512x1 (ix2 p (0 : Fin 1)) : EReal) len + eps)
    * (x1 (ix2 (0 : Fin 8) k) : EReal) * (one + (extractStridedSlice S1x1024 ![2, 0] x1 slices_S8x1024_o2_0_S1x1024 (ix2 (0 : Fin 1) k) : EReal)) + _ = _
  rw [Common.rowSum, cut2]
  rfl

/-- The product's rows, entry by entry. -/
theorem pay2_apply (p : Fin 512) (q : Fin 2048) :
    (k0_pay2 x0 x1 x2 (biasRow x3) (ix2 p q) : EReal)
      = (∑ k : Fin 1024, (k0_pay1 x0 x1 (ix2 p k) : EReal) * (x2 (ix2 k q) : EReal)) + (x3 (ix2 (0 : Fin 8) q) : EReal) := by
  unfold k0_pay2
  simp only [shapeCast_self]
  refine congrArg₂ (fun a b : EReal => a + b) (prod_pre (k0_pay1 x0 x1) x2 p q) ?_
  refine (broadcastTo_apply (biasRow x3) broadcasts_S1x2048_S512x2048 (ix2 p q) (ix2 (0 : Fin 1) q) (fun a => ?_)).trans ?_
  · match a with
    | ⟨0, _⟩ => rfl
    | ⟨1, _⟩ => show q.val = if (2048 : Nat) = 1 then 0 else q.val; rw [if_neg (by decide)]
  · refine View.ld_unit_apply_of x3 ![0, 0] S1x2048.size inb_S8x2048_S1x2048_0_0 (ix2 (0 : Fin 1) q) (ix2 (0 : Fin 8) q) (fun a => ?_)
    match a with
    | ⟨0, _⟩ => rfl
    | ⟨1, _⟩ => show q.val = 0 + q.val; omega

/-- The block of modulated rows that a point writes. -/
theorem out_rows : out0_4 x0 x1 x2 x3 = k0_pay1 x0 x1 := by
  unfold out0_4
  rw [View.canon_unit_zero zeros2]
  simp only [View.ld_unit_zero (S := S512x1024) zeros2, View.ld_unit_zero (S := S8x1024) zeros2]

/-- The block of the product that a point writes. -/
theorem out_pre : out0_5 x0 x1 x2 x3 = k0_pay2 x0 x1 x2 (biasRow x3) := by
  unfold out0_5
  rw [View.canon_unit_zero zeros2]
  simp only [View.ld_unit_zero (S := S512x1024) zeros2, View.ld_unit_zero (S := S8x1024) zeros2, View.ld_unit_zero (S := S1024x2048) zeros2]
  rfl

end

/-! ## The arrays that the call reads -/

variable (m : (ℓ : Loc nD τ sig) → Buf (Elt Ideal) ℓ)

/-- The residual stream, the norm's scale, the modulation's shift and scale, the weight and the bias. -/
def stream (c : Dev nD) : S8192x1024.Idx → EReal := m (c.tc.loc main_arg0)
def norm (c : Dev nD) : S1024.Idx → EReal := m (c.tc.loc main_arg1)
def shift (c : Dev nD) : S1024.Idx → EReal := m (c.tc.loc main_arg2)
def scale (c : Dev nD) : S1024.Idx → EReal := m (c.tc.loc main_arg3)
def weight (c : Dev nD) : S1024x2048.Idx → EReal := m (c.tc.loc main_arg4)
def bias (c : Dev nD) : S2048.Idx → EReal := m (c.tc.loc main_arg5)

theorem V_stream (c : Dev nD) : (V m c main_arg0 : S8192x1024.Idx → EReal) = stream m c := by
  unfold stream
  simp only [V, V0, hostOps0, List.flatten_singleton]
  after_results_simp <;> rfl

theorem V_weight (c : Dev nD) : (V m c main_v5 : S1024x2048.Idx → EReal) = weight m c := by
  unfold weight
  simp only [V, V0, hostOps0, List.flatten_singleton]
  after_results_simp <;> rfl

/-- The eight-row array that carries the three rows, as the lines before the call make it. -/
abbrev pieces (g sh sc : S1024.Idx → EReal) : List ((s : Shape) × (s.Idx → EReal)) :=
    [⟨S1x1024, shapeCast S1x1024 g shapeCasts_S1024_S1x1024⟩, ⟨S1x1024, shapeCast S1x1024 sh shapeCasts_S1024_S1x1024⟩,
      ⟨S1x1024, shapeCast S1x1024 sc shapeCasts_S1024_S1x1024⟩,
      ⟨S5x1024, broadcastInDim S5x1024 ![] bcast_S_S5x1024 (constant (F := Ideal) S_ .f32 0x00000000#32)⟩]
def rows (g sh sc : S1024.Idx → EReal) : S8x1024.Idx → EReal := concatenate S8x1024 0 (pieces g sh sc)
    concatenates_S1x1024_S1x1024_S1x1024_S5x1024_S8x1024_d0

theorem V_rows (c : Dev nD) : (V m c main_v4 : S8x1024.Idx → EReal) = rows (norm m c) (shift m c) (scale m c) := by
  unfold norm shift scale rows
  simp only [V, V0, hostOps0, List.flatten_singleton]
  after_results_simp <;> rfl

/-- The eight-row array that carries the bias. -/
def biasRows (b : S2048.Idx → EReal) : S8x2048.Idx → EReal := concatenate S8x2048 0
    [⟨S1x2048, shapeCast S1x2048 b shapeCasts_S2048_S1x2048⟩, ⟨S7x2048, broadcastInDim S7x2048 ![] bcast_S_S7x2048 (constant (F := Ideal) S_ .f32 0x00000000#32)⟩]
    concatenates_S1x2048_S7x2048_S8x2048_d0

theorem V_bias (c : Dev nD) : (V m c main_v8 : S8x2048.Idx → EReal) = biasRows (bias m c) := by
  unfold bias biasRows
  simp only [V, V0, hostOps0, List.flatten_singleton]
  after_results_simp <;> rfl

theorem biasRows_0 (b : S2048.Idx → EReal) (q : Fin 2048) : biasRows b (ix2 (0 : Fin 8) q) = b (ix1 q) := by
  unfold biasRows
  refine (concatenate_pair_apply_left 0 _ _ concatenates_S1x2048_S7x2048_S8x2048_d0 (ix2 (0 : Fin 8) q) rfl (ix2 (0 : Fin 1) q) (fun b => ?_)).trans ?_
  · match b with
    | ⟨0, _⟩ => rfl
    | ⟨1, _⟩ => rfl
  exact Common.castRow b _ q

section
variable (g sh sc : S1024.Idx → EReal) (q : Fin 1024)

theorem rows_0 : rows g sh sc (ix2 (0 : Fin 8) q) = g (ix1 q) := by
  refine (concatenate_apply_piece (t := S8x1024) (0 : Fin 2) (pieces g sh sc) concatenates_S1x1024_S1x1024_S1x1024_S5x1024_S8x1024_d0 (ix2 (0 : Fin 8) q) 0 (by show 0 < 4; omega)
    S1x1024 (shapeCast S1x1024 g shapeCasts_S1024_S1x1024) rfl rfl 0 rfl (ix2 (0 : Fin 1) q) (fun b hb => ?_) rfl).trans (Common.castRow g _ q)
  match b with
  | ⟨0, _⟩ => exact absurd rfl hb
  | ⟨1, _⟩ => rfl

theorem rows_1 : rows g sh sc (ix2 (1 : Fin 8) q) = sh (ix1 q) := by
  refine (concatenate_apply_piece (t := S8x1024) (0 : Fin 2) (pieces g sh sc) concatenates_S1x1024_S1x1024_S1x1024_S5x1024_S8x1024_d0 (ix2 (1 : Fin 8) q) 1 (by show 1 < 4; omega)
    S1x1024 (shapeCast S1x1024 sh shapeCasts_S1024_S1x1024) rfl rfl 1 rfl (ix2 (0 : Fin 1) q) (fun b hb => ?_) rfl).trans (Common.castRow sh _ q)
  match b with
  | ⟨0, _⟩ => exact absurd rfl hb
  | ⟨1, _⟩ => rfl

theorem rows_2 : rows g sh sc (ix2 (2 : Fin 8) q) = sc (ix1 q) := by
  refine (concatenate_apply_piece (t := S8x1024) (0 : Fin 2) (pieces g sh sc) concatenates_S1x1024_S1x1024_S1x1024_S5x1024_S8x1024_d0 (ix2 (2 : Fin 8) q) 2 (by show 2 < 4; omega)
    S1x1024 (shapeCast S1x1024 sc shapeCasts_S1024_S1x1024) rfl rfl 2 rfl (ix2 (0 : Fin 1) q) (fun b hb => ?_) rfl).trans (Common.castRow sc _ q)
  match b with
  | ⟨0, _⟩ => exact absurd rfl hb
  | ⟨1, _⟩ => rfl

end

theorem index0 : ∀ t : Fin cfg0.N, win0_0.index t (0 : Fin 2) = t.val ∧ win0_0.index t (1 : Fin 2) = 0 := by decide +kernel
theorem index1 : ∀ t : Fin cfg0.N, win0_1.index t (0 : Fin 2) = 0 ∧ win0_1.index t (1 : Fin 2) = 0 := by decide +kernel
theorem index2 : ∀ t : Fin cfg0.N, win0_2.index t (0 : Fin 2) = 0 ∧ win0_2.index t (1 : Fin 2) = 0 := by decide +kernel
theorem index3 : ∀ t : Fin cfg0.N, win0_3.index t (0 : Fin 2) = 0 ∧ win0_3.index t (1 : Fin 2) = 0 := by decide +kernel
theorem index4 : ∀ t : Fin cfg0.N, win0_4.index t (0 : Fin 2) = t.val ∧ win0_4.index t (1 : Fin 2) = 0 := by decide +kernel
theorem index5 : ∀ t : Fin cfg0.N, win0_5.index t (0 : Fin 2) = t.val ∧ win0_5.index t (1 : Fin 2) = 0 := by decide +kernel

/-- The row of the arrays that a point's row is. -/
def row (t : Fin cfg0.N) (p : Fin 512) : Fin 8192 := ⟨512 * t.val + p.val, by
  have hN : t.val < 16 := lt_of_lt_of_eq t.isLt N_0
  have := p.isLt
  omega⟩

theorem iblk_stream (c : Dev nD) (t : Fin cfg0.N) (p : Fin 512) (k : Fin 1024) :
    (iblk m c 0 t (ix2 p k) : EReal) = stream m c (ix2 (row t p) k) := by
  obtain ⟨e0, e1⟩ := index0 t
  rw [← V_stream]
  exact congrArg (V m c main_arg0 : S8192x1024.Idx → EReal) (Common.ext2 (by show win0_0.index t (0 : Fin 2) * 512 + 1 * p.val = 512 * t.val + p.val; omega)
    (by show win0_0.index t (1 : Fin 2) * 1024 + 1 * k.val = k.val; omega))

theorem iblk_rows (c : Dev nD) (t : Fin cfg0.N) (p : Fin 8) (k : Fin 1024) :
    (iblk m c 1 t (ix2 p k) : EReal) = rows (norm m c) (shift m c) (scale m c) (ix2 p k) := by
  obtain ⟨e0, e1⟩ := index1 t
  rw [← V_rows]
  exact congrArg (V m c main_v4 : S8x1024.Idx → EReal) (Common.ext2 (by show win0_1.index t (0 : Fin 2) * 8 + 1 * p.val = p.val; omega)
    (by show win0_1.index t (1 : Fin 2) * 1024 + 1 * k.val = k.val; omega))

theorem iblk_weight (c : Dev nD) (t : Fin cfg0.N) (p : Fin 1024) (k : Fin 2048) :
    (iblk m c 2 t (ix2 p k) : EReal) = weight m c (ix2 p k) := by
  obtain ⟨e0, e1⟩ := index2 t
  rw [← V_weight]
  exact congrArg (V m c main_v5 : S1024x2048.Idx → EReal) (Common.ext2 (by show win0_2.index t (0 : Fin 2) * 1024 + 1 * p.val = p.val; omega)
    (by show win0_2.index t (1 : Fin 2) * 2048 + 1 * k.val = k.val; omega))

theorem iblk_bias (c : Dev nD) (t : Fin cfg0.N) (p : Fin 8) (k : Fin 2048) :
    (iblk m c 3 t (ix2 p k) : EReal) = biasRows (bias m c) (ix2 p k) := by
  obtain ⟨e0, e1⟩ := index3 t
  rw [← V_bias]
  exact congrArg (V m c main_v8 : S8x2048.Idx → EReal) (Common.ext2 (by show win0_3.index t (0 : Fin 2) * 8 + 1 * p.val = p.val; omega)
    (by show win0_3.index t (1 : Fin 2) * 2048 + 1 * k.val = k.val; omega))

/-! ## The two output arrays -/

/-- An entry of the normalized and modulated rows, from the rows, the norm's scale and the modulation's shift and scale. -/
def modOf (x : S8192x1024.Idx → EReal) (g sh sc : S1024.Idx → EReal) (r : Fin 8192) (k : Fin 1024) : EReal :=
  x (ix2 r k) * Ideal.rsqrt (Ideal.div (∑ j : Fin 1024, x (ix2 r j) * x (ix2 r j)) len + eps) * g (ix1 k) * (one + sc (ix1 k)) + sh (ix1 k)

/-- The same of this call's arguments. -/
def modAt (c : Dev nD) : Fin 8192 → Fin 1024 → EReal := modOf (stream m c) (norm m c) (shift m c) (scale m c)

/-- An entry of their product with the weight, plus the bias. -/
def preAt (c : Dev nD) (r : Fin 8192) (q : Fin 2048) : EReal := (∑ k : Fin 1024, modAt m c r k * weight m c (ix2 k q)) + bias m c (ix1 q)

/-- The two results: the modulated rows and the product. -/
def hn (c : Dev nD) : S8192x1024.Idx → EReal := fun z => modAt m c (z 0) (z 1)
def pre (c : Dev nD) : S8192x2048.Idx → EReal := fun z => preAt m c (z 0) (z 1)

theorem mod_eq (c : Dev nD) (t : Fin cfg0.N) (p : Fin 512) (k : Fin 1024) :
    (k0_pay1 (iblk m c 0 t) (iblk m c 1 t) (ix2 p k) : EReal) = modAt m c (row t p) k := by
  refine (pay1_apply _ _ p k).trans ?_
  unfold modAt modOf
  simp only [iblk_stream, iblk_rows, rows_0, rows_1, rows_2]

theorem pre_eq (c : Dev nD) (t : Fin cfg0.N) (p : Fin 512) (q : Fin 2048) :
    (k0_pay2 (iblk m c 0 t) (iblk m c 1 t) (iblk m c 2 t) (biasRow (iblk m c 3 t)) (ix2 p q) : EReal) = preAt m c (row t p) q := by
  refine (pay2_apply _ _ _ _ p q).trans ?_
  unfold preAt
  simp only [mod_eq, iblk_weight, iblk_bias, biasRows_0]

theorem final_hn (c : Dev nD) : (dats m 0 c).arrAt 4 cfg0.N = hn m c := by
  refine (dats m 0 c).arrAt_eq_of_covers 4 _ (by decide +kernel) fun t hf y => ?_
  obtain ⟨e0, e1⟩ := index4 t
  rw [after0_4]
  have hx : ((cfg0.win 4).blk t).view.emb y = ix2 (row t (y (0 : Fin 2))) (y (1 : Fin 2) : Fin 1024) := Common.ext2
    (by show win0_4.index t (0 : Fin 2) * 512 + 1 * (y (0 : Fin 2)).val = 512 * t.val + (y (0 : Fin 2)).val; omega)
    (by show win0_4.index t (1 : Fin 2) * 1024 + 1 * (y (1 : Fin 2)).val = (y (1 : Fin 2)).val; omega)
  rw [out_rows, hx]
  show (k0_pay1 (iblk m c 0 t) (iblk m c 1 t) y : EReal) = modAt m c (row t (y (0 : Fin 2))) (y (1 : Fin 2))
  exact (congrArg _ (Common.eta y)).trans (mod_eq m c t _ _)

theorem final_pre (c : Dev nD) : (dats m 0 c).arrAt 5 cfg0.N = pre m c := by
  refine (dats m 0 c).arrAt_eq_of_covers 5 _ (by decide +kernel) fun t hf y => ?_
  obtain ⟨e0, e1⟩ := index5 t
  rw [after0_5]
  have hx : ((cfg0.win 5).blk t).view.emb y = ix2 (row t (y (0 : Fin 2))) (y (1 : Fin 2) : Fin 2048) := Common.ext2
    (by show win0_5.index t (0 : Fin 2) * 512 + 1 * (y (0 : Fin 2)).val = 512 * t.val + (y (0 : Fin 2)).val; omega)
    (by show win0_5.index t (1 : Fin 2) * 2048 + 1 * (y (1 : Fin 2)).val = (y (1 : Fin 2)).val; omega)
  rw [out_pre, hx]
  show (k0_pay2 (iblk m c 0 t) (iblk m c 1 t) (iblk m c 2 t) (biasRow (iblk m c 3 t)) y : EReal) = preAt m c (row t (y (0 : Fin 2))) (y (1 : Fin 2))
  exact (congrArg _ (Common.eta y)).trans (pre_eq m c t _ _)

/-! ## The results -/

theorem tail_hn (c : Dev nD) : Pipeline.afterTail₀ cfgs (dats m) 0 (V0 m) [hostOps1] c main_v10 = hn m c := by
  unfold Pipeline.afterTail₀
  simp only [hostOps1, List.flatten_singleton]
  after_results_simp
  exact (Pipeline.withArrays_arr spec0 (by decide) c (V0 m c) (fun w => (dats m 0 c).arrAt w cfg0.N) 4).trans (final_hn m c)

/-! ## The reference -/

open Cert.Reference14Ideal.Read

/-- The reference's modulated rows, entry by entry. -/
theorem ref_mod (x : S8192x1024.Idx → EReal) (g sh sc : S1024.Idx → EReal) (r : Fin 8192) (k : Fin 1024) :
    (val_main_v20 (F := Ideal) x g sh sc (ix2 r k) : EReal) = modOf x g sh sc r k := by
  rw [val_main_v20_apply, val_main_v17_apply, val_main_v12_apply, val_main_v9_apply, val_main_v8_apply, val_main_v7_apply, val_main_v6_apply,
    val_main_v4_apply, val_main_v2_apply, val_main_v1_apply, val_main_v3_apply, val_main_v5_apply, val_main_v11_apply, val_main_v10_apply,
    val_main_v16_apply, val_main_v15_apply, val_main_v14_apply, val_main_v13_apply, val_main_v19_apply, val_main_v18_apply, val_main_cst_apply,
    val_main_cst_0_apply, val_main_cst_1_apply, val_main_cst_2_apply]
  have zero : (FloatOps.ofBits (F := Ideal) .f32 0x00000000#32 : EReal) = 0 := zero_bits
  have i1 : idx_main_v10 (idx_main_v11 (ix2 r k)) = ix1 k := funext fun a => by
    match a with
    | ⟨0, _⟩ => rfl
  have i2 : idx_main_v13 (idx_main_v16 (ix2 r k)) = ix1 k := funext fun a => by
    match a with
    | ⟨0, _⟩ => rfl
  have i3 : idx_main_v18 (idx_main_v19 (ix2 r k)) = ix1 k := funext fun a => by
    match a with
    | ⟨0, _⟩ => rfl
  rw [i1, i2, i3, zero, zero_add]
  unfold modOf
  refine congrArg₂ (fun a b : EReal => a + b) (congrArg₂ (fun a b : EReal => a * b) (congrArg₂ (fun a b : EReal => a * b)
    (congrArg (fun s : EReal => x (ix2 r k) * Ideal.rsqrt (Ideal.div s len + eps)) (Finset.sum_congr rfl fun j _ => ?_)) rfl) rfl) rfl
  have hj : idx_main_v1 (idx_main_v2 (idx_main_v8 (ix2 r k))) j = ix2 r (j : Fin 1024) := Common.ext2 rfl rfl
  rw [val_main_v0_apply, hj]
  rfl

/-- The reference's product, entry by entry. -/
theorem ref_pre_apply (c : Dev nD) (r : Fin 8192) (q : Fin 2048) :
    (val_main_v24 (F := Ideal) (stream m c) (norm m c) (shift m c) (scale m c) (weight m c) (bias m c) (ix2 r q) : EReal) = preAt m c r q := by
  rw [val_main_v24_apply, val_main_v21_apply, val_main_v23_apply, val_main_v22_apply]
  have i1 : idx_main_v22 (idx_main_v23 (ix2 r q)) = ix1 q := funext fun a => by
    match a with
    | ⟨0, _⟩ => rfl
  rw [i1]
  unfold preAt
  refine congrArg (fun s : EReal => s + bias m c (ix1 q)) (Finset.sum_congr rfl fun k _ =>
    congrArg₂ (fun a b : EReal => a * b) ((congrArg _ (funext fun a => ?_)).trans (ref_mod _ _ _ _ r k)) (congrArg (weight m c) (funext fun a => ?_)))
  · match a with
    | ⟨0, _⟩ => rfl
    | ⟨1, _⟩ => rfl
  · match a with
    | ⟨0, _⟩ => rfl
    | ⟨1, _⟩ => rfl

/-- The reference's two results are the kernel's. -/
theorem ref_hn (c : Dev nD) : (val_main_v20 (F := Ideal) (stream m c) (norm m c) (shift m c) (scale m c) : S8192x1024.Idx → EReal) = hn m c :=
  funext fun z => (congrArg _ (Common.eta z)).trans (ref_mod _ _ _ _ (z 0) (z 1))
theorem ref_pre (c : Dev nD) : (val_main_v24 (F := Ideal) (stream m c) (norm m c) (shift m c) (scale m c) (weight m c) (bias m c) : S8192x2048.Idx → EReal) = pre m c :=
  funext fun z => (congrArg _ (Common.eta z)).trans (ref_pre_apply m c (z 0) (z 1))

end Cert.Kernel14Ideal.ConvIn

end
-- ==== Proof.FfnFwd.lean ====
module

public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.ConvInFwd

/-! The forward call of a feed-forward layer. Each point of its grid takes 512 rows of the residual stream. It normalizes
    and modulates them, multiplies them by the two halves of the first weight, applies the gated activation and adds
    the gated product with the second weight. The 2816 hidden columns are worked in two chunks, of 1536 and 1280
    columns. Over the extended reals its four results are those of the reference, from any arguments. -/

@[expose] public section

set_option maxRecDepth 16384

noncomputable section

namespace Cert.Kernel4Ideal.FfnFwd

open Idealize.ShloMosaic Idealize.ShloMosaic.TcCoe Idealize.ShloMosaic.Tactic Idealize.SL.Sem
open Idealize.ShloMosaic.Pipeline (Dat)
open Cert.Kernel4Ideal Cert.Kernel4Ideal.Gen

open Cert.Common (zeros2 zero_bits)
open Cert.Kernel14Ideal.ConvIn (len eps one modOf)

/-! ## The products of matrices -/

/-- The product with the first chunk of rows of the second weight, entry by entry. -/
theorem prod_down0 (x : FVec Ideal S512x1536 .bf16) (y : FVec Ideal S1536x1024 .bf16) (p : Fin 512) (q : Fin 1024) :
    (matmul dot_S512x1536_S1536x1024_S512x1024_1_0_0_1_n_n none x y (constant (F := Ideal) S512x1024 .f32 0x00000000#32) (ix2 p q) : EReal)
      = ∑ r : Fin 1536, (x (ix2 p r) : EReal) * (y (ix2 r q) : EReal) := by
  exact Common.nn x y p q

/-- The product with the second chunk of rows of the second weight, entry by entry. -/
theorem prod_down1 (x : FVec Ideal S512x1280 .bf16) (y : FVec Ideal S1280x1024 .bf16) (p : Fin 512) (q : Fin 1024) :
    (matmul dot_S512x1280_S1280x1024_S512x1024_1_0_0_1_n_n none x y (constant (F := Ideal) S512x1024 .f32 0x00000000#32) (ix2 p q) : EReal)
      = ∑ r : Fin 1280, (x (ix2 p r) : EReal) * (y (ix2 r q) : EReal) := by
  exact Common.nn x y p q

/-! ## What one point of the grid computes -/

/-- The constants that the programs write: the row length, the number added to the mean square, one and one half. -/
def half : EReal := Ideal.ofBits .f32 0x3F000000#32

theorem one_eq : one = 1 := by
  unfold one
  simp [Ideal.ofBits, Ideal.ieee]
  rw [← EReal.coe_mul]
  norm_num

/-- A hidden entry from the two products: the first, times its logistic, times the second. -/
def glu (a b : EReal) : EReal := a * Ideal.logistic a * b

section
variable (x0 : Vec Ideal S512x1024 .f32) (x1 : Vec Ideal S8x1024 .f32) (x2 : Vec Ideal S1024x5632 .bf16) (x3 : Vec Ideal S2816x1024 .bf16)

/-- The four pieces of the first weight and the two of the second that a point reads. -/
def wa0 : Vec Ideal S1024x1536 .bf16 := View.ld x2 (Rect.unit (s := S1024x5632) ![0, 0] S1024x1536.size inb_S1024x5632_S1024x1536_0_0)
def wb0 : Vec Ideal S1024x1536 .bf16 := View.ld x2 (Rect.unit (s := S1024x5632) ![0, 2816] S1024x1536.size inb_S1024x5632_S1024x1536_0_2816)
def wa1 : Vec Ideal S1024x1280 .bf16 := View.ld x2 (Rect.unit (s := S1024x5632) ![0, 1536] S1024x1280.size inb_S1024x5632_S1024x1280_0_1536)
def wb1 : Vec Ideal S1024x1280 .bf16 := View.ld x2 (Rect.unit (s := S1024x5632) ![0, 4352] S1024x1280.size inb_S1024x5632_S1024x1280_0_4352)
def wc0 : Vec Ideal S1536x1024 .bf16 := View.ld x3 (Rect.unit (s := S2816x1024) ![0, 0] S1536x1024.size inb_S2816x1024_S1536x1024_0_0)
def wc1 : Vec Ideal S1280x1024 .bf16 := View.ld x3 (Rect.unit (s := S2816x1024) ![1536, 0] S1280x1024.size inb_S2816x1024_S1280x1024_1536_0)

/-- The normalized and modulated rows, entry by entry. -/
theorem pay7_apply (p : Fin 512) (k : Fin 1024) :
    (k0_pay7 x0 x1 (ix2 p k) : EReal)
      = (x0 (ix2 p k) : EReal) * Ideal.rsqrt (Ideal.div (∑ j : Fin 1024, (x0 (ix2 p j) : EReal) * (x0 (ix2 p j) : EReal)) len + eps)
        * (x1 (ix2 (0 : Fin 8) k) : EReal) * (one + (x1 (ix2 (2 : Fin 8) k) : EReal)) + (x1 (ix2 (1 : Fin 8) k) : EReal) := by
  exact Cert.Kernel14Ideal.ConvIn.pay1_apply x0 x1 p k

theorem wa0_apply (k : Fin 1024) (j : Fin 1536) (i : Fin 5632) (h : i.val = j.val) : (wa0 x2 (ix2 k j) : EReal) = x2 (ix2 k i) :=
  Common.cut x2 _ k j k i (Nat.zero_add _).symm (by omega)
theorem wb0_apply (k : Fin 1024) (j : Fin 1536) (i : Fin 5632) (h : i.val = 2816 + j.val) : (wb0 x2 (ix2 k j) : EReal) = x2 (ix2 k i) :=
  Common.cut x2 _ k j k i (Nat.zero_add _).symm h
theorem wa1_apply (k : Fin 1024) (j : Fin 1280) (i : Fin 5632) (h : i.val = 1536 + j.val) : (wa1 x2 (ix2 k j) : EReal) = x2 (ix2 k i) :=
  Common.cut x2 _ k j k i (Nat.zero_add _).symm h
theorem wb1_apply (k : Fin 1024) (j : Fin 1280) (i : Fin 5632) (h : i.val = 4352 + j.val) : (wb1 x2 (ix2 k j) : EReal) = x2 (ix2 k i) :=
  Common.cut x2 _ k j k i (Nat.zero_add _).symm h
theorem wc0_apply (j : Fin 1536) (d : Fin 1024) (i : Fin 2816) (h : i.val = j.val) : (wc0 x3 (ix2 j d) : EReal) = x3 (ix2 i d) :=
  Common.cut x3 _ j d i d (by omega) (Nat.zero_add _).symm
theorem wc1_apply (j : Fin 1280) (d : Fin 1024) (i : Fin 2816) (h : i.val = 1536 + j.val) : (wc1 x3 (ix2 j d) : EReal) = x3 (ix2 i d) :=
  Common.cut x3 _ j d i d h (Nat.zero_add _).symm

/-- An entry of the product of the modulated rows and the first weight. -/
def up (p : Fin 512) (i : Fin 5632) : EReal := ∑ k : Fin 1024, (k0_pay7 x0 x1 (ix2 p k) : EReal) * (x2 (ix2 k i) : EReal)

theorem pay9_apply (p : Fin 512) (j : Fin 1536) (i : Fin 5632) (h : i.val = j.val) : (k0_pay9 x0 x1 (wa0 x2) (ix2 p j) : EReal) = up x0 x1 x2 p i := by
  unfold k0_pay9
  simp only [shapeCast_self]
  exact (Common.nn (k0_pay7 x0 x1) (wa0 x2) p j).trans (Finset.sum_congr rfl fun k _ => congrArg _ (wa0_apply x2 k j i h))
theorem pay10_apply (p : Fin 512) (j : Fin 1536) (i : Fin 5632) (h : i.val = 2816 + j.val) : (k0_pay10 x0 x1 (wb0 x2) (ix2 p j) : EReal) = up x0 x1 x2 p i := by
  unfold k0_pay10
  simp only [shapeCast_self]
  exact (Common.nn (k0_pay7 x0 x1) (wb0 x2) p j).trans (Finset.sum_congr rfl fun k _ => congrArg _ (wb0_apply x2 k j i h))
theorem pay1_apply (p : Fin 512) (j : Fin 1280) (i : Fin 5632) (h : i.val = 1536 + j.val) : (k0_pay1 (k0_pay7 x0 x1) (wa1 x2) (ix2 p j) : EReal) = up x0 x1 x2 p i := by
  unfold k0_pay1
  simp only [shapeCast_self]
  exact (Common.nn (k0_pay7 x0 x1) (wa1 x2) p j).trans (Finset.sum_congr rfl fun k _ => congrArg _ (wa1_apply x2 k j i h))
theorem pay2_apply (p : Fin 512) (j : Fin 1280) (i : Fin 5632) (h : i.val = 4352 + j.val) : (k0_pay2 (k0_pay7 x0 x1) (wb1 x2) (ix2 p j) : EReal) = up x0 x1 x2 p i := by
  unfold k0_pay2
  simp only [shapeCast_self]
  exact (Common.nn (k0_pay7 x0 x1) (wb1 x2) p j).trans (Finset.sum_congr rfl fun k _ => congrArg _ (wb1_apply x2 k j i h))

/-- The column of the first weight's first half and the one of its second half that make hidden column `j`. -/
def ca (j : Fin 2816) : Fin 5632 := ⟨j.val, by have := j.isLt; omega⟩
def cb (j : Fin 2816) : Fin 5632 := ⟨2816 + j.val, by have := j.isLt; omega⟩

/-- A sum over the hidden columns is the sum over the first chunk plus the sum over the second. -/
theorem sum_chunks (f : Fin 2816 → EReal) :
    (∑ j : Fin 1536, f ⟨j.val, by have := j.isLt; omega⟩) + ∑ j : Fin 1280, f ⟨1536 + j.val, by have := j.isLt; omega⟩ = ∑ j : Fin 2816, f j :=
  (Fin.sum_univ_add (a := 1536) (b := 1280) f).symm

/-- The result's rows, entry by entry: the input plus the halved gate times the product of the hidden row and the
    second weight. -/
theorem pay5_apply (p : Fin 512) (d : Fin 1024) :
    (k0_pay5 x0 (k0_pay6 x1) (k0_pay7 x0 x1) (k0_pay8 (F := Ideal)) (k0_pay9 x0 x1 (wa0 x2)) (k0_pay10 x0 x1 (wb0 x2)) (wc0 x3) (wa1 x2) (wb1 x2) (wc1 x3)
        (ix2 p d) : EReal)
      = (x0 (ix2 p d) : EReal) + half * (x1 (ix2 (3 : Fin 8) d) : EReal)
        * ∑ j : Fin 2816, glu (up x0 x1 x2 p (ca j)) (up x0 x1 x2 p (cb j)) * (x3 (ix2 j d) : EReal) := by
  have cut3 : (extractStridedSlice S1x1024 ![3, 0] x1 slices_S8x1024_o3_0_S1x1024 (ix2 (0 : Fin 1) d) : EReal) = x1 (ix2 (3 : Fin 8) d) :=
    extractStridedSlice_apply ![3, 0] x1 slices_S8x1024_o3_0_S1x1024 (ix2 (0 : Fin 1) d) (ix2 (3 : Fin 8) d) fun a => match a with
      | ⟨0, _⟩ => rfl
      | ⟨1, _⟩ => by show d.val = 0 + d.val; omega
  unfold k0_pay5 k0_pay6 k0_pay8
  simp only [shapeCast_self]
  show (x0 (ix2 p d) : EReal) + (broadcastTo S512x1024 _ broadcasts_S1x1024_S512x1024 (ix2 p d) : EReal)
    * ((Ideal.ofBits .f32 0x00000000#32 + (matmul (F := Ideal) dot_S512x1536_S1536x1024_S512x1024_1_0_0_1_n_n none _ _ (constant (F := Ideal) S512x1024 .f32 0x00000000#32) (ix2 p d) : EReal))
      + (matmul (F := Ideal) dot_S512x1280_S1280x1024_S512x1024_1_0_0_1_n_n none _ _ (constant (F := Ideal) S512x1024 .f32 0x00000000#32) (ix2 p d) : EReal)) = _
  rw [Common.row, zero_bits, zero_add, prod_down0, prod_down1]
  refine congrArg ((x0 (ix2 p d) : EReal) + ·) (congrArg₂ (fun a b : EReal => a * b) ?_ ?_)
  · show half * (extractStridedSlice S1x1024 ![3, 0] x1 slices_S8x1024_o3_0_S1x1024 (ix2 (0 : Fin 1) d) : EReal) = _
    rw [cut3]
  · rw [← sum_chunks]
    refine congrArg₂ (fun a b : EReal => a + b) (Finset.sum_congr rfl fun j _ => ?_) (Finset.sum_congr rfl fun j _ => ?_)
    · refine congrArg₂ (fun a b : EReal => a * b) ?_ (wc0_apply x3 j d _ rfl)
      exact congrArg₂ glu (pay9_apply x0 x1 x2 p j _ rfl) (pay10_apply x0 x1 x2 p j _ rfl)
    · refine congrArg₂ (fun a b : EReal => a * b) ?_ (wc1_apply x3 j d _ rfl)
      exact congrArg₂ glu (pay1_apply x0 x1 x2 p j _ rfl) (pay2_apply x0 x1 x2 p j _ (by show 2816 + (1536 + j.val) = _; omega))

variable (c : Dev nD) (i : grid0.Coords) (a1 : Memref sig .tc .vmem S512x1024 .f32) (h1 : a1.IsWhole) (a2 : Memref sig .tc .vmem S8x1024 .f32) (h2 : a2.IsWhole)
  (a3 : Memref sig .tc .vmem S1024x5632 .bf16) (h3 : a3.IsWhole) (a4 : Memref sig .tc .vmem S2816x1024 .bf16) (h4 : a4.IsWhole)
  (a5 : Memref sig .tc .vmem S512x1024 .f32) (h5 : a5.IsWhole) (a6 : Memref sig .tc .vmem S512x1024 .bf16) (h6 : a6.IsWhole)
  (a7 : Memref sig .tc .vmem S512x2816 .bf16) (h7 : a7.IsWhole) (a8 : Memref sig .tc .vmem S512x2816 .bf16) (h8 : a8.IsWhole)

/-- The block of the residual stream that a point writes. -/
theorem out_stream : out0_A_4 c i a1 h1 a2 h2 a3 h3 a4 h4 a5 h5 a6 h6 a7 h7 a8 h8 x0 x1 x2 x3
    = k0_pay5 x0 (k0_pay6 x1) (k0_pay7 x0 x1) (k0_pay8 (F := Ideal)) (k0_pay9 x0 x1 (wa0 x2)) (k0_pay10 x0 x1 (wb0 x2)) (wc0 x3) (wa1 x2) (wb1 x2) (wc1 x3) := by
  unfold out0_A_4
  rw [View.read_writes_eq_canon _ _ _ (cover0_A_4 c i a1 h1 a2 h2 a3 h3 a4 h4 a5 h5 a6 h6 a7 h7 a8 h8 x0 x1 x2 x3)]
  unfold kernelRun0_A
  dsimp only
  sl_unfold_words
  rw [View.canon_unit_zero zeros2]
  simp only [View.readAt_eq_ld, h1.read_unread, h2.read_unread, h3.read_unread, h4.read_unread, View.ld_unit_zero (S := S512x1024) zeros2,
    View.ld_unit_zero (S := S8x1024) zeros2]
  rfl

/-- The block of modulated rows that a point writes. -/
theorem out_rows : out0_A_5 c i a1 h1 a2 h2 a3 h3 a4 h4 a5 h5 a6 h6 a7 h7 a8 h8 x0 x1 x2 x3 = k0_pay7 x0 x1 := by
  unfold out0_A_5
  rw [View.read_writes_eq_canon _ _ _ (cover0_A_5 c i a1 h1 a2 h2 a3 h3 a4 h4 a5 h5 a6 h6 a7 h7 a8 h8 x0 x1 x2 x3)]
  unfold kernelRun0_A
  dsimp only
  sl_unfold_words
  rw [View.canon_unit_zero zeros2]
  simp only [View.readAt_eq_ld, h1.read_unread, h2.read_unread, View.ld_unit_zero (S := S512x1024) zeros2,
    View.ld_unit_zero (S := S8x1024) zeros2]

/-- The block of the first product that a point writes, in its two chunks. -/
theorem out_a (p : Fin 512) (j : Fin 2816) :
    (out0_A_6 c i a1 h1 a2 h2 a3 h3 a4 h4 a5 h5 a6 h6 a7 h7 a8 h8 x0 x1 x2 x3 (ix2 p j) : EReal) = up x0 x1 x2 p (ca j) := by
  unfold out0_A_6
  rw [View.read_writes_eq_canon _ _ _ (cover0_A_6 c i a1 h1 a2 h2 a3 h3 a4 h4 a5 h5 a6 h6 a7 h7 a8 h8 x0 x1 x2 x3)]
  refine View.canon_eq_of_allAt _ _ _ (cover0_A_6 c i a1 h1 a2 h2 a3 h3 a4 h4 a5 h5 a6 h6 a7 h7 a8 h8 x0 x1 x2 x3 (ix2 p j)) ?_
  unfold kernelRun0_A
  dsimp only
  sl_unfold_words
  simp only [View.readAt_eq_ld, h1.read_unread, h2.read_unread, h3.read_unread, View.ld_unit_zero (S := S512x1024) zeros2,
    View.ld_unit_zero (S := S8x1024) zeros2]
  refine View.allAt_cons_unit _ _ _ _ _ (fun x hx => ?_) (View.allAt_cons_unit _ _ _ _ _ (fun x hx => ?_) (View.allAt_nil _ _))
  · have e0 : p.val = 0 + (x (0 : Fin 2)).val := hx 0
    have e1 : j.val = 1536 + (x (1 : Fin 2)).val := hx 1
    have ex : x = ix2 (p : Fin 512) (x (1 : Fin 2) : Fin 1280) := funext fun a => by
      match a with
      | ⟨0, _⟩ => exact Fin.ext (by show (x (0 : Fin 2)).val = p.val; omega)
      | ⟨1, _⟩ => rfl
    rw [ex]
    exact pay1_apply x0 x1 x2 p (x (1 : Fin 2)) (ca j) (by show j.val = 1536 + (x (1 : Fin 2)).val; omega)
  · have e0 : p.val = 0 + (x (0 : Fin 2)).val := hx 0
    have e1 : j.val = 0 + (x (1 : Fin 2)).val := hx 1
    have ex : x = ix2 (p : Fin 512) (x (1 : Fin 2) : Fin 1536) := funext fun a => by
      match a with
      | ⟨0, _⟩ => exact Fin.ext (by show (x (0 : Fin 2)).val = p.val; omega)
      | ⟨1, _⟩ => rfl
    rw [ex]
    exact pay9_apply x0 x1 x2 p (x (1 : Fin 2)) (ca j) (by show j.val = (x (1 : Fin 2)).val; omega)

/-- The block of the second product that a point writes, in its two chunks. -/
theorem out_b (p : Fin 512) (j : Fin 2816) :
    (out0_A_7 c i a1 h1 a2 h2 a3 h3 a4 h4 a5 h5 a6 h6 a7 h7 a8 h8 x0 x1 x2 x3 (ix2 p j) : EReal) = up x0 x1 x2 p (cb j) := by
  unfold out0_A_7
  rw [View.read_writes_eq_canon _ _ _ (cover0_A_7 c i a1 h1 a2 h2 a3 h3 a4 h4 a5 h5 a6 h6 a7 h7 a8 h8 x0 x1 x2 x3)]
  refine View.canon_eq_of_allAt _ _ _ (cover0_A_7 c i a1 h1 a2 h2 a3 h3 a4 h4 a5 h5 a6 h6 a7 h7 a8 h8 x0 x1 x2 x3 (ix2 p j)) ?_
  unfold kernelRun0_A
  dsimp only
  sl_unfold_words
  simp only [View.readAt_eq_ld, h1.read_unread, h2.read_unread, h3.read_unread, View.ld_unit_zero (S := S512x1024) zeros2,
    View.ld_unit_zero (S := S8x1024) zeros2]
  refine View.allAt_cons_unit _ _ _ _ _ (fun x hx => ?_) (View.allAt_cons_unit _ _ _ _ _ (fun x hx => ?_) (View.allAt_nil _ _))
  · have e0 : p.val = 0 + (x (0 : Fin 2)).val := hx 0
    have e1 : j.val = 1536 + (x (1 : Fin 2)).val := hx 1
    have ex : x = ix2 (p : Fin 512) (x (1 : Fin 2) : Fin 1280) := funext fun a => by
      match a with
      | ⟨0, _⟩ => exact Fin.ext (by show (x (0 : Fin 2)).val = p.val; omega)
      | ⟨1, _⟩ => rfl
    rw [ex]
    exact pay2_apply x0 x1 x2 p (x (1 : Fin 2)) (cb j) (by show 2816 + j.val = 4352 + (x (1 : Fin 2)).val; omega)
  · have e0 : p.val = 0 + (x (0 : Fin 2)).val := hx 0
    have e1 : j.val = 0 + (x (1 : Fin 2)).val := hx 1
    have ex : x = ix2 (p : Fin 512) (x (1 : Fin 2) : Fin 1536) := funext fun a => by
      match a with
      | ⟨0, _⟩ => exact Fin.ext (by show (x (0 : Fin 2)).val = p.val; omega)
      | ⟨1, _⟩ => rfl
    rw [ex]
    exact pay10_apply x0 x1 x2 p (x (1 : Fin 2)) (cb j) (by show 2816 + j.val = 2816 + (x (1 : Fin 2)).val; omega)

end

/-! ## The arrays that the call reads -/

variable (m : (ℓ : Loc nD τ sig) → Buf (Elt Ideal) ℓ)

/-- The residual stream, the four rows (the norm's scale, the modulation's shift and scale, the gate) and the two weights. -/
def stream (c : Dev nD) : S8192x1024.Idx → EReal := m (c.tc.loc main_arg0)
def norm (c : Dev nD) : S1024.Idx → EReal := m (c.tc.loc main_arg1)
def shift (c : Dev nD) : S1024.Idx → EReal := m (c.tc.loc main_arg2)
def scale (c : Dev nD) : S1024.Idx → EReal := m (c.tc.loc main_arg3)
def gate (c : Dev nD) : S1024.Idx → EReal := m (c.tc.loc main_arg4)
def first (c : Dev nD) : S1024x5632.Idx → EReal := m (c.tc.loc main_arg5)
def second (c : Dev nD) : S2816x1024.Idx → EReal := m (c.tc.loc main_arg6)

theorem V_stream (c : Dev nD) : (V m c main_arg0 : S8192x1024.Idx → EReal) = stream m c := by
  unfold stream
  simp only [V, V0, hostOps0, List.flatten_singleton]
  after_results_simp <;> rfl

theorem V_first (c : Dev nD) : (V m c main_v6 : S1024x5632.Idx → EReal) = first m c := by
  unfold first
  simp only [V, V0, hostOps0, List.flatten_singleton]
  after_results_simp <;> rfl

theorem V_second (c : Dev nD) : (V m c main_v7 : S2816x1024.Idx → EReal) = second m c := by
  unfold second
  simp only [V, V0, hostOps0, List.flatten_singleton]
  after_results_simp <;> rfl

/-- The eight-row array that carries the four rows, as the lines before the call make it. -/
abbrev pieces (g sh sc ga : S1024.Idx → EReal) : List ((s : Shape) × (s.Idx → EReal)) :=
    [⟨S1x1024, shapeCast S1x1024 g shapeCasts_S1024_S1x1024⟩, ⟨S1x1024, shapeCast S1x1024 sh shapeCasts_S1024_S1x1024⟩,
      ⟨S1x1024, shapeCast S1x1024 sc shapeCasts_S1024_S1x1024⟩, ⟨S1x1024, shapeCast S1x1024 ga shapeCasts_S1024_S1x1024⟩,
      ⟨S4x1024, broadcastInDim S4x1024 ![] bcast_S_S4x1024 (constant (F := Ideal) S_ .f32 0x00000000#32)⟩]
def rows (g sh sc ga : S1024.Idx → EReal) : S8x1024.Idx → EReal := concatenate S8x1024 0 (pieces g sh sc ga)
    concatenates_S1x1024_S1x1024_S1x1024_S1x1024_S4x1024_S8x1024_d0

theorem V_rows (c : Dev nD) : (V m c main_v5 : S8x1024.Idx → EReal) = rows (norm m c) (shift m c) (scale m c) (gate m c) := by
  unfold norm shift scale gate rows
  simp only [V, V0, hostOps0, List.flatten_singleton]
  after_results_simp <;> rfl

/-- A row taken as a one-row array. -/
theorem cast_row (v : S1024.Idx → EReal) (q : Fin 1024) : shapeCast S1x1024 v shapeCasts_S1024_S1x1024 (ix2 (0 : Fin 1) q) = v (ix1 q) := by
  refine shapeCast_apply _ shapeCasts_S1024_S1x1024 (ix2 (0 : Fin 1) q) (ix1 q) ?_
  rw [Shape.rowMajor_val_one, Shape.rowMajor_val_two]
  show q.val = 0 * 1024 + q.val
  omega

section
variable (g sh sc ga : S1024.Idx → EReal) (q : Fin 1024)

theorem rows_0 : rows g sh sc ga (ix2 (0 : Fin 8) q) = g (ix1 q) := by
  refine (concatenate_apply_piece (t := S8x1024) (0 : Fin 2) (pieces g sh sc ga) concatenates_S1x1024_S1x1024_S1x1024_S1x1024_S4x1024_S8x1024_d0 (ix2 (0 : Fin 8) q) 0 (by show 0 < 5; omega)
    S1x1024 (shapeCast S1x1024 g shapeCasts_S1024_S1x1024) rfl rfl 0 rfl (ix2 (0 : Fin 1) q) (fun b hb => ?_) rfl).trans (cast_row g q)
  match b with
  | ⟨0, _⟩ => exact absurd rfl hb
  | ⟨1, _⟩ => rfl

theorem rows_1 : rows g sh sc ga (ix2 (1 : Fin 8) q) = sh (ix1 q) := by
  refine (concatenate_apply_piece (t := S8x1024) (0 : Fin 2) (pieces g sh sc ga) concatenates_S1x1024_S1x1024_S1x1024_S1x1024_S4x1024_S8x1024_d0 (ix2 (1 : Fin 8) q) 1 (by show 1 < 5; omega)
    S1x1024 (shapeCast S1x1024 sh shapeCasts_S1024_S1x1024) rfl rfl 1 rfl (ix2 (0 : Fin 1) q) (fun b hb => ?_) rfl).trans (cast_row sh q)
  match b with
  | ⟨0, _⟩ => exact absurd rfl hb
  | ⟨1, _⟩ => rfl

theorem rows_2 : rows g sh sc ga (ix2 (2 : Fin 8) q) = sc (ix1 q) := by
  refine (concatenate_apply_piece (t := S8x1024) (0 : Fin 2) (pieces g sh sc ga) concatenates_S1x1024_S1x1024_S1x1024_S1x1024_S4x1024_S8x1024_d0 (ix2 (2 : Fin 8) q) 2 (by show 2 < 5; omega)
    S1x1024 (shapeCast S1x1024 sc shapeCasts_S1024_S1x1024) rfl rfl 2 rfl (ix2 (0 : Fin 1) q) (fun b hb => ?_) rfl).trans (cast_row sc q)
  match b with
  | ⟨0, _⟩ => exact absurd rfl hb
  | ⟨1, _⟩ => rfl

theorem rows_3 : rows g sh sc ga (ix2 (3 : Fin 8) q) = ga (ix1 q) := by
  refine (concatenate_apply_piece (t := S8x1024) (0 : Fin 2) (pieces g sh sc ga) concatenates_S1x1024_S1x1024_S1x1024_S1x1024_S4x1024_S8x1024_d0 (ix2 (3 : Fin 8) q) 3 (by show 3 < 5; omega)
    S1x1024 (shapeCast S1x1024 ga shapeCasts_S1024_S1x1024) rfl rfl 3 rfl (ix2 (0 : Fin 1) q) (fun b hb => ?_) rfl).trans (cast_row ga q)
  match b with
  | ⟨0, _⟩ => exact absurd rfl hb
  | ⟨1, _⟩ => rfl

end

theorem index0 : ∀ t : Fin cfg0.N, win0_0.index t (0 : Fin 2) = t.val ∧ win0_0.index t (1 : Fin 2) = 0 := by decide +kernel
theorem index1 : ∀ t : Fin cfg0.N, win0_1.index t (0 : Fin 2) = 0 ∧ win0_1.index t (1 : Fin 2) = 0 := by decide +kernel
theorem index2 : ∀ t : Fin cfg0.N, win0_2.index t (0 : Fin 2) = 0 ∧ win0_2.index t (1 : Fin 2) = 0 := by decide +kernel
theorem index3 : ∀ t : Fin cfg0.N, win0_3.index t (0 : Fin 2) = 0 ∧ win0_3.index t (1 : Fin 2) = 0 := by decide +kernel
theorem index4 : ∀ t : Fin cfg0.N, win0_4.index t (0 : Fin 2) = t.val ∧ win0_4.index t (1 : Fin 2) = 0 := by decide +kernel
theorem index5 : ∀ t : Fin cfg0.N, win0_5.index t (0 : Fin 2) = t.val ∧ win0_5.index t (1 : Fin 2) = 0 := by decide +kernel
theorem index6 : ∀ t : Fin cfg0.N, win0_6.index t (0 : Fin 2) = t.val ∧ win0_6.index t (1 : Fin 2) = 0 := by decide +kernel
theorem index7 : ∀ t : Fin cfg0.N, win0_7.index t (0 : Fin 2) = t.val ∧ win0_7.index t (1 : Fin 2) = 0 := by decide +kernel

/-- The row of the arrays that a point's row is. -/
def row (t : Fin cfg0.N) (p : Fin 512) : Fin 8192 := ⟨512 * t.val + p.val, by
  have hN : t.val < 16 := lt_of_lt_of_eq t.isLt N_0
  have := p.isLt
  omega⟩

theorem iblk_stream (c : Dev nD) (t : Fin cfg0.N) (p : Fin 512) (k : Fin 1024) :
    (iblk m c 0 t (ix2 p k) : EReal) = stream m c (ix2 (row t p) k) := by
  obtain ⟨e0, e1⟩ := index0 t
  rw [← V_stream]
  exact congrArg (V m c main_arg0 : S8192x1024.Idx → EReal) (Common.ext2 (by show win0_0.index t (0 : Fin 2) * 512 + 1 * p.val = 512 * t.val + p.val; omega)
    (by show win0_0.index t (1 : Fin 2) * 1024 + 1 * k.val = k.val; omega))

theorem iblk_rows (c : Dev nD) (t : Fin cfg0.N) (r : Fin 8) (k : Fin 1024) :
    (iblk m c 1 t (ix2 r k) : EReal) = rows (norm m c) (shift m c) (scale m c) (gate m c) (ix2 r k) := by
  obtain ⟨e0, e1⟩ := index1 t
  rw [← V_rows]
  exact congrArg (V m c main_v5 : S8x1024.Idx → EReal) (Common.ext2 (by show win0_1.index t (0 : Fin 2) * 8 + 1 * r.val = r.val; omega)
    (by show win0_1.index t (1 : Fin 2) * 1024 + 1 * k.val = k.val; omega))

theorem iblk_first (c : Dev nD) (t : Fin cfg0.N) (r : Fin 1024) (k : Fin 5632) :
    (iblk m c 2 t (ix2 r k) : EReal) = first m c (ix2 r k) := by
  obtain ⟨e0, e1⟩ := index2 t
  rw [← V_first]
  exact congrArg (V m c main_v6 : S1024x5632.Idx → EReal) (Common.ext2 (by show win0_2.index t (0 : Fin 2) * 1024 + 1 * r.val = r.val; omega)
    (by show win0_2.index t (1 : Fin 2) * 5632 + 1 * k.val = k.val; omega))

theorem iblk_second (c : Dev nD) (t : Fin cfg0.N) (r : Fin 2816) (k : Fin 1024) :
    (iblk m c 3 t (ix2 r k) : EReal) = second m c (ix2 r k) := by
  obtain ⟨e0, e1⟩ := index3 t
  rw [← V_second]
  exact congrArg (V m c main_v7 : S2816x1024.Idx → EReal) (Common.ext2 (by show win0_3.index t (0 : Fin 2) * 2816 + 1 * r.val = r.val; omega)
    (by show win0_3.index t (1 : Fin 2) * 1024 + 1 * k.val = k.val; omega))

/-! ## The four output arrays -/

/-- An entry of the normalized and modulated rows. -/
def modAt (c : Dev nD) : Fin 8192 → Fin 1024 → EReal := modOf (stream m c) (norm m c) (shift m c) (scale m c)

/-- An entry of their product with the first weight. -/
def upAt (c : Dev nD) (r : Fin 8192) (i : Fin 5632) : EReal := ∑ k : Fin 1024, modAt m c r k * first m c (ix2 k i)

/-- An entry of the new residual stream. -/
def outAt (c : Dev nD) (r : Fin 8192) (d : Fin 1024) : EReal :=
  stream m c (ix2 r d) + half * gate m c (ix1 d) * ∑ j : Fin 2816, glu (upAt m c r (ca j)) (upAt m c r (cb j)) * second m c (ix2 j d)

/-- The four results: the new residual stream, the modulated rows and the two halves of the first product. -/
def ho (c : Dev nD) : S8192x1024.Idx → EReal := fun z => outAt m c (z 0) (z 1)
def hn (c : Dev nD) : S8192x1024.Idx → EReal := fun z => modAt m c (z 0) (z 1)
def ga (c : Dev nD) : S8192x2816.Idx → EReal := fun z => upAt m c (z 0) (ca (z 1))
def gb (c : Dev nD) : S8192x2816.Idx → EReal := fun z => upAt m c (z 0) (cb (z 1))

theorem mod_eq (c : Dev nD) (t : Fin cfg0.N) (p : Fin 512) (k : Fin 1024) :
    (k0_pay7 (iblk m c 0 t) (iblk m c 1 t) (ix2 p k) : EReal) = modAt m c (row t p) k := by
  refine (pay7_apply _ _ p k).trans ?_
  unfold modAt modOf
  simp only [iblk_stream, iblk_rows, rows_0, rows_1, rows_2]

theorem up_eq (c : Dev nD) (t : Fin cfg0.N) (p : Fin 512) (i : Fin 5632) :
    up (iblk m c 0 t) (iblk m c 1 t) (iblk m c 2 t) p i = upAt m c (row t p) i := by
  unfold up upAt
  exact Finset.sum_congr rfl fun k _ => congrArg₂ (fun a b : EReal => a * b) (mod_eq m c t p k) (iblk_first m c t k i)

theorem out_eq (c : Dev nD) (t : Fin cfg0.N) (p : Fin 512) (d : Fin 1024) :
    (k0_pay5 (iblk m c 0 t) (k0_pay6 (iblk m c 1 t)) (k0_pay7 (iblk m c 0 t) (iblk m c 1 t)) (k0_pay8 (F := Ideal))
      (k0_pay9 (iblk m c 0 t) (iblk m c 1 t) (wa0 (iblk m c 2 t))) (k0_pay10 (iblk m c 0 t) (iblk m c 1 t) (wb0 (iblk m c 2 t)))
      (wc0 (iblk m c 3 t)) (wa1 (iblk m c 2 t)) (wb1 (iblk m c 2 t)) (wc1 (iblk m c 3 t)) (ix2 p d) : EReal) = outAt m c (row t p) d := by
  refine (pay5_apply _ _ _ _ p d).trans ?_
  unfold outAt
  simp only [iblk_stream, iblk_rows, rows_3, iblk_second, up_eq]

theorem final_ho (c : Dev nD) : (dats m 0 c).arrAt 4 cfg0.N = ho m c := by
  refine (dats m 0 c).arrAt_eq_of_covers 4 _ (by decide +kernel) fun t hf y => ?_
  obtain ⟨e0, e1⟩ := index4 t
  rw [after0_4]
  have hx : ((cfg0.win 4).blk t).view.emb y = ix2 (row t (y (0 : Fin 2))) (y (1 : Fin 2) : Fin 1024) := Common.ext2
    (by show win0_4.index t (0 : Fin 2) * 512 + 1 * (y (0 : Fin 2)).val = 512 * t.val + (y (0 : Fin 2)).val; omega)
    (by show win0_4.index t (1 : Fin 2) * 1024 + 1 * (y (1 : Fin 2)).val = (y (1 : Fin 2)).val; omega)
  show ((outsAt0 m c t).1 y : EReal) = ho m c (((cfg0.win 4).blk t).view.emb y)
  rw [hx]
  show ((outsAt0 m c t).1 y : EReal) = outAt m c (row t (y (0 : Fin 2))) (y (1 : Fin 2))
  unfold outsAt0
  dsimp only
  rw [out_stream]
  exact (congrArg _ (Common.eta (M := 512) (N := 1024) y)).trans (out_eq m c t _ _)

theorem final_hn (c : Dev nD) : (dats m 0 c).arrAt 5 cfg0.N = hn m c := by
  refine (dats m 0 c).arrAt_eq_of_covers 5 _ (by decide +kernel) fun t hf y => ?_
  obtain ⟨e0, e1⟩ := index5 t
  rw [after0_5]
  have hx : ((cfg0.win 5).blk t).view.emb y = ix2 (row t (y (0 : Fin 2))) (y (1 : Fin 2) : Fin 1024) := Common.ext2
    (by show win0_5.index t (0 : Fin 2) * 512 + 1 * (y (0 : Fin 2)).val = 512 * t.val + (y (0 : Fin 2)).val; omega)
    (by show win0_5.index t (1 : Fin 2) * 1024 + 1 * (y (1 : Fin 2)).val = (y (1 : Fin 2)).val; omega)
  show ((outsAt0 m c t).2.1 y : EReal) = hn m c (((cfg0.win 5).blk t).view.emb y)
  rw [hx]
  show ((outsAt0 m c t).2.1 y : EReal) = modAt m c (row t (y (0 : Fin 2))) (y (1 : Fin 2))
  unfold outsAt0
  dsimp only
  rw [out_rows]
  exact (congrArg _ (Common.eta (M := 512) (N := 1024) y)).trans (mod_eq m c t _ _)

theorem final_ga (c : Dev nD) : (dats m 0 c).arrAt 6 cfg0.N = ga m c := by
  refine (dats m 0 c).arrAt_eq_of_covers 6 _ (by decide +kernel) fun t hf y => ?_
  obtain ⟨e0, e1⟩ := index6 t
  rw [after0_6]
  have hx : ((cfg0.win 6).blk t).view.emb y = ix2 (row t (y (0 : Fin 2))) (y (1 : Fin 2) : Fin 2816) := Common.ext2
    (by show win0_6.index t (0 : Fin 2) * 512 + 1 * (y (0 : Fin 2)).val = 512 * t.val + (y (0 : Fin 2)).val; omega)
    (by show win0_6.index t (1 : Fin 2) * 2816 + 1 * (y (1 : Fin 2)).val = (y (1 : Fin 2)).val; omega)
  show ((outsAt0 m c t).2.2.1 y : EReal) = ga m c (((cfg0.win 6).blk t).view.emb y)
  rw [hx]
  show ((outsAt0 m c t).2.2.1 y : EReal) = upAt m c (row t (y (0 : Fin 2))) (ca (y (1 : Fin 2)))
  unfold outsAt0
  dsimp only
  exact (congrArg _ (Common.eta (M := 512) (N := 2816) y)).trans ((out_a (iblk m c 0 t) (iblk m c 1 t) (iblk m c 2 t) (iblk m c 3 t) c (grid0.coords t) _ _ _ _ _ _ _ _ _ _ _ _ _ _ _ _ _ _).trans (up_eq m c t _ _))

theorem final_gb (c : Dev nD) : (dats m 0 c).arrAt 7 cfg0.N = gb m c := by
  refine (dats m 0 c).arrAt_eq_of_covers 7 _ (by decide +kernel) fun t hf y => ?_
  obtain ⟨e0, e1⟩ := index7 t
  rw [after0_7]
  have hx : ((cfg0.win 7).blk t).view.emb y = ix2 (row t (y (0 : Fin 2))) (y (1 : Fin 2) : Fin 2816) := Common.ext2
    (by show win0_7.index t (0 : Fin 2) * 512 + 1 * (y (0 : Fin 2)).val = 512 * t.val + (y (0 : Fin 2)).val; omega)
    (by show win0_7.index t (1 : Fin 2) * 2816 + 1 * (y (1 : Fin 2)).val = (y (1 : Fin 2)).val; omega)
  show ((outsAt0 m c t).2.2.2 y : EReal) = gb m c (((cfg0.win 7).blk t).view.emb y)
  rw [hx]
  show ((outsAt0 m c t).2.2.2 y : EReal) = upAt m c (row t (y (0 : Fin 2))) (cb (y (1 : Fin 2)))
  unfold outsAt0
  dsimp only
  exact (congrArg _ (Common.eta (M := 512) (N := 2816) y)).trans ((out_b (iblk m c 0 t) (iblk m c 1 t) (iblk m c 2 t) (iblk m c 3 t) c (grid0.coords t) _ _ _ _ _ _ _ _ _ _ _ _ _ _ _ _ _ _).trans (up_eq m c t _ _))

/-! ## The results -/

theorem tail_hn (c : Dev nD) : Pipeline.afterTail₀ cfgs (dats m) 0 (V0 m) [hostOps1] c main_v9 = hn m c := by
  unfold Pipeline.afterTail₀
  simp only [hostOps1, List.flatten_singleton]
  after_results_simp
  exact (Pipeline.withArrays_arr spec0 (by decide) c (V0 m c) (fun w => (dats m 0 c).arrAt w cfg0.N) 5).trans (final_hn m c)

theorem tail_ga (c : Dev nD) : Pipeline.afterTail₀ cfgs (dats m) 0 (V0 m) [hostOps1] c main_v10 = ga m c := by
  unfold Pipeline.afterTail₀
  simp only [hostOps1, List.flatten_singleton]
  after_results_simp
  exact (Pipeline.withArrays_arr spec0 (by decide) c (V0 m c) (fun w => (dats m 0 c).arrAt w cfg0.N) 6).trans (final_ga m c)

theorem tail_gb (c : Dev nD) : Pipeline.afterTail₀ cfgs (dats m) 0 (V0 m) [hostOps1] c main_v11 = gb m c := by
  unfold Pipeline.afterTail₀
  simp only [hostOps1, List.flatten_singleton]
  after_results_simp
  exact (Pipeline.withArrays_arr spec0 (by decide) c (V0 m c) (fun w => (dats m 0 c).arrAt w cfg0.N) 7).trans (final_gb m c)

/-! ## The reference -/

open Cert.Reference4Ideal.Read

/-- The reference's modulated rows, entry by entry. -/
theorem ref_mod (c : Dev nD) (r : Fin 8192) (k : Fin 1024) :
    (val_main_v20 (F := Ideal) (stream m c) (norm m c) (shift m c) (scale m c) (ix2 r k) : EReal) = modAt m c r k := by
  exact Cert.Kernel14Ideal.ConvIn.ref_mod _ _ _ _ r k

/-- The reference's product with the first weight, entry by entry. -/
theorem ref_up (c : Dev nD) (r : Fin 8192) (i : Fin 5632) :
    (val_main_v21 (F := Ideal) (stream m c) (norm m c) (shift m c) (scale m c) (first m c) (ix2 r i) : EReal) = upAt m c r i := by
  rw [val_main_v21_apply]
  refine Finset.sum_congr rfl fun k _ => congrArg₂ (fun a b : EReal => a * b) ((congrArg _ (funext fun a => ?_)).trans (ref_mod m c r k))
    (congrArg (first m c) (funext fun a => ?_))
  · match a with
    | ⟨0, _⟩ => rfl
    | ⟨1, _⟩ => rfl
  · match a with
    | ⟨0, _⟩ => rfl
    | ⟨1, _⟩ => rfl

/-- The two halves of that product. -/
theorem ref_a (c : Dev nD) (r : Fin 8192) (j : Fin 2816) :
    (val_main_v22 (F := Ideal) (stream m c) (norm m c) (shift m c) (scale m c) (first m c) (ix2 r j) : EReal) = upAt m c r (ca j) := by
  rw [val_main_v22_apply]
  refine (congrArg _ (funext fun a => Fin.ext ?_)).trans (ref_up m c r (ca j))
  match a with
  | ⟨0, _⟩ => first | rfl | exact Nat.zero_add _
  | ⟨1, _⟩ => first | rfl | exact Nat.zero_add _
theorem ref_b (c : Dev nD) (r : Fin 8192) (j : Fin 2816) :
    (val_main_v23 (F := Ideal) (stream m c) (norm m c) (shift m c) (scale m c) (first m c) (ix2 r j) : EReal) = upAt m c r (cb j) := by
  rw [val_main_v23_apply]
  refine (congrArg _ (funext fun a => Fin.ext ?_)).trans (ref_up m c r (cb j))
  match a with
  | ⟨0, _⟩ => first | rfl | exact Nat.zero_add _
  | ⟨1, _⟩ => rfl

/-- The reference's hidden entries: its logistic is written with a negation, an exponential, a sum and a quotient. -/
theorem ref_glu (c : Dev nD) (r : Fin 8192) (j : Fin 2816) :
    (val_main_v28 (F := Ideal) (stream m c) (norm m c) (shift m c) (scale m c) (first m c) (ix2 r j) : EReal)
      = glu (upAt m c r (ca j)) (upAt m c r (cb j)) := by
  rw [val_main_v28_apply, val_main_v27_apply, val_main_call0_v5_apply, val_main_call0_v4_apply, val_main_call0_v3_apply, val_main_call0_v2_apply,
    val_main_call0_v1_apply, val_main_call0_v0_apply, val_main_call0_cst_apply, val_main_call0_cst_0_apply, ref_a, ref_b]
  show upAt m c r (ca j) * Ideal.div one (one + Ideal.exp (-upAt m c r (ca j))) * upAt m c r (cb j) = _
  rw [one_eq]
  rfl

/-- The reference's new residual stream, entry by entry. -/
theorem ref_out (c : Dev nD) (r : Fin 8192) (d : Fin 1024) :
    (val_main_v32 (F := Ideal) (stream m c) (norm m c) (shift m c) (scale m c) (gate m c) (first m c) (second m c) (ix2 r d) : EReal)
      = outAt m c r d := by
  rw [val_main_v32_apply, val_main_v31_apply, val_main_v30_apply, val_main_v26_apply, val_main_v25_apply, val_main_v24_apply, val_main_v29_apply,
    val_main_cst_3_apply]
  have i1 : idx_main_v24 (idx_main_v30 (ix2 r d)) = ix1 d := funext fun a => by
    match a with
    | ⟨0, _⟩ => rfl
  rw [i1]
  unfold outAt
  refine congrArg (fun s : EReal => stream m c (ix2 r d) + half * gate m c (ix1 d) * s) (Finset.sum_congr rfl fun j _ =>
    congrArg₂ (fun a b : EReal => a * b) ((congrArg _ (funext fun a => ?_)).trans (ref_glu m c r j)) (congrArg (second m c) (funext fun a => ?_)))
  · match a with
    | ⟨0, _⟩ => rfl
    | ⟨1, _⟩ => rfl
  · match a with
    | ⟨0, _⟩ => rfl
    | ⟨1, _⟩ => rfl

/-- The reference's four results are the kernel's. -/
theorem ref_ho (c : Dev nD) : (val_main_v32 (F := Ideal) (stream m c) (norm m c) (shift m c) (scale m c) (gate m c) (first m c) (second m c)
    : S8192x1024.Idx → EReal) = ho m c :=
  funext fun z => (congrArg _ (Common.eta z)).trans (ref_out m c (z 0) (z 1))
theorem ref_hn (c : Dev nD) : (val_main_v20 (F := Ideal) (stream m c) (norm m c) (shift m c) (scale m c) : S8192x1024.Idx → EReal) = hn m c :=
  funext fun z => (congrArg _ (Common.eta z)).trans (ref_mod m c (z 0) (z 1))
theorem ref_ga (c : Dev nD) : (val_main_v22 (F := Ideal) (stream m c) (norm m c) (shift m c) (scale m c) (first m c) : S8192x2816.Idx → EReal) = ga m c :=
  funext fun z => (congrArg _ (Common.eta z)).trans (ref_a m c (z 0) (z 1))
theorem ref_gb (c : Dev nD) : (val_main_v23 (F := Ideal) (stream m c) (norm m c) (shift m c) (scale m c) (first m c) : S8192x2816.Idx → EReal) = gb m c :=
  funext fun z => (congrArg _ (Common.eta z)).trans (ref_b m c (z 0) (z 1))

end Cert.Kernel4Ideal.FfnFwd

end
-- ==== Proof.WgradPw1.lean ====
module

public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Common

/-! The call that makes the gradient of the convolution's first pointwise weight. Its grid visits, for each block of columns of the incoming gradient, the four blocks of rows; it adds each
    block's product to an accumulator and writes the accumulator out after the fourth. Over the extended reals the
    accumulator is a partial sum over the rows, so the result is the whole sum, which is the reference's. -/

@[expose] public section

set_option maxRecDepth 16384

noncomputable section

namespace Cert.Kernel5Ideal.Wgrad

open Idealize.ShloMosaic Idealize.ShloMosaic.TcCoe Idealize.ShloMosaic.Tactic Idealize.SL.Sem
open Idealize.ShloMosaic.Pipeline (Dat)
open Cert.Kernel5Ideal Cert.Kernel5Ideal.Gen

open Cert.Common (zeros2)

/-! ## What one point of the grid leaves -/

section
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x : Vec Ideal S2048x1024 .bf16) (y : Vec Ideal S2048x1024 .bf16) (s : Vec Ideal S1024x1024 .f32)

/-- The first block of rows leaves in the accumulator zero plus the block's product. -/
theorem acc_first (hc : cond0_0 i) (hd : ¬cond0_1 i) :
    sout0_A_0 c i a3 h3 a4 h4 a5 h5 a6 h6 hc hd x y = k0_pay2 (k0_pay1 (F := Ideal)) x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S1024x1024) zeros2, View.readCov_unit_zero (S := S1024x1024) _ zeros2]
  simp only [View.readAt_eq_ld, h3.read_unread, h4.read_unread, Common.ld0]

/-- A middle block of rows adds its product to the accumulator. -/
theorem acc_next (hc : ¬cond0_0 i) (hd : ¬cond0_1 i) :
    sout0_B_0 c i a3 h3 a4 h4 a5 h5 a6 h6 hc hd x y s = k0_pay2 s x y := by
  unfold sout0_B_0
  rw [View.read_writes_eq_canon _ _ _ (scover0_B_0 c i a3 h3 a4 h4 a5 h5 a6 h6 hc hd x y s)]
  unfold kernelRun0_B
  dsimp only
  rw [View.canon_unit_zero zeros2]
  simp only [View.readAt_eq_ld, h3.read_unread, h4.read_unread, h6.read_unread, Common.ld0]

/-- The last block of rows adds its product to the accumulator too. -/
theorem acc_last (hc : ¬cond0_0 i) (hd : cond0_1 i) :
    sout0_C_0 c i a3 h3 a4 h4 a5 h5 a6 h6 hc hd x y s = k0_pay2 s x y := by
  unfold sout0_C_0
  rw [View.read_writes_eq_canon _ _ _ (scover0_C_0 c i a3 h3 a4 h4 a5 h5 a6 h6 hc hd x y s)]
  unfold kernelRun0_C
  dsimp only
  sl_unfold_words
  rw [View.canon_unit_zero zeros2]
  simp only [View.readAt_eq_ld, h3.read_unread, h4.read_unread, h6.read_unread, Common.ld0]

/-- The last block of rows writes the accumulator it leaves to the output block. -/
theorem out_last (hc : ¬cond0_0 i) (hd : cond0_1 i) :
    out0_C_2 c i a3 h3 a4 h4 a5 h5 a6 h6 hc hd x y s = k0_pay3 (k0_pay2 s x y) := by
  unfold out0_C_2
  rw [View.read_writes_eq_canon _ _ _ (cover0_C_2 c i a3 h3 a4 h4 a5 h5 a6 h6 hc hd x y s)]
  unfold kernelRun0_C
  dsimp only
  sl_unfold_words
  rw [View.canon_unit_zero zeros2, View.readCov_unit_zero (S := S1024x1024) _ zeros2]
  simp only [View.readAt_eq_ld, h3.read_unread, h4.read_unread, h6.read_unread, Common.ld0]

/-- The zero block, entry by entry. -/
theorem pay1_apply (p : Fin 1024) (q : Fin 1024) : (k0_pay1 (F := Ideal) (ix2 p q) : EReal) = 0 := by
  unfold k0_pay1
  simp only [shapeCast_self]
  exact Common.zero_bits

/-- An accumulator with a block's product added, entry by entry. -/
theorem pay2_apply (p : Fin 1024) (q : Fin 1024) :
    (k0_pay2 s x y (ix2 p q) : EReal) = (s (ix2 p q) : EReal) + ∑ r : Fin 2048, (x (ix2 r p) : EReal) * (y (ix2 r q) : EReal) := by
  unfold k0_pay2
  simp only [shapeCast_self]
  show (s (ix2 p q) : EReal) + _ = _
  refine congrArg ((s (ix2 p q) : EReal) + ·) ?_
  exact Common.tn _ x y p q

end

/-! ## The accumulator after each point -/

variable (m : (ℓ : Loc nD τ sig) → Buf (Elt Ideal) ℓ)

/-- The entry of `x` at row `r` and column `k`, counted by naturals. -/
def xAt (c : Dev nD) (r k : ℕ) : EReal :=
  (m (c.tc.loc main_arg0) : S8192x1024.Idx → EReal) (ix2 (Fin.ofNat 8192 r) (Fin.ofNat 1024 k))

/-- The entry of the incoming gradient at row `r` and column `k`, counted by naturals. -/
def yAt (c : Dev nD) (r k : ℕ) : EReal :=
  (m (c.tc.loc main_arg1) : S8192x2048.Idx → EReal) (ix2 (Fin.ofNat 8192 r) (Fin.ofNat 2048 k))

theorem V_x (c : Dev nD) : (V m c main_v0 : S8192x1024.Idx → EReal) = m (c.tc.loc main_arg0) := by
  simp only [V, V0, hostOps0, List.flatten_singleton]
  after_results_simp <;> rfl

theorem V_y (c : Dev nD) : (V m c main_v1 : S8192x2048.Idx → EReal) = m (c.tc.loc main_arg1) := by
  simp only [V, V0, hostOps0, List.flatten_singleton]
  after_results_simp <;> rfl

theorem index0 : ∀ t : Fin cfg0.N, win0_0.index t (0 : Fin 2) = t.val % 4 ∧ win0_0.index t (1 : Fin 2) = 0 := by decide +kernel
theorem index1 : ∀ t : Fin cfg0.N, win0_1.index t (0 : Fin 2) = t.val % 4 ∧ win0_1.index t (1 : Fin 2) = t.val / 4 := by decide +kernel
theorem index2 : ∀ t : Fin cfg0.N, win0_2.index t (0 : Fin 2) = 0 ∧ win0_2.index t (1 : Fin 2) = t.val / 4 := by decide +kernel

theorem iblk_x (c : Dev nD) (t : Fin cfg0.N) (r : Fin 2048) (p : Fin 1024) :
    (iblk m c 0 t (ix2 r p) : EReal) = xAt m c (2048 * (t.val % 4) + r.val) (1024 * (0) + p.val) := by
  obtain ⟨e0, e1⟩ := index0 t
  have hN : t.val < 8 := lt_of_lt_of_eq t.isLt N_0
  have hr := r.isLt
  have hp := p.isLt
  show (V m c main_v0 : S8192x1024.Idx → EReal) (((cfg0.win 0).blk t).view.emb (ix2 r p)) = _
  rw [V_x]
  unfold xAt
  exact congrArg _ (Common.ext2 (by show win0_0.index t (0 : Fin 2) * 2048 + 1 * r.val = (2048 * (t.val % 4) + r.val) % 8192; omega)
    (by show win0_0.index t (1 : Fin 2) * 1024 + 1 * p.val = (1024 * (0) + p.val) % 1024; omega))

theorem iblk_y (c : Dev nD) (t : Fin cfg0.N) (r : Fin 2048) (q : Fin 1024) :
    (iblk m c 1 t (ix2 r q) : EReal) = yAt m c (2048 * (t.val % 4) + r.val) (1024 * (t.val / 4) + q.val) := by
  obtain ⟨e0, e1⟩ := index1 t
  have hN : t.val < 8 := lt_of_lt_of_eq t.isLt N_0
  have hr := r.isLt
  have hq := q.isLt
  show (V m c main_v1 : S8192x2048.Idx → EReal) (((cfg0.win 1).blk t).view.emb (ix2 r q)) = _
  rw [V_y]
  unfold yAt
  exact congrArg _ (Common.ext2 (by show win0_1.index t (0 : Fin 2) * 2048 + 1 * r.val = (2048 * (t.val % 4) + r.val) % 8192; omega)
    (by show win0_1.index t (1 : Fin 2) * 1024 + 1 * q.val = (1024 * (t.val / 4) + q.val) % 2048; omega))

/-- The sum over the first `n` rows for column `i` of `x` and column `j` of the incoming gradient. -/
def part (c : Dev nD) (n i j : ℕ) : EReal := ∑ r ∈ Finset.range n, xAt m c r i * yAt m c r j

/-- Adding a block's product to the sum over the rows before it gives the sum over the rows up to its end. -/
theorem pay2_part (c : Dev nD) (t : Fin cfg0.N) (s : Vec Ideal S1024x1024 .f32) (p : Fin 1024) (q : Fin 1024)
    (hs : (s (ix2 p q) : EReal) = part m c (2048 * (t.val % 4)) (1024 * (0) + p.val) (1024 * (t.val / 4) + q.val)) :
    (k0_pay2 s (iblk m c 0 t) (iblk m c 1 t) (ix2 p q) : EReal)
      = part m c (2048 * (t.val % 4) + 2048) (1024 * (0) + p.val) (1024 * (t.val / 4) + q.val) := by
  refine (pay2_apply _ _ _ p q).trans ?_
  rw [hs]
  unfold part
  rw [Finset.sum_range_add, Finset.sum_range (n := 2048)]
  refine congrArg _ (Finset.sum_congr rfl fun r _ => ?_)
  rw [← iblk_x, ← iblk_y]

/-- The accumulator after the first block of rows of a block of columns. -/
theorem acc_A (c : Dev nD) (t : Fin cfg0.N) (h0 : t.val % 4 = 0) :
    (outsAt0 m c t.val t.isLt).2 = k0_pay2 (k0_pay1 (F := Ideal)) (iblk m c 0 t) (iblk m c 1 t) := by
  rw [outsAt0_A m c t h0 (by omega)]
  dsimp only
  rw [acc_first]

/-- The accumulator after a later block of rows. -/
theorem acc_BC (c : Dev nD) (t : Fin cfg0.N) (h0 : ¬t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    rw [acc_last]
  · rw [outsAt0_B m c t h0 h1]
    dsimp only
    rw [acc_next]

/-- The output block after the last block of rows. -/
theorem out_C (c : Dev nD) (t : Fin cfg0.N) (h1 : t.val % 4 = 3) :
    (outsAt0 m c t.val t.isLt).1 = k0_pay3 (outsAt0 m c t.val t.isLt).2 := by
  have h0 : ¬t.val % 4 = 0 := by omega
  rw [acc_BC m c t h0, outsAt0_C m c t h0 h1]
  dsimp only
  rw [out_last]

/-- After point `n` the accumulator holds the sum over the rows up to the end of the point's block. -/
theorem acc_eq (c : Dev nD) (p : Fin 1024) (q : Fin 1024) : ∀ (n : ℕ) (hn : n < cfg0.N),
    ((outsAt0 m c n hn).2 (ix2 p q) : EReal)
      = part m c (2048 * (n % 4) + 2048) (1024 * (0) + p.val) (1024 * (n / 4) + q.val) :=
  Common.running 2048 (fun g r => part m c r (1024 * (0) + p.val) (1024 * g + q.val)) _ (fun t h0 => by
    rw [acc_A m c t h0]
    refine pay2_part m c t _ p q ?_
    rw [pay1_apply, h0]
    exact (Finset.sum_range_zero _).symm)
    fun n hn h0 ih => (congrFun (acc_BC m c ⟨n + 1, hn⟩ h0) (ix2 p q)).trans (pay2_part m c ⟨n + 1, hn⟩ _ p q ih)

/-- At a block's last point the output block holds the sum over all rows. -/
theorem out_eq (c : Dev nD) (t : Fin cfg0.N) (h1 : t.val % 4 = 3) (p : Fin 1024) (q : Fin 1024) :
    ((outsAt0 m c t.val t.isLt).1 (ix2 p q) : EReal) = part m c 8192 (1024 * (0) + p.val) (1024 * (t.val / 4) + q.val) := by
  rw [out_C m c t h1]
  refine (acc_eq m c p q t.val t.isLt).trans ?_
  rw [h1]

/-! ## The result -/

/-- The gradient of the weight: entry `(i, j)` is the sum over the rows of `x` at `i` times the incoming gradient at `j`. -/
def grad (c : Dev nD) : S1024x2048.Idx → EReal := fun z => part m c 8192 (z 0).val (z 1).val

theorem final (c : Dev nD) : (dats m 0 c).arrAt 2 cfg0.N = grad m c := by
  refine (dats m 0 c).arrAt_eq_of_covers 2 _ (by decide +kernel) fun t hf y => ?_
  have h3 : t.val % 4 = 3 := (flush0_2 t).mp hf
  obtain ⟨e0, e1⟩ := index2 t
  rw [after0_2]
  have hx0 : ((((cfg0.win 2).blk t).view.emb y) (0 : Fin 2)).val = 1024 * (0) + (y (0 : Fin 2)).val := by
    show win0_2.index t (0 : Fin 2) * 1024 + 1 * (y (0 : Fin 2)).val = _; omega
  have hx1 : ((((cfg0.win 2).blk t).view.emb y) (1 : Fin 2)).val = 1024 * (t.val / 4) + (y (1 : Fin 2)).val := by
    show win0_2.index t (1 : Fin 2) * 1024 + 1 * (y (1 : Fin 2)).val = _; omega
  show ((outsAt0 m c t.val t.isLt).1 y : EReal) = grad m c (((cfg0.win 2).blk t).view.emb y)
  unfold grad
  rw [hx0, hx1, ← out_eq m c t h3 (y (0 : Fin 2)) (y (1 : Fin 2))]
  exact congrArg _ (Common.eta (M := 1024) (N := 1024) y)

/-- The result's change of format after the call is the identity over the extended reals. -/
theorem tail_eq (c : Dev nD) : Pipeline.afterTail₀ cfgs (dats m) 0 (V0 m) [hostOps1] c main_v3 = grad m c := by
  unfold Pipeline.afterTail₀
  simp only [hostOps1, List.flatten_singleton]
  after_results_simp
  exact (Pipeline.withArrays_arr spec0 (by decide) c (V0 m c) (fun w => (dats m 0 c).arrAt w cfg0.N) 2).trans (final m c)

/-! ## The reference -/

theorem ref_eq (c : Dev nD) : (Cert.Reference5Ideal.Read.val_main_v3 (F := Ideal) (m (c.tc.loc main_arg0))
    (m (c.tc.loc main_arg1)) : S1024x2048.Idx → EReal) = grad m c := by
  funext z
  rw [Cert.Reference5Ideal.Read.val_main_v3_apply, Cert.Reference5Ideal.Read.val_main_v2_apply]
  unfold grad part
  rw [Finset.sum_range]
  refine Finset.sum_congr rfl fun r _ => (mul_comm _ _).trans ?_
  unfold xAt yAt
  exact congrArg₂ _ (congrArg _ (Common.ext2 (Nat.mod_eq_of_lt r.isLt).symm (Nat.mod_eq_of_lt (z (0 : Fin 2)).isLt).symm))
    (congrArg _ (Common.ext2 (Nat.mod_eq_of_lt r.isLt).symm (Nat.mod_eq_of_lt (z (1 : Fin 2)).isLt).symm))

end Cert.Kernel5Ideal.Wgrad

end
-- ==== Proof.WgradWqb.lean ====
module

public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Common

/-! The call that makes the gradient of the weight that expands the queries' latent rows to the heads. Its grid visits, for each block of columns of the incoming gradient, the four blocks of rows; it adds each
    block's product to an accumulator and writes the accumulator out after the fourth. Over the extended reals the
    accumulator is a partial sum over the rows, so the result is the whole sum, which is the reference's. -/

@[expose] public section

set_option maxRecDepth 16384

noncomputable section

namespace Cert.Kernel6Ideal.Wgrad

open Idealize.ShloMosaic Idealize.ShloMosaic.TcCoe Idealize.ShloMosaic.Tactic Idealize.SL.Sem
open Idealize.ShloMosaic.Pipeline (Dat)
open Cert.Kernel6Ideal Cert.Kernel6Ideal.Gen

open Cert.Common (zeros2)

/-! ## What one point of the grid leaves -/

section
variable (c : Dev nD) (i : grid0.Coords) (a3 : Memref sig .tc .vmem S2048x512 .bf16) (h3 : a3.IsWhole)
  (a4 : Memref sig .tc .vmem S2048x1024 .bf16) (h4 : a4.IsWhole) (a5 : Memref sig .tc .vmem S512x1024 .bf16) (h5 : a5.IsWhole)
  (a6 : Memref sig .tc .vmem S512x1024 .f32) (h6 : a6.IsWhole)
  (x : Vec Ideal S2048x512 .bf16) (y : Vec Ideal S2048x1024 .bf16) (s : Vec Ideal S512x1024 .f32)

/-- The first block of rows leaves in the accumulator zero plus the block's product. -/
theorem acc_first (hc : cond0_0 i) (hd : ¬cond0_1 i) :
    sout0_A_0 c i a3 h3 a4 h4 a5 h5 a6 h6 hc hd x y = k0_pay2 (k0_pay1 (F := Ideal)) x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S512x1024) zeros2, View.readCov_unit_zero (S := S512x1024) _ zeros2]
  simp only [View.readAt_eq_ld, h3.read_unread, h4.read_unread, Common.ld0]

/-- A middle block of rows adds its product to the accumulator. -/
theorem acc_next (hc : ¬cond0_0 i) (hd : ¬cond0_1 i) :
    sout0_B_0 c i a3 h3 a4 h4 a5 h5 a6 h6 hc hd x y s = k0_pay2 s x y := by
  unfold sout0_B_0
  rw [View.read_writes_eq_canon _ _ _ (scover0_B_0 c i a3 h3 a4 h4 a5 h5 a6 h6 hc hd x y s)]
  unfold kernelRun0_B
  dsimp only
  rw [View.canon_unit_zero zeros2]
  simp only [View.readAt_eq_ld, h3.read_unread, h4.read_unread, h6.read_unread, Common.ld0]

/-- The last block of rows adds its product to the accumulator too. -/
theorem acc_last (hc : ¬cond0_0 i) (hd : cond0_1 i) :
    sout0_C_0 c i a3 h3 a4 h4 a5 h5 a6 h6 hc hd x y s = k0_pay2 s x y := by
  unfold sout0_C_0
  rw [View.read_writes_eq_canon _ _ _ (scover0_C_0 c i a3 h3 a4 h4 a5 h5 a6 h6 hc hd x y s)]
  unfold kernelRun0_C
  dsimp only
  sl_unfold_words
  rw [View.canon_unit_zero zeros2]
  simp only [View.readAt_eq_ld, h3.read_unread, h4.read_unread, h6.read_unread, Common.ld0]

/-- The last block of rows writes the accumulator it leaves to the output block. -/
theorem out_last (hc : ¬cond0_0 i) (hd : cond0_1 i) :
    out0_C_2 c i a3 h3 a4 h4 a5 h5 a6 h6 hc hd x y s = k0_pay3 (k0_pay2 s x y) := by
  unfold out0_C_2
  rw [View.read_writes_eq_canon _ _ _ (cover0_C_2 c i a3 h3 a4 h4 a5 h5 a6 h6 hc hd x y s)]
  unfold kernelRun0_C
  dsimp only
  sl_unfold_words
  rw [View.canon_unit_zero zeros2, View.readCov_unit_zero (S := S512x1024) _ zeros2]
  simp only [View.readAt_eq_ld, h3.read_unread, h4.read_unread, h6.read_unread, Common.ld0]

/-- The zero block, entry by entry. -/
theorem pay1_apply (p : Fin 512) (q : Fin 1024) : (k0_pay1 (F := Ideal) (ix2 p q) : EReal) = 0 := by
  unfold k0_pay1
  simp only [shapeCast_self]
  exact Common.zero_bits

/-- An accumulator with a block's product added, entry by entry. -/
theorem pay2_apply (p : Fin 512) (q : Fin 1024) :
    (k0_pay2 s x y (ix2 p q) : EReal) = (s (ix2 p q) : EReal) + ∑ r : Fin 2048, (x (ix2 r p) : EReal) * (y (ix2 r q) : EReal) := by
  unfold k0_pay2
  simp only [shapeCast_self]
  show (s (ix2 p q) : EReal) + _ = _
  refine congrArg ((s (ix2 p q) : EReal) + ·) ?_
  exact Common.tn _ x y p q

end

/-! ## The accumulator after each point -/

variable (m : (ℓ : Loc nD τ sig) → Buf (Elt Ideal) ℓ)

/-- The entry of `x` at row `r` and column `k`, counted by naturals. -/
def xAt (c : Dev nD) (r k : ℕ) : EReal :=
  (m (c.tc.loc main_arg0) : S8192x512.Idx → EReal) (ix2 (Fin.ofNat 8192 r) (Fin.ofNat 512 k))

/-- The entry of the incoming gradient at row `r` and column `k`, counted by naturals. -/
def yAt (c : Dev nD) (r k : ℕ) : EReal :=
  (m (c.tc.loc main_arg1) : S8192x2048.Idx → EReal) (ix2 (Fin.ofNat 8192 r) (Fin.ofNat 2048 k))

theorem V_x (c : Dev nD) : (V m c main_v0 : S8192x512.Idx → EReal) = m (c.tc.loc main_arg0) := by
  simp only [V, V0, hostOps0, List.flatten_singleton]
  after_results_simp <;> rfl

theorem V_y (c : Dev nD) : (V m c main_v1 : S8192x2048.Idx → EReal) = m (c.tc.loc main_arg1) := by
  simp only [V, V0, hostOps0, List.flatten_singleton]
  after_results_simp <;> rfl

theorem index0 : ∀ t : Fin cfg0.N, win0_0.index t (0 : Fin 2) = t.val % 4 ∧ win0_0.index t (1 : Fin 2) = 0 := by decide +kernel
theorem index1 : ∀ t : Fin cfg0.N, win0_1.index t (0 : Fin 2) = t.val % 4 ∧ win0_1.index t (1 : Fin 2) = t.val / 4 := by decide +kernel
theorem index2 : ∀ t : Fin cfg0.N, win0_2.index t (0 : Fin 2) = 0 ∧ win0_2.index t (1 : Fin 2) = t.val / 4 := by decide +kernel

theorem iblk_x (c : Dev nD) (t : Fin cfg0.N) (r : Fin 2048) (p : Fin 512) :
    (iblk m c 0 t (ix2 r p) : EReal) = xAt m c (2048 * (t.val % 4) + r.val) (512 * (0) + p.val) := by
  obtain ⟨e0, e1⟩ := index0 t
  have hN : t.val < 8 := lt_of_lt_of_eq t.isLt N_0
  have hr := r.isLt
  have hp := p.isLt
  show (V m c main_v0 : S8192x512.Idx → EReal) (((cfg0.win 0).blk t).view.emb (ix2 r p)) = _
  rw [V_x]
  unfold xAt
  exact congrArg _ (Common.ext2 (by show win0_0.index t (0 : Fin 2) * 2048 + 1 * r.val = (2048 * (t.val % 4) + r.val) % 8192; omega)
    (by show win0_0.index t (1 : Fin 2) * 512 + 1 * p.val = (512 * (0) + p.val) % 512; omega))

theorem iblk_y (c : Dev nD) (t : Fin cfg0.N) (r : Fin 2048) (q : Fin 1024) :
    (iblk m c 1 t (ix2 r q) : EReal) = yAt m c (2048 * (t.val % 4) + r.val) (1024 * (t.val / 4) + q.val) := by
  obtain ⟨e0, e1⟩ := index1 t
  have hN : t.val < 8 := lt_of_lt_of_eq t.isLt N_0
  have hr := r.isLt
  have hq := q.isLt
  show (V m c main_v1 : S8192x2048.Idx → EReal) (((cfg0.win 1).blk t).view.emb (ix2 r q)) = _
  rw [V_y]
  unfold yAt
  exact congrArg _ (Common.ext2 (by show win0_1.index t (0 : Fin 2) * 2048 + 1 * r.val = (2048 * (t.val % 4) + r.val) % 8192; omega)
    (by show win0_1.index t (1 : Fin 2) * 1024 + 1 * q.val = (1024 * (t.val / 4) + q.val) % 2048; omega))

/-- The sum over the first `n` rows for column `i` of `x` and column `j` of the incoming gradient. -/
def part (c : Dev nD) (n i j : ℕ) : EReal := ∑ r ∈ Finset.range n, xAt m c r i * yAt m c r j

/-- Adding a block's product to the sum over the rows before it gives the sum over the rows up to its end. -/
theorem pay2_part (c : Dev nD) (t : Fin cfg0.N) (s : Vec Ideal S512x1024 .f32) (p : Fin 512) (q : Fin 1024)
    (hs : (s (ix2 p q) : EReal) = part m c (2048 * (t.val % 4)) (512 * (0) + p.val) (1024 * (t.val / 4) + q.val)) :
    (k0_pay2 s (iblk m c 0 t) (iblk m c 1 t) (ix2 p q) : EReal)
      = part m c (2048 * (t.val % 4) + 2048) (512 * (0) + p.val) (1024 * (t.val / 4) + q.val) := by
  refine (pay2_apply _ _ _ p q).trans ?_
  rw [hs]
  unfold part
  rw [Finset.sum_range_add, Finset.sum_range (n := 2048)]
  refine congrArg _ (Finset.sum_congr rfl fun r _ => ?_)
  rw [← iblk_x, ← iblk_y]

/-- The accumulator after the first block of rows of a block of columns. -/
theorem acc_A (c : Dev nD) (t : Fin cfg0.N) (h0 : t.val % 4 = 0) :
    (outsAt0 m c t.val t.isLt).2 = k0_pay2 (k0_pay1 (F := Ideal)) (iblk m c 0 t) (iblk m c 1 t) := by
  rw [outsAt0_A m c t h0 (by omega)]
  dsimp only
  rw [acc_first]

/-- The accumulator after a later block of rows. -/
theorem acc_BC (c : Dev nD) (t : Fin cfg0.N) (h0 : ¬t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    rw [acc_last]
  · rw [outsAt0_B m c t h0 h1]
    dsimp only
    rw [acc_next]

/-- The output block after the last block of rows. -/
theorem out_C (c : Dev nD) (t : Fin cfg0.N) (h1 : t.val % 4 = 3) :
    (outsAt0 m c t.val t.isLt).1 = k0_pay3 (outsAt0 m c t.val t.isLt).2 := by
  have h0 : ¬t.val % 4 = 0 := by omega
  rw [acc_BC m c t h0, outsAt0_C m c t h0 h1]
  dsimp only
  rw [out_last]

/-- After point `n` the accumulator holds the sum over the rows up to the end of the point's block. -/
theorem acc_eq (c : Dev nD) (p : Fin 512) (q : Fin 1024) : ∀ (n : ℕ) (hn : n < cfg0.N),
    ((outsAt0 m c n hn).2 (ix2 p q) : EReal)
      = part m c (2048 * (n % 4) + 2048) (512 * (0) + p.val) (1024 * (n / 4) + q.val) :=
  Common.running 2048 (fun g r => part m c r (512 * (0) + p.val) (1024 * g + q.val)) _ (fun t h0 => by
    rw [acc_A m c t h0]
    refine pay2_part m c t _ p q ?_
    rw [pay1_apply, h0]
    exact (Finset.sum_range_zero _).symm)
    fun n hn h0 ih => (congrFun (acc_BC m c ⟨n + 1, hn⟩ h0) (ix2 p q)).trans (pay2_part m c ⟨n + 1, hn⟩ _ p q ih)

/-- At a block's last point the output block holds the sum over all rows. -/
theorem out_eq (c : Dev nD) (t : Fin cfg0.N) (h1 : t.val % 4 = 3) (p : Fin 512) (q : Fin 1024) :
    ((outsAt0 m c t.val t.isLt).1 (ix2 p q) : EReal) = part m c 8192 (512 * (0) + p.val) (1024 * (t.val / 4) + q.val) := by
  rw [out_C m c t h1]
  refine (acc_eq m c p q t.val t.isLt).trans ?_
  rw [h1]

/-! ## The result -/

/-- The gradient of the weight: entry `(i, j)` is the sum over the rows of `x` at `i` times the incoming gradient at `j`. -/
def grad (c : Dev nD) : S512x2048.Idx → EReal := fun z => part m c 8192 (z 0).val (z 1).val

theorem final (c : Dev nD) : (dats m 0 c).arrAt 2 cfg0.N = grad m c := by
  refine (dats m 0 c).arrAt_eq_of_covers 2 _ (by decide +kernel) fun t hf y => ?_
  have h3 : t.val % 4 = 3 := (flush0_2 t).mp hf
  obtain ⟨e0, e1⟩ := index2 t
  rw [after0_2]
  have hx0 : ((((cfg0.win 2).blk t).view.emb y) (0 : Fin 2)).val = 512 * (0) + (y (0 : Fin 2)).val := by
    show win0_2.index t (0 : Fin 2) * 512 + 1 * (y (0 : Fin 2)).val = _; omega
  have hx1 : ((((cfg0.win 2).blk t).view.emb y) (1 : Fin 2)).val = 1024 * (t.val / 4) + (y (1 : Fin 2)).val := by
    show win0_2.index t (1 : Fin 2) * 1024 + 1 * (y (1 : Fin 2)).val = _; omega
  show ((outsAt0 m c t.val t.isLt).1 y : EReal) = grad m c (((cfg0.win 2).blk t).view.emb y)
  unfold grad
  rw [hx0, hx1, ← out_eq m c t h3 (y (0 : Fin 2)) (y (1 : Fin 2))]
  exact congrArg _ (Common.eta (M := 512) (N := 1024) y)

/-- The result's change of format after the call is the identity over the extended reals. -/
theorem tail_eq (c : Dev nD) : Pipeline.afterTail₀ cfgs (dats m) 0 (V0 m) [hostOps1] c main_v3 = grad m c := by
  unfold Pipeline.afterTail₀
  simp only [hostOps1, List.flatten_singleton]
  after_results_simp
  exact (Pipeline.withArrays_arr spec0 (by decide) c (V0 m c) (fun w => (dats m 0 c).arrAt w cfg0.N) 2).trans (final m c)

/-! ## The reference -/

theorem ref_eq (c : Dev nD) : (Cert.Reference6Ideal.Read.val_main_v3 (F := Ideal) (m (c.tc.loc main_arg0))
    (m (c.tc.loc main_arg1)) : S512x2048.Idx → EReal) = grad m c := by
  funext z
  rw [Cert.Reference6Ideal.Read.val_main_v3_apply, Cert.Reference6Ideal.Read.val_main_v2_apply]
  unfold grad part
  rw [Finset.sum_range]
  refine Finset.sum_congr rfl fun r _ => (mul_comm _ _).trans ?_
  unfold xAt yAt
  exact congrArg₂ _ (congrArg _ (Common.ext2 (Nat.mod_eq_of_lt r.isLt).symm (Nat.mod_eq_of_lt (z (0 : Fin 2)).isLt).symm))
    (congrArg _ (Common.ext2 (Nat.mod_eq_of_lt r.isLt).symm (Nat.mod_eq_of_lt (z (1 : Fin 2)).isLt).symm))

end Cert.Kernel6Ideal.Wgrad

end
-- ==== Proof.WgradWqa.lean ====
module

public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Common

/-! The call that makes the gradient of the weight that makes the queries' latent rows. Its grid visits the four blocks of rows; it adds each
    block's product to an accumulator and writes the accumulator out after the fourth. Over the extended reals the
    accumulator is a partial sum over the rows, so the result is the whole sum, which is the reference's. -/

@[expose] public section

set_option maxRecDepth 16384

noncomputable section

namespace Cert.Kernel7Ideal.Wgrad

open Idealize.ShloMosaic Idealize.ShloMosaic.TcCoe Idealize.ShloMosaic.Tactic Idealize.SL.Sem
open Idealize.ShloMosaic.Pipeline (Dat)
open Cert.Kernel7Ideal Cert.Kernel7Ideal.Gen

open Cert.Common (zeros2)

/-! ## What one point of the grid leaves -/

section
variable (c : Dev nD) (i : grid0.Coords) (a3 : Memref sig .tc .vmem S2048x1024 .bf16) (h3 : a3.IsWhole)
  (a4 : Memref sig .tc .vmem S2048x512 .bf16) (h4 : a4.IsWhole) (a5 : Memref sig .tc .vmem S1024x512 .bf16) (h5 : a5.IsWhole)
  (a6 : Memref sig .tc .vmem S1024x512 .f32) (h6 : a6.IsWhole)
  (x : Vec Ideal S2048x1024 .bf16) (y : Vec Ideal S2048x512 .bf16) (s : Vec Ideal S1024x512 .f32)

/-- The first block of rows leaves in the accumulator zero plus the block's product. -/
theorem acc_first (hc : cond0_0 i) (hd : ¬cond0_1 i) :
    sout0_A_0 c i a3 h3 a4 h4 a5 h5 a6 h6 hc hd x y = k0_pay2 (k0_pay1 (F := Ideal)) x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S1024x512) zeros2, View.readCov_unit_zero (S := S1024x512) _ zeros2]
  simp only [View.readAt_eq_ld, h3.read_unread, h4.read_unread, Common.ld0]

/-- A middle block of rows adds its product to the accumulator. -/
theorem acc_next (hc : ¬cond0_0 i) (hd : ¬cond0_1 i) :
    sout0_B_0 c i a3 h3 a4 h4 a5 h5 a6 h6 hc hd x y s = k0_pay2 s x y := by
  unfold sout0_B_0
  rw [View.read_writes_eq_canon _ _ _ (scover0_B_0 c i a3 h3 a4 h4 a5 h5 a6 h6 hc hd x y s)]
  unfold kernelRun0_B
  dsimp only
  rw [View.canon_unit_zero zeros2]
  simp only [View.readAt_eq_ld, h3.read_unread, h4.read_unread, h6.read_unread, Common.ld0]

/-- The last block of rows adds its product to the accumulator too. -/
theorem acc_last (hc : ¬cond0_0 i) (hd : cond0_1 i) :
    sout0_C_0 c i a3 h3 a4 h4 a5 h5 a6 h6 hc hd x y s = k0_pay2 s x y := by
  unfold sout0_C_0
  rw [View.read_writes_eq_canon _ _ _ (scover0_C_0 c i a3 h3 a4 h4 a5 h5 a6 h6 hc hd x y s)]
  unfold kernelRun0_C
  dsimp only
  sl_unfold_words
  rw [View.canon_unit_zero zeros2]
  simp only [View.readAt_eq_ld, h3.read_unread, h4.read_unread, h6.read_unread, Common.ld0]

/-- The last block of rows writes the accumulator it leaves to the output block. -/
theorem out_last (hc : ¬cond0_0 i) (hd : cond0_1 i) :
    out0_C_2 c i a3 h3 a4 h4 a5 h5 a6 h6 hc hd x y s = k0_pay3 (k0_pay2 s x y) := by
  unfold out0_C_2
  rw [View.read_writes_eq_canon _ _ _ (cover0_C_2 c i a3 h3 a4 h4 a5 h5 a6 h6 hc hd x y s)]
  unfold kernelRun0_C
  dsimp only
  sl_unfold_words
  rw [View.canon_unit_zero zeros2, View.readCov_unit_zero (S := S1024x512) _ zeros2]
  simp only [View.readAt_eq_ld, h3.read_unread, h4.read_unread, h6.read_unread, Common.ld0]

/-- The zero block, entry by entry. -/
theorem pay1_apply (p : Fin 1024) (q : Fin 512) : (k0_pay1 (F := Ideal) (ix2 p q) : EReal) = 0 := by
  unfold k0_pay1
  simp only [shapeCast_self]
  exact Common.zero_bits

/-- An accumulator with a block's product added, entry by entry. -/
theorem pay2_apply (p : Fin 1024) (q : Fin 512) :
    (k0_pay2 s x y (ix2 p q) : EReal) = (s (ix2 p q) : EReal) + ∑ r : Fin 2048, (x (ix2 r p) : EReal) * (y (ix2 r q) : EReal) := by
  unfold k0_pay2
  simp only [shapeCast_self]
  show (s (ix2 p q) : EReal) + _ = _
  refine congrArg ((s (ix2 p q) : EReal) + ·) ?_
  exact Common.tn _ x y p q

end

/-! ## The accumulator after each point -/

variable (m : (ℓ : Loc nD τ sig) → Buf (Elt Ideal) ℓ)

/-- The entry of `x` at row `r` and column `k`, counted by naturals. -/
def xAt (c : Dev nD) (r k : ℕ) : EReal :=
  (m (c.tc.loc main_arg0) : S8192x1024.Idx → EReal) (ix2 (Fin.ofNat 8192 r) (Fin.ofNat 1024 k))

/-- The entry of the incoming gradient at row `r` and column `k`, counted by naturals. -/
def yAt (c : Dev nD) (r k : ℕ) : EReal :=
  (m (c.tc.loc main_arg1) : S8192x512.Idx → EReal) (ix2 (Fin.ofNat 8192 r) (Fin.ofNat 512 k))

theorem V_x (c : Dev nD) : (V m c main_v0 : S8192x1024.Idx → EReal) = m (c.tc.loc main_arg0) := by
  simp only [V, V0, hostOps0, List.flatten_singleton]
  after_results_simp <;> rfl

theorem V_y (c : Dev nD) : (V m c main_v1 : S8192x512.Idx → EReal) = m (c.tc.loc main_arg1) := by
  simp only [V, V0, hostOps0, List.flatten_singleton]
  after_results_simp <;> rfl

theorem index0 : ∀ t : Fin cfg0.N, win0_0.index t (0 : Fin 2) = t.val % 4 ∧ win0_0.index t (1 : Fin 2) = 0 := by decide +kernel
theorem index1 : ∀ t : Fin cfg0.N, win0_1.index t (0 : Fin 2) = t.val % 4 ∧ win0_1.index t (1 : Fin 2) = 0 := by decide +kernel
theorem index2 : ∀ t : Fin cfg0.N, win0_2.index t (0 : Fin 2) = 0 ∧ win0_2.index t (1 : Fin 2) = 0 := by decide +kernel

theorem iblk_x (c : Dev nD) (t : Fin cfg0.N) (r : Fin 2048) (p : Fin 1024) :
    (iblk m c 0 t (ix2 r p) : EReal) = xAt m c (2048 * (t.val % 4) + r.val) (1024 * (0) + p.val) := by
  obtain ⟨e0, e1⟩ := index0 t
  have hN : t.val < 4 := lt_of_lt_of_eq t.isLt N_0
  have hr := r.isLt
  have hp := p.isLt
  show (V m c main_v0 : S8192x1024.Idx → EReal) (((cfg0.win 0).blk t).view.emb (ix2 r p)) = _
  rw [V_x]
  unfold xAt
  exact congrArg _ (Common.ext2 (by show win0_0.index t (0 : Fin 2) * 2048 + 1 * r.val = (2048 * (t.val % 4) + r.val) % 8192; omega)
    (by show win0_0.index t (1 : Fin 2) * 1024 + 1 * p.val = (1024 * (0) + p.val) % 1024; omega))

theorem iblk_y (c : Dev nD) (t : Fin cfg0.N) (r : Fin 2048) (q : Fin 512) :
    (iblk m c 1 t (ix2 r q) : EReal) = yAt m c (2048 * (t.val % 4) + r.val) (512 * (0) + q.val) := by
  obtain ⟨e0, e1⟩ := index1 t
  have hN : t.val < 4 := lt_of_lt_of_eq t.isLt N_0
  have hr := r.isLt
  have hq := q.isLt
  show (V m c main_v1 : S8192x512.Idx → EReal) (((cfg0.win 1).blk t).view.emb (ix2 r q)) = _
  rw [V_y]
  unfold yAt
  exact congrArg _ (Common.ext2 (by show win0_1.index t (0 : Fin 2) * 2048 + 1 * r.val = (2048 * (t.val % 4) + r.val) % 8192; omega)
    (by show win0_1.index t (1 : Fin 2) * 512 + 1 * q.val = (512 * (0) + q.val) % 512; omega))

/-- The sum over the first `n` rows for column `i` of `x` and column `j` of the incoming gradient. -/
def part (c : Dev nD) (n i j : ℕ) : EReal := ∑ r ∈ Finset.range n, xAt m c r i * yAt m c r j

/-- Adding a block's product to the sum over the rows before it gives the sum over the rows up to its end. -/
theorem pay2_part (c : Dev nD) (t : Fin cfg0.N) (s : Vec Ideal S1024x512 .f32) (p : Fin 1024) (q : Fin 512)
    (hs : (s (ix2 p q) : EReal) = part m c (2048 * (t.val % 4)) (1024 * (0) + p.val) (512 * (0) + q.val)) :
    (k0_pay2 s (iblk m c 0 t) (iblk m c 1 t) (ix2 p q) : EReal)
      = part m c (2048 * (t.val % 4) + 2048) (1024 * (0) + p.val) (512 * (0) + q.val) := by
  refine (pay2_apply _ _ _ p q).trans ?_
  rw [hs]
  unfold part
  rw [Finset.sum_range_add, Finset.sum_range (n := 2048)]
  refine congrArg _ (Finset.sum_congr rfl fun r _ => ?_)
  rw [← iblk_x, ← iblk_y]

/-- The accumulator after the first block of rows of a block of columns. -/
theorem acc_A (c : Dev nD) (t : Fin cfg0.N) (h0 : t.val % 4 = 0) :
    (outsAt0 m c t.val t.isLt).2 = k0_pay2 (k0_pay1 (F := Ideal)) (iblk m c 0 t) (iblk m c 1 t) := by
  rw [outsAt0_A m c t h0 (by omega)]
  dsimp only
  rw [acc_first]

/-- The accumulator after a later block of rows. -/
theorem acc_BC (c : Dev nD) (t : Fin cfg0.N) (h0 : ¬t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    rw [acc_last]
  · rw [outsAt0_B m c t h0 h1]
    dsimp only
    rw [acc_next]

/-- The output block after the last block of rows. -/
theorem out_C (c : Dev nD) (t : Fin cfg0.N) (h1 : t.val % 4 = 3) :
    (outsAt0 m c t.val t.isLt).1 = k0_pay3 (outsAt0 m c t.val t.isLt).2 := by
  have h0 : ¬t.val % 4 = 0 := by omega
  rw [acc_BC m c t h0, outsAt0_C m c t h0 h1]
  dsimp only
  rw [out_last]

/-- After point `n` the accumulator holds the sum over the rows up to the end of the point's block. -/
theorem acc_eq (c : Dev nD) (p : Fin 1024) (q : Fin 512) : ∀ (n : ℕ) (hn : n < cfg0.N),
    ((outsAt0 m c n hn).2 (ix2 p q) : EReal)
      = part m c (2048 * (n % 4) + 2048) (1024 * (0) + p.val) (512 * (0) + q.val) :=
  Common.running 2048 (fun g r => part m c r (1024 * (0) + p.val) (512 * (0) + q.val)) _ (fun t h0 => by
    rw [acc_A m c t h0]
    refine pay2_part m c t _ p q ?_
    rw [pay1_apply, h0]
    exact (Finset.sum_range_zero _).symm)
    fun n hn h0 ih => (congrFun (acc_BC m c ⟨n + 1, hn⟩ h0) (ix2 p q)).trans (pay2_part m c ⟨n + 1, hn⟩ _ p q ih)

/-- At a block's last point the output block holds the sum over all rows. -/
theorem out_eq (c : Dev nD) (t : Fin cfg0.N) (h1 : t.val % 4 = 3) (p : Fin 1024) (q : Fin 512) :
    ((outsAt0 m c t.val t.isLt).1 (ix2 p q) : EReal) = part m c 8192 (1024 * (0) + p.val) (512 * (0) + q.val) := by
  rw [out_C m c t h1]
  refine (acc_eq m c p q t.val t.isLt).trans ?_
  rw [h1]

/-! ## The result -/

/-- The gradient of the weight: entry `(i, j)` is the sum over the rows of `x` at `i` times the incoming gradient at `j`. -/
def grad (c : Dev nD) : S1024x512.Idx → EReal := fun z => part m c 8192 (z 0).val (z 1).val

theorem final (c : Dev nD) : (dats m 0 c).arrAt 2 cfg0.N = grad m c := by
  refine (dats m 0 c).arrAt_eq_of_covers 2 _ (by decide +kernel) fun t hf y => ?_
  have h3 : t.val % 4 = 3 := (flush0_2 t).mp hf
  obtain ⟨e0, e1⟩ := index2 t
  rw [after0_2]
  have hx0 : ((((cfg0.win 2).blk t).view.emb y) (0 : Fin 2)).val = 1024 * (0) + (y (0 : Fin 2)).val := by
    show win0_2.index t (0 : Fin 2) * 1024 + 1 * (y (0 : Fin 2)).val = _; omega
  have hx1 : ((((cfg0.win 2).blk t).view.emb y) (1 : Fin 2)).val = 512 * (0) + (y (1 : Fin 2)).val := by
    show win0_2.index t (1 : Fin 2) * 512 + 1 * (y (1 : Fin 2)).val = _; omega
  show ((outsAt0 m c t.val t.isLt).1 y : EReal) = grad m c (((cfg0.win 2).blk t).view.emb y)
  unfold grad
  rw [hx0, hx1, ← out_eq m c t h3 (y (0 : Fin 2)) (y (1 : Fin 2))]
  exact congrArg _ (Common.eta (M := 1024) (N := 512) y)

/-- The result's change of format after the call is the identity over the extended reals. -/
theorem tail_eq (c : Dev nD) : Pipeline.afterTail₀ cfgs (dats m) 0 (V0 m) [hostOps1] c main_v3 = grad m c := by
  unfold Pipeline.afterTail₀
  simp only [hostOps1, List.flatten_singleton]
  after_results_simp
  exact (Pipeline.withArrays_arr spec0 (by decide) c (V0 m c) (fun w => (dats m 0 c).arrAt w cfg0.N) 2).trans (final m c)

/-! ## The reference -/

theorem ref_eq (c : Dev nD) : (Cert.Reference7Ideal.Read.val_main_v3 (F := Ideal) (m (c.tc.loc main_arg0))
    (m (c.tc.loc main_arg1)) : S1024x512.Idx → EReal) = grad m c := by
  funext z
  rw [Cert.Reference7Ideal.Read.val_main_v3_apply, Cert.Reference7Ideal.Read.val_main_v2_apply]
  unfold grad part
  rw [Finset.sum_range]
  refine Finset.sum_congr rfl fun r _ => (mul_comm _ _).trans ?_
  unfold xAt yAt
  exact congrArg₂ _ (congrArg _ (Common.ext2 (Nat.mod_eq_of_lt r.isLt).symm (Nat.mod_eq_of_lt (z (0 : Fin 2)).isLt).symm))
    (congrArg _ (Common.ext2 (Nat.mod_eq_of_lt r.isLt).symm (Nat.mod_eq_of_lt (z (1 : Fin 2)).isLt).symm))

end Cert.Kernel7Ideal.Wgrad

end
-- ==== Proof.WgradWkva.lean ====
module

public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Common

/-! The call that makes the gradient of the weight that makes the latent rows of keys and values. Its grid visits the four blocks of rows; it adds each
    block's product to an accumulator and writes the accumulator out after the fourth. Over the extended reals the
    accumulator is a partial sum over the rows, so the result is the whole sum, which is the reference's. -/

@[expose] public section

set_option maxRecDepth 16384

noncomputable section

namespace Cert.Kernel8Ideal.Wgrad

open Idealize.ShloMosaic Idealize.ShloMosaic.TcCoe Idealize.ShloMosaic.Tactic Idealize.SL.Sem
open Idealize.ShloMosaic.Pipeline (Dat)
open Cert.Kernel8Ideal Cert.Kernel8Ideal.Gen

open Cert.Common (zeros2)

/-! ## What one point of the grid leaves -/

section
variable (c : Dev nD) (i : grid0.Coords) (a3 : Memref sig .tc .vmem S2048x1024 .bf16) (h3 : a3.IsWhole)
  (a4 : Memref sig .tc .vmem S2048x384 .bf16) (h4 : a4.IsWhole) (a5 : Memref sig .tc .vmem S1024x384 .bf16) (h5 : a5.IsWhole)
  (a6 : Memref sig .tc .vmem S1024x384 .f32) (h6 : a6.IsWhole)
  (x : Vec Ideal S2048x1024 .bf16) (y : Vec Ideal S2048x384 .bf16) (s : Vec Ideal S1024x384 .f32)

/-- The first block of rows leaves in the accumulator zero plus the block's product. -/
theorem acc_first (hc : cond0_0 i) (hd : ¬cond0_1 i) :
    sout0_A_0 c i a3 h3 a4 h4 a5 h5 a6 h6 hc hd x y = k0_pay2 (k0_pay1 (F := Ideal)) x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S1024x384) zeros2, View.readCov_unit_zero (S := S1024x384) _ zeros2]
  simp only [View.readAt_eq_ld, h3.read_unread, h4.read_unread, Common.ld0]

/-- A middle block of rows adds its product to the accumulator. -/
theorem acc_next (hc : ¬cond0_0 i) (hd : ¬cond0_1 i) :
    sout0_B_0 c i a3 h3 a4 h4 a5 h5 a6 h6 hc hd x y s = k0_pay2 s x y := by
  unfold sout0_B_0
  rw [View.read_writes_eq_canon _ _ _ (scover0_B_0 c i a3 h3 a4 h4 a5 h5 a6 h6 hc hd x y s)]
  unfold kernelRun0_B
  dsimp only
  rw [View.canon_unit_zero zeros2]
  simp only [View.readAt_eq_ld, h3.read_unread, h4.read_unread, h6.read_unread, Common.ld0]

/-- The last block of rows adds its product to the accumulator too. -/
theorem acc_last (hc : ¬cond0_0 i) (hd : cond0_1 i) :
    sout0_C_0 c i a3 h3 a4 h4 a5 h5 a6 h6 hc hd x y s = k0_pay2 s x y := by
  unfold sout0_C_0
  rw [View.read_writes_eq_canon _ _ _ (scover0_C_0 c i a3 h3 a4 h4 a5 h5 a6 h6 hc hd x y s)]
  unfold kernelRun0_C
  dsimp only
  sl_unfold_words
  rw [View.canon_unit_zero zeros2]
  simp only [View.readAt_eq_ld, h3.read_unread, h4.read_unread, h6.read_unread, Common.ld0]

/-- The last block of rows writes the accumulator it leaves to the output block. -/
theorem out_last (hc : ¬cond0_0 i) (hd : cond0_1 i) :
    out0_C_2 c i a3 h3 a4 h4 a5 h5 a6 h6 hc hd x y s = k0_pay3 (k0_pay2 s x y) := by
  unfold out0_C_2
  rw [View.read_writes_eq_canon _ _ _ (cover0_C_2 c i a3 h3 a4 h4 a5 h5 a6 h6 hc hd x y s)]
  unfold kernelRun0_C
  dsimp only
  sl_unfold_words
  rw [View.canon_unit_zero zeros2, View.readCov_unit_zero (S := S1024x384) _ zeros2]
  simp only [View.readAt_eq_ld, h3.read_unread, h4.read_unread, h6.read_unread, Common.ld0]

/-- The zero block, entry by entry. -/
theorem pay1_apply (p : Fin 1024) (q : Fin 384) : (k0_pay1 (F := Ideal) (ix2 p q) : EReal) = 0 := by
  unfold k0_pay1
  simp only [shapeCast_self]
  exact Common.zero_bits

/-- An accumulator with a block's product added, entry by entry. -/
theorem pay2_apply (p : Fin 1024) (q : Fin 384) :
    (k0_pay2 s x y (ix2 p q) : EReal) = (s (ix2 p q) : EReal) + ∑ r : Fin 2048, (x (ix2 r p) : EReal) * (y (ix2 r q) : EReal) := by
  unfold k0_pay2
  simp only [shapeCast_self]
  show (s (ix2 p q) : EReal) + _ = _
  refine congrArg ((s (ix2 p q) : EReal) + ·) ?_
  exact Common.tn _ x y p q

end

/-! ## The accumulator after each point -/

variable (m : (ℓ : Loc nD τ sig) → Buf (Elt Ideal) ℓ)

/-- The entry of `x` at row `r` and column `k`, counted by naturals. -/
def xAt (c : Dev nD) (r k : ℕ) : EReal :=
  (m (c.tc.loc main_arg0) : S8192x1024.Idx → EReal) (ix2 (Fin.ofNat 8192 r) (Fin.ofNat 1024 k))

/-- The entry of the incoming gradient at row `r` and column `k`, counted by naturals. -/
def yAt (c : Dev nD) (r k : ℕ) : EReal :=
  (m (c.tc.loc main_arg1) : S8192x384.Idx → EReal) (ix2 (Fin.ofNat 8192 r) (Fin.ofNat 384 k))

theorem V_x (c : Dev nD) : (V m c main_v0 : S8192x1024.Idx → EReal) = m (c.tc.loc main_arg0) := by
  simp only [V, V0, hostOps0, List.flatten_singleton]
  after_results_simp <;> rfl

theorem V_y (c : Dev nD) : (V m c main_v1 : S8192x384.Idx → EReal) = m (c.tc.loc main_arg1) := by
  simp only [V, V0, hostOps0, List.flatten_singleton]
  after_results_simp <;> rfl

theorem index0 : ∀ t : Fin cfg0.N, win0_0.index t (0 : Fin 2) = t.val % 4 ∧ win0_0.index t (1 : Fin 2) = 0 := by decide +kernel
theorem index1 : ∀ t : Fin cfg0.N, win0_1.index t (0 : Fin 2) = t.val % 4 ∧ win0_1.index t (1 : Fin 2) = 0 := by decide +kernel
theorem index2 : ∀ t : Fin cfg0.N, win0_2.index t (0 : Fin 2) = 0 ∧ win0_2.index t (1 : Fin 2) = 0 := by decide +kernel

theorem iblk_x (c : Dev nD) (t : Fin cfg0.N) (r : Fin 2048) (p : Fin 1024) :
    (iblk m c 0 t (ix2 r p) : EReal) = xAt m c (2048 * (t.val % 4) + r.val) (1024 * (0) + p.val) := by
  obtain ⟨e0, e1⟩ := index0 t
  have hN : t.val < 4 := lt_of_lt_of_eq t.isLt N_0
  have hr := r.isLt
  have hp := p.isLt
  show (V m c main_v0 : S8192x1024.Idx → EReal) (((cfg0.win 0).blk t).view.emb (ix2 r p)) = _
  rw [V_x]
  unfold xAt
  exact congrArg _ (Common.ext2 (by show win0_0.index t (0 : Fin 2) * 2048 + 1 * r.val = (2048 * (t.val % 4) + r.val) % 8192; omega)
    (by show win0_0.index t (1 : Fin 2) * 1024 + 1 * p.val = (1024 * (0) + p.val) % 1024; omega))

theorem iblk_y (c : Dev nD) (t : Fin cfg0.N) (r : Fin 2048) (q : Fin 384) :
    (iblk m c 1 t (ix2 r q) : EReal) = yAt m c (2048 * (t.val % 4) + r.val) (384 * (0) + q.val) := by
  obtain ⟨e0, e1⟩ := index1 t
  have hN : t.val < 4 := lt_of_lt_of_eq t.isLt N_0
  have hr := r.isLt
  have hq := q.isLt
  show (V m c main_v1 : S8192x384.Idx → EReal) (((cfg0.win 1).blk t).view.emb (ix2 r q)) = _
  rw [V_y]
  unfold yAt
  exact congrArg _ (Common.ext2 (by show win0_1.index t (0 : Fin 2) * 2048 + 1 * r.val = (2048 * (t.val % 4) + r.val) % 8192; omega)
    (by show win0_1.index t (1 : Fin 2) * 384 + 1 * q.val = (384 * (0) + q.val) % 384; omega))

/-- The sum over the first `n` rows for column `i` of `x` and column `j` of the incoming gradient. -/
def part (c : Dev nD) (n i j : ℕ) : EReal := ∑ r ∈ Finset.range n, xAt m c r i * yAt m c r j

/-- Adding a block's product to the sum over the rows before it gives the sum over the rows up to its end. -/
theorem pay2_part (c : Dev nD) (t : Fin cfg0.N) (s : Vec Ideal S1024x384 .f32) (p : Fin 1024) (q : Fin 384)
    (hs : (s (ix2 p q) : EReal) = part m c (2048 * (t.val % 4)) (1024 * (0) + p.val) (384 * (0) + q.val)) :
    (k0_pay2 s (iblk m c 0 t) (iblk m c 1 t) (ix2 p q) : EReal)
      = part m c (2048 * (t.val % 4) + 2048) (1024 * (0) + p.val) (384 * (0) + q.val) := by
  refine (pay2_apply _ _ _ p q).trans ?_
  rw [hs]
  unfold part
  rw [Finset.sum_range_add, Finset.sum_range (n := 2048)]
  refine congrArg _ (Finset.sum_congr rfl fun r _ => ?_)
  rw [← iblk_x, ← iblk_y]

/-- The accumulator after the first block of rows of a block of columns. -/
theorem acc_A (c : Dev nD) (t : Fin cfg0.N) (h0 : t.val % 4 = 0) :
    (outsAt0 m c t.val t.isLt).2 = k0_pay2 (k0_pay1 (F := Ideal)) (iblk m c 0 t) (iblk m c 1 t) := by
  rw [outsAt0_A m c t h0 (by omega)]
  dsimp only
  rw [acc_first]

/-- The accumulator after a later block of rows. -/
theorem acc_BC (c : Dev nD) (t : Fin cfg0.N) (h0 : ¬t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    rw [acc_last]
  · rw [outsAt0_B m c t h0 h1]
    dsimp only
    rw [acc_next]

/-- The output block after the last block of rows. -/
theorem out_C (c : Dev nD) (t : Fin cfg0.N) (h1 : t.val % 4 = 3) :
    (outsAt0 m c t.val t.isLt).1 = k0_pay3 (outsAt0 m c t.val t.isLt).2 := by
  have h0 : ¬t.val % 4 = 0 := by omega
  rw [acc_BC m c t h0, outsAt0_C m c t h0 h1]
  dsimp only
  rw [out_last]

/-- After point `n` the accumulator holds the sum over the rows up to the end of the point's block. -/
theorem acc_eq (c : Dev nD) (p : Fin 1024) (q : Fin 384) : ∀ (n : ℕ) (hn : n < cfg0.N),
    ((outsAt0 m c n hn).2 (ix2 p q) : EReal)
      = part m c (2048 * (n % 4) + 2048) (1024 * (0) + p.val) (384 * (0) + q.val) :=
  Common.running 2048 (fun g r => part m c r (1024 * (0) + p.val) (384 * (0) + q.val)) _ (fun t h0 => by
    rw [acc_A m c t h0]
    refine pay2_part m c t _ p q ?_
    rw [pay1_apply, h0]
    exact (Finset.sum_range_zero _).symm)
    fun n hn h0 ih => (congrFun (acc_BC m c ⟨n + 1, hn⟩ h0) (ix2 p q)).trans (pay2_part m c ⟨n + 1, hn⟩ _ p q ih)

/-- At a block's last point the output block holds the sum over all rows. -/
theorem out_eq (c : Dev nD) (t : Fin cfg0.N) (h1 : t.val % 4 = 3) (p : Fin 1024) (q : Fin 384) :
    ((outsAt0 m c t.val t.isLt).1 (ix2 p q) : EReal) = part m c 8192 (1024 * (0) + p.val) (384 * (0) + q.val) := by
  rw [out_C m c t h1]
  refine (acc_eq m c p q t.val t.isLt).trans ?_
  rw [h1]

/-! ## The result -/

/-- The gradient of the weight: entry `(i, j)` is the sum over the rows of `x` at `i` times the incoming gradient at `j`. -/
def grad (c : Dev nD) : S1024x384.Idx → EReal := fun z => part m c 8192 (z 0).val (z 1).val

theorem final (c : Dev nD) : (dats m 0 c).arrAt 2 cfg0.N = grad m c := by
  refine (dats m 0 c).arrAt_eq_of_covers 2 _ (by decide +kernel) fun t hf y => ?_
  have h3 : t.val % 4 = 3 := (flush0_2 t).mp hf
  obtain ⟨e0, e1⟩ := index2 t
  rw [after0_2]
  have hx0 : ((((cfg0.win 2).blk t).view.emb y) (0 : Fin 2)).val = 1024 * (0) + (y (0 : Fin 2)).val := by
    show win0_2.index t (0 : Fin 2) * 1024 + 1 * (y (0 : Fin 2)).val = _; omega
  have hx1 : ((((cfg0.win 2).blk t).view.emb y) (1 : Fin 2)).val = 384 * (0) + (y (1 : Fin 2)).val := by
    show win0_2.index t (1 : Fin 2) * 384 + 1 * (y (1 : Fin 2)).val = _; omega
  show ((outsAt0 m c t.val t.isLt).1 y : EReal) = grad m c (((cfg0.win 2).blk t).view.emb y)
  unfold grad
  rw [hx0, hx1, ← out_eq m c t h3 (y (0 : Fin 2)) (y (1 : Fin 2))]
  exact congrArg _ (Common.eta (M := 1024) (N := 384) y)

/-- The result's change of format after the call is the identity over the extended reals. -/
theorem tail_eq (c : Dev nD) : Pipeline.afterTail₀ cfgs (dats m) 0 (V0 m) [hostOps1] c main_v3 = grad m c := by
  unfold Pipeline.afterTail₀
  simp only [hostOps1, List.flatten_singleton]
  after_results_simp
  exact (Pipeline.withArrays_arr spec0 (by decide) c (V0 m c) (fun w => (dats m 0 c).arrAt w cfg0.N) 2).trans (final m c)

/-! ## The reference -/

theorem ref_eq (c : Dev nD) : (Cert.Reference8Ideal.Read.val_main_v3 (F := Ideal) (m (c.tc.loc main_arg0))
    (m (c.tc.loc main_arg1)) : S1024x384.Idx → EReal) = grad m c := by
  funext z
  rw [Cert.Reference8Ideal.Read.val_main_v3_apply, Cert.Reference8Ideal.Read.val_main_v2_apply]
  unfold grad part
  rw [Finset.sum_range]
  refine Finset.sum_congr rfl fun r _ => (mul_comm _ _).trans ?_
  unfold xAt yAt
  exact congrArg₂ _ (congrArg _ (Common.ext2 (Nat.mod_eq_of_lt r.isLt).symm (Nat.mod_eq_of_lt (z (0 : Fin 2)).isLt).symm))
    (congrArg _ (Common.ext2 (Nat.mod_eq_of_lt r.isLt).symm (Nat.mod_eq_of_lt (z (1 : Fin 2)).isLt).symm))

end Cert.Kernel8Ideal.Wgrad

end
-- ==== Proof.WgradWkvb.lean ====
module

public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Proof.Common

/-! The call that makes the gradient of the weight that expands the latent rows of keys and values to the heads. Its grid visits, for each block of columns of the incoming gradient, the four blocks of rows; it adds each
    block's product to an accumulator and writes the accumulator out after the fourth. Over the extended reals the
    accumulator is a partial sum over the rows, so the result is the whole sum, which is the reference's. -/

@[expose] public section

set_option maxRecDepth 16384

noncomputable section

namespace Cert.Kernel9Ideal.Wgrad

open Idealize.ShloMosaic Idealize.ShloMosaic.TcCoe Idealize.ShloMosaic.Tactic Idealize.SL.Sem
open Idealize.ShloMosaic.Pipeline (Dat)
open Cert.Kernel9Ideal Cert.Kernel9Ideal.Gen

open Cert.Common (zeros2)

/-! ## What one point of the grid leaves -/

section
variable (c : Dev nD) (i : grid0.Coords) (a3 : Memref sig .tc .vmem S2048x256 .bf16) (h3 : a3.IsWhole)
  (a4 : Memref sig .tc .vmem S2048x1024 .bf16) (h4 : a4.IsWhole) (a5 : Memref sig .tc .vmem S256x1024 .bf16) (h5 : a5.IsWhole)
  (a6 : Memref sig .tc .vmem S256x1024 .f32) (h6 : a6.IsWhole)
  (x : Vec Ideal S2048x256 .bf16) (y : Vec Ideal S2048x1024 .bf16) (s : Vec Ideal S256x1024 .f32)

/-- The first block of rows leaves in the accumulator zero plus the block's product. -/
theorem acc_first (hc : cond0_0 i) (hd : ¬cond0_1 i) :
    sout0_A_0 c i a3 h3 a4 h4 a5 h5 a6 h6 hc hd x y = k0_pay2 (k0_pay1 (F := Ideal)) x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S256x1024) zeros2, View.readCov_unit_zero (S := S256x1024) _ zeros2]
  simp only [View.readAt_eq_ld, h3.read_unread, h4.read_unread, Common.ld0]

/-- A middle block of rows adds its product to the accumulator. -/
theorem acc_next (hc : ¬cond0_0 i) (hd : ¬cond0_1 i) :
    sout0_B_0 c i a3 h3 a4 h4 a5 h5 a6 h6 hc hd x y s = k0_pay2 s x y := by
  unfold sout0_B_0
  rw [View.read_writes_eq_canon _ _ _ (scover0_B_0 c i a3 h3 a4 h4 a5 h5 a6 h6 hc hd x y s)]
  unfold kernelRun0_B
  dsimp only
  rw [View.canon_unit_zero zeros2]
  simp only [View.readAt_eq_ld, h3.read_unread, h4.read_unread, h6.read_unread, Common.ld0]

/-- The last block of rows adds its product to the accumulator too. -/
theorem acc_last (hc : ¬cond0_0 i) (hd : cond0_1 i) :
    sout0_C_0 c i a3 h3 a4 h4 a5 h5 a6 h6 hc hd x y s = k0_pay2 s x y := by
  unfold sout0_C_0
  rw [View.read_writes_eq_canon _ _ _ (scover0_C_0 c i a3 h3 a4 h4 a5 h5 a6 h6 hc hd x y s)]
  unfold kernelRun0_C
  dsimp only
  sl_unfold_words
  rw [View.canon_unit_zero zeros2]
  simp only [View.readAt_eq_ld, h3.read_unread, h4.read_unread, h6.read_unread, Common.ld0]

/-- The last block of rows writes the accumulator it leaves to the output block. -/
theorem out_last (hc : ¬cond0_0 i) (hd : cond0_1 i) :
    out0_C_2 c i a3 h3 a4 h4 a5 h5 a6 h6 hc hd x y s = k0_pay3 (k0_pay2 s x y) := by
  unfold out0_C_2
  rw [View.read_writes_eq_canon _ _ _ (cover0_C_2 c i a3 h3 a4 h4 a5 h5 a6 h6 hc hd x y s)]
  unfold kernelRun0_C
  dsimp only
  sl_unfold_words
  rw [View.canon_unit_zero zeros2, View.readCov_unit_zero (S := S256x1024) _ zeros2]
  simp only [View.readAt_eq_ld, h3.read_unread, h4.read_unread, h6.read_unread, Common.ld0]

/-- The zero block, entry by entry. -/
theorem pay1_apply (p : Fin 256) (q : Fin 1024) : (k0_pay1 (F := Ideal) (ix2 p q) : EReal) = 0 := by
  unfold k0_pay1
  simp only [shapeCast_self]
  exact Common.zero_bits

/-- An accumulator with a block's product added, entry by entry. -/
theorem pay2_apply (p : Fin 256) (q : Fin 1024) :
    (k0_pay2 s x y (ix2 p q) : EReal) = (s (ix2 p q) : EReal) + ∑ r : Fin 2048, (x (ix2 r p) : EReal) * (y (ix2 r q) : EReal) := by
  unfold k0_pay2
  simp only [shapeCast_self]
  show (s (ix2 p q) : EReal) + _ = _
  refine congrArg ((s (ix2 p q) : EReal) + ·) ?_
  exact Common.tn _ x y p q

end

/-! ## The accumulator after each point -/

variable (m : (ℓ : Loc nD τ sig) → Buf (Elt Ideal) ℓ)

/-- The entry of `x` at row `r` and column `k`, counted by naturals. -/
def xAt (c : Dev nD) (r k : ℕ) : EReal :=
  (m (c.tc.loc main_arg0) : S8192x256.Idx → EReal) (ix2 (Fin.ofNat 8192 r) (Fin.ofNat 256 k))

/-- The entry of the incoming gradient at row `r` and column `k`, counted by naturals. -/
def yAt (c : Dev nD) (r k : ℕ) : EReal :=
  (m (c.tc.loc main_arg1) : S8192x2048.Idx → EReal) (ix2 (Fin.ofNat 8192 r) (Fin.ofNat 2048 k))

theorem V_x (c : Dev nD) : (V m c main_v0 : S8192x256.Idx → EReal) = m (c.tc.loc main_arg0) := by
  simp only [V, V0, hostOps0, List.flatten_singleton]
  after_results_simp <;> rfl

theorem V_y (c : Dev nD) : (V m c main_v1 : S8192x2048.Idx → EReal) = m (c.tc.loc main_arg1) := by
  simp only [V, V0, hostOps0, List.flatten_singleton]
  after_results_simp <;> rfl

theorem index0 : ∀ t : Fin cfg0.N, win0_0.index t (0 : Fin 2) = t.val % 4 ∧ win0_0.index t (1 : Fin 2) = 0 := by decide +kernel
theorem index1 : ∀ t : Fin cfg0.N, win0_1.index t (0 : Fin 2) = t.val % 4 ∧ win0_1.index t (1 : Fin 2) = t.val / 4 := by decide +kernel
theorem index2 : ∀ t : Fin cfg0.N, win0_2.index t (0 : Fin 2) = 0 ∧ win0_2.index t (1 : Fin 2) = t.val / 4 := by decide +kernel

theorem iblk_x (c : Dev nD) (t : Fin cfg0.N) (r : Fin 2048) (p : Fin 256) :
    (iblk m c 0 t (ix2 r p) : EReal) = xAt m c (2048 * (t.val % 4) + r.val) (256 * (0) + p.val) := by
  obtain ⟨e0, e1⟩ := index0 t
  have hN : t.val < 8 := lt_of_lt_of_eq t.isLt N_0
  have hr := r.isLt
  have hp := p.isLt
  show (V m c main_v0 : S8192x256.Idx → EReal) (((cfg0.win 0).blk t).view.emb (ix2 r p)) = _
  rw [V_x]
  unfold xAt
  exact congrArg _ (Common.ext2 (by show win0_0.index t (0 : Fin 2) * 2048 + 1 * r.val = (2048 * (t.val % 4) + r.val) % 8192; omega)
    (by show win0_0.index t (1 : Fin 2) * 256 + 1 * p.val = (256 * (0) + p.val) % 256; omega))

theorem iblk_y (c : Dev nD) (t : Fin cfg0.N) (r : Fin 2048) (q : Fin 1024) :
    (iblk m c 1 t (ix2 r q) : EReal) = yAt m c (2048 * (t.val % 4) + r.val) (1024 * (t.val / 4) + q.val) := by
  obtain ⟨e0, e1⟩ := index1 t
  have hN : t.val < 8 := lt_of_lt_of_eq t.isLt N_0
  have hr := r.isLt
  have hq := q.isLt
  show (V m c main_v1 : S8192x2048.Idx → EReal) (((cfg0.win 1).blk t).view.emb (ix2 r q)) = _
  rw [V_y]
  unfold yAt
  exact congrArg _ (Common.ext2 (by show win0_1.index t (0 : Fin 2) * 2048 + 1 * r.val = (2048 * (t.val % 4) + r.val) % 8192; omega)
    (by show win0_1.index t (1 : Fin 2) * 1024 + 1 * q.val = (1024 * (t.val / 4) + q.val) % 2048; omega))

/-- The sum over the first `n` rows for column `i` of `x` and column `j` of the incoming gradient. -/
def part (c : Dev nD) (n i j : ℕ) : EReal := ∑ r ∈ Finset.range n, xAt m c r i * yAt m c r j

/-- Adding a block's product to the sum over the rows before it gives the sum over the rows up to its end. -/
theorem pay2_part (c : Dev nD) (t : Fin cfg0.N) (s : Vec Ideal S256x1024 .f32) (p : Fin 256) (q : Fin 1024)
    (hs : (s (ix2 p q) : EReal) = part m c (2048 * (t.val % 4)) (256 * (0) + p.val) (1024 * (t.val / 4) + q.val)) :
    (k0_pay2 s (iblk m c 0 t) (iblk m c 1 t) (ix2 p q) : EReal)
      = part m c (2048 * (t.val % 4) + 2048) (256 * (0) + p.val) (1024 * (t.val / 4) + q.val) := by
  refine (pay2_apply _ _ _ p q).trans ?_
  rw [hs]
  unfold part
  rw [Finset.sum_range_add, Finset.sum_range (n := 2048)]
  refine congrArg _ (Finset.sum_congr rfl fun r _ => ?_)
  rw [← iblk_x, ← iblk_y]

/-- The accumulator after the first block of rows of a block of columns. -/
theorem acc_A (c : Dev nD) (t : Fin cfg0.N) (h0 : t.val % 4 = 0) :
    (outsAt0 m c t.val t.isLt).2 = k0_pay2 (k0_pay1 (F := Ideal)) (iblk m c 0 t) (iblk m c 1 t) := by
  rw [outsAt0_A m c t h0 (by omega)]
  dsimp only
  rw [acc_first]

/-- The accumulator after a later block of rows. -/
theorem acc_BC (c : Dev nD) (t : Fin cfg0.N) (h0 : ¬t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    rw [acc_last]
  · rw [outsAt0_B m c t h0 h1]
    dsimp only
    rw [acc_next]

/-- The output block after the last block of rows. -/
theorem out_C (c : Dev nD) (t : Fin cfg0.N) (h1 : t.val % 4 = 3) :
    (outsAt0 m c t.val t.isLt).1 = k0_pay3 (outsAt0 m c t.val t.isLt).2 := by
  have h0 : ¬t.val % 4 = 0 := by omega
  rw [acc_BC m c t h0, outsAt0_C m c t h0 h1]
  dsimp only
  rw [out_last]

/-- After point `n` the accumulator holds the sum over the rows up to the end of the point's block. -/
theorem acc_eq (c : Dev nD) (p : Fin 256) (q : Fin 1024) : ∀ (n : ℕ) (hn : n < cfg0.N),
    ((outsAt0 m c n hn).2 (ix2 p q) : EReal)
      = part m c (2048 * (n % 4) + 2048) (256 * (0) + p.val) (1024 * (n / 4) + q.val) :=
  Common.running 2048 (fun g r => part m c r (256 * (0) + p.val) (1024 * g + q.val)) _ (fun t h0 => by
    rw [acc_A m c t h0]
    refine pay2_part m c t _ p q ?_
    rw [pay1_apply, h0]
    exact (Finset.sum_range_zero _).symm)
    fun n hn h0 ih => (congrFun (acc_BC m c ⟨n + 1, hn⟩ h0) (ix2 p q)).trans (pay2_part m c ⟨n + 1, hn⟩ _ p q ih)

/-- At a block's last point the output block holds the sum over all rows. -/
theorem out_eq (c : Dev nD) (t : Fin cfg0.N) (h1 : t.val % 4 = 3) (p : Fin 256) (q : Fin 1024) :
    ((outsAt0 m c t.val t.isLt).1 (ix2 p q) : EReal) = part m c 8192 (256 * (0) + p.val) (1024 * (t.val / 4) + q.val) := by
  rw [out_C m c t h1]
  refine (acc_eq m c p q t.val t.isLt).trans ?_
  rw [h1]

/-! ## The result -/

/-- The gradient of the weight: entry `(i, j)` is the sum over the rows of `x` at `i` times the incoming gradient at `j`. -/
def grad (c : Dev nD) : S256x2048.Idx → EReal := fun z => part m c 8192 (z 0).val (z 1).val

theorem final (c : Dev nD) : (dats m 0 c).arrAt 2 cfg0.N = grad m c := by
  refine (dats m 0 c).arrAt_eq_of_covers 2 _ (by decide +kernel) fun t hf y => ?_
  have h3 : t.val % 4 = 3 := (flush0_2 t).mp hf
  obtain ⟨e0, e1⟩ := index2 t
  rw [after0_2]
  have hx0 : ((((cfg0.win 2).blk t).view.emb y) (0 : Fin 2)).val = 256 * (0) + (y (0 : Fin 2)).val := by
    show win0_2.index t (0 : Fin 2) * 256 + 1 * (y (0 : Fin 2)).val = _; omega
  have hx1 : ((((cfg0.win 2).blk t).view.emb y) (1 : Fin 2)).val = 1024 * (t.val / 4) + (y (1 : Fin 2)).val := by
    show win0_2.index t (1 : Fin 2) * 1024 + 1 * (y (1 : Fin 2)).val = _; omega
  show ((outsAt0 m c t.val t.isLt).1 y : EReal) = grad m c (((cfg0.win 2).blk t).view.emb y)
  unfold grad
  rw [hx0, hx1, ← out_eq m c t h3 (y (0 : Fin 2)) (y (1 : Fin 2))]
  exact congrArg _ (Common.eta (M := 256) (N := 1024) y)

/-- The result's change of format after the call is the identity over the extended reals. -/
theorem tail_eq (c : Dev nD) : Pipeline.afterTail₀ cfgs (dats m) 0 (V0 m) [hostOps1] c main_v3 = grad m c := by
  unfold Pipeline.afterTail₀
  simp only [hostOps1, List.flatten_singleton]
  after_results_simp
  exact (Pipeline.withArrays_arr spec0 (by decide) c (V0 m c) (fun w => (dats m 0 c).arrAt w cfg0.N) 2).trans (final m c)

/-! ## The reference -/

theorem ref_eq (c : Dev nD) : (Cert.Reference9Ideal.Read.val_main_v3 (F := Ideal) (m (c.tc.loc main_arg0))
    (m (c.tc.loc main_arg1)) : S256x2048.Idx → EReal) = grad m c := by
  funext z
  rw [Cert.Reference9Ideal.Read.val_main_v3_apply, Cert.Reference9Ideal.Read.val_main_v2_apply]
  unfold grad part
  rw [Finset.sum_range]
  refine Finset.sum_congr rfl fun r _ => (mul_comm _ _).trans ?_
  unfold xAt yAt
  exact congrArg₂ _ (congrArg _ (Common.ext2 (Nat.mod_eq_of_lt r.isLt).symm (Nat.mod_eq_of_lt (z (0 : Fin 2)).isLt).symm))
    (congrArg _ (Common.ext2 (Nat.mod_eq_of_lt r.isLt).symm (Nat.mod_eq_of_lt (z (1 : Fin 2)).isLt).symm))

end Cert.Kernel9Ideal.Wgrad

end
-- ==== Proof.AttnOutFwd.lean ====
module

public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.Common

/-! The forward call that adds the attention's output to the residual stream. Each point of its grid takes 512 rows of the
    attention's output, multiplies them by the output weight and adds the product, times the gate, to the rows of the
    stream. Over the extended reals its result is that of the reference, from any arguments. -/

@[expose] public section

set_option maxRecDepth 16384

noncomputable section

namespace Cert.Kernel10Ideal.AttnOut

open Idealize.ShloMosaic Idealize.ShloMosaic.TcCoe Idealize.ShloMosaic.Tactic Idealize.SL.Sem
open Idealize.ShloMosaic.Pipeline (Dat)
open Cert.Kernel10Ideal Cert.Kernel10Ideal.Gen

open Cert.Common (zeros2)

/-! ## What one point of the grid computes -/

/-- The product of a block of rows with the output weight, entry by entry. -/
theorem prod_out (x : FVec Ideal S512x2048 .bf16) (y : FVec Ideal S2048x1024 .bf16) (p : Fin 512) (q : Fin 1024) :
    (matmul dot_S512x2048_S2048x1024_S512x1024_1_0_0_1_n_n none x y (constant (F := Ideal) S512x1024 .f32 0x00000000#32) (ix2 p q) : EReal)
      = ∑ r : Fin 2048, (x (ix2 p r) : EReal) * (y (ix2 r q) : EReal) := by
  exact Common.nn x y p q

section
variable (x0 : Vec Ideal S512x2048 .bf16) (x1 : Vec Ideal S512x1024 .f32) (x2 : Vec Ideal S2048x1024 .bf16) (x3 : Vec Ideal S8x1024 .f32)

/-- The fourth row of the eight-row array: the gate. -/
def gateRow : Vec Ideal S1x1024 .f32 := View.ld x3 (Rect.unit (s := S8x1024) ![3, 0] S1x1024.size inb_S8x1024_S1x1024_3_0)

/-- A point's block of the stream, entry by entry. -/
theorem pay1_apply (p : Fin 512) (q : Fin 1024) :
    (k0_pay1 x1 (gateRow x3) x0 x2 (ix2 p q) : EReal)
      = (x1 (ix2 p q) : EReal) + (x3 (ix2 (3 : Fin 8) q) : EReal) * ∑ r : Fin 2048, (x0 (ix2 p r) : EReal) * (x2 (ix2 r q) : EReal) := by
  unfold k0_pay1
  simp only [shapeCast_self]
  refine congrArg ((x1 (ix2 p q) : EReal) + ·) (congrArg₂ (fun a b : EReal => a * b) ?_ (prod_out x0 x2 p q))
  refine (broadcastTo_apply (gateRow x3) broadcasts_S1x1024_S512x1024 (ix2 p q) (ix2 (0 : Fin 1) q) (fun a => ?_)).trans ?_
  · match a with
    | ⟨0, _⟩ => rfl
    | ⟨1, _⟩ => show q.val = if (1024 : Nat) = 1 then 0 else q.val; rw [if_neg (by decide)]
  · refine View.ld_unit_apply_of x3 ![3, 0] S1x1024.size inb_S8x1024_S1x1024_3_0 (ix2 (0 : Fin 1) q) (ix2 (3 : Fin 8) q) (fun a => ?_)
    match a with
    | ⟨0, _⟩ => rfl
    | ⟨1, _⟩ => show q.val = 0 + q.val; omega

/-- The block of the stream that a point writes. -/
theorem out_stream : out0_4 x0 x1 x2 x3 = k0_pay1 x1 (gateRow x3) x0 x2 := by
  unfold out0_4
  rw [View.canon_unit_zero zeros2]
  simp only [View.ld_unit_zero (S := S512x1024) zeros2, View.ld_unit_zero (S := S512x2048) zeros2, View.ld_unit_zero (S := S2048x1024) zeros2]
  rfl

end

/-! ## The arguments as the call reads them -/

variable (m : (ℓ : Loc nD τ sig) → Buf (Elt Ideal) ℓ)

/-- The attention's output, the residual stream, the output weight and the gate. -/
def attn (c : Dev nD) : S8192x2048.Idx → EReal := m (c.tc.loc main_arg0)
def stream (c : Dev nD) : S8192x1024.Idx → EReal := m (c.tc.loc main_arg1)
def weight (c : Dev nD) : S2048x1024.Idx → EReal := m (c.tc.loc main_arg2)
def gate (c : Dev nD) : S1024.Idx → EReal := m (c.tc.loc main_arg3)

theorem V_attn (c : Dev nD) : (V m c main_v0 : S8192x2048.Idx → EReal) = attn m c := by
  unfold attn
  simp only [V, hostOps0, List.flatten_singleton]
  after_results_simp <;> rfl

theorem V_stream (c : Dev nD) : (V m c main_arg1 : S8192x1024.Idx → EReal) = stream m c := by
  unfold stream
  simp only [V, hostOps0, List.flatten_singleton]
  after_results_simp <;> rfl

theorem V_weight (c : Dev nD) : (V m c main_v1 : S2048x1024.Idx → EReal) = weight m c := by
  unfold weight
  simp only [V, hostOps0, List.flatten_singleton]
  after_results_simp <;> rfl

/-- The eight-row array that carries the gate, as the lines before the call make it. -/
abbrev pieces (g sh sc ga : S1024.Idx → EReal) : List ((s : Shape) × (s.Idx → EReal)) :=
    [⟨S1x1024, shapeCast S1x1024 g shapeCasts_S1024_S1x1024⟩, ⟨S1x1024, shapeCast S1x1024 sh shapeCasts_S1024_S1x1024⟩,
      ⟨S1x1024, shapeCast S1x1024 sc shapeCasts_S1024_S1x1024⟩, ⟨S1x1024, shapeCast S1x1024 ga shapeCasts_S1024_S1x1024⟩,
      ⟨S4x1024, broadcastInDim S4x1024 ![] bcast_S_S4x1024 (constant (F := Ideal) S_ .f32 0x00000000#32)⟩]
def rows (g sh sc ga : S1024.Idx → EReal) : S8x1024.Idx → EReal := concatenate S8x1024 0 (pieces g sh sc ga)
    concatenates_S1x1024_S1x1024_S1x1024_S1x1024_S4x1024_S8x1024_d0

theorem V_rows (c : Dev nD) : (V m c main_v7 : S8x1024.Idx → EReal) = rows (gate m c) (gate m c) (gate m c) (gate m c) := by
  unfold gate rows
  simp only [V, hostOps0, List.flatten_singleton]
  after_results_simp <;> rfl

/-- A row taken as a one-row array. -/
theorem cast_row (v : S1024.Idx → EReal) (q : Fin 1024) : shapeCast S1x1024 v shapeCasts_S1024_S1x1024 (ix2 (0 : Fin 1) q) = v (ix1 q) := by
  refine shapeCast_apply _ shapeCasts_S1024_S1x1024 (ix2 (0 : Fin 1) q) (ix1 q) ?_
  rw [Shape.rowMajor_val_one, Shape.rowMajor_val_two]
  show q.val = 0 * 1024 + q.val
  omega

section
variable (g sh sc ga : S1024.Idx → EReal) (q : Fin 1024)

theorem rows_3 : rows g sh sc ga (ix2 (3 : Fin 8) q) = ga (ix1 q) := by
  refine (concatenate_apply_piece (t := S8x1024) (0 : Fin 2) (pieces g sh sc ga) concatenates_S1x1024_S1x1024_S1x1024_S1x1024_S4x1024_S8x1024_d0 (ix2 (3 : Fin 8) q) 3 (by show 3 < 5; omega)
    S1x1024 (shapeCast S1x1024 ga shapeCasts_S1024_S1x1024) rfl rfl 3 rfl (ix2 (0 : Fin 1) q) (fun b hb => ?_) rfl).trans (cast_row ga q)
  match b with
  | ⟨0, _⟩ => exact absurd rfl hb
  | ⟨1, _⟩ => rfl

end

theorem index0 : ∀ t : Fin cfg0.N, win0_0.index t (0 : Fin 2) = t.val ∧ win0_0.index t (1 : Fin 2) = 0 := by decide +kernel
theorem index1 : ∀ t : Fin cfg0.N, win0_1.index t (0 : Fin 2) = t.val ∧ win0_1.index t (1 : Fin 2) = 0 := by decide +kernel
theorem index2 : ∀ t : Fin cfg0.N, win0_2.index t (0 : Fin 2) = 0 ∧ win0_2.index t (1 : Fin 2) = 0 := by decide +kernel
theorem index3 : ∀ t : Fin cfg0.N, win0_3.index t (0 : Fin 2) = 0 ∧ win0_3.index t (1 : Fin 2) = 0 := by decide +kernel
theorem index4 : ∀ t : Fin cfg0.N, win0_4.index t (0 : Fin 2) = t.val ∧ win0_4.index t (1 : Fin 2) = 0 := by decide +kernel

/-- The row of the arrays that a point's row is. -/
def row (t : Fin cfg0.N) (p : Fin 512) : Fin 8192 := ⟨512 * t.val + p.val, by
  have hN : t.val < 16 := lt_of_lt_of_eq t.isLt N_0
  have := p.isLt
  omega⟩

theorem iblk_attn (c : Dev nD) (t : Fin cfg0.N) (p : Fin 512) (k : Fin 2048) :
    (iblk m c 0 t (ix2 p k) : EReal) = attn m c (ix2 (row t p) k) := by
  obtain ⟨e0, e1⟩ := index0 t
  rw [← V_attn]
  exact congrArg (V m c main_v0 : S8192x2048.Idx → EReal) (Common.ext2 (by show win0_0.index t (0 : Fin 2) * 512 + 1 * p.val = 512 * t.val + p.val; omega)
    (by show win0_0.index t (1 : Fin 2) * 2048 + 1 * k.val = k.val; omega))

theorem iblk_stream (c : Dev nD) (t : Fin cfg0.N) (p : Fin 512) (k : Fin 1024) :
    (iblk m c 1 t (ix2 p k) : EReal) = stream m c (ix2 (row t p) k) := by
  obtain ⟨e0, e1⟩ := index1 t
  rw [← V_stream]
  exact congrArg (V m c main_arg1 : S8192x1024.Idx → EReal) (Common.ext2 (by show win0_1.index t (0 : Fin 2) * 512 + 1 * p.val = 512 * t.val + p.val; omega)
    (by show win0_1.index t (1 : Fin 2) * 1024 + 1 * k.val = k.val; omega))

theorem iblk_weight (c : Dev nD) (t : Fin cfg0.N) (r : Fin 2048) (k : Fin 1024) :
    (iblk m c 2 t (ix2 r k) : EReal) = weight m c (ix2 r k) := by
  obtain ⟨e0, e1⟩ := index2 t
  rw [← V_weight]
  exact congrArg (V m c main_v1 : S2048x1024.Idx → EReal) (Common.ext2 (by show win0_2.index t (0 : Fin 2) * 2048 + 1 * r.val = r.val; omega)
    (by show win0_2.index t (1 : Fin 2) * 1024 + 1 * k.val = k.val; omega))

theorem iblk_rows (c : Dev nD) (t : Fin cfg0.N) (r : Fin 8) (k : Fin 1024) :
    (iblk m c 3 t (ix2 r k) : EReal) = rows (gate m c) (gate m c) (gate m c) (gate m c) (ix2 r k) := by
  obtain ⟨e0, e1⟩ := index3 t
  rw [← V_rows]
  exact congrArg (V m c main_v7 : S8x1024.Idx → EReal) (Common.ext2 (by show win0_3.index t (0 : Fin 2) * 8 + 1 * r.val = r.val; omega)
    (by show win0_3.index t (1 : Fin 2) * 1024 + 1 * k.val = k.val; omega))

/-! ## The result -/

/-- The new residual stream: the stream plus the gate times the product of the attention's output with the weight. -/
def outAt (c : Dev nD) (r : Fin 8192) (d : Fin 1024) : EReal :=
  stream m c (ix2 r d) + gate m c (ix1 d) * ∑ k : Fin 2048, attn m c (ix2 r k) * weight m c (ix2 k d)
def ho (c : Dev nD) : S8192x1024.Idx → EReal := fun z => outAt m c (z 0) (z 1)

theorem out_eq (c : Dev nD) (t : Fin cfg0.N) (p : Fin 512) (d : Fin 1024) :
    (k0_pay1 (iblk m c 1 t) (gateRow (iblk m c 3 t)) (iblk m c 0 t) (iblk m c 2 t) (ix2 p d) : EReal) = outAt m c (row t p) d := by
  refine (pay1_apply _ _ _ _ p d).trans ?_
  unfold outAt
  simp only [iblk_attn, iblk_stream, iblk_rows, rows_3, iblk_weight]

theorem final_ho (c : Dev nD) : (dats m 0 c).arrAt 4 cfg0.N = ho m c := by
  refine (dats m 0 c).arrAt_eq_of_covers 4 _ (by decide +kernel) fun t hf y => ?_
  obtain ⟨e0, e1⟩ := index4 t
  rw [after0_4]
  have hx : ((cfg0.win 4).blk t).view.emb y = ix2 (row t (y (0 : Fin 2))) (y (1 : Fin 2) : Fin 1024) := Common.ext2
    (by show win0_4.index t (0 : Fin 2) * 512 + 1 * (y (0 : Fin 2)).val = 512 * t.val + (y (0 : Fin 2)).val; omega)
    (by show win0_4.index t (1 : Fin 2) * 1024 + 1 * (y (1 : Fin 2)).val = (y (1 : Fin 2)).val; omega)
  rw [out_stream, hx]
  show (k0_pay1 (iblk m c 1 t) (gateRow (iblk m c 3 t)) (iblk m c 0 t) (iblk m c 2 t) y : EReal) = outAt m c (row t (y (0 : Fin 2))) (y (1 : Fin 2))
  exact (congrArg _ (Common.eta (M := 512) (N := 1024) y)).trans (out_eq m c t _ _)

/-! ## The reference -/

open Cert.Reference10Ideal.Read

/-- The reference's new residual stream, entry by entry. -/
theorem ref_out (c : Dev nD) (r : Fin 8192) (d : Fin 1024) :
    (val_main_v4 (F := Ideal) (attn m c) (stream m c) (weight m c) (gate m c) (ix2 r d) : EReal) = outAt m c r d := by
  rw [val_main_v4_apply, val_main_v3_apply, val_main_v2_apply, val_main_v0_apply, val_main_v1_apply]
  have i1 : idx_main_v0 (idx_main_v2 (ix2 r d)) = ix1 d := funext fun a => by
    match a with
    | ⟨0, _⟩ => rfl
  rw [i1]
  unfold outAt
  refine congrArg (fun s : EReal => stream m c (ix2 r d) + gate m c (ix1 d) * s) (Finset.sum_congr rfl fun j _ =>
    congrArg₂ (fun a b : EReal => a * b) (congrArg (attn m c) (funext fun a => ?_)) (congrArg (weight m c) (funext fun a => ?_)))
  · match a with
    | ⟨0, _⟩ => rfl
    | ⟨1, _⟩ => rfl
  · match a with
    | ⟨0, _⟩ => rfl
    | ⟨1, _⟩ => rfl

theorem eta1024 (z : S8192x1024.Idx) : z = ix2 (z (0 : Fin 2) : Fin 8192) (z (1 : Fin 2) : Fin 1024) := Common.ext2 rfl rfl

/-- The reference's result is the kernel's. -/
theorem ref_ho (c : Dev nD) : (val_main_v4 (F := Ideal) (attn m c) (stream m c) (weight m c) (gate m c) : S8192x1024.Idx → EReal) = ho m c :=
  funext fun z => (congrArg _ (eta1024 z)).trans (ref_out m c (z 0) (z 1))

end Cert.Kernel10Ideal.AttnOut

end
-- ==== Proof.WgradWo.lean ====
module

public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Math
public import proofs.«01_k».proof.Proof.Common

/-! The call that makes the gradients of the attention's output weight and of the gate on its product. Its grid visits, for each block of columns of `x`, the four blocks of rows; it adds each
    block's product to an accumulator. After the fourth it writes the accumulator times a gate's row to one output, and
    the accumulator times the weight's block, summed down the block's rows, to the other. Over the extended reals the
    accumulator is a partial sum over the rows. Where every argument is an array of real numbers, the two results are
    the reference's gradients of the weight and of the gate. -/

@[expose] public section

set_option maxRecDepth 16384

noncomputable section

namespace Cert.Kernel11Ideal.Wgrad

open Idealize.ShloMosaic Idealize.ShloMosaic.TcCoe Idealize.ShloMosaic.Tactic Idealize.SL.Sem
open Idealize.ShloMosaic.Pipeline (Dat)
open Cert.Kernel11Ideal Cert.Kernel11Ideal.Gen

open Cert.Common (zeros2)
theorem zeros3 : (![0, 0, 0] : Fin 3 → Nat) = fun _ => 0 := funext fun a => by fin_cases a <;> rfl

/-! ## What one point of the grid leaves -/

/-- The first row of the eight-row array that carries the gate. -/
def row (u : Vec Ideal S8x1024 .f32) : Vec Ideal S1x1024 .f32 :=
  View.ld u (Rect.unit (s := S8x1024) ![0, 0] S1x1024.size inb_S8x1024_S1x1024_0_0)

section
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S8x1024 .f32) (h6 : a6.IsWhole) (a7 : Memref sig .tc .vmem S1024x1024 .bf16) (h7 : a7.IsWhole)
  (a8 : Memref sig .tc .vmem S1x8x1024 .f32) (h8 : a8.IsWhole) (a9 : Memref sig .tc .vmem S1024x1024 .f32) (h9 : a9.IsWhole)
  (x : Vec Ideal S2048x1024 .bf16) (y : Vec Ideal S2048x1024 .bf16) (w : Vec Ideal S1024x1024 .bf16) (u : Vec Ideal S8x1024 .f32)
  (s : Vec Ideal S1024x1024 .f32)

/-- The first block of rows leaves in the accumulator zero plus the block's product. -/
theorem acc_first (hc : cond0_0 i) (hd : ¬cond0_1 i) :
    sout0_A_0 c i a3 h3 a4 h4 a5 h5 a6 h6 a7 h7 a8 h8 a9 h9 hc hd x y w u = k0_pay2 (k0_pay1 (F := Ideal)) x y := by
  unfold sout0_A_0
  rw [View.read_writes_eq_canon _ _ _ (scover0_A_0 c i a3 h3 a4 h4 a5 h5 a6 h6 a7 h7 a8 h8 a9 h9 hc hd x y w u)]
  unfold kernelRun0_A
  dsimp only
  sl_unfold_words
  rw [View.canon_cons_unit_zero (S := S1024x1024) zeros2, View.readCov_unit_zero (S := S1024x1024) _ zeros2]
  simp only [View.readAt_eq_ld, h3.read_unread, h4.read_unread, Common.ld0]

/-- A middle block of rows adds its product to the accumulator. -/
theorem acc_next (hc : ¬cond0_0 i) (hd : ¬cond0_1 i) :
    sout0_B_0 c i a3 h3 a4 h4 a5 h5 a6 h6 a7 h7 a8 h8 a9 h9 hc hd x y w u s = k0_pay2 s x y := by
  unfold sout0_B_0
  rw [View.read_writes_eq_canon _ _ _ (scover0_B_0 c i a3 h3 a4 h4 a5 h5 a6 h6 a7 h7 a8 h8 a9 h9 hc hd x y w u s)]
  unfold kernelRun0_B
  dsimp only
  sl_unfold_words
  rw [View.canon_unit_zero zeros2]
  simp only [View.readAt_eq_ld, h3.read_unread, h4.read_unread, h9.read_unread, Common.ld0]

/-- The last block of rows adds its product to the accumulator too. -/
theorem acc_last (hc : ¬cond0_0 i) (hd : cond0_1 i) :
    sout0_C_0 c i a3 h3 a4 h4 a5 h5 a6 h6 a7 h7 a8 h8 a9 h9 hc hd x y w u s = k0_pay2 s x y := by
  unfold sout0_C_0
  rw [View.read_writes_eq_canon _ _ _ (scover0_C_0 c i a3 h3 a4 h4 a5 h5 a6 h6 a7 h7 a8 h8 a9 h9 hc hd x y w u s)]
  unfold kernelRun0_C
  dsimp only
  sl_unfold_words
  rw [View.canon_unit_zero zeros2]
  simp only [View.readAt_eq_ld, h3.read_unread, h4.read_unread, h9.read_unread, Common.ld0]

/-- The last block of rows writes the accumulator it leaves, times the gate's row, to the weight's output block. -/
theorem out_weight (hc : ¬cond0_0 i) (hd : cond0_1 i) :
    out0_C_4 c i a3 h3 a4 h4 a5 h5 a6 h6 a7 h7 a8 h8 a9 h9 hc hd x y w u s = k0_pay3 (k0_pay2 s x y) (row u) := by
  unfold out0_C_4
  rw [View.read_writes_eq_canon _ _ _ (cover0_C_4 c i a3 h3 a4 h4 a5 h5 a6 h6 a7 h7 a8 h8 a9 h9 hc hd x y w u s)]
  unfold kernelRun0_C
  dsimp only
  sl_unfold_words
  rw [View.canon_unit_zero zeros2, View.readCov_unit_zero (S := S1024x1024) _ zeros2]
  simp only [View.readAt_eq_ld, h3.read_unread, h4.read_unread, h6.read_unread, h9.read_unread, Common.ld0]
  rfl

/-- The last block of rows writes the accumulator it leaves, times the weight's block and summed down its rows, to the
    gate's output block. -/
theorem out_gate (hc : ¬cond0_0 i) (hd : cond0_1 i) :
    out0_C_5 c i a3 h3 a4 h4 a5 h5 a6 h6 a7 h7 a8 h8 a9 h9 hc hd x y w u s = k0_pay4 (k0_pay2 s x y) w := by
  unfold out0_C_5
  rw [View.read_writes_eq_canon _ _ _ (cover0_C_5 c i a3 h3 a4 h4 a5 h5 a6 h6 a7 h7 a8 h8 a9 h9 hc hd x y w u s)]
  unfold kernelRun0_C
  dsimp only
  sl_unfold_words
  rw [View.canon_unit_zero zeros3, View.readCov_unit_zero (S := S1024x1024) _ zeros2]
  simp only [View.readAt_eq_ld, h3.read_unread, h4.read_unread, h5.read_unread, h9.read_unread, Common.ld0]

/-- The zero block, entry by entry. -/
theorem pay1_apply (p : Fin 1024) (q : Fin 1024) : (k0_pay1 (F := Ideal) (ix2 p q) : EReal) = 0 := by
  unfold k0_pay1
  simp only [shapeCast_self]
  exact Common.zero_bits

/-- An accumulator with a block's product added, entry by entry. -/
theorem pay2_apply (p : Fin 1024) (q : Fin 1024) :
    (k0_pay2 s x y (ix2 p q) : EReal) = (s (ix2 p q) : EReal) + ∑ r : Fin 2048, (x (ix2 r p) : EReal) * (y (ix2 r q) : EReal) := by
  unfold k0_pay2
  simp only [shapeCast_self]
  show (s (ix2 p q) : EReal) + _ = _
  refine congrArg ((s (ix2 p q) : EReal) + ·) ?_
  exact Common.tn _ x y p q

/-- An accumulator times the gate's row, entry by entry. -/
theorem pay3_apply (p : Fin 1024) (q : Fin 1024) :
    (k0_pay3 s (row u) (ix2 p q) : EReal) = (s (ix2 p q) : EReal) * (u (ix2 (0 : Fin 8) q) : EReal) := by
  unfold k0_pay3
  simp only [shapeCast_self]
  show (s (ix2 p q) : EReal) * (broadcastTo S1024x1024 (row u) broadcasts_S1x1024_S1024x1024 (ix2 p q) : EReal) = _
  refine congrArg ((s (ix2 p q) : EReal) * ·) ?_
  exact (Common.row (row u) _ p q).trans (Common.cut u _ 0 q 0 q rfl (Nat.zero_add _).symm)

/-- An accumulator times the weight's block, summed down the rows; every one of the eight rows holds the same sum. -/
theorem pay4_apply (e : Fin 8) (q : Fin 1024) :
    (k0_pay4 s w (ix3 (0 : Fin 1) e q) : EReal) = ∑ p : Fin 1024, (s (ix2 p q) : EReal) * (w (ix2 p q) : EReal) := by
  unfold k0_pay4
  simp only [shapeCast_self]
  refine (shapeCast_apply _ shapeCasts_S8x1024_S1x8x1024 (ix3 (0 : Fin 1) e q) (ix2 e q) ?_).trans ?_
  · rw [Shape.rowMajor_val_two, Shape.rowMajor_val_three]
    show e.val * 1024 + q.val = (0 * 8 + e.val) * 1024 + q.val
    omega
  refine (Common.row _ _ e q).trans ((Common.castRow _ _ q).trans ?_)
  refine (Ideal.multiReduction_add_single _ _ reduces_S1024x1024_S1024 (.inl rfl) rfl (ix1 q)).trans (Finset.sum_congr rfl fun p _ => ?_)
  have hl : reduces_S1024x1024_S1024.lift (ix1 q) p = ix2 p q := Common.ext2 rfl rfl
  exact (congrArg _ hl).trans rfl

end

/-! ## The accumulator after each point -/

variable (m : (ℓ : Loc nD τ sig) → Buf (Elt Ideal) ℓ)

/-- The entry of `x` at row `r` and column `k`, counted by naturals. -/
def xAt (c : Dev nD) (r k : ℕ) : EReal :=
  (m (c.tc.loc main_arg0) : S8192x2048.Idx → EReal) (ix2 (Fin.ofNat 8192 r) (Fin.ofNat 2048 k))

/-- The entry of the incoming gradient at row `r` and column `k`, counted by naturals. -/
def yAt (c : Dev nD) (r k : ℕ) : EReal :=
  (m (c.tc.loc main_arg1) : S8192x1024.Idx → EReal) (ix2 (Fin.ofNat 8192 r) (Fin.ofNat 1024 k))

/-- The entry of the weight at row `r` and column `k`, counted by naturals. -/
def wAt (c : Dev nD) (r k : ℕ) : EReal :=
  (m (c.tc.loc main_arg2) : S2048x1024.Idx → EReal) (ix2 (Fin.ofNat 2048 r) (Fin.ofNat 1024 k))

/-- The gate's entry `k`, counted by naturals. -/
def gAt (c : Dev nD) (k : ℕ) : EReal :=
  (m (c.tc.loc main_arg3) : S1024.Idx → EReal) (ix1 (Fin.ofNat 1024 k))

theorem V_x (c : Dev nD) : (V m c main_v0 : S8192x2048.Idx → EReal) = m (c.tc.loc main_arg0) := by
  simp only [V, V0, hostOps0, List.flatten_singleton]
  after_results_simp <;> rfl

theorem V_y (c : Dev nD) : (V m c main_v1 : S8192x1024.Idx → EReal) = m (c.tc.loc main_arg1) := by
  simp only [V, V0, hostOps0, List.flatten_singleton]
  after_results_simp <;> rfl

theorem V_w (c : Dev nD) : (V m c main_v2 : S2048x1024.Idx → EReal) = m (c.tc.loc main_arg2) := by
  simp only [V, V0, hostOps0, List.flatten_singleton]
  after_results_simp <;> rfl

theorem V_u (c : Dev nD) : (V m c main_v5 : S8x1024.Idx → EReal) = concatenate S8x1024 0
    [⟨S1x1024, shapeCast S1x1024 (m (c.tc.loc main_arg3)) shapeCasts_S1024_S1x1024⟩,
      ⟨S7x1024, broadcastInDim S7x1024 ![] bcast_S_S7x1024 (constant (F := Ideal) S_ .f32 0x00000000#32)⟩]
    concatenates_S1x1024_S7x1024_S8x1024_d0 := by
  simp only [V, V0, hostOps0, List.flatten_singleton]
  after_results_simp <;> rfl

/-- The first row of the array that carries the gate is the gate. -/
theorem V_u_row (c : Dev nD) (q : Fin 1024) : (V m c main_v5 : S8x1024.Idx → EReal) (ix2 (0 : Fin 8) q) = gAt m c q.val := by
  rw [V_u]
  refine (concatenate_pair_apply_left 0 _ _ concatenates_S1x1024_S7x1024_S8x1024_d0 (ix2 (0 : Fin 8) q) rfl (ix2 (0 : Fin 1) q) (fun b => ?_)).trans ?_
  · match b with
    | ⟨0, _⟩ => rfl
    | ⟨1, _⟩ => rfl
  refine (Common.castRow _ _ q).trans ?_
  unfold gAt
  refine congrArg _ (funext fun a => Fin.ext ?_)
  match a with
  | ⟨0, _⟩ => exact (Nat.mod_eq_of_lt q.isLt).symm

theorem index0 : ∀ t : Fin cfg0.N, win0_0.index t (0 : Fin 2) = t.val % 4 ∧ win0_0.index t (1 : Fin 2) = t.val / 4 := by decide +kernel
theorem index1 : ∀ t : Fin cfg0.N, win0_1.index t (0 : Fin 2) = t.val % 4 ∧ win0_1.index t (1 : Fin 2) = 0 := by decide +kernel
theorem index2 : ∀ t : Fin cfg0.N, win0_2.index t (0 : Fin 2) = t.val / 4 ∧ win0_2.index t (1 : Fin 2) = 0 := by decide +kernel
theorem index3 : ∀ t : Fin cfg0.N, win0_3.index t (0 : Fin 2) = 0 ∧ win0_3.index t (1 : Fin 2) = 0 := by decide +kernel
theorem index4 : ∀ t : Fin cfg0.N, win0_4.index t (0 : Fin 2) = t.val / 4 ∧ win0_4.index t (1 : Fin 2) = 0 := by decide +kernel
theorem index5 : ∀ t : Fin cfg0.N, win0_5.index t (0 : Fin 3) = t.val / 4 ∧ win0_5.index t (1 : Fin 3) = 0 ∧ win0_5.index t (2 : Fin 3) = 0 := by decide +kernel

theorem iblk_x (c : Dev nD) (t : Fin cfg0.N) (r : Fin 2048) (p : Fin 1024) :
    (iblk m c 0 t (ix2 r p) : EReal) = xAt m c (2048 * (t.val % 4) + r.val) (1024 * (t.val / 4) + p.val) := by
  obtain ⟨e0, e1⟩ := index0 t
  have hN : t.val < 8 := lt_of_lt_of_eq t.isLt N_0
  have hr := r.isLt
  have hp := p.isLt
  show (V m c main_v0 : S8192x2048.Idx → EReal) (((cfg0.win 0).blk t).view.emb (ix2 r p)) = _
  rw [V_x]
  unfold xAt
  exact congrArg _ (Common.ext2 (by show win0_0.index t (0 : Fin 2) * 2048 + 1 * r.val = (2048 * (t.val % 4) + r.val) % 8192; omega)
    (by show win0_0.index t (1 : Fin 2) * 1024 + 1 * p.val = (1024 * (t.val / 4) + p.val) % 2048; omega))

theorem iblk_y (c : Dev nD) (t : Fin cfg0.N) (r : Fin 2048) (q : Fin 1024) :
    (iblk m c 1 t (ix2 r q) : EReal) = yAt m c (2048 * (t.val % 4) + r.val) q.val := by
  obtain ⟨e0, e1⟩ := index1 t
  have hN : t.val < 8 := lt_of_lt_of_eq t.isLt N_0
  have hr := r.isLt
  have hq := q.isLt
  show (V m c main_v1 : S8192x1024.Idx → EReal) (((cfg0.win 1).blk t).view.emb (ix2 r q)) = _
  rw [V_y]
  unfold yAt
  exact congrArg _ (Common.ext2 (by show win0_1.index t (0 : Fin 2) * 2048 + 1 * r.val = (2048 * (t.val % 4) + r.val) % 8192; omega)
    (by show win0_1.index t (1 : Fin 2) * 1024 + 1 * q.val = q.val % 1024; omega))

theorem iblk_w (c : Dev nD) (t : Fin cfg0.N) (p : Fin 1024) (q : Fin 1024) :
    (iblk m c 2 t (ix2 p q) : EReal) = wAt m c (1024 * (t.val / 4) + p.val) q.val := by
  obtain ⟨e0, e1⟩ := index2 t
  have hN : t.val < 8 := lt_of_lt_of_eq t.isLt N_0
  have hp := p.isLt
  have hq := q.isLt
  show (V m c main_v2 : S2048x1024.Idx → EReal) (((cfg0.win 2).blk t).view.emb (ix2 p q)) = _
  rw [V_w]
  unfold wAt
  exact congrArg _ (Common.ext2 (by show win0_2.index t (0 : Fin 2) * 1024 + 1 * p.val = (1024 * (t.val / 4) + p.val) % 2048; omega)
    (by show win0_2.index t (1 : Fin 2) * 1024 + 1 * q.val = q.val % 1024; omega))

theorem iblk_u (c : Dev nD) (t : Fin cfg0.N) (q : Fin 1024) :
    (iblk m c 3 t (ix2 (0 : Fin 8) q) : EReal) = gAt m c q.val := by
  obtain ⟨e0, e1⟩ := index3 t
  refine Eq.trans ?_ (V_u_row m c q)
  show (V m c main_v5 : S8x1024.Idx → EReal) (((cfg0.win 3).blk t).view.emb (ix2 (0 : Fin 8) q)) = _
  exact congrArg _ (Common.ext2 (by show win0_3.index t (0 : Fin 2) * 8 + 1 * 0 = 0; omega) (by show win0_3.index t (1 : Fin 2) * 1024 + 1 * q.val = q.val; omega))

/-- The sum over the first `n` rows for column `i` of `x` and column `j` of the incoming gradient. -/
def part (c : Dev nD) (n i j : ℕ) : EReal := ∑ r ∈ Finset.range n, xAt m c r i * yAt m c r j

/-- Adding a block's product to the sum over the rows before it gives the sum over the rows up to its end. -/
theorem pay2_part (c : Dev nD) (t : Fin cfg0.N) (s : Vec Ideal S1024x1024 .f32) (p : Fin 1024) (q : Fin 1024)
    (hs : (s (ix2 p q) : EReal) = part m c (2048 * (t.val % 4)) (1024 * (t.val / 4) + p.val) q.val) :
    (k0_pay2 s (iblk m c 0 t) (iblk m c 1 t) (ix2 p q) : EReal)
      = part m c (2048 * (t.val % 4) + 2048) (1024 * (t.val / 4) + p.val) q.val := by
  refine (pay2_apply _ _ _ p q).trans ?_
  rw [hs]
  unfold part
  rw [Finset.sum_range_add, Finset.sum_range (n := 2048)]
  refine congrArg _ (Finset.sum_congr rfl fun r _ => ?_)
  rw [← iblk_x, ← iblk_y]

/-- The accumulator after the first block of rows of a block of columns. -/
theorem acc_A (c : Dev nD) (t : Fin cfg0.N) (h0 : t.val % 4 = 0) :
    (outsAt0 m c t.val t.isLt).2.2 = k0_pay2 (k0_pay1 (F := Ideal)) (iblk m c 0 t) (iblk m c 1 t) := by
  rw [outsAt0_A m c t h0 (by omega)]
  dsimp only
  rw [acc_first]

/-- The accumulator after a later block of rows. -/
theorem acc_BC (c : Dev nD) (t : Fin cfg0.N) (h0 : ¬t.val % 4 = 0) :
    (outsAt0 m c t.val t.isLt).2.2
      = k0_pay2 (outsAt0 m c (t.val - 1) (Nat.lt_of_le_of_lt (Nat.sub_le _ _) t.isLt)).2.2 (iblk m c 0 t) (iblk m c 1 t) := by
  by_cases h1 : t.val % 4 = 3
  · rw [outsAt0_C m c t h0 h1]
    dsimp only
    rw [acc_last]
  · rw [outsAt0_B m c t h0 h1]
    dsimp only
    rw [acc_next]

/-- The weight's output block after the last block of rows. -/
theorem weight_C (c : Dev nD) (t : Fin cfg0.N) (h1 : t.val % 4 = 3) :
    (outsAt0 m c t.val t.isLt).1 = k0_pay3 (outsAt0 m c t.val t.isLt).2.2 (row (iblk m c 3 t)) := by
  have h0 : ¬t.val % 4 = 0 := by omega
  rw [acc_BC m c t h0, outsAt0_C m c t h0 h1]
  dsimp only
  rw [out_weight]

/-- The gate's output block after the last block of rows. -/
theorem gate_C (c : Dev nD) (t : Fin cfg0.N) (h1 : t.val % 4 = 3) :
    (outsAt0 m c t.val t.isLt).2.1 = k0_pay4 (outsAt0 m c t.val t.isLt).2.2 (iblk m c 2 t) := by
  have h0 : ¬t.val % 4 = 0 := by omega
  rw [acc_BC m c t h0, outsAt0_C m c t h0 h1]
  dsimp only
  rw [out_gate]

/-- After point `n` the accumulator holds the sum over the rows up to the end of the point's block. -/
theorem acc_eq (c : Dev nD) (p : Fin 1024) (q : Fin 1024) : ∀ (n : ℕ) (hn : n < cfg0.N),
    ((outsAt0 m c n hn).2.2 (ix2 p q) : EReal)
      = part m c (2048 * (n % 4) + 2048) (1024 * (n / 4) + p.val) q.val :=
  Common.running 2048 (fun g r => part m c r (1024 * g + p.val) q.val) _ (fun t h0 => by
    rw [acc_A m c t h0]
    refine pay2_part m c t _ p q ?_
    rw [pay1_apply, h0]
    exact (Finset.sum_range_zero _).symm)
    fun n hn h0 ih => (congrFun (acc_BC m c ⟨n + 1, hn⟩ h0) (ix2 p q)).trans (pay2_part m c ⟨n + 1, hn⟩ _ p q ih)

/-- At a block's last point the accumulator holds the sum over all rows. -/
theorem acc_full (c : Dev nD) (t : Fin cfg0.N) (h1 : t.val % 4 = 3) (p : Fin 1024) (q : Fin 1024) :
    ((outsAt0 m c t.val t.isLt).2.2 (ix2 p q) : EReal) = part m c 8192 (1024 * (t.val / 4) + p.val) q.val := by
  refine (acc_eq m c p q t.val t.isLt).trans ?_
  rw [h1]

/-! ## The two output arrays -/

/-- The weight's gradient: entry `(i, j)` is the sum over the rows of `x` at `i` times the incoming gradient at `j`, times
    the gate at `j`. -/
def dw (c : Dev nD) : S2048x1024.Idx → EReal := fun z => part m c 8192 (z 0).val (z 1).val * gAt m c (z 1).val

/-- The gate's partial sums: for block `b` and column `j`, the sum over the block's rows `i` of the weight times the
    ungated gradient at `(i, j)`. -/
def gs (c : Dev nD) : S2x8x1024.Idx → EReal := fun z =>
  ∑ p ∈ Finset.range 1024, part m c 8192 (1024 * (z 0).val + p) (z 2).val * wAt m c (1024 * (z 0).val + p) (z 2).val

theorem final_weight (c : Dev nD) : (dats m 0 c).arrAt 4 cfg0.N = dw m c := by
  refine (dats m 0 c).arrAt_eq_of_covers 4 _ (by decide +kernel) fun t hf y => ?_
  have h3 : t.val % 4 = 3 := (flush0_4 t).mp hf
  obtain ⟨e0, e1⟩ := index4 t
  rw [after0_4]
  have hx0 : ((((cfg0.win 4).blk t).view.emb y) (0 : Fin 2)).val = 1024 * (t.val / 4) + (y (0 : Fin 2)).val := by
    show win0_4.index t (0 : Fin 2) * 1024 + 1 * (y (0 : Fin 2)).val = _; omega
  have hx1 : ((((cfg0.win 4).blk t).view.emb y) (1 : Fin 2)).val = (y (1 : Fin 2)).val := by
    show win0_4.index t (1 : Fin 2) * 1024 + 1 * (y (1 : Fin 2)).val = _; omega
  show ((outsAt0 m c t.val t.isLt).1 y : EReal) = dw m c (((cfg0.win 4).blk t).view.emb y)
  unfold dw
  rw [hx0, hx1, ← iblk_u m c t (y (1 : Fin 2)), ← acc_full m c t h3 (y (0 : Fin 2)) (y (1 : Fin 2)), weight_C m c t h3]
  exact (congrArg _ (Common.eta (M := 1024) (N := 1024) y)).trans (pay3_apply _ _ _ _)

theorem final_gate (c : Dev nD) : (dats m 0 c).arrAt 5 cfg0.N = gs m c := by
  refine (dats m 0 c).arrAt_eq_of_covers 5 _ (by decide +kernel) fun t hf y => ?_
  have h3 : t.val % 4 = 3 := (flush0_5 t).mp hf
  obtain ⟨e0, e1, e2⟩ := index5 t
  rw [after0_5]
  have hy0 : (y (0 : Fin 3)).val < 1 := (y (0 : Fin 3)).isLt
  have hx0 : ((((cfg0.win 5).blk t).view.emb y) (0 : Fin 3)).val = t.val / 4 := by
    show win0_5.index t (0 : Fin 3) * 1 + 1 * (y (0 : Fin 3)).val = _; omega
  have hx2 : ((((cfg0.win 5).blk t).view.emb y) (2 : Fin 3)).val = (y (2 : Fin 3)).val := by
    show win0_5.index t (2 : Fin 3) * 1024 + 1 * (y (2 : Fin 3)).val = _; omega
  have hy : y = ix3 (0 : Fin 1) (y (1 : Fin 3) : Fin 8) (y (2 : Fin 3) : Fin 1024) := funext fun a => by
    match a with
    | ⟨0, _⟩ => exact Fin.ext (by show (y (0 : Fin 3)).val = 0; omega)
    | ⟨1, _⟩ => rfl
    | ⟨2, _⟩ => rfl
  show ((outsAt0 m c t.val t.isLt).2.1 y : EReal) = gs m c (((cfg0.win 5).blk t).view.emb y)
  unfold gs
  rw [hx0, hx2, gate_C m c t h3, Finset.sum_range]
  refine (congrArg _ hy).trans ((pay4_apply _ _ _ _).trans (Finset.sum_congr rfl fun p _ => ?_))
  exact congrArg₂ _ (acc_full m c t h3 p (y (2 : Fin 3))) (iblk_w m c t p (y (2 : Fin 3)))

/-! ## The results -/

/-- The gate's gradient: the sum of the blocks' partial sums. -/
def dg (c : Dev nD) : S1024.Idx → EReal := fun z => ∑ b ∈ Finset.range 2,
  ∑ p ∈ Finset.range 1024, part m c 8192 (1024 * b + p) (z 0).val * wAt m c (1024 * b + p) (z 0).val

/-- The weight's change of format after the call is the identity over the extended reals. -/
theorem tail_weight (c : Dev nD) : Pipeline.afterTail₀ cfgs (dats m) 0 (V0 m) [hostOps1] c main_v7 = dw m c := by
  unfold Pipeline.afterTail₀
  simp only [hostOps1, List.flatten_singleton]
  after_results_simp
  exact (Pipeline.withArrays_arr spec0 (by decide) c (V0 m c) (fun w => (dats m 0 c).arrAt w cfg0.N) 4).trans (final_weight m c)

/-- What the lines after the call make of the gate's partial sums. -/
def gateTail (x : S2x8x1024.Idx → EReal) : S1024.Idx → EReal :=
  Host.reduceAdd (F := Ideal) (φ := .f32) (shapeCast S2x1024 (extractStridedSlice S2x1x1024 ![0, 0, 0] x slices_S2x8x1024_S2x1x1024_0_0_0)
      shapeCasts_S2x1x1024_S2x1024) (constant (F := Ideal) S_ .f32 0x00000000#32) reducesTo_S2x1024_S1024_d0 h_S_

/-- They take the first of each block's eight rows and add the blocks'. -/
theorem gateTail_apply (x : S2x8x1024.Idx → EReal) (z : S1024.Idx) :
    gateTail x z = ∑ b : Fin 2, x (ix3 b (0 : Fin 8) (z 0 : Fin 1024)) := by
  unfold gateTail
  simp only [Host.reduceAdd, Ideal.hostReduceAdd_def]
  rw [Ideal.hostReduceAdd_single reducesTo_S2x1024_S1024_d0 (by decide)]
  refine Eq.trans (congrArg (· + _) (show Ideal.ofBits .f32 0x00000000#32 = 0 by simp [Ideal.ofBits, Ideal.ieee])) ?_
  rw [zero_add]
  refine Finset.sum_congr rfl fun b _ => ?_
  refine (shapeCast_apply _ shapeCasts_S2x1x1024_S2x1024 _ (ix3 (b : Fin 2) (0 : Fin 1) (z 0 : Fin 1024)) ?_).trans ?_
  · rw [Shape.rowMajor_val_two, Shape.rowMajor_val_three]
    show (b.val * 1 + 0) * 1024 + (z 0).val = b.val * 1024 + (z 0).val
    omega
  refine extractStridedSlice_apply ![0, 0, 0] x slices_S2x8x1024_S2x1x1024_0_0_0 _ (ix3 (b : Fin 2) (0 : Fin 8) (z 0 : Fin 1024)) (fun a => ?_)
  match a with
  | ⟨0, _⟩ => show b.val = 0 + b.val; omega
  | ⟨1, _⟩ => rfl
  | ⟨2, _⟩ => show (z 0).val = 0 + (z 0).val; omega

theorem tail_gate (c : Dev nD) : Pipeline.afterTail₀ cfgs (dats m) 0 (V0 m) [hostOps1] c main_v10 = dg m c := by
  have h : Pipeline.withArrays spec0 c (V0 m c) (fun w => (dats m 0 c).arrAt w cfg0.N) (Proc.devRef .tc main_v6_1) = gs m c :=
    (Pipeline.withArrays_arr spec0 (by decide) c (V0 m c) _ 5).trans (final_gate m c)
  have e : Pipeline.afterTail₀ cfgs (dats m) 0 (V0 m) [hostOps1] c main_v10
      = gateTail (Pipeline.withArrays spec0 c (V0 m c) (fun w => (dats m 0 c).arrAt w cfg0.N) (Proc.devRef .tc main_v6_1)) := by
    unfold Pipeline.afterTail₀
    simp only [hostOps1, List.flatten_singleton]
    after_results_simp
    rfl
  refine e.trans ((congrArg gateTail h).trans (funext fun z => (gateTail_apply _ z).trans ?_))
  unfold dg gs
  rw [Finset.sum_range]
  rfl

/-! ## The reference -/

/-- Every argument is an array of real numbers. -/
structure RealArgs (c : Dev nD) : Prop where
  x : ∀ r k, xAt m c r k = ((xAt m c r k).toReal : EReal)
  y : ∀ r k, yAt m c r k = ((yAt m c r k).toReal : EReal)
  w : ∀ r k, wAt m c r k = ((wAt m c r k).toReal : EReal)
  g : ∀ k, gAt m c k = ((gAt m c k).toReal : EReal)

open Cert.KernelIdeal.AttnBwd (coe_sum sum_blocks)

section
variable {m} {c : Dev nD}

/-- A sum over rows of real entries is the real sum. -/
theorem part_real (h : RealArgs m c) (n i j : ℕ) :
    part m c n i j = ((∑ r ∈ Finset.range n, (xAt m c r i).toReal * (yAt m c r j).toReal : ℝ) : EReal) := by
  unfold part
  rw [coe_sum]
  refine Finset.sum_congr rfl fun r _ => ?_
  rw [EReal.coe_mul, ← h.x, ← h.y]

end

theorem arg0_at (c : Dev nD) (z : S8192x2048.Idx) (r k : ℕ) (h0 : (z 0).val = r) (h1 : (z 1).val = k) :
    (m (c.tc.loc main_arg0) : S8192x2048.Idx → EReal) z = xAt m c r k := by
  subst h0 h1
  unfold xAt
  exact congrArg _ (Common.ext2 (Nat.mod_eq_of_lt (z (0 : Fin 2)).isLt).symm (Nat.mod_eq_of_lt (z (1 : Fin 2)).isLt).symm)

theorem arg1_at (c : Dev nD) (z : S8192x1024.Idx) (r k : ℕ) (h0 : (z 0).val = r) (h1 : (z 1).val = k) :
    (m (c.tc.loc main_arg1) : S8192x1024.Idx → EReal) z = yAt m c r k := by
  subst h0 h1
  unfold yAt
  exact congrArg _ (Common.ext2 (Nat.mod_eq_of_lt (z (0 : Fin 2)).isLt).symm (Nat.mod_eq_of_lt (z (1 : Fin 2)).isLt).symm)

theorem arg2_at (c : Dev nD) (z : S2048x1024.Idx) (r k : ℕ) (h0 : (z 0).val = r) (h1 : (z 1).val = k) :
    (m (c.tc.loc main_arg2) : S2048x1024.Idx → EReal) z = wAt m c r k := by
  subst h0 h1
  unfold wAt
  exact congrArg _ (Common.ext2 (Nat.mod_eq_of_lt (z (0 : Fin 2)).isLt).symm (Nat.mod_eq_of_lt (z (1 : Fin 2)).isLt).symm)

theorem arg3_at (c : Dev nD) (z : S1024.Idx) (k : ℕ) (h0 : (z 0).val = k) :
    (m (c.tc.loc main_arg3) : S1024.Idx → EReal) z = gAt m c k := by
  subst h0
  unfold gAt
  refine congrArg _ (funext fun a => Fin.ext ?_)
  match a with
  | ⟨0, _⟩ => exact (Nat.mod_eq_of_lt (z (0 : Fin 1)).isLt).symm

open Cert.Reference11Ideal.Read in
/-- The reference's gradient of the weight is the kernel's. -/
theorem ref_weight (c : Dev nD) (h : RealArgs m c) : (val_main_v10 (F := Ideal) (m (c.tc.loc main_arg0))
    (m (c.tc.loc main_arg1)) (m (c.tc.loc main_arg3)) : S2048x1024.Idx → EReal) = dw m c := by
  funext z
  rw [val_main_v10_apply, val_main_v9_apply]
  unfold dw
  rw [part_real h, h.g, ← EReal.coe_mul, Finset.sum_mul, coe_sum, Finset.sum_range]
  refine Finset.sum_congr rfl fun r _ => ?_
  rw [val_main_v5_apply, val_main_v4_apply, val_main_v0_apply,
    arg0_at m c _ r.val (z 0).val rfl rfl, arg1_at m c _ r.val (z 1).val rfl rfl, arg3_at m c _ (z 1).val rfl, Ideal.mulf_def]
  show gAt m c (z 1).val * yAt m c r.val (z 1).val * xAt m c r.val (z 0).val = _
  rw [h.g, h.x, h.y, ← EReal.coe_mul, ← EReal.coe_mul]
  simp only [EReal.toReal_coe]
  exact congrArg _ (by ring)

open Cert.Reference11Ideal.Read in
/-- The reference's gradient of the gate is the kernel's. -/
theorem ref_gate (c : Dev nD) (h : RealArgs m c) : (val_main_v11 (F := Ideal) (m (c.tc.loc main_arg0))
    (m (c.tc.loc main_arg1)) (m (c.tc.loc main_arg2)) : S1024.Idx → EReal) = dg m c := by
  funext z
  have zero : (FloatOps.ofBits (F := Ideal) .f32 0x00000000#32 : EReal) = 0 := by
    simp [Ideal.ofBits_def, Ideal.ofBits, Ideal.ieee]
  rw [val_main_v11_apply, val_main_cst_0_apply, zero, zero_add, Fin.sum_univ_one, val_main_v8_apply, val_main_v7_apply,
    val_main_cst_apply, zero, zero_add]
  unfold dg
  have left : ∀ r : Fin 8192, (val_main_v6 (F := Ideal) (m (c.tc.loc main_arg0)) (m (c.tc.loc main_arg1))
      (m (c.tc.loc main_arg2)) (idx_main_v7 (idx_main_v8 (idx_main_v11 z 0)) r) : EReal)
      = ((∑ i ∈ Finset.range 2048, (xAt m c r.val i).toReal * (yAt m c r.val (z 0).val).toReal * (wAt m c i (z 0).val).toReal : ℝ) : EReal) := fun r => by
    have hz : (idx_main_v8 (idx_main_v11 z 0) 0).val = (z 0).val := by
      show 0 * 1024 + (z 0).val = (z 0).val
      omega
    rw [val_main_v6_apply, val_main_v1_apply, Ideal.mulf_def, arg1_at m c _ r.val (z 0).val rfl hz, h.y, Finset.sum_range]
    refine (congrArg (((yAt m c r.val (z 0).val).toReal : EReal) * ·) (Finset.sum_congr rfl fun (k : Fin 2048) _ =>
      (congrArg₂ (fun a b : EReal => a * b) (arg0_at m c _ r.val k.val rfl rfl) (arg2_at m c _ k.val (z 0).val rfl hz)).trans
        (show xAt m c r.val k.val * wAt m c k.val (z 0).val = (((xAt m c r.val k.val).toReal * (wAt m c k.val (z 0).val).toReal : ℝ) : EReal) by
          rw [EReal.coe_mul, ← h.x, ← h.w]))).trans ?_
    rw [← coe_sum, ← EReal.coe_mul, Finset.mul_sum]
    exact congrArg _ (Finset.sum_congr rfl fun k _ => by simp only [EReal.toReal_coe]; ring)
  have right : ∀ i : ℕ, part m c 8192 i (z 0).val * wAt m c i (z 0).val
      = ((∑ r ∈ Finset.range 8192, (xAt m c r i).toReal * (yAt m c r (z 0).val).toReal * (wAt m c i (z 0).val).toReal : ℝ) : EReal) := fun i => by
    rw [part_real h, h.w, ← EReal.coe_mul, Finset.sum_mul]
    simp only [EReal.toReal_coe]
  simp only [right]
  refine (Finset.sum_congr rfl fun r _ => left r).trans ?_
  simp only [← coe_sum]
  refine congrArg _ ?_
  rw [sum_blocks 1024 2 (fun i => ∑ r ∈ Finset.range 8192, (xAt m c r i).toReal * (yAt m c r (z 0).val).toReal * (wAt m c i (z 0).val).toReal)]
  exact (Finset.sum_range (fun r => ∑ i ∈ Finset.range 2048, (xAt m c r i).toReal * (yAt m c r (z 0).val).toReal * (wAt m c i (z 0).val).toReal)).symm.trans
    Finset.sum_comm

end Cert.Kernel11Ideal.Wgrad

end
-- ==== Proof.FiniteWo.lean ====
module

public import proofs.«01_k».proof.Defs
public import proofs.«01_k».proof.Proof.Finite
public import proofs.«01_k».proof.Proof.WgradWo
public import Idealize.ShloMosaic.Lib.ReduceAll
public import Idealize.ShloMosaic.Lib.Pointwise

/-! What the precondition of the gradients of the attention's output weight and gate says: every element of the four arguments is a real number. -/

@[expose] public section

noncomputable section

namespace Cert.FiniteWo

open Idealize.ShloMosaic Idealize.ShloMosaic.TcCoe
open Cert.Finite (and_one real_of_lt)

/-- The side conditions of the predicate's operations. -/
instance facts : Cert.Pre_finite11.Facts where
  bcast_S_S8192x2048 := ⟨fun a => a.elim0, fun a => a.elim0⟩
  reducesTo_S8192x2048_S_d0_1 := by decide
  h_S_ := by decide
  bcast_S_S8192x1024 := ⟨fun a => a.elim0, fun a => a.elim0⟩
  reducesTo_S8192x1024_S_d0_1 := by decide
  bcast_S_S2048x1024 := ⟨fun a => a.elim0, fun a => a.elim0⟩
  reducesTo_S2048x1024_S_d0_1 := by decide
  bcast_S_S1024 := ⟨fun a => a.elim0, fun a => a.elim0⟩
  reducesTo_S1024_S_d0 := by decide

/-- One of the predicate's conjuncts, for an array of any shape: that the absolute value of each element is below
    infinity makes each element a real number. -/
theorem real_of_test {S : Shape} {axes : List (Fin S.rank)} (x : S.Idx → EReal) (hb : Cert.Pre_finite11.S_.BroadcastsInDim S (![] : Fin 0 → Fin S.rank))
    (hr : S.ReducesTo axes Cert.Pre_finite11.S_) (hu : 0 < Cert.Pre_finite11.S_.numel) (j : Cert.Pre_finite11.S_.Idx)
    (h : Host.reduce IntOp.andi
      (cmpf (F := Ideal) (φ := .f32) .olt (Host.absf (F := Ideal) (φ := .f32) x)
        (broadcastInDim S ![] hb (constant (F := Ideal) Cert.Pre_finite11.S_ .f32 0x7F800000#32)))
      (constantI Cert.Pre_finite11.S_ 1 1#1) hr hu j = 1#1) (i : S.Idx) : x i = ((x i).toReal : EReal) := by
  have e := Host.reduce_andi_all _ _ _ _ j h i
  have e' : Ideal.cmp .olt (max (x i) (-(x i))) (Ideal.ofBits .f32 0x7F800000#32) = 1#1 := e
  have t : Ideal.ofBits .f32 0x7F800000#32 = ⊤ := by simp [Ideal.ofBits, Ideal.ieee]
  rw [t, Ideal.cmp_olt] at e'
  refine real_of_lt ?_
  by_contra hn
  rw [decide_eq_false hn] at e'
  exact absurd e' (by decide)

open Cert.Kernel11Ideal in
/-- The precondition makes the kernel's four arguments, on every device, arrays of real numbers. -/
theorem real_args (m : (ℓ : Loc nD τ sig) → Buf (Elt Ideal) ℓ) (c : Dev nD)
    (h : Cert.Pre_finite11.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    Cert.Kernel11Ideal.Wgrad.RealArgs m c := by
  have j : Cert.Pre_finite11.S_.Idx := fun i => i.elim0
  have e := congrFun h j
  unfold Cert.Pre_finite11.fn Cert.Pre_finite11.fn_part1 at e
  dsimp only at e
  obtain ⟨e, e3⟩ := and_one e
  obtain ⟨e, e2⟩ := and_one e
  obtain ⟨e0, e1⟩ := and_one e
  exact ⟨fun r k => real_of_test _ _ _ _ j e0 _, fun r k => real_of_test _ _ _ _ j e1 _,
    fun r k => real_of_test _ _ _ _ j e2 _, fun k => real_of_test _ _ _ _ j e3 _⟩

end Cert.FiniteWo

end
-- ==== Proof.WgradPw2.lean ====
module

public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.Math
public import proofs.«01_k».proof.Proof.Common

/-! The call that makes the gradients of the convolution's second pointwise weight and of the gate on its product. Its grid visits the four blocks of rows; it adds each
    block's product to an accumulator. After the fourth it writes the accumulator times a gate's row to one output, and
    the accumulator times the weight's block, summed down the block's rows, to the other. Over the extended reals the
    accumulator is a partial sum over the rows. Where every argument is an array of real numbers, the two results are
    the reference's gradients of the weight and of the gate. -/

@[expose] public section

set_option maxRecDepth 16384

noncomputable section

namespace Cert.Kernel12Ideal.Wgrad

open Idealize.ShloMosaic Idealize.ShloMosaic.TcCoe Idealize.ShloMosaic.Tactic Idealize.SL.Sem
open Idealize.ShloMosaic.Pipeline (Dat)
open Cert.Kernel12Ideal Cert.Kernel12Ideal.Gen

open Cert.Common (zeros2)
theorem zeros3 : (![0, 0, 0] : Fin 3 → Nat) = fun _ => 0 := funext fun a => by fin_cases a <;> rfl

/-! ## What one point of the grid leaves -/

/-- The first row of the eight-row array that carries the gate. -/
def row (u : Vec Ideal S8x1024 .f32) : Vec Ideal S1x1024 .f32 :=
  View.ld u (Rect.unit (s := S8x1024) ![0, 0] S1x1024.size inb_S8x1024_S1x1024_0_0)

section
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S8x1024 .f32) (h6 : a6.IsWhole) (a7 : Memref sig .tc .vmem S1024x1024 .bf16) (h7 : a7.IsWhole)
  (a8 : Memref sig .tc .vmem S1x8x1024 .f32) (h8 : a8.IsWhole) (a9 : Memref sig .tc .vmem S1024x1024 .f32) (h9 : a9.IsWhole)
  (x : Vec Ideal S2048x1024 .bf16) (y : Vec Ideal S2048x1024 .bf16) (w : Vec Ideal S1024x1024 .bf16) (u : Vec Ideal S8x1024 .f32)
  (s : Vec Ideal S1024x1024 .f32)

/-- The first block of rows leaves in the accumulator zero plus the block's product. -/
theorem acc_first (hc : cond0_0 i) (hd : ¬cond0_1 i) :
    sout0_A_0 c i a3 h3 a4 h4 a5 h5 a6 h6 a7 h7 a8 h8 a9 h9 hc hd x y w u = k0_pay2 (k0_pay1 (F := Ideal)) x y := by
  unfold sout0_A_0
  rw [View.read_writes_eq_canon _ _ _ (scover0_A_0 c i a3 h3 a4 h4 a5 h5 a6 h6 a7 h7 a8 h8 a9 h9 hc hd x y w u)]
  unfold kernelRun0_A
  dsimp only
  sl_unfold_words
  rw [View.canon_cons_unit_zero (S := S1024x1024) zeros2, View.readCov_unit_zero (S := S1024x1024) _ zeros2]
  simp only [View.readAt_eq_ld, h3.read_unread, h4.read_unread, Common.ld0]

/-- A middle block of rows adds its product to the accumulator. -/
theorem acc_next (hc : ¬cond0_0 i) (hd : ¬cond0_1 i) :
    sout0_B_0 c i a3 h3 a4 h4 a5 h5 a6 h6 a7 h7 a8 h8 a9 h9 hc hd x y w u s = k0_pay2 s x y := by
  unfold sout0_B_0
  rw [View.read_writes_eq_canon _ _ _ (scover0_B_0 c i a3 h3 a4 h4 a5 h5 a6 h6 a7 h7 a8 h8 a9 h9 hc hd x y w u s)]
  unfold kernelRun0_B
  dsimp only
  sl_unfold_words
  rw [View.canon_unit_zero zeros2]
  simp only [View.readAt_eq_ld, h3.read_unread, h4.read_unread, h9.read_unread, Common.ld0]

/-- The last block of rows adds its product to the accumulator too. -/
theorem acc_last (hc : ¬cond0_0 i) (hd : cond0_1 i) :
    sout0_C_0 c i a3 h3 a4 h4 a5 h5 a6 h6 a7 h7 a8 h8 a9 h9 hc hd x y w u s = k0_pay2 s x y := by
  unfold sout0_C_0
  rw [View.read_writes_eq_canon _ _ _ (scover0_C_0 c i a3 h3 a4 h4 a5 h5 a6 h6 a7 h7 a8 h8 a9 h9 hc hd x y w u s)]
  unfold kernelRun0_C
  dsimp only
  sl_unfold_words
  rw [View.canon_unit_zero zeros2]
  simp only [View.readAt_eq_ld, h3.read_unread, h4.read_unread, h9.read_unread, Common.ld0]

/-- The last block of rows writes the accumulator it leaves, times the gate's row, to the weight's output block. -/
theorem out_weight (hc : ¬cond0_0 i) (hd : cond0_1 i) :
    out0_C_4 c i a3 h3 a4 h4 a5 h5 a6 h6 a7 h7 a8 h8 a9 h9 hc hd x y w u s = k0_pay3 (k0_pay2 s x y) (row u) := by
  unfold out0_C_4
  rw [View.read_writes_eq_canon _ _ _ (cover0_C_4 c i a3 h3 a4 h4 a5 h5 a6 h6 a7 h7 a8 h8 a9 h9 hc hd x y w u s)]
  unfold kernelRun0_C
  dsimp only
  sl_unfold_words
  rw [View.canon_unit_zero zeros2, View.readCov_unit_zero (S := S1024x1024) _ zeros2]
  simp only [View.readAt_eq_ld, h3.read_unread, h4.read_unread, h6.read_unread, h9.read_unread, Common.ld0]
  rfl

/-- The last block of rows writes the accumulator it leaves, times the weight's block and summed down its rows, to the
    gate's output block. -/
theorem out_gate (hc : ¬cond0_0 i) (hd : cond0_1 i) :
    out0_C_5 c i a3 h3 a4 h4 a5 h5 a6 h6 a7 h7 a8 h8 a9 h9 hc hd x y w u s = k0_pay4 (k0_pay2 s x y) w := by
  unfold out0_C_5
  rw [View.read_writes_eq_canon _ _ _ (cover0_C_5 c i a3 h3 a4 h4 a5 h5 a6 h6 a7 h7 a8 h8 a9 h9 hc hd x y w u s)]
  unfold kernelRun0_C
  dsimp only
  sl_unfold_words
  rw [View.canon_unit_zero zeros3, View.readCov_unit_zero (S := S1024x1024) _ zeros2]
  simp only [View.readAt_eq_ld, h3.read_unread, h4.read_unread, h5.read_unread, h9.read_unread, Common.ld0]

/-- The zero block, entry by entry. -/
theorem pay1_apply (p : Fin 1024) (q : Fin 1024) : (k0_pay1 (F := Ideal) (ix2 p q) : EReal) = 0 := by
  unfold k0_pay1
  simp only [shapeCast_self]
  exact Common.zero_bits

/-- An accumulator with a block's product added, entry by entry. -/
theorem pay2_apply (p : Fin 1024) (q : Fin 1024) :
    (k0_pay2 s x y (ix2 p q) : EReal) = (s (ix2 p q) : EReal) + ∑ r : Fin 2048, (x (ix2 r p) : EReal) * (y (ix2 r q) : EReal) := by
  unfold k0_pay2
  simp only [shapeCast_self]
  show (s (ix2 p q) : EReal) + _ = _
  refine congrArg ((s (ix2 p q) : EReal) + ·) ?_
  exact Common.tn _ x y p q

/-- An accumulator times the gate's row, entry by entry. -/
theorem pay3_apply (p : Fin 1024) (q : Fin 1024) :
    (k0_pay3 s (row u) (ix2 p q) : EReal) = (s (ix2 p q) : EReal) * (u (ix2 (0 : Fin 8) q) : EReal) := by
  unfold k0_pay3
  simp only [shapeCast_self]
  show (s (ix2 p q) : EReal) * (broadcastTo S1024x1024 (row u) broadcasts_S1x1024_S1024x1024 (ix2 p q) : EReal) = _
  refine congrArg ((s (ix2 p q) : EReal) * ·) ?_
  exact (Common.row (row u) _ p q).trans (Common.cut u _ 0 q 0 q rfl (Nat.zero_add _).symm)

/-- An accumulator times the weight's block, summed down the rows; every one of the eight rows holds the same sum. -/
theorem pay4_apply (e : Fin 8) (q : Fin 1024) :
    (k0_pay4 s w (ix3 (0 : Fin 1) e q) : EReal) = ∑ p : Fin 1024, (s (ix2 p q) : EReal) * (w (ix2 p q) : EReal) := by
  unfold k0_pay4
  simp only [shapeCast_self]
  refine (shapeCast_apply _ shapeCasts_S8x1024_S1x8x1024 (ix3 (0 : Fin 1) e q) (ix2 e q) ?_).trans ?_
  · rw [Shape.rowMajor_val_two, Shape.rowMajor_val_three]
    show e.val * 1024 + q.val = (0 * 8 + e.val) * 1024 + q.val
    omega
  refine (Common.row _ _ e q).trans ((Common.castRow _ _ q).trans ?_)
  refine (Ideal.multiReduction_add_single _ _ reduces_S1024x1024_S1024 (.inl rfl) rfl (ix1 q)).trans (Finset.sum_congr rfl fun p _ => ?_)
  have hl : reduces_S1024x1024_S1024.lift (ix1 q) p = ix2 p q := Common.ext2 rfl rfl
  exact (congrArg _ hl).trans rfl

end

/-! ## The accumulator after each point -/

variable (m : (ℓ : Loc nD τ sig) → Buf (Elt Ideal) ℓ)

/-- The entry of `x` at row `r` and column `k`, counted by naturals. -/
def xAt (c : Dev nD) (r k : ℕ) : EReal :=
  (m (c.tc.loc main_arg0) : S8192x1024.Idx → EReal) (ix2 (Fin.ofNat 8192 r) (Fin.ofNat 1024 k))

/-- The entry of the incoming gradient at row `r` and column `k`, counted by naturals. -/
def yAt (c : Dev nD) (r k : ℕ) : EReal :=
  (m (c.tc.loc main_arg1) : S8192x1024.Idx → EReal) (ix2 (Fin.ofNat 8192 r) (Fin.ofNat 1024 k))

/-- The entry of the weight at row `r` and column `k`, counted by naturals. -/
def wAt (c : Dev nD) (r k : ℕ) : EReal :=
  (m (c.tc.loc main_arg2) : S1024x1024.Idx → EReal) (ix2 (Fin.ofNat 1024 r) (Fin.ofNat 1024 k))

/-- The gate's entry `k`, counted by naturals. -/
def gAt (c : Dev nD) (k : ℕ) : EReal :=
  (m (c.tc.loc main_arg3) : S1024.Idx → EReal) (ix1 (Fin.ofNat 1024 k))

theorem V_x (c : Dev nD) : (V m c main_v0 : S8192x1024.Idx → EReal) = m (c.tc.loc main_arg0) := by
  simp only [V, V0, hostOps0, List.flatten_singleton]
  after_results_simp <;> rfl

theorem V_y (c : Dev nD) : (V m c main_v1 : S8192x1024.Idx → EReal) = m (c.tc.loc main_arg1) := by
  simp only [V, V0, hostOps0, List.flatten_singleton]
  after_results_simp <;> rfl

theorem V_w (c : Dev nD) : (V m c main_v2 : S1024x1024.Idx → EReal) = m (c.tc.loc main_arg2) := by
  simp only [V, V0, hostOps0, List.flatten_singleton]
  after_results_simp <;> rfl

theorem V_u (c : Dev nD) : (V m c main_v5 : S8x1024.Idx → EReal) = concatenate S8x1024 0
    [⟨S1x1024, shapeCast S1x1024 (m (c.tc.loc main_arg3)) shapeCasts_S1024_S1x1024⟩,
      ⟨S7x1024, broadcastInDim S7x1024 ![] bcast_S_S7x1024 (constant (F := Ideal) S_ .f32 0x00000000#32)⟩]
    concatenates_S1x1024_S7x1024_S8x1024_d0 := by
  simp only [V, V0, hostOps0, List.flatten_singleton]
  after_results_simp <;> rfl

/-- The first row of the array that carries the gate is the gate. -/
theorem V_u_row (c : Dev nD) (q : Fin 1024) : (V m c main_v5 : S8x1024.Idx → EReal) (ix2 (0 : Fin 8) q) = gAt m c q.val := by
  rw [V_u]
  refine (concatenate_pair_apply_left 0 _ _ concatenates_S1x1024_S7x1024_S8x1024_d0 (ix2 (0 : Fin 8) q) rfl (ix2 (0 : Fin 1) q) (fun b => ?_)).trans ?_
  · match b with
    | ⟨0, _⟩ => rfl
    | ⟨1, _⟩ => rfl
  refine (Common.castRow _ _ q).trans ?_
  unfold gAt
  refine congrArg _ (funext fun a => Fin.ext ?_)
  match a with
  | ⟨0, _⟩ => exact (Nat.mod_eq_of_lt q.isLt).symm

theorem index0 : ∀ t : Fin cfg0.N, win0_0.index t (0 : Fin 2) = t.val % 4 ∧ win0_0.index t (1 : Fin 2) = t.val / 4 := by decide +kernel
theorem index1 : ∀ t : Fin cfg0.N, win0_1.index t (0 : Fin 2) = t.val % 4 ∧ win0_1.index t (1 : Fin 2) = 0 := by decide +kernel
theorem index2 : ∀ t : Fin cfg0.N, win0_2.index t (0 : Fin 2) = t.val / 4 ∧ win0_2.index t (1 : Fin 2) = 0 := by decide +kernel
theorem index3 : ∀ t : Fin cfg0.N, win0_3.index t (0 : Fin 2) = 0 ∧ win0_3.index t (1 : Fin 2) = 0 := by decide +kernel
theorem index4 : ∀ t : Fin cfg0.N, win0_4.index t (0 : Fin 2) = t.val / 4 ∧ win0_4.index t (1 : Fin 2) = 0 := by decide +kernel
theorem index5 : ∀ t : Fin cfg0.N, win0_5.index t (0 : Fin 3) = t.val / 4 ∧ win0_5.index t (1 : Fin 3) = 0 ∧ win0_5.index t (2 : Fin 3) = 0 := by decide +kernel

theorem iblk_x (c : Dev nD) (t : Fin cfg0.N) (r : Fin 2048) (p : Fin 1024) :
    (iblk m c 0 t (ix2 r p) : EReal) = xAt m c (2048 * (t.val % 4) + r.val) (1024 * (t.val / 4) + p.val) := by
  obtain ⟨e0, e1⟩ := index0 t
  have hN : t.val < 4 := lt_of_lt_of_eq t.isLt N_0
  have hr := r.isLt
  have hp := p.isLt
  show (V m c main_v0 : S8192x1024.Idx → EReal) (((cfg0.win 0).blk t).view.emb (ix2 r p)) = _
  rw [V_x]
  unfold xAt
  exact congrArg _ (Common.ext2 (by show win0_0.index t (0 : Fin 2) * 2048 + 1 * r.val = (2048 * (t.val % 4) + r.val) % 8192; omega)
    (by show win0_0.index t (1 : Fin 2) * 1024 + 1 * p.val = (1024 * (t.val / 4) + p.val) % 1024; omega))

theorem iblk_y (c : Dev nD) (t : Fin cfg0.N) (r : Fin 2048) (q : Fin 1024) :
    (iblk m c 1 t (ix2 r q) : EReal) = yAt m c (2048 * (t.val % 4) + r.val) q.val := by
  obtain ⟨e0, e1⟩ := index1 t
  have hN : t.val < 4 := lt_of_lt_of_eq t.isLt N_0
  have hr := r.isLt
  have hq := q.isLt
  show (V m c main_v1 : S8192x1024.Idx → EReal) (((cfg0.win 1).blk t).view.emb (ix2 r q)) = _
  rw [V_y]
  unfold yAt
  exact congrArg _ (Common.ext2 (by show win0_1.index t (0 : Fin 2) * 2048 + 1 * r.val = (2048 * (t.val % 4) + r.val) % 8192; omega)
    (by show win0_1.index t (1 : Fin 2) * 1024 + 1 * q.val = q.val % 1024; omega))

theorem iblk_w (c : Dev nD) (t : Fin cfg0.N) (p : Fin 1024) (q : Fin 1024) :
    (iblk m c 2 t (ix2 p q) : EReal) = wAt m c (1024 * (t.val / 4) + p.val) q.val := by
  obtain ⟨e0, e1⟩ := index2 t
  have hN : t.val < 4 := lt_of_lt_of_eq t.isLt N_0
  have hp := p.isLt
  have hq := q.isLt
  show (V m c main_v2 : S1024x1024.Idx → EReal) (((cfg0.win 2).blk t).view.emb (ix2 p q)) = _
  rw [V_w]
  unfold wAt
  exact congrArg _ (Common.ext2 (by show win0_2.index t (0 : Fin 2) * 1024 + 1 * p.val = (1024 * (t.val / 4) + p.val) % 1024; omega)
    (by show win0_2.index t (1 : Fin 2) * 1024 + 1 * q.val = q.val % 1024; omega))

theorem iblk_u (c : Dev nD) (t : Fin cfg0.N) (q : Fin 1024) :
    (iblk m c 3 t (ix2 (0 : Fin 8) q) : EReal) = gAt m c q.val := by
  obtain ⟨e0, e1⟩ := index3 t
  refine Eq.trans ?_ (V_u_row m c q)
  show (V m c main_v5 : S8x1024.Idx → EReal) (((cfg0.win 3).blk t).view.emb (ix2 (0 : Fin 8) q)) = _
  exact congrArg _ (Common.ext2 (by show win0_3.index t (0 : Fin 2) * 8 + 1 * 0 = 0; omega) (by show win0_3.index t (1 : Fin 2) * 1024 + 1 * q.val = q.val; omega))

/-- The sum over the first `n` rows for column `i` of `x` and column `j` of the incoming gradient. -/
def part (c : Dev nD) (n i j : ℕ) : EReal := ∑ r ∈ Finset.range n, xAt m c r i * yAt m c r j

/-- Adding a block's product to the sum over the rows before it gives the sum over the rows up to its end. -/
theorem pay2_part (c : Dev nD) (t : Fin cfg0.N) (s : Vec Ideal S1024x1024 .f32) (p : Fin 1024) (q : Fin 1024)
    (hs : (s (ix2 p q) : EReal) = part m c (2048 * (t.val % 4)) (1024 * (t.val / 4) + p.val) q.val) :
    (k0_pay2 s (iblk m c 0 t) (iblk m c 1 t) (ix2 p q) : EReal)
      = part m c (2048 * (t.val % 4) + 2048) (1024 * (t.val / 4) + p.val) q.val := by
  refine (pay2_apply _ _ _ p q).trans ?_
  rw [hs]
  unfold part
  rw [Finset.sum_range_add, Finset.sum_range (n := 2048)]
  refine congrArg _ (Finset.sum_congr rfl fun r _ => ?_)
  rw [← iblk_x, ← iblk_y]

/-- The accumulator after the first block of rows of a block of columns. -/
theorem acc_A (c : Dev nD) (t : Fin cfg0.N) (h0 : t.val % 4 = 0) :
    (outsAt0 m c t.val t.isLt).2.2 = k0_pay2 (k0_pay1 (F := Ideal)) (iblk m c 0 t) (iblk m c 1 t) := by
  rw [outsAt0_A m c t h0 (by omega)]
  dsimp only
  rw [acc_first]

/-- The accumulator after a later block of rows. -/
theorem acc_BC (c : Dev nD) (t : Fin cfg0.N) (h0 : ¬t.val % 4 = 0) :
    (outsAt0 m c t.val t.isLt).2.2
      = k0_pay2 (outsAt0 m c (t.val - 1) (Nat.lt_of_le_of_lt (Nat.sub_le _ _) t.isLt)).2.2 (iblk m c 0 t) (iblk m c 1 t) := by
  by_cases h1 : t.val % 4 = 3
  · rw [outsAt0_C m c t h0 h1]
    dsimp only
    rw [acc_last]
  · rw [outsAt0_B m c t h0 h1]
    dsimp only
    rw [acc_next]

/-- The weight's output block after the last block of rows. -/
theorem weight_C (c : Dev nD) (t : Fin cfg0.N) (h1 : t.val % 4 = 3) :
    (outsAt0 m c t.val t.isLt).1 = k0_pay3 (outsAt0 m c t.val t.isLt).2.2 (row (iblk m c 3 t)) := by
  have h0 : ¬t.val % 4 = 0 := by omega
  rw [acc_BC m c t h0, outsAt0_C m c t h0 h1]
  dsimp only
  rw [out_weight]

/-- The gate's output block after the last block of rows. -/
theorem gate_C (c : Dev nD) (t : Fin cfg0.N) (h1 : t.val % 4 = 3) :
    (outsAt0 m c t.val t.isLt).2.1 = k0_pay4 (outsAt0 m c t.val t.isLt).2.2 (iblk m c 2 t) := by
  have h0 : ¬t.val % 4 = 0 := by omega
  rw [acc_BC m c t h0, outsAt0_C m c t h0 h1]
  dsimp only
  rw [out_gate]

/-- After point `n` the accumulator holds the sum over the rows up to the end of the point's block. -/
theorem acc_eq (c : Dev nD) (p : Fin 1024) (q : Fin 1024) : ∀ (n : ℕ) (hn : n < cfg0.N),
    ((outsAt0 m c n hn).2.2 (ix2 p q) : EReal)
      = part m c (2048 * (n % 4) + 2048) (1024 * (n / 4) + p.val) q.val :=
  Common.running 2048 (fun g r => part m c r (1024 * g + p.val) q.val) _ (fun t h0 => by
    rw [acc_A m c t h0]
    refine pay2_part m c t _ p q ?_
    rw [pay1_apply, h0]
    exact (Finset.sum_range_zero _).symm)
    fun n hn h0 ih => (congrFun (acc_BC m c ⟨n + 1, hn⟩ h0) (ix2 p q)).trans (pay2_part m c ⟨n + 1, hn⟩ _ p q ih)

/-- At a block's last point the accumulator holds the sum over all rows. -/
theorem acc_full (c : Dev nD) (t : Fin cfg0.N) (h1 : t.val % 4 = 3) (p : Fin 1024) (q : Fin 1024) :
    ((outsAt0 m c t.val t.isLt).2.2 (ix2 p q) : EReal) = part m c 8192 (1024 * (t.val / 4) + p.val) q.val := by
  refine (acc_eq m c p q t.val t.isLt).trans ?_
  rw [h1]

/-! ## The two output arrays -/

/-- The weight's gradient: entry `(i, j)` is the sum over the rows of `x` at `i` times the incoming gradient at `j`, times
    the gate at `j`. -/
def dw (c : Dev nD) : S1024x1024.Idx → EReal := fun z => part m c 8192 (z 0).val (z 1).val * gAt m c (z 1).val

/-- The gate's partial sums: for block `b` and column `j`, the sum over the block's rows `i` of the weight times the
    ungated gradient at `(i, j)`. -/
def gs (c : Dev nD) : S1x8x1024.Idx → EReal := fun z =>
  ∑ p ∈ Finset.range 1024, part m c 8192 (1024 * (z 0).val + p) (z 2).val * wAt m c (1024 * (z 0).val + p) (z 2).val

theorem final_weight (c : Dev nD) : (dats m 0 c).arrAt 4 cfg0.N = dw m c := by
  refine (dats m 0 c).arrAt_eq_of_covers 4 _ (by decide +kernel) fun t hf y => ?_
  have h3 : t.val % 4 = 3 := (flush0_4 t).mp hf
  obtain ⟨e0, e1⟩ := index4 t
  rw [after0_4]
  have hx0 : ((((cfg0.win 4).blk t).view.emb y) (0 : Fin 2)).val = 1024 * (t.val / 4) + (y (0 : Fin 2)).val := by
    show win0_4.index t (0 : Fin 2) * 1024 + 1 * (y (0 : Fin 2)).val = _; omega
  have hx1 : ((((cfg0.win 4).blk t).view.emb y) (1 : Fin 2)).val = (y (1 : Fin 2)).val := by
    show win0_4.index t (1 : Fin 2) * 1024 + 1 * (y (1 : Fin 2)).val = _; omega
  show ((outsAt0 m c t.val t.isLt).1 y : EReal) = dw m c (((cfg0.win 4).blk t).view.emb y)
  unfold dw
  rw [hx0, hx1, ← iblk_u m c t (y (1 : Fin 2)), ← acc_full m c t h3 (y (0 : Fin 2)) (y (1 : Fin 2)), weight_C m c t h3]
  exact (congrArg _ (Common.eta (M := 1024) (N := 1024) y)).trans (pay3_apply _ _ _ _)

theorem final_gate (c : Dev nD) : (dats m 0 c).arrAt 5 cfg0.N = gs m c := by
  refine (dats m 0 c).arrAt_eq_of_covers 5 _ (by decide +kernel) fun t hf y => ?_
  have h3 : t.val % 4 = 3 := (flush0_5 t).mp hf
  obtain ⟨e0, e1, e2⟩ := index5 t
  rw [after0_5]
  have hy0 : (y (0 : Fin 3)).val < 1 := (y (0 : Fin 3)).isLt
  have hx0 : ((((cfg0.win 5).blk t).view.emb y) (0 : Fin 3)).val = t.val / 4 := by
    show win0_5.index t (0 : Fin 3) * 1 + 1 * (y (0 : Fin 3)).val = _; omega
  have hx2 : ((((cfg0.win 5).blk t).view.emb y) (2 : Fin 3)).val = (y (2 : Fin 3)).val := by
    show win0_5.index t (2 : Fin 3) * 1024 + 1 * (y (2 : Fin 3)).val = _; omega
  have hy : y = ix3 (0 : Fin 1) (y (1 : Fin 3) : Fin 8) (y (2 : Fin 3) : Fin 1024) := funext fun a => by
    match a with
    | ⟨0, _⟩ => exact Fin.ext (by show (y (0 : Fin 3)).val = 0; omega)
    | ⟨1, _⟩ => rfl
    | ⟨2, _⟩ => rfl
  show ((outsAt0 m c t.val t.isLt).2.1 y : EReal) = gs m c (((cfg0.win 5).blk t).view.emb y)
  unfold gs
  rw [hx0, hx2, gate_C m c t h3, Finset.sum_range]
  refine (congrArg _ hy).trans ((pay4_apply _ _ _ _).trans (Finset.sum_congr rfl fun p _ => ?_))
  exact congrArg₂ _ (acc_full m c t h3 p (y (2 : Fin 3))) (iblk_w m c t p (y (2 : Fin 3)))

/-! ## The results -/

/-- The gate's gradient: the sum of the blocks' partial sums. -/
def dg (c : Dev nD) : S1024.Idx → EReal := fun z => ∑ b ∈ Finset.range 1,
  ∑ p ∈ Finset.range 1024, part m c 8192 (1024 * b + p) (z 0).val * wAt m c (1024 * b + p) (z 0).val

/-- The weight's change of format after the call is the identity over the extended reals. -/
theorem tail_weight (c : Dev nD) : Pipeline.afterTail₀ cfgs (dats m) 0 (V0 m) [hostOps1] c main_v7 = dw m c := by
  unfold Pipeline.afterTail₀
  simp only [hostOps1, List.flatten_singleton]
  after_results_simp
  exact (Pipeline.withArrays_arr spec0 (by decide) c (V0 m c) (fun w => (dats m 0 c).arrAt w cfg0.N) 4).trans (final_weight m c)

/-- What the lines after the call make of the gate's partial sums. -/
def gateTail (x : S1x8x1024.Idx → EReal) : S1024.Idx → EReal :=
  Host.reduceAdd (F := Ideal) (φ := .f32) (shapeCast S1x1024 (extractStridedSlice S1x1x1024 ![0, 0, 0] x slices_S1x8x1024_S1x1x1024_0_0_0)
      shapeCasts_S1x1x1024_S1x1024) (constant (F := Ideal) S_ .f32 0x00000000#32) reducesTo_S1x1024_S1024_d0 h_S_

/-- They take the first of each block's eight rows and add the blocks'. -/
theorem gateTail_apply (x : S1x8x1024.Idx → EReal) (z : S1024.Idx) :
    gateTail x z = ∑ b : Fin 1, x (ix3 b (0 : Fin 8) (z 0 : Fin 1024)) := by
  unfold gateTail
  simp only [Host.reduceAdd, Ideal.hostReduceAdd_def]
  rw [Ideal.hostReduceAdd_single reducesTo_S1x1024_S1024_d0 (by decide)]
  refine Eq.trans (congrArg (· + _) (show Ideal.ofBits .f32 0x00000000#32 = 0 by simp [Ideal.ofBits, Ideal.ieee])) ?_
  rw [zero_add]
  refine Finset.sum_congr rfl fun b _ => ?_
  refine (shapeCast_apply _ shapeCasts_S1x1x1024_S1x1024 _ (ix3 (b : Fin 1) (0 : Fin 1) (z 0 : Fin 1024)) ?_).trans ?_
  · rw [Shape.rowMajor_val_two, Shape.rowMajor_val_three]
    show (b.val * 1 + 0) * 1024 + (z 0).val = b.val * 1024 + (z 0).val
    omega
  refine extractStridedSlice_apply ![0, 0, 0] x slices_S1x8x1024_S1x1x1024_0_0_0 _ (ix3 (b : Fin 1) (0 : Fin 8) (z 0 : Fin 1024)) (fun a => ?_)
  match a with
  | ⟨0, _⟩ => show b.val = 0 + b.val; omega
  | ⟨1, _⟩ => rfl
  | ⟨2, _⟩ => show (z 0).val = 0 + (z 0).val; omega

theorem tail_gate (c : Dev nD) : Pipeline.afterTail₀ cfgs (dats m) 0 (V0 m) [hostOps1] c main_v10 = dg m c := by
  have h : Pipeline.withArrays spec0 c (V0 m c) (fun w => (dats m 0 c).arrAt w cfg0.N) (Proc.devRef .tc main_v6_1) = gs m c :=
    (Pipeline.withArrays_arr spec0 (by decide) c (V0 m c) _ 5).trans (final_gate m c)
  have e : Pipeline.afterTail₀ cfgs (dats m) 0 (V0 m) [hostOps1] c main_v10
      = gateTail (Pipeline.withArrays spec0 c (V0 m c) (fun w => (dats m 0 c).arrAt w cfg0.N) (Proc.devRef .tc main_v6_1)) := by
    unfold Pipeline.afterTail₀
    simp only [hostOps1, List.flatten_singleton]
    after_results_simp
    rfl
  refine e.trans ((congrArg gateTail h).trans (funext fun z => (gateTail_apply _ z).trans ?_))
  unfold dg gs
  rw [Finset.sum_range]
  rfl

/-! ## The reference -/

/-- Every argument is an array of real numbers. -/
structure RealArgs (c : Dev nD) : Prop where
  x : ∀ r k, xAt m c r k = ((xAt m c r k).toReal : EReal)
  y : ∀ r k, yAt m c r k = ((yAt m c r k).toReal : EReal)
  w : ∀ r k, wAt m c r k = ((wAt m c r k).toReal : EReal)
  g : ∀ k, gAt m c k = ((gAt m c k).toReal : EReal)

open Cert.KernelIdeal.AttnBwd (coe_sum sum_blocks)

section
variable {m} {c : Dev nD}

/-- A sum over rows of real entries is the real sum. -/
theorem part_real (h : RealArgs m c) (n i j : ℕ) :
    part m c n i j = ((∑ r ∈ Finset.range n, (xAt m c r i).toReal * (yAt m c r j).toReal : ℝ) : EReal) := by
  unfold part
  rw [coe_sum]
  refine Finset.sum_congr rfl fun r _ => ?_
  rw [EReal.coe_mul, ← h.x, ← h.y]

end

theorem arg0_at (c : Dev nD) (z : S8192x1024.Idx) (r k : ℕ) (h0 : (z 0).val = r) (h1 : (z 1).val = k) :
    (m (c.tc.loc main_arg0) : S8192x1024.Idx → EReal) z = xAt m c r k := by
  subst h0 h1
  unfold xAt
  exact congrArg _ (Common.ext2 (Nat.mod_eq_of_lt (z (0 : Fin 2)).isLt).symm (Nat.mod_eq_of_lt (z (1 : Fin 2)).isLt).symm)

theorem arg1_at (c : Dev nD) (z : S8192x1024.Idx) (r k : ℕ) (h0 : (z 0).val = r) (h1 : (z 1).val = k) :
    (m (c.tc.loc main_arg1) : S8192x1024.Idx → EReal) z = yAt m c r k := by
  subst h0 h1
  unfold yAt
  exact congrArg _ (Common.ext2 (Nat.mod_eq_of_lt (z (0 : Fin 2)).isLt).symm (Nat.mod_eq_of_lt (z (1 : Fin 2)).isLt).symm)

theorem arg2_at (c : Dev nD) (z : S1024x1024.Idx) (r k : ℕ) (h0 : (z 0).val = r) (h1 : (z 1).val = k) :
    (m (c.tc.loc main_arg2) : S1024x1024.Idx → EReal) z = wAt m c r k := by
  subst h0 h1
  unfold wAt
  exact congrArg _ (Common.ext2 (Nat.mod_eq_of_lt (z (0 : Fin 2)).isLt).symm (Nat.mod_eq_of_lt (z (1 : Fin 2)).isLt).symm)

theorem arg3_at (c : Dev nD) (z : S1024.Idx) (k : ℕ) (h0 : (z 0).val = k) :
    (m (c.tc.loc main_arg3) : S1024.Idx → EReal) z = gAt m c k := by
  subst h0
  unfold gAt
  refine congrArg _ (funext fun a => Fin.ext ?_)
  match a with
  | ⟨0, _⟩ => exact (Nat.mod_eq_of_lt (z (0 : Fin 1)).isLt).symm

open Cert.Reference12Ideal.Read in
/-- The reference's gradient of the weight is the kernel's. -/
theorem ref_weight (c : Dev nD) (h : RealArgs m c) : (val_main_v10 (F := Ideal) (m (c.tc.loc main_arg0))
    (m (c.tc.loc main_arg1)) (m (c.tc.loc main_arg3)) : S1024x1024.Idx → EReal) = dw m c := by
  funext z
  rw [val_main_v10_apply, val_main_v9_apply]
  unfold dw
  rw [part_real h, h.g, ← EReal.coe_mul, Finset.sum_mul, coe_sum, Finset.sum_range]
  refine Finset.sum_congr rfl fun r _ => ?_
  rw [val_main_v5_apply, val_main_v4_apply, val_main_v0_apply,
    arg0_at m c _ r.val (z 0).val rfl rfl, arg1_at m c _ r.val (z 1).val rfl rfl, arg3_at m c _ (z 1).val rfl, Ideal.mulf_def]
  show gAt m c (z 1).val * yAt m c r.val (z 1).val * xAt m c r.val (z 0).val = _
  rw [h.g, h.x, h.y, ← EReal.coe_mul, ← EReal.coe_mul]
  simp only [EReal.toReal_coe]
  exact congrArg _ (by ring)

open Cert.Reference12Ideal.Read in
/-- The reference's gradient of the gate is the kernel's. -/
theorem ref_gate (c : Dev nD) (h : RealArgs m c) : (val_main_v11 (F := Ideal) (m (c.tc.loc main_arg0))
    (m (c.tc.loc main_arg1)) (m (c.tc.loc main_arg2)) : S1024.Idx → EReal) = dg m c := by
  funext z
  have zero : (FloatOps.ofBits (F := Ideal) .f32 0x00000000#32 : EReal) = 0 := by
    simp [Ideal.ofBits_def, Ideal.ofBits, Ideal.ieee]
  rw [val_main_v11_apply, val_main_cst_0_apply, zero, zero_add, Fin.sum_univ_one, val_main_v8_apply, val_main_v7_apply,
    val_main_cst_apply, zero, zero_add]
  unfold dg
  have left : ∀ r : Fin 8192, (val_main_v6 (F := Ideal) (m (c.tc.loc main_arg0)) (m (c.tc.loc main_arg1))
      (m (c.tc.loc main_arg2)) (idx_main_v7 (idx_main_v8 (idx_main_v11 z 0)) r) : EReal)
      = ((∑ i ∈ Finset.range 1024, (xAt m c r.val i).toReal * (yAt m c r.val (z 0).val).toReal * (wAt m c i (z 0).val).toReal : ℝ) : EReal) := fun r => by
    have hz : (idx_main_v8 (idx_main_v11 z 0) 0).val = (z 0).val := by
      show 0 * 1024 + (z 0).val = (z 0).val
      omega
    rw [val_main_v6_apply, val_main_v1_apply, Ideal.mulf_def, arg1_at m c _ r.val (z 0).val rfl hz, h.y, Finset.sum_range]
    refine (congrArg (((yAt m c r.val (z 0).val).toReal : EReal) * ·) (Finset.sum_congr rfl fun (k : Fin 1024) _ =>
      (congrArg₂ (fun a b : EReal => a * b) (arg0_at m c _ r.val k.val rfl rfl) (arg2_at m c _ k.val (z 0).val rfl hz)).trans
        (show xAt m c r.val k.val * wAt m c k.val (z 0).val = (((xAt m c r.val k.val).toReal * (wAt m c k.val (z 0).val).toReal : ℝ) : EReal) by
          rw [EReal.coe_mul, ← h.x, ← h.w]))).trans ?_
    rw [← coe_sum, ← EReal.coe_mul, Finset.mul_sum]
    exact congrArg _ (Finset.sum_congr rfl fun k _ => by simp only [EReal.toReal_coe]; ring)
  have right : ∀ i : ℕ, part m c 8192 i (z 0).val * wAt m c i (z 0).val
      = ((∑ r ∈ Finset.range 8192, (xAt m c r i).toReal * (yAt m c r (z 0).val).toReal * (wAt m c i (z 0).val).toReal : ℝ) : EReal) := fun i => by
    rw [part_real h, h.w, ← EReal.coe_mul, Finset.sum_mul]
    simp only [EReal.toReal_coe]
  simp only [right]
  refine (Finset.sum_congr rfl fun r _ => left r).trans ?_
  simp only [← coe_sum]
  refine congrArg _ ?_
  rw [sum_blocks 1024 1 (fun i => ∑ r ∈ Finset.range 8192, (xAt m c r i).toReal * (yAt m c r (z 0).val).toReal * (wAt m c i (z 0).val).toReal)]
  exact (Finset.sum_range (fun r => ∑ i ∈ Finset.range 1024, (xAt m c r i).toReal * (yAt m c r (z 0).val).toReal * (wAt m c i (z 0).val).toReal)).symm.trans
    Finset.sum_comm

end Cert.Kernel12Ideal.Wgrad

end
-- ==== Proof.FinitePw2.lean ====
module

public import proofs.«01_k».proof.Defs
public import proofs.«01_k».proof.Proof.Finite
public import proofs.«01_k».proof.Proof.WgradPw2
public import Idealize.ShloMosaic.Lib.ReduceAll
public import Idealize.ShloMosaic.Lib.Pointwise

/-! What the precondition of the gradients of the convolution's second pointwise weight and gate says: every element of the four arguments is a real number. -/

@[expose] public section

noncomputable section

namespace Cert.FinitePw2

open Idealize.ShloMosaic Idealize.ShloMosaic.TcCoe
open Cert.Finite (and_one real_of_lt)

/-- The side conditions of the predicate's operations. -/
instance facts : Cert.Pre_finite12.Facts where
  bcast_S_S8192x1024 := ⟨fun a => a.elim0, fun a => a.elim0⟩
  reducesTo_S8192x1024_S_d0_1 := by decide
  h_S_ := by decide
  bcast_S_S1024x1024 := ⟨fun a => a.elim0, fun a => a.elim0⟩
  reducesTo_S1024x1024_S_d0_1 := by decide
  bcast_S_S1024 := ⟨fun a => a.elim0, fun a => a.elim0⟩
  reducesTo_S1024_S_d0 := by decide

/-- One of the predicate's conjuncts, for an array of any shape: that the absolute value of each element is below
    infinity makes each element a real number. -/
theorem real_of_test {S : Shape} {axes : List (Fin S.rank)} (x : S.Idx → EReal) (hb : Cert.Pre_finite12.S_.BroadcastsInDim S (![] : Fin 0 → Fin S.rank))
    (hr : S.ReducesTo axes Cert.Pre_finite12.S_) (hu : 0 < Cert.Pre_finite12.S_.numel) (j : Cert.Pre_finite12.S_.Idx)
    (h : Host.reduce IntOp.andi
      (cmpf (F := Ideal) (φ := .f32) .olt (Host.absf (F := Ideal) (φ := .f32) x)
        (broadcastInDim S ![] hb (constant (F := Ideal) Cert.Pre_finite12.S_ .f32 0x7F800000#32)))
      (constantI Cert.Pre_finite12.S_ 1 1#1) hr hu j = 1#1) (i : S.Idx) : x i = ((x i).toReal : EReal) := by
  have e := Host.reduce_andi_all _ _ _ _ j h i
  have e' : Ideal.cmp .olt (max (x i) (-(x i))) (Ideal.ofBits .f32 0x7F800000#32) = 1#1 := e
  have t : Ideal.ofBits .f32 0x7F800000#32 = ⊤ := by simp [Ideal.ofBits, Ideal.ieee]
  rw [t, Ideal.cmp_olt] at e'
  refine real_of_lt ?_
  by_contra hn
  rw [decide_eq_false hn] at e'
  exact absurd e' (by decide)

open Cert.Kernel12Ideal in
/-- The precondition makes the kernel's four arguments, on every device, arrays of real numbers. -/
theorem real_args (m : (ℓ : Loc nD τ sig) → Buf (Elt Ideal) ℓ) (c : Dev nD)
    (h : Cert.Pre_finite12.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    Cert.Kernel12Ideal.Wgrad.RealArgs m c := by
  have j : Cert.Pre_finite12.S_.Idx := fun i => i.elim0
  have e := congrFun h j
  unfold Cert.Pre_finite12.fn Cert.Pre_finite12.fn_part1 at e
  dsimp only at e
  obtain ⟨e, e3⟩ := and_one e
  obtain ⟨e, e2⟩ := and_one e
  obtain ⟨e0, e1⟩ := and_one e
  exact ⟨fun r k => real_of_test _ _ _ _ j e0 _, fun r k => real_of_test _ _ _ _ j e1 _,
    fun r k => real_of_test _ _ _ _ j e2 _, fun k => real_of_test _ _ _ _ j e3 _⟩

end Cert.FinitePw2

end
-- ==== Proof.AttnOutBwd.lean ====
module

public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.Common

/-! The call that takes the gradient of the residual stream back to the attention's output. Each point of its grid takes 512
    rows of the gradient, multiplies them by the gate and by the transposed output weight, and for each of the sixteen heads
    sums the products of the result and the attention's output along a row. Over the extended reals its three results are
    those of the reference, from any arguments. -/

@[expose] public section

set_option maxRecDepth 16384

noncomputable section

namespace Cert.Kernel13Ideal.AttnOutBwd

open Idealize.ShloMosaic Idealize.ShloMosaic.TcCoe Idealize.ShloMosaic.Tactic Idealize.SL.Sem
open Idealize.ShloMosaic.Pipeline (Dat)
open Cert.Kernel13Ideal Cert.Kernel13Ideal.Gen

open Cert.Common (zeros2)

/-! ## What one point of the grid computes -/

/-- The product of a block of rows with the transposed output weight, entry by entry. -/
theorem prod_back (x : FVec Ideal S512x1024 .bf16) (y : FVec Ideal S2048x1024 .bf16) (p : Fin 512) (q : Fin 2048) :
    (matmul dot_S512x1024_S2048x1024_S512x2048_1_1_0_0_n_n none x y (constant (F := Ideal) S512x2048 .f32 0x00000000#32) (ix2 p q) : EReal)
      = ∑ r : Fin 1024, (x (ix2 p r) : EReal) * (y (ix2 q r) : EReal) := by
  exact Common.nt x y p q

/-- The lane of the heads' concatenation that lane `j` of head `h` is. -/
def lane (h : Fin 16) (j : Fin 128) : Fin 2048 := ⟨128 * h.val + j.val, by have := h.isLt; have := j.isLt; omega⟩

/-- The sum of a row's lanes of head `h`, as the body takes it: a cut of 128 lanes, a sum along the rows, two changes of shape. -/
theorem head_sum (v : FVec Ideal S512x2048 .f32) (off : Nat) (hs : S512x2048.Slices ![0, off] S512x128) (h : Fin 16) (p : Fin 512) (n : Nat)
    (ho : off = 128 * n) (x : S1x512x1.Idx) (e0 : h.val = n + (x (0 : Fin 3)).val) (e1 : p.val = 0 + (x (1 : Fin 3)).val) :
    (shapeCast S1x512x1 (shapeCast S512x1 (multiReduction (F := Ideal) (φ := .f32) .add [1] S512 (extractStridedSlice S512x128 ![0, off] v hs) 0x00000000#32
        reduces_S512x128_S512 (.inl rfl) rfl) shapeCasts_S512_S512x1) shapeCasts_S512x1_S1x512x1 x : EReal)
      = ∑ j : Fin 128, (v (ix2 p (lane h j)) : EReal) := by
  have z0 : (x (0 : Fin 3)).val < 1 := (x (0 : Fin 3)).isLt
  have z2 : (x (2 : Fin 3)).val < 1 := (x (2 : Fin 3)).isLt
  refine (shapeCast_apply _ shapeCasts_S512x1_S1x512x1 x (ix2 p (0 : Fin 1)) ?_).trans ?_
  · rw [Shape.rowMajor_val_two, Shape.rowMajor_val_three]
    show p.val * 1 + 0 = ((x (0 : Fin 3)).val * 512 + (x (1 : Fin 3)).val) * 1 + (x (2 : Fin 3)).val
    omega
  refine (shapeCast_apply _ shapeCasts_S512_S512x1 (ix2 p (0 : Fin 1)) (ix1 p) ?_).trans ?_
  · rw [Shape.rowMajor_val_one, Shape.rowMajor_val_two]
    show p.val = p.val * 1 + 0
    omega
  refine (Ideal.multiReduction_add_single _ _ reduces_S512x128_S512 (.inl rfl) rfl (ix1 p)).trans (Finset.sum_congr rfl fun j _ => ?_)
  have hl : reduces_S512x128_S512.lift (ix1 p) j = ix2 p j := Common.ext2 rfl rfl
  refine (congrArg _ hl).trans (extractStridedSlice_apply ![0, off] v hs (ix2 (n0 := 512) (n1 := 128) p j) (ix2 p (lane h j)) fun a => ?_)
  match a with
  | ⟨0, _⟩ => show p.val = 0 + p.val; omega
  | ⟨1, _⟩ => show 128 * h.val + j.val = off + j.val; omega

section
variable (x0 : Vec Ideal S512x1024 .f32) (x1 : Vec Ideal S512x2048 .bf16) (x2 : Vec Ideal S2048x1024 .bf16) (x3 : Vec Ideal S8x1024 .f32)

/-- The fourth row of the eight-row array: the gate. -/
def gateRow : Vec Ideal S1x1024 .f32 := View.ld x3 (Rect.unit (s := S8x1024) ![3, 0] S1x1024.size inb_S8x1024_S1x1024_3_0)

/-- A point's block of the gradient of the attention's output, entry by entry. -/
theorem pay5_apply (p : Fin 512) (q : Fin 2048) :
    (k0_pay5 x0 (gateRow x3) x2 (ix2 p q) : EReal)
      = ∑ r : Fin 1024, ((x3 (ix2 (3 : Fin 8) r) : EReal) * (x0 (ix2 p r) : EReal)) * (x2 (ix2 q r) : EReal) := by
  unfold k0_pay5
  simp only [shapeCast_self]
  refine (prod_back _ x2 p q).trans (Finset.sum_congr rfl fun r _ => congrArg (fun s : EReal => s * (x2 (ix2 q r) : EReal)) ?_)
  refine congrArg (fun s : EReal => s * (x0 (ix2 p r) : EReal)) ?_
  refine (broadcastTo_apply (gateRow x3) broadcasts_S1x1024_S512x1024 (ix2 p r) (ix2 (0 : Fin 1) r) (fun a => ?_)).trans ?_
  · match a with
    | ⟨0, _⟩ => rfl
    | ⟨1, _⟩ => show r.val = if (1024 : Nat) = 1 then 0 else r.val; rw [if_neg (by decide)]
  · refine View.ld_unit_apply_of x3 ![3, 0] S1x1024.size inb_S8x1024_S1x1024_3_0 (ix2 (0 : Fin 1) r) (ix2 (3 : Fin 8) r) (fun a => ?_)
    match a with
    | ⟨0, _⟩ => rfl
    | ⟨1, _⟩ => show r.val = 0 + r.val; omega

/-- The block of the gradient that a point writes. -/
theorem out_do : out0_4 x0 x1 x2 x3 = k0_pay5 x0 (gateRow x3) x2 := by
  unfold out0_4
  rw [View.canon_unit_zero zeros2]
  simp only [View.ld_unit_zero (S := S512x1024) zeros2, View.ld_unit_zero (S := S2048x1024) zeros2]
  rfl

/-- The block of the stream's gradient that a point copies. -/
theorem out_copy : out0_6 x0 x1 x2 x3 = (x0 : S512x1024.Idx → EReal) := by
  unfold out0_6
  rw [View.canon_unit_zero zeros2]
  simp only [View.ld_unit_zero (S := S512x1024) zeros2]
  rfl

/-- The products of the gradient and the attention's output, entry by entry. -/
theorem pay23_apply (p : Fin 512) (q : Fin 2048) :
    (k0_pay23 x0 x1 x2 x3 (ix2 p q) : EReal) = (k0_pay5 x0 (gateRow x3) x2 (ix2 p q) : EReal) * (x1 (ix2 p q) : EReal) := by
  unfold k0_pay23 k0_pay7
  simp only [shapeCast_self, View.ld_unit_zero (S := S512x1024) zeros2, View.ld_unit_zero (S := S2048x1024) zeros2, View.ld_unit_zero (S := S512x2048) zeros2]
  rfl

/-- The sums that a point writes, one for each head and row. -/
theorem out_sums (h : Fin 16) (p : Fin 512) :
    (out0_5 x0 x1 x2 x3 (ix3 h p (0 : Fin 1)) : EReal) = ∑ j : Fin 128, (k0_pay23 x0 x1 x2 x3 (ix2 p (lane h j)) : EReal) := by
  unfold out0_5
  refine View.canon_eq_of_allAt _ _ _ (cover0_5 _ _ _ _ _ _ _ _ _ _ _ _ _ _ _ _ (ix3 h p (0 : Fin 1))) ?_
  refine View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (
    View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (
    View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (
    View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _))))))))))))))))
  · exact head_sum (k0_pay23 x0 x1 x2 x3) 1920 slices_S512x2048_o0_1920_S512x128 h p 15 rfl x (hx 0) (hx 1)
  · exact head_sum (k0_pay23 x0 x1 x2 x3) 1792 slices_S512x2048_o0_1792_S512x128 h p 14 rfl x (hx 0) (hx 1)
  · exact head_sum (k0_pay23 x0 x1 x2 x3) 1664 slices_S512x2048_o0_1664_S512x128 h p 13 rfl x (hx 0) (hx 1)
  · exact head_sum (k0_pay23 x0 x1 x2 x3) 1536 slices_S512x2048_o0_1536_S512x128 h p 12 rfl x (hx 0) (hx 1)
  · exact head_sum (k0_pay23 x0 x1 x2 x3) 1408 slices_S512x2048_o0_1408_S512x128 h p 11 rfl x (hx 0) (hx 1)
  · exact head_sum (k0_pay23 x0 x1 x2 x3) 1280 slices_S512x2048_o0_1280_S512x128 h p 10 rfl x (hx 0) (hx 1)
  · exact head_sum (k0_pay23 x0 x1 x2 x3) 1152 slices_S512x2048_o0_1152_S512x128 h p 9 rfl x (hx 0) (hx 1)
  · exact head_sum (k0_pay23 x0 x1 x2 x3) 1024 slices_S512x2048_o0_1024_S512x128 h p 8 rfl x (hx 0) (hx 1)
  · exact head_sum (k0_pay23 x0 x1 x2 x3) 896 slices_S512x2048_o0_896_S512x128 h p 7 rfl x (hx 0) (hx 1)
  · exact head_sum (k0_pay23 x0 x1 x2 x3) 768 slices_S512x2048_o0_768_S512x128 h p 6 rfl x (hx 0) (hx 1)
  · exact head_sum (k0_pay23 x0 x1 x2 x3) 640 slices_S512x2048_o0_640_S512x128 h p 5 rfl x (hx 0) (hx 1)
  · exact head_sum (k0_pay23 x0 x1 x2 x3) 512 slices_S512x2048_o0_512_S512x128 h p 4 rfl x (hx 0) (hx 1)
  · exact head_sum (k0_pay23 x0 x1 x2 x3) 384 slices_S512x2048_o0_384_S512x128 h p 3 rfl x (hx 0) (hx 1)
  · exact head_sum (k0_pay23 x0 x1 x2 x3) 256 slices_S512x2048_o0_256_S512x128 h p 2 rfl x (hx 0) (hx 1)
  · exact head_sum (k0_pay23 x0 x1 x2 x3) 128 slices_S512x2048_o0_128_S512x128 h p 1 rfl x (hx 0) (hx 1)
  · exact head_sum (k0_pay23 x0 x1 x2 x3) 0 slices_S512x2048_o0_0_S512x128 h p 0 rfl x (hx 0) (hx 1)

end

/-! ## The arguments as the call reads them -/

variable (m : (ℓ : Loc nD τ sig) → Buf (Elt Ideal) ℓ)

/-- The stream's gradient, the attention's output, the output weight and the gate. -/
def grad (c : Dev nD) : S8192x1024.Idx → EReal := m (c.tc.loc main_arg0)
def attn (c : Dev nD) : S8192x2048.Idx → EReal := m (c.tc.loc main_arg1)
def weight (c : Dev nD) : S2048x1024.Idx → EReal := m (c.tc.loc main_arg2)
def gate (c : Dev nD) : S1024.Idx → EReal := m (c.tc.loc main_arg3)

theorem V_grad (c : Dev nD) : (V m c main_arg0 : S8192x1024.Idx → EReal) = grad m c := by
  unfold grad
  simp only [V, V0, hostOps0, List.flatten_singleton]
  after_results_simp <;> rfl

theorem V_attn (c : Dev nD) : (V m c main_v0 : S8192x2048.Idx → EReal) = attn m c := by
  unfold attn
  simp only [V, V0, hostOps0, List.flatten_singleton]
  after_results_simp <;> rfl

theorem V_weight (c : Dev nD) : (V m c main_v1 : S2048x1024.Idx → EReal) = weight m c := by
  unfold weight
  simp only [V, V0, hostOps0, List.flatten_singleton]
  after_results_simp <;> rfl

/-- The eight-row array that carries the gate, as the lines before the call make it. -/
abbrev pieces (g sh sc ga : S1024.Idx → EReal) : List ((s : Shape) × (s.Idx → EReal)) :=
    [⟨S1x1024, shapeCast S1x1024 g shapeCasts_S1024_S1x1024⟩, ⟨S1x1024, shapeCast S1x1024 sh shapeCasts_S1024_S1x1024⟩,
      ⟨S1x1024, shapeCast S1x1024 sc shapeCasts_S1024_S1x1024⟩, ⟨S1x1024, shapeCast S1x1024 ga shapeCasts_S1024_S1x1024⟩,
      ⟨S4x1024, broadcastInDim S4x1024 ![] bcast_S_S4x1024 (constant (F := Ideal) S_ .f32 0x00000000#32)⟩]
def rows (g sh sc ga : S1024.Idx → EReal) : S8x1024.Idx → EReal := concatenate S8x1024 0 (pieces g sh sc ga)
    concatenates_S1x1024_S1x1024_S1x1024_S1x1024_S4x1024_S8x1024_d0

theorem V_rows (c : Dev nD) : (V m c main_v7 : S8x1024.Idx → EReal) = rows (gate m c) (gate m c) (gate m c) (gate m c) := by
  unfold gate rows
  simp only [V, V0, hostOps0, List.flatten_singleton]
  after_results_simp <;> rfl

/-- A row taken as a one-row array. -/
theorem cast_row (v : S1024.Idx → EReal) (q : Fin 1024) : shapeCast S1x1024 v shapeCasts_S1024_S1x1024 (ix2 (0 : Fin 1) q) = v (ix1 q) := by
  refine shapeCast_apply _ shapeCasts_S1024_S1x1024 (ix2 (0 : Fin 1) q) (ix1 q) ?_
  rw [Shape.rowMajor_val_one, Shape.rowMajor_val_two]
  show q.val = 0 * 1024 + q.val
  omega

section
variable (g sh sc ga : S1024.Idx → EReal) (q : Fin 1024)

theorem rows_3 : rows g sh sc ga (ix2 (3 : Fin 8) q) = ga (ix1 q) := by
  refine (concatenate_apply_piece (t := S8x1024) (0 : Fin 2) (pieces g sh sc ga) concatenates_S1x1024_S1x1024_S1x1024_S1x1024_S4x1024_S8x1024_d0 (ix2 (3 : Fin 8) q) 3 (by show 3 < 5; omega)
    S1x1024 (shapeCast S1x1024 ga shapeCasts_S1024_S1x1024) rfl rfl 3 rfl (ix2 (0 : Fin 1) q) (fun b hb => ?_) rfl).trans (cast_row ga q)
  match b with
  | ⟨0, _⟩ => exact absurd rfl hb
  | ⟨1, _⟩ => rfl

end

theorem index0 : ∀ t : Fin cfg0.N, win0_0.index t (0 : Fin 2) = t.val ∧ win0_0.index t (1 : Fin 2) = 0 := by decide +kernel
theorem index1 : ∀ t : Fin cfg0.N, win0_1.index t (0 : Fin 2) = t.val ∧ win0_1.index t (1 : Fin 2) = 0 := by decide +kernel
theorem index2 : ∀ t : Fin cfg0.N, win0_2.index t (0 : Fin 2) = 0 ∧ win0_2.index t (1 : Fin 2) = 0 := by decide +kernel
theorem index3 : ∀ t : Fin cfg0.N, win0_3.index t (0 : Fin 2) = 0 ∧ win0_3.index t (1 : Fin 2) = 0 := by decide +kernel
theorem index4 : ∀ t : Fin cfg0.N, win0_4.index t (0 : Fin 2) = t.val ∧ win0_4.index t (1 : Fin 2) = 0 := by decide +kernel
theorem index5 : ∀ t : Fin cfg0.N, win0_5.index t (0 : Fin 3) = 0 ∧ win0_5.index t (1 : Fin 3) = t.val ∧ win0_5.index t (2 : Fin 3) = 0 := by decide +kernel
theorem index6 : ∀ t : Fin cfg0.N, win0_6.index t (0 : Fin 2) = t.val ∧ win0_6.index t (1 : Fin 2) = 0 := by decide +kernel

/-- The row of the arrays that a point's row is. -/
def row (t : Fin cfg0.N) (p : Fin 512) : Fin 8192 := ⟨512 * t.val + p.val, by
  have hN : t.val < 16 := lt_of_lt_of_eq t.isLt N_0
  have := p.isLt
  omega⟩

theorem iblk_grad (c : Dev nD) (t : Fin cfg0.N) (p : Fin 512) (k : Fin 1024) :
    (iblk m c 0 t (ix2 p k) : EReal) = grad m c (ix2 (row t p) k) := by
  obtain ⟨e0, e1⟩ := index0 t
  rw [← V_grad]
  exact congrArg (V m c main_arg0 : S8192x1024.Idx → EReal) (Common.ext2 (by show win0_0.index t (0 : Fin 2) * 512 + 1 * p.val = 512 * t.val + p.val; omega)
    (by show win0_0.index t (1 : Fin 2) * 1024 + 1 * k.val = k.val; omega))

theorem iblk_attn (c : Dev nD) (t : Fin cfg0.N) (p : Fin 512) (k : Fin 2048) :
    (iblk m c 1 t (ix2 p k) : EReal) = attn m c (ix2 (row t p) k) := by
  obtain ⟨e0, e1⟩ := index1 t
  rw [← V_attn]
  exact congrArg (V m c main_v0 : S8192x2048.Idx → EReal) (Common.ext2 (by show win0_1.index t (0 : Fin 2) * 512 + 1 * p.val = 512 * t.val + p.val; omega)
    (by show win0_1.index t (1 : Fin 2) * 2048 + 1 * k.val = k.val; omega))

theorem iblk_weight (c : Dev nD) (t : Fin cfg0.N) (p : Fin 2048) (k : Fin 1024) :
    (iblk m c 2 t (ix2 p k) : EReal) = weight m c (ix2 p k) := by
  obtain ⟨e0, e1⟩ := index2 t
  rw [← V_weight]
  exact congrArg (V m c main_v1 : S2048x1024.Idx → EReal) (Common.ext2 (by show win0_2.index t (0 : Fin 2) * 2048 + 1 * p.val = p.val; omega)
    (by show win0_2.index t (1 : Fin 2) * 1024 + 1 * k.val = k.val; omega))

theorem iblk_rows (c : Dev nD) (t : Fin cfg0.N) (p : Fin 8) (k : Fin 1024) :
    (iblk m c 3 t (ix2 p k) : EReal) = rows (gate m c) (gate m c) (gate m c) (gate m c) (ix2 p k) := by
  obtain ⟨e0, e1⟩ := index3 t
  rw [← V_rows]
  exact congrArg (V m c main_v7 : S8x1024.Idx → EReal) (Common.ext2 (by show win0_3.index t (0 : Fin 2) * 8 + 1 * p.val = p.val; omega)
    (by show win0_3.index t (1 : Fin 2) * 1024 + 1 * k.val = k.val; omega))

/-! ## The three output arrays -/

/-- An entry of the gradient of the attention's output. -/
def doAt (c : Dev nD) (r : Fin 8192) (q : Fin 2048) : EReal :=
  ∑ k : Fin 1024, (gate m c (ix1 k) * grad m c (ix2 r k)) * weight m c (ix2 q k)

/-- The sum, over the lanes of head `h`, of the products of row `r`'s gradient and output. -/
def sumAt (c : Dev nD) (h : Fin 16) (r : Fin 8192) : EReal := ∑ j : Fin 128, doAt m c r (lane h j) * attn m c (ix2 r (lane h j))

/-- The gradient, the call's array of sums and the sums as a table of heads and rows. -/
def gdo (c : Dev nD) : S8192x2048.Idx → EReal := fun z => doAt m c (z 0) (z 1)
def gsum (c : Dev nD) : S16x8192x1.Idx → EReal := fun z => sumAt m c (z 0) (z 1)
def gdl (c : Dev nD) : S16x8192.Idx → EReal := fun z => sumAt m c (z 0) (z 1)

theorem do_eq (c : Dev nD) (t : Fin cfg0.N) (p : Fin 512) (q : Fin 2048) :
    (k0_pay5 (iblk m c 0 t) (gateRow (iblk m c 3 t)) (iblk m c 2 t) (ix2 p q) : EReal) = doAt m c (row t p) q := by
  refine (pay5_apply _ _ _ p q).trans ?_
  unfold doAt
  simp only [iblk_grad, iblk_rows, rows_3, iblk_weight]

theorem sum_eq (c : Dev nD) (t : Fin cfg0.N) (h : Fin 16) (p : Fin 512) :
    (out0_5 (iblk m c 0 t) (iblk m c 1 t) (iblk m c 2 t) (iblk m c 3 t) (ix3 h p (0 : Fin 1)) : EReal) = sumAt m c h (row t p) :=
  (out_sums _ _ _ _ h p).trans (Finset.sum_congr rfl fun j _ => (pay23_apply _ _ _ _ p (lane h j)).trans
    (congrArg₂ (fun a b : EReal => a * b) (do_eq m c t p (lane h j)) (iblk_attn m c t p (lane h j))))

theorem final_gdo (c : Dev nD) : (dats m 0 c).arrAt 4 cfg0.N = gdo m c := by
  refine (dats m 0 c).arrAt_eq_of_covers 4 _ (by decide +kernel) fun t hf y => ?_
  obtain ⟨e0, e1⟩ := index4 t
  rw [after0_4]
  have hx : ((cfg0.win 4).blk t).view.emb y = ix2 (row t (y (0 : Fin 2))) (y (1 : Fin 2) : Fin 2048) := Common.ext2
    (by show win0_4.index t (0 : Fin 2) * 512 + 1 * (y (0 : Fin 2)).val = 512 * t.val + (y (0 : Fin 2)).val; omega)
    (by show win0_4.index t (1 : Fin 2) * 2048 + 1 * (y (1 : Fin 2)).val = (y (1 : Fin 2)).val; omega)
  rw [out_do, hx]
  show (k0_pay5 (iblk m c 0 t) (gateRow (iblk m c 3 t)) (iblk m c 2 t) y : EReal) = doAt m c (row t (y (0 : Fin 2))) (y (1 : Fin 2))
  exact (congrArg _ (Common.eta (M := 512) (N := 2048) y)).trans (do_eq m c t _ _)

theorem final_grad (c : Dev nD) : (dats m 0 c).arrAt 6 cfg0.N = grad m c := by
  refine (dats m 0 c).arrAt_eq_of_covers 6 _ (by decide +kernel) fun t hf y => ?_
  obtain ⟨e0, e1⟩ := index6 t
  rw [after0_6]
  have hx : ((cfg0.win 6).blk t).view.emb y = ix2 (row t (y (0 : Fin 2))) (y (1 : Fin 2) : Fin 1024) := Common.ext2
    (by show win0_6.index t (0 : Fin 2) * 512 + 1 * (y (0 : Fin 2)).val = 512 * t.val + (y (0 : Fin 2)).val; omega)
    (by show win0_6.index t (1 : Fin 2) * 1024 + 1 * (y (1 : Fin 2)).val = (y (1 : Fin 2)).val; omega)
  rw [out_copy, hx]
  show (iblk m c 0 t y : EReal) = grad m c (ix2 (row t (y (0 : Fin 2))) (y (1 : Fin 2)))
  exact (congrArg _ (Common.eta (M := 512) (N := 1024) y)).trans (iblk_grad m c t _ _)

/-- The block of sums the kernel leaves at point `t`. -/
theorem block_sums (c : Dev nD) (t : Fin cfg0.N) :
    (out0_5 (iblk m c 0 t) (iblk m c 1 t) (iblk m c 2 t) (iblk m c 3 t) : S16x512x1.Idx → EReal) =
      fun y => sumAt m c (y (0 : Fin 3)) (row t (y (1 : Fin 3))) := by
  funext y
  have z2 : (y (2 : Fin 3)).val < 1 := (y (2 : Fin 3)).isLt
  have hy : y = ix3 (y (0 : Fin 3) : Fin 16) (y (1 : Fin 3) : Fin 512) (0 : Fin 1) := funext fun a => by
    match a with
    | ⟨0, _⟩ => rfl
    | ⟨1, _⟩ => rfl
    | ⟨2, _⟩ => exact Fin.ext (by show (y (2 : Fin 3)).val = 0; omega)
  exact (congrArg _ hy).trans (sum_eq m c t _ _)

theorem final_gsum (c : Dev nD) : (dats m 0 c).arrAt 5 cfg0.N = gsum m c := by
  refine (dats m 0 c).arrAt_eq_of_covers 5 _ (by decide +kernel) fun t hf y => ?_
  obtain ⟨e0, e1, e2⟩ := index5 t
  rw [after0_5, block_sums]
  have z2 : (y (2 : Fin 3)).val < 1 := (y (2 : Fin 3)).isLt
  have hx : ((cfg0.win 5).blk t).view.emb y = ix3 (y (0 : Fin 3) : Fin 16) (row t (y (1 : Fin 3))) (0 : Fin 1) := funext fun a => Fin.ext (by
    match a with
    | ⟨0, _⟩ => show win0_5.index t (0 : Fin 3) * 16 + 1 * (y (0 : Fin 3)).val = (y (0 : Fin 3)).val; omega
    | ⟨1, _⟩ => show win0_5.index t (1 : Fin 3) * 512 + 1 * (y (1 : Fin 3)).val = 512 * t.val + (y (1 : Fin 3)).val; omega
    | ⟨2, _⟩ => show win0_5.index t (2 : Fin 3) * 1 + 1 * (y (2 : Fin 3)).val = 0; omega)
  rw [hx]
  rfl

/-! ## The results -/

theorem tail_gdo (c : Dev nD) : Pipeline.afterTail₀ cfgs (dats m) 0 (V0 m) [hostOps1] c main_v9 = gdo m c := by
  unfold Pipeline.afterTail₀
  simp only [hostOps1, List.flatten_singleton]
  after_results_simp
  exact (Pipeline.withArrays_arr spec0 (by decide) c (V0 m c) (fun w => (dats m 0 c).arrAt w cfg0.N) 4).trans (final_gdo m c)

theorem tail_grad (c : Dev nD) : Pipeline.afterTail₀ cfgs (dats m) 0 (V0 m) [hostOps1] c main_v11 = grad m c := by
  unfold Pipeline.afterTail₀
  simp only [hostOps1, List.flatten_singleton]
  after_results_simp
  exact (Pipeline.withArrays_arr spec0 (by decide) c (V0 m c) (fun w => (dats m 0 c).arrAt w cfg0.N) 6).trans (final_grad m c)

/-- The array of sums without its last axis. -/
theorem flat_sum (c : Dev nD) : (shapeCast S16x8192 (gsum m c) shapeCasts_S16x8192x1_S16x8192 : S16x8192.Idx → EReal) = gdl m c := by
  funext z
  refine (shapeCast_apply (gsum m c) shapeCasts_S16x8192x1_S16x8192 z (ix3 (z (0 : Fin 2) : Fin 16) (z (1 : Fin 2) : Fin 8192) (0 : Fin 1)) ?_).trans rfl
  rw [Shape.rowMajor_val_two, Shape.rowMajor_val_three]
  show ((z (0 : Fin 2)).val * 8192 + (z (1 : Fin 2)).val) * 1 + 0 = (z (0 : Fin 2)).val * 8192 + (z (1 : Fin 2)).val
  omega

theorem tail_gdl (c : Dev nD) : Pipeline.afterTail₀ cfgs (dats m) 0 (V0 m) [hostOps1] c main_v10 = gdl m c := by
  have h : Pipeline.withArrays spec0 c (V0 m c) (fun w => (dats m 0 c).arrAt w cfg0.N) (Proc.devRef .tc main_v8_1) = gsum m c :=
    (Pipeline.withArrays_arr spec0 (by decide) c (V0 m c) _ 5).trans (final_gsum m c)
  unfold Pipeline.afterTail₀
  simp only [hostOps1, List.flatten_singleton]
  after_results_simp
  exact (congrArg (fun v : S16x8192x1.Idx → EReal => shapeCast S16x8192 v shapeCasts_S16x8192x1_S16x8192) h).trans (flat_sum m c)

/-! ## The reference -/

open Cert.Reference13Ideal.Read

/-- The reference's gradient, entry by entry. -/
theorem ref_do_apply (c : Dev nD) (r : Fin 8192) (q : Fin 2048) :
    (val_main_v6 (F := Ideal) (grad m c) (weight m c) (gate m c) (ix2 r q) : EReal) = doAt m c r q := by
  rw [val_main_v6_apply]
  refine Finset.sum_congr rfl fun k _ => congrArg₂ (fun a b : EReal => a * b) ?_ (congrArg (weight m c) (funext fun a => ?_))
  · have h : lidx_main_v6 (ix2 r q) k = ix2 r (k : Fin 1024) := Common.ext2 rfl rfl
    rw [h, val_main_v5_apply, val_main_v4_apply, val_main_v0_apply]
    have i1 : idx_main_v0 (idx_main_v4 (ix2 r k)) = ix1 k := funext fun a => by
      match a with
      | ⟨0, _⟩ => rfl
    rw [i1]
    rfl
  · match a with
    | ⟨0, _⟩ => rfl
    | ⟨1, _⟩ => rfl

/-- The reference's sums, entry by entry. -/
theorem ref_sum_apply (c : Dev nD) (h : Fin 16) (r : Fin 8192) :
    (val_main_v10 (F := Ideal) (grad m c) (attn m c) (weight m c) (gate m c) (ix2 h r) : EReal) = sumAt m c h r := by
  rw [val_main_v10_apply, val_main_v9_apply, val_main_cst_apply]
  have zero : (FloatOps.ofBits (F := Ideal) .f32 0x00000000#32 : EReal) = 0 := by
    show Ideal.ofBits .f32 0x00000000#32 = 0
    simp [Ideal.ofBits, Ideal.ieee]
  rw [zero, zero_add]
  refine Finset.sum_congr rfl fun j _ => ?_
  have hj : idx_main_v8 (idx_main_v9 (idx_main_v10 (ix2 h r)) j) = ix2 r (lane h j) := funext fun a => Fin.ext (by
    have := h.isLt
    have := j.isLt
    match a with
    | ⟨0, _⟩ => show ((r.val * 16 + h.val) * 128 + j.val) / 2048 = r.val; omega
    | ⟨1, _⟩ => show ((r.val * 16 + h.val) * 128 + j.val) % 2048 = 128 * h.val + j.val; omega)
  rw [val_main_v8_apply, hj, val_main_v7_apply, ref_do_apply]
  rfl

theorem eta2048 (z : S8192x2048.Idx) : z = ix2 (z (0 : Fin 2) : Fin 8192) (z (1 : Fin 2) : Fin 2048) := Common.ext2 rfl rfl
theorem eta16 (z : S16x8192.Idx) : z = ix2 (z (0 : Fin 2) : Fin 16) (z (1 : Fin 2) : Fin 8192) := Common.ext2 rfl rfl

/-- The reference's two computed results are the kernel's. -/
theorem ref_gdo (c : Dev nD) : (val_main_v6 (F := Ideal) (grad m c) (weight m c) (gate m c) : S8192x2048.Idx → EReal) = gdo m c :=
  funext fun z => (congrArg _ (eta2048 z)).trans (ref_do_apply m c (z 0) (z 1))
theorem ref_gdl (c : Dev nD) : (val_main_v10 (F := Ideal) (grad m c) (attn m c) (weight m c) (gate m c) : S16x8192.Idx → EReal) = gdl m c :=
  funext fun z => (congrArg _ (eta16 z)).trans (ref_sum_apply m c (z 0) (z 1))

end Cert.Kernel13Ideal.AttnOutBwd

end
-- ==== Proof.QFwd.lean ====
module

public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import proofs.«01_k».proof.Proof.ConvInFwd
public import Idealize.ShloMosaic.Lib.KernelVsHost

/-! The forward call that makes the attention's queries. Each point of its grid takes 512 rows of the residual stream,
    normalizes and modulates them, takes them through the two query weights with a norm in between, turns sixteen pairs
    of lanes of every head by the angles, and scales. The body turns the lanes with a table of three rows of 128 numbers
    and two rotations of the lanes; the reference writes the turned halves out. Over the extended reals the four results
    are the reference's, from any arguments. -/

@[expose] public section

set_option maxRecDepth 16384

noncomputable section

namespace Cert.Kernel15Ideal.Query

open Idealize.ShloMosaic Idealize.ShloMosaic.TcCoe Idealize.ShloMosaic.Tactic Idealize.SL.Sem
open Idealize.ShloMosaic.Pipeline (Dat)
open Cert Cert.Kernel15Ideal Cert.Kernel15Ideal.Gen
open Cert.Common (zeros2 zero_bits eta)
open Cert.Kernel14Ideal.ConvIn (len eps one modOf rows rows_0 rows_1 rows_2)

/-! ## What one point of the grid computes -/

/-- The inner row length, and the number that the queries are scaled by. -/
def len2 : EReal := Ideal.ofBits .f32 0x44000000#32
def e2 : EReal := (((Real.sqrt 96 * Real.log 2)⁻¹ : ℝ) : EReal)

theorem named_e2 : Named.named (F := Ideal) (φ := .f32) κ "exp2_scale" 0x3E16C740#32 = e2 :=
  IdealRules.named_const.ideal_named_scalar _ _ _ _ rfl

/-- One head as the body takes it: a cut of 128 lanes, times three rows of the table, two of them against rotated lanes. -/
def headOf (v : FVec Ideal S512x2048 .f32) (w : FVec Ideal S512x384 .f32) (off : Nat) (hs : S512x2048.Slices ![0, off] S512x128) : FVec Ideal S512x128 .bf16 :=
  truncf .bf16 (mulf (addf (addf
      (mulf (extractStridedSlice S512x128 ![0, off] v hs) (extractStridedSlice S512x128 ![0, 0] w slices_S512x384_o0_0_S512x128))
      (mulf (dynamicRotate 1 16#32 none (extractStridedSlice S512x128 ![0, off] v hs) rotates_S512x128_d1)
        (extractStridedSlice S512x128 ![0, 128] w slices_S512x384_o0_128_S512x128)))
      (mulf (dynamicRotate 1 112#32 none (extractStridedSlice S512x128 ![0, off] v hs) rotates_S512x128_d1)
        (extractStridedSlice S512x128 ![0, 256] w slices_S512x384_o0_256_S512x128)))
    (broadcast S512x128 (Named.named (F := Ideal) (φ := .f32) κ "exp2_scale" 0x3E16C740#32))) bitsLt_bf16_f32

/-- Lane `l` of the head that starts at lane `b`, from the products and the table. -/
def mix (v : S512x2048.Idx → EReal) (w : S512x384.Idx → EReal) (p : Fin 512) (b l : ℕ) : EReal :=
  (v (ix2 p (Fin.ofNat 2048 (b + l))) * w (ix2 p (Fin.ofNat 384 l)) + v (ix2 p (Fin.ofNat 2048 (b + (l + 112) % 128))) * w (ix2 p (Fin.ofNat 384 (128 + l)))
    + v (ix2 p (Fin.ofNat 2048 (b + (l + 16) % 128))) * w (ix2 p (Fin.ofNat 384 (256 + l)))) * e2

theorem head_at (v : FVec Ideal S512x2048 .f32) (w : FVec Ideal S512x384 .f32) (off : Nat) (hs : S512x2048.Slices ![0, off] S512x128) (p : Fin 512) (q : Fin 2048)
    (n : Nat) (ho : off = 128 * n) (x : S512x128.Idx) (e0 : p.val = 0 + (x (0 : Fin 2)).val) (e1 : q.val = off + (x (1 : Fin 2)).val) :
    (headOf v w off hs x : EReal) = mix v w p (128 * (q.val / 128)) (q.val % 128) := by
  have z1 : (x (1 : Fin 2)).val < 128 := (x (1 : Fin 2)).isLt
  have hq := q.isLt
  obtain ⟨l, hx, el⟩ : ∃ l : Fin 128, x = ix2 (n0 := 512) (n1 := 128) p l ∧ q.val % 128 = l.val :=
    ⟨x (1 : Fin 2), funext fun a => by
      match a with
      | ⟨0, _⟩ => exact Fin.ext (by show (x (0 : Fin 2)).val = p.val; omega)
      | ⟨1, _⟩ => rfl, by omega⟩
  have eb : 128 * (q.val / 128) = off := by omega
  rw [el, eb, hx]
  have cut : ∀ j : Fin 128, (extractStridedSlice S512x128 ![0, off] v hs (ix2 p j) : EReal) = v (ix2 p (Fin.ofNat 2048 (off + j.val))) := fun j =>
    extractStridedSlice_apply ![0, off] v hs (ix2 (n0 := 512) (n1 := 128) p j) (ix2 p (Fin.ofNat 2048 (off + j.val))) fun a => match a with
      | ⟨0, _⟩ => by show p.val = 0 + p.val; omega
      | ⟨1, _⟩ => by have := j.isLt; show (off + j.val) % 2048 = off + j.val; omega
  have tab : ∀ (o : Nat) (h : S512x384.Slices ![0, o] S512x128) (hb : o ≤ 256), (extractStridedSlice S512x128 ![0, o] w h (ix2 p l) : EReal) = w (ix2 p (Fin.ofNat 384 (o + l.val))) := fun o h hb =>
    extractStridedSlice_apply ![0, o] w h (ix2 (n0 := 512) (n1 := 128) p l) (ix2 p (Fin.ofNat 384 (o + l.val))) fun a => match a with
      | ⟨0, _⟩ => by show p.val = 0 + p.val; omega
      | ⟨1, _⟩ => by have := l.isLt; show (o + l.val) % 384 = o + l.val; omega
  have rot : ∀ (s : BitVec 32) (k : Nat) (hk : k = 128 - s.toNat % 128) (y : FVec Ideal S512x128 .f32), (dynamicRotate 1 s none y rotates_S512x128_d1 (ix2 p l) : EReal)
      = y (ix2 p (Fin.ofNat 128 (l.val + k))) := fun s k hk y =>
    dynamicRotate_apply 1 s y rotates_S512x128_d1 (ix2 (n0 := 512) (n1 := 128) p l) (ix2 p (Fin.ofNat 128 (l.val + k))) fun a => match a with
      | ⟨0, _⟩ => rfl
      | ⟨1, _⟩ => by
        refine Eq.trans ?_ (if_pos rfl).symm
        have hm : s.toNat % 128 < 128 := Nat.mod_lt _ (by decide)
        show (l.val + k) % 128 = (l.val + 128 - s.toNat % 128) % 128
        congr 1
        omega
  unfold headOf mix
  show ((extractStridedSlice S512x128 ![0, off] v hs (ix2 p l) : EReal) * (extractStridedSlice S512x128 ![0, 0] w _ (ix2 p l) : EReal)
    + (dynamicRotate 1 16#32 none (extractStridedSlice S512x128 ![0, off] v hs) rotates_S512x128_d1 (ix2 p l) : EReal) * (extractStridedSlice S512x128 ![0, 128] w _ (ix2 p l) : EReal)
    + (dynamicRotate 1 112#32 none (extractStridedSlice S512x128 ![0, off] v hs) rotates_S512x128_d1 (ix2 p l) : EReal) * (extractStridedSlice S512x128 ![0, 256] w _ (ix2 p l) : EReal))
    * (Named.named (F := Ideal) (φ := .f32) κ "exp2_scale" 0x3E16C740#32 : EReal) = _
  rw [rot 16#32 112 rfl, rot 112#32 16 rfl, cut, cut, cut, tab 0 _ (by decide), tab 128 _ (by decide), tab 256 _ (by decide), named_e2, Nat.zero_add]
  rfl

section
variable (x0 : Vec Ideal S512x1024 .f32) (x1 : Vec Ideal S8x1024 .f32) (x2 : Vec Ideal S1024x512 .bf16) (x3 : Vec Ideal S8x512 .f32)
  (x4 : Vec Ideal S512x2048 .bf16) (x5 : Vec Ideal S512x384 .f32)

/-- The first row of the second eight-row array: the inner norm's scale. -/
def scaleRow : Vec Ideal S1x512 .f32 := View.ld x3 (Rect.unit (s := S8x512) ![0, 0] S1x512.size inb_S8x512_S1x512_0_0)

/-- The first product's rows, entry by entry. -/
theorem pay2_apply (p : Fin 512) (q : Fin 512) :
    (k0_pay2 x0 x1 x2 (ix2 p q) : EReal) = ∑ k : Fin 1024, (k0_pay1 x0 x1 (ix2 p k) : EReal) * (x2 (ix2 k q) : EReal) := by
  unfold k0_pay2
  simp only [shapeCast_self]
  exact Common.nn (k0_pay1 x0 x1) x2 p q

/-- The normalized rows of the first product, entry by entry. -/
theorem pay4_apply (p : Fin 512) (q : Fin 512) :
    (k0_pay4 (k0_pay2 x0 x1 x2) (k0_pay3 x0 x1 x2) (scaleRow x3) (ix2 p q) : EReal)
      = (k0_pay2 x0 x1 x2 (ix2 p q) : EReal)
        * Ideal.rsqrt (Ideal.div (∑ j : Fin 512, (k0_pay2 x0 x1 x2 (ix2 p j) : EReal) * (k0_pay2 x0 x1 x2 (ix2 p j) : EReal)) len2 + eps) * (x3 (ix2 (0 : Fin 8) q) : EReal) := by
  unfold k0_pay4 k0_pay3
  generalize k0_pay2 x0 x1 x2 = y
  simp only [shapeCast_self]
  show (y (ix2 p q) : EReal) * (broadcastTo S512x512 _ broadcasts_S512x1_S512x512 (ix2 p q) : EReal) * (broadcastTo S512x512 _ broadcasts_S1x512_S512x512 (ix2 p q) : EReal) = _
  rw [Common.row, Common.col]
  show (y (ix2 p q) : EReal) * Ideal.rsqrt (Ideal.div (shapeCast S512x1 _ shapeCasts_S512_S512x1 (ix2 p (0 : Fin 1)) : EReal) len2 + eps) * _ = _
  rw [Common.rowSum]
  refine congrArg₂ (fun a b : EReal => a * b) rfl ?_
  refine View.ld_unit_apply_of x3 ![0, 0] S1x512.size inb_S8x512_S1x512_0_0 (ix2 (0 : Fin 1) q) (ix2 (0 : Fin 8) q) (fun a => ?_)
  match a with
  | ⟨0, _⟩ => rfl
  | ⟨1, _⟩ => show q.val = 0 + q.val; omega

/-- The second product's rows, entry by entry. -/
theorem pay5_apply (p : Fin 512) (q : Fin 2048) :
    (k0_pay5 (k0_pay2 x0 x1 x2) (k0_pay3 x0 x1 x2) (scaleRow x3) x4 (ix2 p q) : EReal)
      = ∑ k : Fin 512, (k0_pay4 (k0_pay2 x0 x1 x2) (k0_pay3 x0 x1 x2) (scaleRow x3) (ix2 p k) : EReal) * (x4 (ix2 k q) : EReal) := by
  unfold k0_pay5
  simp only [shapeCast_self]
  exact Common.nn (k0_pay4 _ _ _) x4 p q

/-- The blocks that a point writes: the modulated rows, the first product, its normalized rows. -/
theorem out_rows : out0_6 x0 x1 x2 x3 x4 x5 = k0_pay1 x0 x1 := by
  unfold out0_6
  rw [View.canon_unit_zero zeros2]
  simp only [View.ld_unit_zero (S := S512x1024) zeros2, View.ld_unit_zero (S := S8x1024) zeros2]

theorem out_first : out0_7 x0 x1 x2 x3 x4 x5 = k0_pay2 x0 x1 x2 := by
  unfold out0_7
  rw [View.canon_unit_zero zeros2]
  simp only [View.ld_unit_zero (S := S512x1024) zeros2, View.ld_unit_zero (S := S8x1024) zeros2, View.ld_unit_zero (S := S1024x512) zeros2]

theorem pay33_eq : k0_pay33 x0 x1 x2 x3 x4 x5 = k0_pay2 x0 x1 x2 := by
  unfold k0_pay33
  simp only [View.ld_unit_zero (S := S512x1024) zeros2, View.ld_unit_zero (S := S8x1024) zeros2, View.ld_unit_zero (S := S1024x512) zeros2]

theorem pay34_eq : k0_pay34 x0 x1 x2 x3 x4 x5 = k0_pay3 x0 x1 x2 := by
  unfold k0_pay34
  simp only [View.ld_unit_zero (S := S512x1024) zeros2, View.ld_unit_zero (S := S8x1024) zeros2, View.ld_unit_zero (S := S1024x512) zeros2]

theorem pay35_eq : k0_pay35 x0 x1 x2 x3 x4 x5 = k0_pay5 (k0_pay2 x0 x1 x2) (k0_pay3 x0 x1 x2) (scaleRow x3) x4 := by
  unfold k0_pay35
  rw [pay33_eq, pay34_eq]
  simp only [View.ld_unit_zero (S := S512x2048) zeros2]
  rfl

theorem pay36_eq : k0_pay36 x0 x1 x2 x3 x4 x5 = x5 := by
  unfold k0_pay36 k0_pay6
  simp only [View.ld_unit_zero (S := S512x384) zeros2, shapeCast_self]

theorem out_normed : out0_8 x0 x1 x2 x3 x4 x5 = k0_pay4 (k0_pay2 x0 x1 x2) (k0_pay3 x0 x1 x2) (scaleRow x3) := by
  unfold out0_8
  rw [View.canon_unit_zero zeros2, pay33_eq, pay34_eq]
  rfl

/-- The block of queries that a point writes: each of the sixteen stores fills one head's lanes. -/
theorem out_queries (p : Fin 512) (q : Fin 2048) : (out0_9 x0 x1 x2 x3 x4 x5 (ix2 p q) : EReal)
    = mix (k0_pay5 (k0_pay2 x0 x1 x2) (k0_pay3 x0 x1 x2) (scaleRow x3) x4) x5 p (128 * (q.val / 128)) (q.val % 128) := by
  have key : ∀ (off : Nat) (hs : S512x2048.Slices ![0, off] S512x128) (n : Nat) (ho : off = 128 * n) (x : S512x128.Idx) (e0 : p.val = 0 + (x (0 : Fin 2)).val)
      (e1 : q.val = off + (x (1 : Fin 2)).val), (headOf (k0_pay35 x0 x1 x2 x3 x4 x5) (k0_pay36 x0 x1 x2 x3 x4 x5) off hs x : EReal)
        = mix (k0_pay5 (k0_pay2 x0 x1 x2) (k0_pay3 x0 x1 x2) (scaleRow x3) x4) x5 p (128 * (q.val / 128)) (q.val % 128) := fun off hs n ho x e0 e1 =>
    (head_at _ _ off hs p q n ho x e0 e1).trans (by rw [pay35_eq, pay36_eq])
  unfold out0_9
  refine View.canon_eq_of_allAt _ _ _ (cover0_9 _ _ _ _ _ _ _ _ _ _ _ _ _ _ _ _ (ix2 p q)) ?_
  refine View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (
    View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (
    View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (
    View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _))))))))))))))))
  · exact key 1920 slices_S512x2048_o0_1920_S512x128 15 rfl x (hx 0) (hx 1)
  · exact key 1792 slices_S512x2048_o0_1792_S512x128 14 rfl x (hx 0) (hx 1)
  · exact key 1664 slices_S512x2048_o0_1664_S512x128 13 rfl x (hx 0) (hx 1)
  · exact key 1536 slices_S512x2048_o0_1536_S512x128 12 rfl x (hx 0) (hx 1)
  · exact key 1408 slices_S512x2048_o0_1408_S512x128 11 rfl x (hx 0) (hx 1)
  · exact key 1280 slices_S512x2048_o0_1280_S512x128 10 rfl x (hx 0) (hx 1)
  · exact key 1152 slices_S512x2048_o0_1152_S512x128 9 rfl x (hx 0) (hx 1)
  · exact key 1024 slices_S512x2048_o0_1024_S512x128 8 rfl x (hx 0) (hx 1)
  · exact key 896 slices_S512x2048_o0_896_S512x128 7 rfl x (hx 0) (hx 1)
  · exact key 768 slices_S512x2048_o0_768_S512x128 6 rfl x (hx 0) (hx 1)
  · exact key 640 slices_S512x2048_o0_640_S512x128 5 rfl x (hx 0) (hx 1)
  · exact key 512 slices_S512x2048_o0_512_S512x128 4 rfl x (hx 0) (hx 1)
  · exact key 384 slices_S512x2048_o0_384_S512x128 3 rfl x (hx 0) (hx 1)
  · exact key 256 slices_S512x2048_o0_256_S512x128 2 rfl x (hx 0) (hx 1)
  · exact key 128 slices_S512x2048_o0_128_S512x128 1 rfl x (hx 0) (hx 1)
  · exact key 0 slices_S512x2048_o0_0_S512x128 0 rfl x (hx 0) (hx 1)

end

/-! ## The arrays that the call reads -/

variable (m : (ℓ : Loc nD τ sig) → Buf (Elt Ideal) ℓ)

/-- The residual stream, the norm's scale, the modulation's shift and scale, the first weight, the inner norm's scale, the
    second weight, and the cosines and sines of the angles. -/
def stream (c : Dev nD) : S8192x1024.Idx → EReal := m (c.tc.loc main_arg0)
def norm (c : Dev nD) : S1024.Idx → EReal := m (c.tc.loc main_arg1)
def shift (c : Dev nD) : S1024.Idx → EReal := m (c.tc.loc main_arg2)
def scale (c : Dev nD) : S1024.Idx → EReal := m (c.tc.loc main_arg3)
def weight (c : Dev nD) : S1024x512.Idx → EReal := m (c.tc.loc main_arg4)
def inner (c : Dev nD) : S512.Idx → EReal := m (c.tc.loc main_arg5)
def second (c : Dev nD) : S512x2048.Idx → EReal := m (c.tc.loc main_arg6)
def cosines (c : Dev nD) : S8192x16.Idx → EReal := m (c.tc.loc main_arg7)
def sines (c : Dev nD) : S8192x16.Idx → EReal := m (c.tc.loc main_arg8)

/-- The eight-row array that carries the inner norm's scale, and the table of the turning, as the lines before the call
    make them. -/
def innerRows (b : S512.Idx → EReal) : S8x512.Idx → EReal := concatenate S8x512 0
    [⟨S1x512, shapeCast S1x512 b shapeCasts_S512_S1x512⟩, ⟨S7x512, broadcastInDim S7x512 ![] bcast_S_S7x512 (constant (F := Ideal) S_ .f32 0x00000000#32)⟩]
    concatenates_S1x512_S7x512_S8x512_d0
def ones64 : S8192x64.Idx → EReal := broadcastInDim S8192x64 ![] bcast_S_S8192x64 (constant (F := Ideal) S_ .f32 0x3F800000#32)
def zeros16 : S8192x16.Idx → EReal := broadcastInDim S8192x16 ![] bcast_S_S8192x16 (constant (F := Ideal) S_ .f32 0x00000000#32)
def zeros32 : S8192x32.Idx → EReal := broadcastInDim S8192x32 ![] bcast_S_S8192x32 (constant (F := Ideal) S_ .f32 0x00000000#32)
def zeros64 : S8192x64.Idx → EReal := broadcastInDim S8192x64 ![] bcast_S_S8192x64 (constant (F := Ideal) S_ .f32 0x00000000#32)
abbrev pieces (cs sn : S8192x16.Idx → EReal) : List ((s : Shape) × (s.Idx → EReal)) :=
    [⟨S8192x64, ones64⟩, ⟨S8192x16, cs⟩, ⟨S8192x16, cs⟩, ⟨S8192x32, zeros32⟩, ⟨S8192x64, zeros64⟩, ⟨S8192x16, zeros16⟩, ⟨S8192x16, sn⟩, ⟨S8192x32, zeros32⟩,
      ⟨S8192x64, zeros64⟩, ⟨S8192x16, fun i => -sn i⟩, ⟨S8192x16, zeros16⟩, ⟨S8192x32, zeros32⟩]
def table (cs sn : S8192x16.Idx → EReal) : S8192x384.Idx → EReal := concatenate S8192x384 1 (pieces cs sn)
    concatenates_S8192x64_S8192x16_S8192x16_S8192x32_S8192x64_S8192x16_S8192x16_S8192x32_S8192x64_S8192x16_S8192x16_S8192x32_S8192x384_d1

theorem V_stream (c : Dev nD) : (V m c main_arg0 : S8192x1024.Idx → EReal) = stream m c := by
  unfold stream
  simp only [V, V0, hostOps0, List.flatten_singleton]
  after_results_simp <;> rfl
theorem V_rows (c : Dev nD) : (V m c main_v10 : S8x1024.Idx → EReal) = rows (norm m c) (shift m c) (scale m c) := by
  unfold norm shift scale rows
  simp only [V, V0, hostOps0, List.flatten_singleton]
  after_results_simp <;> rfl
theorem V_weight (c : Dev nD) : (V m c main_v11 : S1024x512.Idx → EReal) = weight m c := by
  unfold weight
  simp only [V, V0, hostOps0, List.flatten_singleton]
  after_results_simp <;> rfl
theorem V_inner (c : Dev nD) : (V m c main_v14 : S8x512.Idx → EReal) = innerRows (inner m c) := by
  unfold inner innerRows
  simp only [V, V0, hostOps0, List.flatten_singleton]
  after_results_simp <;> rfl
theorem V_second (c : Dev nD) : (V m c main_v15 : S512x2048.Idx → EReal) = second m c := by
  unfold second
  simp only [V, V0, hostOps0, List.flatten_singleton]
  after_results_simp <;> rfl
theorem V_table (c : Dev nD) : (V m c main_v5 : S8192x384.Idx → EReal) = table (cosines m c) (sines m c) := by
  unfold cosines sines table
  simp only [V, V0, hostOps0, List.flatten_singleton]
  after_results_simp <;> rfl

theorem innerRows_0 (b : S512.Idx → EReal) (q : Fin 512) : innerRows b (ix2 (0 : Fin 8) q) = b (ix1 q) := by
  unfold innerRows
  refine (concatenate_pair_apply_left 0 _ _ concatenates_S1x512_S7x512_S8x512_d0 (ix2 (0 : Fin 8) q) rfl (ix2 (0 : Fin 1) q) (fun b => ?_)).trans (Common.castRow b _ q)
  match b with
  | ⟨0, _⟩ => rfl
  | ⟨1, _⟩ => rfl

/-- An entry of the table lies in the piece that its lane falls in. -/
theorem table_at (cs sn : S8192x16.Idx → EReal) (r : Fin 8192) (k : ℕ) (hk : k < 12) (n : ℕ) (f : (⟨2, ![8192, n]⟩ : Shape).Idx → EReal)
    (hf : (pieces cs sn)[k] = ⟨⟨2, ![8192, n]⟩, f⟩) (o : ℕ)
    (ho : ((((pieces cs sn).take k).map (·.1)).map fun s => if h : s.rank = S8192x384.rank then s.size ((1 : Fin 2).cast h.symm) else 0).sum = o)
    (q : ℕ) (j : Fin n) (hq : o + j.val = q % 384) : table cs sn (ix2 r (Fin.ofNat 384 q)) = f (ix2 r j) := by
  refine concatenate_apply_piece (t := S8192x384) (1 : Fin 2) (pieces cs sn) _ (ix2 r (Fin.ofNat 384 q)) k hk ⟨2, ![8192, n]⟩ f hf rfl o ho (ix2 r j) (fun b hb => ?_) hq
  match b with
  | ⟨0, _⟩ => rfl
  | ⟨1, _⟩ => exact absurd rfl hb

theorem one_bits : Ideal.ofBits .f32 0x3F800000#32 = 1 := by
  simp [Ideal.ofBits, Ideal.ieee]
  rw [← EReal.coe_mul]
  norm_num
theorem ones64_at (r : Fin 8192) (j : Fin 64) : ones64 (ix2 r j) = 1 := one_bits
theorem zeros16_at (r : Fin 8192) (j : Fin 16) : zeros16 (ix2 r j) = 0 := zero_bits
theorem zeros32_at (r : Fin 8192) (j : Fin 32) : zeros32 (ix2 r j) = 0 := zero_bits
theorem zeros64_at (r : Fin 8192) (j : Fin 64) : zeros64 (ix2 r j) = 0 := zero_bits

/-- Lane `l` of the head that starts at lane `b`, turned: the first 64 lanes stay, the next two sixteens are the pair's first
    and second halves, and the rest is zero. -/
def turn (u cs sn : ℕ → EReal) (b l : ℕ) : EReal :=
  if l < 64 then u (b + l) else if l < 80 then u (b + l) * cs (l - 64) - u (b + l + 16) * sn (l - 64)
  else if l < 96 then u (b + l) * cs (l - 80) + u (b + l - 16) * sn (l - 80) else 0

/-- The numbers of row `r`, counted by naturals. -/
def at16 (f : S8192x16.Idx → EReal) (r : Fin 8192) (n : ℕ) : EReal := f (ix2 r (Fin.ofNat 16 n))

/-- The three products with the table's rows make the turned lane. -/
theorem table_turn (cs sn : S8192x16.Idx → EReal) (r : Fin 8192) (u : ℕ → EReal) (b l : ℕ) (hl : l < 128) :
    u (b + l) * table cs sn (ix2 r (Fin.ofNat 384 l)) + u (b + (l + 112) % 128) * table cs sn (ix2 r (Fin.ofNat 384 (128 + l)))
      + u (b + (l + 16) % 128) * table cs sn (ix2 r (Fin.ofNat 384 (256 + l))) = turn u (at16 cs r) (at16 sn r) b l := by
  unfold turn at16
  by_cases h0 : l < 64
  · rw [if_pos h0, table_at cs sn r 0 (by decide) 64 ones64 rfl 0 rfl l ⟨l, h0⟩ (by show 0 + l = _; omega),
      table_at cs sn r 4 (by decide) 64 zeros64 rfl 128 rfl (128 + l) ⟨l, h0⟩ (by show 128 + l = _; omega),
      table_at cs sn r 8 (by decide) 64 zeros64 rfl 256 rfl (256 + l) ⟨l, h0⟩ (by show 256 + l = _; omega), ones64_at, zeros64_at, mul_one, mul_zero, mul_zero, add_zero, add_zero]
  rw [if_neg h0]
  by_cases h1 : l < 80
  · rw [if_pos h1, table_at cs sn r 1 (by decide) 16 cs rfl 64 rfl l (Fin.ofNat 16 (l - 64)) (by show 64 + (l - 64) % 16 = _; omega),
      table_at cs sn r 5 (by decide) 16 zeros16 rfl 192 rfl (128 + l) (Fin.ofNat 16 (l - 64)) (by show 192 + (l - 64) % 16 = _; omega),
      table_at cs sn r 9 (by decide) 16 (fun i => -sn i) rfl 320 rfl (256 + l) (Fin.ofNat 16 (l - 64)) (by show 320 + (l - 64) % 16 = _; omega), zeros16_at, mul_zero, add_zero,
      mul_neg, ← sub_eq_add_neg, show b + (l + 16) % 128 = b + l + 16 by omega]
  rw [if_neg h1]
  by_cases h2 : l < 96
  · rw [if_pos h2, table_at cs sn r 2 (by decide) 16 cs rfl 80 rfl l (Fin.ofNat 16 (l - 80)) (by show 80 + (l - 80) % 16 = _; omega),
      table_at cs sn r 6 (by decide) 16 sn rfl 208 rfl (128 + l) (Fin.ofNat 16 (l - 80)) (by show 208 + (l - 80) % 16 = _; omega),
      table_at cs sn r 10 (by decide) 16 zeros16 rfl 336 rfl (256 + l) (Fin.ofNat 16 (l - 80)) (by show 336 + (l - 80) % 16 = _; omega), zeros16_at, mul_zero, add_zero,
      show b + (l + 112) % 128 = b + l - 16 by omega]
  · rw [if_neg h2, table_at cs sn r 3 (by decide) 32 zeros32 rfl 96 rfl l (Fin.ofNat 32 (l - 96)) (by show 96 + (l - 96) % 32 = _; omega),
      table_at cs sn r 7 (by decide) 32 zeros32 rfl 224 rfl (128 + l) (Fin.ofNat 32 (l - 96)) (by show 224 + (l - 96) % 32 = _; omega),
      table_at cs sn r 11 (by decide) 32 zeros32 rfl 352 rfl (256 + l) (Fin.ofNat 32 (l - 96)) (by show 352 + (l - 96) % 32 = _; omega), zeros32_at, mul_zero, mul_zero, mul_zero,
      add_zero, add_zero]

theorem index0 : ∀ t : Fin cfg0.N, win0_0.index t (0 : Fin 2) = t.val ∧ win0_0.index t (1 : Fin 2) = 0 := by decide +kernel
theorem index1 : ∀ t : Fin cfg0.N, win0_1.index t (0 : Fin 2) = 0 ∧ win0_1.index t (1 : Fin 2) = 0 := by decide +kernel
theorem index2 : ∀ t : Fin cfg0.N, win0_2.index t (0 : Fin 2) = 0 ∧ win0_2.index t (1 : Fin 2) = 0 := by decide +kernel
theorem index3 : ∀ t : Fin cfg0.N, win0_3.index t (0 : Fin 2) = 0 ∧ win0_3.index t (1 : Fin 2) = 0 := by decide +kernel
theorem index4 : ∀ t : Fin cfg0.N, win0_4.index t (0 : Fin 2) = 0 ∧ win0_4.index t (1 : Fin 2) = 0 := by decide +kernel
theorem index5 : ∀ t : Fin cfg0.N, win0_5.index t (0 : Fin 2) = t.val ∧ win0_5.index t (1 : Fin 2) = 0 := by decide +kernel
theorem index6 : ∀ t : Fin cfg0.N, win0_6.index t (0 : Fin 2) = t.val ∧ win0_6.index t (1 : Fin 2) = 0 := by decide +kernel
theorem index7 : ∀ t : Fin cfg0.N, win0_7.index t (0 : Fin 2) = t.val ∧ win0_7.index t (1 : Fin 2) = 0 := by decide +kernel
theorem index8 : ∀ t : Fin cfg0.N, win0_8.index t (0 : Fin 2) = t.val ∧ win0_8.index t (1 : Fin 2) = 0 := by decide +kernel
theorem index9 : ∀ t : Fin cfg0.N, win0_9.index t (0 : Fin 2) = t.val ∧ win0_9.index t (1 : Fin 2) = 0 := by decide +kernel

/-- The row of the arrays that a point's row is. -/
def row (t : Fin cfg0.N) (p : Fin 512) : Fin 8192 := ⟨512 * t.val + p.val, by
  have hN : t.val < 16 := lt_of_lt_of_eq t.isLt N_0
  have := p.isLt
  omega⟩

theorem iblk_stream (c : Dev nD) (t : Fin cfg0.N) (p : Fin 512) (k : Fin 1024) : (iblk m c 0 t (ix2 p k) : EReal) = stream m c (ix2 (row t p) k) := by
  obtain ⟨e0, e1⟩ := index0 t
  rw [← V_stream]
  exact congrArg (V m c main_arg0 : S8192x1024.Idx → EReal) (Common.ext2 (by show win0_0.index t (0 : Fin 2) * 512 + 1 * p.val = 512 * t.val + p.val; omega)
    (by show win0_0.index t (1 : Fin 2) * 1024 + 1 * k.val = k.val; omega))

theorem iblk_rows (c : Dev nD) (t : Fin cfg0.N) (p : Fin 8) (k : Fin 1024) : (iblk m c 1 t (ix2 p k) : EReal) = rows (norm m c) (shift m c) (scale m c) (ix2 p k) := by
  obtain ⟨e0, e1⟩ := index1 t
  rw [← V_rows]
  exact congrArg (V m c main_v10 : S8x1024.Idx → EReal) (Common.ext2 (by show win0_1.index t (0 : Fin 2) * 8 + 1 * p.val = p.val; omega)
    (by show win0_1.index t (1 : Fin 2) * 1024 + 1 * k.val = k.val; omega))

theorem iblk_weight (c : Dev nD) (t : Fin cfg0.N) (p : Fin 1024) (k : Fin 512) : (iblk m c 2 t (ix2 p k) : EReal) = weight m c (ix2 p k) := by
  obtain ⟨e0, e1⟩ := index2 t
  rw [← V_weight]
  exact congrArg (V m c main_v11 : S1024x512.Idx → EReal) (Common.ext2 (by show win0_2.index t (0 : Fin 2) * 1024 + 1 * p.val = p.val; omega)
    (by show win0_2.index t (1 : Fin 2) * 512 + 1 * k.val = k.val; omega))

theorem iblk_inner (c : Dev nD) (t : Fin cfg0.N) (p : Fin 8) (k : Fin 512) : (iblk m c 3 t (ix2 p k) : EReal) = innerRows (inner m c) (ix2 p k) := by
  obtain ⟨e0, e1⟩ := index3 t
  rw [← V_inner]
  exact congrArg (V m c main_v14 : S8x512.Idx → EReal) (Common.ext2 (by show win0_3.index t (0 : Fin 2) * 8 + 1 * p.val = p.val; omega)
    (by show win0_3.index t (1 : Fin 2) * 512 + 1 * k.val = k.val; omega))

theorem iblk_second (c : Dev nD) (t : Fin cfg0.N) (p : Fin 512) (k : Fin 2048) : (iblk m c 4 t (ix2 p k) : EReal) = second m c (ix2 p k) := by
  obtain ⟨e0, e1⟩ := index4 t
  rw [← V_second]
  exact congrArg (V m c main_v15 : S512x2048.Idx → EReal) (Common.ext2 (by show win0_4.index t (0 : Fin 2) * 512 + 1 * p.val = p.val; omega)
    (by show win0_4.index t (1 : Fin 2) * 2048 + 1 * k.val = k.val; omega))

theorem iblk_table (c : Dev nD) (t : Fin cfg0.N) (p : Fin 512) (k : Fin 384) : (iblk m c 5 t (ix2 p k) : EReal) = table (cosines m c) (sines m c) (ix2 (row t p) k) := by
  obtain ⟨e0, e1⟩ := index5 t
  rw [← V_table]
  exact congrArg (V m c main_v5 : S8192x384.Idx → EReal) (Common.ext2 (by show win0_5.index t (0 : Fin 2) * 512 + 1 * p.val = 512 * t.val + p.val; omega)
    (by show win0_5.index t (1 : Fin 2) * 384 + 1 * k.val = k.val; omega))

/-! ## The four output arrays -/

/-- An entry of the modulated rows, of their product with the first weight, of its normalized rows, and of their product
    with the second weight at lane `n`. -/
def modAt (c : Dev nD) : Fin 8192 → Fin 1024 → EReal := modOf (stream m c) (norm m c) (shift m c) (scale m c)
def firstAt (c : Dev nD) (r : Fin 8192) (q : Fin 512) : EReal := ∑ k : Fin 1024, modAt m c r k * weight m c (ix2 k q)
def normedAt (c : Dev nD) (r : Fin 8192) (q : Fin 512) : EReal :=
  firstAt m c r q * Ideal.rsqrt (Ideal.div (∑ j : Fin 512, firstAt m c r j * firstAt m c r j) len2 + eps) * inner m c (ix1 q)
def secondAt (c : Dev nD) (r : Fin 8192) (n : ℕ) : EReal := ∑ k : Fin 512, normedAt m c r k * second m c (ix2 k (Fin.ofNat 2048 n))

/-- A query's entry at lane `l` of head `h`. -/
def queryAt (c : Dev nD) (r : Fin 8192) (h l : ℕ) : EReal := turn (secondAt m c r) (at16 (cosines m c) r) (at16 (sines m c) r) (128 * h) l * e2

/-- The four results: the modulated rows, the first product, its normalized rows and the queries. -/
def hn (c : Dev nD) : S8192x1024.Idx → EReal := fun z => modAt m c (z 0) (z 1)
def qa (c : Dev nD) : S8192x512.Idx → EReal := fun z => firstAt m c (z 0) (z 1)
def qan (c : Dev nD) : S8192x512.Idx → EReal := fun z => normedAt m c (z 0) (z 1)
def queries (c : Dev nD) : S8192x2048.Idx → EReal := fun z => queryAt m c (z 0) ((z 1).val / 128) ((z 1).val % 128)

section
variable (c : Dev nD) (t : Fin cfg0.N) (p : Fin 512)

theorem mod_eq (k : Fin 1024) : (k0_pay1 (iblk m c 0 t) (iblk m c 1 t) (ix2 p k) : EReal) = modAt m c (row t p) k := by
  refine (Cert.Kernel14Ideal.ConvIn.pay1_apply _ _ p k).trans ?_
  unfold modAt modOf
  simp only [iblk_stream, iblk_rows, rows_0, rows_1, rows_2]

theorem first_eq (q : Fin 512) : (k0_pay2 (iblk m c 0 t) (iblk m c 1 t) (iblk m c 2 t) (ix2 p q) : EReal) = firstAt m c (row t p) q := by
  refine (pay2_apply _ _ _ p q).trans ?_
  unfold firstAt
  simp only [mod_eq, iblk_weight]

theorem normed_eq (q : Fin 512) : (k0_pay4 (k0_pay2 (iblk m c 0 t) (iblk m c 1 t) (iblk m c 2 t)) (k0_pay3 (iblk m c 0 t) (iblk m c 1 t) (iblk m c 2 t))
    (scaleRow (iblk m c 3 t)) (ix2 p q) : EReal) = normedAt m c (row t p) q := by
  refine (pay4_apply _ _ _ _ p q).trans ?_
  unfold normedAt
  simp only [first_eq, iblk_inner, innerRows_0]

theorem second_eq (n : ℕ) : (k0_pay5 (k0_pay2 (iblk m c 0 t) (iblk m c 1 t) (iblk m c 2 t)) (k0_pay3 (iblk m c 0 t) (iblk m c 1 t) (iblk m c 2 t))
    (scaleRow (iblk m c 3 t)) (iblk m c 4 t) (ix2 p (Fin.ofNat 2048 n)) : EReal) = secondAt m c (row t p) n := by
  refine (pay5_apply _ _ _ _ _ p _).trans ?_
  unfold secondAt
  simp only [normed_eq, iblk_second]

theorem query_eq (q : Fin 2048) : (out0_9 (iblk m c 0 t) (iblk m c 1 t) (iblk m c 2 t) (iblk m c 3 t) (iblk m c 4 t) (iblk m c 5 t) (ix2 p q) : EReal)
    = queryAt m c (row t p) (q.val / 128) (q.val % 128) := by
  refine (out_queries _ _ _ _ _ _ p q).trans ?_
  unfold mix queryAt
  simp only [second_eq, iblk_table]
  rw [table_turn _ _ _ (secondAt m c (row t p)) _ _ (Nat.mod_lt _ (by decide))]

end

theorem final_hn (c : Dev nD) : (dats m 0 c).arrAt 6 cfg0.N = hn m c := by
  refine (dats m 0 c).arrAt_eq_of_covers 6 _ (by decide +kernel) fun t hf y => ?_
  obtain ⟨e0, e1⟩ := index6 t
  rw [after0_6]
  have hx : ((cfg0.win 6).blk t).view.emb y = ix2 (row t (y (0 : Fin 2))) (y (1 : Fin 2) : Fin 1024) := Common.ext2
    (by show win0_6.index t (0 : Fin 2) * 512 + 1 * (y (0 : Fin 2)).val = 512 * t.val + (y (0 : Fin 2)).val; omega)
    (by show win0_6.index t (1 : Fin 2) * 1024 + 1 * (y (1 : Fin 2)).val = (y (1 : Fin 2)).val; omega)
  rw [out_rows, hx]
  show (k0_pay1 (iblk m c 0 t) (iblk m c 1 t) y : EReal) = modAt m c (row t (y (0 : Fin 2))) (y (1 : Fin 2))
  exact (congrArg _ (eta y)).trans (mod_eq m c t _ _)

theorem final_qa (c : Dev nD) : (dats m 0 c).arrAt 7 cfg0.N = qa m c := by
  refine (dats m 0 c).arrAt_eq_of_covers 7 _ (by decide +kernel) fun t hf y => ?_
  obtain ⟨e0, e1⟩ := index7 t
  rw [after0_7]
  have hx : ((cfg0.win 7).blk t).view.emb y = ix2 (row t (y (0 : Fin 2))) (y (1 : Fin 2) : Fin 512) := Common.ext2
    (by show win0_7.index t (0 : Fin 2) * 512 + 1 * (y (0 : Fin 2)).val = 512 * t.val + (y (0 : Fin 2)).val; omega)
    (by show win0_7.index t (1 : Fin 2) * 512 + 1 * (y (1 : Fin 2)).val = (y (1 : Fin 2)).val; omega)
  rw [out_first, hx]
  show (k0_pay2 (iblk m c 0 t) (iblk m c 1 t) (iblk m c 2 t) y : EReal) = firstAt m c (row t (y (0 : Fin 2))) (y (1 : Fin 2))
  exact (congrArg _ (eta y)).trans (first_eq m c t _ _)

theorem final_qan (c : Dev nD) : (dats m 0 c).arrAt 8 cfg0.N = qan m c := by
  refine (dats m 0 c).arrAt_eq_of_covers 8 _ (by decide +kernel) fun t hf y => ?_
  obtain ⟨e0, e1⟩ := index8 t
  rw [after0_8]
  have hx : ((cfg0.win 8).blk t).view.emb y = ix2 (row t (y (0 : Fin 2))) (y (1 : Fin 2) : Fin 512) := Common.ext2
    (by show win0_8.index t (0 : Fin 2) * 512 + 1 * (y (0 : Fin 2)).val = 512 * t.val + (y (0 : Fin 2)).val; omega)
    (by show win0_8.index t (1 : Fin 2) * 512 + 1 * (y (1 : Fin 2)).val = (y (1 : Fin 2)).val; omega)
  rw [out_normed, hx]
  show (k0_pay4 (k0_pay2 (iblk m c 0 t) (iblk m c 1 t) (iblk m c 2 t)) (k0_pay3 (iblk m c 0 t) (iblk m c 1 t) (iblk m c 2 t)) (scaleRow (iblk m c 3 t)) y : EReal) = normedAt m c (row t (y (0 : Fin 2))) (y (1 : Fin 2))
  exact (congrArg _ (eta y)).trans (normed_eq m c t _ _)

theorem final_queries (c : Dev nD) : (dats m 0 c).arrAt 9 cfg0.N = queries m c := by
  refine (dats m 0 c).arrAt_eq_of_covers 9 _ (by decide +kernel) fun t hf y => ?_
  obtain ⟨e0, e1⟩ := index9 t
  rw [after0_9]
  have hx : ((cfg0.win 9).blk t).view.emb y = ix2 (row t (y (0 : Fin 2))) (y (1 : Fin 2) : Fin 2048) := Common.ext2
    (by show win0_9.index t (0 : Fin 2) * 512 + 1 * (y (0 : Fin 2)).val = 512 * t.val + (y (0 : Fin 2)).val; omega)
    (by show win0_9.index t (1 : Fin 2) * 2048 + 1 * (y (1 : Fin 2)).val = (y (1 : Fin 2)).val; omega)
  rw [hx]
  show (out0_9 (iblk m c 0 t) (iblk m c 1 t) (iblk m c 2 t) (iblk m c 3 t) (iblk m c 4 t) (iblk m c 5 t) y : EReal) = queryAt m c (row t (y (0 : Fin 2))) ((y (1 : Fin 2)).val / 128) ((y (1 : Fin 2)).val % 128)
  exact (congrArg _ (eta y)).trans (query_eq m c t _ _)

/-! ## The results -/

theorem tail_hn (c : Dev nD) : Pipeline.afterTail₀ cfgs (dats m) 0 (V0 m) [hostOps1] c main_v17 = hn m c := by
  unfold Pipeline.afterTail₀
  simp only [hostOps1, List.flatten_singleton]
  after_results_simp
  exact (Pipeline.withArrays_arr spec0 (by decide) c (V0 m c) (fun w => (dats m 0 c).arrAt w cfg0.N) 6).trans (final_hn m c)

theorem tail_qan (c : Dev nD) : Pipeline.afterTail₀ cfgs (dats m) 0 (V0 m) [hostOps1] c main_v18 = qan m c := by
  unfold Pipeline.afterTail₀
  simp only [hostOps1, List.flatten_singleton]
  after_results_simp
  exact (Pipeline.withArrays_arr spec0 (by decide) c (V0 m c) (fun w => (dats m 0 c).arrAt w cfg0.N) 8).trans (final_qan m c)

theorem tail_queries (c : Dev nD) : Pipeline.afterTail₀ cfgs (dats m) 0 (V0 m) [hostOps1] c main_v19 = queries m c := by
  unfold Pipeline.afterTail₀
  simp only [hostOps1, List.flatten_singleton]
  after_results_simp
  exact (Pipeline.withArrays_arr spec0 (by decide) c (V0 m c) (fun w => (dats m 0 c).arrAt w cfg0.N) 9).trans (final_queries m c)

/-! ## The reference -/

open Cert.Reference15Ideal.Read

section
variable (c : Dev nD)

/-- The reference's modulated rows, first product, its normalized rows and second product, entry by entry. -/
theorem ref_mod (r : Fin 8192) (k : Fin 1024) : (val_main_v20 (F := Ideal) (stream m c) (norm m c) (shift m c) (scale m c) (ix2 r k) : EReal) = modAt m c r k :=
  Cert.Kernel14Ideal.ConvIn.ref_mod _ _ _ _ r k

theorem ref_first (z : S8192x512.Idx) :
    (val_main_v21 (F := Ideal) (stream m c) (norm m c) (shift m c) (scale m c) (weight m c) z : EReal) = firstAt m c (z (0 : Fin 2)) (z (1 : Fin 2)) := by
  rw [val_main_v21_apply]
  exact Finset.sum_congr rfl fun k _ => congrArg₂ (fun a b : EReal => a * b) ((congrArg _ (eta _)).trans (ref_mod m c _ k)) (congrArg (weight m c) (eta _))

theorem ref_normed (z : S8192x512.Idx) :
    (val_main_v34 (F := Ideal) (stream m c) (norm m c) (shift m c) (scale m c) (weight m c) (inner m c) z : EReal) = normedAt m c (z (0 : Fin 2)) (z (1 : Fin 2)) := by
  rw [val_main_v34_apply, val_main_v31_apply, val_main_v30_apply, val_main_v29_apply, val_main_v28_apply, val_main_v26_apply, val_main_v24_apply, val_main_v23_apply,
    val_main_v25_apply, val_main_cst_4_apply, val_main_v27_apply, val_main_cst_5_apply, val_main_v33_apply, val_main_v32_apply, val_main_cst_3_apply]
  simp only [val_main_v22_apply, ref_first]
  have zero : (FloatOps.ofBits (F := Ideal) .f32 0x00000000#32 : EReal) = 0 := zero_bits
  rw [zero, zero_add]
  unfold normedAt
  refine congrArg₂ (fun a b : EReal => a * b) rfl (congrArg (inner m c) (funext fun a => ?_))
  match a with
  | ⟨0, _⟩ => rfl

theorem ref_second (z : Cert.Reference15Ideal.S8192x16x128.Idx) :
    (val_main_v36 (F := Ideal) (stream m c) (norm m c) (shift m c) (scale m c) (weight m c) (inner m c) (second m c) z : EReal)
      = secondAt m c (z (0 : Fin 3)) (128 * (z (1 : Fin 3)).val + (z (2 : Fin 3)).val) := by
  have h1 : (z (1 : Fin 3)).val < 16 := (z (1 : Fin 3)).isLt
  have h2 : (z (2 : Fin 3)).val < 128 := (z (2 : Fin 3)).isLt
  rw [val_main_v36_apply, val_main_v35_apply]
  refine Finset.sum_congr rfl fun k _ => congrArg₂ (fun a b : EReal => a * b) ((ref_normed m c _).trans (congrArg (fun r => normedAt m c r k) (Fin.ext ?_)))
    (congrArg (second m c) (funext fun a => Fin.ext ?_))
  · show (((z (0 : Fin 3)).val * 16 + (z (1 : Fin 3)).val) * 128 + (z (2 : Fin 3)).val) / 2048 = (z (0 : Fin 3)).val
    omega
  · match a with
    | ⟨0, _⟩ => rfl
    | ⟨1, _⟩ =>
      show (((z (0 : Fin 3)).val * 16 + (z (1 : Fin 3)).val) * 128 + (z (2 : Fin 3)).val) % 2048 = (128 * (z (1 : Fin 3)).val + (z (2 : Fin 3)).val) % 2048
      omega

/-- The number that the reference divides the queries by. -/
theorem ref_div (z : Cert.Reference15Ideal.S8192x16x128.Idx) : (val_main_v58 (F := Ideal) z : EReal) = ((Real.sqrt 96 * Real.log 2 : ℝ) : EReal) := by
  have h96 : (FloatOps.ofBits (F := Ideal) .f32 0x42C00000#32 : EReal) = ((96 : ℝ) : EReal) := by
    simp [Ideal.ofBits_def, Ideal.ofBits, Ideal.ieee]
    rw [← EReal.coe_mul]
    norm_num
  have h2 : (FloatOps.ofBits (F := Ideal) .f32 0x40000000#32 : EReal) = ((2 : ℝ) : EReal) := by
    simp [Ideal.ofBits_def, Ideal.ofBits, Ideal.ieee]
    rw [← EReal.coe_mul]
    norm_num
  rw [val_main_v58_apply, val_main_v57_apply, val_main_v55_apply, val_main_v56_apply, val_main_cst_7_apply, val_main_cst_8_apply, h96, h2, EReal.coe_mul]
  refine congrArg₂ (fun a b : EReal => a * b) ?_ ?_
  · exact (Ideal.sqrt_coe _).trans (if_neg (by norm_num))
  · exact (Ideal.log_coe _).trans (if_neg (by norm_num))

/-- The reference's turned lanes: each lies in one of the four pieces that it writes side by side. -/
theorem ref_turn (r : Fin 8192) (h : Fin 16) (l : Fin 128) :
    (val_main_v54 (F := Ideal) (stream m c) (norm m c) (shift m c) (scale m c) (weight m c) (inner m c) (second m c) (cosines m c) (sines m c) (ix3 r h l) : EReal)
      = turn (secondAt m c r) (at16 (cosines m c) r) (at16 (sines m c) r) (128 * h.val) l.val := by
  have hl := l.isLt
  have cat := fun (k : ℕ) => concatenate_apply_piece (t := Cert.Reference15Ideal.S8192x16x128) (2 : Fin 3)
    [⟨Cert.Reference15Ideal.S8192x16x64, val_main_v37 (F := Ideal) (stream m c) (norm m c) (shift m c) (scale m c) (weight m c) (inner m c) (second m c)⟩,
      ⟨Cert.Reference15Ideal.S8192x16x16, val_main_v47 (F := Ideal) (stream m c) (norm m c) (shift m c) (scale m c) (weight m c) (inner m c) (second m c) (cosines m c) (sines m c)⟩,
      ⟨Cert.Reference15Ideal.S8192x16x16, val_main_v52 (F := Ideal) (stream m c) (norm m c) (shift m c) (scale m c) (weight m c) (inner m c) (second m c) (cosines m c) (sines m c)⟩,
      ⟨Cert.Reference15Ideal.S8192x16x32, val_main_v53 (F := Ideal)⟩]
    Cert.Reference15Ideal.Facts₀.concatenates_S8192x16x64_S8192x16x16_S8192x16x16_S8192x16x32_S8192x16x128_d2 (ix3 r h l) k
  have off : ∀ {n : ℕ} (j : Fin n) (b : Fin 3), b ≠ 2 → ((ix3 r h j : (⟨3, ![8192, 16, n]⟩ : Shape).Idx) b).val = ((ix3 r h l : (⟨3, ![8192, 16, 128]⟩ : Shape).Idx) b).val := fun j b hb =>
    match b with
    | ⟨0, _⟩ => rfl
    | ⟨1, _⟩ => rfl
    | ⟨2, _⟩ => absurd rfl hb
  unfold val_main_v54 turn at16
  by_cases h0 : l.val < 64
  · rw [if_pos h0]
    refine (cat 0 (by show 0 < 4; omega) _ _ rfl rfl 0 rfl (ix3 r h ⟨l.val, h0⟩) (off _) (by show 0 + l.val = l.val; omega)).trans ?_
    rw [val_main_v37_apply, ref_second]
    rfl
  rw [if_neg h0]
  by_cases h1 : l.val < 80
  · rw [if_pos h1]
    refine (cat 1 (by show 1 < 4; omega) _ _ rfl rfl 64 rfl (ix3 r h (Fin.ofNat 16 (l.val - 64))) (off _) (by show 64 + (l.val - 64) % 16 = l.val; omega)).trans ?_
    rw [val_main_v47_apply, val_main_v44_apply, val_main_v46_apply, val_main_v38_apply, val_main_v39_apply, val_main_v43_apply, val_main_v45_apply, val_main_v41_apply, val_main_v42_apply, ref_second, ref_second]
    refine congrArg₂ (fun a b : EReal => a - b) (congrArg₂ (fun a b : EReal => a * b) (congrArg (secondAt m c r) ?_) (congrArg (cosines m c) (eta _)))
      (congrArg₂ (fun a b : EReal => a * b) (congrArg (secondAt m c r) ?_) (congrArg (sines m c) (eta _)))
    · show 128 * h.val + (64 + (l.val - 64) % 16) = _; omega
    · show 128 * h.val + (80 + (l.val - 64) % 16) = _; omega
  rw [if_neg h1]
  by_cases h2 : l.val < 96
  · rw [if_pos h2]
    refine (cat 2 (by show 2 < 4; omega) _ _ rfl rfl 80 rfl (ix3 r h (Fin.ofNat 16 (l.val - 80))) (off _) (by show 80 + (l.val - 80) % 16 = l.val; omega)).trans ?_
    rw [val_main_v52_apply, val_main_v49_apply, val_main_v51_apply, val_main_v38_apply, val_main_v39_apply, val_main_v48_apply, val_main_v50_apply, val_main_v41_apply, val_main_v42_apply, ref_second, ref_second]
    refine congrArg₂ (fun a b : EReal => a + b) (congrArg₂ (fun a b : EReal => a * b) (congrArg (secondAt m c r) ?_) (congrArg (cosines m c) (eta _)))
      (congrArg₂ (fun a b : EReal => a * b) (congrArg (secondAt m c r) ?_) (congrArg (sines m c) (eta _)))
    · show 128 * h.val + (80 + (l.val - 80) % 16) = _; omega
    · show 128 * h.val + (64 + (l.val - 80) % 16) = _; omega
  · rw [if_neg h2]
    refine (cat 3 (by show 3 < 4; omega) _ _ rfl rfl 96 rfl (ix3 r h (Fin.ofNat 32 (l.val - 96))) (off _) (by show 96 + (l.val - 96) % 32 = l.val; omega)).trans ?_
    rw [val_main_v53_apply, val_main_cst_6_apply]
    exact zero_bits

/-- The reference's four results are the kernel's. -/
theorem ref_hn : (val_main_v20 (F := Ideal) (stream m c) (norm m c) (shift m c) (scale m c) : S8192x1024.Idx → EReal) = hn m c :=
  funext fun z => (congrArg _ (eta z)).trans (ref_mod m c (z 0) (z 1))
theorem ref_qa : (val_main_v21 (F := Ideal) (stream m c) (norm m c) (shift m c) (scale m c) (weight m c) : S8192x512.Idx → EReal) = qa m c :=
  funext (ref_first m c)
theorem ref_qan : (val_main_v34 (F := Ideal) (stream m c) (norm m c) (shift m c) (scale m c) (weight m c) (inner m c) : S8192x512.Idx → EReal) = qan m c :=
  funext (ref_normed m c)
theorem ref_q : (val_main_v60 (F := Ideal) (stream m c) (norm m c) (shift m c) (scale m c) (weight m c) (inner m c) (second m c) (cosines m c) (sines m c) : S8192x2048.Idx → EReal)
    = queries m c := funext fun z => by
  have h0 : (z (0 : Fin 2)).val < 8192 := (z (0 : Fin 2)).isLt
  have h1 : (z (1 : Fin 2)).val < 2048 := (z (1 : Fin 2)).isLt
  have hs : Real.sqrt 96 * Real.log 2 ≠ 0 := mul_ne_zero (Real.sqrt_pos.mpr (by norm_num)).ne' (Real.log_pos (by norm_num)).ne'
  have hi : idx_main_v60 z = ix3 (z (0 : Fin 2) : Fin 8192) (⟨(z (1 : Fin 2)).val / 128, by omega⟩ : Fin 16) (⟨(z (1 : Fin 2)).val % 128, by omega⟩ : Fin 128) := funext fun a => Fin.ext (by
    match a with
    | ⟨0, _⟩ => show ((z (0 : Fin 2)).val * 2048 + (z (1 : Fin 2)).val) / 2048 = (z (0 : Fin 2)).val; omega
    | ⟨1, _⟩ => show ((z (0 : Fin 2)).val * 2048 + (z (1 : Fin 2)).val) / 128 % 16 = (z (1 : Fin 2)).val / 128; omega
    | ⟨2, _⟩ => show ((z (0 : Fin 2)).val * 2048 + (z (1 : Fin 2)).val) % 128 = (z (1 : Fin 2)).val % 128; omega)
  rw [val_main_v60_apply, val_main_v59_apply, ref_div, Ideal.hostDivf_def, Ideal.div_coe hs, one_div]
  exact congrArg (fun s : EReal => s * e2) ((congrArg _ hi).trans (ref_turn m c _ _ _))

end

end Cert.Kernel15Ideal.Query

end
-- ==== Proof.FfnBwd.lean ====
module

public import proofs.«01_k».proof.Proof.FfnFwd
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read

/-! The backward call of a feed-forward layer. Each point of its grid takes 256 rows of the gradient of the layer's result,
    of the residual stream and of the two products that the forward call saved. It takes the gradient back through the
    second weight, the gated activation, the two halves of the first weight, and the modulation and the norm. The 2816
    hidden columns are worked in two chunks. Over the extended reals its four results are those of the reference, from
    any arguments. -/

@[expose] public section

set_option maxRecDepth 16384

noncomputable section

namespace Cert.Kernel16Ideal.FfnBwd

open Idealize.ShloMosaic Idealize.ShloMosaic.TcCoe Idealize.ShloMosaic.Tactic Idealize.SL.Sem
open Idealize.ShloMosaic.Pipeline (Dat)
open Cert.Kernel16Ideal Cert.Kernel16Ideal.Gen

open Cert.Common (zeros2 cut ext2 inRow eta)
open Cert.Kernel14Ideal.ConvIn (len eps one)
open Cert.Kernel4Ideal.FfnFwd (half ca cb sum_chunks one_eq)

/-! ## One row of the results -/

/-- The gradients of the two products and the hidden entry, from the hidden entry's gradient and the two products. -/
def daOf (dt a b : EReal) : EReal := dt * b * (Ideal.logistic a * (one + a * (one - Ideal.logistic a)))
def dbOf (dt a : EReal) : EReal := dt * (a * Ideal.logistic a)
def tOf (a b : EReal) : EReal := a * Ideal.logistic a * b

section
variable (o h g sc ga : Fin 1024 → EReal) (a b : Fin 2816 → EReal) (w13 : S1024x5632.Idx → EReal) (w2 : S2816x1024.Idx → EReal)

/-- The gradient of a hidden entry. -/
def dtR (j : Fin 2816) : EReal := ∑ k : Fin 1024, half * ga k * o k * w2 (ix2 j k)
/-- The gradients of the two products. -/
def daR (j : Fin 2816) : EReal := daOf (dtR o ga w2 j) (a j) (b j)
def dbR (j : Fin 2816) : EReal := dbOf (dtR o ga w2 j) (a j)
/-- The gradient of the modulated row. -/
def duR (k : Fin 1024) : EReal := ∑ j : Fin 2816, daR o ga a b w2 j * w13 (ix2 k (ca j)) + ∑ j : Fin 2816, dbR o ga a w2 j * w13 (ix2 k (cb j))
/-- The norm's factor of the row, and the gradient of the normalized row. -/
def rR : EReal := Ideal.rsqrt (Ideal.div (∑ k : Fin 1024, h k * h k) len + eps)
def dxR (k : Fin 1024) : EReal := duR o ga a b w13 w2 k * (one + sc k) * g k
/-- The gradient of the residual stream. -/
def dhR (k : Fin 1024) : EReal := o k + rR h * (dxR o g sc ga a b w13 w2 k
  - h k * rR h * Ideal.div (∑ j : Fin 1024, dxR o g sc ga a b w13 w2 j * (h j * rR h)) len)
end

/-! ## What one point of the grid computes -/

section
variable (x0 x1 : Vec Ideal S256x1024 .f32) (x2 x3 : Vec Ideal S256x2816 .bf16) (x4 : Vec Ideal S8x1024 .f32)
  (x5 : Vec Ideal S1024x5632 .bf16) (x6 : Vec Ideal S2816x1024 .bf16)

/-- The rows of a point's blocks. -/
abbrev bo (p : Fin 256) : Fin 1024 → EReal := fun k => x0 (ix2 p k)
abbrev bv (r : Fin 8) : Fin 1024 → EReal := fun k => x4 (ix2 r k)
abbrev ba (p : Fin 256) : Fin 2816 → EReal := fun j => x2 (ix2 p j)

/-- The pieces that a point reads of the two products and of the two weights. -/
abbrev p0 : Vec Ideal S256x1536 .bf16 := View.ld x2 (Rect.unit (s := S256x2816) ![0, 0] S256x1536.size inb_S256x2816_S256x1536_0_0)
abbrev p1 : Vec Ideal S256x1280 .bf16 := View.ld x2 (Rect.unit (s := S256x2816) ![0, 1536] S256x1280.size inb_S256x2816_S256x1280_0_1536)
abbrev wa0 : Vec Ideal S1024x1536 .bf16 := View.ld x5 (Rect.unit (s := S1024x5632) ![0, 0] S1024x1536.size inb_S1024x5632_S1024x1536_0_0)
abbrev wb0 : Vec Ideal S1024x1536 .bf16 := View.ld x5 (Rect.unit (s := S1024x5632) ![0, 2816] S1024x1536.size inb_S1024x5632_S1024x1536_0_2816)
abbrev wa1 : Vec Ideal S1024x1280 .bf16 := View.ld x5 (Rect.unit (s := S1024x5632) ![0, 1536] S1024x1280.size inb_S1024x5632_S1024x1280_0_1536)
abbrev wb1 : Vec Ideal S1024x1280 .bf16 := View.ld x5 (Rect.unit (s := S1024x5632) ![0, 4352] S1024x1280.size inb_S1024x5632_S1024x1280_0_4352)
abbrev w0 : Vec Ideal S1536x1024 .bf16 := View.ld x6 (Rect.unit (s := S2816x1024) ![0, 0] S1536x1024.size inb_S2816x1024_S1536x1024_0_0)
abbrev w1 : Vec Ideal S1280x1024 .bf16 := View.ld x6 (Rect.unit (s := S2816x1024) ![1536, 0] S1280x1024.size inb_S2816x1024_S1280x1024_1536_0)

theorem p0_apply (p : Fin 256) (j : Fin 1536) (i : Fin 2816) (h : i.val = 0 + j.val) : (p0 x2 (ix2 p j) : EReal) = x2 (ix2 p i) :=
  cut x2 _ p j p i (by omega) h
theorem p1_apply (p : Fin 256) (j : Fin 1280) (i : Fin 2816) (h : i.val = 1536 + j.val) : (p1 x2 (ix2 p j) : EReal) = x2 (ix2 p i) :=
  cut x2 _ p j p i (by omega) h

/-- The gated gradient of the layer's result. -/
theorem pay8_apply (p : Fin 256) (k : Fin 1024) : (k0_pay8 x0 x4 (ix2 p k) : EReal) = half * x4 (ix2 (3 : Fin 8) k) * x0 (ix2 p k) := by
  unfold k0_pay8 k0_pay6
  simp only [shapeCast_self]
  exact congrArg (fun s : EReal => s * x0 (ix2 p k)) ((Common.row _ _ p k).trans
    (congrArg (fun s : EReal => half * s) (congrArg x4 (ext2 rfl (Nat.zero_add _)))))

/-- The hidden entries' gradients in the two chunks. -/
theorem dt0 (p : Fin 256) (j : Fin 1536) (i : Fin 2816) (h : i.val = 0 + j.val) :
    (k0_pay12 x0 x4 (w0 x6) (ix2 p j) : EReal) = dtR (bo x0 p) (bv x4 3) x6 i := by
  unfold k0_pay12
  simp only [shapeCast_self]
  exact (Common.nt (k0_pay8 x0 x4) (w0 x6) p j).trans (Finset.sum_congr rfl fun k _ =>
    congrArg₂ (fun s t : EReal => s * t) (pay8_apply x0 x4 p k) (cut x6 _ j k i k h (by omega)))
theorem dt1 (p : Fin 256) (j : Fin 1280) (i : Fin 2816) (h : i.val = 1536 + j.val) :
    (k0_pay21 (k0_pay8 x0 x4) (w1 x6) (ix2 p j) : EReal) = dtR (bo x0 p) (bv x4 3) x6 i := by
  unfold k0_pay21
  simp only [shapeCast_self]
  exact (Common.nt (k0_pay8 x0 x4) (w1 x6) p j).trans (Finset.sum_congr rfl fun k _ =>
    congrArg₂ (fun s t : EReal => s * t) (pay8_apply x0 x4 p k) (cut x6 _ j k i k h (by omega)))

/-- The two products' gradients and the hidden entries, in the two chunks. -/
theorem da0 (p : Fin 256) (j : Fin 1536) (i : Fin 2816) (h : i.val = 0 + j.val) :
    (k0_pay16 x0 x4 (p0 x2) (p0 x3) (w0 x6) (ix2 p j) : EReal) = daR (bo x0 p) (bv x4 3) (ba x2 p) (ba x3 p) x6 i := by
  unfold k0_pay16 k0_pay13 k0_pay11 k0_pay10 daR
  simp only [shapeCast_self]
  rw [← dt0 x0 x4 x6 p j i h, ba, ba, ← p0_apply x2 p j i h, ← p0_apply x3 p j i h]
  rfl
theorem da1 (p : Fin 256) (j : Fin 1280) (i : Fin 2816) (h : i.val = 1536 + j.val) :
    (k0_pay25 (k0_pay8 x0 x4) (p1 x2) (p1 x3) (w1 x6) (ix2 p j) : EReal) = daR (bo x0 p) (bv x4 3) (ba x2 p) (ba x3 p) x6 i := by
  unfold k0_pay25 k0_pay22 k0_pay20 k0_pay19 daR
  simp only [shapeCast_self]
  rw [← dt1 x0 x4 x6 p j i h, ba, ba, ← p1_apply x2 p j i h, ← p1_apply x3 p j i h]
  rfl
theorem db0 (p : Fin 256) (j : Fin 1536) (i : Fin 2816) (h : i.val = 0 + j.val) :
    (k0_pay17 x0 x4 (p0 x2) (w0 x6) (ix2 p j) : EReal) = dbR (bo x0 p) (bv x4 3) (ba x2 p) x6 i := by
  unfold k0_pay17 k0_pay14 k0_pay13 k0_pay10 dbR
  simp only [shapeCast_self]
  rw [← dt0 x0 x4 x6 p j i h, ba, ← p0_apply x2 p j i h]
  rfl
theorem db1 (p : Fin 256) (j : Fin 1280) (i : Fin 2816) (h : i.val = 1536 + j.val) :
    (k0_pay26 (k0_pay8 x0 x4) (p1 x2) (w1 x6) (ix2 p j) : EReal) = dbR (bo x0 p) (bv x4 3) (ba x2 p) x6 i := by
  unfold k0_pay26 k0_pay23 k0_pay22 k0_pay19 dbR
  simp only [shapeCast_self]
  rw [← dt1 x0 x4 x6 p j i h, ba, ← p1_apply x2 p j i h]
  rfl
theorem t0 (p : Fin 256) (j : Fin 1536) (i : Fin 2816) (h : i.val = 0 + j.val) :
    (k0_pay15 (p0 x2) (p0 x3) (ix2 p j) : EReal) = tOf (ba x2 p i) (ba x3 p i) := by
  unfold k0_pay15 k0_pay14 k0_pay13 k0_pay11 k0_pay10
  simp only [shapeCast_self]
  rw [ba, ba, ← p0_apply x2 p j i h, ← p0_apply x3 p j i h]
  rfl
theorem t1 (p : Fin 256) (j : Fin 1280) (i : Fin 2816) (h : i.val = 1536 + j.val) :
    (k0_pay24 (p1 x2) (p1 x3) (ix2 p j) : EReal) = tOf (ba x2 p i) (ba x3 p i) := by
  unfold k0_pay24 k0_pay23 k0_pay22 k0_pay20 k0_pay19
  simp only [shapeCast_self]
  rw [ba, ba, ← p1_apply x2 p j i h, ← p1_apply x3 p j i h]
  rfl

/-- The modulated rows' gradient: the first chunk's part, then both parts. -/
abbrev u0 : FVec Ideal S256x1024 .f32 := k0_pay18 (k0_pay9 (F := Ideal)) (k0_pay16 x0 x4 (p0 x2) (p0 x3) (w0 x6)) (k0_pay17 x0 x4 (p0 x2) (w0 x6)) (wa0 x5) (wb0 x5)
abbrev e1 : FVec Ideal S256x1280 .bf16 := k0_pay25 (k0_pay8 x0 x4) (p1 x2) (p1 x3) (w1 x6)
abbrev f1 : FVec Ideal S256x1280 .bf16 := k0_pay26 (k0_pay8 x0 x4) (p1 x2) (w1 x6)

theorem du_apply (p : Fin 256) (k : Fin 1024) :
    (k0_pay27 (u0 x0 x2 x3 x4 x5 x6) (e1 x0 x2 x3 x4 x6) (f1 x0 x2 x4 x6) (wa1 x5) (wb1 x5) (ix2 p k) : EReal)
      = duR (bo x0 p) (bv x4 3) (ba x2 p) (ba x3 p) x5 x6 k := by
  unfold k0_pay27 u0 k0_pay18 k0_pay9 duR
  simp only [shapeCast_self]
  have z : (Ideal.ofBits .f32 0x00000000#32 : EReal) = 0 := Common.zero_bits
  refine (congrArg₂ (fun s t : EReal => s + t) (congrArg₂ (fun s t : EReal => s + t) (congrArg₂ (fun s t : EReal => s + t)
    (congrArg₂ (fun s t : EReal => s + t) z (Common.nt _ _ p k)) (Common.nt _ _ p k)) (Common.nt _ _ p k)) (Common.nt _ _ p k)).trans ?_
  rw [zero_add, add_assoc, add_add_add_comm, ← sum_chunks, ← sum_chunks]
  refine congrArg₂ (fun s t : EReal => s + t) (congrArg₂ (fun s t : EReal => s + t) ?_ ?_) (congrArg₂ (fun s t : EReal => s + t) ?_ ?_)
  · exact Finset.sum_congr rfl fun j _ => congrArg₂ (fun s t : EReal => s * t) (da0 x0 x2 x3 x4 x6 p j _ (Nat.zero_add _).symm)
      (cut x5 _ k j k _ (Nat.zero_add _).symm (Nat.zero_add _).symm)
  · exact Finset.sum_congr rfl fun j _ => congrArg₂ (fun s t : EReal => s * t) (da1 x0 x2 x3 x4 x6 p j _ rfl)
      (cut x5 _ k j k _ (Nat.zero_add _).symm rfl)
  · exact Finset.sum_congr rfl fun j _ => congrArg₂ (fun s t : EReal => s * t) (db0 x0 x2 x4 x6 p j _ (Nat.zero_add _).symm)
      (cut x5 _ k j k _ (Nat.zero_add _).symm rfl)
  · exact Finset.sum_congr rfl fun j _ => congrArg₂ (fun s t : EReal => s * t) (db1 x0 x2 x4 x6 p j _ rfl)
      (cut x5 _ k j k _ (Nat.zero_add _).symm (by show 2816 + (1536 + j.val) = _; omega))

/-- The norm's factor and the normalized rows. -/
theorem r_apply (p : Fin 256) : (k0_pay28 x1 (ix2 p (0 : Fin 1)) : EReal) = rR (bo x1 p) := by
  unfold k0_pay28
  exact congrArg (fun s : EReal => Ideal.rsqrt (Ideal.div s len + eps)) (Common.rowSum _ _ _ p)
theorem xhat_apply (p : Fin 256) (k : Fin 1024) : (k0_pay29 x1 (ix2 p k) : EReal) = bo x1 p k * rR (bo x1 p) := by
  unfold k0_pay29
  exact congrArg (fun s : EReal => bo x1 p k * s) ((Common.col _ _ p k).trans (r_apply x1 p))

/-- The normalized rows' gradient. -/
abbrev dx : FVec Ideal S256x1024 .f32 := k0_pay35 (k0_pay6 x4) (u0 x0 x2 x3 x4 x5 x6) (e1 x0 x2 x3 x4 x6) (f1 x0 x2 x4 x6) (wa1 x5) (wb1 x5)
theorem dx_apply (p : Fin 256) (k : Fin 1024) : (dx x0 x2 x3 x4 x5 x6 (ix2 p k) : EReal)
    = dxR (bo x0 p) (bv x4 0) (bv x4 2) (bv x4 3) (ba x2 p) (ba x3 p) x5 x6 k := by
  unfold dx k0_pay35 k0_pay31 k0_pay30 k0_pay6 dxR
  simp only [shapeCast_self]
  refine congrArg₂ (fun s t : EReal => s * t) (congrArg₂ (fun s t : EReal => s * t) (du_apply x0 x2 x3 x4 x5 x6 p k)
    ((Common.row _ _ p k).trans (congrArg (fun s : EReal => one + s) (congrArg x4 (ext2 rfl (Nat.zero_add _))))))
    ((Common.row _ _ p k).trans (congrArg x4 (ext2 rfl (Nat.zero_add _))))

/-- The residual stream's gradient. -/
abbrev dhB : FVec Ideal S256x1024 .f32 := k0_pay1 x0 (k0_pay28 x1) (k0_pay29 x1) (dx x0 x2 x3 x4 x5 x6)
  (k0_pay36 (k0_pay6 x4) (u0 x0 x2 x3 x4 x5 x6) (e1 x0 x2 x3 x4 x6) (f1 x0 x2 x4 x6) (wa1 x5) (wb1 x5) x1)
theorem dh_apply (p : Fin 256) (k : Fin 1024) : (dhB x0 x1 x2 x3 x4 x5 x6 (ix2 p k) : EReal)
    = dhR (bo x0 p) (bo x1 p) (bv x4 0) (bv x4 2) (bv x4 3) (ba x2 p) (ba x3 p) x5 x6 k := by
  unfold dhB k0_pay1 k0_pay36 dhR
  refine congrArg (fun s : EReal => bo x0 p k + s) (congrArg₂ (fun s t : EReal => s * t) ((Common.col _ _ p k).trans (r_apply x1 p))
    (congrArg₂ (fun s t : EReal => s - t) (dx_apply x0 x2 x3 x4 x5 x6 p k) (congrArg₂ (fun s t : EReal => s * t) (xhat_apply x1 p k)
      ((Common.col _ _ p k).trans (congrArg (fun s : EReal => Ideal.div s len) ((Common.rowSum _ _ _ p).trans
        (Finset.sum_congr rfl fun j _ => congrArg₂ (fun s t : EReal => s * t) (dx_apply x0 x2 x3 x4 x5 x6 p j) (xhat_apply x1 p j))))))))

variable (c : Dev nD) (i : grid0.Coords)
  (a1 : Memref sig .tc .vmem S256x1024 .f32) (h1 : a1.IsWhole) (a2 : Memref sig .tc .vmem S256x1024 .f32) (h2 : a2.IsWhole) (a3 : Memref sig .tc .vmem S256x2816 .bf16) (h3 : a3.IsWhole)
  (a4 : Memref sig .tc .vmem S256x2816 .bf16) (h4 : a4.IsWhole) (a5 : Memref sig .tc .vmem S8x1024 .f32) (h5 : a5.IsWhole) (a6 : Memref sig .tc .vmem S1024x5632 .bf16) (h6 : a6.IsWhole)
  (a7 : Memref sig .tc .vmem S2816x1024 .bf16) (h7 : a7.IsWhole) (a8 : Memref sig .tc .vmem S256x1024 .f32) (h8 : a8.IsWhole) (a9 : Memref sig .tc .vmem S256x2816 .bf16) (h9 : a9.IsWhole)
  (a10 : Memref sig .tc .vmem S256x2816 .bf16) (h10 : a10.IsWhole) (a11 : Memref sig .tc .vmem S256x2816 .bf16) (h11 : a11.IsWhole) (a12 : Memref sig .tc .vmem S256x1024 .bf16) (h12 : a12.IsWhole)
  (a13 : Memref sig .tc .vmem S8x1024 .f32) (h13 : a13.IsWhole)

/-- The block of the residual stream's gradient that a first point writes. -/
theorem out_dh_A (hc : cond0_0 i) : out0_A_7 c i a1 h1 a2 h2 a3 h3 a4 h4 a5 h5 a6 h6 a7 h7 a8 h8 a9 h9 a10 h10 a11 h11 a12 h12 a13 h13 hc x0 x1 x2 x3 x4 x5 x6 = dhB x0 x1 x2 x3 x4 x5 x6 := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_unit_zero zeros2]
  simp only [View.readAt_eq_ld, h1.read_unread, h2.read_unread, h3.read_unread, h4.read_unread, h5.read_unread, h6.read_unread, h7.read_unread,
    View.ld_unit_zero (S := S256x1024) zeros2, View.ld_unit_zero (S := S8x1024) zeros2]

/-- The block of the residual stream's gradient that a later point writes. -/
theorem out_dh_B (hc : ¬cond0_0 i) (x12 : Vec Ideal S8x1024 .f32) : out0_B_7 c i a1 h1 a2 h2 a3 h3 a4 h4 a5 h5 a6 h6 a7 h7 a8 h8 a9 h9 a10 h10 a11 h11 a12 h12 a13 h13 hc x0 x1 x2 x3 x4 x5 x6 x12 = dhB x0 x1 x2 x3 x4 x5 x6 := by
  unfold out0_B_7
  rw [View.read_writes_eq_canon _ _ _ (cover0_B_7 c i a1 h1 a2 h2 a3 h3 a4 h4 a5 h5 a6 h6 a7 h7 a8 h8 a9 h9 a10 h10 a11 h11 a12 h12 a13 h13 hc x0 x1 x2 x3 x4 x5 x6 x12)]
  unfold kernelRun0_B
  dsimp only
  sl_unfold_words
  rw [View.canon_unit_zero zeros2]
  simp only [View.readAt_eq_ld, h1.read_unread, h2.read_unread, h3.read_unread, h4.read_unread, h5.read_unread, h6.read_unread, h7.read_unread,
    View.ld_unit_zero (S := S256x1024) zeros2, View.ld_unit_zero (S := S8x1024) zeros2]

/-- The blocks of the first product's gradient, in their two chunks. -/
theorem out_da_A (hc : cond0_0 i) (p : Fin 256) (j : Fin 2816) :
    (out0_A_8 c i a1 h1 a2 h2 a3 h3 a4 h4 a5 h5 a6 h6 a7 h7 a8 h8 a9 h9 a10 h10 a11 h11 a12 h12 a13 h13 hc x0 x1 x2 x3 x4 x5 x6 (ix2 p j) : EReal) = daR (bo x0 p) (bv x4 3) (ba x2 p) (ba x3 p) x6 j := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 hc x0 x1 x2 x3 x4 x5 x6)]
  refine View.canon_eq_of_allAt _ _ _ (cover0_A_8 c i a1 h1 a2 h2 a3 h3 a4 h4 a5 h5 a6 h6 a7 h7 a8 h8 a9 h9 a10 h10 a11 h11 a12 h12 a13 h13 hc x0 x1 x2 x3 x4 x5 x6 (ix2 p j)) ?_
  unfold kernelRun0_A
  dsimp only
  sl_unfold_words
  simp only [View.readAt_eq_ld, h1.read_unread, h2.read_unread, h3.read_unread, h4.read_unread, h5.read_unread, h6.read_unread, h7.read_unread,
    View.ld_unit_zero (S := S256x1024) zeros2, View.ld_unit_zero (S := S8x1024) zeros2]
  refine View.allAt_cons_unit _ _ _ _ _ (fun x hx => ?_) (View.allAt_cons_unit _ _ _ _ _ (fun x hx => ?_) (View.allAt_nil _ _))
  · exact (congrArg _ (inRow x p (hx 0))).trans (da1 x0 x2 x3 x4 x6 p (x 1) j (hx 1))
  · exact (congrArg _ (inRow x p (hx 0))).trans (da0 x0 x2 x3 x4 x6 p (x 1) j (hx 1))

theorem out_da_B (hc : ¬cond0_0 i) (x12 : Vec Ideal S8x1024 .f32) (p : Fin 256) (j : Fin 2816) :
    (out0_B_8 c i a1 h1 a2 h2 a3 h3 a4 h4 a5 h5 a6 h6 a7 h7 a8 h8 a9 h9 a10 h10 a11 h11 a12 h12 a13 h13 hc x0 x1 x2 x3 x4 x5 x6 x12 (ix2 p j) : EReal) = daR (bo x0 p) (bv x4 3) (ba x2 p) (ba x3 p) x6 j := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 hc x0 x1 x2 x3 x4 x5 x6 x12)]
  refine View.canon_eq_of_allAt _ _ _ (cover0_B_8 c i a1 h1 a2 h2 a3 h3 a4 h4 a5 h5 a6 h6 a7 h7 a8 h8 a9 h9 a10 h10 a11 h11 a12 h12 a13 h13 hc x0 x1 x2 x3 x4 x5 x6 x12 (ix2 p j)) ?_
  unfold kernelRun0_B
  dsimp only
  sl_unfold_words
  simp only [View.readAt_eq_ld, h1.read_unread, h2.read_unread, h3.read_unread, h4.read_unread, h5.read_unread, h6.read_unread, h7.read_unread,
    View.ld_unit_zero (S := S256x1024) zeros2, View.ld_unit_zero (S := S8x1024) zeros2]
  refine View.allAt_cons_unit _ _ _ _ _ (fun x hx => ?_) (View.allAt_cons_unit _ _ _ _ _ (fun x hx => ?_) (View.allAt_nil _ _))
  · exact (congrArg _ (inRow x p (hx 0))).trans (da1 x0 x2 x3 x4 x6 p (x 1) j (hx 1))
  · exact (congrArg _ (inRow x p (hx 0))).trans (da0 x0 x2 x3 x4 x6 p (x 1) j (hx 1))

/-- The blocks of the second product's gradient, in their two chunks. -/
theorem out_db_A (hc : cond0_0 i) (p : Fin 256) (j : Fin 2816) :
    (out0_A_9 c i a1 h1 a2 h2 a3 h3 a4 h4 a5 h5 a6 h6 a7 h7 a8 h8 a9 h9 a10 h10 a11 h11 a12 h12 a13 h13 hc x0 x1 x2 x3 x4 x5 x6 (ix2 p j) : EReal) = dbR (bo x0 p) (bv x4 3) (ba x2 p) x6 j := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc x0 x1 x2 x3 x4 x5 x6)]
  refine View.canon_eq_of_allAt _ _ _ (cover0_A_9 c i a1 h1 a2 h2 a3 h3 a4 h4 a5 h5 a6 h6 a7 h7 a8 h8 a9 h9 a10 h10 a11 h11 a12 h12 a13 h13 hc x0 x1 x2 x3 x4 x5 x6 (ix2 p j)) ?_
  unfold kernelRun0_A
  dsimp only
  sl_unfold_words
  simp only [View.readAt_eq_ld, h1.read_unread, h2.read_unread, h3.read_unread, h4.read_unread, h5.read_unread, h6.read_unread, h7.read_unread,
    View.ld_unit_zero (S := S256x1024) zeros2, View.ld_unit_zero (S := S8x1024) zeros2]
  refine View.allAt_cons_unit _ _ _ _ _ (fun x hx => ?_) (View.allAt_cons_unit _ _ _ _ _ (fun x hx => ?_) (View.allAt_nil _ _))
  · exact (congrArg _ (inRow x p (hx 0))).trans (db1 x0 x2 x4 x6 p (x 1) j (hx 1))
  · exact (congrArg _ (inRow x p (hx 0))).trans (db0 x0 x2 x4 x6 p (x 1) j (hx 1))

theorem out_db_B (hc : ¬cond0_0 i) (x12 : Vec Ideal S8x1024 .f32) (p : Fin 256) (j : Fin 2816) :
    (out0_B_9 c i a1 h1 a2 h2 a3 h3 a4 h4 a5 h5 a6 h6 a7 h7 a8 h8 a9 h9 a10 h10 a11 h11 a12 h12 a13 h13 hc x0 x1 x2 x3 x4 x5 x6 x12 (ix2 p j) : EReal) = dbR (bo x0 p) (bv x4 3) (ba x2 p) x6 j := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc x0 x1 x2 x3 x4 x5 x6 x12)]
  refine View.canon_eq_of_allAt _ _ _ (cover0_B_9 c i a1 h1 a2 h2 a3 h3 a4 h4 a5 h5 a6 h6 a7 h7 a8 h8 a9 h9 a10 h10 a11 h11 a12 h12 a13 h13 hc x0 x1 x2 x3 x4 x5 x6 x12 (ix2 p j)) ?_
  unfold kernelRun0_B
  dsimp only
  sl_unfold_words
  simp only [View.readAt_eq_ld, h1.read_unread, h2.read_unread, h3.read_unread, h4.read_unread, h5.read_unread, h6.read_unread, h7.read_unread,
    View.ld_unit_zero (S := S256x1024) zeros2, View.ld_unit_zero (S := S8x1024) zeros2]
  refine View.allAt_cons_unit _ _ _ _ _ (fun x hx => ?_) (View.allAt_cons_unit _ _ _ _ _ (fun x hx => ?_) (View.allAt_nil _ _))
  · exact (congrArg _ (inRow x p (hx 0))).trans (db1 x0 x2 x4 x6 p (x 1) j (hx 1))
  · exact (congrArg _ (inRow x p (hx 0))).trans (db0 x0 x2 x4 x6 p (x 1) j (hx 1))

/-- The blocks of the hidden entries, in their two chunks. -/
theorem out_hid_A (hc : cond0_0 i) (p : Fin 256) (j : Fin 2816) :
    (out0_A_10 c i a1 h1 a2 h2 a3 h3 a4 h4 a5 h5 a6 h6 a7 h7 a8 h8 a9 h9 a10 h10 a11 h11 a12 h12 a13 h13 hc x0 x1 x2 x3 x4 x5 x6 (ix2 p j) : EReal) = tOf (ba x2 p j) (ba x3 p j) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc x0 x1 x2 x3 x4 x5 x6)]
  refine View.canon_eq_of_allAt _ _ _ (cover0_A_10 c i a1 h1 a2 h2 a3 h3 a4 h4 a5 h5 a6 h6 a7 h7 a8 h8 a9 h9 a10 h10 a11 h11 a12 h12 a13 h13 hc x0 x1 x2 x3 x4 x5 x6 (ix2 p j)) ?_
  unfold kernelRun0_A
  dsimp only
  sl_unfold_words
  simp only [View.readAt_eq_ld, h1.read_unread, h2.read_unread, h3.read_unread, h4.read_unread, h5.read_unread, h6.read_unread, h7.read_unread,
    View.ld_unit_zero (S := S256x1024) zeros2, View.ld_unit_zero (S := S8x1024) zeros2]
  refine View.allAt_cons_unit _ _ _ _ _ (fun x hx => ?_) (View.allAt_cons_unit _ _ _ _ _ (fun x hx => ?_) (View.allAt_nil _ _))
  · exact (congrArg _ (inRow x p (hx 0))).trans (t1 x2 x3 p (x 1) j (hx 1))
  · exact (congrArg _ (inRow x p (hx 0))).trans (t0 x2 x3 p (x 1) j (hx 1))

theorem out_hid_B (hc : ¬cond0_0 i) (x12 : Vec Ideal S8x1024 .f32) (p : Fin 256) (j : Fin 2816) :
    (out0_B_10 c i a1 h1 a2 h2 a3 h3 a4 h4 a5 h5 a6 h6 a7 h7 a8 h8 a9 h9 a10 h10 a11 h11 a12 h12 a13 h13 hc x0 x1 x2 x3 x4 x5 x6 x12 (ix2 p j) : EReal) = tOf (ba x2 p j) (ba x3 p j) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc x0 x1 x2 x3 x4 x5 x6 x12)]
  refine View.canon_eq_of_allAt _ _ _ (cover0_B_10 c i a1 h1 a2 h2 a3 h3 a4 h4 a5 h5 a6 h6 a7 h7 a8 h8 a9 h9 a10 h10 a11 h11 a12 h12 a13 h13 hc x0 x1 x2 x3 x4 x5 x6 x12 (ix2 p j)) ?_
  unfold kernelRun0_B
  dsimp only
  sl_unfold_words
  simp only [View.readAt_eq_ld, h1.read_unread, h2.read_unread, h3.read_unread, h4.read_unread, h5.read_unread, h6.read_unread, h7.read_unread,
    View.ld_unit_zero (S := S256x1024) zeros2, View.ld_unit_zero (S := S8x1024) zeros2]
  refine View.allAt_cons_unit _ _ _ _ _ (fun x hx => ?_) (View.allAt_cons_unit _ _ _ _ _ (fun x hx => ?_) (View.allAt_nil _ _))
  · exact (congrArg _ (inRow x p (hx 0))).trans (t1 x2 x3 p (x 1) j (hx 1))
  · exact (congrArg _ (inRow x p (hx 0))).trans (t0 x2 x3 p (x 1) j (hx 1))

end

/-! ## The arrays that the call reads -/

variable (m : (ℓ : Loc nD τ sig) → Buf (Elt Ideal) ℓ)

/-- The gradient of the layer's result, the residual stream, the two products, the four vectors and the two weights. -/
abbrev dho (c : Dev nD) : S8192x1024.Idx → EReal := m (c.tc.loc main_arg0)
abbrev hs (c : Dev nD) : S8192x1024.Idx → EReal := m (c.tc.loc main_arg1)
abbrev av (c : Dev nD) : S8192x2816.Idx → EReal := m (c.tc.loc main_arg2)
abbrev bw (c : Dev nD) : S8192x2816.Idx → EReal := m (c.tc.loc main_arg3)
abbrev norm (c : Dev nD) : S1024.Idx → EReal := m (c.tc.loc main_arg4)
abbrev shift (c : Dev nD) : S1024.Idx → EReal := m (c.tc.loc main_arg5)
abbrev scale (c : Dev nD) : S1024.Idx → EReal := m (c.tc.loc main_arg6)
abbrev gate (c : Dev nD) : S1024.Idx → EReal := m (c.tc.loc main_arg7)
abbrev first (c : Dev nD) : S1024x5632.Idx → EReal := m (c.tc.loc main_arg8)
abbrev second (c : Dev nD) : S2816x1024.Idx → EReal := m (c.tc.loc main_arg9)

theorem V_dho (c : Dev nD) : (V m c main_arg0 : S8192x1024.Idx → EReal) = dho m c := by
  simp only [V, V0, hostOps0, List.flatten_singleton]
  after_results_simp <;> rfl
theorem V_hs (c : Dev nD) : (V m c main_arg1 : S8192x1024.Idx → EReal) = hs m c := by
  simp only [V, V0, hostOps0, List.flatten_singleton]
  after_results_simp <;> rfl
theorem V_av (c : Dev nD) : (V m c main_v0 : S8192x2816.Idx → EReal) = av m c := by
  simp only [V, V0, hostOps0, List.flatten_singleton]
  after_results_simp <;> rfl
theorem V_bw (c : Dev nD) : (V m c main_v1 : S8192x2816.Idx → EReal) = bw m c := by
  simp only [V, V0, hostOps0, List.flatten_singleton]
  after_results_simp <;> rfl
theorem V_rows (c : Dev nD) : (V m c main_v7 : S8x1024.Idx → EReal) = Cert.Kernel4Ideal.FfnFwd.rows (norm m c) (shift m c) (scale m c) (gate m c) := by
  simp only [V, V0, hostOps0, List.flatten_singleton]
  after_results_simp <;> rfl
theorem V_first (c : Dev nD) : (V m c main_v8 : S1024x5632.Idx → EReal) = first m c := by
  simp only [V, V0, hostOps0, List.flatten_singleton]
  after_results_simp <;> rfl
theorem V_second (c : Dev nD) : (V m c main_v9 : S2816x1024.Idx → EReal) = second m c := by
  simp only [V, V0, hostOps0, List.flatten_singleton]
  after_results_simp <;> rfl

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)
theorem index3 : ∀ t : Fin cfg0.N, win0_3.index t (0 : Fin 2) = t.val ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = 0 ∧ win0_6.index t (1 : Fin 2) = 0 := (by decide +kernel : ∀ t : Fin grid0.N, _)
theorem index7 : ∀ t : Fin cfg0.N, win0_7.index t (0 : Fin 2) = t.val ∧ win0_7.index t (1 : Fin 2) = 0 := (by decide +kernel : ∀ t : Fin grid0.N, _)
theorem index8 : ∀ t : Fin cfg0.N, win0_8.index t (0 : Fin 2) = t.val ∧ win0_8.index t (1 : Fin 2) = 0 := (by decide +kernel : ∀ t : Fin grid0.N, _)
theorem index9 : ∀ t : Fin cfg0.N, win0_9.index t (0 : Fin 2) = t.val ∧ win0_9.index t (1 : Fin 2) = 0 := (by decide +kernel : ∀ t : Fin grid0.N, _)
theorem index10 : ∀ t : Fin cfg0.N, win0_10.index t (0 : Fin 2) = t.val ∧ win0_10.index t (1 : Fin 2) = 0 := (by decide +kernel : ∀ t : Fin grid0.N, _)

/-- The row of the arrays that a point's row is. -/
def row (t : Fin cfg0.N) (p : Fin 256) : Fin 8192 := ⟨256 * t.val + p.val, by
  have hN : t.val < 32 := lt_of_lt_of_eq t.isLt N_0
  have := p.isLt
  omega⟩

theorem iblk_dho (c : Dev nD) (t : Fin cfg0.N) (p : Fin 256) (k : Fin 1024) : (iblk m c 0 t (ix2 p k) : EReal) = dho m c (ix2 (row t p) k) := by
  obtain ⟨e0, e1⟩ := index0 t
  rw [← V_dho]
  exact congrArg (V m c main_arg0 : S8192x1024.Idx → EReal) (ext2 (by show win0_0.index t (0 : Fin 2) * 256 + 1 * p.val = 256 * t.val + p.val; omega)
    (by show win0_0.index t (1 : Fin 2) * 1024 + 1 * k.val = k.val; omega))
theorem iblk_hs (c : Dev nD) (t : Fin cfg0.N) (p : Fin 256) (k : Fin 1024) : (iblk m c 1 t (ix2 p k) : EReal) = hs m c (ix2 (row t p) k) := by
  obtain ⟨e0, e1⟩ := index1 t
  rw [← V_hs]
  exact congrArg (V m c main_arg1 : S8192x1024.Idx → EReal) (ext2 (by show win0_1.index t (0 : Fin 2) * 256 + 1 * p.val = 256 * t.val + p.val; omega)
    (by show win0_1.index t (1 : Fin 2) * 1024 + 1 * k.val = k.val; omega))
theorem iblk_av (c : Dev nD) (t : Fin cfg0.N) (p : Fin 256) (k : Fin 2816) : (iblk m c 2 t (ix2 p k) : EReal) = av m c (ix2 (row t p) k) := by
  obtain ⟨e0, e1⟩ := index2 t
  rw [← V_av]
  exact congrArg (V m c main_v0 : S8192x2816.Idx → EReal) (ext2 (by show win0_2.index t (0 : Fin 2) * 256 + 1 * p.val = 256 * t.val + p.val; omega)
    (by show win0_2.index t (1 : Fin 2) * 2816 + 1 * k.val = k.val; omega))
theorem iblk_bw (c : Dev nD) (t : Fin cfg0.N) (p : Fin 256) (k : Fin 2816) : (iblk m c 3 t (ix2 p k) : EReal) = bw m c (ix2 (row t p) k) := by
  obtain ⟨e0, e1⟩ := index3 t
  rw [← V_bw]
  exact congrArg (V m c main_v1 : S8192x2816.Idx → EReal) (ext2 (by show win0_3.index t (0 : Fin 2) * 256 + 1 * p.val = 256 * t.val + p.val; omega)
    (by show win0_3.index t (1 : Fin 2) * 2816 + 1 * k.val = k.val; omega))
theorem iblk_rows (c : Dev nD) (t : Fin cfg0.N) (p : Fin 8) (k : Fin 1024) : (iblk m c 4 t (ix2 p k) : EReal) = Cert.Kernel4Ideal.FfnFwd.rows (norm m c) (shift m c) (scale m c) (gate m c) (ix2 (p) k) := by
  obtain ⟨e0, e1⟩ := index4 t
  rw [← V_rows]
  exact congrArg (V m c main_v7 : S8x1024.Idx → EReal) (ext2 (by show win0_4.index t (0 : Fin 2) * 8 + 1 * p.val = p.val; omega)
    (by show win0_4.index t (1 : Fin 2) * 1024 + 1 * k.val = k.val; omega))
theorem iblk_first (c : Dev nD) (t : Fin cfg0.N) (p : Fin 1024) (k : Fin 5632) : (iblk m c 5 t (ix2 p k) : EReal) = first m c (ix2 (p) k) := by
  obtain ⟨e0, e1⟩ := index5 t
  rw [← V_first]
  exact congrArg (V m c main_v8 : S1024x5632.Idx → EReal) (ext2 (by show win0_5.index t (0 : Fin 2) * 1024 + 1 * p.val = p.val; omega)
    (by show win0_5.index t (1 : Fin 2) * 5632 + 1 * k.val = k.val; omega))
theorem iblk_second (c : Dev nD) (t : Fin cfg0.N) (p : Fin 2816) (k : Fin 1024) : (iblk m c 6 t (ix2 p k) : EReal) = second m c (ix2 (p) k) := by
  obtain ⟨e0, e1⟩ := index6 t
  rw [← V_second]
  exact congrArg (V m c main_v9 : S2816x1024.Idx → EReal) (ext2 (by show win0_6.index t (0 : Fin 2) * 2816 + 1 * p.val = p.val; omega)
    (by show win0_6.index t (1 : Fin 2) * 1024 + 1 * k.val = k.val; omega))

/-! ## What the call leaves in the arrays -/

section
variable (c : Dev nD) (r : Fin 8192)

/-- The rows of the arrays and the vectors, as functions of the column. -/
abbrev ro : Fin 1024 → EReal := fun k => dho m c (ix2 r k)
abbrev rh : Fin 1024 → EReal := fun k => hs m c (ix2 r k)
abbrev ra : Fin 2816 → EReal := fun j => av m c (ix2 r j)
abbrev rb : Fin 2816 → EReal := fun j => bw m c (ix2 r j)
abbrev vg : Fin 1024 → EReal := fun k => norm m c (ix1 k)
abbrev vs : Fin 1024 → EReal := fun k => scale m c (ix1 k)
abbrev va : Fin 1024 → EReal := fun k => gate m c (ix1 k)

/-- The four results, entry by entry. -/
def dhAt (k : Fin 1024) : EReal := dhR (ro m c r) (rh m c r) (vg m c) (vs m c) (va m c) (ra m c r) (rb m c r) (first m c) (second m c) k
def daAt (j : Fin 2816) : EReal := daR (ro m c r) (va m c) (ra m c r) (rb m c r) (second m c) j
def dbAt (j : Fin 2816) : EReal := dbR (ro m c r) (va m c) (ra m c r) (second m c) j
def hidAt (j : Fin 2816) : EReal := tOf (ra m c r j) (rb m c r j)
end
def dh (c : Dev nD) : S8192x1024.Idx → EReal := fun z => dhAt m c (z 0) (z 1)
def da (c : Dev nD) : S8192x2816.Idx → EReal := fun z => daAt m c (z 0) (z 1)
def db (c : Dev nD) : S8192x2816.Idx → EReal := fun z => dbAt m c (z 0) (z 1)
def hid (c : Dev nD) : S8192x2816.Idx → EReal := fun z => hidAt m c (z 0) (z 1)

/-- The rows of a point's blocks are rows of the arrays. -/
theorem bo_eq (c : Dev nD) (t : Fin cfg0.N) (p : Fin 256) : bo (iblk m c 0 t) p = ro m c (row t p) := funext fun k => iblk_dho m c t p k
theorem bh_eq (c : Dev nD) (t : Fin cfg0.N) (p : Fin 256) : bo (iblk m c 1 t) p = rh m c (row t p) := funext fun k => iblk_hs m c t p k
theorem ba_eq (c : Dev nD) (t : Fin cfg0.N) (p : Fin 256) : ba (iblk m c 2 t) p = ra m c (row t p) := funext fun j => iblk_av m c t p j
theorem bb_eq (c : Dev nD) (t : Fin cfg0.N) (p : Fin 256) : ba (iblk m c 3 t) p = rb m c (row t p) := funext fun j => iblk_bw m c t p j
theorem g_eq (c : Dev nD) (t : Fin cfg0.N) : bv (iblk m c 4 t) 0 = vg m c := funext fun k => (iblk_rows m c t 0 k).trans (Cert.Kernel4Ideal.FfnFwd.rows_0 _ _ _ _ k)
theorem s_eq (c : Dev nD) (t : Fin cfg0.N) : bv (iblk m c 4 t) 2 = vs m c := funext fun k => (iblk_rows m c t 2 k).trans (Cert.Kernel4Ideal.FfnFwd.rows_2 _ _ _ _ k)
theorem a_eq (c : Dev nD) (t : Fin cfg0.N) : bv (iblk m c 4 t) 3 = va m c := funext fun k => (iblk_rows m c t 3 k).trans (Cert.Kernel4Ideal.FfnFwd.rows_3 _ _ _ _ k)
theorem w13_eq (c : Dev nD) (t : Fin cfg0.N) : (iblk m c 5 t : S1024x5632.Idx → EReal) = first m c :=
  funext fun z => (congrArg _ (eta z)).trans ((iblk_first m c t (z 0) (z 1)).trans (congrArg _ (eta z).symm))
theorem w2_eq (c : Dev nD) (t : Fin cfg0.N) : (iblk m c 6 t : S2816x1024.Idx → EReal) = second m c :=
  funext fun z => (congrArg _ (eta z)).trans ((iblk_second m c t (z 0) (z 1)).trans (congrArg _ (eta z).symm))

theorem at_dh (c : Dev nD) (t : Fin cfg0.N) (p : Fin 256) (k : Fin 1024) :
    ((outsAt0 m c t.val t.isLt).1 (ix2 p k) : EReal) = dhAt m c (row t p) k := by
  refine Eq.trans (b := dhR (bo (iblk m c 0 t) p) (bo (iblk m c 1 t) p) (bv (iblk m c 4 t) 0) (bv (iblk m c 4 t) 2) (bv (iblk m c 4 t) 3) (ba (iblk m c 2 t) p) (ba (iblk m c 3 t) p) (iblk m c 5 t) (iblk m c 6 t) k) (by
    by_cases h0 : t.val % 32 = 0
    · rw [outsAt0_A m c t h0]
      dsimp only
      exact (congrFun (out_dh_A (iblk m c 0 t) (iblk m c 1 t) (iblk m c 2 t) (iblk m c 3 t) (iblk m c 4 t) (iblk m c 5 t) (iblk m c 6 t) c _ _ _ _ _ _ _ _ _ _ _ _ _ _ _ _ _ _ _ _ _ _ _ _ _ _ _ _) _).trans (dh_apply _ _ _ _ _ _ _ _ _)
    · rw [outsAt0_B m c t h0]
      dsimp only
      exact (congrFun (out_dh_B (iblk m c 0 t) (iblk m c 1 t) (iblk m c 2 t) (iblk m c 3 t) (iblk m c 4 t) (iblk m c 5 t) (iblk m c 6 t) c _ _ _ _ _ _ _ _ _ _ _ _ _ _ _ _ _ _ _ _ _ _ _ _ _ _ _ _ _) _).trans (dh_apply _ _ _ _ _ _ _ _ _)) ?_
  simp only [bo_eq, bh_eq, ba_eq, bb_eq, g_eq, s_eq, a_eq, w13_eq, w2_eq, dhAt]

theorem final_dh (c : Dev nD) : (dats m 0 c).arrAt 7 cfg0.N = dh m c := by
  refine (dats m 0 c).arrAt_eq_of_covers 7 _ (by decide +kernel) fun t hf y => ?_
  obtain ⟨e0, e1⟩ := index7 t
  rw [after0_7]
  have hx : ((cfg0.win 7).blk t).view.emb y = ix2 (row t (y (0 : Fin 2))) (y (1 : Fin 2) : Fin 1024) := ext2
    (by show win0_7.index t (0 : Fin 2) * 256 + 1 * (y (0 : Fin 2)).val = 256 * t.val + (y (0 : Fin 2)).val; omega)
    (by show win0_7.index t (1 : Fin 2) * 1024 + 1 * (y (1 : Fin 2)).val = (y (1 : Fin 2)).val; omega)
  show ((outsAt0 m c t.val t.isLt).1 y : EReal) = dh m c (((cfg0.win 7).blk t).view.emb y)
  rw [hx]
  show ((outsAt0 m c t.val t.isLt).1 y : EReal) = dhAt m c (row t (y (0 : Fin 2))) (y (1 : Fin 2))
  exact (congrArg _ (eta y)).trans (at_dh m c t (y (0 : Fin 2)) (y (1 : Fin 2)))

theorem at_da (c : Dev nD) (t : Fin cfg0.N) (p : Fin 256) (k : Fin 2816) :
    ((outsAt0 m c t.val t.isLt).2.1 (ix2 p k) : EReal) = daAt m c (row t p) k := by
  refine Eq.trans (b := daR (bo (iblk m c 0 t) p) (bv (iblk m c 4 t) 3) (ba (iblk m c 2 t) p) (ba (iblk m c 3 t) p) (iblk m c 6 t) k) (by
    by_cases h0 : t.val % 32 = 0
    · rw [outsAt0_A m c t h0]
      dsimp only
      exact out_da_A (iblk m c 0 t) (iblk m c 1 t) (iblk m c 2 t) (iblk m c 3 t) (iblk m c 4 t) (iblk m c 5 t) (iblk m c 6 t) c _ _ _ _ _ _ _ _ _ _ _ _ _ _ _ _ _ _ _ _ _ _ _ _ _ _ _ _ p k
    · rw [outsAt0_B m c t h0]
      dsimp only
      exact out_da_B (iblk m c 0 t) (iblk m c 1 t) (iblk m c 2 t) (iblk m c 3 t) (iblk m c 4 t) (iblk m c 5 t) (iblk m c 6 t) c _ _ _ _ _ _ _ _ _ _ _ _ _ _ _ _ _ _ _ _ _ _ _ _ _ _ _ _ _ p k) ?_
  simp only [bo_eq, ba_eq, bb_eq, a_eq, w2_eq, daAt]

theorem final_da (c : Dev nD) : (dats m 0 c).arrAt 8 cfg0.N = da m c := by
  refine (dats m 0 c).arrAt_eq_of_covers 8 _ (by decide +kernel) fun t hf y => ?_
  obtain ⟨e0, e1⟩ := index8 t
  rw [after0_8]
  have hx : ((cfg0.win 8).blk t).view.emb y = ix2 (row t (y (0 : Fin 2))) (y (1 : Fin 2) : Fin 2816) := ext2
    (by show win0_8.index t (0 : Fin 2) * 256 + 1 * (y (0 : Fin 2)).val = 256 * t.val + (y (0 : Fin 2)).val; omega)
    (by show win0_8.index t (1 : Fin 2) * 2816 + 1 * (y (1 : Fin 2)).val = (y (1 : Fin 2)).val; omega)
  show ((outsAt0 m c t.val t.isLt).2.1 y : EReal) = da m c (((cfg0.win 8).blk t).view.emb y)
  rw [hx]
  show ((outsAt0 m c t.val t.isLt).2.1 y : EReal) = daAt m c (row t (y (0 : Fin 2))) (y (1 : Fin 2))
  exact (congrArg _ (eta y)).trans (at_da m c t (y (0 : Fin 2)) (y (1 : Fin 2)))

theorem at_db (c : Dev nD) (t : Fin cfg0.N) (p : Fin 256) (k : Fin 2816) :
    ((outsAt0 m c t.val t.isLt).2.2.1 (ix2 p k) : EReal) = dbAt m c (row t p) k := by
  refine Eq.trans (b := dbR (bo (iblk m c 0 t) p) (bv (iblk m c 4 t) 3) (ba (iblk m c 2 t) p) (iblk m c 6 t) k) (by
    by_cases h0 : t.val % 32 = 0
    · rw [outsAt0_A m c t h0]
      dsimp only
      exact out_db_A (iblk m c 0 t) (iblk m c 1 t) (iblk m c 2 t) (iblk m c 3 t) (iblk m c 4 t) (iblk m c 5 t) (iblk m c 6 t) c _ _ _ _ _ _ _ _ _ _ _ _ _ _ _ _ _ _ _ _ _ _ _ _ _ _ _ _ p k
    · rw [outsAt0_B m c t h0]
      dsimp only
      exact out_db_B (iblk m c 0 t) (iblk m c 1 t) (iblk m c 2 t) (iblk m c 3 t) (iblk m c 4 t) (iblk m c 5 t) (iblk m c 6 t) c _ _ _ _ _ _ _ _ _ _ _ _ _ _ _ _ _ _ _ _ _ _ _ _ _ _ _ _ _ p k) ?_
  simp only [bo_eq, ba_eq, a_eq, w2_eq, dbAt]

theorem final_db (c : Dev nD) : (dats m 0 c).arrAt 9 cfg0.N = db m c := by
  refine (dats m 0 c).arrAt_eq_of_covers 9 _ (by decide +kernel) fun t hf y => ?_
  obtain ⟨e0, e1⟩ := index9 t
  rw [after0_9]
  have hx : ((cfg0.win 9).blk t).view.emb y = ix2 (row t (y (0 : Fin 2))) (y (1 : Fin 2) : Fin 2816) := ext2
    (by show win0_9.index t (0 : Fin 2) * 256 + 1 * (y (0 : Fin 2)).val = 256 * t.val + (y (0 : Fin 2)).val; omega)
    (by show win0_9.index t (1 : Fin 2) * 2816 + 1 * (y (1 : Fin 2)).val = (y (1 : Fin 2)).val; omega)
  show ((outsAt0 m c t.val t.isLt).2.2.1 y : EReal) = db m c (((cfg0.win 9).blk t).view.emb y)
  rw [hx]
  show ((outsAt0 m c t.val t.isLt).2.2.1 y : EReal) = dbAt m c (row t (y (0 : Fin 2))) (y (1 : Fin 2))
  exact (congrArg _ (eta y)).trans (at_db m c t (y (0 : Fin 2)) (y (1 : Fin 2)))

theorem at_hid (c : Dev nD) (t : Fin cfg0.N) (p : Fin 256) (k : Fin 2816) :
    ((outsAt0 m c t.val t.isLt).2.2.2.1 (ix2 p k) : EReal) = hidAt m c (row t p) k := by
  refine Eq.trans (b := tOf (ba (iblk m c 2 t) p k) (ba (iblk m c 3 t) p k)) (by
    by_cases h0 : t.val % 32 = 0
    · rw [outsAt0_A m c t h0]
      dsimp only
      exact out_hid_A (iblk m c 0 t) (iblk m c 1 t) (iblk m c 2 t) (iblk m c 3 t) (iblk m c 4 t) (iblk m c 5 t) (iblk m c 6 t) c _ _ _ _ _ _ _ _ _ _ _ _ _ _ _ _ _ _ _ _ _ _ _ _ _ _ _ _ p k
    · rw [outsAt0_B m c t h0]
      dsimp only
      exact out_hid_B (iblk m c 0 t) (iblk m c 1 t) (iblk m c 2 t) (iblk m c 3 t) (iblk m c 4 t) (iblk m c 5 t) (iblk m c 6 t) c _ _ _ _ _ _ _ _ _ _ _ _ _ _ _ _ _ _ _ _ _ _ _ _ _ _ _ _ _ p k) ?_
  exact congrArg₂ tOf (iblk_av m c t p k) (iblk_bw m c t p k)

theorem final_hid (c : Dev nD) : (dats m 0 c).arrAt 10 cfg0.N = hid m c := by
  refine (dats m 0 c).arrAt_eq_of_covers 10 _ (by decide +kernel) fun t hf y => ?_
  obtain ⟨e0, e1⟩ := index10 t
  rw [after0_10]
  have hx : ((cfg0.win 10).blk t).view.emb y = ix2 (row t (y (0 : Fin 2))) (y (1 : Fin 2) : Fin 2816) := ext2
    (by show win0_10.index t (0 : Fin 2) * 256 + 1 * (y (0 : Fin 2)).val = 256 * t.val + (y (0 : Fin 2)).val; omega)
    (by show win0_10.index t (1 : Fin 2) * 2816 + 1 * (y (1 : Fin 2)).val = (y (1 : Fin 2)).val; omega)
  show ((outsAt0 m c t.val t.isLt).2.2.2.1 y : EReal) = hid m c (((cfg0.win 10).blk t).view.emb y)
  rw [hx]
  show ((outsAt0 m c t.val t.isLt).2.2.2.1 y : EReal) = hidAt m c (row t (y (0 : Fin 2))) (y (1 : Fin 2))
  exact (congrArg _ (eta y)).trans (at_hid m c t (y (0 : Fin 2)) (y (1 : Fin 2)))

/-! ## The results -/

theorem tail_da (c : Dev nD) : Pipeline.afterTail₀ cfgs (dats m) 0 (V0 m) [hostOps1] c main_v11 = da m c := by
  unfold Pipeline.afterTail₀
  simp only [hostOps1, List.flatten_singleton]
  after_results_simp
  exact (Pipeline.withArrays_arr spec0 (by decide) c (V0 m c) (fun w => (dats m 0 c).arrAt w cfg0.N) 8).trans (final_da m c)

theorem tail_db (c : Dev nD) : Pipeline.afterTail₀ cfgs (dats m) 0 (V0 m) [hostOps1] c main_v12 = db m c := by
  unfold Pipeline.afterTail₀
  simp only [hostOps1, List.flatten_singleton]
  after_results_simp
  exact (Pipeline.withArrays_arr spec0 (by decide) c (V0 m c) (fun w => (dats m 0 c).arrAt w cfg0.N) 9).trans (final_db m c)

theorem tail_hid (c : Dev nD) : Pipeline.afterTail₀ cfgs (dats m) 0 (V0 m) [hostOps1] c main_v13 = hid m c := by
  unfold Pipeline.afterTail₀
  simp only [hostOps1, List.flatten_singleton]
  after_results_simp
  exact (Pipeline.withArrays_arr spec0 (by decide) c (V0 m c) (fun w => (dats m 0 c).arrAt w cfg0.N) 10).trans (final_hid m c)

/-! ## The reference -/

open Cert.Reference16Ideal.Read

theorem ix1e {z : S1024.Idx} {k : Fin 1024} (h : (z 0).val = k.val) : z = ix1 k := funext fun a => Fin.ext (by match a with | ⟨0, _⟩ => exact h)

/-- The reference's gradients of the hidden entries. -/
theorem ref_dt (c : Dev nD) (r : Fin 8192) (j : Fin 2816) :
    (val_main_v6 (F := Ideal) (dho m c) (gate m c) (second m c) (ix2 r j) : EReal) = dtR (ro m c r) (va m c) (second m c) j := by
  rw [val_main_v6_apply]
  refine Finset.sum_congr rfl fun k _ => congrArg₂ (fun s t : EReal => s * t) ?_ ?_
  · rw [val_main_v4_apply, val_main_v3_apply, val_main_v2_apply, val_main_v1_apply, val_main_v0_apply, val_main_cst_apply]
    exact congrArg₂ (fun s t : EReal => half * s * t) (congrArg (gate m c) (ix1e rfl)) (congrArg (dho m c) (ext2 rfl rfl))
  · rw [val_main_v5_apply]
    exact congrArg (second m c) (ext2 rfl rfl)

/-- The reference's logistic is written with a negation, an exponential, a sum and a quotient. -/
theorem ref_sig (c : Dev nD) (r : Fin 8192) (j : Fin 2816) : (val_main_v12 (F := Ideal) (av m c) (ix2 r j) : EReal) = Ideal.logistic (ra m c r j) := by
  rw [val_main_v12_apply, val_main_v11_apply, val_main_v10_apply, val_main_v9_apply, val_main_v8_apply, val_main_v7_apply, val_main_cst_0_apply,
    val_main_cst_1_apply]
  show Ideal.div one (one + Ideal.exp (-ra m c r j)) = _
  rw [one_eq]
  rfl

/-- The reference's gradients of the two products and its hidden entries. -/
theorem ref_daAt (c : Dev nD) (r : Fin 8192) (j : Fin 2816) :
    (val_main_v20 (F := Ideal) (dho m c) (av m c) (bw m c) (gate m c) (second m c) (ix2 r j) : EReal) = daAt m c r j := by
  rw [val_main_v20_apply, val_main_v13_apply, val_main_v19_apply, val_main_v18_apply, val_main_v17_apply, val_main_v16_apply, val_main_v15_apply,
    val_main_v14_apply, val_main_cst_2_apply, val_main_cst_3_apply, ref_sig, ref_dt]
  rfl
theorem ref_dbAt (c : Dev nD) (r : Fin 8192) (j : Fin 2816) :
    (val_main_v22 (F := Ideal) (dho m c) (av m c) (gate m c) (second m c) (ix2 r j) : EReal) = dbAt m c r j := by
  rw [val_main_v22_apply, val_main_v21_apply, ref_sig, ref_dt]
  rfl
theorem ref_hidAt (c : Dev nD) (r : Fin 8192) (j : Fin 2816) : (val_main_v62 (F := Ideal) (av m c) (bw m c) (ix2 r j) : EReal) = hidAt m c r j := by
  rw [val_main_v62_apply, val_main_v61_apply, ref_sig]
  rfl

/-- The reference's gradient of the modulated rows. -/
theorem ref_du (c : Dev nD) (r : Fin 8192) (k : Fin 1024) :
    (val_main_v29 (F := Ideal) (dho m c) (av m c) (bw m c) (gate m c) (first m c) (second m c) (ix2 r k) : EReal)
      = duR (ro m c r) (va m c) (ra m c r) (rb m c r) (first m c) (second m c) k := by
  rw [val_main_v29_apply, val_main_v25_apply, val_main_v28_apply]
  refine congrArg₂ (fun s t : EReal => s + t) (Finset.sum_congr rfl fun j _ => ?_) (Finset.sum_congr rfl fun j _ => ?_)
  · have e : lidx_main_v25 (ix2 r k) j = ix2 r (j : Fin 2816) := ext2 rfl rfl
    have f : idx_main_v23 (idx_main_v24 (ridx_main_v25 (ix2 r k) j)) = ix2 k (ca j) :=
      ext2 (by first | rfl | exact Nat.zero_add _) (by first | rfl | exact Nat.zero_add _)
    rw [e, ref_daAt, val_main_v24_apply, val_main_v23_apply, f]
    rfl
  · have e : lidx_main_v28 (ix2 r k) j = ix2 r (j : Fin 2816) := ext2 rfl rfl
    have f : idx_main_v26 (idx_main_v27 (ridx_main_v28 (ix2 r k) j)) = ix2 k (cb j) := ext2 (by first | rfl | exact Nat.zero_add _) rfl
    rw [e, ref_dbAt, val_main_v27_apply, val_main_v26_apply, f]
    rfl

/-- The reference's factor of the norm. -/
theorem ref_r (c : Dev nD) (r : Fin 8192) (z : (⟨2, ![8192, 1]⟩ : Shape).Idx) (h : (z 0).val = r.val) : (val_main_v37 (F := Ideal) (hs m c) z : EReal) = rR (rh m c r) := by
  rw [val_main_v37_apply, val_main_v36_apply, val_main_v34_apply, val_main_v35_apply, val_main_v33_apply, val_main_v32_apply, val_main_v31_apply,
    val_main_cst_4_apply, val_main_cst_5_apply, val_main_cst_6_apply, show (FloatOps.ofBits (F := Ideal) .f32 0x00000000#32 : EReal) = 0 from Common.zero_bits,
    zero_add]
  refine congrArg (fun s : EReal => Ideal.rsqrt (Ideal.div s len + eps)) (Finset.sum_congr rfl fun j _ => ?_)
  rw [val_main_v30_apply]
  exact congrArg (fun s : EReal => s * s) (congrArg (hs m c) (ext2 h rfl))

/-- The reference's gradient of the normalized rows. -/
theorem ref_dx (c : Dev nD) (r : Fin 8192) (k : Fin 1024) :
    (val_main_v45 (F := Ideal) (dho m c) (av m c) (bw m c) (norm m c) (scale m c) (gate m c) (first m c) (second m c) (ix2 r k) : EReal)
      = dxR (ro m c r) (vg m c) (vs m c) (va m c) (ra m c r) (rb m c r) (first m c) (second m c) k := by
  rw [val_main_v45_apply, val_main_v42_apply, val_main_v41_apply, val_main_v40_apply, val_main_v39_apply, val_main_v38_apply, val_main_v44_apply,
    val_main_v43_apply, val_main_cst_7_apply, ref_du]
  exact congrArg₂ (fun s t : EReal => duR (ro m c r) (va m c) (ra m c r) (rb m c r) (first m c) (second m c) k * (one + s) * t)
    (congrArg (scale m c) (ix1e rfl)) (congrArg (norm m c) (ix1e rfl))

/-- The reference's gradient of the residual stream. -/
theorem ref_dhAt (c : Dev nD) (r : Fin 8192) (k : Fin 1024) :
    (val_main_v60 (F := Ideal) (dho m c) (hs m c) (av m c) (bw m c) (norm m c) (scale m c) (gate m c) (first m c) (second m c) (ix2 r k) : EReal)
      = dhAt m c r k := by
  rw [val_main_v60_apply, val_main_v59_apply, val_main_v58_apply, val_main_v57_apply, val_main_v56_apply, val_main_v55_apply, val_main_v54_apply,
    val_main_v53_apply, val_main_v52_apply, val_main_v51_apply, val_main_v47_apply, val_main_v46_apply, val_main_cst_8_apply, val_main_cst_9_apply,
    show (FloatOps.ofBits (F := Ideal) .f32 0x00000000#32 : EReal) = 0 from Common.zero_bits, zero_add, ref_dx]
  refine congrArg (fun s : EReal => dho m c (ix2 r k) + s) (congrArg₂ (fun s t : EReal => s * t) (ref_r m c r _ rfl)
    (congrArg (fun s : EReal => dxR (ro m c r) (vg m c) (vs m c) (va m c) (ra m c r) (rb m c r) (first m c) (second m c) k - s)
      (congrArg₂ (fun s t : EReal => hs m c (ix2 r k) * s * Ideal.div t len) (ref_r m c r _ rfl) (Finset.sum_congr rfl fun j _ => ?_))))
  have e : idx_main_v51 (idx_main_v52 (idx_main_v55 (ix2 r k))) j = ix2 r (j : Fin 1024) := ext2 rfl rfl
  rw [val_main_v50_apply, val_main_v49_apply, val_main_v48_apply, e, ref_dx]
  exact congrArg (fun s : EReal => dxR (ro m c r) (vg m c) (vs m c) (va m c) (ra m c r) (rb m c r) (first m c) (second m c) j * (hs m c (ix2 r j) * s))
    (ref_r m c r _ rfl)

/-- The reference's four results are the kernel's. -/
theorem ref_dh (c : Dev nD) : (val_main_v60 (F := Ideal) (dho m c) (hs m c) (av m c) (bw m c) (norm m c) (scale m c) (gate m c) (first m c) (second m c)
    : S8192x1024.Idx → EReal) = dh m c := funext fun z => (congrArg _ (eta z)).trans (ref_dhAt m c (z 0) (z 1))
theorem ref_da (c : Dev nD) : (val_main_v20 (F := Ideal) (dho m c) (av m c) (bw m c) (gate m c) (second m c) : S8192x2816.Idx → EReal) = da m c :=
  funext fun z => (congrArg _ (eta z)).trans (ref_daAt m c (z 0) (z 1))
theorem ref_db (c : Dev nD) : (val_main_v22 (F := Ideal) (dho m c) (av m c) (gate m c) (second m c) : S8192x2816.Idx → EReal) = db m c :=
  funext fun z => (congrArg _ (eta z)).trans (ref_dbAt m c (z 0) (z 1))
theorem ref_hid (c : Dev nD) : (val_main_v62 (F := Ideal) (av m c) (bw m c) : S8192x2816.Idx → EReal) = hid m c :=
  funext fun z => (congrArg _ (eta z)).trans (ref_hidAt m c (z 0) (z 1))

end Cert.Kernel16Ideal.FfnBwd

end
-- ==== Proof.lean ====
module

public import proofs.«01_k».proof.Defs
public import proofs.«01_k».proof.Proof.Gen.Kernel
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.ReferenceIdeal.Run
public import proofs.«01_k».proof.Proof.Frames
public import proofs.«01_k».proof.Proof.Finite
public import proofs.«01_k».proof.Proof.HostVal
public import proofs.«01_k».proof.Proof.Wgrad
public import proofs.«01_k».proof.Proof.Gen.Kernel3
public import proofs.«01_k».proof.Proof.Gen.Kernel3Ideal
public import proofs.«01_k».proof.Proof.Gen.Reference3Ideal
public import proofs.«01_k».proof.Proof.WgradGated
public import proofs.«01_k».proof.Proof.FiniteGated
public import proofs.«01_k».proof.Proof.Gen.Kernel4
public import proofs.«01_k».proof.Proof.Gen.Kernel4Ideal
public import proofs.«01_k».proof.Proof.Gen.Reference4Ideal
public import proofs.«01_k».proof.Proof.FfnFwd
public import proofs.«01_k».proof.Proof.Gen.Kernel5
public import proofs.«01_k».proof.Proof.Gen.Kernel5Ideal
public import proofs.«01_k».proof.Proof.Gen.Reference5Ideal
public import proofs.«01_k».proof.Proof.WgradPw1
public import proofs.«01_k».proof.Proof.Gen.Kernel6
public import proofs.«01_k».proof.Proof.Gen.Kernel6Ideal
public import proofs.«01_k».proof.Proof.Gen.Reference6Ideal
public import proofs.«01_k».proof.Proof.WgradWqb
public import proofs.«01_k».proof.Proof.Gen.Kernel7
public import proofs.«01_k».proof.Proof.Gen.Kernel7Ideal
public import proofs.«01_k».proof.Proof.Gen.Reference7Ideal
public import proofs.«01_k».proof.Proof.WgradWqa
public import proofs.«01_k».proof.Proof.Gen.Kernel8
public import proofs.«01_k».proof.Proof.Gen.Kernel8Ideal
public import proofs.«01_k».proof.Proof.Gen.Reference8Ideal
public import proofs.«01_k».proof.Proof.WgradWkva
public import proofs.«01_k».proof.Proof.Gen.Kernel9
public import proofs.«01_k».proof.Proof.Gen.Kernel9Ideal
public import proofs.«01_k».proof.Proof.Gen.Reference9Ideal
public import proofs.«01_k».proof.Proof.WgradWkvb
public import proofs.«01_k».proof.Proof.Gen.Kernel10
public import proofs.«01_k».proof.Proof.Gen.Kernel10Ideal
public import proofs.«01_k».proof.Proof.Gen.Reference10Ideal
public import proofs.«01_k».proof.Proof.AttnOutFwd
public import proofs.«01_k».proof.Proof.Gen.Kernel11
public import proofs.«01_k».proof.Proof.Gen.Kernel11Ideal
public import proofs.«01_k».proof.Proof.Gen.Reference11Ideal
public import proofs.«01_k».proof.Proof.WgradWo
public import proofs.«01_k».proof.Proof.FiniteWo
public import proofs.«01_k».proof.Proof.Gen.Kernel12
public import proofs.«01_k».proof.Proof.Gen.Kernel12Ideal
public import proofs.«01_k».proof.Proof.Gen.Reference12Ideal
public import proofs.«01_k».proof.Proof.WgradPw2
public import proofs.«01_k».proof.Proof.FinitePw2
public import proofs.«01_k».proof.Proof.Gen.Kernel13
public import proofs.«01_k».proof.Proof.Gen.Kernel13Ideal
public import proofs.«01_k».proof.Proof.Gen.Reference13Ideal
public import proofs.«01_k».proof.Proof.AttnOutBwd
public import proofs.«01_k».proof.Proof.Gen.Kernel14
public import proofs.«01_k».proof.Proof.Gen.Kernel14Ideal
public import proofs.«01_k».proof.Proof.Gen.Reference14Ideal
public import proofs.«01_k».proof.Proof.ConvInFwd
public import proofs.«01_k».proof.Proof.Gen.Kernel15
public import proofs.«01_k».proof.Proof.Gen.Kernel15Ideal
public import proofs.«01_k».proof.Proof.Gen.Reference15Ideal
public import proofs.«01_k».proof.Proof.QFwd
public import proofs.«01_k».proof.Proof.Gen.Kernel16
public import proofs.«01_k».proof.Proof.Gen.Kernel16Ideal
public import proofs.«01_k».proof.Proof.Gen.Reference16Ideal
public import proofs.«01_k».proof.Proof.FfnBwd
public import Idealize.ShloMosaic.Lib.Quiescent

/-! The certificate, of sixteen calls. Of each: the frames of its programs, and that the idealized kernel is the kernel (of
    the attention's, with its two literals named). Of the attention's backward pass: the kernel and the reference end
    with the same three gradients whenever their four arguments are arrays of real numbers. Of the gradient of a
    feed-forward layer's first weight: they end with the same gradient. Of the gradients of its second weight and gate:
    they end with the same two gradients whenever their four arguments are arrays of real numbers. Of the forward pass of a
    feed-forward layer: they end with the same four arrays. Of the gradients of the weights of the attention's projections of queries and of
    keys and values, and of the convolution's first weight: they end with the same gradient. Of the gradients of the
    attention's output weight and gate, and of the convolution's second weight and gate: they end with the same two
    gradients whenever their four arguments are arrays of real numbers. Of the attention's gated output, added to the
    stream: they end with the same array. Of its backward pass: they end with the same three arrays. Of the convolution's
    normalised input and first product: they end with the same two arrays. Of the attention's normalised input, latent rows
    and queries: they end with the same four arrays. Of a feed-forward layer's backward pass: they end with the same four
    arrays. -/

@[expose] public section

noncomputable section

namespace Cert.Proof

open Idealize.ShloMosaic Idealize.SL.Sem

/-- The idealized kernel runs from any memory, leaves its arguments and no semaphore counted. -/
theorem kernel_frame : quiescent_KernelIdeal := fun m g _ =>
  (θ_run _ _ _).mono (fun r h => ⟨fun c => (h.1 c).2.2.2, h.2⟩) (KernelIdeal.AttnBwd.run_out m g)

/-- The idealized reference runs from any memory, leaves its arguments and no semaphore counted. -/
theorem reference_frame : quiescent_ReferenceIdeal := fun m g _ =>
  (θ_run ReferenceIdeal.defs _ _).mono (fun r h => ⟨fun c => (h c).2.2.2,
    sem_eq_zero_of_no_sems (by decide) r.2⟩) (ReferenceIdeal.Value.run (F := Ideal) m g)

/-- The kernel and the reference at the extended reals: on arrays of real numbers the three gradients they leave,
    of the queries, of the keys and of the values, are equal. -/
theorem same_gradients : algebraic_KernelIdeal_ReferenceIdeal_pre_finite := by
  intro m g m' g' hp ha
  refine ⟨fun c => KernelIdeal.AttnBwd.outQ m c, fun c => KernelIdeal.AttnBwd.outK m c,
    fun c => KernelIdeal.AttnBwd.outV m c, ?_, ?_⟩
  · exact (θ_run _ _ _).mono (fun r h c => h.1 c) (KernelIdeal.AttnBwd.run_out m g)
  · refine (θ_run _ _ _).mono (fun r h c => ?_) (ReferenceIdeal.Value.run (F := Ideal) m' g')
    obtain ⟨r0, r1, r2, r3⟩ := Finite.real_of_pre _ _ _ _ (hp c)
    obtain ⟨a0, a1, a2, a3⟩ := ha c
    obtain ⟨hq, hk, hv, hargs⟩ := h c
    refine ⟨hq.trans ?_, hk.trans ?_, hv.trans ?_, hargs⟩
    · rw [ReferenceIdeal.Read.val_main_v71_eq]
      exact (congr (congr (congr (congrArg _ a0) a1) a2) a3).trans (KernelIdeal.AttnBwd.outQ_ref m c r0 r1 r2 r3).symm
    · rw [ReferenceIdeal.Read.val_main_v70_eq]
      exact (congr (congr (congr (congrArg _ a0) a1) a2) a3).trans (KernelIdeal.AttnBwd.outK_ref m c r0 r1 r2 r3).symm
    · rw [ReferenceIdeal.Read.val_main_v69_eq]
      exact (congr (congr (congrArg _ a0) a1) a3).trans (KernelIdeal.AttnBwd.outV_ref m c r0 r1 r2 r3).symm

/-- The idealized reference of the weight's gradient runs from any memory, leaves its arguments and no semaphore
    counted. -/
theorem reference2_frame : quiescent_Reference2Ideal := fun m g _ =>
  (θ_run Reference2Ideal.defs _ _).mono (fun r h => ⟨fun c => (h c).2,
    sem_eq_zero_of_no_sems (by decide) r.2⟩) (Reference2Ideal.Value.run (F := Ideal) m g)

/-- The call that makes a feed-forward weight's gradient and its reference end with the same gradient, from any two
    arrays of extended reals. -/
theorem same_weight_gradient : algebraic_Kernel2Ideal_Reference2Ideal := by
  intro m g m' g' _ ha
  refine ⟨fun c => Kernel2Ideal.Wgrad.grad m c, ?_, ?_⟩
  · refine (θ_run _ _ _).mono (fun r h c => ?_) (θ_run_and (Kernel2Ideal.Gen.run_main m g) (Kernel2Ideal.Gen.frame m g))
    obtain ⟨hp, ha, _⟩ := h
    exact ⟨((hp c).2 Kernel2Ideal.main_v3 (by decide)).trans (Kernel2Ideal.Wgrad.tail_eq m c), ha c⟩
  · refine (θ_run _ _ _).mono (fun r h c => ?_) (Reference2Ideal.Value.run (F := Ideal) m' g')
    obtain ⟨a0, a1⟩ := ha c
    obtain ⟨hv, hargs⟩ := h c
    refine ⟨hv.trans ?_, hargs⟩
    rw [Reference2Ideal.Read.val_main_v3_eq]
    exact (congr (congrArg _ a0) a1).trans (Kernel2Ideal.Wgrad.ref_eq m c)

/-- The idealized reference of the gated weight's gradients runs from any memory, leaves its arguments and no semaphore
    counted. -/
theorem reference3_frame : quiescent_Reference3Ideal := fun m g _ =>
  (θ_run Reference3Ideal.defs _ _).mono (fun r h => ⟨fun c => (h c).2.2,
    sem_eq_zero_of_no_sems (by decide) r.2⟩) (Reference3Ideal.Value.run (F := Ideal) m g)

/-- The call that makes the gradients of a feed-forward layer's second weight and gate, and its reference, end with the
    same two gradients, from any four arrays of real numbers. -/
theorem same_gated_gradients : algebraic_Kernel3Ideal_Reference3Ideal_pre_finite3 := by
  intro m g m' g' hp ha
  refine ⟨fun c => Kernel3Ideal.Wgrad.dw m c, fun c => Kernel3Ideal.Wgrad.dg m c, ?_, ?_⟩
  · refine (θ_run _ _ _).mono (fun r h c => ?_) (θ_run_and (Kernel3Ideal.Gen.run_main m g) (Kernel3Ideal.Gen.frame m g))
    obtain ⟨hp, ha, _⟩ := h
    exact ⟨((hp c).2 Kernel3Ideal.main_v9 (by decide)).trans (Kernel3Ideal.Wgrad.tail_weight m c),
      ((hp c).2 Kernel3Ideal.main_v14 (by decide)).trans (Kernel3Ideal.Wgrad.tail_gate m c), ha c⟩
  · refine (θ_run _ _ _).mono (fun r h c => ?_) (Reference3Ideal.Value.run (F := Ideal) m' g')
    have real := FiniteGated.real_args m c (hp c)
    obtain ⟨a0, a1, a2, a3⟩ := ha c
    obtain ⟨hw, hg, hargs⟩ := h c
    refine ⟨hw.trans ?_, hg.trans ?_, hargs⟩
    · rw [Reference3Ideal.Read.val_main_v12_eq]
      exact (congr (congr (congrArg _ a0) a1) a3).trans (Kernel3Ideal.Wgrad.ref_weight m c real)
    · rw [Reference3Ideal.Read.val_main_v15_eq]
      exact (congr (congr (congrArg _ a0) a1) a2).trans (Kernel3Ideal.Wgrad.ref_gate m c real)

/-- The idealized reference of the feed-forward layer's forward pass runs from any memory, leaves its arguments and no
    semaphore counted. -/
theorem reference4_frame : quiescent_Reference4Ideal := fun m g _ =>
  (θ_run Reference4Ideal.defs _ _).mono (fun r h => ⟨fun c => (h c).2.2.2.2,
    sem_eq_zero_of_no_sems (by decide) r.2⟩) (Reference4Ideal.Value.run (F := Ideal) m g)

/-- The call that makes a feed-forward layer's forward pass and its reference end with the same four arrays (the new
    residual stream, the modulated rows and the two halves of the first product), from any arguments. -/
theorem same_ffn_forward : algebraic_Kernel4Ideal_Reference4Ideal := by
  intro m g m' g' _ ha
  refine ⟨fun c => Kernel4Ideal.FfnFwd.ho m c, fun c => Kernel4Ideal.FfnFwd.hn m c, fun c => Kernel4Ideal.FfnFwd.ga m c,
    fun c => Kernel4Ideal.FfnFwd.gb m c, ?_, ?_⟩
  · refine (θ_run _ _ _).mono (fun r h c => ?_) (θ_run_and (Kernel4Ideal.Gen.run_main m g) (Kernel4Ideal.Gen.frame m g))
    obtain ⟨hp, ha, _⟩ := h
    exact ⟨((hp c).1 4).trans (Kernel4Ideal.FfnFwd.final_ho m c),
      ((hp c).2 Kernel4Ideal.main_v9 (by decide)).trans (Kernel4Ideal.FfnFwd.tail_hn m c),
      ((hp c).2 Kernel4Ideal.main_v10 (by decide)).trans (Kernel4Ideal.FfnFwd.tail_ga m c),
      ((hp c).2 Kernel4Ideal.main_v11 (by decide)).trans (Kernel4Ideal.FfnFwd.tail_gb m c), ha c⟩
  · refine (θ_run _ _ _).mono (fun r h c => ?_) (Reference4Ideal.Value.run (F := Ideal) m' g')
    obtain ⟨a0, a1, a2, a3, a4, a5, a6⟩ := ha c
    obtain ⟨ho, hn, hga, hgb, hargs⟩ := h c
    refine ⟨ho.trans ?_, hn.trans ?_, hga.trans ?_, hgb.trans ?_, hargs⟩
    · rw [Reference4Ideal.Read.val_main_v32_eq]
      exact (congr (congr (congr (congr (congr (congr (congrArg _ a0) a1) a2) a3) a4) a5) a6).trans (Kernel4Ideal.FfnFwd.ref_ho m c)
    · rw [Reference4Ideal.Read.val_main_v20_eq]
      exact (congr (congr (congr (congrArg _ a0) a1) a2) a3).trans (Kernel4Ideal.FfnFwd.ref_hn m c)
    · rw [Reference4Ideal.Read.val_main_v22_eq]
      exact (congr (congr (congr (congr (congrArg _ a0) a1) a2) a3) a5).trans (Kernel4Ideal.FfnFwd.ref_ga m c)
    · rw [Reference4Ideal.Read.val_main_v23_eq]
      exact (congr (congr (congr (congr (congrArg _ a0) a1) a2) a3) a5).trans (Kernel4Ideal.FfnFwd.ref_gb m c)

/-- The idealized reference of the gradient of the convolution's first pointwise weight runs from any memory, leaves its arguments and no semaphore counted. -/
theorem reference5_frame : quiescent_Reference5Ideal := fun m g _ =>
  (θ_run Reference5Ideal.defs _ _).mono (fun r h => ⟨fun c => (h c).2,
    sem_eq_zero_of_no_sems (by decide) r.2⟩) (Reference5Ideal.Value.run (F := Ideal) m g)

/-- The call that makes the gradient of the convolution's first pointwise weight and its reference end with the same gradient, from any two
    arrays of extended reals. -/
theorem same_pw1_gradient : algebraic_Kernel5Ideal_Reference5Ideal := by
  intro m g m' g' _ ha
  refine ⟨fun c => Kernel5Ideal.Wgrad.grad m c, ?_, ?_⟩
  · refine (θ_run _ _ _).mono (fun r h c => ?_) (θ_run_and (Kernel5Ideal.Gen.run_main m g) (Kernel5Ideal.Gen.frame m g))
    obtain ⟨hp, ha, _⟩ := h
    exact ⟨((hp c).2 Kernel5Ideal.main_v3 (by decide)).trans (Kernel5Ideal.Wgrad.tail_eq m c), ha c⟩
  · refine (θ_run _ _ _).mono (fun r h c => ?_) (Reference5Ideal.Value.run (F := Ideal) m' g')
    obtain ⟨a0, a1⟩ := ha c
    obtain ⟨h0, hargs⟩ := h c
    refine ⟨h0.trans ?_, hargs⟩
    · rw [Reference5Ideal.Read.val_main_v3_eq]
      exact (congr (congrArg _ a0) a1).trans (Kernel5Ideal.Wgrad.ref_eq m c)

/-- The idealized reference of the gradient of the weight that expands the queries' latent rows runs from any memory, leaves its arguments and no semaphore counted. -/
theorem reference6_frame : quiescent_Reference6Ideal := fun m g _ =>
  (θ_run Reference6Ideal.defs _ _).mono (fun r h => ⟨fun c => (h c).2,
    sem_eq_zero_of_no_sems (by decide) r.2⟩) (Reference6Ideal.Value.run (F := Ideal) m g)

/-- The call that makes the gradient of the weight that expands the queries' latent rows and its reference end with the same gradient, from any two
    arrays of extended reals. -/
theorem same_wqb_gradient : algebraic_Kernel6Ideal_Reference6Ideal := by
  intro m g m' g' _ ha
  refine ⟨fun c => Kernel6Ideal.Wgrad.grad m c, ?_, ?_⟩
  · refine (θ_run _ _ _).mono (fun r h c => ?_) (θ_run_and (Kernel6Ideal.Gen.run_main m g) (Kernel6Ideal.Gen.frame m g))
    obtain ⟨hp, ha, _⟩ := h
    exact ⟨((hp c).2 Kernel6Ideal.main_v3 (by decide)).trans (Kernel6Ideal.Wgrad.tail_eq m c), ha c⟩
  · refine (θ_run _ _ _).mono (fun r h c => ?_) (Reference6Ideal.Value.run (F := Ideal) m' g')
    obtain ⟨a0, a1⟩ := ha c
    obtain ⟨h0, hargs⟩ := h c
    refine ⟨h0.trans ?_, hargs⟩
    · rw [Reference6Ideal.Read.val_main_v3_eq]
      exact (congr (congrArg _ a0) a1).trans (Kernel6Ideal.Wgrad.ref_eq m c)

/-- The idealized reference of the gradient of the weight that makes the queries' latent rows runs from any memory, leaves its arguments and no semaphore counted. -/
theorem reference7_frame : quiescent_Reference7Ideal := fun m g _ =>
  (θ_run Reference7Ideal.defs _ _).mono (fun r h => ⟨fun c => (h c).2,
    sem_eq_zero_of_no_sems (by decide) r.2⟩) (Reference7Ideal.Value.run (F := Ideal) m g)

/-- The call that makes the gradient of the weight that makes the queries' latent rows and its reference end with the same gradient, from any two
    arrays of extended reals. -/
theorem same_wqa_gradient : algebraic_Kernel7Ideal_Reference7Ideal := by
  intro m g m' g' _ ha
  refine ⟨fun c => Kernel7Ideal.Wgrad.grad m c, ?_, ?_⟩
  · refine (θ_run _ _ _).mono (fun r h c => ?_) (θ_run_and (Kernel7Ideal.Gen.run_main m g) (Kernel7Ideal.Gen.frame m g))
    obtain ⟨hp, ha, _⟩ := h
    exact ⟨((hp c).2 Kernel7Ideal.main_v3 (by decide)).trans (Kernel7Ideal.Wgrad.tail_eq m c), ha c⟩
  · refine (θ_run _ _ _).mono (fun r h c => ?_) (Reference7Ideal.Value.run (F := Ideal) m' g')
    obtain ⟨a0, a1⟩ := ha c
    obtain ⟨h0, hargs⟩ := h c
    refine ⟨h0.trans ?_, hargs⟩
    · rw [Reference7Ideal.Read.val_main_v3_eq]
      exact (congr (congrArg _ a0) a1).trans (Kernel7Ideal.Wgrad.ref_eq m c)

/-- The idealized reference of the gradient of the weight that makes the latent rows of keys and values runs from any memory, leaves its arguments and no semaphore counted. -/
theorem reference8_frame : quiescent_Reference8Ideal := fun m g _ =>
  (θ_run Reference8Ideal.defs _ _).mono (fun r h => ⟨fun c => (h c).2,
    sem_eq_zero_of_no_sems (by decide) r.2⟩) (Reference8Ideal.Value.run (F := Ideal) m g)

/-- The call that makes the gradient of the weight that makes the latent rows of keys and values and its reference end with the same gradient, from any two
    arrays of extended reals. -/
theorem same_wkva_gradient : algebraic_Kernel8Ideal_Reference8Ideal := by
  intro m g m' g' _ ha
  refine ⟨fun c => Kernel8Ideal.Wgrad.grad m c, ?_, ?_⟩
  · refine (θ_run _ _ _).mono (fun r h c => ?_) (θ_run_and (Kernel8Ideal.Gen.run_main m g) (Kernel8Ideal.Gen.frame m g))
    obtain ⟨hp, ha, _⟩ := h
    exact ⟨((hp c).2 Kernel8Ideal.main_v3 (by decide)).trans (Kernel8Ideal.Wgrad.tail_eq m c), ha c⟩
  · refine (θ_run _ _ _).mono (fun r h c => ?_) (Reference8Ideal.Value.run (F := Ideal) m' g')
    obtain ⟨a0, a1⟩ := ha c
    obtain ⟨h0, hargs⟩ := h c
    refine ⟨h0.trans ?_, hargs⟩
    · rw [Reference8Ideal.Read.val_main_v3_eq]
      exact (congr (congrArg _ a0) a1).trans (Kernel8Ideal.Wgrad.ref_eq m c)

/-- The idealized reference of the gradient of the weight that expands the latent rows of keys and values runs from any memory, leaves its arguments and no semaphore counted. -/
theorem reference9_frame : quiescent_Reference9Ideal := fun m g _ =>
  (θ_run Reference9Ideal.defs _ _).mono (fun r h => ⟨fun c => (h c).2,
    sem_eq_zero_of_no_sems (by decide) r.2⟩) (Reference9Ideal.Value.run (F := Ideal) m g)

/-- The call that makes the gradient of the weight that expands the latent rows of keys and values and its reference end with the same gradient, from any two
    arrays of extended reals. -/
theorem same_wkvb_gradient : algebraic_Kernel9Ideal_Reference9Ideal := by
  intro m g m' g' _ ha
  refine ⟨fun c => Kernel9Ideal.Wgrad.grad m c, ?_, ?_⟩
  · refine (θ_run _ _ _).mono (fun r h c => ?_) (θ_run_and (Kernel9Ideal.Gen.run_main m g) (Kernel9Ideal.Gen.frame m g))
    obtain ⟨hp, ha, _⟩ := h
    exact ⟨((hp c).2 Kernel9Ideal.main_v3 (by decide)).trans (Kernel9Ideal.Wgrad.tail_eq m c), ha c⟩
  · refine (θ_run _ _ _).mono (fun r h c => ?_) (Reference9Ideal.Value.run (F := Ideal) m' g')
    obtain ⟨a0, a1⟩ := ha c
    obtain ⟨h0, hargs⟩ := h c
    refine ⟨h0.trans ?_, hargs⟩
    · rw [Reference9Ideal.Read.val_main_v3_eq]
      exact (congr (congrArg _ a0) a1).trans (Kernel9Ideal.Wgrad.ref_eq m c)

/-- The idealized reference of the attention's gated output runs from any memory, leaves its arguments and no semaphore counted. -/
theorem reference10_frame : quiescent_Reference10Ideal := fun m g _ =>
  (θ_run Reference10Ideal.defs _ _).mono (fun r h => ⟨fun c => (h c).2,
    sem_eq_zero_of_no_sems (by decide) r.2⟩) (Reference10Ideal.Value.run (F := Ideal) m g)

/-- The call that adds the attention's gated output to the residual stream and its reference end with the same array, from
    any arguments. -/
theorem same_attn_out : algebraic_Kernel10Ideal_Reference10Ideal := by
  intro m g m' g' _ ha
  refine ⟨fun c => Kernel10Ideal.AttnOut.ho m c, ?_, ?_⟩
  · refine (θ_run _ _ _).mono (fun r h c => ?_) (θ_run_and (Kernel10Ideal.Gen.run_main m g) (Kernel10Ideal.Gen.frame m g))
    obtain ⟨hp, ha, _⟩ := h
    exact ⟨((hp c).1 4).trans (Kernel10Ideal.AttnOut.final_ho m c), ha c⟩
  · refine (θ_run _ _ _).mono (fun r h c => ?_) (Reference10Ideal.Value.run (F := Ideal) m' g')
    obtain ⟨a0, a1, a2, a3⟩ := ha c
    obtain ⟨h0, hargs⟩ := h c
    refine ⟨h0.trans ?_, hargs⟩
    · rw [Reference10Ideal.Read.val_main_v4_eq]
      exact (congr (congr (congr (congrArg _ a0) a1) a2) a3).trans (Kernel10Ideal.AttnOut.ref_ho m c)

/-- The idealized reference of the gradients of the attention's output weight and gate runs from any memory, leaves its arguments and no semaphore counted. -/
theorem reference11_frame : quiescent_Reference11Ideal := fun m g _ =>
  (θ_run Reference11Ideal.defs _ _).mono (fun r h => ⟨fun c => (h c).2.2,
    sem_eq_zero_of_no_sems (by decide) r.2⟩) (Reference11Ideal.Value.run (F := Ideal) m g)

/-- The call that makes the gradients of the attention's output weight and of its gate, and its reference, end with the
    same two gradients, from any four arrays of real numbers. -/
theorem same_wo_gradients : algebraic_Kernel11Ideal_Reference11Ideal_pre_finite11 := by
  intro m g m' g' hp ha
  refine ⟨fun c => Kernel11Ideal.Wgrad.dw m c, fun c => Kernel11Ideal.Wgrad.dg m c, ?_, ?_⟩
  · refine (θ_run _ _ _).mono (fun r h c => ?_) (θ_run_and (Kernel11Ideal.Gen.run_main m g) (Kernel11Ideal.Gen.frame m g))
    obtain ⟨hp, ha, _⟩ := h
    exact ⟨((hp c).2 Kernel11Ideal.main_v7 (by decide)).trans (Kernel11Ideal.Wgrad.tail_weight m c),
      ((hp c).2 Kernel11Ideal.main_v10 (by decide)).trans (Kernel11Ideal.Wgrad.tail_gate m c), ha c⟩
  · refine (θ_run _ _ _).mono (fun r h c => ?_) (Reference11Ideal.Value.run (F := Ideal) m' g')
    have real := FiniteWo.real_args m c (hp c)
    obtain ⟨a0, a1, a2, a3⟩ := ha c
    obtain ⟨h0, h1, hargs⟩ := h c
    refine ⟨h0.trans ?_, h1.trans ?_, hargs⟩
    · rw [Reference11Ideal.Read.val_main_v10_eq]
      exact (congr (congr (congrArg _ a0) a1) a3).trans (Kernel11Ideal.Wgrad.ref_weight m c real)
    · rw [Reference11Ideal.Read.val_main_v11_eq]
      exact (congr (congr (congrArg _ a0) a1) a2).trans (Kernel11Ideal.Wgrad.ref_gate m c real)

/-- The idealized reference of the gradients of the convolution's second pointwise weight and gate runs from any memory, leaves its arguments and no semaphore counted. -/
theorem reference12_frame : quiescent_Reference12Ideal := fun m g _ =>
  (θ_run Reference12Ideal.defs _ _).mono (fun r h => ⟨fun c => (h c).2.2,
    sem_eq_zero_of_no_sems (by decide) r.2⟩) (Reference12Ideal.Value.run (F := Ideal) m g)

/-- The call that makes the gradients of the convolution's second pointwise weight and of its gate, and its reference, end with the
    same two gradients, from any four arrays of real numbers. -/
theorem same_pw2_gradients : algebraic_Kernel12Ideal_Reference12Ideal_pre_finite12 := by
  intro m g m' g' hp ha
  refine ⟨fun c => Kernel12Ideal.Wgrad.dw m c, fun c => Kernel12Ideal.Wgrad.dg m c, ?_, ?_⟩
  · refine (θ_run _ _ _).mono (fun r h c => ?_) (θ_run_and (Kernel12Ideal.Gen.run_main m g) (Kernel12Ideal.Gen.frame m g))
    obtain ⟨hp, ha, _⟩ := h
    exact ⟨((hp c).2 Kernel12Ideal.main_v7 (by decide)).trans (Kernel12Ideal.Wgrad.tail_weight m c),
      ((hp c).2 Kernel12Ideal.main_v10 (by decide)).trans (Kernel12Ideal.Wgrad.tail_gate m c), ha c⟩
  · refine (θ_run _ _ _).mono (fun r h c => ?_) (Reference12Ideal.Value.run (F := Ideal) m' g')
    have real := FinitePw2.real_args m c (hp c)
    obtain ⟨a0, a1, a2, a3⟩ := ha c
    obtain ⟨h0, h1, hargs⟩ := h c
    refine ⟨h0.trans ?_, h1.trans ?_, hargs⟩
    · rw [Reference12Ideal.Read.val_main_v10_eq]
      exact (congr (congr (congrArg _ a0) a1) a3).trans (Kernel12Ideal.Wgrad.ref_weight m c real)
    · rw [Reference12Ideal.Read.val_main_v11_eq]
      exact (congr (congr (congrArg _ a0) a1) a2).trans (Kernel12Ideal.Wgrad.ref_gate m c real)

/-- The idealized reference of the attention's gated output, backward runs from any memory, leaves its arguments and no semaphore counted. -/
theorem reference13_frame : quiescent_Reference13Ideal := fun m g _ =>
  (θ_run Reference13Ideal.defs _ _).mono (fun r h => ⟨fun c => (h c).2.2.2,
    sem_eq_zero_of_no_sems (by decide) r.2⟩) (Reference13Ideal.Value.run (F := Ideal) m g)

/-- The call that takes the stream's gradient back to the attention's output and its reference end with the same three
    arrays, from any arguments. -/
theorem same_attn_out_backward : algebraic_Kernel13Ideal_Reference13Ideal := by
  intro m g m' g' _ ha
  refine ⟨fun c => Kernel13Ideal.AttnOutBwd.gdo m c, fun c => Kernel13Ideal.AttnOutBwd.gdl m c, fun c => Kernel13Ideal.AttnOutBwd.grad m c, ?_, ?_⟩
  · refine (θ_run _ _ _).mono (fun r h c => ?_) (θ_run_and (Kernel13Ideal.Gen.run_main m g) (Kernel13Ideal.Gen.frame m g))
    obtain ⟨hp, ha, _⟩ := h
    exact ⟨((hp c).2 Kernel13Ideal.main_v9 (by decide)).trans (Kernel13Ideal.AttnOutBwd.tail_gdo m c),
      ((hp c).2 Kernel13Ideal.main_v10 (by decide)).trans (Kernel13Ideal.AttnOutBwd.tail_gdl m c),
      ((hp c).2 Kernel13Ideal.main_v11 (by decide)).trans (Kernel13Ideal.AttnOutBwd.tail_grad m c), ha c⟩
  · refine (θ_run _ _ _).mono (fun r h c => ?_) (Reference13Ideal.Value.run (F := Ideal) m' g')
    obtain ⟨a0, a1, a2, a3⟩ := ha c
    obtain ⟨h0, h1, h2, hargs⟩ := h c
    refine ⟨h0.trans ?_, h1.trans ?_, h2.trans ?_, hargs⟩
    · rw [Reference13Ideal.Read.val_main_v6_eq]
      exact (congr (congr (congrArg _ a0) a2) a3).trans (Kernel13Ideal.AttnOutBwd.ref_gdo m c)
    · rw [Reference13Ideal.Read.val_main_v10_eq]
      exact (congr (congr (congr (congrArg _ a0) a1) a2) a3).trans (Kernel13Ideal.AttnOutBwd.ref_gdl m c)
    · exact a0

/-- The idealized reference of the convolution's first product runs from any memory, leaves its arguments and no semaphore counted. -/
theorem reference14_frame : quiescent_Reference14Ideal := fun m g _ =>
  (θ_run Reference14Ideal.defs _ _).mono (fun r h => ⟨fun c => (h c).2.2,
    sem_eq_zero_of_no_sems (by decide) r.2⟩) (Reference14Ideal.Value.run (F := Ideal) m g)

/-- The call that makes the convolution's normalised input and first pointwise product and its reference end with the same
    two arrays, from any arguments. -/
theorem same_conv_in : algebraic_Kernel14Ideal_Reference14Ideal := by
  intro m g m' g' _ ha
  refine ⟨fun c => Kernel14Ideal.ConvIn.hn m c, fun c => Kernel14Ideal.ConvIn.pre m c, ?_, ?_⟩
  · refine (θ_run _ _ _).mono (fun r h c => ?_) (θ_run_and (Kernel14Ideal.Gen.run_main m g) (Kernel14Ideal.Gen.frame m g))
    obtain ⟨hp, ha, _⟩ := h
    exact ⟨((hp c).2 Kernel14Ideal.main_v10 (by decide)).trans (Kernel14Ideal.ConvIn.tail_hn m c),
      ((hp c).1 5).trans (Kernel14Ideal.ConvIn.final_pre m c), ha c⟩
  · refine (θ_run _ _ _).mono (fun r h c => ?_) (Reference14Ideal.Value.run (F := Ideal) m' g')
    obtain ⟨a0, a1, a2, a3, a4, a5⟩ := ha c
    obtain ⟨h0, h1, hargs⟩ := h c
    refine ⟨h0.trans ?_, h1.trans ?_, hargs⟩
    · rw [Reference14Ideal.Read.val_main_v20_eq]
      exact (congr (congr (congr (congrArg _ a0) a1) a2) a3).trans (Kernel14Ideal.ConvIn.ref_hn m c)
    · rw [Reference14Ideal.Read.val_main_v24_eq]
      exact (congr (congr (congr (congr (congr (congrArg _ a0) a1) a2) a3) a4) a5).trans (Kernel14Ideal.ConvIn.ref_pre m c)

/-- The idealized reference of the attention's queries runs from any memory, leaves its arguments and no semaphore counted. -/
theorem reference15_frame : quiescent_Reference15Ideal := fun m g _ =>
  (θ_run Reference15Ideal.defs _ _).mono (fun r h => ⟨fun c => (h c).2.2.2.2,
    sem_eq_zero_of_no_sems (by decide) r.2⟩) (Reference15Ideal.Value.run (F := Ideal) m g)

/-- The call that makes the attention's normalised input, its queries' latent rows and the rotated queries, and its reference,
    end with the same four arrays, from any arguments. -/
theorem same_queries : algebraic_Kernel15Ideal_Reference15Ideal := by
  intro m g m' g' _ ha
  refine ⟨fun c => Kernel15Ideal.Query.hn m c, fun c => Kernel15Ideal.Query.qa m c, fun c => Kernel15Ideal.Query.qan m c, fun c => Kernel15Ideal.Query.queries m c, ?_, ?_⟩
  · refine (θ_run _ _ _).mono (fun r h c => ?_) (θ_run_and (Kernel15Ideal.Gen.run_main m g) (Kernel15Ideal.Gen.frame m g))
    obtain ⟨hp, ha, _⟩ := h
    exact ⟨((hp c).2 Kernel15Ideal.main_v17 (by decide)).trans (Kernel15Ideal.Query.tail_hn m c),
      ((hp c).1 7).trans (Kernel15Ideal.Query.final_qa m c),
      ((hp c).2 Kernel15Ideal.main_v18 (by decide)).trans (Kernel15Ideal.Query.tail_qan m c),
      ((hp c).2 Kernel15Ideal.main_v19 (by decide)).trans (Kernel15Ideal.Query.tail_queries m c), ha c⟩
  · refine (θ_run _ _ _).mono (fun r h c => ?_) (Reference15Ideal.Value.run (F := Ideal) m' g')
    obtain ⟨a0, a1, a2, a3, a4, a5, a6, a7, a8⟩ := ha c
    obtain ⟨h0, h1, h2, h3, hargs⟩ := h c
    refine ⟨h0.trans ?_, h1.trans ?_, h2.trans ?_, h3.trans ?_, hargs⟩
    · rw [Reference15Ideal.Read.val_main_v20_eq]
      exact (congr (congr (congr (congrArg _ a0) a1) a2) a3).trans (Kernel15Ideal.Query.ref_hn m c)
    · rw [Reference15Ideal.Read.val_main_v21_eq]
      exact (congr (congr (congr (congr (congrArg _ a0) a1) a2) a3) a4).trans (Kernel15Ideal.Query.ref_qa m c)
    · rw [Reference15Ideal.Read.val_main_v34_eq]
      exact (congr (congr (congr (congr (congr (congrArg _ a0) a1) a2) a3) a4) a5).trans (Kernel15Ideal.Query.ref_qan m c)
    · rw [Reference15Ideal.Read.val_main_v60_eq]
      exact (congr (congr (congr (congr (congr (congr (congr (congr (congrArg _ a0) a1) a2) a3) a4) a5) a6) a7) a8).trans (Kernel15Ideal.Query.ref_q m c)

/-- The idealized reference of a feed-forward layer, backward runs from any memory, leaves its arguments and no semaphore counted. -/
theorem reference16_frame : quiescent_Reference16Ideal := fun m g _ =>
  (θ_run Reference16Ideal.defs _ _).mono (fun r h => ⟨fun c => (h c).2.2.2.2,
    sem_eq_zero_of_no_sems (by decide) r.2⟩) (Reference16Ideal.Value.run (F := Ideal) m g)

/-- The call that takes a feed-forward layer's gradient back and its reference end with the same four arrays, from any
    arguments. -/
theorem same_feed_forward_backward : algebraic_Kernel16Ideal_Reference16Ideal := by
  intro m g m' g' _ ha
  refine ⟨fun c => Kernel16Ideal.FfnBwd.dh m c, fun c => Kernel16Ideal.FfnBwd.da m c, fun c => Kernel16Ideal.FfnBwd.db m c, fun c => Kernel16Ideal.FfnBwd.hid m c, ?_, ?_⟩
  · refine (θ_run _ _ _).mono (fun r h c => ?_) (θ_run_and (Kernel16Ideal.Gen.run_main m g) (Kernel16Ideal.Gen.frame m g))
    obtain ⟨hp, ha, _⟩ := h
    exact ⟨((hp c).1 7).trans (Kernel16Ideal.FfnBwd.final_dh m c),
      ((hp c).2 Kernel16Ideal.main_v11 (by decide)).trans (Kernel16Ideal.FfnBwd.tail_da m c),
      ((hp c).2 Kernel16Ideal.main_v12 (by decide)).trans (Kernel16Ideal.FfnBwd.tail_db m c),
      ((hp c).2 Kernel16Ideal.main_v13 (by decide)).trans (Kernel16Ideal.FfnBwd.tail_hid m c), ha c⟩
  · refine (θ_run _ _ _).mono (fun r h c => ?_) (Reference16Ideal.Value.run (F := Ideal) m' g')
    obtain ⟨a0, a1, a2, a3, a4, a5, a6, a7, a8, a9⟩ := ha c
    obtain ⟨h0, h1, h2, h3, hargs⟩ := h c
    refine ⟨h0.trans ?_, h1.trans ?_, h2.trans ?_, h3.trans ?_, hargs⟩
    · rw [Reference16Ideal.Read.val_main_v60_eq]
      exact (congr (congr (congr (congr (congr (congr (congr (congr (congrArg _ a0) a1) a2) a3) a4) a6) a7) a8) a9).trans (Kernel16Ideal.FfnBwd.ref_dh m c)
    · rw [Reference16Ideal.Read.val_main_v20_eq]
      exact (congr (congr (congr (congr (congrArg _ a0) a2) a3) a7) a9).trans (Kernel16Ideal.FfnBwd.ref_da m c)
    · rw [Reference16Ideal.Read.val_main_v22_eq]
      exact (congr (congr (congr (congrArg _ a0) a2) a7) a9).trans (Kernel16Ideal.FfnBwd.ref_db m c)
    · rw [Reference16Ideal.Read.val_main_v62_eq]
      exact (congr (congrArg _ a2) a3).trans (Kernel16Ideal.FfnBwd.ref_hid m c)

/-- Everything the certificate claims. -/
theorem claim : Claim :=
  ⟨Kernel.Gen.facts, KernelIdeal.Gen.facts, ReferenceIdeal.Gen.facts, Kernel2.Gen.facts,
    Kernel2Ideal.Gen.facts, Reference2Ideal.Gen.facts, Kernel3.Gen.facts, Kernel3Ideal.Gen.facts,
    Reference3Ideal.Gen.facts, Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Finite.facts, FiniteGated.facts, FiniteWo.facts, FinitePw2.facts,
    fun m g _ => Kernel.AttnBwd.frame m g,
    fun m g _ => kernel_frame m g trivial, fun m g _ => kernel_frame m g trivial,
    fun m g _ => reference_frame m g trivial, fun m g _ => reference_frame m g trivial,
    fun m g _ => Kernel2.Gen.frame m g, fun m g _ => Kernel2Ideal.Gen.frame m g,
    fun m g _ => reference2_frame m g trivial,
    fun m g _ => Kernel3.Gen.frame m g, fun m g _ => Kernel3Ideal.Gen.frame m g,
    fun m g _ => Kernel3Ideal.Gen.frame m g, fun m g _ => reference3_frame m g trivial, fun m g _ => reference3_frame m g trivial,
    fun m g _ => Kernel4.Gen.frame m g, fun m g _ => Kernel4Ideal.Gen.frame m g, fun m g _ => reference4_frame m g trivial,
    fun m g _ => Kernel5.Gen.frame m g, fun m g _ => Kernel5Ideal.Gen.frame m g, fun m g _ => reference5_frame m g trivial,
    fun m g _ => Kernel6.Gen.frame m g, fun m g _ => Kernel6Ideal.Gen.frame m g, fun m g _ => reference6_frame m g trivial,
    fun m g _ => Kernel7.Gen.frame m g, fun m g _ => Kernel7Ideal.Gen.frame m g, fun m g _ => reference7_frame m g trivial,
    fun m g _ => Kernel8.Gen.frame m g, fun m g _ => Kernel8Ideal.Gen.frame m g, fun m g _ => reference8_frame m g trivial,
    fun m g _ => Kernel9.Gen.frame m g, fun m g _ => Kernel9Ideal.Gen.frame m g, fun m g _ => reference9_frame m g trivial,
    fun m g _ => Kernel10.Gen.frame m g, fun m g _ => Kernel10Ideal.Gen.frame m g, fun m g _ => reference10_frame m g trivial,
    fun m g _ => Kernel11.Gen.frame m g, fun m g _ => Kernel11Ideal.Gen.frame m g, fun m g _ => Kernel11Ideal.Gen.frame m g, fun m g _ => reference11_frame m g trivial, fun m g _ => reference11_frame m g trivial,
    fun m g _ => Kernel12.Gen.frame m g, fun m g _ => Kernel12Ideal.Gen.frame m g, fun m g _ => Kernel12Ideal.Gen.frame m g, fun m g _ => reference12_frame m g trivial, fun m g _ => reference12_frame m g trivial,
    fun m g _ => Kernel13.Gen.frame m g, fun m g _ => Kernel13Ideal.Gen.frame m g, fun m g _ => reference13_frame m g trivial,
    fun m g _ => Kernel14.Gen.frame m g, fun m g _ => Kernel14Ideal.Gen.frame m g, fun m g _ => reference14_frame m g trivial,
    fun m g _ => Kernel15.Gen.frame m g, fun m g _ => Kernel15Ideal.Gen.frame m g, fun m g _ => reference15_frame m g trivial,
    fun m g _ => Kernel16.Gen.frame m g, fun m g _ => Kernel16Ideal.Gen.frame m g, fun m g _ => reference16_frame m g trivial,
    ⟨IdealRules.named_const.statement KernelIdeal.κ "sm_scale" .f32 0x3DD105EC#32 (((Real.sqrt 96)⁻¹ : ℝ) : EReal) rfl,
      IdealRules.named_const.statement KernelIdeal.κ "ln2" .f32 0x3F317218#32 ((Real.log 2 : ℝ) : EReal) rfl⟩,
    same_gradients, trivial, same_weight_gradient, trivial, same_gated_gradients,
    trivial, same_ffn_forward,
    trivial, same_pw1_gradient,
    trivial, same_wqb_gradient,
    trivial, same_wqa_gradient,
    trivial, same_wkva_gradient,
    trivial, same_wkvb_gradient,
    trivial, same_attn_out,
    trivial, same_wo_gradients,
    trivial, same_pw2_gradients,
    trivial, same_attn_out_backward,
    trivial, same_conv_in,
    IdealRules.named_const.statement Kernel15Ideal.κ "exp2_scale" .f32 0x3E16C740#32 (((Real.sqrt 96 * Real.log 2)⁻¹ : ℝ) : EReal) rfl,
    same_queries,
    trivial, same_feed_forward_backward⟩

end Cert.Proof

end
